-- ==== Defs.lean ====
def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_fwd [hPre_finite_fwd : Cert.Pre_finite_fwd.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_fwd.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_fwd [hPre_finite_fwd : Cert.Pre_finite_fwd.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_fwd.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1))) = (fun _ => 1#1)

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_KernelQIdeal_finite [hPre_finite : Cert.Pre_finite.Facts] (m : (ℓ : Loc Cert.KernelQIdeal.nD Cert.KernelQIdeal.τ Cert.KernelQIdeal.sig) → Buf (Elt Ideal) ℓ) : Prop :=
  ∀ c : Dev Cert.KernelQIdeal.nD,
    (Cert.Pre_finite.fn (F := Ideal) (m ((c.tc : Thread Cert.KernelQIdeal.nD Cert.KernelQIdeal.τ).loc Cert.KernelQIdeal.main_arg0)) (m ((c.tc : Thread Cert.KernelQIdeal.nD Cert.KernelQIdeal.τ).loc Cert.KernelQIdeal.main_arg1)) (m ((c.tc : Thread Cert.KernelQIdeal.nD Cert.KernelQIdeal.τ).loc Cert.KernelQIdeal.main_arg2))) = (fun _ => 1#1)

def Pre_ReferenceQIdeal (m : (ℓ : Loc Cert.ReferenceQIdeal.nD Cert.ReferenceQIdeal.τ Cert.ReferenceQIdeal.sig) → Buf (Elt Ideal) ℓ) : Prop :=
  True

def Pre_ReferenceQIdeal_finite [hPre_finite : Cert.Pre_finite.Facts] (m : (ℓ : Loc Cert.ReferenceQIdeal.nD Cert.ReferenceQIdeal.τ Cert.ReferenceQIdeal.sig) → Buf (Elt Ideal) ℓ) : Prop :=
  ∀ c : Dev Cert.ReferenceQIdeal.nD,
    (Cert.Pre_finite.fn (F := Ideal) (m ((c.tc : Thread Cert.ReferenceQIdeal.nD Cert.ReferenceQIdeal.τ).loc Cert.ReferenceQIdeal.main_arg0)) (m ((c.tc : Thread Cert.ReferenceQIdeal.nD Cert.ReferenceQIdeal.τ).loc Cert.ReferenceQIdeal.main_arg1)) (m ((c.tc : Thread Cert.ReferenceQIdeal.nD Cert.ReferenceQIdeal.τ).loc Cert.ReferenceQIdeal.main_arg2))) = (fun _ => 1#1)

def Pre_KernelKV (m : (ℓ : Loc Cert.KernelKV.nD Cert.KernelKV.τ Cert.KernelKV.sig) → Buf (Elt Bits) ℓ) : Prop :=
  True

def Pre_KernelKVIdeal (m : (ℓ : Loc Cert.KernelKVIdeal.nD Cert.KernelKVIdeal.τ Cert.KernelKVIdeal.sig) → Buf (Elt Ideal) ℓ) : Prop :=
  True

def Pre_KernelKVIdeal_finite [hPre_finite : Cert.Pre_finite.Facts] (m : (ℓ : Loc Cert.KernelKVIdeal.nD Cert.KernelKVIdeal.τ Cert.KernelKVIdeal.sig) → Buf (Elt Ideal) ℓ) : Prop :=
  ∀ c : Dev Cert.KernelKVIdeal.nD,
    (Cert.Pre_finite.fn (F := Ideal) (m ((c.tc : Thread Cert.KernelKVIdeal.nD Cert.KernelKVIdeal.τ).loc Cert.KernelKVIdeal.main_arg0)) (m ((c.tc : Thread Cert.KernelKVIdeal.nD Cert.KernelKVIdeal.τ).loc Cert.KernelKVIdeal.main_arg1)) (m ((c.tc : Thread Cert.KernelKVIdeal.nD Cert.KernelKVIdeal.τ).loc Cert.KernelKVIdeal.main_arg2))) = (fun _ => 1#1)

def Pre_ReferenceKVIdeal (m : (ℓ : Loc Cert.ReferenceKVIdeal.nD Cert.ReferenceKVIdeal.τ Cert.ReferenceKVIdeal.sig) → Buf (Elt Ideal) ℓ) : Prop :=
  True

def Pre_ReferenceKVIdeal_finite [hPre_finite : Cert.Pre_finite.Facts] (m : (ℓ : Loc Cert.ReferenceKVIdeal.nD Cert.ReferenceKVIdeal.τ Cert.ReferenceKVIdeal.sig) → Buf (Elt Ideal) ℓ) : Prop :=
  ∀ c : Dev Cert.ReferenceKVIdeal.nD,
    (Cert.Pre_finite.fn (F := Ideal) (m ((c.tc : Thread Cert.ReferenceKVIdeal.nD Cert.ReferenceKVIdeal.τ).loc Cert.ReferenceKVIdeal.main_arg0)) (m ((c.tc : Thread Cert.ReferenceKVIdeal.nD Cert.ReferenceKVIdeal.τ).loc Cert.ReferenceKVIdeal.main_arg1)) (m ((c.tc : Thread Cert.ReferenceKVIdeal.nD Cert.ReferenceKVIdeal.τ).loc Cert.ReferenceKVIdeal.main_arg2))) = (fun _ => 1#1)

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelDout (m : (ℓ : Loc Cert.KernelDout.nD Cert.KernelDout.τ Cert.KernelDout.sig) → Buf (Elt Bits) ℓ) : Prop :=
  True

def Pre_KernelDoutIdeal (m : (ℓ : Loc Cert.KernelDoutIdeal.nD Cert.KernelDoutIdeal.τ Cert.KernelDoutIdeal.sig) → Buf (Elt Ideal) ℓ) : Prop :=
  True

def Pre_ReferenceDoutIdeal (m : (ℓ : Loc Cert.ReferenceDoutIdeal.nD Cert.ReferenceDoutIdeal.τ Cert.ReferenceDoutIdeal.sig) → Buf (Elt Ideal) ℓ) : Prop :=
  True

def Pre_KernelDin (m : (ℓ : Loc Cert.KernelDin.nD Cert.KernelDin.τ Cert.KernelDin.sig) → Buf (Elt Bits) ℓ) : Prop :=
  True

def Pre_KernelDinIdeal (m : (ℓ : Loc Cert.KernelDinIdeal.nD Cert.KernelDinIdeal.τ Cert.KernelDinIdeal.sig) → Buf (Elt Ideal) ℓ) : Prop :=
  True

def Pre_ReferenceDinIdeal (m : (ℓ : Loc Cert.ReferenceDinIdeal.nD Cert.ReferenceDinIdeal.τ Cert.ReferenceDinIdeal.sig) → Buf (Elt Ideal) ℓ) : Prop :=
  True

def Pre_KernelWmain (m : (ℓ : Loc Cert.KernelWmain.nD Cert.KernelWmain.τ Cert.KernelWmain.sig) → Buf (Elt Bits) ℓ) : Prop :=
  True

def Pre_KernelWmainIdeal (m : (ℓ : Loc Cert.KernelWmainIdeal.nD Cert.KernelWmainIdeal.τ Cert.KernelWmainIdeal.sig) → Buf (Elt Ideal) ℓ) : Prop :=
  True

def Pre_ReferenceWmainIdeal (m : (ℓ : Loc Cert.ReferenceWmainIdeal.nD Cert.ReferenceWmainIdeal.τ Cert.ReferenceWmainIdeal.sig) → Buf (Elt Ideal) ℓ) : Prop :=
  True

def Pre_KernelWf (m : (ℓ : Loc Cert.KernelWf.nD Cert.KernelWf.τ Cert.KernelWf.sig) → Buf (Elt Bits) ℓ) : Prop :=
  True

def Pre_KernelWfIdeal (m : (ℓ : Loc Cert.KernelWfIdeal.nD Cert.KernelWfIdeal.τ Cert.KernelWfIdeal.sig) → Buf (Elt Ideal) ℓ) : Prop :=
  True

def Pre_ReferenceWfIdeal (m : (ℓ : Loc Cert.ReferenceWfIdeal.nD Cert.ReferenceWfIdeal.τ Cert.ReferenceWfIdeal.sig) → Buf (Elt Ideal) ℓ) : Prop :=
  True

def Pre_KernelWsq (m : (ℓ : Loc Cert.KernelWsq.nD Cert.KernelWsq.τ Cert.KernelWsq.sig) → Buf (Elt Bits) ℓ) : Prop :=
  True

def Pre_KernelWsqIdeal (m : (ℓ : Loc Cert.KernelWsqIdeal.nD Cert.KernelWsqIdeal.τ Cert.KernelWsqIdeal.sig) → Buf (Elt Ideal) ℓ) : Prop :=
  True

def Pre_ReferenceWsqIdeal (m : (ℓ : Loc Cert.ReferenceWsqIdeal.nD Cert.ReferenceWsqIdeal.τ Cert.ReferenceWsqIdeal.sig) → Buf (Elt Ideal) ℓ) : Prop :=
  True

def Pre_KernelWatt (m : (ℓ : Loc Cert.KernelWatt.nD Cert.KernelWatt.τ Cert.KernelWatt.sig) → Buf (Elt Bits) ℓ) : Prop :=
  True

def Pre_KernelWattIdeal (m : (ℓ : Loc Cert.KernelWattIdeal.nD Cert.KernelWattIdeal.τ Cert.KernelWattIdeal.sig) → Buf (Elt Ideal) ℓ) : Prop :=
  True

def Pre_ReferenceWattIdeal (m : (ℓ : Loc Cert.ReferenceWattIdeal.nD Cert.ReferenceWattIdeal.τ Cert.ReferenceWattIdeal.sig) → Buf (Elt Ideal) ℓ) : Prop :=
  True

def Pre_KernelWple (m : (ℓ : Loc Cert.KernelWple.nD Cert.KernelWple.τ Cert.KernelWple.sig) → Buf (Elt Bits) ℓ) : Prop :=
  True

def Pre_KernelWpleIdeal (m : (ℓ : Loc Cert.KernelWpleIdeal.nD Cert.KernelWpleIdeal.τ Cert.KernelWpleIdeal.sig) → Buf (Elt Ideal) ℓ) : Prop :=
  True

def Pre_ReferenceWpleIdeal (m : (ℓ : Loc Cert.ReferenceWpleIdeal.nD Cert.ReferenceWpleIdeal.τ Cert.ReferenceWpleIdeal.sig) → Buf (Elt Ideal) ℓ) : Prop :=
  True

def Pre_KernelDmain (m : (ℓ : Loc Cert.KernelDmain.nD Cert.KernelDmain.τ Cert.KernelDmain.sig) → Buf (Elt Bits) ℓ) : Prop :=
  True

def Pre_KernelDmainIdeal (m : (ℓ : Loc Cert.KernelDmainIdeal.nD Cert.KernelDmainIdeal.τ Cert.KernelDmainIdeal.sig) → Buf (Elt Ideal) ℓ) : Prop :=
  True

def Pre_ReferenceDmainIdeal (m : (ℓ : Loc Cert.ReferenceDmainIdeal.nD Cert.ReferenceDmainIdeal.τ Cert.ReferenceDmainIdeal.sig) → Buf (Elt Ideal) ℓ) : Prop :=
  True

def Pre_KernelDf (m : (ℓ : Loc Cert.KernelDf.nD Cert.KernelDf.τ Cert.KernelDf.sig) → Buf (Elt Bits) ℓ) : Prop :=
  True

def Pre_KernelDfIdeal (m : (ℓ : Loc Cert.KernelDfIdeal.nD Cert.KernelDfIdeal.τ Cert.KernelDfIdeal.sig) → Buf (Elt Ideal) ℓ) : Prop :=
  True

def Pre_ReferenceDfIdeal (m : (ℓ : Loc Cert.ReferenceDfIdeal.nD Cert.ReferenceDfIdeal.τ Cert.ReferenceDfIdeal.sig) → Buf (Elt Ideal) ℓ) : Prop :=
  True

def Pre_KernelDsq (m : (ℓ : Loc Cert.KernelDsq.nD Cert.KernelDsq.τ Cert.KernelDsq.sig) → Buf (Elt Bits) ℓ) : Prop :=
  True

def Pre_KernelDsqIdeal (m : (ℓ : Loc Cert.KernelDsqIdeal.nD Cert.KernelDsqIdeal.τ Cert.KernelDsqIdeal.sig) → Buf (Elt Ideal) ℓ) : Prop :=
  True

def Pre_ReferenceDsqIdeal (m : (ℓ : Loc Cert.ReferenceDsqIdeal.nD Cert.ReferenceDsqIdeal.τ Cert.ReferenceDsqIdeal.sig) → Buf (Elt Ideal) ℓ) : Prop :=
  True

def Pre_KernelDatt (m : (ℓ : Loc Cert.KernelDatt.nD Cert.KernelDatt.τ Cert.KernelDatt.sig) → Buf (Elt Bits) ℓ) : Prop :=
  True

def Pre_KernelDattIdeal (m : (ℓ : Loc Cert.KernelDattIdeal.nD Cert.KernelDattIdeal.τ Cert.KernelDattIdeal.sig) → Buf (Elt Ideal) ℓ) : Prop :=
  True

def Pre_ReferenceDattIdeal (m : (ℓ : Loc Cert.ReferenceDattIdeal.nD Cert.ReferenceDattIdeal.τ Cert.ReferenceDattIdeal.sig) → Buf (Elt Ideal) ℓ) : Prop :=
  True

def Pre_KernelZin (m : (ℓ : Loc Cert.KernelZin.nD Cert.KernelZin.τ Cert.KernelZin.sig) → Buf (Elt Bits) ℓ) : Prop :=
  True

def Pre_KernelZinIdeal (m : (ℓ : Loc Cert.KernelZinIdeal.nD Cert.KernelZinIdeal.τ Cert.KernelZinIdeal.sig) → Buf (Elt Ideal) ℓ) : Prop :=
  True

def Pre_ReferenceZinIdeal (m : (ℓ : Loc Cert.ReferenceZinIdeal.nD Cert.ReferenceZinIdeal.τ Cert.ReferenceZinIdeal.sig) → Buf (Elt Ideal) ℓ) : Prop :=
  True

def Pre_KernelZout (m : (ℓ : Loc Cert.KernelZout.nD Cert.KernelZout.τ Cert.KernelZout.sig) → Buf (Elt Bits) ℓ) : Prop :=
  True

def Pre_KernelZoutIdeal (m : (ℓ : Loc Cert.KernelZoutIdeal.nD Cert.KernelZoutIdeal.τ Cert.KernelZoutIdeal.sig) → Buf (Elt Ideal) ℓ) : Prop :=
  True

def Pre_ReferenceZoutIdeal (m : (ℓ : Loc Cert.ReferenceZoutIdeal.nD Cert.ReferenceZoutIdeal.τ Cert.ReferenceZoutIdeal.sig) → Buf (Elt Ideal) ℓ) : Prop :=
  True

def Pre_KernelZmain (m : (ℓ : Loc Cert.KernelZmain.nD Cert.KernelZmain.τ Cert.KernelZmain.sig) → Buf (Elt Bits) ℓ) : Prop :=
  True

def Pre_KernelZmainIdeal (m : (ℓ : Loc Cert.KernelZmainIdeal.nD Cert.KernelZmainIdeal.τ Cert.KernelZmainIdeal.sig) → Buf (Elt Ideal) ℓ) : Prop :=
  True

def Pre_ReferenceZmainIdeal (m : (ℓ : Loc Cert.ReferenceZmainIdeal.nD Cert.ReferenceZmainIdeal.τ Cert.ReferenceZmainIdeal.sig) → Buf (Elt Ideal) ℓ) : Prop :=
  True

def Pre_KernelZf (m : (ℓ : Loc Cert.KernelZf.nD Cert.KernelZf.τ Cert.KernelZf.sig) → Buf (Elt Bits) ℓ) : Prop :=
  True

def Pre_KernelZfIdeal (m : (ℓ : Loc Cert.KernelZfIdeal.nD Cert.KernelZfIdeal.τ Cert.KernelZfIdeal.sig) → Buf (Elt Ideal) ℓ) : Prop :=
  True

def Pre_ReferenceZfIdeal (m : (ℓ : Loc Cert.ReferenceZfIdeal.nD Cert.ReferenceZfIdeal.τ Cert.ReferenceZfIdeal.sig) → Buf (Elt Ideal) ℓ) : Prop :=
  True

def Pre_KernelZatt (m : (ℓ : Loc Cert.KernelZatt.nD Cert.KernelZatt.τ Cert.KernelZatt.sig) → Buf (Elt Bits) ℓ) : Prop :=
  True

def Pre_KernelZattIdeal (m : (ℓ : Loc Cert.KernelZattIdeal.nD Cert.KernelZattIdeal.τ Cert.KernelZattIdeal.sig) → Buf (Elt Ideal) ℓ) : Prop :=
  True

def Pre_ReferenceZattIdeal (m : (ℓ : Loc Cert.ReferenceZattIdeal.nD Cert.ReferenceZattIdeal.τ Cert.ReferenceZattIdeal.sig) → Buf (Elt Ideal) ℓ) : Prop :=
  True

def Pre_KernelZmix (m : (ℓ : Loc Cert.KernelZmix.nD Cert.KernelZmix.τ Cert.KernelZmix.sig) → Buf (Elt Bits) ℓ) : Prop :=
  True

def Pre_KernelZmixIdeal (m : (ℓ : Loc Cert.KernelZmixIdeal.nD Cert.KernelZmixIdeal.τ Cert.KernelZmixIdeal.sig) → Buf (Elt Ideal) ℓ) : Prop :=
  True

def Pre_ReferenceZmixIdeal (m : (ℓ : Loc Cert.ReferenceZmixIdeal.nD Cert.ReferenceZmixIdeal.τ Cert.ReferenceZmixIdeal.sig) → Buf (Elt Ideal) ℓ) : Prop :=
  True

def Pre_KernelZsq (m : (ℓ : Loc Cert.KernelZsq.nD Cert.KernelZsq.τ Cert.KernelZsq.sig) → Buf (Elt Bits) ℓ) : Prop :=
  True

def Pre_KernelZsqIdeal (m : (ℓ : Loc Cert.KernelZsqIdeal.nD Cert.KernelZsqIdeal.τ Cert.KernelZsqIdeal.sig) → Buf (Elt Ideal) ℓ) : Prop :=
  True

def Pre_ReferenceZsqIdeal (m : (ℓ : Loc Cert.ReferenceZsqIdeal.nD Cert.ReferenceZsqIdeal.τ Cert.ReferenceZsqIdeal.sig) → Buf (Elt Ideal) ℓ) : Prop :=
  True

def Pre_KernelZple (m : (ℓ : Loc Cert.KernelZple.nD Cert.KernelZple.τ Cert.KernelZple.sig) → Buf (Elt Bits) ℓ) : Prop :=
  True

def Pre_KernelZpleIdeal (m : (ℓ : Loc Cert.KernelZpleIdeal.nD Cert.KernelZpleIdeal.τ Cert.KernelZpleIdeal.sig) → Buf (Elt Ideal) ℓ) : Prop :=
  True

def Pre_ReferenceZpleIdeal (m : (ℓ : Loc Cert.ReferenceZpleIdeal.nD Cert.ReferenceZpleIdeal.τ Cert.ReferenceZpleIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_KernelDactIdeal_finite_act [hPre_finite_act : Cert.Pre_finite_act.Facts] (m : (ℓ : Loc Cert.KernelDactIdeal.nD Cert.KernelDactIdeal.τ Cert.KernelDactIdeal.sig) → Buf (Elt Ideal) ℓ) : Prop :=
  ∀ c : Dev Cert.KernelDactIdeal.nD,
    (Cert.Pre_finite_act.fn (F := Ideal) (m ((c.tc : Thread Cert.KernelDactIdeal.nD Cert.KernelDactIdeal.τ).loc Cert.KernelDactIdeal.main_arg0)) (m ((c.tc : Thread Cert.KernelDactIdeal.nD Cert.KernelDactIdeal.τ).loc Cert.KernelDactIdeal.main_arg1))) = (fun _ => 1#1)

def Pre_ReferenceDactIdeal (m : (ℓ : Loc Cert.ReferenceDactIdeal.nD Cert.ReferenceDactIdeal.τ Cert.ReferenceDactIdeal.sig) → Buf (Elt Ideal) ℓ) : Prop :=
  True

def Pre_ReferenceDactIdeal_finite_act [hPre_finite_act : Cert.Pre_finite_act.Facts] (m : (ℓ : Loc Cert.ReferenceDactIdeal.nD Cert.ReferenceDactIdeal.τ Cert.ReferenceDactIdeal.sig) → Buf (Elt Ideal) ℓ) : Prop :=
  ∀ c : Dev Cert.ReferenceDactIdeal.nD,
    (Cert.Pre_finite_act.fn (F := Ideal) (m ((c.tc : Thread Cert.ReferenceDactIdeal.nD Cert.ReferenceDactIdeal.τ).loc Cert.ReferenceDactIdeal.main_arg0)) (m ((c.tc : Thread Cert.ReferenceDactIdeal.nD Cert.ReferenceDactIdeal.τ).loc Cert.ReferenceDactIdeal.main_arg1))) = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelDmerge (m : (ℓ : Loc Cert.KernelDmerge.nD Cert.KernelDmerge.τ Cert.KernelDmerge.sig) → Buf (Elt Bits) ℓ) : Prop :=
  True

def Pre_KernelDmergeIdeal (m : (ℓ : Loc Cert.KernelDmergeIdeal.nD Cert.KernelDmergeIdeal.τ Cert.KernelDmergeIdeal.sig) → Buf (Elt Ideal) ℓ) : Prop :=
  True

def Pre_ReferenceDmergeIdeal (m : (ℓ : Loc Cert.ReferenceDmergeIdeal.nD Cert.ReferenceDmergeIdeal.τ Cert.ReferenceDmergeIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelDmix (m : (ℓ : Loc Cert.KernelDmix.nD Cert.KernelDmix.τ Cert.KernelDmix.sig) → Buf (Elt Bits) ℓ) : Prop :=
  True

def Pre_KernelDmixIdeal (m : (ℓ : Loc Cert.KernelDmixIdeal.nD Cert.KernelDmixIdeal.τ Cert.KernelDmixIdeal.sig) → Buf (Elt Ideal) ℓ) : Prop :=
  True

def Pre_ReferenceDmixIdeal (m : (ℓ : Loc Cert.ReferenceDmixIdeal.nD Cert.ReferenceDmixIdeal.τ Cert.ReferenceDmixIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelDrms (m : (ℓ : Loc Cert.KernelDrms.nD Cert.KernelDrms.τ Cert.KernelDrms.sig) → Buf (Elt Bits) ℓ) : Prop :=
  True

def Pre_KernelDrmsIdeal (m : (ℓ : Loc Cert.KernelDrmsIdeal.nD Cert.KernelDrmsIdeal.τ Cert.KernelDrmsIdeal.sig) → Buf (Elt Ideal) ℓ) : Prop :=
  True

def Pre_ReferenceDrmsIdeal (m : (ℓ : Loc Cert.ReferenceDrmsIdeal.nD Cert.ReferenceDrmsIdeal.τ Cert.ReferenceDrmsIdeal.sig) → Buf (Elt Ideal) ℓ) : Prop :=
  True

def Pre_KernelDrmsm (m : (ℓ : Loc Cert.KernelDrmsm.nD Cert.KernelDrmsm.τ Cert.KernelDrmsm.sig) → Buf (Elt Bits) ℓ) : Prop :=
  True

def Pre_KernelDrmsmIdeal (m : (ℓ : Loc Cert.KernelDrmsmIdeal.nD Cert.KernelDrmsmIdeal.τ Cert.KernelDrmsmIdeal.sig) → Buf (Elt Ideal) ℓ) : Prop :=
  True

def Pre_ReferenceDrmsmIdeal (m : (ℓ : Loc Cert.ReferenceDrmsmIdeal.nD Cert.ReferenceDrmsmIdeal.τ Cert.ReferenceDrmsmIdeal.sig) → Buf (Elt Ideal) ℓ) : Prop :=
  True

def Pre_KernelDrmsp (m : (ℓ : Loc Cert.KernelDrmsp.nD Cert.KernelDrmsp.τ Cert.KernelDrmsp.sig) → Buf (Elt Bits) ℓ) : Prop :=
  True

def Pre_KernelDrmspIdeal (m : (ℓ : Loc Cert.KernelDrmspIdeal.nD Cert.KernelDrmspIdeal.τ Cert.KernelDrmspIdeal.sig) → Buf (Elt Ideal) ℓ) : Prop :=
  True

def Pre_ReferenceDrmspIdeal (m : (ℓ : Loc Cert.ReferenceDrmspIdeal.nD Cert.ReferenceDrmspIdeal.τ Cert.ReferenceDrmspIdeal.sig) → Buf (Elt Ideal) ℓ) : Prop :=
  True

def Pre_KernelAgain (m : (ℓ : Loc Cert.KernelAgain.nD Cert.KernelAgain.τ Cert.KernelAgain.sig) → Buf (Elt Bits) ℓ) : Prop :=
  True

def Pre_KernelAgainIdeal (m : (ℓ : Loc Cert.KernelAgainIdeal.nD Cert.KernelAgainIdeal.τ Cert.KernelAgainIdeal.sig) → Buf (Elt Ideal) ℓ) : Prop :=
  True

def Pre_ReferenceAgainIdeal (m : (ℓ : Loc Cert.ReferenceAgainIdeal.nD Cert.ReferenceAgainIdeal.τ Cert.ReferenceAgainIdeal.sig) → Buf (Elt Ideal) ℓ) : Prop :=
  True

def Pre_KernelAfinal (m : (ℓ : Loc Cert.KernelAfinal.nD Cert.KernelAfinal.τ Cert.KernelAfinal.sig) → Buf (Elt Bits) ℓ) : Prop :=
  True

def Pre_KernelAfinalIdeal (m : (ℓ : Loc Cert.KernelAfinalIdeal.nD Cert.KernelAfinalIdeal.τ Cert.KernelAfinalIdeal.sig) → Buf (Elt Ideal) ℓ) : Prop :=
  True

def Pre_ReferenceAfinalIdeal (m : (ℓ : Loc Cert.ReferenceAfinalIdeal.nD Cert.ReferenceAfinalIdeal.τ Cert.ReferenceAfinalIdeal.sig) → Buf (Elt Ideal) ℓ) : Prop :=
  True

def Pre_KernelAconv (m : (ℓ : Loc Cert.KernelAconv.nD Cert.KernelAconv.τ Cert.KernelAconv.sig) → Buf (Elt Bits) ℓ) : Prop :=
  True

def Pre_KernelAconvIdeal (m : (ℓ : Loc Cert.KernelAconvIdeal.nD Cert.KernelAconvIdeal.τ Cert.KernelAconvIdeal.sig) → Buf (Elt Ideal) ℓ) : Prop :=
  True

def Pre_ReferenceAconvIdeal (m : (ℓ : Loc Cert.ReferenceAconvIdeal.nD Cert.ReferenceAconvIdeal.τ Cert.ReferenceAconvIdeal.sig) → Buf (Elt Ideal) ℓ) : Prop :=
  True

def Pre_KernelAbf (m : (ℓ : Loc Cert.KernelAbf.nD Cert.KernelAbf.τ Cert.KernelAbf.sig) → Buf (Elt Bits) ℓ) : Prop :=
  True

def Pre_KernelAbfIdeal (m : (ℓ : Loc Cert.KernelAbfIdeal.nD Cert.KernelAbfIdeal.τ Cert.KernelAbfIdeal.sig) → Buf (Elt Ideal) ℓ) : Prop :=
  True

def Pre_ReferenceAbfIdeal (m : (ℓ : Loc Cert.ReferenceAbfIdeal.nD Cert.ReferenceAbfIdeal.τ Cert.ReferenceAbfIdeal.sig) → Buf (Elt Ideal) ℓ) : Prop :=
  True

def Pre_KernelAtaps (m : (ℓ : Loc Cert.KernelAtaps.nD Cert.KernelAtaps.τ Cert.KernelAtaps.sig) → Buf (Elt Bits) ℓ) : Prop :=
  True

def Pre_KernelAtapsIdeal (m : (ℓ : Loc Cert.KernelAtapsIdeal.nD Cert.KernelAtapsIdeal.τ Cert.KernelAtapsIdeal.sig) → Buf (Elt Ideal) ℓ) : Prop :=
  True

def Pre_ReferenceAtapsIdeal (m : (ℓ : Loc Cert.ReferenceAtapsIdeal.nD Cert.ReferenceAtapsIdeal.τ Cert.ReferenceAtapsIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ r.2.sem = fun _ => 0)

def quiescent_KernelFIdeal_pre_finite_fwd [hKernelFIdeal : Cert.KernelFIdeal.Facts] [hPre_finite_fwd : Cert.Pre_finite_fwd.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_fwd m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1))
      ∧ r.2.sem = fun _ => 0)

def quiescent_ReferenceFIdeal_pre_finite_fwd [hReferenceFIdeal : Cert.ReferenceFIdeal.Facts] [hPre_finite_fwd : Cert.Pre_finite_fwd.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_fwd m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_KernelQIdeal_pre_finite [hKernelQIdeal : Cert.KernelQIdeal.Facts] [hPre_finite : Cert.Pre_finite.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal_finite m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_ReferenceQIdeal_pre_finite [hReferenceQIdeal : Cert.ReferenceQIdeal.Facts] [hPre_finite : Cert.Pre_finite.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal_finite m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelKV [hKernelKV : Cert.KernelKV.Facts] : Prop :=
  ∀ (m : (ℓ : Loc Cert.KernelKV.nD Cert.KernelKV.τ Cert.KernelKV.sig) → Buf (Elt Bits) ℓ) (g : Dev Cert.KernelKV.nD → PrngReg), Pre_KernelKV m →
    θ_run (Cert.KernelKV.defs (F := Bits)) (onTc (τ := Cert.KernelKV.τ) (Cert.KernelKV.main (F := Bits))) ⟨m, fun _ => 0, g⟩ (fun r => (∀ c : Dev Cert.KernelKV.nD,
      r.2.mem ((c.tc : Thread Cert.KernelKV.nD Cert.KernelKV.τ).loc Cert.KernelKV.main_arg0) = m ((c.tc : Thread Cert.KernelKV.nD Cert.KernelKV.τ).loc Cert.KernelKV.main_arg0)
      ∧ r.2.mem ((c.tc : Thread Cert.KernelKV.nD Cert.KernelKV.τ).loc Cert.KernelKV.main_arg1) = m ((c.tc : Thread Cert.KernelKV.nD Cert.KernelKV.τ).loc Cert.KernelKV.main_arg1)
      ∧ r.2.mem ((c.tc : Thread Cert.KernelKV.nD Cert.KernelKV.τ).loc Cert.KernelKV.main_arg2) = m ((c.tc : Thread Cert.KernelKV.nD Cert.KernelKV.τ).loc Cert.KernelKV.main_arg2))
      ∧ r.2.sem = fun _ => 0)

def quiescent_KernelKVIdeal [hKernelKVIdeal : Cert.KernelKVIdeal.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
      ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2))
      ∧ r.2.sem = fun _ => 0)

def quiescent_KernelKVIdeal_pre_finite [hKernelKVIdeal : Cert.KernelKVIdeal.Facts] [hPre_finite : Cert.Pre_finite.Facts] : Prop :=
  ∀ (m : (ℓ : Loc Cert.KernelKVIdeal.nD Cert.KernelKVIdeal.τ Cert.KernelKVIdeal.sig) → Buf (Elt Ideal) ℓ) (g : Dev Cert.KernelKVIdeal.nD → PrngReg), Pre_KernelKVIdeal_finite m →
    θ_run (Cert.KernelKVIdeal.defs (F := Ideal)) (onTc (τ := Cert.KernelKVIdeal.τ) (Cert.KernelKVIdeal.main (F := Ideal))) ⟨m, fun _ => 0, g⟩ (fun r => (∀ c : Dev Cert.KernelKVIdeal.nD,
      r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
      ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
      ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2))
      ∧ r.2.sem = fun _ => 0)

def quiescent_ReferenceKVIdeal [hReferenceKVIdeal : Cert.ReferenceKVIdeal.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1)
      ∧ r.2.mem ((c.tc : Thread Cert.ReferenceKVIdeal.nD Cert.ReferenceKVIdeal.τ).loc Cert.ReferenceKVIdeal.main_arg2) = m ((c.tc : Thread Cert.ReferenceKVIdeal.nD Cert.ReferenceKVIdeal.τ).loc Cert.ReferenceKVIdeal.main_arg2))
      ∧ r.2.sem = fun _ => 0)

def quiescent_ReferenceKVIdeal_pre_finite [hReferenceKVIdeal : Cert.ReferenceKVIdeal.Facts] [hPre_finite : Cert.Pre_finite.Facts] : Prop :=
  ∀ (m : (ℓ : Loc Cert.ReferenceKVIdeal.nD Cert.ReferenceKVIdeal.τ Cert.ReferenceKVIdeal.sig) → Buf (Elt Ideal) ℓ) (g : Dev Cert.ReferenceKVIdeal.nD → PrngReg), Pre_ReferenceKVIdeal_finite m →
    θ_run (Cert.ReferenceKVIdeal.defs (F := Ideal)) (onTc (τ := Cert.ReferenceKVIdeal.τ) (Cert.ReferenceKVIdeal.main (F := Ideal))) ⟨m, fun _ => 0, g⟩ (fun r => (∀ c : Dev Cert.ReferenceKVIdeal.nD,
      r.2.mem ((c.tc : Thread Cert.ReferenceKVIdeal.nD Cert.ReferenceKVIdeal.τ).loc Cert.ReferenceKVIdeal.main_arg0) = m ((c.tc : Thread Cert.ReferenceKVIdeal.nD Cert.ReferenceKVIdeal.τ).loc Cert.ReferenceKVIdeal.main_arg0)
      ∧ r.2.mem ((c.tc : Thread Cert.ReferenceKVIdeal.nD Cert.ReferenceKVIdeal.τ).loc Cert.ReferenceKVIdeal.main_arg1) = m ((c.tc : Thread Cert.ReferenceKVIdeal.nD Cert.ReferenceKVIdeal.τ).loc Cert.ReferenceKVIdeal.main_arg1)
      ∧ r.2.mem ((c.tc : Thread Cert.ReferenceKVIdeal.nD Cert.ReferenceKVIdeal.τ).loc Cert.ReferenceKVIdeal.main_arg2) = m ((c.tc : Thread Cert.ReferenceKVIdeal.nD Cert.ReferenceKVIdeal.τ).loc Cert.ReferenceKVIdeal.main_arg2))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1))
      ∧ r.2.sem = fun _ => 0)

def quiescent_KernelDout [hKernelDout : Cert.KernelDout.Facts] : Prop :=
  ∀ (m : (ℓ : Loc Cert.KernelDout.nD Cert.KernelDout.τ Cert.KernelDout.sig) → Buf (Elt Bits) ℓ) (g : Dev Cert.KernelDout.nD → PrngReg), Pre_KernelDout m →
    θ_run (Cert.KernelDout.defs (F := Bits)) (onTc (τ := Cert.KernelDout.τ) (Cert.KernelDout.main (F := Bits))) ⟨m, fun _ => 0, g⟩ (fun r => (∀ c : Dev Cert.KernelDout.nD,
      r.2.mem ((c.tc : Thread Cert.KernelDout.nD Cert.KernelDout.τ).loc Cert.KernelDout.main_arg0) = m ((c.tc : Thread Cert.KernelDout.nD Cert.KernelDout.τ).loc Cert.KernelDout.main_arg0)
      ∧ r.2.mem ((c.tc : Thread Cert.KernelDout.nD Cert.KernelDout.τ).loc Cert.KernelDout.main_arg1) = m ((c.tc : Thread Cert.KernelDout.nD Cert.KernelDout.τ).loc Cert.KernelDout.main_arg1))
      ∧ r.2.sem = fun _ => 0)

def quiescent_KernelDoutIdeal [hKernelDoutIdeal : Cert.KernelDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ r.2.sem = fun _ => 0)

def quiescent_ReferenceDoutIdeal [hReferenceDoutIdeal : Cert.ReferenceDoutIdeal.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1))
      ∧ r.2.sem = fun _ => 0)

def quiescent_KernelDin [hKernelDin : Cert.KernelDin.Facts] : Prop :=
  ∀ (m : (ℓ : Loc Cert.KernelDin.nD Cert.KernelDin.τ Cert.KernelDin.sig) → Buf (Elt Bits) ℓ) (g : Dev Cert.KernelDin.nD → PrngReg), Pre_KernelDin m →
    θ_run (Cert.KernelDin.defs (F := Bits)) (onTc (τ := Cert.KernelDin.τ) (Cert.KernelDin.main (F := Bits))) ⟨m, fun _ => 0, g⟩ (fun r => (∀ c : Dev Cert.KernelDin.nD,
      r.2.mem ((c.tc : Thread Cert.KernelDin.nD Cert.KernelDin.τ).loc Cert.KernelDin.main_arg0) = m ((c.tc : Thread Cert.KernelDin.nD Cert.KernelDin.τ).loc Cert.KernelDin.main_arg0)
      ∧ r.2.mem ((c.tc : Thread Cert.KernelDin.nD Cert.KernelDin.τ).loc Cert.KernelDin.main_arg1) = m ((c.tc : Thread Cert.KernelDin.nD Cert.KernelDin.τ).loc Cert.KernelDin.main_arg1))
      ∧ r.2.sem = fun _ => 0)

def quiescent_KernelDinIdeal [hKernelDinIdeal : Cert.KernelDinIdeal.Facts] : Prop :=
  ∀ (m : (ℓ : Loc Cert.KernelDinIdeal.nD Cert.KernelDinIdeal.τ Cert.KernelDinIdeal.sig) → Buf (Elt Ideal) ℓ) (g : Dev Cert.KernelDinIdeal.nD → PrngReg), Pre_KernelDinIdeal m →
    θ_run (Cert.KernelDinIdeal.defs (F := Ideal)) (onTc (τ := Cert.KernelDinIdeal.τ) (Cert.KernelDinIdeal.main (F := Ideal))) ⟨m, fun _ => 0, g⟩ (fun r => (∀ c : Dev Cert.KernelDinIdeal.nD,
      r.2.mem ((c.tc : Thread Cert.KernelDinIdeal.nD Cert.KernelDinIdeal.τ).loc Cert.KernelDinIdeal.main_arg0) = m ((c.tc : Thread Cert.KernelDinIdeal.nD Cert.KernelDinIdeal.τ).loc Cert.KernelDinIdeal.main_arg0)
      ∧ r.2.mem ((c.tc : Thread Cert.KernelDinIdeal.nD Cert.KernelDinIdeal.τ).loc Cert.KernelDinIdeal.main_arg1) = m ((c.tc : Thread Cert.KernelDinIdeal.nD Cert.KernelDinIdeal.τ).loc Cert.KernelDinIdeal.main_arg1))
      ∧ r.2.sem = fun _ => 0)

def quiescent_ReferenceDinIdeal [hReferenceDinIdeal : Cert.ReferenceDinIdeal.Facts] : Prop :=
  ∀ (m : (ℓ : Loc Cert.ReferenceDinIdeal.nD Cert.ReferenceDinIdeal.τ Cert.ReferenceDinIdeal.sig) → Buf (Elt Ideal) ℓ) (g : Dev Cert.ReferenceDinIdeal.nD → PrngReg), Pre_ReferenceDinIdeal m →
    θ_run (Cert.ReferenceDinIdeal.defs (F := Ideal)) (onTc (τ := Cert.ReferenceDinIdeal.τ) (Cert.ReferenceDinIdeal.main (F := Ideal))) ⟨m, fun _ => 0, g⟩ (fun r => (∀ c : Dev Cert.ReferenceDinIdeal.nD,
      r.2.mem ((c.tc : Thread Cert.ReferenceDinIdeal.nD Cert.ReferenceDinIdeal.τ).loc Cert.ReferenceDinIdeal.main_arg0) = m ((c.tc : Thread Cert.ReferenceDinIdeal.nD Cert.ReferenceDinIdeal.τ).loc Cert.ReferenceDinIdeal.main_arg0)
      ∧ r.2.mem ((c.tc : Thread Cert.ReferenceDinIdeal.nD Cert.ReferenceDinIdeal.τ).loc Cert.ReferenceDinIdeal.main_arg1) = m ((c.tc : Thread Cert.ReferenceDinIdeal.nD Cert.ReferenceDinIdeal.τ).loc Cert.ReferenceDinIdeal.main_arg1))
      ∧ r.2.sem = fun _ => 0)

def quiescent_KernelWmain [hKernelWmain : Cert.KernelWmain.Facts] : Prop :=
  ∀ (m : (ℓ : Loc Cert.KernelWmain.nD Cert.KernelWmain.τ Cert.KernelWmain.sig) → Buf (Elt Bits) ℓ) (g : Dev Cert.KernelWmain.nD → PrngReg), Pre_KernelWmain m →
    θ_run (Cert.KernelWmain.defs (F := Bits)) (onTc (τ := Cert.KernelWmain.τ) (Cert.KernelWmain.main (F := Bits))) ⟨m, fun _ => 0, g⟩ (fun r => (∀ c : Dev Cert.KernelWmain.nD,
      r.2.mem ((c.tc : Thread Cert.KernelWmain.nD Cert.KernelWmain.τ).loc Cert.KernelWmain.main_arg0) = m ((c.tc : Thread Cert.KernelWmain.nD Cert.KernelWmain.τ).loc Cert.KernelWmain.main_arg0)
      ∧ r.2.mem ((c.tc : Thread Cert.KernelWmain.nD Cert.KernelWmain.τ).loc Cert.KernelWmain.main_arg1) = m ((c.tc : Thread Cert.KernelWmain.nD Cert.KernelWmain.τ).loc Cert.KernelWmain.main_arg1))
      ∧ r.2.sem = fun _ => 0)

def quiescent_KernelWmainIdeal [hKernelWmainIdeal : Cert.KernelWmainIdeal.Facts] : Prop :=
  ∀ (m : (ℓ : Loc Cert.KernelWmainIdeal.nD Cert.KernelWmainIdeal.τ Cert.KernelWmainIdeal.sig) → Buf (Elt Ideal) ℓ) (g : Dev Cert.KernelWmainIdeal.nD → PrngReg), Pre_KernelWmainIdeal m →
    θ_run (Cert.KernelWmainIdeal.defs (F := Ideal)) (onTc (τ := Cert.KernelWmainIdeal.τ) (Cert.KernelWmainIdeal.main (F := Ideal))) ⟨m, fun _ => 0, g⟩ (fun r => (∀ c : Dev Cert.KernelWmainIdeal.nD,
      r.2.mem ((c.tc : Thread Cert.KernelWmainIdeal.nD Cert.KernelWmainIdeal.τ).loc Cert.KernelWmainIdeal.main_arg0) = m ((c.tc : Thread Cert.KernelWmainIdeal.nD Cert.KernelWmainIdeal.τ).loc Cert.KernelWmainIdeal.main_arg0)
      ∧ r.2.mem ((c.tc : Thread Cert.KernelWmainIdeal.nD Cert.KernelWmainIdeal.τ).loc Cert.KernelWmainIdeal.main_arg1) = m ((c.tc : Thread Cert.KernelWmainIdeal.nD Cert.KernelWmainIdeal.τ).loc Cert.KernelWmainIdeal.main_arg1))
      ∧ r.2.sem = fun _ => 0)

def quiescent_ReferenceWmainIdeal [hReferenceWmainIdeal : Cert.ReferenceWmainIdeal.Facts] : Prop :=
  ∀ (m : (ℓ : Loc Cert.ReferenceWmainIdeal.nD Cert.ReferenceWmainIdeal.τ Cert.ReferenceWmainIdeal.sig) → Buf (Elt Ideal) ℓ) (g : Dev Cert.ReferenceWmainIdeal.nD → PrngReg), Pre_ReferenceWmainIdeal m →
    θ_run (Cert.ReferenceWmainIdeal.defs (F := Ideal)) (onTc (τ := Cert.ReferenceWmainIdeal.τ) (Cert.ReferenceWmainIdeal.main (F := Ideal))) ⟨m, fun _ => 0, g⟩ (fun r => (∀ c : Dev Cert.ReferenceWmainIdeal.nD,
      r.2.mem ((c.tc : Thread Cert.ReferenceWmainIdeal.nD Cert.ReferenceWmainIdeal.τ).loc Cert.ReferenceWmainIdeal.main_arg0) = m ((c.tc : Thread Cert.ReferenceWmainIdeal.nD Cert.ReferenceWmainIdeal.τ).loc Cert.ReferenceWmainIdeal.main_arg0)
      ∧ r.2.mem ((c.tc : Thread Cert.ReferenceWmainIdeal.nD Cert.ReferenceWmainIdeal.τ).loc Cert.ReferenceWmainIdeal.main_arg1) = m ((c.tc : Thread Cert.ReferenceWmainIdeal.nD Cert.ReferenceWmainIdeal.τ).loc Cert.ReferenceWmainIdeal.main_arg1))
      ∧ r.2.sem = fun _ => 0)

def quiescent_KernelWf [hKernelWf : Cert.KernelWf.Facts] : Prop :=
  ∀ (m : (ℓ : Loc Cert.KernelWf.nD Cert.KernelWf.τ Cert.KernelWf.sig) → Buf (Elt Bits) ℓ) (g : Dev Cert.KernelWf.nD → PrngReg), Pre_KernelWf m →
    θ_run (Cert.KernelWf.defs (F := Bits)) (onTc (τ := Cert.KernelWf.τ) (Cert.KernelWf.main (F := Bits))) ⟨m, fun _ => 0, g⟩ (fun r => (∀ c : Dev Cert.KernelWf.nD,
      r.2.mem ((c.tc : Thread Cert.KernelWf.nD Cert.KernelWf.τ).loc Cert.KernelWf.main_arg0) = m ((c.tc : Thread Cert.KernelWf.nD Cert.KernelWf.τ).loc Cert.KernelWf.main_arg0)
      ∧ r.2.mem ((c.tc : Thread Cert.KernelWf.nD Cert.KernelWf.τ).loc Cert.KernelWf.main_arg1) = m ((c.tc : Thread Cert.KernelWf.nD Cert.KernelWf.τ).loc Cert.KernelWf.main_arg1))
      ∧ r.2.sem = fun _ => 0)

def quiescent_KernelWfIdeal [hKernelWfIdeal : Cert.KernelWfIdeal.Facts] : Prop :=
  ∀ (m : (ℓ : Loc Cert.KernelWfIdeal.nD Cert.KernelWfIdeal.τ Cert.KernelWfIdeal.sig) → Buf (Elt Ideal) ℓ) (g : Dev Cert.KernelWfIdeal.nD → PrngReg), Pre_KernelWfIdeal m →
    θ_run (Cert.KernelWfIdeal.defs (F := Ideal)) (onTc (τ := Cert.KernelWfIdeal.τ) (Cert.KernelWfIdeal.main (F := Ideal))) ⟨m, fun _ => 0, g⟩ (fun r => (∀ c : Dev Cert.KernelWfIdeal.nD,
      r.2.mem ((c.tc : Thread Cert.KernelWfIdeal.nD Cert.KernelWfIdeal.τ).loc Cert.KernelWfIdeal.main_arg0) = m ((c.tc : Thread Cert.KernelWfIdeal.nD Cert.KernelWfIdeal.τ).loc Cert.KernelWfIdeal.main_arg0)
      ∧ r.2.mem ((c.tc : Thread Cert.KernelWfIdeal.nD Cert.KernelWfIdeal.τ).loc Cert.KernelWfIdeal.main_arg1) = m ((c.tc : Thread Cert.KernelWfIdeal.nD Cert.KernelWfIdeal.τ).loc Cert.KernelWfIdeal.main_arg1))
      ∧ r.2.sem = fun _ => 0)

def quiescent_ReferenceWfIdeal [hReferenceWfIdeal : Cert.ReferenceWfIdeal.Facts] : Prop :=
  ∀ (m : (ℓ : Loc Cert.ReferenceWfIdeal.nD Cert.ReferenceWfIdeal.τ Cert.ReferenceWfIdeal.sig) → Buf (Elt Ideal) ℓ) (g : Dev Cert.ReferenceWfIdeal.nD → PrngReg), Pre_ReferenceWfIdeal m →
    θ_run (Cert.ReferenceWfIdeal.defs (F := Ideal)) (onTc (τ := Cert.ReferenceWfIdeal.τ) (Cert.ReferenceWfIdeal.main (F := Ideal))) ⟨m, fun _ => 0, g⟩ (fun r => (∀ c : Dev Cert.ReferenceWfIdeal.nD,
      r.2.mem ((c.tc : Thread Cert.ReferenceWfIdeal.nD Cert.ReferenceWfIdeal.τ).loc Cert.ReferenceWfIdeal.main_arg0) = m ((c.tc : Thread Cert.ReferenceWfIdeal.nD Cert.ReferenceWfIdeal.τ).loc Cert.ReferenceWfIdeal.main_arg0)
      ∧ r.2.mem ((c.tc : Thread Cert.ReferenceWfIdeal.nD Cert.ReferenceWfIdeal.τ).loc Cert.ReferenceWfIdeal.main_arg1) = m ((c.tc : Thread Cert.ReferenceWfIdeal.nD Cert.ReferenceWfIdeal.τ).loc Cert.ReferenceWfIdeal.main_arg1))
      ∧ r.2.sem = fun _ => 0)

def quiescent_KernelWsq [hKernelWsq : Cert.KernelWsq.Facts] : Prop :=
  ∀ (m : (ℓ : Loc Cert.KernelWsq.nD Cert.KernelWsq.τ Cert.KernelWsq.sig) → Buf (Elt Bits) ℓ) (g : Dev Cert.KernelWsq.nD → PrngReg), Pre_KernelWsq m →
    θ_run (Cert.KernelWsq.defs (F := Bits)) (onTc (τ := Cert.KernelWsq.τ) (Cert.KernelWsq.main (F := Bits))) ⟨m, fun _ => 0, g⟩ (fun r => (∀ c : Dev Cert.KernelWsq.nD,
      r.2.mem ((c.tc : Thread Cert.KernelWsq.nD Cert.KernelWsq.τ).loc Cert.KernelWsq.main_arg0) = m ((c.tc : Thread Cert.KernelWsq.nD Cert.KernelWsq.τ).loc Cert.KernelWsq.main_arg0)
      ∧ r.2.mem ((c.tc : Thread Cert.KernelWsq.nD Cert.KernelWsq.τ).loc Cert.KernelWsq.main_arg1) = m ((c.tc : Thread Cert.KernelWsq.nD Cert.KernelWsq.τ).loc Cert.KernelWsq.main_arg1))
      ∧ r.2.sem = fun _ => 0)

def quiescent_KernelWsqIdeal [hKernelWsqIdeal : Cert.KernelWsqIdeal.Facts] : Prop :=
  ∀ (m : (ℓ : Loc Cert.KernelWsqIdeal.nD Cert.KernelWsqIdeal.τ Cert.KernelWsqIdeal.sig) → Buf (Elt Ideal) ℓ) (g : Dev Cert.KernelWsqIdeal.nD → PrngReg), Pre_KernelWsqIdeal m →
    θ_run (Cert.KernelWsqIdeal.defs (F := Ideal)) (onTc (τ := Cert.KernelWsqIdeal.τ) (Cert.KernelWsqIdeal.main (F := Ideal))) ⟨m, fun _ => 0, g⟩ (fun r => (∀ c : Dev Cert.KernelWsqIdeal.nD,
      r.2.mem ((c.tc : Thread Cert.KernelWsqIdeal.nD Cert.KernelWsqIdeal.τ).loc Cert.KernelWsqIdeal.main_arg0) = m ((c.tc : Thread Cert.KernelWsqIdeal.nD Cert.KernelWsqIdeal.τ).loc Cert.KernelWsqIdeal.main_arg0)
      ∧ r.2.mem ((c.tc : Thread Cert.KernelWsqIdeal.nD Cert.KernelWsqIdeal.τ).loc Cert.KernelWsqIdeal.main_arg1) = m ((c.tc : Thread Cert.KernelWsqIdeal.nD Cert.KernelWsqIdeal.τ).loc Cert.KernelWsqIdeal.main_arg1))
      ∧ r.2.sem = fun _ => 0)

def quiescent_ReferenceWsqIdeal [hReferenceWsqIdeal : Cert.ReferenceWsqIdeal.Facts] : Prop :=
  ∀ (m : (ℓ : Loc Cert.ReferenceWsqIdeal.nD Cert.ReferenceWsqIdeal.τ Cert.ReferenceWsqIdeal.sig) → Buf (Elt Ideal) ℓ) (g : Dev Cert.ReferenceWsqIdeal.nD → PrngReg), Pre_ReferenceWsqIdeal m →
    θ_run (Cert.ReferenceWsqIdeal.defs (F := Ideal)) (onTc (τ := Cert.ReferenceWsqIdeal.τ) (Cert.ReferenceWsqIdeal.main (F := Ideal))) ⟨m, fun _ => 0, g⟩ (fun r => (∀ c : Dev Cert.ReferenceWsqIdeal.nD,
      r.2.mem ((c.tc : Thread Cert.ReferenceWsqIdeal.nD Cert.ReferenceWsqIdeal.τ).loc Cert.ReferenceWsqIdeal.main_arg0) = m ((c.tc : Thread Cert.ReferenceWsqIdeal.nD Cert.ReferenceWsqIdeal.τ).loc Cert.ReferenceWsqIdeal.main_arg0)
      ∧ r.2.mem ((c.tc : Thread Cert.ReferenceWsqIdeal.nD Cert.ReferenceWsqIdeal.τ).loc Cert.ReferenceWsqIdeal.main_arg1) = m ((c.tc : Thread Cert.ReferenceWsqIdeal.nD Cert.ReferenceWsqIdeal.τ).loc Cert.ReferenceWsqIdeal.main_arg1))
      ∧ r.2.sem = fun _ => 0)

def quiescent_KernelWatt [hKernelWatt : Cert.KernelWatt.Facts] : Prop :=
  ∀ (m : (ℓ : Loc Cert.KernelWatt.nD Cert.KernelWatt.τ Cert.KernelWatt.sig) → Buf (Elt Bits) ℓ) (g : Dev Cert.KernelWatt.nD → PrngReg), Pre_KernelWatt m →
    θ_run (Cert.KernelWatt.defs (F := Bits)) (onTc (τ := Cert.KernelWatt.τ) (Cert.KernelWatt.main (F := Bits))) ⟨m, fun _ => 0, g⟩ (fun r => (∀ c : Dev Cert.KernelWatt.nD,
      r.2.mem ((c.tc : Thread Cert.KernelWatt.nD Cert.KernelWatt.τ).loc Cert.KernelWatt.main_arg0) = m ((c.tc : Thread Cert.KernelWatt.nD Cert.KernelWatt.τ).loc Cert.KernelWatt.main_arg0)
      ∧ r.2.mem ((c.tc : Thread Cert.KernelWatt.nD Cert.KernelWatt.τ).loc Cert.KernelWatt.main_arg1) = m ((c.tc : Thread Cert.KernelWatt.nD Cert.KernelWatt.τ).loc Cert.KernelWatt.main_arg1))
      ∧ r.2.sem = fun _ => 0)

def quiescent_KernelWattIdeal [hKernelWattIdeal : Cert.KernelWattIdeal.Facts] : Prop :=
  ∀ (m : (ℓ : Loc Cert.KernelWattIdeal.nD Cert.KernelWattIdeal.τ Cert.KernelWattIdeal.sig) → Buf (Elt Ideal) ℓ) (g : Dev Cert.KernelWattIdeal.nD → PrngReg), Pre_KernelWattIdeal m →
    θ_run (Cert.KernelWattIdeal.defs (F := Ideal)) (onTc (τ := Cert.KernelWattIdeal.τ) (Cert.KernelWattIdeal.main (F := Ideal))) ⟨m, fun _ => 0, g⟩ (fun r => (∀ c : Dev Cert.KernelWattIdeal.nD,
      r.2.mem ((c.tc : Thread Cert.KernelWattIdeal.nD Cert.KernelWattIdeal.τ).loc Cert.KernelWattIdeal.main_arg0) = m ((c.tc : Thread Cert.KernelWattIdeal.nD Cert.KernelWattIdeal.τ).loc Cert.KernelWattIdeal.main_arg0)
      ∧ r.2.mem ((c.tc : Thread Cert.KernelWattIdeal.nD Cert.KernelWattIdeal.τ).loc Cert.KernelWattIdeal.main_arg1) = m ((c.tc : Thread Cert.KernelWattIdeal.nD Cert.KernelWattIdeal.τ).loc Cert.KernelWattIdeal.main_arg1))
      ∧ r.2.sem = fun _ => 0)

def quiescent_ReferenceWattIdeal [hReferenceWattIdeal : Cert.ReferenceWattIdeal.Facts] : Prop :=
  ∀ (m : (ℓ : Loc Cert.ReferenceWattIdeal.nD Cert.ReferenceWattIdeal.τ Cert.ReferenceWattIdeal.sig) → Buf (Elt Ideal) ℓ) (g : Dev Cert.ReferenceWattIdeal.nD → PrngReg), Pre_ReferenceWattIdeal m →
    θ_run (Cert.ReferenceWattIdeal.defs (F := Ideal)) (onTc (τ := Cert.ReferenceWattIdeal.τ) (Cert.ReferenceWattIdeal.main (F := Ideal))) ⟨m, fun _ => 0, g⟩ (fun r => (∀ c : Dev Cert.ReferenceWattIdeal.nD,
      r.2.mem ((c.tc : Thread Cert.ReferenceWattIdeal.nD Cert.ReferenceWattIdeal.τ).loc Cert.ReferenceWattIdeal.main_arg0) = m ((c.tc : Thread Cert.ReferenceWattIdeal.nD Cert.ReferenceWattIdeal.τ).loc Cert.ReferenceWattIdeal.main_arg0)
      ∧ r.2.mem ((c.tc : Thread Cert.ReferenceWattIdeal.nD Cert.ReferenceWattIdeal.τ).loc Cert.ReferenceWattIdeal.main_arg1) = m ((c.tc : Thread Cert.ReferenceWattIdeal.nD Cert.ReferenceWattIdeal.τ).loc Cert.ReferenceWattIdeal.main_arg1))
      ∧ r.2.sem = fun _ => 0)

def quiescent_KernelWple [hKernelWple : Cert.KernelWple.Facts] : Prop :=
  ∀ (m : (ℓ : Loc Cert.KernelWple.nD Cert.KernelWple.τ Cert.KernelWple.sig) → Buf (Elt Bits) ℓ) (g : Dev Cert.KernelWple.nD → PrngReg), Pre_KernelWple m →
    θ_run (Cert.KernelWple.defs (F := Bits)) (onTc (τ := Cert.KernelWple.τ) (Cert.KernelWple.main (F := Bits))) ⟨m, fun _ => 0, g⟩ (fun r => (∀ c : Dev Cert.KernelWple.nD,
      r.2.mem ((c.tc : Thread Cert.KernelWple.nD Cert.KernelWple.τ).loc Cert.KernelWple.main_arg0) = m ((c.tc : Thread Cert.KernelWple.nD Cert.KernelWple.τ).loc Cert.KernelWple.main_arg0)
      ∧ r.2.mem ((c.tc : Thread Cert.KernelWple.nD Cert.KernelWple.τ).loc Cert.KernelWple.main_arg1) = m ((c.tc : Thread Cert.KernelWple.nD Cert.KernelWple.τ).loc Cert.KernelWple.main_arg1))
      ∧ r.2.sem = fun _ => 0)

def quiescent_KernelWpleIdeal [hKernelWpleIdeal : Cert.KernelWpleIdeal.Facts] : Prop :=
  ∀ (m : (ℓ : Loc Cert.KernelWpleIdeal.nD Cert.KernelWpleIdeal.τ Cert.KernelWpleIdeal.sig) → Buf (Elt Ideal) ℓ) (g : Dev Cert.KernelWpleIdeal.nD → PrngReg), Pre_KernelWpleIdeal m →
    θ_run (Cert.KernelWpleIdeal.defs (F := Ideal)) (onTc (τ := Cert.KernelWpleIdeal.τ) (Cert.KernelWpleIdeal.main (F := Ideal))) ⟨m, fun _ => 0, g⟩ (fun r => (∀ c : Dev Cert.KernelWpleIdeal.nD,
      r.2.mem ((c.tc : Thread Cert.KernelWpleIdeal.nD Cert.KernelWpleIdeal.τ).loc Cert.KernelWpleIdeal.main_arg0) = m ((c.tc : Thread Cert.KernelWpleIdeal.nD Cert.KernelWpleIdeal.τ).loc Cert.KernelWpleIdeal.main_arg0)
      ∧ r.2.mem ((c.tc : Thread Cert.KernelWpleIdeal.nD Cert.KernelWpleIdeal.τ).loc Cert.KernelWpleIdeal.main_arg1) = m ((c.tc : Thread Cert.KernelWpleIdeal.nD Cert.KernelWpleIdeal.τ).loc Cert.KernelWpleIdeal.main_arg1))
      ∧ r.2.sem = fun _ => 0)

def quiescent_ReferenceWpleIdeal [hReferenceWpleIdeal : Cert.ReferenceWpleIdeal.Facts] : Prop :=
  ∀ (m : (ℓ : Loc Cert.ReferenceWpleIdeal.nD Cert.ReferenceWpleIdeal.τ Cert.ReferenceWpleIdeal.sig) → Buf (Elt Ideal) ℓ) (g : Dev Cert.ReferenceWpleIdeal.nD → PrngReg), Pre_ReferenceWpleIdeal m →
    θ_run (Cert.ReferenceWpleIdeal.defs (F := Ideal)) (onTc (τ := Cert.ReferenceWpleIdeal.τ) (Cert.ReferenceWpleIdeal.main (F := Ideal))) ⟨m, fun _ => 0, g⟩ (fun r => (∀ c : Dev Cert.ReferenceWpleIdeal.nD,
      r.2.mem ((c.tc : Thread Cert.ReferenceWpleIdeal.nD Cert.ReferenceWpleIdeal.τ).loc Cert.ReferenceWpleIdeal.main_arg0) = m ((c.tc : Thread Cert.ReferenceWpleIdeal.nD Cert.ReferenceWpleIdeal.τ).loc Cert.ReferenceWpleIdeal.main_arg0)
      ∧ r.2.mem ((c.tc : Thread Cert.ReferenceWpleIdeal.nD Cert.ReferenceWpleIdeal.τ).loc Cert.ReferenceWpleIdeal.main_arg1) = m ((c.tc : Thread Cert.ReferenceWpleIdeal.nD Cert.ReferenceWpleIdeal.τ).loc Cert.ReferenceWpleIdeal.main_arg1))
      ∧ r.2.sem = fun _ => 0)

def quiescent_KernelDmain [hKernelDmain : Cert.KernelDmain.Facts] : Prop :=
  ∀ (m : (ℓ : Loc Cert.KernelDmain.nD Cert.KernelDmain.τ Cert.KernelDmain.sig) → Buf (Elt Bits) ℓ) (g : Dev Cert.KernelDmain.nD → PrngReg), Pre_KernelDmain m →
    θ_run (Cert.KernelDmain.defs (F := Bits)) (onTc (τ := Cert.KernelDmain.τ) (Cert.KernelDmain.main (F := Bits))) ⟨m, fun _ => 0, g⟩ (fun r => (∀ c : Dev Cert.KernelDmain.nD,
      r.2.mem ((c.tc : Thread Cert.KernelDmain.nD Cert.KernelDmain.τ).loc Cert.KernelDmain.main_arg0) = m ((c.tc : Thread Cert.KernelDmain.nD Cert.KernelDmain.τ).loc Cert.KernelDmain.main_arg0)
      ∧ r.2.mem ((c.tc : Thread Cert.KernelDmain.nD Cert.KernelDmain.τ).loc Cert.KernelDmain.main_arg1) = m ((c.tc : Thread Cert.KernelDmain.nD Cert.KernelDmain.τ).loc Cert.KernelDmain.main_arg1))
      ∧ r.2.sem = fun _ => 0)

def quiescent_KernelDmainIdeal [hKernelDmainIdeal : Cert.KernelDmainIdeal.Facts] : Prop :=
  ∀ (m : (ℓ : Loc Cert.KernelDmainIdeal.nD Cert.KernelDmainIdeal.τ Cert.KernelDmainIdeal.sig) → Buf (Elt Ideal) ℓ) (g : Dev Cert.KernelDmainIdeal.nD → PrngReg), Pre_KernelDmainIdeal m →
    θ_run (Cert.KernelDmainIdeal.defs (F := Ideal)) (onTc (τ := Cert.KernelDmainIdeal.τ) (Cert.KernelDmainIdeal.main (F := Ideal))) ⟨m, fun _ => 0, g⟩ (fun r => (∀ c : Dev Cert.KernelDmainIdeal.nD,
      r.2.mem ((c.tc : Thread Cert.KernelDmainIdeal.nD Cert.KernelDmainIdeal.τ).loc Cert.KernelDmainIdeal.main_arg0) = m ((c.tc : Thread Cert.KernelDmainIdeal.nD Cert.KernelDmainIdeal.τ).loc Cert.KernelDmainIdeal.main_arg0)
      ∧ r.2.mem ((c.tc : Thread Cert.KernelDmainIdeal.nD Cert.KernelDmainIdeal.τ).loc Cert.KernelDmainIdeal.main_arg1) = m ((c.tc : Thread Cert.KernelDmainIdeal.nD Cert.KernelDmainIdeal.τ).loc Cert.KernelDmainIdeal.main_arg1))
      ∧ r.2.sem = fun _ => 0)

def quiescent_ReferenceDmainIdeal [hReferenceDmainIdeal : Cert.ReferenceDmainIdeal.Facts] : Prop :=
  ∀ (m : (ℓ : Loc Cert.ReferenceDmainIdeal.nD Cert.ReferenceDmainIdeal.τ Cert.ReferenceDmainIdeal.sig) → Buf (Elt Ideal) ℓ) (g : Dev Cert.ReferenceDmainIdeal.nD → PrngReg), Pre_ReferenceDmainIdeal m →
    θ_run (Cert.ReferenceDmainIdeal.defs (F := Ideal)) (onTc (τ := Cert.ReferenceDmainIdeal.τ) (Cert.ReferenceDmainIdeal.main (F := Ideal))) ⟨m, fun _ => 0, g⟩ (fun r => (∀ c : Dev Cert.ReferenceDmainIdeal.nD,
      r.2.mem ((c.tc : Thread Cert.ReferenceDmainIdeal.nD Cert.ReferenceDmainIdeal.τ).loc Cert.ReferenceDmainIdeal.main_arg0) = m ((c.tc : Thread Cert.ReferenceDmainIdeal.nD Cert.ReferenceDmainIdeal.τ).loc Cert.ReferenceDmainIdeal.main_arg0)
      ∧ r.2.mem ((c.tc : Thread Cert.ReferenceDmainIdeal.nD Cert.ReferenceDmainIdeal.τ).loc Cert.ReferenceDmainIdeal.main_arg1) = m ((c.tc : Thread Cert.ReferenceDmainIdeal.nD Cert.ReferenceDmainIdeal.τ).loc Cert.ReferenceDmainIdeal.main_arg1))
      ∧ r.2.sem = fun _ => 0)

def quiescent_KernelDf [hKernelDf : Cert.KernelDf.Facts] : Prop :=
  ∀ (m : (ℓ : Loc Cert.KernelDf.nD Cert.KernelDf.τ Cert.KernelDf.sig) → Buf (Elt Bits) ℓ) (g : Dev Cert.KernelDf.nD → PrngReg), Pre_KernelDf m →
    θ_run (Cert.KernelDf.defs (F := Bits)) (onTc (τ := Cert.KernelDf.τ) (Cert.KernelDf.main (F := Bits))) ⟨m, fun _ => 0, g⟩ (fun r => (∀ c : Dev Cert.KernelDf.nD,
      r.2.mem ((c.tc : Thread Cert.KernelDf.nD Cert.KernelDf.τ).loc Cert.KernelDf.main_arg0) = m ((c.tc : Thread Cert.KernelDf.nD Cert.KernelDf.τ).loc Cert.KernelDf.main_arg0)
      ∧ r.2.mem ((c.tc : Thread Cert.KernelDf.nD Cert.KernelDf.τ).loc Cert.KernelDf.main_arg1) = m ((c.tc : Thread Cert.KernelDf.nD Cert.KernelDf.τ).loc Cert.KernelDf.main_arg1))
      ∧ r.2.sem = fun _ => 0)

def quiescent_KernelDfIdeal [hKernelDfIdeal : Cert.KernelDfIdeal.Facts] : Prop :=
  ∀ (m : (ℓ : Loc Cert.KernelDfIdeal.nD Cert.KernelDfIdeal.τ Cert.KernelDfIdeal.sig) → Buf (Elt Ideal) ℓ) (g : Dev Cert.KernelDfIdeal.nD → PrngReg), Pre_KernelDfIdeal m →
    θ_run (Cert.KernelDfIdeal.defs (F := Ideal)) (onTc (τ := Cert.KernelDfIdeal.τ) (Cert.KernelDfIdeal.main (F := Ideal))) ⟨m, fun _ => 0, g⟩ (fun r => (∀ c : Dev Cert.KernelDfIdeal.nD,
      r.2.mem ((c.tc : Thread Cert.KernelDfIdeal.nD Cert.KernelDfIdeal.τ).loc Cert.KernelDfIdeal.main_arg0) = m ((c.tc : Thread Cert.KernelDfIdeal.nD Cert.KernelDfIdeal.τ).loc Cert.KernelDfIdeal.main_arg0)
      ∧ r.2.mem ((c.tc : Thread Cert.KernelDfIdeal.nD Cert.KernelDfIdeal.τ).loc Cert.KernelDfIdeal.main_arg1) = m ((c.tc : Thread Cert.KernelDfIdeal.nD Cert.KernelDfIdeal.τ).loc Cert.KernelDfIdeal.main_arg1))
      ∧ r.2.sem = fun _ => 0)

def quiescent_ReferenceDfIdeal [hReferenceDfIdeal : Cert.ReferenceDfIdeal.Facts] : Prop :=
  ∀ (m : (ℓ : Loc Cert.ReferenceDfIdeal.nD Cert.ReferenceDfIdeal.τ Cert.ReferenceDfIdeal.sig) → Buf (Elt Ideal) ℓ) (g : Dev Cert.ReferenceDfIdeal.nD → PrngReg), Pre_ReferenceDfIdeal m →
    θ_run (Cert.ReferenceDfIdeal.defs (F := Ideal)) (onTc (τ := Cert.ReferenceDfIdeal.τ) (Cert.ReferenceDfIdeal.main (F := Ideal))) ⟨m, fun _ => 0, g⟩ (fun r => (∀ c : Dev Cert.ReferenceDfIdeal.nD,
      r.2.mem ((c.tc : Thread Cert.ReferenceDfIdeal.nD Cert.ReferenceDfIdeal.τ).loc Cert.ReferenceDfIdeal.main_arg0) = m ((c.tc : Thread Cert.ReferenceDfIdeal.nD Cert.ReferenceDfIdeal.τ).loc Cert.ReferenceDfIdeal.main_arg0)
      ∧ r.2.mem ((c.tc : Thread Cert.ReferenceDfIdeal.nD Cert.ReferenceDfIdeal.τ).loc Cert.ReferenceDfIdeal.main_arg1) = m ((c.tc : Thread Cert.ReferenceDfIdeal.nD Cert.ReferenceDfIdeal.τ).loc Cert.ReferenceDfIdeal.main_arg1))
      ∧ r.2.sem = fun _ => 0)

def quiescent_KernelDsq [hKernelDsq : Cert.KernelDsq.Facts] : Prop :=
  ∀ (m : (ℓ : Loc Cert.KernelDsq.nD Cert.KernelDsq.τ Cert.KernelDsq.sig) → Buf (Elt Bits) ℓ) (g : Dev Cert.KernelDsq.nD → PrngReg), Pre_KernelDsq m →
    θ_run (Cert.KernelDsq.defs (F := Bits)) (onTc (τ := Cert.KernelDsq.τ) (Cert.KernelDsq.main (F := Bits))) ⟨m, fun _ => 0, g⟩ (fun r => (∀ c : Dev Cert.KernelDsq.nD,
      r.2.mem ((c.tc : Thread Cert.KernelDsq.nD Cert.KernelDsq.τ).loc Cert.KernelDsq.main_arg0) = m ((c.tc : Thread Cert.KernelDsq.nD Cert.KernelDsq.τ).loc Cert.KernelDsq.main_arg0)
      ∧ r.2.mem ((c.tc : Thread Cert.KernelDsq.nD Cert.KernelDsq.τ).loc Cert.KernelDsq.main_arg1) = m ((c.tc : Thread Cert.KernelDsq.nD Cert.KernelDsq.τ).loc Cert.KernelDsq.main_arg1))
      ∧ r.2.sem = fun _ => 0)

def quiescent_KernelDsqIdeal [hKernelDsqIdeal : Cert.KernelDsqIdeal.Facts] : Prop :=
  ∀ (m : (ℓ : Loc Cert.KernelDsqIdeal.nD Cert.KernelDsqIdeal.τ Cert.KernelDsqIdeal.sig) → Buf (Elt Ideal) ℓ) (g : Dev Cert.KernelDsqIdeal.nD → PrngReg), Pre_KernelDsqIdeal m →
    θ_run (Cert.KernelDsqIdeal.defs (F := Ideal)) (onTc (τ := Cert.KernelDsqIdeal.τ) (Cert.KernelDsqIdeal.main (F := Ideal))) ⟨m, fun _ => 0, g⟩ (fun r => (∀ c : Dev Cert.KernelDsqIdeal.nD,
      r.2.mem ((c.tc : Thread Cert.KernelDsqIdeal.nD Cert.KernelDsqIdeal.τ).loc Cert.KernelDsqIdeal.main_arg0) = m ((c.tc : Thread Cert.KernelDsqIdeal.nD Cert.KernelDsqIdeal.τ).loc Cert.KernelDsqIdeal.main_arg0)
      ∧ r.2.mem ((c.tc : Thread Cert.KernelDsqIdeal.nD Cert.KernelDsqIdeal.τ).loc Cert.KernelDsqIdeal.main_arg1) = m ((c.tc : Thread Cert.KernelDsqIdeal.nD Cert.KernelDsqIdeal.τ).loc Cert.KernelDsqIdeal.main_arg1))
      ∧ r.2.sem = fun _ => 0)

def quiescent_ReferenceDsqIdeal [hReferenceDsqIdeal : Cert.ReferenceDsqIdeal.Facts] : Prop :=
  ∀ (m : (ℓ : Loc Cert.ReferenceDsqIdeal.nD Cert.ReferenceDsqIdeal.τ Cert.ReferenceDsqIdeal.sig) → Buf (Elt Ideal) ℓ) (g : Dev Cert.ReferenceDsqIdeal.nD → PrngReg), Pre_ReferenceDsqIdeal m →
    θ_run (Cert.ReferenceDsqIdeal.defs (F := Ideal)) (onTc (τ := Cert.ReferenceDsqIdeal.τ) (Cert.ReferenceDsqIdeal.main (F := Ideal))) ⟨m, fun _ => 0, g⟩ (fun r => (∀ c : Dev Cert.ReferenceDsqIdeal.nD,
      r.2.mem ((c.tc : Thread Cert.ReferenceDsqIdeal.nD Cert.ReferenceDsqIdeal.τ).loc Cert.ReferenceDsqIdeal.main_arg0) = m ((c.tc : Thread Cert.ReferenceDsqIdeal.nD Cert.ReferenceDsqIdeal.τ).loc Cert.ReferenceDsqIdeal.main_arg0)
      ∧ r.2.mem ((c.tc : Thread Cert.ReferenceDsqIdeal.nD Cert.ReferenceDsqIdeal.τ).loc Cert.ReferenceDsqIdeal.main_arg1) = m ((c.tc : Thread Cert.ReferenceDsqIdeal.nD Cert.ReferenceDsqIdeal.τ).loc Cert.ReferenceDsqIdeal.main_arg1))
      ∧ r.2.sem = fun _ => 0)

def quiescent_KernelDatt [hKernelDatt : Cert.KernelDatt.Facts] : Prop :=
  ∀ (m : (ℓ : Loc Cert.KernelDatt.nD Cert.KernelDatt.τ Cert.KernelDatt.sig) → Buf (Elt Bits) ℓ) (g : Dev Cert.KernelDatt.nD → PrngReg), Pre_KernelDatt m →
    θ_run (Cert.KernelDatt.defs (F := Bits)) (onTc (τ := Cert.KernelDatt.τ) (Cert.KernelDatt.main (F := Bits))) ⟨m, fun _ => 0, g⟩ (fun r => (∀ c : Dev Cert.KernelDatt.nD,
      r.2.mem ((c.tc : Thread Cert.KernelDatt.nD Cert.KernelDatt.τ).loc Cert.KernelDatt.main_arg0) = m ((c.tc : Thread Cert.KernelDatt.nD Cert.KernelDatt.τ).loc Cert.KernelDatt.main_arg0)
      ∧ r.2.mem ((c.tc : Thread Cert.KernelDatt.nD Cert.KernelDatt.τ).loc Cert.KernelDatt.main_arg1) = m ((c.tc : Thread Cert.KernelDatt.nD Cert.KernelDatt.τ).loc Cert.KernelDatt.main_arg1))
      ∧ r.2.sem = fun _ => 0)

def quiescent_KernelDattIdeal [hKernelDattIdeal : Cert.KernelDattIdeal.Facts] : Prop :=
  ∀ (m : (ℓ : Loc Cert.KernelDattIdeal.nD Cert.KernelDattIdeal.τ Cert.KernelDattIdeal.sig) → Buf (Elt Ideal) ℓ) (g : Dev Cert.KernelDattIdeal.nD → PrngReg), Pre_KernelDattIdeal m →
    θ_run (Cert.KernelDattIdeal.defs (F := Ideal)) (onTc (τ := Cert.KernelDattIdeal.τ) (Cert.KernelDattIdeal.main (F := Ideal))) ⟨m, fun _ => 0, g⟩ (fun r => (∀ c : Dev Cert.KernelDattIdeal.nD,
      r.2.mem ((c.tc : Thread Cert.KernelDattIdeal.nD Cert.KernelDattIdeal.τ).loc Cert.KernelDattIdeal.main_arg0) = m ((c.tc : Thread Cert.KernelDattIdeal.nD Cert.KernelDattIdeal.τ).loc Cert.KernelDattIdeal.main_arg0)
      ∧ r.2.mem ((c.tc : Thread Cert.KernelDattIdeal.nD Cert.KernelDattIdeal.τ).loc Cert.KernelDattIdeal.main_arg1) = m ((c.tc : Thread Cert.KernelDattIdeal.nD Cert.KernelDattIdeal.τ).loc Cert.KernelDattIdeal.main_arg1))
      ∧ r.2.sem = fun _ => 0)

def quiescent_ReferenceDattIdeal [hReferenceDattIdeal : Cert.ReferenceDattIdeal.Facts] : Prop :=
  ∀ (m : (ℓ : Loc Cert.ReferenceDattIdeal.nD Cert.ReferenceDattIdeal.τ Cert.ReferenceDattIdeal.sig) → Buf (Elt Ideal) ℓ) (g : Dev Cert.ReferenceDattIdeal.nD → PrngReg), Pre_ReferenceDattIdeal m →
    θ_run (Cert.ReferenceDattIdeal.defs (F := Ideal)) (onTc (τ := Cert.ReferenceDattIdeal.τ) (Cert.ReferenceDattIdeal.main (F := Ideal))) ⟨m, fun _ => 0, g⟩ (fun r => (∀ c : Dev Cert.ReferenceDattIdeal.nD,
      r.2.mem ((c.tc : Thread Cert.ReferenceDattIdeal.nD Cert.ReferenceDattIdeal.τ).loc Cert.ReferenceDattIdeal.main_arg0) = m ((c.tc : Thread Cert.ReferenceDattIdeal.nD Cert.ReferenceDattIdeal.τ).loc Cert.ReferenceDattIdeal.main_arg0)
      ∧ r.2.mem ((c.tc : Thread Cert.ReferenceDattIdeal.nD Cert.ReferenceDattIdeal.τ).loc Cert.ReferenceDattIdeal.main_arg1) = m ((c.tc : Thread Cert.ReferenceDattIdeal.nD Cert.ReferenceDattIdeal.τ).loc Cert.ReferenceDattIdeal.main_arg1))
      ∧ r.2.sem = fun _ => 0)

def quiescent_KernelZin [hKernelZin : Cert.KernelZin.Facts] : Prop :=
  ∀ (m : (ℓ : Loc Cert.KernelZin.nD Cert.KernelZin.τ Cert.KernelZin.sig) → Buf (Elt Bits) ℓ) (g : Dev Cert.KernelZin.nD → PrngReg), Pre_KernelZin m →
    θ_run (Cert.KernelZin.defs (F := Bits)) (onTc (τ := Cert.KernelZin.τ) (Cert.KernelZin.main (F := Bits))) ⟨m, fun _ => 0, g⟩ (fun r => (∀ c : Dev Cert.KernelZin.nD,
      r.2.mem ((c.tc : Thread Cert.KernelZin.nD Cert.KernelZin.τ).loc Cert.KernelZin.main_arg0) = m ((c.tc : Thread Cert.KernelZin.nD Cert.KernelZin.τ).loc Cert.KernelZin.main_arg0)
      ∧ r.2.mem ((c.tc : Thread Cert.KernelZin.nD Cert.KernelZin.τ).loc Cert.KernelZin.main_arg1) = m ((c.tc : Thread Cert.KernelZin.nD Cert.KernelZin.τ).loc Cert.KernelZin.main_arg1))
      ∧ r.2.sem = fun _ => 0)

def quiescent_KernelZinIdeal [hKernelZinIdeal : Cert.KernelZinIdeal.Facts] : Prop :=
  ∀ (m : (ℓ : Loc Cert.KernelZinIdeal.nD Cert.KernelZinIdeal.τ Cert.KernelZinIdeal.sig) → Buf (Elt Ideal) ℓ) (g : Dev Cert.KernelZinIdeal.nD → PrngReg), Pre_KernelZinIdeal m →
    θ_run (Cert.KernelZinIdeal.defs (F := Ideal)) (onTc (τ := Cert.KernelZinIdeal.τ) (Cert.KernelZinIdeal.main (F := Ideal))) ⟨m, fun _ => 0, g⟩ (fun r => (∀ c : Dev Cert.KernelZinIdeal.nD,
      r.2.mem ((c.tc : Thread Cert.KernelZinIdeal.nD Cert.KernelZinIdeal.τ).loc Cert.KernelZinIdeal.main_arg0) = m ((c.tc : Thread Cert.KernelZinIdeal.nD Cert.KernelZinIdeal.τ).loc Cert.KernelZinIdeal.main_arg0)
      ∧ r.2.mem ((c.tc : Thread Cert.KernelZinIdeal.nD Cert.KernelZinIdeal.τ).loc Cert.KernelZinIdeal.main_arg1) = m ((c.tc : Thread Cert.KernelZinIdeal.nD Cert.KernelZinIdeal.τ).loc Cert.KernelZinIdeal.main_arg1))
      ∧ r.2.sem = fun _ => 0)

def quiescent_ReferenceZinIdeal [hReferenceZinIdeal : Cert.ReferenceZinIdeal.Facts] : Prop :=
  ∀ (m : (ℓ : Loc Cert.ReferenceZinIdeal.nD Cert.ReferenceZinIdeal.τ Cert.ReferenceZinIdeal.sig) → Buf (Elt Ideal) ℓ) (g : Dev Cert.ReferenceZinIdeal.nD → PrngReg), Pre_ReferenceZinIdeal m →
    θ_run (Cert.ReferenceZinIdeal.defs (F := Ideal)) (onTc (τ := Cert.ReferenceZinIdeal.τ) (Cert.ReferenceZinIdeal.main (F := Ideal))) ⟨m, fun _ => 0, g⟩ (fun r => (∀ c : Dev Cert.ReferenceZinIdeal.nD,
      r.2.mem ((c.tc : Thread Cert.ReferenceZinIdeal.nD Cert.ReferenceZinIdeal.τ).loc Cert.ReferenceZinIdeal.main_arg0) = m ((c.tc : Thread Cert.ReferenceZinIdeal.nD Cert.ReferenceZinIdeal.τ).loc Cert.ReferenceZinIdeal.main_arg0)
      ∧ r.2.mem ((c.tc : Thread Cert.ReferenceZinIdeal.nD Cert.ReferenceZinIdeal.τ).loc Cert.ReferenceZinIdeal.main_arg1) = m ((c.tc : Thread Cert.ReferenceZinIdeal.nD Cert.ReferenceZinIdeal.τ).loc Cert.ReferenceZinIdeal.main_arg1))
      ∧ r.2.sem = fun _ => 0)

def quiescent_KernelZout [hKernelZout : Cert.KernelZout.Facts] : Prop :=
  ∀ (m : (ℓ : Loc Cert.KernelZout.nD Cert.KernelZout.τ Cert.KernelZout.sig) → Buf (Elt Bits) ℓ) (g : Dev Cert.KernelZout.nD → PrngReg), Pre_KernelZout m →
    θ_run (Cert.KernelZout.defs (F := Bits)) (onTc (τ := Cert.KernelZout.τ) (Cert.KernelZout.main (F := Bits))) ⟨m, fun _ => 0, g⟩ (fun r => (∀ c : Dev Cert.KernelZout.nD,
      r.2.mem ((c.tc : Thread Cert.KernelZout.nD Cert.KernelZout.τ).loc Cert.KernelZout.main_arg0) = m ((c.tc : Thread Cert.KernelZout.nD Cert.KernelZout.τ).loc Cert.KernelZout.main_arg0)
      ∧ r.2.mem ((c.tc : Thread Cert.KernelZout.nD Cert.KernelZout.τ).loc Cert.KernelZout.main_arg1) = m ((c.tc : Thread Cert.KernelZout.nD Cert.KernelZout.τ).loc Cert.KernelZout.main_arg1)
      ∧ r.2.mem ((c.tc : Thread Cert.KernelZout.nD Cert.KernelZout.τ).loc Cert.KernelZout.main_arg2) = m ((c.tc : Thread Cert.KernelZout.nD Cert.KernelZout.τ).loc Cert.KernelZout.main_arg2))
      ∧ r.2.sem = fun _ => 0)

def quiescent_KernelZoutIdeal [hKernelZoutIdeal : Cert.KernelZoutIdeal.Facts] : Prop :=
  ∀ (m : (ℓ : Loc Cert.KernelZoutIdeal.nD Cert.KernelZoutIdeal.τ Cert.KernelZoutIdeal.sig) → Buf (Elt Ideal) ℓ) (g : Dev Cert.KernelZoutIdeal.nD → PrngReg), Pre_KernelZoutIdeal m →
    θ_run (Cert.KernelZoutIdeal.defs (F := Ideal)) (onTc (τ := Cert.KernelZoutIdeal.τ) (Cert.KernelZoutIdeal.main (F := Ideal))) ⟨m, fun _ => 0, g⟩ (fun r => (∀ c : Dev Cert.KernelZoutIdeal.nD,
      r.2.mem ((c.tc : Thread Cert.KernelZoutIdeal.nD Cert.KernelZoutIdeal.τ).loc Cert.KernelZoutIdeal.main_arg0) = m ((c.tc : Thread Cert.KernelZoutIdeal.nD Cert.KernelZoutIdeal.τ).loc Cert.KernelZoutIdeal.main_arg0)
      ∧ r.2.mem ((c.tc : Thread Cert.KernelZoutIdeal.nD Cert.KernelZoutIdeal.τ).loc Cert.KernelZoutIdeal.main_arg1) = m ((c.tc : Thread Cert.KernelZoutIdeal.nD Cert.KernelZoutIdeal.τ).loc Cert.KernelZoutIdeal.main_arg1)
      ∧ r.2.mem ((c.tc : Thread Cert.KernelZoutIdeal.nD Cert.KernelZoutIdeal.τ).loc Cert.KernelZoutIdeal.main_arg2) = m ((c.tc : Thread Cert.KernelZoutIdeal.nD Cert.KernelZoutIdeal.τ).loc Cert.KernelZoutIdeal.main_arg2))
      ∧ r.2.sem = fun _ => 0)

def quiescent_ReferenceZoutIdeal [hReferenceZoutIdeal : Cert.ReferenceZoutIdeal.Facts] : Prop :=
  ∀ (m : (ℓ : Loc Cert.ReferenceZoutIdeal.nD Cert.ReferenceZoutIdeal.τ Cert.ReferenceZoutIdeal.sig) → Buf (Elt Ideal) ℓ) (g : Dev Cert.ReferenceZoutIdeal.nD → PrngReg), Pre_ReferenceZoutIdeal m →
    θ_run (Cert.ReferenceZoutIdeal.defs (F := Ideal)) (onTc (τ := Cert.ReferenceZoutIdeal.τ) (Cert.ReferenceZoutIdeal.main (F := Ideal))) ⟨m, fun _ => 0, g⟩ (fun r => (∀ c : Dev Cert.ReferenceZoutIdeal.nD,
      r.2.mem ((c.tc : Thread Cert.ReferenceZoutIdeal.nD Cert.ReferenceZoutIdeal.τ).loc Cert.ReferenceZoutIdeal.main_arg0) = m ((c.tc : Thread Cert.ReferenceZoutIdeal.nD Cert.ReferenceZoutIdeal.τ).loc Cert.ReferenceZoutIdeal.main_arg0)
      ∧ r.2.mem ((c.tc : Thread Cert.ReferenceZoutIdeal.nD Cert.ReferenceZoutIdeal.τ).loc Cert.ReferenceZoutIdeal.main_arg1) = m ((c.tc : Thread Cert.ReferenceZoutIdeal.nD Cert.ReferenceZoutIdeal.τ).loc Cert.ReferenceZoutIdeal.main_arg1)
      ∧ r.2.mem ((c.tc : Thread Cert.ReferenceZoutIdeal.nD Cert.ReferenceZoutIdeal.τ).loc Cert.ReferenceZoutIdeal.main_arg2) = m ((c.tc : Thread Cert.ReferenceZoutIdeal.nD Cert.ReferenceZoutIdeal.τ).loc Cert.ReferenceZoutIdeal.main_arg2))
      ∧ r.2.sem = fun _ => 0)

def quiescent_KernelZmain [hKernelZmain : Cert.KernelZmain.Facts] : Prop :=
  ∀ (m : (ℓ : Loc Cert.KernelZmain.nD Cert.KernelZmain.τ Cert.KernelZmain.sig) → Buf (Elt Bits) ℓ) (g : Dev Cert.KernelZmain.nD → PrngReg), Pre_KernelZmain m →
    θ_run (Cert.KernelZmain.defs (F := Bits)) (onTc (τ := Cert.KernelZmain.τ) (Cert.KernelZmain.main (F := Bits))) ⟨m, fun _ => 0, g⟩ (fun r => (∀ c : Dev Cert.KernelZmain.nD,
      r.2.mem ((c.tc : Thread Cert.KernelZmain.nD Cert.KernelZmain.τ).loc Cert.KernelZmain.main_arg0) = m ((c.tc : Thread Cert.KernelZmain.nD Cert.KernelZmain.τ).loc Cert.KernelZmain.main_arg0)
      ∧ r.2.mem ((c.tc : Thread Cert.KernelZmain.nD Cert.KernelZmain.τ).loc Cert.KernelZmain.main_arg1) = m ((c.tc : Thread Cert.KernelZmain.nD Cert.KernelZmain.τ).loc Cert.KernelZmain.main_arg1))
      ∧ r.2.sem = fun _ => 0)

def quiescent_KernelZmainIdeal [hKernelZmainIdeal : Cert.KernelZmainIdeal.Facts] : Prop :=
  ∀ (m : (ℓ : Loc Cert.KernelZmainIdeal.nD Cert.KernelZmainIdeal.τ Cert.KernelZmainIdeal.sig) → Buf (Elt Ideal) ℓ) (g : Dev Cert.KernelZmainIdeal.nD → PrngReg), Pre_KernelZmainIdeal m →
    θ_run (Cert.KernelZmainIdeal.defs (F := Ideal)) (onTc (τ := Cert.KernelZmainIdeal.τ) (Cert.KernelZmainIdeal.main (F := Ideal))) ⟨m, fun _ => 0, g⟩ (fun r => (∀ c : Dev Cert.KernelZmainIdeal.nD,
      r.2.mem ((c.tc : Thread Cert.KernelZmainIdeal.nD Cert.KernelZmainIdeal.τ).loc Cert.KernelZmainIdeal.main_arg0) = m ((c.tc : Thread Cert.KernelZmainIdeal.nD Cert.KernelZmainIdeal.τ).loc Cert.KernelZmainIdeal.main_arg0)
      ∧ r.2.mem ((c.tc : Thread Cert.KernelZmainIdeal.nD Cert.KernelZmainIdeal.τ).loc Cert.KernelZmainIdeal.main_arg1) = m ((c.tc : Thread Cert.KernelZmainIdeal.nD Cert.KernelZmainIdeal.τ).loc Cert.KernelZmainIdeal.main_arg1))
      ∧ r.2.sem = fun _ => 0)

def quiescent_ReferenceZmainIdeal [hReferenceZmainIdeal : Cert.ReferenceZmainIdeal.Facts] : Prop :=
  ∀ (m : (ℓ : Loc Cert.ReferenceZmainIdeal.nD Cert.ReferenceZmainIdeal.τ Cert.ReferenceZmainIdeal.sig) → Buf (Elt Ideal) ℓ) (g : Dev Cert.ReferenceZmainIdeal.nD → PrngReg), Pre_ReferenceZmainIdeal m →
    θ_run (Cert.ReferenceZmainIdeal.defs (F := Ideal)) (onTc (τ := Cert.ReferenceZmainIdeal.τ) (Cert.ReferenceZmainIdeal.main (F := Ideal))) ⟨m, fun _ => 0, g⟩ (fun r => (∀ c : Dev Cert.ReferenceZmainIdeal.nD,
      r.2.mem ((c.tc : Thread Cert.ReferenceZmainIdeal.nD Cert.ReferenceZmainIdeal.τ).loc Cert.ReferenceZmainIdeal.main_arg0) = m ((c.tc : Thread Cert.ReferenceZmainIdeal.nD Cert.ReferenceZmainIdeal.τ).loc Cert.ReferenceZmainIdeal.main_arg0)
      ∧ r.2.mem ((c.tc : Thread Cert.ReferenceZmainIdeal.nD Cert.ReferenceZmainIdeal.τ).loc Cert.ReferenceZmainIdeal.main_arg1) = m ((c.tc : Thread Cert.ReferenceZmainIdeal.nD Cert.ReferenceZmainIdeal.τ).loc Cert.ReferenceZmainIdeal.main_arg1))
      ∧ r.2.sem = fun _ => 0)

def quiescent_KernelZf [hKernelZf : Cert.KernelZf.Facts] : Prop :=
  ∀ (m : (ℓ : Loc Cert.KernelZf.nD Cert.KernelZf.τ Cert.KernelZf.sig) → Buf (Elt Bits) ℓ) (g : Dev Cert.KernelZf.nD → PrngReg), Pre_KernelZf m →
    θ_run (Cert.KernelZf.defs (F := Bits)) (onTc (τ := Cert.KernelZf.τ) (Cert.KernelZf.main (F := Bits))) ⟨m, fun _ => 0, g⟩ (fun r => (∀ c : Dev Cert.KernelZf.nD,
      r.2.mem ((c.tc : Thread Cert.KernelZf.nD Cert.KernelZf.τ).loc Cert.KernelZf.main_arg0) = m ((c.tc : Thread Cert.KernelZf.nD Cert.KernelZf.τ).loc Cert.KernelZf.main_arg0)
      ∧ r.2.mem ((c.tc : Thread Cert.KernelZf.nD Cert.KernelZf.τ).loc Cert.KernelZf.main_arg1) = m ((c.tc : Thread Cert.KernelZf.nD Cert.KernelZf.τ).loc Cert.KernelZf.main_arg1))
      ∧ r.2.sem = fun _ => 0)

def quiescent_KernelZfIdeal [hKernelZfIdeal : Cert.KernelZfIdeal.Facts] : Prop :=
  ∀ (m : (ℓ : Loc Cert.KernelZfIdeal.nD Cert.KernelZfIdeal.τ Cert.KernelZfIdeal.sig) → Buf (Elt Ideal) ℓ) (g : Dev Cert.KernelZfIdeal.nD → PrngReg), Pre_KernelZfIdeal m →
    θ_run (Cert.KernelZfIdeal.defs (F := Ideal)) (onTc (τ := Cert.KernelZfIdeal.τ) (Cert.KernelZfIdeal.main (F := Ideal))) ⟨m, fun _ => 0, g⟩ (fun r => (∀ c : Dev Cert.KernelZfIdeal.nD,
      r.2.mem ((c.tc : Thread Cert.KernelZfIdeal.nD Cert.KernelZfIdeal.τ).loc Cert.KernelZfIdeal.main_arg0) = m ((c.tc : Thread Cert.KernelZfIdeal.nD Cert.KernelZfIdeal.τ).loc Cert.KernelZfIdeal.main_arg0)
      ∧ r.2.mem ((c.tc : Thread Cert.KernelZfIdeal.nD Cert.KernelZfIdeal.τ).loc Cert.KernelZfIdeal.main_arg1) = m ((c.tc : Thread Cert.KernelZfIdeal.nD Cert.KernelZfIdeal.τ).loc Cert.KernelZfIdeal.main_arg1))
      ∧ r.2.sem = fun _ => 0)

def quiescent_ReferenceZfIdeal [hReferenceZfIdeal : Cert.ReferenceZfIdeal.Facts] : Prop :=
  ∀ (m : (ℓ : Loc Cert.ReferenceZfIdeal.nD Cert.ReferenceZfIdeal.τ Cert.ReferenceZfIdeal.sig) → Buf (Elt Ideal) ℓ) (g : Dev Cert.ReferenceZfIdeal.nD → PrngReg), Pre_ReferenceZfIdeal m →
    θ_run (Cert.ReferenceZfIdeal.defs (F := Ideal)) (onTc (τ := Cert.ReferenceZfIdeal.τ) (Cert.ReferenceZfIdeal.main (F := Ideal))) ⟨m, fun _ => 0, g⟩ (fun r => (∀ c : Dev Cert.ReferenceZfIdeal.nD,
      r.2.mem ((c.tc : Thread Cert.ReferenceZfIdeal.nD Cert.ReferenceZfIdeal.τ).loc Cert.ReferenceZfIdeal.main_arg0) = m ((c.tc : Thread Cert.ReferenceZfIdeal.nD Cert.ReferenceZfIdeal.τ).loc Cert.ReferenceZfIdeal.main_arg0)
      ∧ r.2.mem ((c.tc : Thread Cert.ReferenceZfIdeal.nD Cert.ReferenceZfIdeal.τ).loc Cert.ReferenceZfIdeal.main_arg1) = m ((c.tc : Thread Cert.ReferenceZfIdeal.nD Cert.ReferenceZfIdeal.τ).loc Cert.ReferenceZfIdeal.main_arg1))
      ∧ r.2.sem = fun _ => 0)

def quiescent_KernelZatt [hKernelZatt : Cert.KernelZatt.Facts] : Prop :=
  ∀ (m : (ℓ : Loc Cert.KernelZatt.nD Cert.KernelZatt.τ Cert.KernelZatt.sig) → Buf (Elt Bits) ℓ) (g : Dev Cert.KernelZatt.nD → PrngReg), Pre_KernelZatt m →
    θ_run (Cert.KernelZatt.defs (F := Bits)) (onTc (τ := Cert.KernelZatt.τ) (Cert.KernelZatt.main (F := Bits))) ⟨m, fun _ => 0, g⟩ (fun r => (∀ c : Dev Cert.KernelZatt.nD,
      r.2.mem ((c.tc : Thread Cert.KernelZatt.nD Cert.KernelZatt.τ).loc Cert.KernelZatt.main_arg0) = m ((c.tc : Thread Cert.KernelZatt.nD Cert.KernelZatt.τ).loc Cert.KernelZatt.main_arg0)
      ∧ r.2.mem ((c.tc : Thread Cert.KernelZatt.nD Cert.KernelZatt.τ).loc Cert.KernelZatt.main_arg1) = m ((c.tc : Thread Cert.KernelZatt.nD Cert.KernelZatt.τ).loc Cert.KernelZatt.main_arg1))
      ∧ r.2.sem = fun _ => 0)

def quiescent_KernelZattIdeal [hKernelZattIdeal : Cert.KernelZattIdeal.Facts] : Prop :=
  ∀ (m : (ℓ : Loc Cert.KernelZattIdeal.nD Cert.KernelZattIdeal.τ Cert.KernelZattIdeal.sig) → Buf (Elt Ideal) ℓ) (g : Dev Cert.KernelZattIdeal.nD → PrngReg), Pre_KernelZattIdeal m →
    θ_run (Cert.KernelZattIdeal.defs (F := Ideal)) (onTc (τ := Cert.KernelZattIdeal.τ) (Cert.KernelZattIdeal.main (F := Ideal))) ⟨m, fun _ => 0, g⟩ (fun r => (∀ c : Dev Cert.KernelZattIdeal.nD,
      r.2.mem ((c.tc : Thread Cert.KernelZattIdeal.nD Cert.KernelZattIdeal.τ).loc Cert.KernelZattIdeal.main_arg0) = m ((c.tc : Thread Cert.KernelZattIdeal.nD Cert.KernelZattIdeal.τ).loc Cert.KernelZattIdeal.main_arg0)
      ∧ r.2.mem ((c.tc : Thread Cert.KernelZattIdeal.nD Cert.KernelZattIdeal.τ).loc Cert.KernelZattIdeal.main_arg1) = m ((c.tc : Thread Cert.KernelZattIdeal.nD Cert.KernelZattIdeal.τ).loc Cert.KernelZattIdeal.main_arg1))
      ∧ r.2.sem = fun _ => 0)

def quiescent_ReferenceZattIdeal [hReferenceZattIdeal : Cert.ReferenceZattIdeal.Facts] : Prop :=
  ∀ (m : (ℓ : Loc Cert.ReferenceZattIdeal.nD Cert.ReferenceZattIdeal.τ Cert.ReferenceZattIdeal.sig) → Buf (Elt Ideal) ℓ) (g : Dev Cert.ReferenceZattIdeal.nD → PrngReg), Pre_ReferenceZattIdeal m →
    θ_run (Cert.ReferenceZattIdeal.defs (F := Ideal)) (onTc (τ := Cert.ReferenceZattIdeal.τ) (Cert.ReferenceZattIdeal.main (F := Ideal))) ⟨m, fun _ => 0, g⟩ (fun r => (∀ c : Dev Cert.ReferenceZattIdeal.nD,
      r.2.mem ((c.tc : Thread Cert.ReferenceZattIdeal.nD Cert.ReferenceZattIdeal.τ).loc Cert.ReferenceZattIdeal.main_arg0) = m ((c.tc : Thread Cert.ReferenceZattIdeal.nD Cert.ReferenceZattIdeal.τ).loc Cert.ReferenceZattIdeal.main_arg0)
      ∧ r.2.mem ((c.tc : Thread Cert.ReferenceZattIdeal.nD Cert.ReferenceZattIdeal.τ).loc Cert.ReferenceZattIdeal.main_arg1) = m ((c.tc : Thread Cert.ReferenceZattIdeal.nD Cert.ReferenceZattIdeal.τ).loc Cert.ReferenceZattIdeal.main_arg1))
      ∧ r.2.sem = fun _ => 0)

def quiescent_KernelZmix [hKernelZmix : Cert.KernelZmix.Facts] : Prop :=
  ∀ (m : (ℓ : Loc Cert.KernelZmix.nD Cert.KernelZmix.τ Cert.KernelZmix.sig) → Buf (Elt Bits) ℓ) (g : Dev Cert.KernelZmix.nD → PrngReg), Pre_KernelZmix m →
    θ_run (Cert.KernelZmix.defs (F := Bits)) (onTc (τ := Cert.KernelZmix.τ) (Cert.KernelZmix.main (F := Bits))) ⟨m, fun _ => 0, g⟩ (fun r => (∀ c : Dev Cert.KernelZmix.nD,
      r.2.mem ((c.tc : Thread Cert.KernelZmix.nD Cert.KernelZmix.τ).loc Cert.KernelZmix.main_arg0) = m ((c.tc : Thread Cert.KernelZmix.nD Cert.KernelZmix.τ).loc Cert.KernelZmix.main_arg0)
      ∧ r.2.mem ((c.tc : Thread Cert.KernelZmix.nD Cert.KernelZmix.τ).loc Cert.KernelZmix.main_arg1) = m ((c.tc : Thread Cert.KernelZmix.nD Cert.KernelZmix.τ).loc Cert.KernelZmix.main_arg1)
      ∧ r.2.mem ((c.tc : Thread Cert.KernelZmix.nD Cert.KernelZmix.τ).loc Cert.KernelZmix.main_arg2) = m ((c.tc : Thread Cert.KernelZmix.nD Cert.KernelZmix.τ).loc Cert.KernelZmix.main_arg2))
      ∧ r.2.sem = fun _ => 0)

def quiescent_KernelZmixIdeal [hKernelZmixIdeal : Cert.KernelZmixIdeal.Facts] : Prop :=
  ∀ (m : (ℓ : Loc Cert.KernelZmixIdeal.nD Cert.KernelZmixIdeal.τ Cert.KernelZmixIdeal.sig) → Buf (Elt Ideal) ℓ) (g : Dev Cert.KernelZmixIdeal.nD → PrngReg), Pre_KernelZmixIdeal m →
    θ_run (Cert.KernelZmixIdeal.defs (F := Ideal)) (onTc (τ := Cert.KernelZmixIdeal.τ) (Cert.KernelZmixIdeal.main (F := Ideal))) ⟨m, fun _ => 0, g⟩ (fun r => (∀ c : Dev Cert.KernelZmixIdeal.nD,
      r.2.mem ((c.tc : Thread Cert.KernelZmixIdeal.nD Cert.KernelZmixIdeal.τ).loc Cert.KernelZmixIdeal.main_arg0) = m ((c.tc : Thread Cert.KernelZmixIdeal.nD Cert.KernelZmixIdeal.τ).loc Cert.KernelZmixIdeal.main_arg0)
      ∧ r.2.mem ((c.tc : Thread Cert.KernelZmixIdeal.nD Cert.KernelZmixIdeal.τ).loc Cert.KernelZmixIdeal.main_arg1) = m ((c.tc : Thread Cert.KernelZmixIdeal.nD Cert.KernelZmixIdeal.τ).loc Cert.KernelZmixIdeal.main_arg1)
      ∧ r.2.mem ((c.tc : Thread Cert.KernelZmixIdeal.nD Cert.KernelZmixIdeal.τ).loc Cert.KernelZmixIdeal.main_arg2) = m ((c.tc : Thread Cert.KernelZmixIdeal.nD Cert.KernelZmixIdeal.τ).loc Cert.KernelZmixIdeal.main_arg2))
      ∧ r.2.sem = fun _ => 0)

def quiescent_ReferenceZmixIdeal [hReferenceZmixIdeal : Cert.ReferenceZmixIdeal.Facts] : Prop :=
  ∀ (m : (ℓ : Loc Cert.ReferenceZmixIdeal.nD Cert.ReferenceZmixIdeal.τ Cert.ReferenceZmixIdeal.sig) → Buf (Elt Ideal) ℓ) (g : Dev Cert.ReferenceZmixIdeal.nD → PrngReg), Pre_ReferenceZmixIdeal m →
    θ_run (Cert.ReferenceZmixIdeal.defs (F := Ideal)) (onTc (τ := Cert.ReferenceZmixIdeal.τ) (Cert.ReferenceZmixIdeal.main (F := Ideal))) ⟨m, fun _ => 0, g⟩ (fun r => (∀ c : Dev Cert.ReferenceZmixIdeal.nD,
      r.2.mem ((c.tc : Thread Cert.ReferenceZmixIdeal.nD Cert.ReferenceZmixIdeal.τ).loc Cert.ReferenceZmixIdeal.main_arg0) = m ((c.tc : Thread Cert.ReferenceZmixIdeal.nD Cert.ReferenceZmixIdeal.τ).loc Cert.ReferenceZmixIdeal.main_arg0)
      ∧ r.2.mem ((c.tc : Thread Cert.ReferenceZmixIdeal.nD Cert.ReferenceZmixIdeal.τ).loc Cert.ReferenceZmixIdeal.main_arg1) = m ((c.tc : Thread Cert.ReferenceZmixIdeal.nD Cert.ReferenceZmixIdeal.τ).loc Cert.ReferenceZmixIdeal.main_arg1)
      ∧ r.2.mem ((c.tc : Thread Cert.ReferenceZmixIdeal.nD Cert.ReferenceZmixIdeal.τ).loc Cert.ReferenceZmixIdeal.main_arg2) = m ((c.tc : Thread Cert.ReferenceZmixIdeal.nD Cert.ReferenceZmixIdeal.τ).loc Cert.ReferenceZmixIdeal.main_arg2))
      ∧ r.2.sem = fun _ => 0)

def quiescent_KernelZsq [hKernelZsq : Cert.KernelZsq.Facts] : Prop :=
  ∀ (m : (ℓ : Loc Cert.KernelZsq.nD Cert.KernelZsq.τ Cert.KernelZsq.sig) → Buf (Elt Bits) ℓ) (g : Dev Cert.KernelZsq.nD → PrngReg), Pre_KernelZsq m →
    θ_run (Cert.KernelZsq.defs (F := Bits)) (onTc (τ := Cert.KernelZsq.τ) (Cert.KernelZsq.main (F := Bits))) ⟨m, fun _ => 0, g⟩ (fun r => (∀ c : Dev Cert.KernelZsq.nD,
      r.2.mem ((c.tc : Thread Cert.KernelZsq.nD Cert.KernelZsq.τ).loc Cert.KernelZsq.main_arg0) = m ((c.tc : Thread Cert.KernelZsq.nD Cert.KernelZsq.τ).loc Cert.KernelZsq.main_arg0)
      ∧ r.2.mem ((c.tc : Thread Cert.KernelZsq.nD Cert.KernelZsq.τ).loc Cert.KernelZsq.main_arg1) = m ((c.tc : Thread Cert.KernelZsq.nD Cert.KernelZsq.τ).loc Cert.KernelZsq.main_arg1))
      ∧ r.2.sem = fun _ => 0)

def quiescent_KernelZsqIdeal [hKernelZsqIdeal : Cert.KernelZsqIdeal.Facts] : Prop :=
  ∀ (m : (ℓ : Loc Cert.KernelZsqIdeal.nD Cert.KernelZsqIdeal.τ Cert.KernelZsqIdeal.sig) → Buf (Elt Ideal) ℓ) (g : Dev Cert.KernelZsqIdeal.nD → PrngReg), Pre_KernelZsqIdeal m →
    θ_run (Cert.KernelZsqIdeal.defs (F := Ideal)) (onTc (τ := Cert.KernelZsqIdeal.τ) (Cert.KernelZsqIdeal.main (F := Ideal))) ⟨m, fun _ => 0, g⟩ (fun r => (∀ c : Dev Cert.KernelZsqIdeal.nD,
      r.2.mem ((c.tc : Thread Cert.KernelZsqIdeal.nD Cert.KernelZsqIdeal.τ).loc Cert.KernelZsqIdeal.main_arg0) = m ((c.tc : Thread Cert.KernelZsqIdeal.nD Cert.KernelZsqIdeal.τ).loc Cert.KernelZsqIdeal.main_arg0)
      ∧ r.2.mem ((c.tc : Thread Cert.KernelZsqIdeal.nD Cert.KernelZsqIdeal.τ).loc Cert.KernelZsqIdeal.main_arg1) = m ((c.tc : Thread Cert.KernelZsqIdeal.nD Cert.KernelZsqIdeal.τ).loc Cert.KernelZsqIdeal.main_arg1))
      ∧ r.2.sem = fun _ => 0)

def quiescent_ReferenceZsqIdeal [hReferenceZsqIdeal : Cert.ReferenceZsqIdeal.Facts] : Prop :=
  ∀ (m : (ℓ : Loc Cert.ReferenceZsqIdeal.nD Cert.ReferenceZsqIdeal.τ Cert.ReferenceZsqIdeal.sig) → Buf (Elt Ideal) ℓ) (g : Dev Cert.ReferenceZsqIdeal.nD → PrngReg), Pre_ReferenceZsqIdeal m →
    θ_run (Cert.ReferenceZsqIdeal.defs (F := Ideal)) (onTc (τ := Cert.ReferenceZsqIdeal.τ) (Cert.ReferenceZsqIdeal.main (F := Ideal))) ⟨m, fun _ => 0, g⟩ (fun r => (∀ c : Dev Cert.ReferenceZsqIdeal.nD,
      r.2.mem ((c.tc : Thread Cert.ReferenceZsqIdeal.nD Cert.ReferenceZsqIdeal.τ).loc Cert.ReferenceZsqIdeal.main_arg0) = m ((c.tc : Thread Cert.ReferenceZsqIdeal.nD Cert.ReferenceZsqIdeal.τ).loc Cert.ReferenceZsqIdeal.main_arg0)
      ∧ r.2.mem ((c.tc : Thread Cert.ReferenceZsqIdeal.nD Cert.ReferenceZsqIdeal.τ).loc Cert.ReferenceZsqIdeal.main_arg1) = m ((c.tc : Thread Cert.ReferenceZsqIdeal.nD Cert.ReferenceZsqIdeal.τ).loc Cert.ReferenceZsqIdeal.main_arg1))
      ∧ r.2.sem = fun _ => 0)

def quiescent_KernelZple [hKernelZple : Cert.KernelZple.Facts] : Prop :=
  ∀ (m : (ℓ : Loc Cert.KernelZple.nD Cert.KernelZple.τ Cert.KernelZple.sig) → Buf (Elt Bits) ℓ) (g : Dev Cert.KernelZple.nD → PrngReg), Pre_KernelZple m →
    θ_run (Cert.KernelZple.defs (F := Bits)) (onTc (τ := Cert.KernelZple.τ) (Cert.KernelZple.main (F := Bits))) ⟨m, fun _ => 0, g⟩ (fun r => (∀ c : Dev Cert.KernelZple.nD,
      r.2.mem ((c.tc : Thread Cert.KernelZple.nD Cert.KernelZple.τ).loc Cert.KernelZple.main_arg0) = m ((c.tc : Thread Cert.KernelZple.nD Cert.KernelZple.τ).loc Cert.KernelZple.main_arg0)
      ∧ r.2.mem ((c.tc : Thread Cert.KernelZple.nD Cert.KernelZple.τ).loc Cert.KernelZple.main_arg1) = m ((c.tc : Thread Cert.KernelZple.nD Cert.KernelZple.τ).loc Cert.KernelZple.main_arg1))
      ∧ r.2.sem = fun _ => 0)

def quiescent_KernelZpleIdeal [hKernelZpleIdeal : Cert.KernelZpleIdeal.Facts] : Prop :=
  ∀ (m : (ℓ : Loc Cert.KernelZpleIdeal.nD Cert.KernelZpleIdeal.τ Cert.KernelZpleIdeal.sig) → Buf (Elt Ideal) ℓ) (g : Dev Cert.KernelZpleIdeal.nD → PrngReg), Pre_KernelZpleIdeal m →
    θ_run (Cert.KernelZpleIdeal.defs (F := Ideal)) (onTc (τ := Cert.KernelZpleIdeal.τ) (Cert.KernelZpleIdeal.main (F := Ideal))) ⟨m, fun _ => 0, g⟩ (fun r => (∀ c : Dev Cert.KernelZpleIdeal.nD,
      r.2.mem ((c.tc : Thread Cert.KernelZpleIdeal.nD Cert.KernelZpleIdeal.τ).loc Cert.KernelZpleIdeal.main_arg0) = m ((c.tc : Thread Cert.KernelZpleIdeal.nD Cert.KernelZpleIdeal.τ).loc Cert.KernelZpleIdeal.main_arg0)
      ∧ r.2.mem ((c.tc : Thread Cert.KernelZpleIdeal.nD Cert.KernelZpleIdeal.τ).loc Cert.KernelZpleIdeal.main_arg1) = m ((c.tc : Thread Cert.KernelZpleIdeal.nD Cert.KernelZpleIdeal.τ).loc Cert.KernelZpleIdeal.main_arg1))
      ∧ r.2.sem = fun _ => 0)

def quiescent_ReferenceZpleIdeal [hReferenceZpleIdeal : Cert.ReferenceZpleIdeal.Facts] : Prop :=
  ∀ (m : (ℓ : Loc Cert.ReferenceZpleIdeal.nD Cert.ReferenceZpleIdeal.τ Cert.ReferenceZpleIdeal.sig) → Buf (Elt Ideal) ℓ) (g : Dev Cert.ReferenceZpleIdeal.nD → PrngReg), Pre_ReferenceZpleIdeal m →
    θ_run (Cert.ReferenceZpleIdeal.defs (F := Ideal)) (onTc (τ := Cert.ReferenceZpleIdeal.τ) (Cert.ReferenceZpleIdeal.main (F := Ideal))) ⟨m, fun _ => 0, g⟩ (fun r => (∀ c : Dev Cert.ReferenceZpleIdeal.nD,
      r.2.mem ((c.tc : Thread Cert.ReferenceZpleIdeal.nD Cert.ReferenceZpleIdeal.τ).loc Cert.ReferenceZpleIdeal.main_arg0) = m ((c.tc : Thread Cert.ReferenceZpleIdeal.nD Cert.ReferenceZpleIdeal.τ).loc Cert.ReferenceZpleIdeal.main_arg0)
      ∧ r.2.mem ((c.tc : Thread Cert.ReferenceZpleIdeal.nD Cert.ReferenceZpleIdeal.τ).loc Cert.ReferenceZpleIdeal.main_arg1) = m ((c.tc : Thread Cert.ReferenceZpleIdeal.nD Cert.ReferenceZpleIdeal.τ).loc Cert.ReferenceZpleIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ r.2.sem = fun _ => 0)

def quiescent_KernelDactIdeal_pre_finite_act [hKernelDactIdeal : Cert.KernelDactIdeal.Facts] [hPre_finite_act : Cert.Pre_finite_act.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal_finite_act m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1))
      ∧ r.2.sem = fun _ => 0)

def quiescent_ReferenceDactIdeal_pre_finite_act [hReferenceDactIdeal : Cert.ReferenceDactIdeal.Facts] [hPre_finite_act : Cert.Pre_finite_act.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal_finite_act m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2))
      ∧ r.2.sem = fun _ => 0)

def quiescent_KernelDmerge [hKernelDmerge : Cert.KernelDmerge.Facts] : Prop :=
  ∀ (m : (ℓ : Loc Cert.KernelDmerge.nD Cert.KernelDmerge.τ Cert.KernelDmerge.sig) → Buf (Elt Bits) ℓ) (g : Dev Cert.KernelDmerge.nD → PrngReg), Pre_KernelDmerge m →
    θ_run (Cert.KernelDmerge.defs (F := Bits)) (onTc (τ := Cert.KernelDmerge.τ) (Cert.KernelDmerge.main (F := Bits))) ⟨m, fun _ => 0, g⟩ (fun r => (∀ c : Dev Cert.KernelDmerge.nD,
      r.2.mem ((c.tc : Thread Cert.KernelDmerge.nD Cert.KernelDmerge.τ).loc Cert.KernelDmerge.main_arg0) = m ((c.tc : Thread Cert.KernelDmerge.nD Cert.KernelDmerge.τ).loc Cert.KernelDmerge.main_arg0)
      ∧ r.2.mem ((c.tc : Thread Cert.KernelDmerge.nD Cert.KernelDmerge.τ).loc Cert.KernelDmerge.main_arg1) = m ((c.tc : Thread Cert.KernelDmerge.nD Cert.KernelDmerge.τ).loc Cert.KernelDmerge.main_arg1)
      ∧ r.2.mem ((c.tc : Thread Cert.KernelDmerge.nD Cert.KernelDmerge.τ).loc Cert.KernelDmerge.main_arg2) = m ((c.tc : Thread Cert.KernelDmerge.nD Cert.KernelDmerge.τ).loc Cert.KernelDmerge.main_arg2)
      ∧ r.2.mem ((c.tc : Thread Cert.KernelDmerge.nD Cert.KernelDmerge.τ).loc Cert.KernelDmerge.main_arg3) = m ((c.tc : Thread Cert.KernelDmerge.nD Cert.KernelDmerge.τ).loc Cert.KernelDmerge.main_arg3))
      ∧ r.2.sem = fun _ => 0)

def quiescent_KernelDmergeIdeal [hKernelDmergeIdeal : Cert.KernelDmergeIdeal.Facts] : Prop :=
  ∀ (m : (ℓ : Loc Cert.KernelDmergeIdeal.nD Cert.KernelDmergeIdeal.τ Cert.KernelDmergeIdeal.sig) → Buf (Elt Ideal) ℓ) (g : Dev Cert.KernelDmergeIdeal.nD → PrngReg), Pre_KernelDmergeIdeal m →
    θ_run (Cert.KernelDmergeIdeal.defs (F := Ideal)) (onTc (τ := Cert.KernelDmergeIdeal.τ) (Cert.KernelDmergeIdeal.main (F := Ideal))) ⟨m, fun _ => 0, g⟩ (fun r => (∀ c : Dev Cert.KernelDmergeIdeal.nD,
      r.2.mem ((c.tc : Thread Cert.KernelDmergeIdeal.nD Cert.KernelDmergeIdeal.τ).loc Cert.KernelDmergeIdeal.main_arg0) = m ((c.tc : Thread Cert.KernelDmergeIdeal.nD Cert.KernelDmergeIdeal.τ).loc Cert.KernelDmergeIdeal.main_arg0)
      ∧ r.2.mem ((c.tc : Thread Cert.KernelDmergeIdeal.nD Cert.KernelDmergeIdeal.τ).loc Cert.KernelDmergeIdeal.main_arg1) = m ((c.tc : Thread Cert.KernelDmergeIdeal.nD Cert.KernelDmergeIdeal.τ).loc Cert.KernelDmergeIdeal.main_arg1)
      ∧ r.2.mem ((c.tc : Thread Cert.KernelDmergeIdeal.nD Cert.KernelDmergeIdeal.τ).loc Cert.KernelDmergeIdeal.main_arg2) = m ((c.tc : Thread Cert.KernelDmergeIdeal.nD Cert.KernelDmergeIdeal.τ).loc Cert.KernelDmergeIdeal.main_arg2)
      ∧ r.2.mem ((c.tc : Thread Cert.KernelDmergeIdeal.nD Cert.KernelDmergeIdeal.τ).loc Cert.KernelDmergeIdeal.main_arg3) = m ((c.tc : Thread Cert.KernelDmergeIdeal.nD Cert.KernelDmergeIdeal.τ).loc Cert.KernelDmergeIdeal.main_arg3))
      ∧ r.2.sem = fun _ => 0)

def quiescent_ReferenceDmergeIdeal [hReferenceDmergeIdeal : Cert.ReferenceDmergeIdeal.Facts] : Prop :=
  ∀ (m : (ℓ : Loc Cert.ReferenceDmergeIdeal.nD Cert.ReferenceDmergeIdeal.τ Cert.ReferenceDmergeIdeal.sig) → Buf (Elt Ideal) ℓ) (g : Dev Cert.ReferenceDmergeIdeal.nD → PrngReg), Pre_ReferenceDmergeIdeal m →
    θ_run (Cert.ReferenceDmergeIdeal.defs (F := Ideal)) (onTc (τ := Cert.ReferenceDmergeIdeal.τ) (Cert.ReferenceDmergeIdeal.main (F := Ideal))) ⟨m, fun _ => 0, g⟩ (fun r => (∀ c : Dev Cert.ReferenceDmergeIdeal.nD,
      r.2.mem ((c.tc : Thread Cert.ReferenceDmergeIdeal.nD Cert.ReferenceDmergeIdeal.τ).loc Cert.ReferenceDmergeIdeal.main_arg0) = m ((c.tc : Thread Cert.ReferenceDmergeIdeal.nD Cert.ReferenceDmergeIdeal.τ).loc Cert.ReferenceDmergeIdeal.main_arg0)
      ∧ r.2.mem ((c.tc : Thread Cert.ReferenceDmergeIdeal.nD Cert.ReferenceDmergeIdeal.τ).loc Cert.ReferenceDmergeIdeal.main_arg1) = m ((c.tc : Thread Cert.ReferenceDmergeIdeal.nD Cert.ReferenceDmergeIdeal.τ).loc Cert.ReferenceDmergeIdeal.main_arg1)
      ∧ r.2.mem ((c.tc : Thread Cert.ReferenceDmergeIdeal.nD Cert.ReferenceDmergeIdeal.τ).loc Cert.ReferenceDmergeIdeal.main_arg2) = m ((c.tc : Thread Cert.ReferenceDmergeIdeal.nD Cert.ReferenceDmergeIdeal.τ).loc Cert.ReferenceDmergeIdeal.main_arg2)
      ∧ r.2.mem ((c.tc : Thread Cert.ReferenceDmergeIdeal.nD Cert.ReferenceDmergeIdeal.τ).loc Cert.ReferenceDmergeIdeal.main_arg3) = m ((c.tc : Thread Cert.ReferenceDmergeIdeal.nD Cert.ReferenceDmergeIdeal.τ).loc Cert.ReferenceDmergeIdeal.main_arg3))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2))
      ∧ r.2.sem = fun _ => 0)

def quiescent_KernelDmix [hKernelDmix : Cert.KernelDmix.Facts] : Prop :=
  ∀ (m : (ℓ : Loc Cert.KernelDmix.nD Cert.KernelDmix.τ Cert.KernelDmix.sig) → Buf (Elt Bits) ℓ) (g : Dev Cert.KernelDmix.nD → PrngReg), Pre_KernelDmix m →
    θ_run (Cert.KernelDmix.defs (F := Bits)) (onTc (τ := Cert.KernelDmix.τ) (Cert.KernelDmix.main (F := Bits))) ⟨m, fun _ => 0, g⟩ (fun r => (∀ c : Dev Cert.KernelDmix.nD,
      r.2.mem ((c.tc : Thread Cert.KernelDmix.nD Cert.KernelDmix.τ).loc Cert.KernelDmix.main_arg0) = m ((c.tc : Thread Cert.KernelDmix.nD Cert.KernelDmix.τ).loc Cert.KernelDmix.main_arg0)
      ∧ r.2.mem ((c.tc : Thread Cert.KernelDmix.nD Cert.KernelDmix.τ).loc Cert.KernelDmix.main_arg1) = m ((c.tc : Thread Cert.KernelDmix.nD Cert.KernelDmix.τ).loc Cert.KernelDmix.main_arg1)
      ∧ r.2.mem ((c.tc : Thread Cert.KernelDmix.nD Cert.KernelDmix.τ).loc Cert.KernelDmix.main_arg2) = m ((c.tc : Thread Cert.KernelDmix.nD Cert.KernelDmix.τ).loc Cert.KernelDmix.main_arg2))
      ∧ r.2.sem = fun _ => 0)

def quiescent_KernelDmixIdeal [hKernelDmixIdeal : Cert.KernelDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg), Pre_KernelDmixIdeal m →
    θ_run (Cert.KernelDmixIdeal.defs (F := Ideal)) (onTc (τ := Cert.KernelDmixIdeal.τ) (Cert.KernelDmixIdeal.main (F := Ideal))) ⟨m, fun _ => 0, g⟩ (fun r => (∀ c : Dev Cert.KernelDmixIdeal.nD,
      r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
      ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1)
      ∧ r.2.mem ((c.tc : Thread Cert.KernelDmixIdeal.nD Cert.KernelDmixIdeal.τ).loc Cert.KernelDmixIdeal.main_arg2) = m ((c.tc : Thread Cert.KernelDmixIdeal.nD Cert.KernelDmixIdeal.τ).loc Cert.KernelDmixIdeal.main_arg2))
      ∧ r.2.sem = fun _ => 0)

def quiescent_ReferenceDmixIdeal [hReferenceDmixIdeal : Cert.ReferenceDmixIdeal.Facts] : Prop :=
  ∀ (m : (ℓ : Loc Cert.ReferenceDmixIdeal.nD Cert.ReferenceDmixIdeal.τ Cert.ReferenceDmixIdeal.sig) → Buf (Elt Ideal) ℓ) (g : Dev Cert.ReferenceDmixIdeal.nD → PrngReg), Pre_ReferenceDmixIdeal m →
    θ_run (Cert.ReferenceDmixIdeal.defs (F := Ideal)) (onTc (τ := Cert.ReferenceDmixIdeal.τ) (Cert.ReferenceDmixIdeal.main (F := Ideal))) ⟨m, fun _ => 0, g⟩ (fun r => (∀ c : Dev Cert.ReferenceDmixIdeal.nD,
      r.2.mem ((c.tc : Thread Cert.ReferenceDmixIdeal.nD Cert.ReferenceDmixIdeal.τ).loc Cert.ReferenceDmixIdeal.main_arg0) = m ((c.tc : Thread Cert.ReferenceDmixIdeal.nD Cert.ReferenceDmixIdeal.τ).loc Cert.ReferenceDmixIdeal.main_arg0)
      ∧ r.2.mem ((c.tc : Thread Cert.ReferenceDmixIdeal.nD Cert.ReferenceDmixIdeal.τ).loc Cert.ReferenceDmixIdeal.main_arg1) = m ((c.tc : Thread Cert.ReferenceDmixIdeal.nD Cert.ReferenceDmixIdeal.τ).loc Cert.ReferenceDmixIdeal.main_arg1)
      ∧ r.2.mem ((c.tc : Thread Cert.ReferenceDmixIdeal.nD Cert.ReferenceDmixIdeal.τ).loc Cert.ReferenceDmixIdeal.main_arg2) = m ((c.tc : Thread Cert.ReferenceDmixIdeal.nD Cert.ReferenceDmixIdeal.τ).loc Cert.ReferenceDmixIdeal.main_arg2))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0)

def quiescent_KernelDrms [hKernelDrms : Cert.KernelDrms.Facts] : Prop :=
  ∀ (m : (ℓ : Loc Cert.KernelDrms.nD Cert.KernelDrms.τ Cert.KernelDrms.sig) → Buf (Elt Bits) ℓ) (g : Dev Cert.KernelDrms.nD → PrngReg), Pre_KernelDrms m →
    θ_run (Cert.KernelDrms.defs (F := Bits)) (onTc (τ := Cert.KernelDrms.τ) (Cert.KernelDrms.main (F := Bits))) ⟨m, fun _ => 0, g⟩ (fun r => (∀ c : Dev Cert.KernelDrms.nD,
      r.2.mem ((c.tc : Thread Cert.KernelDrms.nD Cert.KernelDrms.τ).loc Cert.KernelDrms.main_arg0) = m ((c.tc : Thread Cert.KernelDrms.nD Cert.KernelDrms.τ).loc Cert.KernelDrms.main_arg0)
      ∧ r.2.mem ((c.tc : Thread Cert.KernelDrms.nD Cert.KernelDrms.τ).loc Cert.KernelDrms.main_arg1) = m ((c.tc : Thread Cert.KernelDrms.nD Cert.KernelDrms.τ).loc Cert.KernelDrms.main_arg1)
      ∧ r.2.mem ((c.tc : Thread Cert.KernelDrms.nD Cert.KernelDrms.τ).loc Cert.KernelDrms.main_arg2) = m ((c.tc : Thread Cert.KernelDrms.nD Cert.KernelDrms.τ).loc Cert.KernelDrms.main_arg2)
      ∧ r.2.mem ((c.tc : Thread Cert.KernelDrms.nD Cert.KernelDrms.τ).loc Cert.KernelDrms.main_arg3) = m ((c.tc : Thread Cert.KernelDrms.nD Cert.KernelDrms.τ).loc Cert.KernelDrms.main_arg3))
      ∧ r.2.sem = fun _ => 0)

def quiescent_KernelDrmsIdeal [hKernelDrmsIdeal : Cert.KernelDrmsIdeal.Facts] : Prop :=
  ∀ (m : (ℓ : Loc Cert.KernelDrmsIdeal.nD Cert.KernelDrmsIdeal.τ Cert.KernelDrmsIdeal.sig) → Buf (Elt Ideal) ℓ) (g : Dev Cert.KernelDrmsIdeal.nD → PrngReg), Pre_KernelDrmsIdeal m →
    θ_run (Cert.KernelDrmsIdeal.defs (F := Ideal)) (onTc (τ := Cert.KernelDrmsIdeal.τ) (Cert.KernelDrmsIdeal.main (F := Ideal))) ⟨m, fun _ => 0, g⟩ (fun r => (∀ c : Dev Cert.KernelDrmsIdeal.nD,
      r.2.mem ((c.tc : Thread Cert.KernelDrmsIdeal.nD Cert.KernelDrmsIdeal.τ).loc Cert.KernelDrmsIdeal.main_arg0) = m ((c.tc : Thread Cert.KernelDrmsIdeal.nD Cert.KernelDrmsIdeal.τ).loc Cert.KernelDrmsIdeal.main_arg0)
      ∧ r.2.mem ((c.tc : Thread Cert.KernelDrmsIdeal.nD Cert.KernelDrmsIdeal.τ).loc Cert.KernelDrmsIdeal.main_arg1) = m ((c.tc : Thread Cert.KernelDrmsIdeal.nD Cert.KernelDrmsIdeal.τ).loc Cert.KernelDrmsIdeal.main_arg1)
      ∧ r.2.mem ((c.tc : Thread Cert.KernelDrmsIdeal.nD Cert.KernelDrmsIdeal.τ).loc Cert.KernelDrmsIdeal.main_arg2) = m ((c.tc : Thread Cert.KernelDrmsIdeal.nD Cert.KernelDrmsIdeal.τ).loc Cert.KernelDrmsIdeal.main_arg2)
      ∧ r.2.mem ((c.tc : Thread Cert.KernelDrmsIdeal.nD Cert.KernelDrmsIdeal.τ).loc Cert.KernelDrmsIdeal.main_arg3) = m ((c.tc : Thread Cert.KernelDrmsIdeal.nD Cert.KernelDrmsIdeal.τ).loc Cert.KernelDrmsIdeal.main_arg3))
      ∧ r.2.sem = fun _ => 0)

def quiescent_ReferenceDrmsIdeal [hReferenceDrmsIdeal : Cert.ReferenceDrmsIdeal.Facts] : Prop :=
  ∀ (m : (ℓ : Loc Cert.ReferenceDrmsIdeal.nD Cert.ReferenceDrmsIdeal.τ Cert.ReferenceDrmsIdeal.sig) → Buf (Elt Ideal) ℓ) (g : Dev Cert.ReferenceDrmsIdeal.nD → PrngReg), Pre_ReferenceDrmsIdeal m →
    θ_run (Cert.ReferenceDrmsIdeal.defs (F := Ideal)) (onTc (τ := Cert.ReferenceDrmsIdeal.τ) (Cert.ReferenceDrmsIdeal.main (F := Ideal))) ⟨m, fun _ => 0, g⟩ (fun r => (∀ c : Dev Cert.ReferenceDrmsIdeal.nD,
      r.2.mem ((c.tc : Thread Cert.ReferenceDrmsIdeal.nD Cert.ReferenceDrmsIdeal.τ).loc Cert.ReferenceDrmsIdeal.main_arg0) = m ((c.tc : Thread Cert.ReferenceDrmsIdeal.nD Cert.ReferenceDrmsIdeal.τ).loc Cert.ReferenceDrmsIdeal.main_arg0)
      ∧ r.2.mem ((c.tc : Thread Cert.ReferenceDrmsIdeal.nD Cert.ReferenceDrmsIdeal.τ).loc Cert.ReferenceDrmsIdeal.main_arg1) = m ((c.tc : Thread Cert.ReferenceDrmsIdeal.nD Cert.ReferenceDrmsIdeal.τ).loc Cert.ReferenceDrmsIdeal.main_arg1)
      ∧ r.2.mem ((c.tc : Thread Cert.ReferenceDrmsIdeal.nD Cert.ReferenceDrmsIdeal.τ).loc Cert.ReferenceDrmsIdeal.main_arg2) = m ((c.tc : Thread Cert.ReferenceDrmsIdeal.nD Cert.ReferenceDrmsIdeal.τ).loc Cert.ReferenceDrmsIdeal.main_arg2)
      ∧ r.2.mem ((c.tc : Thread Cert.ReferenceDrmsIdeal.nD Cert.ReferenceDrmsIdeal.τ).loc Cert.ReferenceDrmsIdeal.main_arg3) = m ((c.tc : Thread Cert.ReferenceDrmsIdeal.nD Cert.ReferenceDrmsIdeal.τ).loc Cert.ReferenceDrmsIdeal.main_arg3))
      ∧ r.2.sem = fun _ => 0)

def quiescent_KernelDrmsm [hKernelDrmsm : Cert.KernelDrmsm.Facts] : Prop :=
  ∀ (m : (ℓ : Loc Cert.KernelDrmsm.nD Cert.KernelDrmsm.τ Cert.KernelDrmsm.sig) → Buf (Elt Bits) ℓ) (g : Dev Cert.KernelDrmsm.nD → PrngReg), Pre_KernelDrmsm m →
    θ_run (Cert.KernelDrmsm.defs (F := Bits)) (onTc (τ := Cert.KernelDrmsm.τ) (Cert.KernelDrmsm.main (F := Bits))) ⟨m, fun _ => 0, g⟩ (fun r => (∀ c : Dev Cert.KernelDrmsm.nD,
      r.2.mem ((c.tc : Thread Cert.KernelDrmsm.nD Cert.KernelDrmsm.τ).loc Cert.KernelDrmsm.main_arg0) = m ((c.tc : Thread Cert.KernelDrmsm.nD Cert.KernelDrmsm.τ).loc Cert.KernelDrmsm.main_arg0)
      ∧ r.2.mem ((c.tc : Thread Cert.KernelDrmsm.nD Cert.KernelDrmsm.τ).loc Cert.KernelDrmsm.main_arg1) = m ((c.tc : Thread Cert.KernelDrmsm.nD Cert.KernelDrmsm.τ).loc Cert.KernelDrmsm.main_arg1)
      ∧ r.2.mem ((c.tc : Thread Cert.KernelDrmsm.nD Cert.KernelDrmsm.τ).loc Cert.KernelDrmsm.main_arg2) = m ((c.tc : Thread Cert.KernelDrmsm.nD Cert.KernelDrmsm.τ).loc Cert.KernelDrmsm.main_arg2)
      ∧ r.2.mem ((c.tc : Thread Cert.KernelDrmsm.nD Cert.KernelDrmsm.τ).loc Cert.KernelDrmsm.main_arg3) = m ((c.tc : Thread Cert.KernelDrmsm.nD Cert.KernelDrmsm.τ).loc Cert.KernelDrmsm.main_arg3)
      ∧ r.2.mem ((c.tc : Thread Cert.KernelDrmsm.nD Cert.KernelDrmsm.τ).loc Cert.KernelDrmsm.main_arg4) = m ((c.tc : Thread Cert.KernelDrmsm.nD Cert.KernelDrmsm.τ).loc Cert.KernelDrmsm.main_arg4))
      ∧ r.2.sem = fun _ => 0)

def quiescent_KernelDrmsmIdeal [hKernelDrmsmIdeal : Cert.KernelDrmsmIdeal.Facts] : Prop :=
  ∀ (m : (ℓ : Loc Cert.KernelDrmsmIdeal.nD Cert.KernelDrmsmIdeal.τ Cert.KernelDrmsmIdeal.sig) → Buf (Elt Ideal) ℓ) (g : Dev Cert.KernelDrmsmIdeal.nD → PrngReg), Pre_KernelDrmsmIdeal m →
    θ_run (Cert.KernelDrmsmIdeal.defs (F := Ideal)) (onTc (τ := Cert.KernelDrmsmIdeal.τ) (Cert.KernelDrmsmIdeal.main (F := Ideal))) ⟨m, fun _ => 0, g⟩ (fun r => (∀ c : Dev Cert.KernelDrmsmIdeal.nD,
      r.2.mem ((c.tc : Thread Cert.KernelDrmsmIdeal.nD Cert.KernelDrmsmIdeal.τ).loc Cert.KernelDrmsmIdeal.main_arg0) = m ((c.tc : Thread Cert.KernelDrmsmIdeal.nD Cert.KernelDrmsmIdeal.τ).loc Cert.KernelDrmsmIdeal.main_arg0)
      ∧ r.2.mem ((c.tc : Thread Cert.KernelDrmsmIdeal.nD Cert.KernelDrmsmIdeal.τ).loc Cert.KernelDrmsmIdeal.main_arg1) = m ((c.tc : Thread Cert.KernelDrmsmIdeal.nD Cert.KernelDrmsmIdeal.τ).loc Cert.KernelDrmsmIdeal.main_arg1)
      ∧ r.2.mem ((c.tc : Thread Cert.KernelDrmsmIdeal.nD Cert.KernelDrmsmIdeal.τ).loc Cert.KernelDrmsmIdeal.main_arg2) = m ((c.tc : Thread Cert.KernelDrmsmIdeal.nD Cert.KernelDrmsmIdeal.τ).loc Cert.KernelDrmsmIdeal.main_arg2)
      ∧ r.2.mem ((c.tc : Thread Cert.KernelDrmsmIdeal.nD Cert.KernelDrmsmIdeal.τ).loc Cert.KernelDrmsmIdeal.main_arg3) = m ((c.tc : Thread Cert.KernelDrmsmIdeal.nD Cert.KernelDrmsmIdeal.τ).loc Cert.KernelDrmsmIdeal.main_arg3)
      ∧ r.2.mem ((c.tc : Thread Cert.KernelDrmsmIdeal.nD Cert.KernelDrmsmIdeal.τ).loc Cert.KernelDrmsmIdeal.main_arg4) = m ((c.tc : Thread Cert.KernelDrmsmIdeal.nD Cert.KernelDrmsmIdeal.τ).loc Cert.KernelDrmsmIdeal.main_arg4))
      ∧ r.2.sem = fun _ => 0)

def quiescent_ReferenceDrmsmIdeal [hReferenceDrmsmIdeal : Cert.ReferenceDrmsmIdeal.Facts] : Prop :=
  ∀ (m : (ℓ : Loc Cert.ReferenceDrmsmIdeal.nD Cert.ReferenceDrmsmIdeal.τ Cert.ReferenceDrmsmIdeal.sig) → Buf (Elt Ideal) ℓ) (g : Dev Cert.ReferenceDrmsmIdeal.nD → PrngReg), Pre_ReferenceDrmsmIdeal m →
    θ_run (Cert.ReferenceDrmsmIdeal.defs (F := Ideal)) (onTc (τ := Cert.ReferenceDrmsmIdeal.τ) (Cert.ReferenceDrmsmIdeal.main (F := Ideal))) ⟨m, fun _ => 0, g⟩ (fun r => (∀ c : Dev Cert.ReferenceDrmsmIdeal.nD,
      r.2.mem ((c.tc : Thread Cert.ReferenceDrmsmIdeal.nD Cert.ReferenceDrmsmIdeal.τ).loc Cert.ReferenceDrmsmIdeal.main_arg0) = m ((c.tc : Thread Cert.ReferenceDrmsmIdeal.nD Cert.ReferenceDrmsmIdeal.τ).loc Cert.ReferenceDrmsmIdeal.main_arg0)
      ∧ r.2.mem ((c.tc : Thread Cert.ReferenceDrmsmIdeal.nD Cert.ReferenceDrmsmIdeal.τ).loc Cert.ReferenceDrmsmIdeal.main_arg1) = m ((c.tc : Thread Cert.ReferenceDrmsmIdeal.nD Cert.ReferenceDrmsmIdeal.τ).loc Cert.ReferenceDrmsmIdeal.main_arg1)
      ∧ r.2.mem ((c.tc : Thread Cert.ReferenceDrmsmIdeal.nD Cert.ReferenceDrmsmIdeal.τ).loc Cert.ReferenceDrmsmIdeal.main_arg2) = m ((c.tc : Thread Cert.ReferenceDrmsmIdeal.nD Cert.ReferenceDrmsmIdeal.τ).loc Cert.ReferenceDrmsmIdeal.main_arg2)
      ∧ r.2.mem ((c.tc : Thread Cert.ReferenceDrmsmIdeal.nD Cert.ReferenceDrmsmIdeal.τ).loc Cert.ReferenceDrmsmIdeal.main_arg3) = m ((c.tc : Thread Cert.ReferenceDrmsmIdeal.nD Cert.ReferenceDrmsmIdeal.τ).loc Cert.ReferenceDrmsmIdeal.main_arg3)
      ∧ r.2.mem ((c.tc : Thread Cert.ReferenceDrmsmIdeal.nD Cert.ReferenceDrmsmIdeal.τ).loc Cert.ReferenceDrmsmIdeal.main_arg4) = m ((c.tc : Thread Cert.ReferenceDrmsmIdeal.nD Cert.ReferenceDrmsmIdeal.τ).loc Cert.ReferenceDrmsmIdeal.main_arg4))
      ∧ r.2.sem = fun _ => 0)

def quiescent_KernelDrmsp [hKernelDrmsp : Cert.KernelDrmsp.Facts] : Prop :=
  ∀ (m : (ℓ : Loc Cert.KernelDrmsp.nD Cert.KernelDrmsp.τ Cert.KernelDrmsp.sig) → Buf (Elt Bits) ℓ) (g : Dev Cert.KernelDrmsp.nD → PrngReg), Pre_KernelDrmsp m →
    θ_run (Cert.KernelDrmsp.defs (F := Bits)) (onTc (τ := Cert.KernelDrmsp.τ) (Cert.KernelDrmsp.main (F := Bits))) ⟨m, fun _ => 0, g⟩ (fun r => (∀ c : Dev Cert.KernelDrmsp.nD,
      r.2.mem ((c.tc : Thread Cert.KernelDrmsp.nD Cert.KernelDrmsp.τ).loc Cert.KernelDrmsp.main_arg0) = m ((c.tc : Thread Cert.KernelDrmsp.nD Cert.KernelDrmsp.τ).loc Cert.KernelDrmsp.main_arg0)
      ∧ r.2.mem ((c.tc : Thread Cert.KernelDrmsp.nD Cert.KernelDrmsp.τ).loc Cert.KernelDrmsp.main_arg1) = m ((c.tc : Thread Cert.KernelDrmsp.nD Cert.KernelDrmsp.τ).loc Cert.KernelDrmsp.main_arg1)
      ∧ r.2.mem ((c.tc : Thread Cert.KernelDrmsp.nD Cert.KernelDrmsp.τ).loc Cert.KernelDrmsp.main_arg2) = m ((c.tc : Thread Cert.KernelDrmsp.nD Cert.KernelDrmsp.τ).loc Cert.KernelDrmsp.main_arg2)
      ∧ r.2.mem ((c.tc : Thread Cert.KernelDrmsp.nD Cert.KernelDrmsp.τ).loc Cert.KernelDrmsp.main_arg3) = m ((c.tc : Thread Cert.KernelDrmsp.nD Cert.KernelDrmsp.τ).loc Cert.KernelDrmsp.main_arg3))
      ∧ r.2.sem = fun _ => 0)

def quiescent_KernelDrmspIdeal [hKernelDrmspIdeal : Cert.KernelDrmspIdeal.Facts] : Prop :=
  ∀ (m : (ℓ : Loc Cert.KernelDrmspIdeal.nD Cert.KernelDrmspIdeal.τ Cert.KernelDrmspIdeal.sig) → Buf (Elt Ideal) ℓ) (g : Dev Cert.KernelDrmspIdeal.nD → PrngReg), Pre_KernelDrmspIdeal m →
    θ_run (Cert.KernelDrmspIdeal.defs (F := Ideal)) (onTc (τ := Cert.KernelDrmspIdeal.τ) (Cert.KernelDrmspIdeal.main (F := Ideal))) ⟨m, fun _ => 0, g⟩ (fun r => (∀ c : Dev Cert.KernelDrmspIdeal.nD,
      r.2.mem ((c.tc : Thread Cert.KernelDrmspIdeal.nD Cert.KernelDrmspIdeal.τ).loc Cert.KernelDrmspIdeal.main_arg0) = m ((c.tc : Thread Cert.KernelDrmspIdeal.nD Cert.KernelDrmspIdeal.τ).loc Cert.KernelDrmspIdeal.main_arg0)
      ∧ r.2.mem ((c.tc : Thread Cert.KernelDrmspIdeal.nD Cert.KernelDrmspIdeal.τ).loc Cert.KernelDrmspIdeal.main_arg1) = m ((c.tc : Thread Cert.KernelDrmspIdeal.nD Cert.KernelDrmspIdeal.τ).loc Cert.KernelDrmspIdeal.main_arg1)
      ∧ r.2.mem ((c.tc : Thread Cert.KernelDrmspIdeal.nD Cert.KernelDrmspIdeal.τ).loc Cert.KernelDrmspIdeal.main_arg2) = m ((c.tc : Thread Cert.KernelDrmspIdeal.nD Cert.KernelDrmspIdeal.τ).loc Cert.KernelDrmspIdeal.main_arg2)
      ∧ r.2.mem ((c.tc : Thread Cert.KernelDrmspIdeal.nD Cert.KernelDrmspIdeal.τ).loc Cert.KernelDrmspIdeal.main_arg3) = m ((c.tc : Thread Cert.KernelDrmspIdeal.nD Cert.KernelDrmspIdeal.τ).loc Cert.KernelDrmspIdeal.main_arg3))
      ∧ r.2.sem = fun _ => 0)

def quiescent_ReferenceDrmspIdeal [hReferenceDrmspIdeal : Cert.ReferenceDrmspIdeal.Facts] : Prop :=
  ∀ (m : (ℓ : Loc Cert.ReferenceDrmspIdeal.nD Cert.ReferenceDrmspIdeal.τ Cert.ReferenceDrmspIdeal.sig) → Buf (Elt Ideal) ℓ) (g : Dev Cert.ReferenceDrmspIdeal.nD → PrngReg), Pre_ReferenceDrmspIdeal m →
    θ_run (Cert.ReferenceDrmspIdeal.defs (F := Ideal)) (onTc (τ := Cert.ReferenceDrmspIdeal.τ) (Cert.ReferenceDrmspIdeal.main (F := Ideal))) ⟨m, fun _ => 0, g⟩ (fun r => (∀ c : Dev Cert.ReferenceDrmspIdeal.nD,
      r.2.mem ((c.tc : Thread Cert.ReferenceDrmspIdeal.nD Cert.ReferenceDrmspIdeal.τ).loc Cert.ReferenceDrmspIdeal.main_arg0) = m ((c.tc : Thread Cert.ReferenceDrmspIdeal.nD Cert.ReferenceDrmspIdeal.τ).loc Cert.ReferenceDrmspIdeal.main_arg0)
      ∧ r.2.mem ((c.tc : Thread Cert.ReferenceDrmspIdeal.nD Cert.ReferenceDrmspIdeal.τ).loc Cert.ReferenceDrmspIdeal.main_arg1) = m ((c.tc : Thread Cert.ReferenceDrmspIdeal.nD Cert.ReferenceDrmspIdeal.τ).loc Cert.ReferenceDrmspIdeal.main_arg1)
      ∧ r.2.mem ((c.tc : Thread Cert.ReferenceDrmspIdeal.nD Cert.ReferenceDrmspIdeal.τ).loc Cert.ReferenceDrmspIdeal.main_arg2) = m ((c.tc : Thread Cert.ReferenceDrmspIdeal.nD Cert.ReferenceDrmspIdeal.τ).loc Cert.ReferenceDrmspIdeal.main_arg2)
      ∧ r.2.mem ((c.tc : Thread Cert.ReferenceDrmspIdeal.nD Cert.ReferenceDrmspIdeal.τ).loc Cert.ReferenceDrmspIdeal.main_arg3) = m ((c.tc : Thread Cert.ReferenceDrmspIdeal.nD Cert.ReferenceDrmspIdeal.τ).loc Cert.ReferenceDrmspIdeal.main_arg3))
      ∧ r.2.sem = fun _ => 0)

def quiescent_KernelAgain [hKernelAgain : Cert.KernelAgain.Facts] : Prop :=
  ∀ (m : (ℓ : Loc Cert.KernelAgain.nD Cert.KernelAgain.τ Cert.KernelAgain.sig) → Buf (Elt Bits) ℓ) (g : Dev Cert.KernelAgain.nD → PrngReg), Pre_KernelAgain m →
    θ_run (Cert.KernelAgain.defs (F := Bits)) (onTc (τ := Cert.KernelAgain.τ) (Cert.KernelAgain.main (F := Bits))) ⟨m, fun _ => 0, g⟩ (fun r => (∀ c : Dev Cert.KernelAgain.nD,
      r.2.mem ((c.tc : Thread Cert.KernelAgain.nD Cert.KernelAgain.τ).loc Cert.KernelAgain.main_arg0) = m ((c.tc : Thread Cert.KernelAgain.nD Cert.KernelAgain.τ).loc Cert.KernelAgain.main_arg0)
      ∧ r.2.mem ((c.tc : Thread Cert.KernelAgain.nD Cert.KernelAgain.τ).loc Cert.KernelAgain.main_arg1) = m ((c.tc : Thread Cert.KernelAgain.nD Cert.KernelAgain.τ).loc Cert.KernelAgain.main_arg1)
      ∧ r.2.mem ((c.tc : Thread Cert.KernelAgain.nD Cert.KernelAgain.τ).loc Cert.KernelAgain.main_arg2) = m ((c.tc : Thread Cert.KernelAgain.nD Cert.KernelAgain.τ).loc Cert.KernelAgain.main_arg2)
      ∧ r.2.mem ((c.tc : Thread Cert.KernelAgain.nD Cert.KernelAgain.τ).loc Cert.KernelAgain.main_arg3) = m ((c.tc : Thread Cert.KernelAgain.nD Cert.KernelAgain.τ).loc Cert.KernelAgain.main_arg3))
      ∧ r.2.sem = fun _ => 0)

def quiescent_KernelAgainIdeal [hKernelAgainIdeal : Cert.KernelAgainIdeal.Facts] : Prop :=
  ∀ (m : (ℓ : Loc Cert.KernelAgainIdeal.nD Cert.KernelAgainIdeal.τ Cert.KernelAgainIdeal.sig) → Buf (Elt Ideal) ℓ) (g : Dev Cert.KernelAgainIdeal.nD → PrngReg), Pre_KernelAgainIdeal m →
    θ_run (Cert.KernelAgainIdeal.defs (F := Ideal)) (onTc (τ := Cert.KernelAgainIdeal.τ) (Cert.KernelAgainIdeal.main (F := Ideal))) ⟨m, fun _ => 0, g⟩ (fun r => (∀ c : Dev Cert.KernelAgainIdeal.nD,
      r.2.mem ((c.tc : Thread Cert.KernelAgainIdeal.nD Cert.KernelAgainIdeal.τ).loc Cert.KernelAgainIdeal.main_arg0) = m ((c.tc : Thread Cert.KernelAgainIdeal.nD Cert.KernelAgainIdeal.τ).loc Cert.KernelAgainIdeal.main_arg0)
      ∧ r.2.mem ((c.tc : Thread Cert.KernelAgainIdeal.nD Cert.KernelAgainIdeal.τ).loc Cert.KernelAgainIdeal.main_arg1) = m ((c.tc : Thread Cert.KernelAgainIdeal.nD Cert.KernelAgainIdeal.τ).loc Cert.KernelAgainIdeal.main_arg1)
      ∧ r.2.mem ((c.tc : Thread Cert.KernelAgainIdeal.nD Cert.KernelAgainIdeal.τ).loc Cert.KernelAgainIdeal.main_arg2) = m ((c.tc : Thread Cert.KernelAgainIdeal.nD Cert.KernelAgainIdeal.τ).loc Cert.KernelAgainIdeal.main_arg2)
      ∧ r.2.mem ((c.tc : Thread Cert.KernelAgainIdeal.nD Cert.KernelAgainIdeal.τ).loc Cert.KernelAgainIdeal.main_arg3) = m ((c.tc : Thread Cert.KernelAgainIdeal.nD Cert.KernelAgainIdeal.τ).loc Cert.KernelAgainIdeal.main_arg3))
      ∧ r.2.sem = fun _ => 0)

def quiescent_ReferenceAgainIdeal [hReferenceAgainIdeal : Cert.ReferenceAgainIdeal.Facts] : Prop :=
  ∀ (m : (ℓ : Loc Cert.ReferenceAgainIdeal.nD Cert.ReferenceAgainIdeal.τ Cert.ReferenceAgainIdeal.sig) → Buf (Elt Ideal) ℓ) (g : Dev Cert.ReferenceAgainIdeal.nD → PrngReg), Pre_ReferenceAgainIdeal m →
    θ_run (Cert.ReferenceAgainIdeal.defs (F := Ideal)) (onTc (τ := Cert.ReferenceAgainIdeal.τ) (Cert.ReferenceAgainIdeal.main (F := Ideal))) ⟨m, fun _ => 0, g⟩ (fun r => (∀ c : Dev Cert.ReferenceAgainIdeal.nD,
      r.2.mem ((c.tc : Thread Cert.ReferenceAgainIdeal.nD Cert.ReferenceAgainIdeal.τ).loc Cert.ReferenceAgainIdeal.main_arg0) = m ((c.tc : Thread Cert.ReferenceAgainIdeal.nD Cert.ReferenceAgainIdeal.τ).loc Cert.ReferenceAgainIdeal.main_arg0)
      ∧ r.2.mem ((c.tc : Thread Cert.ReferenceAgainIdeal.nD Cert.ReferenceAgainIdeal.τ).loc Cert.ReferenceAgainIdeal.main_arg1) = m ((c.tc : Thread Cert.ReferenceAgainIdeal.nD Cert.ReferenceAgainIdeal.τ).loc Cert.ReferenceAgainIdeal.main_arg1)
      ∧ r.2.mem ((c.tc : Thread Cert.ReferenceAgainIdeal.nD Cert.ReferenceAgainIdeal.τ).loc Cert.ReferenceAgainIdeal.main_arg2) = m ((c.tc : Thread Cert.ReferenceAgainIdeal.nD Cert.ReferenceAgainIdeal.τ).loc Cert.ReferenceAgainIdeal.main_arg2)
      ∧ r.2.mem ((c.tc : Thread Cert.ReferenceAgainIdeal.nD Cert.ReferenceAgainIdeal.τ).loc Cert.ReferenceAgainIdeal.main_arg3) = m ((c.tc : Thread Cert.ReferenceAgainIdeal.nD Cert.ReferenceAgainIdeal.τ).loc Cert.ReferenceAgainIdeal.main_arg3))
      ∧ r.2.sem = fun _ => 0)

def quiescent_KernelAfinal [hKernelAfinal : Cert.KernelAfinal.Facts] : Prop :=
  ∀ (m : (ℓ : Loc Cert.KernelAfinal.nD Cert.KernelAfinal.τ Cert.KernelAfinal.sig) → Buf (Elt Bits) ℓ) (g : Dev Cert.KernelAfinal.nD → PrngReg), Pre_KernelAfinal m →
    θ_run (Cert.KernelAfinal.defs (F := Bits)) (onTc (τ := Cert.KernelAfinal.τ) (Cert.KernelAfinal.main (F := Bits))) ⟨m, fun _ => 0, g⟩ (fun r => (∀ c : Dev Cert.KernelAfinal.nD,
      r.2.mem ((c.tc : Thread Cert.KernelAfinal.nD Cert.KernelAfinal.τ).loc Cert.KernelAfinal.main_arg0) = m ((c.tc : Thread Cert.KernelAfinal.nD Cert.KernelAfinal.τ).loc Cert.KernelAfinal.main_arg0)
      ∧ r.2.mem ((c.tc : Thread Cert.KernelAfinal.nD Cert.KernelAfinal.τ).loc Cert.KernelAfinal.main_arg1) = m ((c.tc : Thread Cert.KernelAfinal.nD Cert.KernelAfinal.τ).loc Cert.KernelAfinal.main_arg1)
      ∧ r.2.mem ((c.tc : Thread Cert.KernelAfinal.nD Cert.KernelAfinal.τ).loc Cert.KernelAfinal.main_arg2) = m ((c.tc : Thread Cert.KernelAfinal.nD Cert.KernelAfinal.τ).loc Cert.KernelAfinal.main_arg2)
      ∧ r.2.mem ((c.tc : Thread Cert.KernelAfinal.nD Cert.KernelAfinal.τ).loc Cert.KernelAfinal.main_arg3) = m ((c.tc : Thread Cert.KernelAfinal.nD Cert.KernelAfinal.τ).loc Cert.KernelAfinal.main_arg3))
      ∧ r.2.sem = fun _ => 0)

def quiescent_KernelAfinalIdeal [hKernelAfinalIdeal : Cert.KernelAfinalIdeal.Facts] : Prop :=
  ∀ (m : (ℓ : Loc Cert.KernelAfinalIdeal.nD Cert.KernelAfinalIdeal.τ Cert.KernelAfinalIdeal.sig) → Buf (Elt Ideal) ℓ) (g : Dev Cert.KernelAfinalIdeal.nD → PrngReg), Pre_KernelAfinalIdeal m →
    θ_run (Cert.KernelAfinalIdeal.defs (F := Ideal)) (onTc (τ := Cert.KernelAfinalIdeal.τ) (Cert.KernelAfinalIdeal.main (F := Ideal))) ⟨m, fun _ => 0, g⟩ (fun r => (∀ c : Dev Cert.KernelAfinalIdeal.nD,
      r.2.mem ((c.tc : Thread Cert.KernelAfinalIdeal.nD Cert.KernelAfinalIdeal.τ).loc Cert.KernelAfinalIdeal.main_arg0) = m ((c.tc : Thread Cert.KernelAfinalIdeal.nD Cert.KernelAfinalIdeal.τ).loc Cert.KernelAfinalIdeal.main_arg0)
      ∧ r.2.mem ((c.tc : Thread Cert.KernelAfinalIdeal.nD Cert.KernelAfinalIdeal.τ).loc Cert.KernelAfinalIdeal.main_arg1) = m ((c.tc : Thread Cert.KernelAfinalIdeal.nD Cert.KernelAfinalIdeal.τ).loc Cert.KernelAfinalIdeal.main_arg1)
      ∧ r.2.mem ((c.tc : Thread Cert.KernelAfinalIdeal.nD Cert.KernelAfinalIdeal.τ).loc Cert.KernelAfinalIdeal.main_arg2) = m ((c.tc : Thread Cert.KernelAfinalIdeal.nD Cert.KernelAfinalIdeal.τ).loc Cert.KernelAfinalIdeal.main_arg2)
      ∧ r.2.mem ((c.tc : Thread Cert.KernelAfinalIdeal.nD Cert.KernelAfinalIdeal.τ).loc Cert.KernelAfinalIdeal.main_arg3) = m ((c.tc : Thread Cert.KernelAfinalIdeal.nD Cert.KernelAfinalIdeal.τ).loc Cert.KernelAfinalIdeal.main_arg3))
      ∧ r.2.sem = fun _ => 0)

def quiescent_ReferenceAfinalIdeal [hReferenceAfinalIdeal : Cert.ReferenceAfinalIdeal.Facts] : Prop :=
  ∀ (m : (ℓ : Loc Cert.ReferenceAfinalIdeal.nD Cert.ReferenceAfinalIdeal.τ Cert.ReferenceAfinalIdeal.sig) → Buf (Elt Ideal) ℓ) (g : Dev Cert.ReferenceAfinalIdeal.nD → PrngReg), Pre_ReferenceAfinalIdeal m →
    θ_run (Cert.ReferenceAfinalIdeal.defs (F := Ideal)) (onTc (τ := Cert.ReferenceAfinalIdeal.τ) (Cert.ReferenceAfinalIdeal.main (F := Ideal))) ⟨m, fun _ => 0, g⟩ (fun r => (∀ c : Dev Cert.ReferenceAfinalIdeal.nD,
      r.2.mem ((c.tc : Thread Cert.ReferenceAfinalIdeal.nD Cert.ReferenceAfinalIdeal.τ).loc Cert.ReferenceAfinalIdeal.main_arg0) = m ((c.tc : Thread Cert.ReferenceAfinalIdeal.nD Cert.ReferenceAfinalIdeal.τ).loc Cert.ReferenceAfinalIdeal.main_arg0)
      ∧ r.2.mem ((c.tc : Thread Cert.ReferenceAfinalIdeal.nD Cert.ReferenceAfinalIdeal.τ).loc Cert.ReferenceAfinalIdeal.main_arg1) = m ((c.tc : Thread Cert.ReferenceAfinalIdeal.nD Cert.ReferenceAfinalIdeal.τ).loc Cert.ReferenceAfinalIdeal.main_arg1)
      ∧ r.2.mem ((c.tc : Thread Cert.ReferenceAfinalIdeal.nD Cert.ReferenceAfinalIdeal.τ).loc Cert.ReferenceAfinalIdeal.main_arg2) = m ((c.tc : Thread Cert.ReferenceAfinalIdeal.nD Cert.ReferenceAfinalIdeal.τ).loc Cert.ReferenceAfinalIdeal.main_arg2)
      ∧ r.2.mem ((c.tc : Thread Cert.ReferenceAfinalIdeal.nD Cert.ReferenceAfinalIdeal.τ).loc Cert.ReferenceAfinalIdeal.main_arg3) = m ((c.tc : Thread Cert.ReferenceAfinalIdeal.nD Cert.ReferenceAfinalIdeal.τ).loc Cert.ReferenceAfinalIdeal.main_arg3))
      ∧ r.2.sem = fun _ => 0)

def quiescent_KernelAconv [hKernelAconv : Cert.KernelAconv.Facts] : Prop :=
  ∀ (m : (ℓ : Loc Cert.KernelAconv.nD Cert.KernelAconv.τ Cert.KernelAconv.sig) → Buf (Elt Bits) ℓ) (g : Dev Cert.KernelAconv.nD → PrngReg), Pre_KernelAconv m →
    θ_run (Cert.KernelAconv.defs (F := Bits)) (onTc (τ := Cert.KernelAconv.τ) (Cert.KernelAconv.main (F := Bits))) ⟨m, fun _ => 0, g⟩ (fun r => (∀ c : Dev Cert.KernelAconv.nD,
      r.2.mem ((c.tc : Thread Cert.KernelAconv.nD Cert.KernelAconv.τ).loc Cert.KernelAconv.main_arg0) = m ((c.tc : Thread Cert.KernelAconv.nD Cert.KernelAconv.τ).loc Cert.KernelAconv.main_arg0)
      ∧ r.2.mem ((c.tc : Thread Cert.KernelAconv.nD Cert.KernelAconv.τ).loc Cert.KernelAconv.main_arg1) = m ((c.tc : Thread Cert.KernelAconv.nD Cert.KernelAconv.τ).loc Cert.KernelAconv.main_arg1)
      ∧ r.2.mem ((c.tc : Thread Cert.KernelAconv.nD Cert.KernelAconv.τ).loc Cert.KernelAconv.main_arg2) = m ((c.tc : Thread Cert.KernelAconv.nD Cert.KernelAconv.τ).loc Cert.KernelAconv.main_arg2)
      ∧ r.2.mem ((c.tc : Thread Cert.KernelAconv.nD Cert.KernelAconv.τ).loc Cert.KernelAconv.main_arg3) = m ((c.tc : Thread Cert.KernelAconv.nD Cert.KernelAconv.τ).loc Cert.KernelAconv.main_arg3))
      ∧ r.2.sem = fun _ => 0)

def quiescent_KernelAconvIdeal [hKernelAconvIdeal : Cert.KernelAconvIdeal.Facts] : Prop :=
  ∀ (m : (ℓ : Loc Cert.KernelAconvIdeal.nD Cert.KernelAconvIdeal.τ Cert.KernelAconvIdeal.sig) → Buf (Elt Ideal) ℓ) (g : Dev Cert.KernelAconvIdeal.nD → PrngReg), Pre_KernelAconvIdeal m →
    θ_run (Cert.KernelAconvIdeal.defs (F := Ideal)) (onTc (τ := Cert.KernelAconvIdeal.τ) (Cert.KernelAconvIdeal.main (F := Ideal))) ⟨m, fun _ => 0, g⟩ (fun r => (∀ c : Dev Cert.KernelAconvIdeal.nD,
      r.2.mem ((c.tc : Thread Cert.KernelAconvIdeal.nD Cert.KernelAconvIdeal.τ).loc Cert.KernelAconvIdeal.main_arg0) = m ((c.tc : Thread Cert.KernelAconvIdeal.nD Cert.KernelAconvIdeal.τ).loc Cert.KernelAconvIdeal.main_arg0)
      ∧ r.2.mem ((c.tc : Thread Cert.KernelAconvIdeal.nD Cert.KernelAconvIdeal.τ).loc Cert.KernelAconvIdeal.main_arg1) = m ((c.tc : Thread Cert.KernelAconvIdeal.nD Cert.KernelAconvIdeal.τ).loc Cert.KernelAconvIdeal.main_arg1)
      ∧ r.2.mem ((c.tc : Thread Cert.KernelAconvIdeal.nD Cert.KernelAconvIdeal.τ).loc Cert.KernelAconvIdeal.main_arg2) = m ((c.tc : Thread Cert.KernelAconvIdeal.nD Cert.KernelAconvIdeal.τ).loc Cert.KernelAconvIdeal.main_arg2)
      ∧ r.2.mem ((c.tc : Thread Cert.KernelAconvIdeal.nD Cert.KernelAconvIdeal.τ).loc Cert.KernelAconvIdeal.main_arg3) = m ((c.tc : Thread Cert.KernelAconvIdeal.nD Cert.KernelAconvIdeal.τ).loc Cert.KernelAconvIdeal.main_arg3))
      ∧ r.2.sem = fun _ => 0)

def quiescent_ReferenceAconvIdeal [hReferenceAconvIdeal : Cert.ReferenceAconvIdeal.Facts] : Prop :=
  ∀ (m : (ℓ : Loc Cert.ReferenceAconvIdeal.nD Cert.ReferenceAconvIdeal.τ Cert.ReferenceAconvIdeal.sig) → Buf (Elt Ideal) ℓ) (g : Dev Cert.ReferenceAconvIdeal.nD → PrngReg), Pre_ReferenceAconvIdeal m →
    θ_run (Cert.ReferenceAconvIdeal.defs (F := Ideal)) (onTc (τ := Cert.ReferenceAconvIdeal.τ) (Cert.ReferenceAconvIdeal.main (F := Ideal))) ⟨m, fun _ => 0, g⟩ (fun r => (∀ c : Dev Cert.ReferenceAconvIdeal.nD,
      r.2.mem ((c.tc : Thread Cert.ReferenceAconvIdeal.nD Cert.ReferenceAconvIdeal.τ).loc Cert.ReferenceAconvIdeal.main_arg0) = m ((c.tc : Thread Cert.ReferenceAconvIdeal.nD Cert.ReferenceAconvIdeal.τ).loc Cert.ReferenceAconvIdeal.main_arg0)
      ∧ r.2.mem ((c.tc : Thread Cert.ReferenceAconvIdeal.nD Cert.ReferenceAconvIdeal.τ).loc Cert.ReferenceAconvIdeal.main_arg1) = m ((c.tc : Thread Cert.ReferenceAconvIdeal.nD Cert.ReferenceAconvIdeal.τ).loc Cert.ReferenceAconvIdeal.main_arg1)
      ∧ r.2.mem ((c.tc : Thread Cert.ReferenceAconvIdeal.nD Cert.ReferenceAconvIdeal.τ).loc Cert.ReferenceAconvIdeal.main_arg2) = m ((c.tc : Thread Cert.ReferenceAconvIdeal.nD Cert.ReferenceAconvIdeal.τ).loc Cert.ReferenceAconvIdeal.main_arg2)
      ∧ r.2.mem ((c.tc : Thread Cert.ReferenceAconvIdeal.nD Cert.ReferenceAconvIdeal.τ).loc Cert.ReferenceAconvIdeal.main_arg3) = m ((c.tc : Thread Cert.ReferenceAconvIdeal.nD Cert.ReferenceAconvIdeal.τ).loc Cert.ReferenceAconvIdeal.main_arg3))
      ∧ r.2.sem = fun _ => 0)

def quiescent_KernelAbf [hKernelAbf : Cert.KernelAbf.Facts] : Prop :=
  ∀ (m : (ℓ : Loc Cert.KernelAbf.nD Cert.KernelAbf.τ Cert.KernelAbf.sig) → Buf (Elt Bits) ℓ) (g : Dev Cert.KernelAbf.nD → PrngReg), Pre_KernelAbf m →
    θ_run (Cert.KernelAbf.defs (F := Bits)) (onTc (τ := Cert.KernelAbf.τ) (Cert.KernelAbf.main (F := Bits))) ⟨m, fun _ => 0, g⟩ (fun r => (∀ c : Dev Cert.KernelAbf.nD,
      r.2.mem ((c.tc : Thread Cert.KernelAbf.nD Cert.KernelAbf.τ).loc Cert.KernelAbf.main_arg0) = m ((c.tc : Thread Cert.KernelAbf.nD Cert.KernelAbf.τ).loc Cert.KernelAbf.main_arg0)
      ∧ r.2.mem ((c.tc : Thread Cert.KernelAbf.nD Cert.KernelAbf.τ).loc Cert.KernelAbf.main_arg1) = m ((c.tc : Thread Cert.KernelAbf.nD Cert.KernelAbf.τ).loc Cert.KernelAbf.main_arg1)
      ∧ r.2.mem ((c.tc : Thread Cert.KernelAbf.nD Cert.KernelAbf.τ).loc Cert.KernelAbf.main_arg2) = m ((c.tc : Thread Cert.KernelAbf.nD Cert.KernelAbf.τ).loc Cert.KernelAbf.main_arg2)
      ∧ r.2.mem ((c.tc : Thread Cert.KernelAbf.nD Cert.KernelAbf.τ).loc Cert.KernelAbf.main_arg3) = m ((c.tc : Thread Cert.KernelAbf.nD Cert.KernelAbf.τ).loc Cert.KernelAbf.main_arg3))
      ∧ r.2.sem = fun _ => 0)

def quiescent_KernelAbfIdeal [hKernelAbfIdeal : Cert.KernelAbfIdeal.Facts] : Prop :=
  ∀ (m : (ℓ : Loc Cert.KernelAbfIdeal.nD Cert.KernelAbfIdeal.τ Cert.KernelAbfIdeal.sig) → Buf (Elt Ideal) ℓ) (g : Dev Cert.KernelAbfIdeal.nD → PrngReg), Pre_KernelAbfIdeal m →
    θ_run (Cert.KernelAbfIdeal.defs (F := Ideal)) (onTc (τ := Cert.KernelAbfIdeal.τ) (Cert.KernelAbfIdeal.main (F := Ideal))) ⟨m, fun _ => 0, g⟩ (fun r => (∀ c : Dev Cert.KernelAbfIdeal.nD,
      r.2.mem ((c.tc : Thread Cert.KernelAbfIdeal.nD Cert.KernelAbfIdeal.τ).loc Cert.KernelAbfIdeal.main_arg0) = m ((c.tc : Thread Cert.KernelAbfIdeal.nD Cert.KernelAbfIdeal.τ).loc Cert.KernelAbfIdeal.main_arg0)
      ∧ r.2.mem ((c.tc : Thread Cert.KernelAbfIdeal.nD Cert.KernelAbfIdeal.τ).loc Cert.KernelAbfIdeal.main_arg1) = m ((c.tc : Thread Cert.KernelAbfIdeal.nD Cert.KernelAbfIdeal.τ).loc Cert.KernelAbfIdeal.main_arg1)
      ∧ r.2.mem ((c.tc : Thread Cert.KernelAbfIdeal.nD Cert.KernelAbfIdeal.τ).loc Cert.KernelAbfIdeal.main_arg2) = m ((c.tc : Thread Cert.KernelAbfIdeal.nD Cert.KernelAbfIdeal.τ).loc Cert.KernelAbfIdeal.main_arg2)
      ∧ r.2.mem ((c.tc : Thread Cert.KernelAbfIdeal.nD Cert.KernelAbfIdeal.τ).loc Cert.KernelAbfIdeal.main_arg3) = m ((c.tc : Thread Cert.KernelAbfIdeal.nD Cert.KernelAbfIdeal.τ).loc Cert.KernelAbfIdeal.main_arg3))
      ∧ r.2.sem = fun _ => 0)

def quiescent_ReferenceAbfIdeal [hReferenceAbfIdeal : Cert.ReferenceAbfIdeal.Facts] : Prop :=
  ∀ (m : (ℓ : Loc Cert.ReferenceAbfIdeal.nD Cert.ReferenceAbfIdeal.τ Cert.ReferenceAbfIdeal.sig) → Buf (Elt Ideal) ℓ) (g : Dev Cert.ReferenceAbfIdeal.nD → PrngReg), Pre_ReferenceAbfIdeal m →
    θ_run (Cert.ReferenceAbfIdeal.defs (F := Ideal)) (onTc (τ := Cert.ReferenceAbfIdeal.τ) (Cert.ReferenceAbfIdeal.main (F := Ideal))) ⟨m, fun _ => 0, g⟩ (fun r => (∀ c : Dev Cert.ReferenceAbfIdeal.nD,
      r.2.mem ((c.tc : Thread Cert.ReferenceAbfIdeal.nD Cert.ReferenceAbfIdeal.τ).loc Cert.ReferenceAbfIdeal.main_arg0) = m ((c.tc : Thread Cert.ReferenceAbfIdeal.nD Cert.ReferenceAbfIdeal.τ).loc Cert.ReferenceAbfIdeal.main_arg0)
      ∧ r.2.mem ((c.tc : Thread Cert.ReferenceAbfIdeal.nD Cert.ReferenceAbfIdeal.τ).loc Cert.ReferenceAbfIdeal.main_arg1) = m ((c.tc : Thread Cert.ReferenceAbfIdeal.nD Cert.ReferenceAbfIdeal.τ).loc Cert.ReferenceAbfIdeal.main_arg1)
      ∧ r.2.mem ((c.tc : Thread Cert.ReferenceAbfIdeal.nD Cert.ReferenceAbfIdeal.τ).loc Cert.ReferenceAbfIdeal.main_arg2) = m ((c.tc : Thread Cert.ReferenceAbfIdeal.nD Cert.ReferenceAbfIdeal.τ).loc Cert.ReferenceAbfIdeal.main_arg2)
      ∧ r.2.mem ((c.tc : Thread Cert.ReferenceAbfIdeal.nD Cert.ReferenceAbfIdeal.τ).loc Cert.ReferenceAbfIdeal.main_arg3) = m ((c.tc : Thread Cert.ReferenceAbfIdeal.nD Cert.ReferenceAbfIdeal.τ).loc Cert.ReferenceAbfIdeal.main_arg3))
      ∧ r.2.sem = fun _ => 0)

def quiescent_KernelAtaps [hKernelAtaps : Cert.KernelAtaps.Facts] : Prop :=
  ∀ (m : (ℓ : Loc Cert.KernelAtaps.nD Cert.KernelAtaps.τ Cert.KernelAtaps.sig) → Buf (Elt Bits) ℓ) (g : Dev Cert.KernelAtaps.nD → PrngReg), Pre_KernelAtaps m →
    θ_run (Cert.KernelAtaps.defs (F := Bits)) (onTc (τ := Cert.KernelAtaps.τ) (Cert.KernelAtaps.main (F := Bits))) ⟨m, fun _ => 0, g⟩ (fun r => (∀ c : Dev Cert.KernelAtaps.nD,
      r.2.mem ((c.tc : Thread Cert.KernelAtaps.nD Cert.KernelAtaps.τ).loc Cert.KernelAtaps.main_arg0) = m ((c.tc : Thread Cert.KernelAtaps.nD Cert.KernelAtaps.τ).loc Cert.KernelAtaps.main_arg0)
      ∧ r.2.mem ((c.tc : Thread Cert.KernelAtaps.nD Cert.KernelAtaps.τ).loc Cert.KernelAtaps.main_arg1) = m ((c.tc : Thread Cert.KernelAtaps.nD Cert.KernelAtaps.τ).loc Cert.KernelAtaps.main_arg1)
      ∧ r.2.mem ((c.tc : Thread Cert.KernelAtaps.nD Cert.KernelAtaps.τ).loc Cert.KernelAtaps.main_arg2) = m ((c.tc : Thread Cert.KernelAtaps.nD Cert.KernelAtaps.τ).loc Cert.KernelAtaps.main_arg2)
      ∧ r.2.mem ((c.tc : Thread Cert.KernelAtaps.nD Cert.KernelAtaps.τ).loc Cert.KernelAtaps.main_arg3) = m ((c.tc : Thread Cert.KernelAtaps.nD Cert.KernelAtaps.τ).loc Cert.KernelAtaps.main_arg3))
      ∧ r.2.sem = fun _ => 0)

def quiescent_KernelAtapsIdeal [hKernelAtapsIdeal : Cert.KernelAtapsIdeal.Facts] : Prop :=
  ∀ (m : (ℓ : Loc Cert.KernelAtapsIdeal.nD Cert.KernelAtapsIdeal.τ Cert.KernelAtapsIdeal.sig) → Buf (Elt Ideal) ℓ) (g : Dev Cert.KernelAtapsIdeal.nD → PrngReg), Pre_KernelAtapsIdeal m →
    θ_run (Cert.KernelAtapsIdeal.defs (F := Ideal)) (onTc (τ := Cert.KernelAtapsIdeal.τ) (Cert.KernelAtapsIdeal.main (F := Ideal))) ⟨m, fun _ => 0, g⟩ (fun r => (∀ c : Dev Cert.KernelAtapsIdeal.nD,
      r.2.mem ((c.tc : Thread Cert.KernelAtapsIdeal.nD Cert.KernelAtapsIdeal.τ).loc Cert.KernelAtapsIdeal.main_arg0) = m ((c.tc : Thread Cert.KernelAtapsIdeal.nD Cert.KernelAtapsIdeal.τ).loc Cert.KernelAtapsIdeal.main_arg0)
      ∧ r.2.mem ((c.tc : Thread Cert.KernelAtapsIdeal.nD Cert.KernelAtapsIdeal.τ).loc Cert.KernelAtapsIdeal.main_arg1) = m ((c.tc : Thread Cert.KernelAtapsIdeal.nD Cert.KernelAtapsIdeal.τ).loc Cert.KernelAtapsIdeal.main_arg1)
      ∧ r.2.mem ((c.tc : Thread Cert.KernelAtapsIdeal.nD Cert.KernelAtapsIdeal.τ).loc Cert.KernelAtapsIdeal.main_arg2) = m ((c.tc : Thread Cert.KernelAtapsIdeal.nD Cert.KernelAtapsIdeal.τ).loc Cert.KernelAtapsIdeal.main_arg2)
      ∧ r.2.mem ((c.tc : Thread Cert.KernelAtapsIdeal.nD Cert.KernelAtapsIdeal.τ).loc Cert.KernelAtapsIdeal.main_arg3) = m ((c.tc : Thread Cert.KernelAtapsIdeal.nD Cert.KernelAtapsIdeal.τ).loc Cert.KernelAtapsIdeal.main_arg3))
      ∧ r.2.sem = fun _ => 0)

def quiescent_ReferenceAtapsIdeal [hReferenceAtapsIdeal : Cert.ReferenceAtapsIdeal.Facts] : Prop :=
  ∀ (m : (ℓ : Loc Cert.ReferenceAtapsIdeal.nD Cert.ReferenceAtapsIdeal.τ Cert.ReferenceAtapsIdeal.sig) → Buf (Elt Ideal) ℓ) (g : Dev Cert.ReferenceAtapsIdeal.nD → PrngReg), Pre_ReferenceAtapsIdeal m →
    θ_run (Cert.ReferenceAtapsIdeal.defs (F := Ideal)) (onTc (τ := Cert.ReferenceAtapsIdeal.τ) (Cert.ReferenceAtapsIdeal.main (F := Ideal))) ⟨m, fun _ => 0, g⟩ (fun r => (∀ c : Dev Cert.ReferenceAtapsIdeal.nD,
      r.2.mem ((c.tc : Thread Cert.ReferenceAtapsIdeal.nD Cert.ReferenceAtapsIdeal.τ).loc Cert.ReferenceAtapsIdeal.main_arg0) = m ((c.tc : Thread Cert.ReferenceAtapsIdeal.nD Cert.ReferenceAtapsIdeal.τ).loc Cert.ReferenceAtapsIdeal.main_arg0)
      ∧ r.2.mem ((c.tc : Thread Cert.ReferenceAtapsIdeal.nD Cert.ReferenceAtapsIdeal.τ).loc Cert.ReferenceAtapsIdeal.main_arg1) = m ((c.tc : Thread Cert.ReferenceAtapsIdeal.nD Cert.ReferenceAtapsIdeal.τ).loc Cert.ReferenceAtapsIdeal.main_arg1)
      ∧ r.2.mem ((c.tc : Thread Cert.ReferenceAtapsIdeal.nD Cert.ReferenceAtapsIdeal.τ).loc Cert.ReferenceAtapsIdeal.main_arg2) = m ((c.tc : Thread Cert.ReferenceAtapsIdeal.nD Cert.ReferenceAtapsIdeal.τ).loc Cert.ReferenceAtapsIdeal.main_arg2)
      ∧ r.2.mem ((c.tc : Thread Cert.ReferenceAtapsIdeal.nD Cert.ReferenceAtapsIdeal.τ).loc Cert.ReferenceAtapsIdeal.main_arg3) = m ((c.tc : Thread Cert.ReferenceAtapsIdeal.nD Cert.ReferenceAtapsIdeal.τ).loc Cert.ReferenceAtapsIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def preserves_KernelF_KernelFIdeal : Prop :=
  True

def algebraic_KernelFIdeal_ReferenceFIdeal_pre_finite_fwd [hKernelFIdeal : Cert.KernelFIdeal.Facts] [hReferenceFIdeal : Cert.ReferenceFIdeal.Facts] [hPre_finite_fwd : Cert.Pre_finite_fwd.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_fwd m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)) →
    ∃ (v0 : (c : Dev Cert.KernelFIdeal.nD) → Buf (Elt Ideal) ((c.tc : Thread Cert.KernelFIdeal.nD Cert.KernelFIdeal.τ).loc Cert.KernelFIdeal.main_v2_0)) (v1 : (c : Dev Cert.KernelFIdeal.nD) → Buf (Elt Ideal) ((c.tc : Thread Cert.KernelFIdeal.nD Cert.KernelFIdeal.τ).loc Cert.KernelFIdeal.main_v2_1)) (v2 : (c : Dev Cert.KernelFIdeal.nD) → Buf (Elt Ideal) ((c.tc : Thread Cert.KernelFIdeal.nD Cert.KernelFIdeal.τ).loc Cert.KernelFIdeal.main_v2_2)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v2_0) = v0 c
          ∧ r.2.mem ((c.tc : Thread Cert.KernelFIdeal.nD Cert.KernelFIdeal.τ).loc Cert.KernelFIdeal.main_v2_1) = v1 c
          ∧ r.2.mem ((c.tc : Thread Cert.KernelFIdeal.nD Cert.KernelFIdeal.τ).loc Cert.KernelFIdeal.main_v2_2) = v2 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v49) = v0 c
          ∧ r.2.mem ((c.tc : Thread Cert.ReferenceFIdeal.nD Cert.ReferenceFIdeal.τ).loc Cert.ReferenceFIdeal.main_v50) = v1 c
          ∧ r.2.mem ((c.tc : Thread Cert.ReferenceFIdeal.nD Cert.ReferenceFIdeal.τ).loc Cert.ReferenceFIdeal.main_v35) = v2 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1))

def preserves_KernelQ_KernelQIdeal : Prop :=
  True

def algebraic_KernelQIdeal_ReferenceQIdeal_pre_finite [hKernelQIdeal : Cert.KernelQIdeal.Facts] [hReferenceQIdeal : Cert.ReferenceQIdeal.Facts] [hPre_finite : Cert.Pre_finite.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal_finite m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v52_0)) (v1 : (c : Dev Cert.KernelQIdeal.nD) → Buf (Elt Ideal) ((c.tc : Thread Cert.KernelQIdeal.nD Cert.KernelQIdeal.τ).loc Cert.KernelQIdeal.main_v52_1)) (v2 : (c : Dev Cert.KernelQIdeal.nD) → Buf (Elt Ideal) ((c.tc : Thread Cert.KernelQIdeal.nD Cert.KernelQIdeal.τ).loc Cert.KernelQIdeal.main_v52_2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v52_0) = v0 c
          ∧ r.2.mem ((c.tc : Thread Cert.KernelQIdeal.nD Cert.KernelQIdeal.τ).loc Cert.KernelQIdeal.main_v52_1) = v1 c
          ∧ r.2.mem ((c.tc : Thread Cert.KernelQIdeal.nD Cert.KernelQIdeal.τ).loc Cert.KernelQIdeal.main_v52_2) = v2 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v91) = v0 c
          ∧ r.2.mem ((c.tc : Thread Cert.ReferenceQIdeal.nD Cert.ReferenceQIdeal.τ).loc Cert.ReferenceQIdeal.main_v97) = v1 c
          ∧ r.2.mem ((c.tc : Thread Cert.ReferenceQIdeal.nD Cert.ReferenceQIdeal.τ).loc Cert.ReferenceQIdeal.main_v109) = v2 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelKV_KernelKVIdeal : Prop :=
  True

def algebraic_KernelKVIdeal_ReferenceKVIdeal_pre_finite [hKernelKVIdeal : Cert.KernelKVIdeal.Facts] [hReferenceKVIdeal : Cert.ReferenceKVIdeal.Facts] [hPre_finite : Cert.Pre_finite.Facts] : Prop :=
  ∀ (m : (ℓ : Loc Cert.KernelKVIdeal.nD Cert.KernelKVIdeal.τ Cert.KernelKVIdeal.sig) → Buf (Elt Ideal) ℓ) (g : Dev Cert.KernelKVIdeal.nD → PrngReg)
    (m' : (ℓ : Loc Cert.ReferenceKVIdeal.nD Cert.ReferenceKVIdeal.τ Cert.ReferenceKVIdeal.sig) → Buf (Elt Ideal) ℓ) (g' : Dev Cert.ReferenceKVIdeal.nD → PrngReg), Pre_KernelKVIdeal_finite m →
    (∀ c : Dev Cert.KernelKVIdeal.nD,
      m' ((c.tc : Thread Cert.ReferenceKVIdeal.nD Cert.ReferenceKVIdeal.τ).loc Cert.ReferenceKVIdeal.main_arg0) = m ((c.tc : Thread Cert.KernelKVIdeal.nD Cert.KernelKVIdeal.τ).loc Cert.KernelKVIdeal.main_arg0)
      ∧ m' ((c.tc : Thread Cert.ReferenceKVIdeal.nD Cert.ReferenceKVIdeal.τ).loc Cert.ReferenceKVIdeal.main_arg1) = m ((c.tc : Thread Cert.KernelKVIdeal.nD Cert.KernelKVIdeal.τ).loc Cert.KernelKVIdeal.main_arg1)
      ∧ m' ((c.tc : Thread Cert.ReferenceKVIdeal.nD Cert.ReferenceKVIdeal.τ).loc Cert.ReferenceKVIdeal.main_arg2) = m ((c.tc : Thread Cert.KernelKVIdeal.nD Cert.KernelKVIdeal.τ).loc Cert.KernelKVIdeal.main_arg2)) →
    ∃ (v0 : (c : Dev Cert.KernelKVIdeal.nD) → Buf (Elt Ideal) ((c.tc : Thread Cert.KernelKVIdeal.nD Cert.KernelKVIdeal.τ).loc Cert.KernelKVIdeal.main_v60_0)) (v1 : (c : Dev Cert.KernelKVIdeal.nD) → Buf (Elt Ideal) ((c.tc : Thread Cert.KernelKVIdeal.nD Cert.KernelKVIdeal.τ).loc Cert.KernelKVIdeal.main_v60_1)) (v2 : (c : Dev Cert.KernelKVIdeal.nD) → Buf (Elt Ideal) ((c.tc : Thread Cert.KernelKVIdeal.nD Cert.KernelKVIdeal.τ).loc Cert.KernelKVIdeal.main_v60_2)),
      θ_run (Cert.KernelKVIdeal.defs (F := Ideal)) (onTc (τ := Cert.KernelKVIdeal.τ) (Cert.KernelKVIdeal.main (F := Ideal))) ⟨m, fun _ => 0, g⟩ (fun r => ∀ c : Dev Cert.KernelKVIdeal.nD,
          r.2.mem ((c.tc : Thread Cert.KernelKVIdeal.nD Cert.KernelKVIdeal.τ).loc Cert.KernelKVIdeal.main_v60_0) = v0 c
          ∧ r.2.mem ((c.tc : Thread Cert.KernelKVIdeal.nD Cert.KernelKVIdeal.τ).loc Cert.KernelKVIdeal.main_v60_1) = v1 c
          ∧ r.2.mem ((c.tc : Thread Cert.KernelKVIdeal.nD Cert.KernelKVIdeal.τ).loc Cert.KernelKVIdeal.main_v60_2) = v2 c
          ∧ r.2.mem ((c.tc : Thread Cert.KernelKVIdeal.nD Cert.KernelKVIdeal.τ).loc Cert.KernelKVIdeal.main_arg0) = m ((c.tc : Thread Cert.KernelKVIdeal.nD Cert.KernelKVIdeal.τ).loc Cert.KernelKVIdeal.main_arg0)
          ∧ r.2.mem ((c.tc : Thread Cert.KernelKVIdeal.nD Cert.KernelKVIdeal.τ).loc Cert.KernelKVIdeal.main_arg1) = m ((c.tc : Thread Cert.KernelKVIdeal.nD Cert.KernelKVIdeal.τ).loc Cert.KernelKVIdeal.main_arg1)
          ∧ r.2.mem ((c.tc : Thread Cert.KernelKVIdeal.nD Cert.KernelKVIdeal.τ).loc Cert.KernelKVIdeal.main_arg2) = m ((c.tc : Thread Cert.KernelKVIdeal.nD Cert.KernelKVIdeal.τ).loc Cert.KernelKVIdeal.main_arg2))
      ∧ θ_run (Cert.ReferenceKVIdeal.defs (F := Ideal)) (onTc (τ := Cert.ReferenceKVIdeal.τ) (Cert.ReferenceKVIdeal.main (F := Ideal))) ⟨m', fun _ => 0, g'⟩ (fun r => ∀ c : Dev Cert.ReferenceKVIdeal.nD,
          r.2.mem ((c.tc : Thread Cert.ReferenceKVIdeal.nD Cert.ReferenceKVIdeal.τ).loc Cert.ReferenceKVIdeal.main_v91) = v0 c
          ∧ r.2.mem ((c.tc : Thread Cert.ReferenceKVIdeal.nD Cert.ReferenceKVIdeal.τ).loc Cert.ReferenceKVIdeal.main_v93) = v1 c
          ∧ r.2.mem ((c.tc : Thread Cert.ReferenceKVIdeal.nD Cert.ReferenceKVIdeal.τ).loc Cert.ReferenceKVIdeal.main_v105) = v2 c
          ∧ r.2.mem ((c.tc : Thread Cert.ReferenceKVIdeal.nD Cert.ReferenceKVIdeal.τ).loc Cert.ReferenceKVIdeal.main_arg0) = m' ((c.tc : Thread Cert.ReferenceKVIdeal.nD Cert.ReferenceKVIdeal.τ).loc Cert.ReferenceKVIdeal.main_arg0)
          ∧ r.2.mem ((c.tc : Thread Cert.ReferenceKVIdeal.nD Cert.ReferenceKVIdeal.τ).loc Cert.ReferenceKVIdeal.main_arg1) = m' ((c.tc : Thread Cert.ReferenceKVIdeal.nD Cert.ReferenceKVIdeal.τ).loc Cert.ReferenceKVIdeal.main_arg1)
          ∧ r.2.mem ((c.tc : Thread Cert.ReferenceKVIdeal.nD Cert.ReferenceKVIdeal.τ).loc Cert.ReferenceKVIdeal.main_arg2) = m' ((c.tc : Thread Cert.ReferenceKVIdeal.nD Cert.ReferenceKVIdeal.τ).loc Cert.ReferenceKVIdeal.main_arg2))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v8) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)) →
    ∃ (v0 : (c : Dev Cert.KernelWoutIdeal.nD) → Buf (Elt Ideal) ((c.tc : Thread Cert.KernelWoutIdeal.nD Cert.KernelWoutIdeal.τ).loc Cert.KernelWoutIdeal.main_v0)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v0) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v8) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1))

def preserves_KernelDout_KernelDoutIdeal : Prop :=
  True

def algebraic_KernelDoutIdeal_ReferenceDoutIdeal [hKernelDoutIdeal : Cert.KernelDoutIdeal.Facts] [hReferenceDoutIdeal : Cert.ReferenceDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg)
    (m' : (ℓ : Loc Cert.ReferenceDoutIdeal.nD Cert.ReferenceDoutIdeal.τ Cert.ReferenceDoutIdeal.sig) → Buf (Elt Ideal) ℓ) (g' : Dev Cert.ReferenceDoutIdeal.nD → PrngReg), Pre_KernelDoutIdeal m →
    (∀ c : Dev Cert.KernelDoutIdeal.nD,
      m' ((c.tc : Thread Cert.ReferenceDoutIdeal.nD Cert.ReferenceDoutIdeal.τ).loc Cert.ReferenceDoutIdeal.main_arg0) = m ((c.tc : Thread Cert.KernelDoutIdeal.nD Cert.KernelDoutIdeal.τ).loc Cert.KernelDoutIdeal.main_arg0)
      ∧ m' ((c.tc : Thread Cert.ReferenceDoutIdeal.nD Cert.ReferenceDoutIdeal.τ).loc Cert.ReferenceDoutIdeal.main_arg1) = m ((c.tc : Thread Cert.KernelDoutIdeal.nD Cert.KernelDoutIdeal.τ).loc Cert.KernelDoutIdeal.main_arg1)) →
    ∃ (v0 : (c : Dev Cert.KernelDoutIdeal.nD) → Buf (Elt Ideal) ((c.tc : Thread Cert.KernelDoutIdeal.nD Cert.KernelDoutIdeal.τ).loc Cert.KernelDoutIdeal.main_v0)),
      θ_run (Cert.KernelDoutIdeal.defs (F := Ideal)) (onTc (τ := Cert.KernelDoutIdeal.τ) (Cert.KernelDoutIdeal.main (F := Ideal))) ⟨m, fun _ => 0, g⟩ (fun r => ∀ c : Dev Cert.KernelDoutIdeal.nD,
          r.2.mem ((c.tc : Thread Cert.KernelDoutIdeal.nD Cert.KernelDoutIdeal.τ).loc Cert.KernelDoutIdeal.main_v0) = v0 c
          ∧ r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
          ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ θ_run (Cert.ReferenceDoutIdeal.defs (F := Ideal)) (onTc (τ := Cert.ReferenceDoutIdeal.τ) (Cert.ReferenceDoutIdeal.main (F := Ideal))) ⟨m', fun _ => 0, g'⟩ (fun r => ∀ c : Dev Cert.ReferenceDoutIdeal.nD,
          r.2.mem ((c.tc : Thread Cert.ReferenceDoutIdeal.nD Cert.ReferenceDoutIdeal.τ).loc Cert.ReferenceDoutIdeal.main_v7) = v0 c
          ∧ r.2.mem ((c.tc : Thread Cert.ReferenceDoutIdeal.nD Cert.ReferenceDoutIdeal.τ).loc Cert.ReferenceDoutIdeal.main_arg0) = m' ((c.tc : Thread Cert.ReferenceDoutIdeal.nD Cert.ReferenceDoutIdeal.τ).loc Cert.ReferenceDoutIdeal.main_arg0)
          ∧ r.2.mem ((c.tc : Thread Cert.ReferenceDoutIdeal.nD Cert.ReferenceDoutIdeal.τ).loc Cert.ReferenceDoutIdeal.main_arg1) = m' ((c.tc : Thread Cert.ReferenceDoutIdeal.nD Cert.ReferenceDoutIdeal.τ).loc Cert.ReferenceDoutIdeal.main_arg1))

def preserves_KernelDin_KernelDinIdeal : Prop :=
  True

def algebraic_KernelDinIdeal_ReferenceDinIdeal [hKernelDinIdeal : Cert.KernelDinIdeal.Facts] [hReferenceDinIdeal : Cert.ReferenceDinIdeal.Facts] : Prop :=
  ∀ (m : (ℓ : Loc Cert.KernelDinIdeal.nD Cert.KernelDinIdeal.τ Cert.KernelDinIdeal.sig) → Buf (Elt Ideal) ℓ) (g : Dev Cert.KernelDinIdeal.nD → PrngReg)
    (m' : (ℓ : Loc Cert.ReferenceDinIdeal.nD Cert.ReferenceDinIdeal.τ Cert.ReferenceDinIdeal.sig) → Buf (Elt Ideal) ℓ) (g' : Dev Cert.ReferenceDinIdeal.nD → PrngReg), Pre_KernelDinIdeal m →
    (∀ c : Dev Cert.KernelDinIdeal.nD,
      m' ((c.tc : Thread Cert.ReferenceDinIdeal.nD Cert.ReferenceDinIdeal.τ).loc Cert.ReferenceDinIdeal.main_arg0) = m ((c.tc : Thread Cert.KernelDinIdeal.nD Cert.KernelDinIdeal.τ).loc Cert.KernelDinIdeal.main_arg0)
      ∧ m' ((c.tc : Thread Cert.ReferenceDinIdeal.nD Cert.ReferenceDinIdeal.τ).loc Cert.ReferenceDinIdeal.main_arg1) = m ((c.tc : Thread Cert.KernelDinIdeal.nD Cert.KernelDinIdeal.τ).loc Cert.KernelDinIdeal.main_arg1)) →
    ∃ (v0 : (c : Dev Cert.KernelDinIdeal.nD) → Buf (Elt Ideal) ((c.tc : Thread Cert.KernelDinIdeal.nD Cert.KernelDinIdeal.τ).loc Cert.KernelDinIdeal.main_v0)),
      θ_run (Cert.KernelDinIdeal.defs (F := Ideal)) (onTc (τ := Cert.KernelDinIdeal.τ) (Cert.KernelDinIdeal.main (F := Ideal))) ⟨m, fun _ => 0, g⟩ (fun r => ∀ c : Dev Cert.KernelDinIdeal.nD,
          r.2.mem ((c.tc : Thread Cert.KernelDinIdeal.nD Cert.KernelDinIdeal.τ).loc Cert.KernelDinIdeal.main_v0) = v0 c
          ∧ r.2.mem ((c.tc : Thread Cert.KernelDinIdeal.nD Cert.KernelDinIdeal.τ).loc Cert.KernelDinIdeal.main_arg0) = m ((c.tc : Thread Cert.KernelDinIdeal.nD Cert.KernelDinIdeal.τ).loc Cert.KernelDinIdeal.main_arg0)
          ∧ r.2.mem ((c.tc : Thread Cert.KernelDinIdeal.nD Cert.KernelDinIdeal.τ).loc Cert.KernelDinIdeal.main_arg1) = m ((c.tc : Thread Cert.KernelDinIdeal.nD Cert.KernelDinIdeal.τ).loc Cert.KernelDinIdeal.main_arg1))
      ∧ θ_run (Cert.ReferenceDinIdeal.defs (F := Ideal)) (onTc (τ := Cert.ReferenceDinIdeal.τ) (Cert.ReferenceDinIdeal.main (F := Ideal))) ⟨m', fun _ => 0, g'⟩ (fun r => ∀ c : Dev Cert.ReferenceDinIdeal.nD,
          r.2.mem ((c.tc : Thread Cert.ReferenceDinIdeal.nD Cert.ReferenceDinIdeal.τ).loc Cert.ReferenceDinIdeal.main_v7) = v0 c
          ∧ r.2.mem ((c.tc : Thread Cert.ReferenceDinIdeal.nD Cert.ReferenceDinIdeal.τ).loc Cert.ReferenceDinIdeal.main_arg0) = m' ((c.tc : Thread Cert.ReferenceDinIdeal.nD Cert.ReferenceDinIdeal.τ).loc Cert.ReferenceDinIdeal.main_arg0)
          ∧ r.2.mem ((c.tc : Thread Cert.ReferenceDinIdeal.nD Cert.ReferenceDinIdeal.τ).loc Cert.ReferenceDinIdeal.main_arg1) = m' ((c.tc : Thread Cert.ReferenceDinIdeal.nD Cert.ReferenceDinIdeal.τ).loc Cert.ReferenceDinIdeal.main_arg1))

def preserves_KernelWmain_KernelWmainIdeal : Prop :=
  True

def algebraic_KernelWmainIdeal_ReferenceWmainIdeal [hKernelWmainIdeal : Cert.KernelWmainIdeal.Facts] [hReferenceWmainIdeal : Cert.ReferenceWmainIdeal.Facts] : Prop :=
  ∀ (m : (ℓ : Loc Cert.KernelWmainIdeal.nD Cert.KernelWmainIdeal.τ Cert.KernelWmainIdeal.sig) → Buf (Elt Ideal) ℓ) (g : Dev Cert.KernelWmainIdeal.nD → PrngReg)
    (m' : (ℓ : Loc Cert.ReferenceWmainIdeal.nD Cert.ReferenceWmainIdeal.τ Cert.ReferenceWmainIdeal.sig) → Buf (Elt Ideal) ℓ) (g' : Dev Cert.ReferenceWmainIdeal.nD → PrngReg), Pre_KernelWmainIdeal m →
    (∀ c : Dev Cert.KernelWmainIdeal.nD,
      m' ((c.tc : Thread Cert.ReferenceWmainIdeal.nD Cert.ReferenceWmainIdeal.τ).loc Cert.ReferenceWmainIdeal.main_arg0) = m ((c.tc : Thread Cert.KernelWmainIdeal.nD Cert.KernelWmainIdeal.τ).loc Cert.KernelWmainIdeal.main_arg0)
      ∧ m' ((c.tc : Thread Cert.ReferenceWmainIdeal.nD Cert.ReferenceWmainIdeal.τ).loc Cert.ReferenceWmainIdeal.main_arg1) = m ((c.tc : Thread Cert.KernelWmainIdeal.nD Cert.KernelWmainIdeal.τ).loc Cert.KernelWmainIdeal.main_arg1)) →
    ∃ (v0 : (c : Dev Cert.KernelWmainIdeal.nD) → Buf (Elt Ideal) ((c.tc : Thread Cert.KernelWmainIdeal.nD Cert.KernelWmainIdeal.τ).loc Cert.KernelWmainIdeal.main_v0)),
      θ_run (Cert.KernelWmainIdeal.defs (F := Ideal)) (onTc (τ := Cert.KernelWmainIdeal.τ) (Cert.KernelWmainIdeal.main (F := Ideal))) ⟨m, fun _ => 0, g⟩ (fun r => ∀ c : Dev Cert.KernelWmainIdeal.nD,
          r.2.mem ((c.tc : Thread Cert.KernelWmainIdeal.nD Cert.KernelWmainIdeal.τ).loc Cert.KernelWmainIdeal.main_v0) = v0 c
          ∧ r.2.mem ((c.tc : Thread Cert.KernelWmainIdeal.nD Cert.KernelWmainIdeal.τ).loc Cert.KernelWmainIdeal.main_arg0) = m ((c.tc : Thread Cert.KernelWmainIdeal.nD Cert.KernelWmainIdeal.τ).loc Cert.KernelWmainIdeal.main_arg0)
          ∧ r.2.mem ((c.tc : Thread Cert.KernelWmainIdeal.nD Cert.KernelWmainIdeal.τ).loc Cert.KernelWmainIdeal.main_arg1) = m ((c.tc : Thread Cert.KernelWmainIdeal.nD Cert.KernelWmainIdeal.τ).loc Cert.KernelWmainIdeal.main_arg1))
      ∧ θ_run (Cert.ReferenceWmainIdeal.defs (F := Ideal)) (onTc (τ := Cert.ReferenceWmainIdeal.τ) (Cert.ReferenceWmainIdeal.main (F := Ideal))) ⟨m', fun _ => 0, g'⟩ (fun r => ∀ c : Dev Cert.ReferenceWmainIdeal.nD,
          r.2.mem ((c.tc : Thread Cert.ReferenceWmainIdeal.nD Cert.ReferenceWmainIdeal.τ).loc Cert.ReferenceWmainIdeal.main_v8) = v0 c
          ∧ r.2.mem ((c.tc : Thread Cert.ReferenceWmainIdeal.nD Cert.ReferenceWmainIdeal.τ).loc Cert.ReferenceWmainIdeal.main_arg0) = m' ((c.tc : Thread Cert.ReferenceWmainIdeal.nD Cert.ReferenceWmainIdeal.τ).loc Cert.ReferenceWmainIdeal.main_arg0)
          ∧ r.2.mem ((c.tc : Thread Cert.ReferenceWmainIdeal.nD Cert.ReferenceWmainIdeal.τ).loc Cert.ReferenceWmainIdeal.main_arg1) = m' ((c.tc : Thread Cert.ReferenceWmainIdeal.nD Cert.ReferenceWmainIdeal.τ).loc Cert.ReferenceWmainIdeal.main_arg1))

def preserves_KernelWf_KernelWfIdeal : Prop :=
  True

def algebraic_KernelWfIdeal_ReferenceWfIdeal [hKernelWfIdeal : Cert.KernelWfIdeal.Facts] [hReferenceWfIdeal : Cert.ReferenceWfIdeal.Facts] : Prop :=
  ∀ (m : (ℓ : Loc Cert.KernelWfIdeal.nD Cert.KernelWfIdeal.τ Cert.KernelWfIdeal.sig) → Buf (Elt Ideal) ℓ) (g : Dev Cert.KernelWfIdeal.nD → PrngReg)
    (m' : (ℓ : Loc Cert.ReferenceWfIdeal.nD Cert.ReferenceWfIdeal.τ Cert.ReferenceWfIdeal.sig) → Buf (Elt Ideal) ℓ) (g' : Dev Cert.ReferenceWfIdeal.nD → PrngReg), Pre_KernelWfIdeal m →
    (∀ c : Dev Cert.KernelWfIdeal.nD,
      m' ((c.tc : Thread Cert.ReferenceWfIdeal.nD Cert.ReferenceWfIdeal.τ).loc Cert.ReferenceWfIdeal.main_arg0) = m ((c.tc : Thread Cert.KernelWfIdeal.nD Cert.KernelWfIdeal.τ).loc Cert.KernelWfIdeal.main_arg0)
      ∧ m' ((c.tc : Thread Cert.ReferenceWfIdeal.nD Cert.ReferenceWfIdeal.τ).loc Cert.ReferenceWfIdeal.main_arg1) = m ((c.tc : Thread Cert.KernelWfIdeal.nD Cert.KernelWfIdeal.τ).loc Cert.KernelWfIdeal.main_arg1)) →
    ∃ (v0 : (c : Dev Cert.KernelWfIdeal.nD) → Buf (Elt Ideal) ((c.tc : Thread Cert.KernelWfIdeal.nD Cert.KernelWfIdeal.τ).loc Cert.KernelWfIdeal.main_v0)),
      θ_run (Cert.KernelWfIdeal.defs (F := Ideal)) (onTc (τ := Cert.KernelWfIdeal.τ) (Cert.KernelWfIdeal.main (F := Ideal))) ⟨m, fun _ => 0, g⟩ (fun r => ∀ c : Dev Cert.KernelWfIdeal.nD,
          r.2.mem ((c.tc : Thread Cert.KernelWfIdeal.nD Cert.KernelWfIdeal.τ).loc Cert.KernelWfIdeal.main_v0) = v0 c
          ∧ r.2.mem ((c.tc : Thread Cert.KernelWfIdeal.nD Cert.KernelWfIdeal.τ).loc Cert.KernelWfIdeal.main_arg0) = m ((c.tc : Thread Cert.KernelWfIdeal.nD Cert.KernelWfIdeal.τ).loc Cert.KernelWfIdeal.main_arg0)
          ∧ r.2.mem ((c.tc : Thread Cert.KernelWfIdeal.nD Cert.KernelWfIdeal.τ).loc Cert.KernelWfIdeal.main_arg1) = m ((c.tc : Thread Cert.KernelWfIdeal.nD Cert.KernelWfIdeal.τ).loc Cert.KernelWfIdeal.main_arg1))
      ∧ θ_run (Cert.ReferenceWfIdeal.defs (F := Ideal)) (onTc (τ := Cert.ReferenceWfIdeal.τ) (Cert.ReferenceWfIdeal.main (F := Ideal))) ⟨m', fun _ => 0, g'⟩ (fun r => ∀ c : Dev Cert.ReferenceWfIdeal.nD,
          r.2.mem ((c.tc : Thread Cert.ReferenceWfIdeal.nD Cert.ReferenceWfIdeal.τ).loc Cert.ReferenceWfIdeal.main_v8) = v0 c
          ∧ r.2.mem ((c.tc : Thread Cert.ReferenceWfIdeal.nD Cert.ReferenceWfIdeal.τ).loc Cert.ReferenceWfIdeal.main_arg0) = m' ((c.tc : Thread Cert.ReferenceWfIdeal.nD Cert.ReferenceWfIdeal.τ).loc Cert.ReferenceWfIdeal.main_arg0)
          ∧ r.2.mem ((c.tc : Thread Cert.ReferenceWfIdeal.nD Cert.ReferenceWfIdeal.τ).loc Cert.ReferenceWfIdeal.main_arg1) = m' ((c.tc : Thread Cert.ReferenceWfIdeal.nD Cert.ReferenceWfIdeal.τ).loc Cert.ReferenceWfIdeal.main_arg1))

def preserves_KernelWsq_KernelWsqIdeal : Prop :=
  True

def algebraic_KernelWsqIdeal_ReferenceWsqIdeal [hKernelWsqIdeal : Cert.KernelWsqIdeal.Facts] [hReferenceWsqIdeal : Cert.ReferenceWsqIdeal.Facts] : Prop :=
  ∀ (m : (ℓ : Loc Cert.KernelWsqIdeal.nD Cert.KernelWsqIdeal.τ Cert.KernelWsqIdeal.sig) → Buf (Elt Ideal) ℓ) (g : Dev Cert.KernelWsqIdeal.nD → PrngReg)
    (m' : (ℓ : Loc Cert.ReferenceWsqIdeal.nD Cert.ReferenceWsqIdeal.τ Cert.ReferenceWsqIdeal.sig) → Buf (Elt Ideal) ℓ) (g' : Dev Cert.ReferenceWsqIdeal.nD → PrngReg), Pre_KernelWsqIdeal m →
    (∀ c : Dev Cert.KernelWsqIdeal.nD,
      m' ((c.tc : Thread Cert.ReferenceWsqIdeal.nD Cert.ReferenceWsqIdeal.τ).loc Cert.ReferenceWsqIdeal.main_arg0) = m ((c.tc : Thread Cert.KernelWsqIdeal.nD Cert.KernelWsqIdeal.τ).loc Cert.KernelWsqIdeal.main_arg0)
      ∧ m' ((c.tc : Thread Cert.ReferenceWsqIdeal.nD Cert.ReferenceWsqIdeal.τ).loc Cert.ReferenceWsqIdeal.main_arg1) = m ((c.tc : Thread Cert.KernelWsqIdeal.nD Cert.KernelWsqIdeal.τ).loc Cert.KernelWsqIdeal.main_arg1)) →
    ∃ (v0 : (c : Dev Cert.KernelWsqIdeal.nD) → Buf (Elt Ideal) ((c.tc : Thread Cert.KernelWsqIdeal.nD Cert.KernelWsqIdeal.τ).loc Cert.KernelWsqIdeal.main_v0)),
      θ_run (Cert.KernelWsqIdeal.defs (F := Ideal)) (onTc (τ := Cert.KernelWsqIdeal.τ) (Cert.KernelWsqIdeal.main (F := Ideal))) ⟨m, fun _ => 0, g⟩ (fun r => ∀ c : Dev Cert.KernelWsqIdeal.nD,
          r.2.mem ((c.tc : Thread Cert.KernelWsqIdeal.nD Cert.KernelWsqIdeal.τ).loc Cert.KernelWsqIdeal.main_v0) = v0 c
          ∧ r.2.mem ((c.tc : Thread Cert.KernelWsqIdeal.nD Cert.KernelWsqIdeal.τ).loc Cert.KernelWsqIdeal.main_arg0) = m ((c.tc : Thread Cert.KernelWsqIdeal.nD Cert.KernelWsqIdeal.τ).loc Cert.KernelWsqIdeal.main_arg0)
          ∧ r.2.mem ((c.tc : Thread Cert.KernelWsqIdeal.nD Cert.KernelWsqIdeal.τ).loc Cert.KernelWsqIdeal.main_arg1) = m ((c.tc : Thread Cert.KernelWsqIdeal.nD Cert.KernelWsqIdeal.τ).loc Cert.KernelWsqIdeal.main_arg1))
      ∧ θ_run (Cert.ReferenceWsqIdeal.defs (F := Ideal)) (onTc (τ := Cert.ReferenceWsqIdeal.τ) (Cert.ReferenceWsqIdeal.main (F := Ideal))) ⟨m', fun _ => 0, g'⟩ (fun r => ∀ c : Dev Cert.ReferenceWsqIdeal.nD,
          r.2.mem ((c.tc : Thread Cert.ReferenceWsqIdeal.nD Cert.ReferenceWsqIdeal.τ).loc Cert.ReferenceWsqIdeal.main_v8) = v0 c
          ∧ r.2.mem ((c.tc : Thread Cert.ReferenceWsqIdeal.nD Cert.ReferenceWsqIdeal.τ).loc Cert.ReferenceWsqIdeal.main_arg0) = m' ((c.tc : Thread Cert.ReferenceWsqIdeal.nD Cert.ReferenceWsqIdeal.τ).loc Cert.ReferenceWsqIdeal.main_arg0)
          ∧ r.2.mem ((c.tc : Thread Cert.ReferenceWsqIdeal.nD Cert.ReferenceWsqIdeal.τ).loc Cert.ReferenceWsqIdeal.main_arg1) = m' ((c.tc : Thread Cert.ReferenceWsqIdeal.nD Cert.ReferenceWsqIdeal.τ).loc Cert.ReferenceWsqIdeal.main_arg1))

def preserves_KernelWatt_KernelWattIdeal : Prop :=
  True

def algebraic_KernelWattIdeal_ReferenceWattIdeal [hKernelWattIdeal : Cert.KernelWattIdeal.Facts] [hReferenceWattIdeal : Cert.ReferenceWattIdeal.Facts] : Prop :=
  ∀ (m : (ℓ : Loc Cert.KernelWattIdeal.nD Cert.KernelWattIdeal.τ Cert.KernelWattIdeal.sig) → Buf (Elt Ideal) ℓ) (g : Dev Cert.KernelWattIdeal.nD → PrngReg)
    (m' : (ℓ : Loc Cert.ReferenceWattIdeal.nD Cert.ReferenceWattIdeal.τ Cert.ReferenceWattIdeal.sig) → Buf (Elt Ideal) ℓ) (g' : Dev Cert.ReferenceWattIdeal.nD → PrngReg), Pre_KernelWattIdeal m →
    (∀ c : Dev Cert.KernelWattIdeal.nD,
      m' ((c.tc : Thread Cert.ReferenceWattIdeal.nD Cert.ReferenceWattIdeal.τ).loc Cert.ReferenceWattIdeal.main_arg0) = m ((c.tc : Thread Cert.KernelWattIdeal.nD Cert.KernelWattIdeal.τ).loc Cert.KernelWattIdeal.main_arg0)
      ∧ m' ((c.tc : Thread Cert.ReferenceWattIdeal.nD Cert.ReferenceWattIdeal.τ).loc Cert.ReferenceWattIdeal.main_arg1) = m ((c.tc : Thread Cert.KernelWattIdeal.nD Cert.KernelWattIdeal.τ).loc Cert.KernelWattIdeal.main_arg1)) →
    ∃ (v0 : (c : Dev Cert.KernelWattIdeal.nD) → Buf (Elt Ideal) ((c.tc : Thread Cert.KernelWattIdeal.nD Cert.KernelWattIdeal.τ).loc Cert.KernelWattIdeal.main_v0)),
      θ_run (Cert.KernelWattIdeal.defs (F := Ideal)) (onTc (τ := Cert.KernelWattIdeal.τ) (Cert.KernelWattIdeal.main (F := Ideal))) ⟨m, fun _ => 0, g⟩ (fun r => ∀ c : Dev Cert.KernelWattIdeal.nD,
          r.2.mem ((c.tc : Thread Cert.KernelWattIdeal.nD Cert.KernelWattIdeal.τ).loc Cert.KernelWattIdeal.main_v0) = v0 c
          ∧ r.2.mem ((c.tc : Thread Cert.KernelWattIdeal.nD Cert.KernelWattIdeal.τ).loc Cert.KernelWattIdeal.main_arg0) = m ((c.tc : Thread Cert.KernelWattIdeal.nD Cert.KernelWattIdeal.τ).loc Cert.KernelWattIdeal.main_arg0)
          ∧ r.2.mem ((c.tc : Thread Cert.KernelWattIdeal.nD Cert.KernelWattIdeal.τ).loc Cert.KernelWattIdeal.main_arg1) = m ((c.tc : Thread Cert.KernelWattIdeal.nD Cert.KernelWattIdeal.τ).loc Cert.KernelWattIdeal.main_arg1))
      ∧ θ_run (Cert.ReferenceWattIdeal.defs (F := Ideal)) (onTc (τ := Cert.ReferenceWattIdeal.τ) (Cert.ReferenceWattIdeal.main (F := Ideal))) ⟨m', fun _ => 0, g'⟩ (fun r => ∀ c : Dev Cert.ReferenceWattIdeal.nD,
          r.2.mem ((c.tc : Thread Cert.ReferenceWattIdeal.nD Cert.ReferenceWattIdeal.τ).loc Cert.ReferenceWattIdeal.main_v8) = v0 c
          ∧ r.2.mem ((c.tc : Thread Cert.ReferenceWattIdeal.nD Cert.ReferenceWattIdeal.τ).loc Cert.ReferenceWattIdeal.main_arg0) = m' ((c.tc : Thread Cert.ReferenceWattIdeal.nD Cert.ReferenceWattIdeal.τ).loc Cert.ReferenceWattIdeal.main_arg0)
          ∧ r.2.mem ((c.tc : Thread Cert.ReferenceWattIdeal.nD Cert.ReferenceWattIdeal.τ).loc Cert.ReferenceWattIdeal.main_arg1) = m' ((c.tc : Thread Cert.ReferenceWattIdeal.nD Cert.ReferenceWattIdeal.τ).loc Cert.ReferenceWattIdeal.main_arg1))

def preserves_KernelWple_KernelWpleIdeal : Prop :=
  True

def algebraic_KernelWpleIdeal_ReferenceWpleIdeal [hKernelWpleIdeal : Cert.KernelWpleIdeal.Facts] [hReferenceWpleIdeal : Cert.ReferenceWpleIdeal.Facts] : Prop :=
  ∀ (m : (ℓ : Loc Cert.KernelWpleIdeal.nD Cert.KernelWpleIdeal.τ Cert.KernelWpleIdeal.sig) → Buf (Elt Ideal) ℓ) (g : Dev Cert.KernelWpleIdeal.nD → PrngReg)
    (m' : (ℓ : Loc Cert.ReferenceWpleIdeal.nD Cert.ReferenceWpleIdeal.τ Cert.ReferenceWpleIdeal.sig) → Buf (Elt Ideal) ℓ) (g' : Dev Cert.ReferenceWpleIdeal.nD → PrngReg), Pre_KernelWpleIdeal m →
    (∀ c : Dev Cert.KernelWpleIdeal.nD,
      m' ((c.tc : Thread Cert.ReferenceWpleIdeal.nD Cert.ReferenceWpleIdeal.τ).loc Cert.ReferenceWpleIdeal.main_arg0) = m ((c.tc : Thread Cert.KernelWpleIdeal.nD Cert.KernelWpleIdeal.τ).loc Cert.KernelWpleIdeal.main_arg0)
      ∧ m' ((c.tc : Thread Cert.ReferenceWpleIdeal.nD Cert.ReferenceWpleIdeal.τ).loc Cert.ReferenceWpleIdeal.main_arg1) = m ((c.tc : Thread Cert.KernelWpleIdeal.nD Cert.KernelWpleIdeal.τ).loc Cert.KernelWpleIdeal.main_arg1)) →
    ∃ (v0 : (c : Dev Cert.KernelWpleIdeal.nD) → Buf (Elt Ideal) ((c.tc : Thread Cert.KernelWpleIdeal.nD Cert.KernelWpleIdeal.τ).loc Cert.KernelWpleIdeal.main_v0)),
      θ_run (Cert.KernelWpleIdeal.defs (F := Ideal)) (onTc (τ := Cert.KernelWpleIdeal.τ) (Cert.KernelWpleIdeal.main (F := Ideal))) ⟨m, fun _ => 0, g⟩ (fun r => ∀ c : Dev Cert.KernelWpleIdeal.nD,
          r.2.mem ((c.tc : Thread Cert.KernelWpleIdeal.nD Cert.KernelWpleIdeal.τ).loc Cert.KernelWpleIdeal.main_v0) = v0 c
          ∧ r.2.mem ((c.tc : Thread Cert.KernelWpleIdeal.nD Cert.KernelWpleIdeal.τ).loc Cert.KernelWpleIdeal.main_arg0) = m ((c.tc : Thread Cert.KernelWpleIdeal.nD Cert.KernelWpleIdeal.τ).loc Cert.KernelWpleIdeal.main_arg0)
          ∧ r.2.mem ((c.tc : Thread Cert.KernelWpleIdeal.nD Cert.KernelWpleIdeal.τ).loc Cert.KernelWpleIdeal.main_arg1) = m ((c.tc : Thread Cert.KernelWpleIdeal.nD Cert.KernelWpleIdeal.τ).loc Cert.KernelWpleIdeal.main_arg1))
      ∧ θ_run (Cert.ReferenceWpleIdeal.defs (F := Ideal)) (onTc (τ := Cert.ReferenceWpleIdeal.τ) (Cert.ReferenceWpleIdeal.main (F := Ideal))) ⟨m', fun _ => 0, g'⟩ (fun r => ∀ c : Dev Cert.ReferenceWpleIdeal.nD,
          r.2.mem ((c.tc : Thread Cert.ReferenceWpleIdeal.nD Cert.ReferenceWpleIdeal.τ).loc Cert.ReferenceWpleIdeal.main_v8) = v0 c
          ∧ r.2.mem ((c.tc : Thread Cert.ReferenceWpleIdeal.nD Cert.ReferenceWpleIdeal.τ).loc Cert.ReferenceWpleIdeal.main_arg0) = m' ((c.tc : Thread Cert.ReferenceWpleIdeal.nD Cert.ReferenceWpleIdeal.τ).loc Cert.ReferenceWpleIdeal.main_arg0)
          ∧ r.2.mem ((c.tc : Thread Cert.ReferenceWpleIdeal.nD Cert.ReferenceWpleIdeal.τ).loc Cert.ReferenceWpleIdeal.main_arg1) = m' ((c.tc : Thread Cert.ReferenceWpleIdeal.nD Cert.ReferenceWpleIdeal.τ).loc Cert.ReferenceWpleIdeal.main_arg1))

def preserves_KernelDmain_KernelDmainIdeal : Prop :=
  True

def algebraic_KernelDmainIdeal_ReferenceDmainIdeal [hKernelDmainIdeal : Cert.KernelDmainIdeal.Facts] [hReferenceDmainIdeal : Cert.ReferenceDmainIdeal.Facts] : Prop :=
  ∀ (m : (ℓ : Loc Cert.KernelDmainIdeal.nD Cert.KernelDmainIdeal.τ Cert.KernelDmainIdeal.sig) → Buf (Elt Ideal) ℓ) (g : Dev Cert.KernelDmainIdeal.nD → PrngReg)
    (m' : (ℓ : Loc Cert.ReferenceDmainIdeal.nD Cert.ReferenceDmainIdeal.τ Cert.ReferenceDmainIdeal.sig) → Buf (Elt Ideal) ℓ) (g' : Dev Cert.ReferenceDmainIdeal.nD → PrngReg), Pre_KernelDmainIdeal m →
    (∀ c : Dev Cert.KernelDmainIdeal.nD,
      m' ((c.tc : Thread Cert.ReferenceDmainIdeal.nD Cert.ReferenceDmainIdeal.τ).loc Cert.ReferenceDmainIdeal.main_arg0) = m ((c.tc : Thread Cert.KernelDmainIdeal.nD Cert.KernelDmainIdeal.τ).loc Cert.KernelDmainIdeal.main_arg0)
      ∧ m' ((c.tc : Thread Cert.ReferenceDmainIdeal.nD Cert.ReferenceDmainIdeal.τ).loc Cert.ReferenceDmainIdeal.main_arg1) = m ((c.tc : Thread Cert.KernelDmainIdeal.nD Cert.KernelDmainIdeal.τ).loc Cert.KernelDmainIdeal.main_arg1)) →
    ∃ (v0 : (c : Dev Cert.KernelDmainIdeal.nD) → Buf (Elt Ideal) ((c.tc : Thread Cert.KernelDmainIdeal.nD Cert.KernelDmainIdeal.τ).loc Cert.KernelDmainIdeal.main_v0)),
      θ_run (Cert.KernelDmainIdeal.defs (F := Ideal)) (onTc (τ := Cert.KernelDmainIdeal.τ) (Cert.KernelDmainIdeal.main (F := Ideal))) ⟨m, fun _ => 0, g⟩ (fun r => ∀ c : Dev Cert.KernelDmainIdeal.nD,
          r.2.mem ((c.tc : Thread Cert.KernelDmainIdeal.nD Cert.KernelDmainIdeal.τ).loc Cert.KernelDmainIdeal.main_v0) = v0 c
          ∧ r.2.mem ((c.tc : Thread Cert.KernelDmainIdeal.nD Cert.KernelDmainIdeal.τ).loc Cert.KernelDmainIdeal.main_arg0) = m ((c.tc : Thread Cert.KernelDmainIdeal.nD Cert.KernelDmainIdeal.τ).loc Cert.KernelDmainIdeal.main_arg0)
          ∧ r.2.mem ((c.tc : Thread Cert.KernelDmainIdeal.nD Cert.KernelDmainIdeal.τ).loc Cert.KernelDmainIdeal.main_arg1) = m ((c.tc : Thread Cert.KernelDmainIdeal.nD Cert.KernelDmainIdeal.τ).loc Cert.KernelDmainIdeal.main_arg1))
      ∧ θ_run (Cert.ReferenceDmainIdeal.defs (F := Ideal)) (onTc (τ := Cert.ReferenceDmainIdeal.τ) (Cert.ReferenceDmainIdeal.main (F := Ideal))) ⟨m', fun _ => 0, g'⟩ (fun r => ∀ c : Dev Cert.ReferenceDmainIdeal.nD,
          r.2.mem ((c.tc : Thread Cert.ReferenceDmainIdeal.nD Cert.ReferenceDmainIdeal.τ).loc Cert.ReferenceDmainIdeal.main_v7) = v0 c
          ∧ r.2.mem ((c.tc : Thread Cert.ReferenceDmainIdeal.nD Cert.ReferenceDmainIdeal.τ).loc Cert.ReferenceDmainIdeal.main_arg0) = m' ((c.tc : Thread Cert.ReferenceDmainIdeal.nD Cert.ReferenceDmainIdeal.τ).loc Cert.ReferenceDmainIdeal.main_arg0)
          ∧ r.2.mem ((c.tc : Thread Cert.ReferenceDmainIdeal.nD Cert.ReferenceDmainIdeal.τ).loc Cert.ReferenceDmainIdeal.main_arg1) = m' ((c.tc : Thread Cert.ReferenceDmainIdeal.nD Cert.ReferenceDmainIdeal.τ).loc Cert.ReferenceDmainIdeal.main_arg1))

def preserves_KernelDf_KernelDfIdeal : Prop :=
  True

def algebraic_KernelDfIdeal_ReferenceDfIdeal [hKernelDfIdeal : Cert.KernelDfIdeal.Facts] [hReferenceDfIdeal : Cert.ReferenceDfIdeal.Facts] : Prop :=
  ∀ (m : (ℓ : Loc Cert.KernelDfIdeal.nD Cert.KernelDfIdeal.τ Cert.KernelDfIdeal.sig) → Buf (Elt Ideal) ℓ) (g : Dev Cert.KernelDfIdeal.nD → PrngReg)
    (m' : (ℓ : Loc Cert.ReferenceDfIdeal.nD Cert.ReferenceDfIdeal.τ Cert.ReferenceDfIdeal.sig) → Buf (Elt Ideal) ℓ) (g' : Dev Cert.ReferenceDfIdeal.nD → PrngReg), Pre_KernelDfIdeal m →
    (∀ c : Dev Cert.KernelDfIdeal.nD,
      m' ((c.tc : Thread Cert.ReferenceDfIdeal.nD Cert.ReferenceDfIdeal.τ).loc Cert.ReferenceDfIdeal.main_arg0) = m ((c.tc : Thread Cert.KernelDfIdeal.nD Cert.KernelDfIdeal.τ).loc Cert.KernelDfIdeal.main_arg0)
      ∧ m' ((c.tc : Thread Cert.ReferenceDfIdeal.nD Cert.ReferenceDfIdeal.τ).loc Cert.ReferenceDfIdeal.main_arg1) = m ((c.tc : Thread Cert.KernelDfIdeal.nD Cert.KernelDfIdeal.τ).loc Cert.KernelDfIdeal.main_arg1)) →
    ∃ (v0 : (c : Dev Cert.KernelDfIdeal.nD) → Buf (Elt Ideal) ((c.tc : Thread Cert.KernelDfIdeal.nD Cert.KernelDfIdeal.τ).loc Cert.KernelDfIdeal.main_v0)),
      θ_run (Cert.KernelDfIdeal.defs (F := Ideal)) (onTc (τ := Cert.KernelDfIdeal.τ) (Cert.KernelDfIdeal.main (F := Ideal))) ⟨m, fun _ => 0, g⟩ (fun r => ∀ c : Dev Cert.KernelDfIdeal.nD,
          r.2.mem ((c.tc : Thread Cert.KernelDfIdeal.nD Cert.KernelDfIdeal.τ).loc Cert.KernelDfIdeal.main_v0) = v0 c
          ∧ r.2.mem ((c.tc : Thread Cert.KernelDfIdeal.nD Cert.KernelDfIdeal.τ).loc Cert.KernelDfIdeal.main_arg0) = m ((c.tc : Thread Cert.KernelDfIdeal.nD Cert.KernelDfIdeal.τ).loc Cert.KernelDfIdeal.main_arg0)
          ∧ r.2.mem ((c.tc : Thread Cert.KernelDfIdeal.nD Cert.KernelDfIdeal.τ).loc Cert.KernelDfIdeal.main_arg1) = m ((c.tc : Thread Cert.KernelDfIdeal.nD Cert.KernelDfIdeal.τ).loc Cert.KernelDfIdeal.main_arg1))
      ∧ θ_run (Cert.ReferenceDfIdeal.defs (F := Ideal)) (onTc (τ := Cert.ReferenceDfIdeal.τ) (Cert.ReferenceDfIdeal.main (F := Ideal))) ⟨m', fun _ => 0, g'⟩ (fun r => ∀ c : Dev Cert.ReferenceDfIdeal.nD,
          r.2.mem ((c.tc : Thread Cert.ReferenceDfIdeal.nD Cert.ReferenceDfIdeal.τ).loc Cert.ReferenceDfIdeal.main_v7) = v0 c
          ∧ r.2.mem ((c.tc : Thread Cert.ReferenceDfIdeal.nD Cert.ReferenceDfIdeal.τ).loc Cert.ReferenceDfIdeal.main_arg0) = m' ((c.tc : Thread Cert.ReferenceDfIdeal.nD Cert.ReferenceDfIdeal.τ).loc Cert.ReferenceDfIdeal.main_arg0)
          ∧ r.2.mem ((c.tc : Thread Cert.ReferenceDfIdeal.nD Cert.ReferenceDfIdeal.τ).loc Cert.ReferenceDfIdeal.main_arg1) = m' ((c.tc : Thread Cert.ReferenceDfIdeal.nD Cert.ReferenceDfIdeal.τ).loc Cert.ReferenceDfIdeal.main_arg1))

def preserves_KernelDsq_KernelDsqIdeal : Prop :=
  True

def algebraic_KernelDsqIdeal_ReferenceDsqIdeal [hKernelDsqIdeal : Cert.KernelDsqIdeal.Facts] [hReferenceDsqIdeal : Cert.ReferenceDsqIdeal.Facts] : Prop :=
  ∀ (m : (ℓ : Loc Cert.KernelDsqIdeal.nD Cert.KernelDsqIdeal.τ Cert.KernelDsqIdeal.sig) → Buf (Elt Ideal) ℓ) (g : Dev Cert.KernelDsqIdeal.nD → PrngReg)
    (m' : (ℓ : Loc Cert.ReferenceDsqIdeal.nD Cert.ReferenceDsqIdeal.τ Cert.ReferenceDsqIdeal.sig) → Buf (Elt Ideal) ℓ) (g' : Dev Cert.ReferenceDsqIdeal.nD → PrngReg), Pre_KernelDsqIdeal m →
    (∀ c : Dev Cert.KernelDsqIdeal.nD,
      m' ((c.tc : Thread Cert.ReferenceDsqIdeal.nD Cert.ReferenceDsqIdeal.τ).loc Cert.ReferenceDsqIdeal.main_arg0) = m ((c.tc : Thread Cert.KernelDsqIdeal.nD Cert.KernelDsqIdeal.τ).loc Cert.KernelDsqIdeal.main_arg0)
      ∧ m' ((c.tc : Thread Cert.ReferenceDsqIdeal.nD Cert.ReferenceDsqIdeal.τ).loc Cert.ReferenceDsqIdeal.main_arg1) = m ((c.tc : Thread Cert.KernelDsqIdeal.nD Cert.KernelDsqIdeal.τ).loc Cert.KernelDsqIdeal.main_arg1)) →
    ∃ (v0 : (c : Dev Cert.KernelDsqIdeal.nD) → Buf (Elt Ideal) ((c.tc : Thread Cert.KernelDsqIdeal.nD Cert.KernelDsqIdeal.τ).loc Cert.KernelDsqIdeal.main_v0)),
      θ_run (Cert.KernelDsqIdeal.defs (F := Ideal)) (onTc (τ := Cert.KernelDsqIdeal.τ) (Cert.KernelDsqIdeal.main (F := Ideal))) ⟨m, fun _ => 0, g⟩ (fun r => ∀ c : Dev Cert.KernelDsqIdeal.nD,
          r.2.mem ((c.tc : Thread Cert.KernelDsqIdeal.nD Cert.KernelDsqIdeal.τ).loc Cert.KernelDsqIdeal.main_v0) = v0 c
          ∧ r.2.mem ((c.tc : Thread Cert.KernelDsqIdeal.nD Cert.KernelDsqIdeal.τ).loc Cert.KernelDsqIdeal.main_arg0) = m ((c.tc : Thread Cert.KernelDsqIdeal.nD Cert.KernelDsqIdeal.τ).loc Cert.KernelDsqIdeal.main_arg0)
          ∧ r.2.mem ((c.tc : Thread Cert.KernelDsqIdeal.nD Cert.KernelDsqIdeal.τ).loc Cert.KernelDsqIdeal.main_arg1) = m ((c.tc : Thread Cert.KernelDsqIdeal.nD Cert.KernelDsqIdeal.τ).loc Cert.KernelDsqIdeal.main_arg1))
      ∧ θ_run (Cert.ReferenceDsqIdeal.defs (F := Ideal)) (onTc (τ := Cert.ReferenceDsqIdeal.τ) (Cert.ReferenceDsqIdeal.main (F := Ideal))) ⟨m', fun _ => 0, g'⟩ (fun r => ∀ c : Dev Cert.ReferenceDsqIdeal.nD,
          r.2.mem ((c.tc : Thread Cert.ReferenceDsqIdeal.nD Cert.ReferenceDsqIdeal.τ).loc Cert.ReferenceDsqIdeal.main_v7) = v0 c
          ∧ r.2.mem ((c.tc : Thread Cert.ReferenceDsqIdeal.nD Cert.ReferenceDsqIdeal.τ).loc Cert.ReferenceDsqIdeal.main_arg0) = m' ((c.tc : Thread Cert.ReferenceDsqIdeal.nD Cert.ReferenceDsqIdeal.τ).loc Cert.ReferenceDsqIdeal.main_arg0)
          ∧ r.2.mem ((c.tc : Thread Cert.ReferenceDsqIdeal.nD Cert.ReferenceDsqIdeal.τ).loc Cert.ReferenceDsqIdeal.main_arg1) = m' ((c.tc : Thread Cert.ReferenceDsqIdeal.nD Cert.ReferenceDsqIdeal.τ).loc Cert.ReferenceDsqIdeal.main_arg1))

def preserves_KernelDatt_KernelDattIdeal : Prop :=
  True

def algebraic_KernelDattIdeal_ReferenceDattIdeal [hKernelDattIdeal : Cert.KernelDattIdeal.Facts] [hReferenceDattIdeal : Cert.ReferenceDattIdeal.Facts] : Prop :=
  ∀ (m : (ℓ : Loc Cert.KernelDattIdeal.nD Cert.KernelDattIdeal.τ Cert.KernelDattIdeal.sig) → Buf (Elt Ideal) ℓ) (g : Dev Cert.KernelDattIdeal.nD → PrngReg)
    (m' : (ℓ : Loc Cert.ReferenceDattIdeal.nD Cert.ReferenceDattIdeal.τ Cert.ReferenceDattIdeal.sig) → Buf (Elt Ideal) ℓ) (g' : Dev Cert.ReferenceDattIdeal.nD → PrngReg), Pre_KernelDattIdeal m →
    (∀ c : Dev Cert.KernelDattIdeal.nD,
      m' ((c.tc : Thread Cert.ReferenceDattIdeal.nD Cert.ReferenceDattIdeal.τ).loc Cert.ReferenceDattIdeal.main_arg0) = m ((c.tc : Thread Cert.KernelDattIdeal.nD Cert.KernelDattIdeal.τ).loc Cert.KernelDattIdeal.main_arg0)
      ∧ m' ((c.tc : Thread Cert.ReferenceDattIdeal.nD Cert.ReferenceDattIdeal.τ).loc Cert.ReferenceDattIdeal.main_arg1) = m ((c.tc : Thread Cert.KernelDattIdeal.nD Cert.KernelDattIdeal.τ).loc Cert.KernelDattIdeal.main_arg1)) →
    ∃ (v0 : (c : Dev Cert.KernelDattIdeal.nD) → Buf (Elt Ideal) ((c.tc : Thread Cert.KernelDattIdeal.nD Cert.KernelDattIdeal.τ).loc Cert.KernelDattIdeal.main_v0)),
      θ_run (Cert.KernelDattIdeal.defs (F := Ideal)) (onTc (τ := Cert.KernelDattIdeal.τ) (Cert.KernelDattIdeal.main (F := Ideal))) ⟨m, fun _ => 0, g⟩ (fun r => ∀ c : Dev Cert.KernelDattIdeal.nD,
          r.2.mem ((c.tc : Thread Cert.KernelDattIdeal.nD Cert.KernelDattIdeal.τ).loc Cert.KernelDattIdeal.main_v0) = v0 c
          ∧ r.2.mem ((c.tc : Thread Cert.KernelDattIdeal.nD Cert.KernelDattIdeal.τ).loc Cert.KernelDattIdeal.main_arg0) = m ((c.tc : Thread Cert.KernelDattIdeal.nD Cert.KernelDattIdeal.τ).loc Cert.KernelDattIdeal.main_arg0)
          ∧ r.2.mem ((c.tc : Thread Cert.KernelDattIdeal.nD Cert.KernelDattIdeal.τ).loc Cert.KernelDattIdeal.main_arg1) = m ((c.tc : Thread Cert.KernelDattIdeal.nD Cert.KernelDattIdeal.τ).loc Cert.KernelDattIdeal.main_arg1))
      ∧ θ_run (Cert.ReferenceDattIdeal.defs (F := Ideal)) (onTc (τ := Cert.ReferenceDattIdeal.τ) (Cert.ReferenceDattIdeal.main (F := Ideal))) ⟨m', fun _ => 0, g'⟩ (fun r => ∀ c : Dev Cert.ReferenceDattIdeal.nD,
          r.2.mem ((c.tc : Thread Cert.ReferenceDattIdeal.nD Cert.ReferenceDattIdeal.τ).loc Cert.ReferenceDattIdeal.main_v7) = v0 c
          ∧ r.2.mem ((c.tc : Thread Cert.ReferenceDattIdeal.nD Cert.ReferenceDattIdeal.τ).loc Cert.ReferenceDattIdeal.main_arg0) = m' ((c.tc : Thread Cert.ReferenceDattIdeal.nD Cert.ReferenceDattIdeal.τ).loc Cert.ReferenceDattIdeal.main_arg0)
          ∧ r.2.mem ((c.tc : Thread Cert.ReferenceDattIdeal.nD Cert.ReferenceDattIdeal.τ).loc Cert.ReferenceDattIdeal.main_arg1) = m' ((c.tc : Thread Cert.ReferenceDattIdeal.nD Cert.ReferenceDattIdeal.τ).loc Cert.ReferenceDattIdeal.main_arg1))

def preserves_KernelZin_KernelZinIdeal : Prop :=
  True

def algebraic_KernelZinIdeal_ReferenceZinIdeal [hKernelZinIdeal : Cert.KernelZinIdeal.Facts] [hReferenceZinIdeal : Cert.ReferenceZinIdeal.Facts] : Prop :=
  ∀ (m : (ℓ : Loc Cert.KernelZinIdeal.nD Cert.KernelZinIdeal.τ Cert.KernelZinIdeal.sig) → Buf (Elt Ideal) ℓ) (g : Dev Cert.KernelZinIdeal.nD → PrngReg)
    (m' : (ℓ : Loc Cert.ReferenceZinIdeal.nD Cert.ReferenceZinIdeal.τ Cert.ReferenceZinIdeal.sig) → Buf (Elt Ideal) ℓ) (g' : Dev Cert.ReferenceZinIdeal.nD → PrngReg), Pre_KernelZinIdeal m →
    (∀ c : Dev Cert.KernelZinIdeal.nD,
      m' ((c.tc : Thread Cert.ReferenceZinIdeal.nD Cert.ReferenceZinIdeal.τ).loc Cert.ReferenceZinIdeal.main_arg0) = m ((c.tc : Thread Cert.KernelZinIdeal.nD Cert.KernelZinIdeal.τ).loc Cert.KernelZinIdeal.main_arg0)
      ∧ m' ((c.tc : Thread Cert.ReferenceZinIdeal.nD Cert.ReferenceZinIdeal.τ).loc Cert.ReferenceZinIdeal.main_arg1) = m ((c.tc : Thread Cert.KernelZinIdeal.nD Cert.KernelZinIdeal.τ).loc Cert.KernelZinIdeal.main_arg1)) →
    ∃ (v0 : (c : Dev Cert.KernelZinIdeal.nD) → Buf (Elt Ideal) ((c.tc : Thread Cert.KernelZinIdeal.nD Cert.KernelZinIdeal.τ).loc Cert.KernelZinIdeal.main_v0)),
      θ_run (Cert.KernelZinIdeal.defs (F := Ideal)) (onTc (τ := Cert.KernelZinIdeal.τ) (Cert.KernelZinIdeal.main (F := Ideal))) ⟨m, fun _ => 0, g⟩ (fun r => ∀ c : Dev Cert.KernelZinIdeal.nD,
          r.2.mem ((c.tc : Thread Cert.KernelZinIdeal.nD Cert.KernelZinIdeal.τ).loc Cert.KernelZinIdeal.main_v0) = v0 c
          ∧ r.2.mem ((c.tc : Thread Cert.KernelZinIdeal.nD Cert.KernelZinIdeal.τ).loc Cert.KernelZinIdeal.main_arg0) = m ((c.tc : Thread Cert.KernelZinIdeal.nD Cert.KernelZinIdeal.τ).loc Cert.KernelZinIdeal.main_arg0)
          ∧ r.2.mem ((c.tc : Thread Cert.KernelZinIdeal.nD Cert.KernelZinIdeal.τ).loc Cert.KernelZinIdeal.main_arg1) = m ((c.tc : Thread Cert.KernelZinIdeal.nD Cert.KernelZinIdeal.τ).loc Cert.KernelZinIdeal.main_arg1))
      ∧ θ_run (Cert.ReferenceZinIdeal.defs (F := Ideal)) (onTc (τ := Cert.ReferenceZinIdeal.τ) (Cert.ReferenceZinIdeal.main (F := Ideal))) ⟨m', fun _ => 0, g'⟩ (fun r => ∀ c : Dev Cert.ReferenceZinIdeal.nD,
          r.2.mem ((c.tc : Thread Cert.ReferenceZinIdeal.nD Cert.ReferenceZinIdeal.τ).loc Cert.ReferenceZinIdeal.main_v5) = v0 c
          ∧ r.2.mem ((c.tc : Thread Cert.ReferenceZinIdeal.nD Cert.ReferenceZinIdeal.τ).loc Cert.ReferenceZinIdeal.main_arg0) = m' ((c.tc : Thread Cert.ReferenceZinIdeal.nD Cert.ReferenceZinIdeal.τ).loc Cert.ReferenceZinIdeal.main_arg0)
          ∧ r.2.mem ((c.tc : Thread Cert.ReferenceZinIdeal.nD Cert.ReferenceZinIdeal.τ).loc Cert.ReferenceZinIdeal.main_arg1) = m' ((c.tc : Thread Cert.ReferenceZinIdeal.nD Cert.ReferenceZinIdeal.τ).loc Cert.ReferenceZinIdeal.main_arg1))

def preserves_KernelZout_KernelZoutIdeal : Prop :=
  True

def algebraic_KernelZoutIdeal_ReferenceZoutIdeal [hKernelZoutIdeal : Cert.KernelZoutIdeal.Facts] [hReferenceZoutIdeal : Cert.ReferenceZoutIdeal.Facts] : Prop :=
  ∀ (m : (ℓ : Loc Cert.KernelZoutIdeal.nD Cert.KernelZoutIdeal.τ Cert.KernelZoutIdeal.sig) → Buf (Elt Ideal) ℓ) (g : Dev Cert.KernelZoutIdeal.nD → PrngReg)
    (m' : (ℓ : Loc Cert.ReferenceZoutIdeal.nD Cert.ReferenceZoutIdeal.τ Cert.ReferenceZoutIdeal.sig) → Buf (Elt Ideal) ℓ) (g' : Dev Cert.ReferenceZoutIdeal.nD → PrngReg), Pre_KernelZoutIdeal m →
    (∀ c : Dev Cert.KernelZoutIdeal.nD,
      m' ((c.tc : Thread Cert.ReferenceZoutIdeal.nD Cert.ReferenceZoutIdeal.τ).loc Cert.ReferenceZoutIdeal.main_arg0) = m ((c.tc : Thread Cert.KernelZoutIdeal.nD Cert.KernelZoutIdeal.τ).loc Cert.KernelZoutIdeal.main_arg0)
      ∧ m' ((c.tc : Thread Cert.ReferenceZoutIdeal.nD Cert.ReferenceZoutIdeal.τ).loc Cert.ReferenceZoutIdeal.main_arg1) = m ((c.tc : Thread Cert.KernelZoutIdeal.nD Cert.KernelZoutIdeal.τ).loc Cert.KernelZoutIdeal.main_arg1)
      ∧ m' ((c.tc : Thread Cert.ReferenceZoutIdeal.nD Cert.ReferenceZoutIdeal.τ).loc Cert.ReferenceZoutIdeal.main_arg2) = m ((c.tc : Thread Cert.KernelZoutIdeal.nD Cert.KernelZoutIdeal.τ).loc Cert.KernelZoutIdeal.main_arg2)) →
    ∃ (v0 : (c : Dev Cert.KernelZoutIdeal.nD) → Buf (Elt Ideal) ((c.tc : Thread Cert.KernelZoutIdeal.nD Cert.KernelZoutIdeal.τ).loc Cert.KernelZoutIdeal.main_v0)),
      θ_run (Cert.KernelZoutIdeal.defs (F := Ideal)) (onTc (τ := Cert.KernelZoutIdeal.τ) (Cert.KernelZoutIdeal.main (F := Ideal))) ⟨m, fun _ => 0, g⟩ (fun r => ∀ c : Dev Cert.KernelZoutIdeal.nD,
          r.2.mem ((c.tc : Thread Cert.KernelZoutIdeal.nD Cert.KernelZoutIdeal.τ).loc Cert.KernelZoutIdeal.main_v0) = v0 c
          ∧ r.2.mem ((c.tc : Thread Cert.KernelZoutIdeal.nD Cert.KernelZoutIdeal.τ).loc Cert.KernelZoutIdeal.main_arg0) = m ((c.tc : Thread Cert.KernelZoutIdeal.nD Cert.KernelZoutIdeal.τ).loc Cert.KernelZoutIdeal.main_arg0)
          ∧ r.2.mem ((c.tc : Thread Cert.KernelZoutIdeal.nD Cert.KernelZoutIdeal.τ).loc Cert.KernelZoutIdeal.main_arg1) = m ((c.tc : Thread Cert.KernelZoutIdeal.nD Cert.KernelZoutIdeal.τ).loc Cert.KernelZoutIdeal.main_arg1)
          ∧ r.2.mem ((c.tc : Thread Cert.KernelZoutIdeal.nD Cert.KernelZoutIdeal.τ).loc Cert.KernelZoutIdeal.main_arg2) = m ((c.tc : Thread Cert.KernelZoutIdeal.nD Cert.KernelZoutIdeal.τ).loc Cert.KernelZoutIdeal.main_arg2))
      ∧ θ_run (Cert.ReferenceZoutIdeal.defs (F := Ideal)) (onTc (τ := Cert.ReferenceZoutIdeal.τ) (Cert.ReferenceZoutIdeal.main (F := Ideal))) ⟨m', fun _ => 0, g'⟩ (fun r => ∀ c : Dev Cert.ReferenceZoutIdeal.nD,
          r.2.mem ((c.tc : Thread Cert.ReferenceZoutIdeal.nD Cert.ReferenceZoutIdeal.τ).loc Cert.ReferenceZoutIdeal.main_v7) = v0 c
          ∧ r.2.mem ((c.tc : Thread Cert.ReferenceZoutIdeal.nD Cert.ReferenceZoutIdeal.τ).loc Cert.ReferenceZoutIdeal.main_arg0) = m' ((c.tc : Thread Cert.ReferenceZoutIdeal.nD Cert.ReferenceZoutIdeal.τ).loc Cert.ReferenceZoutIdeal.main_arg0)
          ∧ r.2.mem ((c.tc : Thread Cert.ReferenceZoutIdeal.nD Cert.ReferenceZoutIdeal.τ).loc Cert.ReferenceZoutIdeal.main_arg1) = m' ((c.tc : Thread Cert.ReferenceZoutIdeal.nD Cert.ReferenceZoutIdeal.τ).loc Cert.ReferenceZoutIdeal.main_arg1)
          ∧ r.2.mem ((c.tc : Thread Cert.ReferenceZoutIdeal.nD Cert.ReferenceZoutIdeal.τ).loc Cert.ReferenceZoutIdeal.main_arg2) = m' ((c.tc : Thread Cert.ReferenceZoutIdeal.nD Cert.ReferenceZoutIdeal.τ).loc Cert.ReferenceZoutIdeal.main_arg2))

def preserves_KernelZmain_KernelZmainIdeal : Prop :=
  True

def algebraic_KernelZmainIdeal_ReferenceZmainIdeal [hKernelZmainIdeal : Cert.KernelZmainIdeal.Facts] [hReferenceZmainIdeal : Cert.ReferenceZmainIdeal.Facts] : Prop :=
  ∀ (m : (ℓ : Loc Cert.KernelZmainIdeal.nD Cert.KernelZmainIdeal.τ Cert.KernelZmainIdeal.sig) → Buf (Elt Ideal) ℓ) (g : Dev Cert.KernelZmainIdeal.nD → PrngReg)
    (m' : (ℓ : Loc Cert.ReferenceZmainIdeal.nD Cert.ReferenceZmainIdeal.τ Cert.ReferenceZmainIdeal.sig) → Buf (Elt Ideal) ℓ) (g' : Dev Cert.ReferenceZmainIdeal.nD → PrngReg), Pre_KernelZmainIdeal m →
    (∀ c : Dev Cert.KernelZmainIdeal.nD,
      m' ((c.tc : Thread Cert.ReferenceZmainIdeal.nD Cert.ReferenceZmainIdeal.τ).loc Cert.ReferenceZmainIdeal.main_arg0) = m ((c.tc : Thread Cert.KernelZmainIdeal.nD Cert.KernelZmainIdeal.τ).loc Cert.KernelZmainIdeal.main_arg0)
      ∧ m' ((c.tc : Thread Cert.ReferenceZmainIdeal.nD Cert.ReferenceZmainIdeal.τ).loc Cert.ReferenceZmainIdeal.main_arg1) = m ((c.tc : Thread Cert.KernelZmainIdeal.nD Cert.KernelZmainIdeal.τ).loc Cert.KernelZmainIdeal.main_arg1)) →
    ∃ (v0 : (c : Dev Cert.KernelZmainIdeal.nD) → Buf (Elt Ideal) ((c.tc : Thread Cert.KernelZmainIdeal.nD Cert.KernelZmainIdeal.τ).loc Cert.KernelZmainIdeal.main_v0)),
      θ_run (Cert.KernelZmainIdeal.defs (F := Ideal)) (onTc (τ := Cert.KernelZmainIdeal.τ) (Cert.KernelZmainIdeal.main (F := Ideal))) ⟨m, fun _ => 0, g⟩ (fun r => ∀ c : Dev Cert.KernelZmainIdeal.nD,
          r.2.mem ((c.tc : Thread Cert.KernelZmainIdeal.nD Cert.KernelZmainIdeal.τ).loc Cert.KernelZmainIdeal.main_v0) = v0 c
          ∧ r.2.mem ((c.tc : Thread Cert.KernelZmainIdeal.nD Cert.KernelZmainIdeal.τ).loc Cert.KernelZmainIdeal.main_arg0) = m ((c.tc : Thread Cert.KernelZmainIdeal.nD Cert.KernelZmainIdeal.τ).loc Cert.KernelZmainIdeal.main_arg0)
          ∧ r.2.mem ((c.tc : Thread Cert.KernelZmainIdeal.nD Cert.KernelZmainIdeal.τ).loc Cert.KernelZmainIdeal.main_arg1) = m ((c.tc : Thread Cert.KernelZmainIdeal.nD Cert.KernelZmainIdeal.τ).loc Cert.KernelZmainIdeal.main_arg1))
      ∧ θ_run (Cert.ReferenceZmainIdeal.defs (F := Ideal)) (onTc (τ := Cert.ReferenceZmainIdeal.τ) (Cert.ReferenceZmainIdeal.main (F := Ideal))) ⟨m', fun _ => 0, g'⟩ (fun r => ∀ c : Dev Cert.ReferenceZmainIdeal.nD,
          r.2.mem ((c.tc : Thread Cert.ReferenceZmainIdeal.nD Cert.ReferenceZmainIdeal.τ).loc Cert.ReferenceZmainIdeal.main_v5) = v0 c
          ∧ r.2.mem ((c.tc : Thread Cert.ReferenceZmainIdeal.nD Cert.ReferenceZmainIdeal.τ).loc Cert.ReferenceZmainIdeal.main_arg0) = m' ((c.tc : Thread Cert.ReferenceZmainIdeal.nD Cert.ReferenceZmainIdeal.τ).loc Cert.ReferenceZmainIdeal.main_arg0)
          ∧ r.2.mem ((c.tc : Thread Cert.ReferenceZmainIdeal.nD Cert.ReferenceZmainIdeal.τ).loc Cert.ReferenceZmainIdeal.main_arg1) = m' ((c.tc : Thread Cert.ReferenceZmainIdeal.nD Cert.ReferenceZmainIdeal.τ).loc Cert.ReferenceZmainIdeal.main_arg1))

def preserves_KernelZf_KernelZfIdeal : Prop :=
  True

def algebraic_KernelZfIdeal_ReferenceZfIdeal [hKernelZfIdeal : Cert.KernelZfIdeal.Facts] [hReferenceZfIdeal : Cert.ReferenceZfIdeal.Facts] : Prop :=
  ∀ (m : (ℓ : Loc Cert.KernelZfIdeal.nD Cert.KernelZfIdeal.τ Cert.KernelZfIdeal.sig) → Buf (Elt Ideal) ℓ) (g : Dev Cert.KernelZfIdeal.nD → PrngReg)
    (m' : (ℓ : Loc Cert.ReferenceZfIdeal.nD Cert.ReferenceZfIdeal.τ Cert.ReferenceZfIdeal.sig) → Buf (Elt Ideal) ℓ) (g' : Dev Cert.ReferenceZfIdeal.nD → PrngReg), Pre_KernelZfIdeal m →
    (∀ c : Dev Cert.KernelZfIdeal.nD,
      m' ((c.tc : Thread Cert.ReferenceZfIdeal.nD Cert.ReferenceZfIdeal.τ).loc Cert.ReferenceZfIdeal.main_arg0) = m ((c.tc : Thread Cert.KernelZfIdeal.nD Cert.KernelZfIdeal.τ).loc Cert.KernelZfIdeal.main_arg0)
      ∧ m' ((c.tc : Thread Cert.ReferenceZfIdeal.nD Cert.ReferenceZfIdeal.τ).loc Cert.ReferenceZfIdeal.main_arg1) = m ((c.tc : Thread Cert.KernelZfIdeal.nD Cert.KernelZfIdeal.τ).loc Cert.KernelZfIdeal.main_arg1)) →
    ∃ (v0 : (c : Dev Cert.KernelZfIdeal.nD) → Buf (Elt Ideal) ((c.tc : Thread Cert.KernelZfIdeal.nD Cert.KernelZfIdeal.τ).loc Cert.KernelZfIdeal.main_v0)),
      θ_run (Cert.KernelZfIdeal.defs (F := Ideal)) (onTc (τ := Cert.KernelZfIdeal.τ) (Cert.KernelZfIdeal.main (F := Ideal))) ⟨m, fun _ => 0, g⟩ (fun r => ∀ c : Dev Cert.KernelZfIdeal.nD,
          r.2.mem ((c.tc : Thread Cert.KernelZfIdeal.nD Cert.KernelZfIdeal.τ).loc Cert.KernelZfIdeal.main_v0) = v0 c
          ∧ r.2.mem ((c.tc : Thread Cert.KernelZfIdeal.nD Cert.KernelZfIdeal.τ).loc Cert.KernelZfIdeal.main_arg0) = m ((c.tc : Thread Cert.KernelZfIdeal.nD Cert.KernelZfIdeal.τ).loc Cert.KernelZfIdeal.main_arg0)
          ∧ r.2.mem ((c.tc : Thread Cert.KernelZfIdeal.nD Cert.KernelZfIdeal.τ).loc Cert.KernelZfIdeal.main_arg1) = m ((c.tc : Thread Cert.KernelZfIdeal.nD Cert.KernelZfIdeal.τ).loc Cert.KernelZfIdeal.main_arg1))
      ∧ θ_run (Cert.ReferenceZfIdeal.defs (F := Ideal)) (onTc (τ := Cert.ReferenceZfIdeal.τ) (Cert.ReferenceZfIdeal.main (F := Ideal))) ⟨m', fun _ => 0, g'⟩ (fun r => ∀ c : Dev Cert.ReferenceZfIdeal.nD,
          r.2.mem ((c.tc : Thread Cert.ReferenceZfIdeal.nD Cert.ReferenceZfIdeal.τ).loc Cert.ReferenceZfIdeal.main_v4) = v0 c
          ∧ r.2.mem ((c.tc : Thread Cert.ReferenceZfIdeal.nD Cert.ReferenceZfIdeal.τ).loc Cert.ReferenceZfIdeal.main_arg0) = m' ((c.tc : Thread Cert.ReferenceZfIdeal.nD Cert.ReferenceZfIdeal.τ).loc Cert.ReferenceZfIdeal.main_arg0)
          ∧ r.2.mem ((c.tc : Thread Cert.ReferenceZfIdeal.nD Cert.ReferenceZfIdeal.τ).loc Cert.ReferenceZfIdeal.main_arg1) = m' ((c.tc : Thread Cert.ReferenceZfIdeal.nD Cert.ReferenceZfIdeal.τ).loc Cert.ReferenceZfIdeal.main_arg1))

def preserves_KernelZatt_KernelZattIdeal : Prop :=
  True

def algebraic_KernelZattIdeal_ReferenceZattIdeal [hKernelZattIdeal : Cert.KernelZattIdeal.Facts] [hReferenceZattIdeal : Cert.ReferenceZattIdeal.Facts] : Prop :=
  ∀ (m : (ℓ : Loc Cert.KernelZattIdeal.nD Cert.KernelZattIdeal.τ Cert.KernelZattIdeal.sig) → Buf (Elt Ideal) ℓ) (g : Dev Cert.KernelZattIdeal.nD → PrngReg)
    (m' : (ℓ : Loc Cert.ReferenceZattIdeal.nD Cert.ReferenceZattIdeal.τ Cert.ReferenceZattIdeal.sig) → Buf (Elt Ideal) ℓ) (g' : Dev Cert.ReferenceZattIdeal.nD → PrngReg), Pre_KernelZattIdeal m →
    (∀ c : Dev Cert.KernelZattIdeal.nD,
      m' ((c.tc : Thread Cert.ReferenceZattIdeal.nD Cert.ReferenceZattIdeal.τ).loc Cert.ReferenceZattIdeal.main_arg0) = m ((c.tc : Thread Cert.KernelZattIdeal.nD Cert.KernelZattIdeal.τ).loc Cert.KernelZattIdeal.main_arg0)
      ∧ m' ((c.tc : Thread Cert.ReferenceZattIdeal.nD Cert.ReferenceZattIdeal.τ).loc Cert.ReferenceZattIdeal.main_arg1) = m ((c.tc : Thread Cert.KernelZattIdeal.nD Cert.KernelZattIdeal.τ).loc Cert.KernelZattIdeal.main_arg1)) →
    ∃ (v0 : (c : Dev Cert.KernelZattIdeal.nD) → Buf (Elt Ideal) ((c.tc : Thread Cert.KernelZattIdeal.nD Cert.KernelZattIdeal.τ).loc Cert.KernelZattIdeal.main_v0)),
      θ_run (Cert.KernelZattIdeal.defs (F := Ideal)) (onTc (τ := Cert.KernelZattIdeal.τ) (Cert.KernelZattIdeal.main (F := Ideal))) ⟨m, fun _ => 0, g⟩ (fun r => ∀ c : Dev Cert.KernelZattIdeal.nD,
          r.2.mem ((c.tc : Thread Cert.KernelZattIdeal.nD Cert.KernelZattIdeal.τ).loc Cert.KernelZattIdeal.main_v0) = v0 c
          ∧ r.2.mem ((c.tc : Thread Cert.KernelZattIdeal.nD Cert.KernelZattIdeal.τ).loc Cert.KernelZattIdeal.main_arg0) = m ((c.tc : Thread Cert.KernelZattIdeal.nD Cert.KernelZattIdeal.τ).loc Cert.KernelZattIdeal.main_arg0)
          ∧ r.2.mem ((c.tc : Thread Cert.KernelZattIdeal.nD Cert.KernelZattIdeal.τ).loc Cert.KernelZattIdeal.main_arg1) = m ((c.tc : Thread Cert.KernelZattIdeal.nD Cert.KernelZattIdeal.τ).loc Cert.KernelZattIdeal.main_arg1))
      ∧ θ_run (Cert.ReferenceZattIdeal.defs (F := Ideal)) (onTc (τ := Cert.ReferenceZattIdeal.τ) (Cert.ReferenceZattIdeal.main (F := Ideal))) ⟨m', fun _ => 0, g'⟩ (fun r => ∀ c : Dev Cert.ReferenceZattIdeal.nD,
          r.2.mem ((c.tc : Thread Cert.ReferenceZattIdeal.nD Cert.ReferenceZattIdeal.τ).loc Cert.ReferenceZattIdeal.main_v5) = v0 c
          ∧ r.2.mem ((c.tc : Thread Cert.ReferenceZattIdeal.nD Cert.ReferenceZattIdeal.τ).loc Cert.ReferenceZattIdeal.main_arg0) = m' ((c.tc : Thread Cert.ReferenceZattIdeal.nD Cert.ReferenceZattIdeal.τ).loc Cert.ReferenceZattIdeal.main_arg0)
          ∧ r.2.mem ((c.tc : Thread Cert.ReferenceZattIdeal.nD Cert.ReferenceZattIdeal.τ).loc Cert.ReferenceZattIdeal.main_arg1) = m' ((c.tc : Thread Cert.ReferenceZattIdeal.nD Cert.ReferenceZattIdeal.τ).loc Cert.ReferenceZattIdeal.main_arg1))

def preserves_KernelZmix_KernelZmixIdeal : Prop :=
  True

def algebraic_KernelZmixIdeal_ReferenceZmixIdeal [hKernelZmixIdeal : Cert.KernelZmixIdeal.Facts] [hReferenceZmixIdeal : Cert.ReferenceZmixIdeal.Facts] : Prop :=
  ∀ (m : (ℓ : Loc Cert.KernelZmixIdeal.nD Cert.KernelZmixIdeal.τ Cert.KernelZmixIdeal.sig) → Buf (Elt Ideal) ℓ) (g : Dev Cert.KernelZmixIdeal.nD → PrngReg)
    (m' : (ℓ : Loc Cert.ReferenceZmixIdeal.nD Cert.ReferenceZmixIdeal.τ Cert.ReferenceZmixIdeal.sig) → Buf (Elt Ideal) ℓ) (g' : Dev Cert.ReferenceZmixIdeal.nD → PrngReg), Pre_KernelZmixIdeal m →
    (∀ c : Dev Cert.KernelZmixIdeal.nD,
      m' ((c.tc : Thread Cert.ReferenceZmixIdeal.nD Cert.ReferenceZmixIdeal.τ).loc Cert.ReferenceZmixIdeal.main_arg0) = m ((c.tc : Thread Cert.KernelZmixIdeal.nD Cert.KernelZmixIdeal.τ).loc Cert.KernelZmixIdeal.main_arg0)
      ∧ m' ((c.tc : Thread Cert.ReferenceZmixIdeal.nD Cert.ReferenceZmixIdeal.τ).loc Cert.ReferenceZmixIdeal.main_arg1) = m ((c.tc : Thread Cert.KernelZmixIdeal.nD Cert.KernelZmixIdeal.τ).loc Cert.KernelZmixIdeal.main_arg1)
      ∧ m' ((c.tc : Thread Cert.ReferenceZmixIdeal.nD Cert.ReferenceZmixIdeal.τ).loc Cert.ReferenceZmixIdeal.main_arg2) = m ((c.tc : Thread Cert.KernelZmixIdeal.nD Cert.KernelZmixIdeal.τ).loc Cert.KernelZmixIdeal.main_arg2)) →
    ∃ (v0 : (c : Dev Cert.KernelZmixIdeal.nD) → Buf (Elt Ideal) ((c.tc : Thread Cert.KernelZmixIdeal.nD Cert.KernelZmixIdeal.τ).loc Cert.KernelZmixIdeal.main_v0)),
      θ_run (Cert.KernelZmixIdeal.defs (F := Ideal)) (onTc (τ := Cert.KernelZmixIdeal.τ) (Cert.KernelZmixIdeal.main (F := Ideal))) ⟨m, fun _ => 0, g⟩ (fun r => ∀ c : Dev Cert.KernelZmixIdeal.nD,
          r.2.mem ((c.tc : Thread Cert.KernelZmixIdeal.nD Cert.KernelZmixIdeal.τ).loc Cert.KernelZmixIdeal.main_v0) = v0 c
          ∧ r.2.mem ((c.tc : Thread Cert.KernelZmixIdeal.nD Cert.KernelZmixIdeal.τ).loc Cert.KernelZmixIdeal.main_arg0) = m ((c.tc : Thread Cert.KernelZmixIdeal.nD Cert.KernelZmixIdeal.τ).loc Cert.KernelZmixIdeal.main_arg0)
          ∧ r.2.mem ((c.tc : Thread Cert.KernelZmixIdeal.nD Cert.KernelZmixIdeal.τ).loc Cert.KernelZmixIdeal.main_arg1) = m ((c.tc : Thread Cert.KernelZmixIdeal.nD Cert.KernelZmixIdeal.τ).loc Cert.KernelZmixIdeal.main_arg1)
          ∧ r.2.mem ((c.tc : Thread Cert.KernelZmixIdeal.nD Cert.KernelZmixIdeal.τ).loc Cert.KernelZmixIdeal.main_arg2) = m ((c.tc : Thread Cert.KernelZmixIdeal.nD Cert.KernelZmixIdeal.τ).loc Cert.KernelZmixIdeal.main_arg2))
      ∧ θ_run (Cert.ReferenceZmixIdeal.defs (F := Ideal)) (onTc (τ := Cert.ReferenceZmixIdeal.τ) (Cert.ReferenceZmixIdeal.main (F := Ideal))) ⟨m', fun _ => 0, g'⟩ (fun r => ∀ c : Dev Cert.ReferenceZmixIdeal.nD,
          r.2.mem ((c.tc : Thread Cert.ReferenceZmixIdeal.nD Cert.ReferenceZmixIdeal.τ).loc Cert.ReferenceZmixIdeal.main_v5) = v0 c
          ∧ r.2.mem ((c.tc : Thread Cert.ReferenceZmixIdeal.nD Cert.ReferenceZmixIdeal.τ).loc Cert.ReferenceZmixIdeal.main_arg0) = m' ((c.tc : Thread Cert.ReferenceZmixIdeal.nD Cert.ReferenceZmixIdeal.τ).loc Cert.ReferenceZmixIdeal.main_arg0)
          ∧ r.2.mem ((c.tc : Thread Cert.ReferenceZmixIdeal.nD Cert.ReferenceZmixIdeal.τ).loc Cert.ReferenceZmixIdeal.main_arg1) = m' ((c.tc : Thread Cert.ReferenceZmixIdeal.nD Cert.ReferenceZmixIdeal.τ).loc Cert.ReferenceZmixIdeal.main_arg1)
          ∧ r.2.mem ((c.tc : Thread Cert.ReferenceZmixIdeal.nD Cert.ReferenceZmixIdeal.τ).loc Cert.ReferenceZmixIdeal.main_arg2) = m' ((c.tc : Thread Cert.ReferenceZmixIdeal.nD Cert.ReferenceZmixIdeal.τ).loc Cert.ReferenceZmixIdeal.main_arg2))

def preserves_KernelZsq_KernelZsqIdeal : Prop :=
  True

def algebraic_KernelZsqIdeal_ReferenceZsqIdeal [hKernelZsqIdeal : Cert.KernelZsqIdeal.Facts] [hReferenceZsqIdeal : Cert.ReferenceZsqIdeal.Facts] : Prop :=
  ∀ (m : (ℓ : Loc Cert.KernelZsqIdeal.nD Cert.KernelZsqIdeal.τ Cert.KernelZsqIdeal.sig) → Buf (Elt Ideal) ℓ) (g : Dev Cert.KernelZsqIdeal.nD → PrngReg)
    (m' : (ℓ : Loc Cert.ReferenceZsqIdeal.nD Cert.ReferenceZsqIdeal.τ Cert.ReferenceZsqIdeal.sig) → Buf (Elt Ideal) ℓ) (g' : Dev Cert.ReferenceZsqIdeal.nD → PrngReg), Pre_KernelZsqIdeal m →
    (∀ c : Dev Cert.KernelZsqIdeal.nD,
      m' ((c.tc : Thread Cert.ReferenceZsqIdeal.nD Cert.ReferenceZsqIdeal.τ).loc Cert.ReferenceZsqIdeal.main_arg0) = m ((c.tc : Thread Cert.KernelZsqIdeal.nD Cert.KernelZsqIdeal.τ).loc Cert.KernelZsqIdeal.main_arg0)
      ∧ m' ((c.tc : Thread Cert.ReferenceZsqIdeal.nD Cert.ReferenceZsqIdeal.τ).loc Cert.ReferenceZsqIdeal.main_arg1) = m ((c.tc : Thread Cert.KernelZsqIdeal.nD Cert.KernelZsqIdeal.τ).loc Cert.KernelZsqIdeal.main_arg1)) →
    ∃ (v0 : (c : Dev Cert.KernelZsqIdeal.nD) → Buf (Elt Ideal) ((c.tc : Thread Cert.KernelZsqIdeal.nD Cert.KernelZsqIdeal.τ).loc Cert.KernelZsqIdeal.main_v0)),
      θ_run (Cert.KernelZsqIdeal.defs (F := Ideal)) (onTc (τ := Cert.KernelZsqIdeal.τ) (Cert.KernelZsqIdeal.main (F := Ideal))) ⟨m, fun _ => 0, g⟩ (fun r => ∀ c : Dev Cert.KernelZsqIdeal.nD,
          r.2.mem ((c.tc : Thread Cert.KernelZsqIdeal.nD Cert.KernelZsqIdeal.τ).loc Cert.KernelZsqIdeal.main_v0) = v0 c
          ∧ r.2.mem ((c.tc : Thread Cert.KernelZsqIdeal.nD Cert.KernelZsqIdeal.τ).loc Cert.KernelZsqIdeal.main_arg0) = m ((c.tc : Thread Cert.KernelZsqIdeal.nD Cert.KernelZsqIdeal.τ).loc Cert.KernelZsqIdeal.main_arg0)
          ∧ r.2.mem ((c.tc : Thread Cert.KernelZsqIdeal.nD Cert.KernelZsqIdeal.τ).loc Cert.KernelZsqIdeal.main_arg1) = m ((c.tc : Thread Cert.KernelZsqIdeal.nD Cert.KernelZsqIdeal.τ).loc Cert.KernelZsqIdeal.main_arg1))
      ∧ θ_run (Cert.ReferenceZsqIdeal.defs (F := Ideal)) (onTc (τ := Cert.ReferenceZsqIdeal.τ) (Cert.ReferenceZsqIdeal.main (F := Ideal))) ⟨m', fun _ => 0, g'⟩ (fun r => ∀ c : Dev Cert.ReferenceZsqIdeal.nD,
          r.2.mem ((c.tc : Thread Cert.ReferenceZsqIdeal.nD Cert.ReferenceZsqIdeal.τ).loc Cert.ReferenceZsqIdeal.main_v5) = v0 c
          ∧ r.2.mem ((c.tc : Thread Cert.ReferenceZsqIdeal.nD Cert.ReferenceZsqIdeal.τ).loc Cert.ReferenceZsqIdeal.main_arg0) = m' ((c.tc : Thread Cert.ReferenceZsqIdeal.nD Cert.ReferenceZsqIdeal.τ).loc Cert.ReferenceZsqIdeal.main_arg0)
          ∧ r.2.mem ((c.tc : Thread Cert.ReferenceZsqIdeal.nD Cert.ReferenceZsqIdeal.τ).loc Cert.ReferenceZsqIdeal.main_arg1) = m' ((c.tc : Thread Cert.ReferenceZsqIdeal.nD Cert.ReferenceZsqIdeal.τ).loc Cert.ReferenceZsqIdeal.main_arg1))

def preserves_KernelZple_KernelZpleIdeal : Prop :=
  True

def algebraic_KernelZpleIdeal_ReferenceZpleIdeal [hKernelZpleIdeal : Cert.KernelZpleIdeal.Facts] [hReferenceZpleIdeal : Cert.ReferenceZpleIdeal.Facts] : Prop :=
  ∀ (m : (ℓ : Loc Cert.KernelZpleIdeal.nD Cert.KernelZpleIdeal.τ Cert.KernelZpleIdeal.sig) → Buf (Elt Ideal) ℓ) (g : Dev Cert.KernelZpleIdeal.nD → PrngReg)
    (m' : (ℓ : Loc Cert.ReferenceZpleIdeal.nD Cert.ReferenceZpleIdeal.τ Cert.ReferenceZpleIdeal.sig) → Buf (Elt Ideal) ℓ) (g' : Dev Cert.ReferenceZpleIdeal.nD → PrngReg), Pre_KernelZpleIdeal m →
    (∀ c : Dev Cert.KernelZpleIdeal.nD,
      m' ((c.tc : Thread Cert.ReferenceZpleIdeal.nD Cert.ReferenceZpleIdeal.τ).loc Cert.ReferenceZpleIdeal.main_arg0) = m ((c.tc : Thread Cert.KernelZpleIdeal.nD Cert.KernelZpleIdeal.τ).loc Cert.KernelZpleIdeal.main_arg0)
      ∧ m' ((c.tc : Thread Cert.ReferenceZpleIdeal.nD Cert.ReferenceZpleIdeal.τ).loc Cert.ReferenceZpleIdeal.main_arg1) = m ((c.tc : Thread Cert.KernelZpleIdeal.nD Cert.KernelZpleIdeal.τ).loc Cert.KernelZpleIdeal.main_arg1)) →
    ∃ (v0 : (c : Dev Cert.KernelZpleIdeal.nD) → Buf (Elt Ideal) ((c.tc : Thread Cert.KernelZpleIdeal.nD Cert.KernelZpleIdeal.τ).loc Cert.KernelZpleIdeal.main_v0)),
      θ_run (Cert.KernelZpleIdeal.defs (F := Ideal)) (onTc (τ := Cert.KernelZpleIdeal.τ) (Cert.KernelZpleIdeal.main (F := Ideal))) ⟨m, fun _ => 0, g⟩ (fun r => ∀ c : Dev Cert.KernelZpleIdeal.nD,
          r.2.mem ((c.tc : Thread Cert.KernelZpleIdeal.nD Cert.KernelZpleIdeal.τ).loc Cert.KernelZpleIdeal.main_v0) = v0 c
          ∧ r.2.mem ((c.tc : Thread Cert.KernelZpleIdeal.nD Cert.KernelZpleIdeal.τ).loc Cert.KernelZpleIdeal.main_arg0) = m ((c.tc : Thread Cert.KernelZpleIdeal.nD Cert.KernelZpleIdeal.τ).loc Cert.KernelZpleIdeal.main_arg0)
          ∧ r.2.mem ((c.tc : Thread Cert.KernelZpleIdeal.nD Cert.KernelZpleIdeal.τ).loc Cert.KernelZpleIdeal.main_arg1) = m ((c.tc : Thread Cert.KernelZpleIdeal.nD Cert.KernelZpleIdeal.τ).loc Cert.KernelZpleIdeal.main_arg1))
      ∧ θ_run (Cert.ReferenceZpleIdeal.defs (F := Ideal)) (onTc (τ := Cert.ReferenceZpleIdeal.τ) (Cert.ReferenceZpleIdeal.main (F := Ideal))) ⟨m', fun _ => 0, g'⟩ (fun r => ∀ c : Dev Cert.ReferenceZpleIdeal.nD,
          r.2.mem ((c.tc : Thread Cert.ReferenceZpleIdeal.nD Cert.ReferenceZpleIdeal.τ).loc Cert.ReferenceZpleIdeal.main_v5) = v0 c
          ∧ r.2.mem ((c.tc : Thread Cert.ReferenceZpleIdeal.nD Cert.ReferenceZpleIdeal.τ).loc Cert.ReferenceZpleIdeal.main_arg0) = m' ((c.tc : Thread Cert.ReferenceZpleIdeal.nD Cert.ReferenceZpleIdeal.τ).loc Cert.ReferenceZpleIdeal.main_arg0)
          ∧ r.2.mem ((c.tc : Thread Cert.ReferenceZpleIdeal.nD Cert.ReferenceZpleIdeal.τ).loc Cert.ReferenceZpleIdeal.main_arg1) = m' ((c.tc : Thread Cert.ReferenceZpleIdeal.nD Cert.ReferenceZpleIdeal.τ).loc Cert.ReferenceZpleIdeal.main_arg1))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v5) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0))

def preserves_KernelDact_KernelDactIdeal : Prop :=
  True

def algebraic_KernelDactIdeal_ReferenceDactIdeal_pre_finite_act [hKernelDactIdeal : Cert.KernelDactIdeal.Facts] [hReferenceDactIdeal : Cert.ReferenceDactIdeal.Facts] [hPre_finite_act : Cert.Pre_finite_act.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal_finite_act m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)) →
    ∃ (v0 : (c : Dev Cert.KernelDactIdeal.nD) → Buf (Elt Ideal) ((c.tc : Thread Cert.KernelDactIdeal.nD Cert.KernelDactIdeal.τ).loc Cert.KernelDactIdeal.main_v0)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v0) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v10) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v21) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2))

def preserves_KernelDmerge_KernelDmergeIdeal : Prop :=
  True

def algebraic_KernelDmergeIdeal_ReferenceDmergeIdeal [hKernelDmergeIdeal : Cert.KernelDmergeIdeal.Facts] [hReferenceDmergeIdeal : Cert.ReferenceDmergeIdeal.Facts] : Prop :=
  ∀ (m : (ℓ : Loc Cert.KernelDmergeIdeal.nD Cert.KernelDmergeIdeal.τ Cert.KernelDmergeIdeal.sig) → Buf (Elt Ideal) ℓ) (g : Dev Cert.KernelDmergeIdeal.nD → PrngReg)
    (m' : (ℓ : Loc Cert.ReferenceDmergeIdeal.nD Cert.ReferenceDmergeIdeal.τ Cert.ReferenceDmergeIdeal.sig) → Buf (Elt Ideal) ℓ) (g' : Dev Cert.ReferenceDmergeIdeal.nD → PrngReg), Pre_KernelDmergeIdeal m →
    (∀ c : Dev Cert.KernelDmergeIdeal.nD,
      m' ((c.tc : Thread Cert.ReferenceDmergeIdeal.nD Cert.ReferenceDmergeIdeal.τ).loc Cert.ReferenceDmergeIdeal.main_arg0) = m ((c.tc : Thread Cert.KernelDmergeIdeal.nD Cert.KernelDmergeIdeal.τ).loc Cert.KernelDmergeIdeal.main_arg0)
      ∧ m' ((c.tc : Thread Cert.ReferenceDmergeIdeal.nD Cert.ReferenceDmergeIdeal.τ).loc Cert.ReferenceDmergeIdeal.main_arg1) = m ((c.tc : Thread Cert.KernelDmergeIdeal.nD Cert.KernelDmergeIdeal.τ).loc Cert.KernelDmergeIdeal.main_arg1)
      ∧ m' ((c.tc : Thread Cert.ReferenceDmergeIdeal.nD Cert.ReferenceDmergeIdeal.τ).loc Cert.ReferenceDmergeIdeal.main_arg2) = m ((c.tc : Thread Cert.KernelDmergeIdeal.nD Cert.KernelDmergeIdeal.τ).loc Cert.KernelDmergeIdeal.main_arg2)
      ∧ m' ((c.tc : Thread Cert.ReferenceDmergeIdeal.nD Cert.ReferenceDmergeIdeal.τ).loc Cert.ReferenceDmergeIdeal.main_arg3) = m ((c.tc : Thread Cert.KernelDmergeIdeal.nD Cert.KernelDmergeIdeal.τ).loc Cert.KernelDmergeIdeal.main_arg3)) →
    ∃ (v0 : (c : Dev Cert.KernelDmergeIdeal.nD) → Buf (Elt Ideal) ((c.tc : Thread Cert.KernelDmergeIdeal.nD Cert.KernelDmergeIdeal.τ).loc Cert.KernelDmergeIdeal.main_v0_0)) (v1 : (c : Dev Cert.KernelDmergeIdeal.nD) → Buf (Elt Ideal) ((c.tc : Thread Cert.KernelDmergeIdeal.nD Cert.KernelDmergeIdeal.τ).loc Cert.KernelDmergeIdeal.main_v0_1)) (v2 : (c : Dev Cert.KernelDmergeIdeal.nD) → Buf (Elt Ideal) ((c.tc : Thread Cert.KernelDmergeIdeal.nD Cert.KernelDmergeIdeal.τ).loc Cert.KernelDmergeIdeal.main_v0_2)) (v3 : (c : Dev Cert.KernelDmergeIdeal.nD) → Buf (Elt Ideal) ((c.tc : Thread Cert.KernelDmergeIdeal.nD Cert.KernelDmergeIdeal.τ).loc Cert.KernelDmergeIdeal.main_v0_3)),
      θ_run (Cert.KernelDmergeIdeal.defs (F := Ideal)) (onTc (τ := Cert.KernelDmergeIdeal.τ) (Cert.KernelDmergeIdeal.main (F := Ideal))) ⟨m, fun _ => 0, g⟩ (fun r => ∀ c : Dev Cert.KernelDmergeIdeal.nD,
          r.2.mem ((c.tc : Thread Cert.KernelDmergeIdeal.nD Cert.KernelDmergeIdeal.τ).loc Cert.KernelDmergeIdeal.main_v0_0) = v0 c
          ∧ r.2.mem ((c.tc : Thread Cert.KernelDmergeIdeal.nD Cert.KernelDmergeIdeal.τ).loc Cert.KernelDmergeIdeal.main_v0_1) = v1 c
          ∧ r.2.mem ((c.tc : Thread Cert.KernelDmergeIdeal.nD Cert.KernelDmergeIdeal.τ).loc Cert.KernelDmergeIdeal.main_v0_2) = v2 c
          ∧ r.2.mem ((c.tc : Thread Cert.KernelDmergeIdeal.nD Cert.KernelDmergeIdeal.τ).loc Cert.KernelDmergeIdeal.main_v0_3) = v3 c
          ∧ r.2.mem ((c.tc : Thread Cert.KernelDmergeIdeal.nD Cert.KernelDmergeIdeal.τ).loc Cert.KernelDmergeIdeal.main_arg0) = m ((c.tc : Thread Cert.KernelDmergeIdeal.nD Cert.KernelDmergeIdeal.τ).loc Cert.KernelDmergeIdeal.main_arg0)
          ∧ r.2.mem ((c.tc : Thread Cert.KernelDmergeIdeal.nD Cert.KernelDmergeIdeal.τ).loc Cert.KernelDmergeIdeal.main_arg1) = m ((c.tc : Thread Cert.KernelDmergeIdeal.nD Cert.KernelDmergeIdeal.τ).loc Cert.KernelDmergeIdeal.main_arg1)
          ∧ r.2.mem ((c.tc : Thread Cert.KernelDmergeIdeal.nD Cert.KernelDmergeIdeal.τ).loc Cert.KernelDmergeIdeal.main_arg2) = m ((c.tc : Thread Cert.KernelDmergeIdeal.nD Cert.KernelDmergeIdeal.τ).loc Cert.KernelDmergeIdeal.main_arg2)
          ∧ r.2.mem ((c.tc : Thread Cert.KernelDmergeIdeal.nD Cert.KernelDmergeIdeal.τ).loc Cert.KernelDmergeIdeal.main_arg3) = m ((c.tc : Thread Cert.KernelDmergeIdeal.nD Cert.KernelDmergeIdeal.τ).loc Cert.KernelDmergeIdeal.main_arg3))
      ∧ θ_run (Cert.ReferenceDmergeIdeal.defs (F := Ideal)) (onTc (τ := Cert.ReferenceDmergeIdeal.τ) (Cert.ReferenceDmergeIdeal.main (F := Ideal))) ⟨m', fun _ => 0, g'⟩ (fun r => ∀ c : Dev Cert.ReferenceDmergeIdeal.nD,
          r.2.mem ((c.tc : Thread Cert.ReferenceDmergeIdeal.nD Cert.ReferenceDmergeIdeal.τ).loc Cert.ReferenceDmergeIdeal.main_v34) = v0 c
          ∧ r.2.mem ((c.tc : Thread Cert.ReferenceDmergeIdeal.nD Cert.ReferenceDmergeIdeal.τ).loc Cert.ReferenceDmergeIdeal.main_v35) = v1 c
          ∧ r.2.mem ((c.tc : Thread Cert.ReferenceDmergeIdeal.nD Cert.ReferenceDmergeIdeal.τ).loc Cert.ReferenceDmergeIdeal.main_v36) = v2 c
          ∧ r.2.mem ((c.tc : Thread Cert.ReferenceDmergeIdeal.nD Cert.ReferenceDmergeIdeal.τ).loc Cert.ReferenceDmergeIdeal.main_v37) = v3 c
          ∧ r.2.mem ((c.tc : Thread Cert.ReferenceDmergeIdeal.nD Cert.ReferenceDmergeIdeal.τ).loc Cert.ReferenceDmergeIdeal.main_arg0) = m' ((c.tc : Thread Cert.ReferenceDmergeIdeal.nD Cert.ReferenceDmergeIdeal.τ).loc Cert.ReferenceDmergeIdeal.main_arg0)
          ∧ r.2.mem ((c.tc : Thread Cert.ReferenceDmergeIdeal.nD Cert.ReferenceDmergeIdeal.τ).loc Cert.ReferenceDmergeIdeal.main_arg1) = m' ((c.tc : Thread Cert.ReferenceDmergeIdeal.nD Cert.ReferenceDmergeIdeal.τ).loc Cert.ReferenceDmergeIdeal.main_arg1)
          ∧ r.2.mem ((c.tc : Thread Cert.ReferenceDmergeIdeal.nD Cert.ReferenceDmergeIdeal.τ).loc Cert.ReferenceDmergeIdeal.main_arg2) = m' ((c.tc : Thread Cert.ReferenceDmergeIdeal.nD Cert.ReferenceDmergeIdeal.τ).loc Cert.ReferenceDmergeIdeal.main_arg2)
          ∧ r.2.mem ((c.tc : Thread Cert.ReferenceDmergeIdeal.nD Cert.ReferenceDmergeIdeal.τ).loc Cert.ReferenceDmergeIdeal.main_arg3) = m' ((c.tc : Thread Cert.ReferenceDmergeIdeal.nD Cert.ReferenceDmergeIdeal.τ).loc Cert.ReferenceDmergeIdeal.main_arg3))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v9) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2))

def preserves_KernelDmix_KernelDmixIdeal : Prop :=
  True

def algebraic_KernelDmixIdeal_ReferenceDmixIdeal [hKernelDmixIdeal : Cert.KernelDmixIdeal.Facts] [hReferenceDmixIdeal : Cert.ReferenceDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg)
    (m' : (ℓ : Loc Cert.ReferenceDmixIdeal.nD Cert.ReferenceDmixIdeal.τ Cert.ReferenceDmixIdeal.sig) → Buf (Elt Ideal) ℓ) (g' : Dev Cert.ReferenceDmixIdeal.nD → PrngReg), Pre_KernelDmixIdeal m →
    (∀ c : Dev Cert.KernelDmixIdeal.nD,
      m' ((c.tc : Thread Cert.ReferenceDmixIdeal.nD Cert.ReferenceDmixIdeal.τ).loc Cert.ReferenceDmixIdeal.main_arg0) = m ((c.tc : Thread Cert.KernelDmixIdeal.nD Cert.KernelDmixIdeal.τ).loc Cert.KernelDmixIdeal.main_arg0)
      ∧ m' ((c.tc : Thread Cert.ReferenceDmixIdeal.nD Cert.ReferenceDmixIdeal.τ).loc Cert.ReferenceDmixIdeal.main_arg1) = m ((c.tc : Thread Cert.KernelDmixIdeal.nD Cert.KernelDmixIdeal.τ).loc Cert.KernelDmixIdeal.main_arg1)
      ∧ m' ((c.tc : Thread Cert.ReferenceDmixIdeal.nD Cert.ReferenceDmixIdeal.τ).loc Cert.ReferenceDmixIdeal.main_arg2) = m ((c.tc : Thread Cert.KernelDmixIdeal.nD Cert.KernelDmixIdeal.τ).loc Cert.KernelDmixIdeal.main_arg2)) →
    ∃ (v0 : (c : Dev Cert.KernelDmixIdeal.nD) → Buf (Elt Ideal) ((c.tc : Thread Cert.KernelDmixIdeal.nD Cert.KernelDmixIdeal.τ).loc Cert.KernelDmixIdeal.main_v0_0)) (v1 : (c : Dev Cert.KernelDmixIdeal.nD) → Buf (Elt Ideal) ((c.tc : Thread Cert.KernelDmixIdeal.nD Cert.KernelDmixIdeal.τ).loc Cert.KernelDmixIdeal.main_v0_1)),
      θ_run (Cert.KernelDmixIdeal.defs (F := Ideal)) (onTc (τ := Cert.KernelDmixIdeal.τ) (Cert.KernelDmixIdeal.main (F := Ideal))) ⟨m, fun _ => 0, g⟩ (fun r => ∀ c : Dev Cert.KernelDmixIdeal.nD,
          r.2.mem ((c.tc : Thread Cert.KernelDmixIdeal.nD Cert.KernelDmixIdeal.τ).loc Cert.KernelDmixIdeal.main_v0_0) = v0 c
          ∧ r.2.mem ((c.tc : Thread Cert.KernelDmixIdeal.nD Cert.KernelDmixIdeal.τ).loc Cert.KernelDmixIdeal.main_v0_1) = v1 c
          ∧ r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
          ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1)
          ∧ r.2.mem ((c.tc : Thread Cert.KernelDmixIdeal.nD Cert.KernelDmixIdeal.τ).loc Cert.KernelDmixIdeal.main_arg2) = m ((c.tc : Thread Cert.KernelDmixIdeal.nD Cert.KernelDmixIdeal.τ).loc Cert.KernelDmixIdeal.main_arg2))
      ∧ θ_run (Cert.ReferenceDmixIdeal.defs (F := Ideal)) (onTc (τ := Cert.ReferenceDmixIdeal.τ) (Cert.ReferenceDmixIdeal.main (F := Ideal))) ⟨m', fun _ => 0, g'⟩ (fun r => ∀ c : Dev Cert.ReferenceDmixIdeal.nD,
          r.2.mem ((c.tc : Thread Cert.ReferenceDmixIdeal.nD Cert.ReferenceDmixIdeal.τ).loc Cert.ReferenceDmixIdeal.main_v15) = v0 c
          ∧ r.2.mem ((c.tc : Thread Cert.ReferenceDmixIdeal.nD Cert.ReferenceDmixIdeal.τ).loc Cert.ReferenceDmixIdeal.main_v16) = v1 c
          ∧ r.2.mem ((c.tc : Thread Cert.ReferenceDmixIdeal.nD Cert.ReferenceDmixIdeal.τ).loc Cert.ReferenceDmixIdeal.main_arg0) = m' ((c.tc : Thread Cert.ReferenceDmixIdeal.nD Cert.ReferenceDmixIdeal.τ).loc Cert.ReferenceDmixIdeal.main_arg0)
          ∧ r.2.mem ((c.tc : Thread Cert.ReferenceDmixIdeal.nD Cert.ReferenceDmixIdeal.τ).loc Cert.ReferenceDmixIdeal.main_arg1) = m' ((c.tc : Thread Cert.ReferenceDmixIdeal.nD Cert.ReferenceDmixIdeal.τ).loc Cert.ReferenceDmixIdeal.main_arg1)
          ∧ r.2.mem ((c.tc : Thread Cert.ReferenceDmixIdeal.nD Cert.ReferenceDmixIdeal.τ).loc Cert.ReferenceDmixIdeal.main_arg2) = m' ((c.tc : Thread Cert.ReferenceDmixIdeal.nD Cert.ReferenceDmixIdeal.τ).loc Cert.ReferenceDmixIdeal.main_arg2))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)) →
    ∃ (v0 : (c : Dev Cert.KernelRmsIdeal.nD) → Buf (Elt Ideal) ((c.tc : Thread Cert.KernelRmsIdeal.nD Cert.KernelRmsIdeal.τ).loc Cert.KernelRmsIdeal.main_v1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v1) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v13) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1))

def preserves_KernelDrms_KernelDrmsIdeal : Prop :=
  True

def algebraic_KernelDrmsIdeal_ReferenceDrmsIdeal [hKernelDrmsIdeal : Cert.KernelDrmsIdeal.Facts] [hReferenceDrmsIdeal : Cert.ReferenceDrmsIdeal.Facts] : Prop :=
  ∀ (m : (ℓ : Loc Cert.KernelDrmsIdeal.nD Cert.KernelDrmsIdeal.τ Cert.KernelDrmsIdeal.sig) → Buf (Elt Ideal) ℓ) (g : Dev Cert.KernelDrmsIdeal.nD → PrngReg)
    (m' : (ℓ : Loc Cert.ReferenceDrmsIdeal.nD Cert.ReferenceDrmsIdeal.τ Cert.ReferenceDrmsIdeal.sig) → Buf (Elt Ideal) ℓ) (g' : Dev Cert.ReferenceDrmsIdeal.nD → PrngReg), Pre_KernelDrmsIdeal m →
    (∀ c : Dev Cert.KernelDrmsIdeal.nD,
      m' ((c.tc : Thread Cert.ReferenceDrmsIdeal.nD Cert.ReferenceDrmsIdeal.τ).loc Cert.ReferenceDrmsIdeal.main_arg0) = m ((c.tc : Thread Cert.KernelDrmsIdeal.nD Cert.KernelDrmsIdeal.τ).loc Cert.KernelDrmsIdeal.main_arg0)
      ∧ m' ((c.tc : Thread Cert.ReferenceDrmsIdeal.nD Cert.ReferenceDrmsIdeal.τ).loc Cert.ReferenceDrmsIdeal.main_arg1) = m ((c.tc : Thread Cert.KernelDrmsIdeal.nD Cert.KernelDrmsIdeal.τ).loc Cert.KernelDrmsIdeal.main_arg1)
      ∧ m' ((c.tc : Thread Cert.ReferenceDrmsIdeal.nD Cert.ReferenceDrmsIdeal.τ).loc Cert.ReferenceDrmsIdeal.main_arg2) = m ((c.tc : Thread Cert.KernelDrmsIdeal.nD Cert.KernelDrmsIdeal.τ).loc Cert.KernelDrmsIdeal.main_arg2)
      ∧ m' ((c.tc : Thread Cert.ReferenceDrmsIdeal.nD Cert.ReferenceDrmsIdeal.τ).loc Cert.ReferenceDrmsIdeal.main_arg3) = m ((c.tc : Thread Cert.KernelDrmsIdeal.nD Cert.KernelDrmsIdeal.τ).loc Cert.KernelDrmsIdeal.main_arg3)) →
    ∃ (v0 : (c : Dev Cert.KernelDrmsIdeal.nD) → Buf (Elt Ideal) ((c.tc : Thread Cert.KernelDrmsIdeal.nD Cert.KernelDrmsIdeal.τ).loc Cert.KernelDrmsIdeal.main_v1_0)) (v1 : (c : Dev Cert.KernelDrmsIdeal.nD) → Buf (Elt Ideal) ((c.tc : Thread Cert.KernelDrmsIdeal.nD Cert.KernelDrmsIdeal.τ).loc Cert.KernelDrmsIdeal.main_v1_1)) (v2 : (c : Dev Cert.KernelDrmsIdeal.nD) → Buf (Elt Ideal) ((c.tc : Thread Cert.KernelDrmsIdeal.nD Cert.KernelDrmsIdeal.τ).loc Cert.KernelDrmsIdeal.main_v1_2)),
      θ_run (Cert.KernelDrmsIdeal.defs (F := Ideal)) (onTc (τ := Cert.KernelDrmsIdeal.τ) (Cert.KernelDrmsIdeal.main (F := Ideal))) ⟨m, fun _ => 0, g⟩ (fun r => ∀ c : Dev Cert.KernelDrmsIdeal.nD,
          r.2.mem ((c.tc : Thread Cert.KernelDrmsIdeal.nD Cert.KernelDrmsIdeal.τ).loc Cert.KernelDrmsIdeal.main_v1_0) = v0 c
          ∧ r.2.mem ((c.tc : Thread Cert.KernelDrmsIdeal.nD Cert.KernelDrmsIdeal.τ).loc Cert.KernelDrmsIdeal.main_v1_1) = v1 c
          ∧ r.2.mem ((c.tc : Thread Cert.KernelDrmsIdeal.nD Cert.KernelDrmsIdeal.τ).loc Cert.KernelDrmsIdeal.main_v1_2) = v2 c
          ∧ r.2.mem ((c.tc : Thread Cert.KernelDrmsIdeal.nD Cert.KernelDrmsIdeal.τ).loc Cert.KernelDrmsIdeal.main_arg0) = m ((c.tc : Thread Cert.KernelDrmsIdeal.nD Cert.KernelDrmsIdeal.τ).loc Cert.KernelDrmsIdeal.main_arg0)
          ∧ r.2.mem ((c.tc : Thread Cert.KernelDrmsIdeal.nD Cert.KernelDrmsIdeal.τ).loc Cert.KernelDrmsIdeal.main_arg1) = m ((c.tc : Thread Cert.KernelDrmsIdeal.nD Cert.KernelDrmsIdeal.τ).loc Cert.KernelDrmsIdeal.main_arg1)
          ∧ r.2.mem ((c.tc : Thread Cert.KernelDrmsIdeal.nD Cert.KernelDrmsIdeal.τ).loc Cert.KernelDrmsIdeal.main_arg2) = m ((c.tc : Thread Cert.KernelDrmsIdeal.nD Cert.KernelDrmsIdeal.τ).loc Cert.KernelDrmsIdeal.main_arg2)
          ∧ r.2.mem ((c.tc : Thread Cert.KernelDrmsIdeal.nD Cert.KernelDrmsIdeal.τ).loc Cert.KernelDrmsIdeal.main_arg3) = m ((c.tc : Thread Cert.KernelDrmsIdeal.nD Cert.KernelDrmsIdeal.τ).loc Cert.KernelDrmsIdeal.main_arg3))
      ∧ θ_run (Cert.ReferenceDrmsIdeal.defs (F := Ideal)) (onTc (τ := Cert.ReferenceDrmsIdeal.τ) (Cert.ReferenceDrmsIdeal.main (F := Ideal))) ⟨m', fun _ => 0, g'⟩ (fun r => ∀ c : Dev Cert.ReferenceDrmsIdeal.nD,
          r.2.mem ((c.tc : Thread Cert.ReferenceDrmsIdeal.nD Cert.ReferenceDrmsIdeal.τ).loc Cert.ReferenceDrmsIdeal.main_v37) = v0 c
          ∧ r.2.mem ((c.tc : Thread Cert.ReferenceDrmsIdeal.nD Cert.ReferenceDrmsIdeal.τ).loc Cert.ReferenceDrmsIdeal.main_v38) = v1 c
          ∧ r.2.mem ((c.tc : Thread Cert.ReferenceDrmsIdeal.nD Cert.ReferenceDrmsIdeal.τ).loc Cert.ReferenceDrmsIdeal.main_v39) = v2 c
          ∧ r.2.mem ((c.tc : Thread Cert.ReferenceDrmsIdeal.nD Cert.ReferenceDrmsIdeal.τ).loc Cert.ReferenceDrmsIdeal.main_arg0) = m' ((c.tc : Thread Cert.ReferenceDrmsIdeal.nD Cert.ReferenceDrmsIdeal.τ).loc Cert.ReferenceDrmsIdeal.main_arg0)
          ∧ r.2.mem ((c.tc : Thread Cert.ReferenceDrmsIdeal.nD Cert.ReferenceDrmsIdeal.τ).loc Cert.ReferenceDrmsIdeal.main_arg1) = m' ((c.tc : Thread Cert.ReferenceDrmsIdeal.nD Cert.ReferenceDrmsIdeal.τ).loc Cert.ReferenceDrmsIdeal.main_arg1)
          ∧ r.2.mem ((c.tc : Thread Cert.ReferenceDrmsIdeal.nD Cert.ReferenceDrmsIdeal.τ).loc Cert.ReferenceDrmsIdeal.main_arg2) = m' ((c.tc : Thread Cert.ReferenceDrmsIdeal.nD Cert.ReferenceDrmsIdeal.τ).loc Cert.ReferenceDrmsIdeal.main_arg2)
          ∧ r.2.mem ((c.tc : Thread Cert.ReferenceDrmsIdeal.nD Cert.ReferenceDrmsIdeal.τ).loc Cert.ReferenceDrmsIdeal.main_arg3) = m' ((c.tc : Thread Cert.ReferenceDrmsIdeal.nD Cert.ReferenceDrmsIdeal.τ).loc Cert.ReferenceDrmsIdeal.main_arg3))

def preserves_KernelDrmsm_KernelDrmsmIdeal : Prop :=
  True

def algebraic_KernelDrmsmIdeal_ReferenceDrmsmIdeal [hKernelDrmsmIdeal : Cert.KernelDrmsmIdeal.Facts] [hReferenceDrmsmIdeal : Cert.ReferenceDrmsmIdeal.Facts] : Prop :=
  ∀ (m : (ℓ : Loc Cert.KernelDrmsmIdeal.nD Cert.KernelDrmsmIdeal.τ Cert.KernelDrmsmIdeal.sig) → Buf (Elt Ideal) ℓ) (g : Dev Cert.KernelDrmsmIdeal.nD → PrngReg)
    (m' : (ℓ : Loc Cert.ReferenceDrmsmIdeal.nD Cert.ReferenceDrmsmIdeal.τ Cert.ReferenceDrmsmIdeal.sig) → Buf (Elt Ideal) ℓ) (g' : Dev Cert.ReferenceDrmsmIdeal.nD → PrngReg), Pre_KernelDrmsmIdeal m →
    (∀ c : Dev Cert.KernelDrmsmIdeal.nD,
      m' ((c.tc : Thread Cert.ReferenceDrmsmIdeal.nD Cert.ReferenceDrmsmIdeal.τ).loc Cert.ReferenceDrmsmIdeal.main_arg0) = m ((c.tc : Thread Cert.KernelDrmsmIdeal.nD Cert.KernelDrmsmIdeal.τ).loc Cert.KernelDrmsmIdeal.main_arg0)
      ∧ m' ((c.tc : Thread Cert.ReferenceDrmsmIdeal.nD Cert.ReferenceDrmsmIdeal.τ).loc Cert.ReferenceDrmsmIdeal.main_arg1) = m ((c.tc : Thread Cert.KernelDrmsmIdeal.nD Cert.KernelDrmsmIdeal.τ).loc Cert.KernelDrmsmIdeal.main_arg1)
      ∧ m' ((c.tc : Thread Cert.ReferenceDrmsmIdeal.nD Cert.ReferenceDrmsmIdeal.τ).loc Cert.ReferenceDrmsmIdeal.main_arg2) = m ((c.tc : Thread Cert.KernelDrmsmIdeal.nD Cert.KernelDrmsmIdeal.τ).loc Cert.KernelDrmsmIdeal.main_arg2)
      ∧ m' ((c.tc : Thread Cert.ReferenceDrmsmIdeal.nD Cert.ReferenceDrmsmIdeal.τ).loc Cert.ReferenceDrmsmIdeal.main_arg3) = m ((c.tc : Thread Cert.KernelDrmsmIdeal.nD Cert.KernelDrmsmIdeal.τ).loc Cert.KernelDrmsmIdeal.main_arg3)
      ∧ m' ((c.tc : Thread Cert.ReferenceDrmsmIdeal.nD Cert.ReferenceDrmsmIdeal.τ).loc Cert.ReferenceDrmsmIdeal.main_arg4) = m ((c.tc : Thread Cert.KernelDrmsmIdeal.nD Cert.KernelDrmsmIdeal.τ).loc Cert.KernelDrmsmIdeal.main_arg4)) →
    ∃ (v0 : (c : Dev Cert.KernelDrmsmIdeal.nD) → Buf (Elt Ideal) ((c.tc : Thread Cert.KernelDrmsmIdeal.nD Cert.KernelDrmsmIdeal.τ).loc Cert.KernelDrmsmIdeal.main_v1_0)) (v1 : (c : Dev Cert.KernelDrmsmIdeal.nD) → Buf (Elt Ideal) ((c.tc : Thread Cert.KernelDrmsmIdeal.nD Cert.KernelDrmsmIdeal.τ).loc Cert.KernelDrmsmIdeal.main_v1_1)) (v2 : (c : Dev Cert.KernelDrmsmIdeal.nD) → Buf (Elt Ideal) ((c.tc : Thread Cert.KernelDrmsmIdeal.nD Cert.KernelDrmsmIdeal.τ).loc Cert.KernelDrmsmIdeal.main_v1_2)),
      θ_run (Cert.KernelDrmsmIdeal.defs (F := Ideal)) (onTc (τ := Cert.KernelDrmsmIdeal.τ) (Cert.KernelDrmsmIdeal.main (F := Ideal))) ⟨m, fun _ => 0, g⟩ (fun r => ∀ c : Dev Cert.KernelDrmsmIdeal.nD,
          r.2.mem ((c.tc : Thread Cert.KernelDrmsmIdeal.nD Cert.KernelDrmsmIdeal.τ).loc Cert.KernelDrmsmIdeal.main_v1_0) = v0 c
          ∧ r.2.mem ((c.tc : Thread Cert.KernelDrmsmIdeal.nD Cert.KernelDrmsmIdeal.τ).loc Cert.KernelDrmsmIdeal.main_v1_1) = v1 c
          ∧ r.2.mem ((c.tc : Thread Cert.KernelDrmsmIdeal.nD Cert.KernelDrmsmIdeal.τ).loc Cert.KernelDrmsmIdeal.main_v1_2) = v2 c
          ∧ r.2.mem ((c.tc : Thread Cert.KernelDrmsmIdeal.nD Cert.KernelDrmsmIdeal.τ).loc Cert.KernelDrmsmIdeal.main_arg0) = m ((c.tc : Thread Cert.KernelDrmsmIdeal.nD Cert.KernelDrmsmIdeal.τ).loc Cert.KernelDrmsmIdeal.main_arg0)
          ∧ r.2.mem ((c.tc : Thread Cert.KernelDrmsmIdeal.nD Cert.KernelDrmsmIdeal.τ).loc Cert.KernelDrmsmIdeal.main_arg1) = m ((c.tc : Thread Cert.KernelDrmsmIdeal.nD Cert.KernelDrmsmIdeal.τ).loc Cert.KernelDrmsmIdeal.main_arg1)
          ∧ r.2.mem ((c.tc : Thread Cert.KernelDrmsmIdeal.nD Cert.KernelDrmsmIdeal.τ).loc Cert.KernelDrmsmIdeal.main_arg2) = m ((c.tc : Thread Cert.KernelDrmsmIdeal.nD Cert.KernelDrmsmIdeal.τ).loc Cert.KernelDrmsmIdeal.main_arg2)
          ∧ r.2.mem ((c.tc : Thread Cert.KernelDrmsmIdeal.nD Cert.KernelDrmsmIdeal.τ).loc Cert.KernelDrmsmIdeal.main_arg3) = m ((c.tc : Thread Cert.KernelDrmsmIdeal.nD Cert.KernelDrmsmIdeal.τ).loc Cert.KernelDrmsmIdeal.main_arg3)
          ∧ r.2.mem ((c.tc : Thread Cert.KernelDrmsmIdeal.nD Cert.KernelDrmsmIdeal.τ).loc Cert.KernelDrmsmIdeal.main_arg4) = m ((c.tc : Thread Cert.KernelDrmsmIdeal.nD Cert.KernelDrmsmIdeal.τ).loc Cert.KernelDrmsmIdeal.main_arg4))
      ∧ θ_run (Cert.ReferenceDrmsmIdeal.defs (F := Ideal)) (onTc (τ := Cert.ReferenceDrmsmIdeal.τ) (Cert.ReferenceDrmsmIdeal.main (F := Ideal))) ⟨m', fun _ => 0, g'⟩ (fun r => ∀ c : Dev Cert.ReferenceDrmsmIdeal.nD,
          r.2.mem ((c.tc : Thread Cert.ReferenceDrmsmIdeal.nD Cert.ReferenceDrmsmIdeal.τ).loc Cert.ReferenceDrmsmIdeal.main_v39) = v0 c
          ∧ r.2.mem ((c.tc : Thread Cert.ReferenceDrmsmIdeal.nD Cert.ReferenceDrmsmIdeal.τ).loc Cert.ReferenceDrmsmIdeal.main_v42) = v1 c
          ∧ r.2.mem ((c.tc : Thread Cert.ReferenceDrmsmIdeal.nD Cert.ReferenceDrmsmIdeal.τ).loc Cert.ReferenceDrmsmIdeal.main_v43) = v2 c
          ∧ r.2.mem ((c.tc : Thread Cert.ReferenceDrmsmIdeal.nD Cert.ReferenceDrmsmIdeal.τ).loc Cert.ReferenceDrmsmIdeal.main_arg0) = m' ((c.tc : Thread Cert.ReferenceDrmsmIdeal.nD Cert.ReferenceDrmsmIdeal.τ).loc Cert.ReferenceDrmsmIdeal.main_arg0)
          ∧ r.2.mem ((c.tc : Thread Cert.ReferenceDrmsmIdeal.nD Cert.ReferenceDrmsmIdeal.τ).loc Cert.ReferenceDrmsmIdeal.main_arg1) = m' ((c.tc : Thread Cert.ReferenceDrmsmIdeal.nD Cert.ReferenceDrmsmIdeal.τ).loc Cert.ReferenceDrmsmIdeal.main_arg1)
          ∧ r.2.mem ((c.tc : Thread Cert.ReferenceDrmsmIdeal.nD Cert.ReferenceDrmsmIdeal.τ).loc Cert.ReferenceDrmsmIdeal.main_arg2) = m' ((c.tc : Thread Cert.ReferenceDrmsmIdeal.nD Cert.ReferenceDrmsmIdeal.τ).loc Cert.ReferenceDrmsmIdeal.main_arg2)
          ∧ r.2.mem ((c.tc : Thread Cert.ReferenceDrmsmIdeal.nD Cert.ReferenceDrmsmIdeal.τ).loc Cert.ReferenceDrmsmIdeal.main_arg3) = m' ((c.tc : Thread Cert.ReferenceDrmsmIdeal.nD Cert.ReferenceDrmsmIdeal.τ).loc Cert.ReferenceDrmsmIdeal.main_arg3)
          ∧ r.2.mem ((c.tc : Thread Cert.ReferenceDrmsmIdeal.nD Cert.ReferenceDrmsmIdeal.τ).loc Cert.ReferenceDrmsmIdeal.main_arg4) = m' ((c.tc : Thread Cert.ReferenceDrmsmIdeal.nD Cert.ReferenceDrmsmIdeal.τ).loc Cert.ReferenceDrmsmIdeal.main_arg4))

def preserves_KernelDrmsp_KernelDrmspIdeal : Prop :=
  True

def algebraic_KernelDrmspIdeal_ReferenceDrmspIdeal [hKernelDrmspIdeal : Cert.KernelDrmspIdeal.Facts] [hReferenceDrmspIdeal : Cert.ReferenceDrmspIdeal.Facts] : Prop :=
  ∀ (m : (ℓ : Loc Cert.KernelDrmspIdeal.nD Cert.KernelDrmspIdeal.τ Cert.KernelDrmspIdeal.sig) → Buf (Elt Ideal) ℓ) (g : Dev Cert.KernelDrmspIdeal.nD → PrngReg)
    (m' : (ℓ : Loc Cert.ReferenceDrmspIdeal.nD Cert.ReferenceDrmspIdeal.τ Cert.ReferenceDrmspIdeal.sig) → Buf (Elt Ideal) ℓ) (g' : Dev Cert.ReferenceDrmspIdeal.nD → PrngReg), Pre_KernelDrmspIdeal m →
    (∀ c : Dev Cert.KernelDrmspIdeal.nD,
      m' ((c.tc : Thread Cert.ReferenceDrmspIdeal.nD Cert.ReferenceDrmspIdeal.τ).loc Cert.ReferenceDrmspIdeal.main_arg0) = m ((c.tc : Thread Cert.KernelDrmspIdeal.nD Cert.KernelDrmspIdeal.τ).loc Cert.KernelDrmspIdeal.main_arg0)
      ∧ m' ((c.tc : Thread Cert.ReferenceDrmspIdeal.nD Cert.ReferenceDrmspIdeal.τ).loc Cert.ReferenceDrmspIdeal.main_arg1) = m ((c.tc : Thread Cert.KernelDrmspIdeal.nD Cert.KernelDrmspIdeal.τ).loc Cert.KernelDrmspIdeal.main_arg1)
      ∧ m' ((c.tc : Thread Cert.ReferenceDrmspIdeal.nD Cert.ReferenceDrmspIdeal.τ).loc Cert.ReferenceDrmspIdeal.main_arg2) = m ((c.tc : Thread Cert.KernelDrmspIdeal.nD Cert.KernelDrmspIdeal.τ).loc Cert.KernelDrmspIdeal.main_arg2)
      ∧ m' ((c.tc : Thread Cert.ReferenceDrmspIdeal.nD Cert.ReferenceDrmspIdeal.τ).loc Cert.ReferenceDrmspIdeal.main_arg3) = m ((c.tc : Thread Cert.KernelDrmspIdeal.nD Cert.KernelDrmspIdeal.τ).loc Cert.KernelDrmspIdeal.main_arg3)) →
    ∃ (v0 : (c : Dev Cert.KernelDrmspIdeal.nD) → Buf (Elt Ideal) ((c.tc : Thread Cert.KernelDrmspIdeal.nD Cert.KernelDrmspIdeal.τ).loc Cert.KernelDrmspIdeal.main_v1_0)) (v1 : (c : Dev Cert.KernelDrmspIdeal.nD) → Buf (Elt Ideal) ((c.tc : Thread Cert.KernelDrmspIdeal.nD Cert.KernelDrmspIdeal.τ).loc Cert.KernelDrmspIdeal.main_v1_1)) (v2 : (c : Dev Cert.KernelDrmspIdeal.nD) → Buf (Elt Ideal) ((c.tc : Thread Cert.KernelDrmspIdeal.nD Cert.KernelDrmspIdeal.τ).loc Cert.KernelDrmspIdeal.main_v1_2)),
      θ_run (Cert.KernelDrmspIdeal.defs (F := Ideal)) (onTc (τ := Cert.KernelDrmspIdeal.τ) (Cert.KernelDrmspIdeal.main (F := Ideal))) ⟨m, fun _ => 0, g⟩ (fun r => ∀ c : Dev Cert.KernelDrmspIdeal.nD,
          r.2.mem ((c.tc : Thread Cert.KernelDrmspIdeal.nD Cert.KernelDrmspIdeal.τ).loc Cert.KernelDrmspIdeal.main_v1_0) = v0 c
          ∧ r.2.mem ((c.tc : Thread Cert.KernelDrmspIdeal.nD Cert.KernelDrmspIdeal.τ).loc Cert.KernelDrmspIdeal.main_v1_1) = v1 c
          ∧ r.2.mem ((c.tc : Thread Cert.KernelDrmspIdeal.nD Cert.KernelDrmspIdeal.τ).loc Cert.KernelDrmspIdeal.main_v1_2) = v2 c
          ∧ r.2.mem ((c.tc : Thread Cert.KernelDrmspIdeal.nD Cert.KernelDrmspIdeal.τ).loc Cert.KernelDrmspIdeal.main_arg0) = m ((c.tc : Thread Cert.KernelDrmspIdeal.nD Cert.KernelDrmspIdeal.τ).loc Cert.KernelDrmspIdeal.main_arg0)
          ∧ r.2.mem ((c.tc : Thread Cert.KernelDrmspIdeal.nD Cert.KernelDrmspIdeal.τ).loc Cert.KernelDrmspIdeal.main_arg1) = m ((c.tc : Thread Cert.KernelDrmspIdeal.nD Cert.KernelDrmspIdeal.τ).loc Cert.KernelDrmspIdeal.main_arg1)
          ∧ r.2.mem ((c.tc : Thread Cert.KernelDrmspIdeal.nD Cert.KernelDrmspIdeal.τ).loc Cert.KernelDrmspIdeal.main_arg2) = m ((c.tc : Thread Cert.KernelDrmspIdeal.nD Cert.KernelDrmspIdeal.τ).loc Cert.KernelDrmspIdeal.main_arg2)
          ∧ r.2.mem ((c.tc : Thread Cert.KernelDrmspIdeal.nD Cert.KernelDrmspIdeal.τ).loc Cert.KernelDrmspIdeal.main_arg3) = m ((c.tc : Thread Cert.KernelDrmspIdeal.nD Cert.KernelDrmspIdeal.τ).loc Cert.KernelDrmspIdeal.main_arg3))
      ∧ θ_run (Cert.ReferenceDrmspIdeal.defs (F := Ideal)) (onTc (τ := Cert.ReferenceDrmspIdeal.τ) (Cert.ReferenceDrmspIdeal.main (F := Ideal))) ⟨m', fun _ => 0, g'⟩ (fun r => ∀ c : Dev Cert.ReferenceDrmspIdeal.nD,
          r.2.mem ((c.tc : Thread Cert.ReferenceDrmspIdeal.nD Cert.ReferenceDrmspIdeal.τ).loc Cert.ReferenceDrmspIdeal.main_v37) = v0 c
          ∧ r.2.mem ((c.tc : Thread Cert.ReferenceDrmspIdeal.nD Cert.ReferenceDrmspIdeal.τ).loc Cert.ReferenceDrmspIdeal.main_v40) = v1 c
          ∧ r.2.mem ((c.tc : Thread Cert.ReferenceDrmspIdeal.nD Cert.ReferenceDrmspIdeal.τ).loc Cert.ReferenceDrmspIdeal.main_v41) = v2 c
          ∧ r.2.mem ((c.tc : Thread Cert.ReferenceDrmspIdeal.nD Cert.ReferenceDrmspIdeal.τ).loc Cert.ReferenceDrmspIdeal.main_arg0) = m' ((c.tc : Thread Cert.ReferenceDrmspIdeal.nD Cert.ReferenceDrmspIdeal.τ).loc Cert.ReferenceDrmspIdeal.main_arg0)
          ∧ r.2.mem ((c.tc : Thread Cert.ReferenceDrmspIdeal.nD Cert.ReferenceDrmspIdeal.τ).loc Cert.ReferenceDrmspIdeal.main_arg1) = m' ((c.tc : Thread Cert.ReferenceDrmspIdeal.nD Cert.ReferenceDrmspIdeal.τ).loc Cert.ReferenceDrmspIdeal.main_arg1)
          ∧ r.2.mem ((c.tc : Thread Cert.ReferenceDrmspIdeal.nD Cert.ReferenceDrmspIdeal.τ).loc Cert.ReferenceDrmspIdeal.main_arg2) = m' ((c.tc : Thread Cert.ReferenceDrmspIdeal.nD Cert.ReferenceDrmspIdeal.τ).loc Cert.ReferenceDrmspIdeal.main_arg2)
          ∧ r.2.mem ((c.tc : Thread Cert.ReferenceDrmspIdeal.nD Cert.ReferenceDrmspIdeal.τ).loc Cert.ReferenceDrmspIdeal.main_arg3) = m' ((c.tc : Thread Cert.ReferenceDrmspIdeal.nD Cert.ReferenceDrmspIdeal.τ).loc Cert.ReferenceDrmspIdeal.main_arg3))

def preserves_KernelAgain_KernelAgainIdeal : Prop :=
  True

def algebraic_KernelAgainIdeal_ReferenceAgainIdeal [hKernelAgainIdeal : Cert.KernelAgainIdeal.Facts] [hReferenceAgainIdeal : Cert.ReferenceAgainIdeal.Facts] : Prop :=
  ∀ (m : (ℓ : Loc Cert.KernelAgainIdeal.nD Cert.KernelAgainIdeal.τ Cert.KernelAgainIdeal.sig) → Buf (Elt Ideal) ℓ) (g : Dev Cert.KernelAgainIdeal.nD → PrngReg)
    (m' : (ℓ : Loc Cert.ReferenceAgainIdeal.nD Cert.ReferenceAgainIdeal.τ Cert.ReferenceAgainIdeal.sig) → Buf (Elt Ideal) ℓ) (g' : Dev Cert.ReferenceAgainIdeal.nD → PrngReg), Pre_KernelAgainIdeal m →
    (∀ c : Dev Cert.KernelAgainIdeal.nD,
      m' ((c.tc : Thread Cert.ReferenceAgainIdeal.nD Cert.ReferenceAgainIdeal.τ).loc Cert.ReferenceAgainIdeal.main_arg0) = m ((c.tc : Thread Cert.KernelAgainIdeal.nD Cert.KernelAgainIdeal.τ).loc Cert.KernelAgainIdeal.main_arg0)
      ∧ m' ((c.tc : Thread Cert.ReferenceAgainIdeal.nD Cert.ReferenceAgainIdeal.τ).loc Cert.ReferenceAgainIdeal.main_arg1) = m ((c.tc : Thread Cert.KernelAgainIdeal.nD Cert.KernelAgainIdeal.τ).loc Cert.KernelAgainIdeal.main_arg1)
      ∧ m' ((c.tc : Thread Cert.ReferenceAgainIdeal.nD Cert.ReferenceAgainIdeal.τ).loc Cert.ReferenceAgainIdeal.main_arg2) = m ((c.tc : Thread Cert.KernelAgainIdeal.nD Cert.KernelAgainIdeal.τ).loc Cert.KernelAgainIdeal.main_arg2)
      ∧ m' ((c.tc : Thread Cert.ReferenceAgainIdeal.nD Cert.ReferenceAgainIdeal.τ).loc Cert.ReferenceAgainIdeal.main_arg3) = m ((c.tc : Thread Cert.KernelAgainIdeal.nD Cert.KernelAgainIdeal.τ).loc Cert.KernelAgainIdeal.main_arg3)) →
    ∃ (v0 : (c : Dev Cert.KernelAgainIdeal.nD) → Buf (Elt Ideal) ((c.tc : Thread Cert.KernelAgainIdeal.nD Cert.KernelAgainIdeal.τ).loc Cert.KernelAgainIdeal.main_v0_0)) (v1 : (c : Dev Cert.KernelAgainIdeal.nD) → Buf (Elt Ideal) ((c.tc : Thread Cert.KernelAgainIdeal.nD Cert.KernelAgainIdeal.τ).loc Cert.KernelAgainIdeal.main_v0_1)) (v2 : (c : Dev Cert.KernelAgainIdeal.nD) → Buf (Elt Ideal) ((c.tc : Thread Cert.KernelAgainIdeal.nD Cert.KernelAgainIdeal.τ).loc Cert.KernelAgainIdeal.main_v0_2)),
      θ_run (Cert.KernelAgainIdeal.defs (F := Ideal)) (onTc (τ := Cert.KernelAgainIdeal.τ) (Cert.KernelAgainIdeal.main (F := Ideal))) ⟨m, fun _ => 0, g⟩ (fun r => ∀ c : Dev Cert.KernelAgainIdeal.nD,
          r.2.mem ((c.tc : Thread Cert.KernelAgainIdeal.nD Cert.KernelAgainIdeal.τ).loc Cert.KernelAgainIdeal.main_v0_0) = v0 c
          ∧ r.2.mem ((c.tc : Thread Cert.KernelAgainIdeal.nD Cert.KernelAgainIdeal.τ).loc Cert.KernelAgainIdeal.main_v0_1) = v1 c
          ∧ r.2.mem ((c.tc : Thread Cert.KernelAgainIdeal.nD Cert.KernelAgainIdeal.τ).loc Cert.KernelAgainIdeal.main_v0_2) = v2 c
          ∧ r.2.mem ((c.tc : Thread Cert.KernelAgainIdeal.nD Cert.KernelAgainIdeal.τ).loc Cert.KernelAgainIdeal.main_arg0) = m ((c.tc : Thread Cert.KernelAgainIdeal.nD Cert.KernelAgainIdeal.τ).loc Cert.KernelAgainIdeal.main_arg0)
          ∧ r.2.mem ((c.tc : Thread Cert.KernelAgainIdeal.nD Cert.KernelAgainIdeal.τ).loc Cert.KernelAgainIdeal.main_arg1) = m ((c.tc : Thread Cert.KernelAgainIdeal.nD Cert.KernelAgainIdeal.τ).loc Cert.KernelAgainIdeal.main_arg1)
          ∧ r.2.mem ((c.tc : Thread Cert.KernelAgainIdeal.nD Cert.KernelAgainIdeal.τ).loc Cert.KernelAgainIdeal.main_arg2) = m ((c.tc : Thread Cert.KernelAgainIdeal.nD Cert.KernelAgainIdeal.τ).loc Cert.KernelAgainIdeal.main_arg2)
          ∧ r.2.mem ((c.tc : Thread Cert.KernelAgainIdeal.nD Cert.KernelAgainIdeal.τ).loc Cert.KernelAgainIdeal.main_arg3) = m ((c.tc : Thread Cert.KernelAgainIdeal.nD Cert.KernelAgainIdeal.τ).loc Cert.KernelAgainIdeal.main_arg3))
      ∧ θ_run (Cert.ReferenceAgainIdeal.defs (F := Ideal)) (onTc (τ := Cert.ReferenceAgainIdeal.τ) (Cert.ReferenceAgainIdeal.main (F := Ideal))) ⟨m', fun _ => 0, g'⟩ (fun r => ∀ c : Dev Cert.ReferenceAgainIdeal.nD,
          r.2.mem ((c.tc : Thread Cert.ReferenceAgainIdeal.nD Cert.ReferenceAgainIdeal.τ).loc Cert.ReferenceAgainIdeal.main_v23) = v0 c
          ∧ r.2.mem ((c.tc : Thread Cert.ReferenceAgainIdeal.nD Cert.ReferenceAgainIdeal.τ).loc Cert.ReferenceAgainIdeal.main_v4) = v1 c
          ∧ r.2.mem ((c.tc : Thread Cert.ReferenceAgainIdeal.nD Cert.ReferenceAgainIdeal.τ).loc Cert.ReferenceAgainIdeal.main_v10) = v2 c
          ∧ r.2.mem ((c.tc : Thread Cert.ReferenceAgainIdeal.nD Cert.ReferenceAgainIdeal.τ).loc Cert.ReferenceAgainIdeal.main_arg0) = m' ((c.tc : Thread Cert.ReferenceAgainIdeal.nD Cert.ReferenceAgainIdeal.τ).loc Cert.ReferenceAgainIdeal.main_arg0)
          ∧ r.2.mem ((c.tc : Thread Cert.ReferenceAgainIdeal.nD Cert.ReferenceAgainIdeal.τ).loc Cert.ReferenceAgainIdeal.main_arg1) = m' ((c.tc : Thread Cert.ReferenceAgainIdeal.nD Cert.ReferenceAgainIdeal.τ).loc Cert.ReferenceAgainIdeal.main_arg1)
          ∧ r.2.mem ((c.tc : Thread Cert.ReferenceAgainIdeal.nD Cert.ReferenceAgainIdeal.τ).loc Cert.ReferenceAgainIdeal.main_arg2) = m' ((c.tc : Thread Cert.ReferenceAgainIdeal.nD Cert.ReferenceAgainIdeal.τ).loc Cert.ReferenceAgainIdeal.main_arg2)
          ∧ r.2.mem ((c.tc : Thread Cert.ReferenceAgainIdeal.nD Cert.ReferenceAgainIdeal.τ).loc Cert.ReferenceAgainIdeal.main_arg3) = m' ((c.tc : Thread Cert.ReferenceAgainIdeal.nD Cert.ReferenceAgainIdeal.τ).loc Cert.ReferenceAgainIdeal.main_arg3))

def preserves_KernelAfinal_KernelAfinalIdeal : Prop :=
  True

def algebraic_KernelAfinalIdeal_ReferenceAfinalIdeal [hKernelAfinalIdeal : Cert.KernelAfinalIdeal.Facts] [hReferenceAfinalIdeal : Cert.ReferenceAfinalIdeal.Facts] : Prop :=
  ∀ (m : (ℓ : Loc Cert.KernelAfinalIdeal.nD Cert.KernelAfinalIdeal.τ Cert.KernelAfinalIdeal.sig) → Buf (Elt Ideal) ℓ) (g : Dev Cert.KernelAfinalIdeal.nD → PrngReg)
    (m' : (ℓ : Loc Cert.ReferenceAfinalIdeal.nD Cert.ReferenceAfinalIdeal.τ Cert.ReferenceAfinalIdeal.sig) → Buf (Elt Ideal) ℓ) (g' : Dev Cert.ReferenceAfinalIdeal.nD → PrngReg), Pre_KernelAfinalIdeal m →
    (∀ c : Dev Cert.KernelAfinalIdeal.nD,
      m' ((c.tc : Thread Cert.ReferenceAfinalIdeal.nD Cert.ReferenceAfinalIdeal.τ).loc Cert.ReferenceAfinalIdeal.main_arg0) = m ((c.tc : Thread Cert.KernelAfinalIdeal.nD Cert.KernelAfinalIdeal.τ).loc Cert.KernelAfinalIdeal.main_arg0)
      ∧ m' ((c.tc : Thread Cert.ReferenceAfinalIdeal.nD Cert.ReferenceAfinalIdeal.τ).loc Cert.ReferenceAfinalIdeal.main_arg1) = m ((c.tc : Thread Cert.KernelAfinalIdeal.nD Cert.KernelAfinalIdeal.τ).loc Cert.KernelAfinalIdeal.main_arg1)
      ∧ m' ((c.tc : Thread Cert.ReferenceAfinalIdeal.nD Cert.ReferenceAfinalIdeal.τ).loc Cert.ReferenceAfinalIdeal.main_arg2) = m ((c.tc : Thread Cert.KernelAfinalIdeal.nD Cert.KernelAfinalIdeal.τ).loc Cert.KernelAfinalIdeal.main_arg2)
      ∧ m' ((c.tc : Thread Cert.ReferenceAfinalIdeal.nD Cert.ReferenceAfinalIdeal.τ).loc Cert.ReferenceAfinalIdeal.main_arg3) = m ((c.tc : Thread Cert.KernelAfinalIdeal.nD Cert.KernelAfinalIdeal.τ).loc Cert.KernelAfinalIdeal.main_arg3)) →
    ∃ (v0 : (c : Dev Cert.KernelAfinalIdeal.nD) → Buf (Elt Ideal) ((c.tc : Thread Cert.KernelAfinalIdeal.nD Cert.KernelAfinalIdeal.τ).loc Cert.KernelAfinalIdeal.main_v0_0)) (v1 : (c : Dev Cert.KernelAfinalIdeal.nD) → Buf (Elt Ideal) ((c.tc : Thread Cert.KernelAfinalIdeal.nD Cert.KernelAfinalIdeal.τ).loc Cert.KernelAfinalIdeal.main_v0_1)) (v2 : (c : Dev Cert.KernelAfinalIdeal.nD) → Buf (Elt Ideal) ((c.tc : Thread Cert.KernelAfinalIdeal.nD Cert.KernelAfinalIdeal.τ).loc Cert.KernelAfinalIdeal.main_v0_2)),
      θ_run (Cert.KernelAfinalIdeal.defs (F := Ideal)) (onTc (τ := Cert.KernelAfinalIdeal.τ) (Cert.KernelAfinalIdeal.main (F := Ideal))) ⟨m, fun _ => 0, g⟩ (fun r => ∀ c : Dev Cert.KernelAfinalIdeal.nD,
          r.2.mem ((c.tc : Thread Cert.KernelAfinalIdeal.nD Cert.KernelAfinalIdeal.τ).loc Cert.KernelAfinalIdeal.main_v0_0) = v0 c
          ∧ r.2.mem ((c.tc : Thread Cert.KernelAfinalIdeal.nD Cert.KernelAfinalIdeal.τ).loc Cert.KernelAfinalIdeal.main_v0_1) = v1 c
          ∧ r.2.mem ((c.tc : Thread Cert.KernelAfinalIdeal.nD Cert.KernelAfinalIdeal.τ).loc Cert.KernelAfinalIdeal.main_v0_2) = v2 c
          ∧ r.2.mem ((c.tc : Thread Cert.KernelAfinalIdeal.nD Cert.KernelAfinalIdeal.τ).loc Cert.KernelAfinalIdeal.main_arg0) = m ((c.tc : Thread Cert.KernelAfinalIdeal.nD Cert.KernelAfinalIdeal.τ).loc Cert.KernelAfinalIdeal.main_arg0)
          ∧ r.2.mem ((c.tc : Thread Cert.KernelAfinalIdeal.nD Cert.KernelAfinalIdeal.τ).loc Cert.KernelAfinalIdeal.main_arg1) = m ((c.tc : Thread Cert.KernelAfinalIdeal.nD Cert.KernelAfinalIdeal.τ).loc Cert.KernelAfinalIdeal.main_arg1)
          ∧ r.2.mem ((c.tc : Thread Cert.KernelAfinalIdeal.nD Cert.KernelAfinalIdeal.τ).loc Cert.KernelAfinalIdeal.main_arg2) = m ((c.tc : Thread Cert.KernelAfinalIdeal.nD Cert.KernelAfinalIdeal.τ).loc Cert.KernelAfinalIdeal.main_arg2)
          ∧ r.2.mem ((c.tc : Thread Cert.KernelAfinalIdeal.nD Cert.KernelAfinalIdeal.τ).loc Cert.KernelAfinalIdeal.main_arg3) = m ((c.tc : Thread Cert.KernelAfinalIdeal.nD Cert.KernelAfinalIdeal.τ).loc Cert.KernelAfinalIdeal.main_arg3))
      ∧ θ_run (Cert.ReferenceAfinalIdeal.defs (F := Ideal)) (onTc (τ := Cert.ReferenceAfinalIdeal.τ) (Cert.ReferenceAfinalIdeal.main (F := Ideal))) ⟨m', fun _ => 0, g'⟩ (fun r => ∀ c : Dev Cert.ReferenceAfinalIdeal.nD,
          r.2.mem ((c.tc : Thread Cert.ReferenceAfinalIdeal.nD Cert.ReferenceAfinalIdeal.τ).loc Cert.ReferenceAfinalIdeal.main_v23) = v0 c
          ∧ r.2.mem ((c.tc : Thread Cert.ReferenceAfinalIdeal.nD Cert.ReferenceAfinalIdeal.τ).loc Cert.ReferenceAfinalIdeal.main_v4) = v1 c
          ∧ r.2.mem ((c.tc : Thread Cert.ReferenceAfinalIdeal.nD Cert.ReferenceAfinalIdeal.τ).loc Cert.ReferenceAfinalIdeal.main_v10) = v2 c
          ∧ r.2.mem ((c.tc : Thread Cert.ReferenceAfinalIdeal.nD Cert.ReferenceAfinalIdeal.τ).loc Cert.ReferenceAfinalIdeal.main_arg0) = m' ((c.tc : Thread Cert.ReferenceAfinalIdeal.nD Cert.ReferenceAfinalIdeal.τ).loc Cert.ReferenceAfinalIdeal.main_arg0)
          ∧ r.2.mem ((c.tc : Thread Cert.ReferenceAfinalIdeal.nD Cert.ReferenceAfinalIdeal.τ).loc Cert.ReferenceAfinalIdeal.main_arg1) = m' ((c.tc : Thread Cert.ReferenceAfinalIdeal.nD Cert.ReferenceAfinalIdeal.τ).loc Cert.ReferenceAfinalIdeal.main_arg1)
          ∧ r.2.mem ((c.tc : Thread Cert.ReferenceAfinalIdeal.nD Cert.ReferenceAfinalIdeal.τ).loc Cert.ReferenceAfinalIdeal.main_arg2) = m' ((c.tc : Thread Cert.ReferenceAfinalIdeal.nD Cert.ReferenceAfinalIdeal.τ).loc Cert.ReferenceAfinalIdeal.main_arg2)
          ∧ r.2.mem ((c.tc : Thread Cert.ReferenceAfinalIdeal.nD Cert.ReferenceAfinalIdeal.τ).loc Cert.ReferenceAfinalIdeal.main_arg3) = m' ((c.tc : Thread Cert.ReferenceAfinalIdeal.nD Cert.ReferenceAfinalIdeal.τ).loc Cert.ReferenceAfinalIdeal.main_arg3))

def preserves_KernelAconv_KernelAconvIdeal : Prop :=
  True

def algebraic_KernelAconvIdeal_ReferenceAconvIdeal [hKernelAconvIdeal : Cert.KernelAconvIdeal.Facts] [hReferenceAconvIdeal : Cert.ReferenceAconvIdeal.Facts] : Prop :=
  ∀ (m : (ℓ : Loc Cert.KernelAconvIdeal.nD Cert.KernelAconvIdeal.τ Cert.KernelAconvIdeal.sig) → Buf (Elt Ideal) ℓ) (g : Dev Cert.KernelAconvIdeal.nD → PrngReg)
    (m' : (ℓ : Loc Cert.ReferenceAconvIdeal.nD Cert.ReferenceAconvIdeal.τ Cert.ReferenceAconvIdeal.sig) → Buf (Elt Ideal) ℓ) (g' : Dev Cert.ReferenceAconvIdeal.nD → PrngReg), Pre_KernelAconvIdeal m →
    (∀ c : Dev Cert.KernelAconvIdeal.nD,
      m' ((c.tc : Thread Cert.ReferenceAconvIdeal.nD Cert.ReferenceAconvIdeal.τ).loc Cert.ReferenceAconvIdeal.main_arg0) = m ((c.tc : Thread Cert.KernelAconvIdeal.nD Cert.KernelAconvIdeal.τ).loc Cert.KernelAconvIdeal.main_arg0)
      ∧ m' ((c.tc : Thread Cert.ReferenceAconvIdeal.nD Cert.ReferenceAconvIdeal.τ).loc Cert.ReferenceAconvIdeal.main_arg1) = m ((c.tc : Thread Cert.KernelAconvIdeal.nD Cert.KernelAconvIdeal.τ).loc Cert.KernelAconvIdeal.main_arg1)
      ∧ m' ((c.tc : Thread Cert.ReferenceAconvIdeal.nD Cert.ReferenceAconvIdeal.τ).loc Cert.ReferenceAconvIdeal.main_arg2) = m ((c.tc : Thread Cert.KernelAconvIdeal.nD Cert.KernelAconvIdeal.τ).loc Cert.KernelAconvIdeal.main_arg2)
      ∧ m' ((c.tc : Thread Cert.ReferenceAconvIdeal.nD Cert.ReferenceAconvIdeal.τ).loc Cert.ReferenceAconvIdeal.main_arg3) = m ((c.tc : Thread Cert.KernelAconvIdeal.nD Cert.KernelAconvIdeal.τ).loc Cert.KernelAconvIdeal.main_arg3)) →
    ∃ (v0 : (c : Dev Cert.KernelAconvIdeal.nD) → Buf (Elt Ideal) ((c.tc : Thread Cert.KernelAconvIdeal.nD Cert.KernelAconvIdeal.τ).loc Cert.KernelAconvIdeal.main_v0_0)) (v1 : (c : Dev Cert.KernelAconvIdeal.nD) → Buf (Elt Ideal) ((c.tc : Thread Cert.KernelAconvIdeal.nD Cert.KernelAconvIdeal.τ).loc Cert.KernelAconvIdeal.main_v0_1)) (v2 : (c : Dev Cert.KernelAconvIdeal.nD) → Buf (Elt Ideal) ((c.tc : Thread Cert.KernelAconvIdeal.nD Cert.KernelAconvIdeal.τ).loc Cert.KernelAconvIdeal.main_v0_2)),
      θ_run (Cert.KernelAconvIdeal.defs (F := Ideal)) (onTc (τ := Cert.KernelAconvIdeal.τ) (Cert.KernelAconvIdeal.main (F := Ideal))) ⟨m, fun _ => 0, g⟩ (fun r => ∀ c : Dev Cert.KernelAconvIdeal.nD,
          r.2.mem ((c.tc : Thread Cert.KernelAconvIdeal.nD Cert.KernelAconvIdeal.τ).loc Cert.KernelAconvIdeal.main_v0_0) = v0 c
          ∧ r.2.mem ((c.tc : Thread Cert.KernelAconvIdeal.nD Cert.KernelAconvIdeal.τ).loc Cert.KernelAconvIdeal.main_v0_1) = v1 c
          ∧ r.2.mem ((c.tc : Thread Cert.KernelAconvIdeal.nD Cert.KernelAconvIdeal.τ).loc Cert.KernelAconvIdeal.main_v0_2) = v2 c
          ∧ r.2.mem ((c.tc : Thread Cert.KernelAconvIdeal.nD Cert.KernelAconvIdeal.τ).loc Cert.KernelAconvIdeal.main_arg0) = m ((c.tc : Thread Cert.KernelAconvIdeal.nD Cert.KernelAconvIdeal.τ).loc Cert.KernelAconvIdeal.main_arg0)
          ∧ r.2.mem ((c.tc : Thread Cert.KernelAconvIdeal.nD Cert.KernelAconvIdeal.τ).loc Cert.KernelAconvIdeal.main_arg1) = m ((c.tc : Thread Cert.KernelAconvIdeal.nD Cert.KernelAconvIdeal.τ).loc Cert.KernelAconvIdeal.main_arg1)
          ∧ r.2.mem ((c.tc : Thread Cert.KernelAconvIdeal.nD Cert.KernelAconvIdeal.τ).loc Cert.KernelAconvIdeal.main_arg2) = m ((c.tc : Thread Cert.KernelAconvIdeal.nD Cert.KernelAconvIdeal.τ).loc Cert.KernelAconvIdeal.main_arg2)
          ∧ r.2.mem ((c.tc : Thread Cert.KernelAconvIdeal.nD Cert.KernelAconvIdeal.τ).loc Cert.KernelAconvIdeal.main_arg3) = m ((c.tc : Thread Cert.KernelAconvIdeal.nD Cert.KernelAconvIdeal.τ).loc Cert.KernelAconvIdeal.main_arg3))
      ∧ θ_run (Cert.ReferenceAconvIdeal.defs (F := Ideal)) (onTc (τ := Cert.ReferenceAconvIdeal.τ) (Cert.ReferenceAconvIdeal.main (F := Ideal))) ⟨m', fun _ => 0, g'⟩ (fun r => ∀ c : Dev Cert.ReferenceAconvIdeal.nD,
          r.2.mem ((c.tc : Thread Cert.ReferenceAconvIdeal.nD Cert.ReferenceAconvIdeal.τ).loc Cert.ReferenceAconvIdeal.main_v23) = v0 c
          ∧ r.2.mem ((c.tc : Thread Cert.ReferenceAconvIdeal.nD Cert.ReferenceAconvIdeal.τ).loc Cert.ReferenceAconvIdeal.main_v4) = v1 c
          ∧ r.2.mem ((c.tc : Thread Cert.ReferenceAconvIdeal.nD Cert.ReferenceAconvIdeal.τ).loc Cert.ReferenceAconvIdeal.main_v10) = v2 c
          ∧ r.2.mem ((c.tc : Thread Cert.ReferenceAconvIdeal.nD Cert.ReferenceAconvIdeal.τ).loc Cert.ReferenceAconvIdeal.main_arg0) = m' ((c.tc : Thread Cert.ReferenceAconvIdeal.nD Cert.ReferenceAconvIdeal.τ).loc Cert.ReferenceAconvIdeal.main_arg0)
          ∧ r.2.mem ((c.tc : Thread Cert.ReferenceAconvIdeal.nD Cert.ReferenceAconvIdeal.τ).loc Cert.ReferenceAconvIdeal.main_arg1) = m' ((c.tc : Thread Cert.ReferenceAconvIdeal.nD Cert.ReferenceAconvIdeal.τ).loc Cert.ReferenceAconvIdeal.main_arg1)
          ∧ r.2.mem ((c.tc : Thread Cert.ReferenceAconvIdeal.nD Cert.ReferenceAconvIdeal.τ).loc Cert.ReferenceAconvIdeal.main_arg2) = m' ((c.tc : Thread Cert.ReferenceAconvIdeal.nD Cert.ReferenceAconvIdeal.τ).loc Cert.ReferenceAconvIdeal.main_arg2)
          ∧ r.2.mem ((c.tc : Thread Cert.ReferenceAconvIdeal.nD Cert.ReferenceAconvIdeal.τ).loc Cert.ReferenceAconvIdeal.main_arg3) = m' ((c.tc : Thread Cert.ReferenceAconvIdeal.nD Cert.ReferenceAconvIdeal.τ).loc Cert.ReferenceAconvIdeal.main_arg3))

def preserves_KernelAbf_KernelAbfIdeal : Prop :=
  True

def algebraic_KernelAbfIdeal_ReferenceAbfIdeal [hKernelAbfIdeal : Cert.KernelAbfIdeal.Facts] [hReferenceAbfIdeal : Cert.ReferenceAbfIdeal.Facts] : Prop :=
  ∀ (m : (ℓ : Loc Cert.KernelAbfIdeal.nD Cert.KernelAbfIdeal.τ Cert.KernelAbfIdeal.sig) → Buf (Elt Ideal) ℓ) (g : Dev Cert.KernelAbfIdeal.nD → PrngReg)
    (m' : (ℓ : Loc Cert.ReferenceAbfIdeal.nD Cert.ReferenceAbfIdeal.τ Cert.ReferenceAbfIdeal.sig) → Buf (Elt Ideal) ℓ) (g' : Dev Cert.ReferenceAbfIdeal.nD → PrngReg), Pre_KernelAbfIdeal m →
    (∀ c : Dev Cert.KernelAbfIdeal.nD,
      m' ((c.tc : Thread Cert.ReferenceAbfIdeal.nD Cert.ReferenceAbfIdeal.τ).loc Cert.ReferenceAbfIdeal.main_arg0) = m ((c.tc : Thread Cert.KernelAbfIdeal.nD Cert.KernelAbfIdeal.τ).loc Cert.KernelAbfIdeal.main_arg0)
      ∧ m' ((c.tc : Thread Cert.ReferenceAbfIdeal.nD Cert.ReferenceAbfIdeal.τ).loc Cert.ReferenceAbfIdeal.main_arg1) = m ((c.tc : Thread Cert.KernelAbfIdeal.nD Cert.KernelAbfIdeal.τ).loc Cert.KernelAbfIdeal.main_arg1)
      ∧ m' ((c.tc : Thread Cert.ReferenceAbfIdeal.nD Cert.ReferenceAbfIdeal.τ).loc Cert.ReferenceAbfIdeal.main_arg2) = m ((c.tc : Thread Cert.KernelAbfIdeal.nD Cert.KernelAbfIdeal.τ).loc Cert.KernelAbfIdeal.main_arg2)
      ∧ m' ((c.tc : Thread Cert.ReferenceAbfIdeal.nD Cert.ReferenceAbfIdeal.τ).loc Cert.ReferenceAbfIdeal.main_arg3) = m ((c.tc : Thread Cert.KernelAbfIdeal.nD Cert.KernelAbfIdeal.τ).loc Cert.KernelAbfIdeal.main_arg3)) →
    ∃ (v0 : (c : Dev Cert.KernelAbfIdeal.nD) → Buf (Elt Ideal) ((c.tc : Thread Cert.KernelAbfIdeal.nD Cert.KernelAbfIdeal.τ).loc Cert.KernelAbfIdeal.main_v0_0)) (v1 : (c : Dev Cert.KernelAbfIdeal.nD) → Buf (Elt Ideal) ((c.tc : Thread Cert.KernelAbfIdeal.nD Cert.KernelAbfIdeal.τ).loc Cert.KernelAbfIdeal.main_v0_1)) (v2 : (c : Dev Cert.KernelAbfIdeal.nD) → Buf (Elt Ideal) ((c.tc : Thread Cert.KernelAbfIdeal.nD Cert.KernelAbfIdeal.τ).loc Cert.KernelAbfIdeal.main_v0_2)),
      θ_run (Cert.KernelAbfIdeal.defs (F := Ideal)) (onTc (τ := Cert.KernelAbfIdeal.τ) (Cert.KernelAbfIdeal.main (F := Ideal))) ⟨m, fun _ => 0, g⟩ (fun r => ∀ c : Dev Cert.KernelAbfIdeal.nD,
          r.2.mem ((c.tc : Thread Cert.KernelAbfIdeal.nD Cert.KernelAbfIdeal.τ).loc Cert.KernelAbfIdeal.main_v0_0) = v0 c
          ∧ r.2.mem ((c.tc : Thread Cert.KernelAbfIdeal.nD Cert.KernelAbfIdeal.τ).loc Cert.KernelAbfIdeal.main_v0_1) = v1 c
          ∧ r.2.mem ((c.tc : Thread Cert.KernelAbfIdeal.nD Cert.KernelAbfIdeal.τ).loc Cert.KernelAbfIdeal.main_v0_2) = v2 c
          ∧ r.2.mem ((c.tc : Thread Cert.KernelAbfIdeal.nD Cert.KernelAbfIdeal.τ).loc Cert.KernelAbfIdeal.main_arg0) = m ((c.tc : Thread Cert.KernelAbfIdeal.nD Cert.KernelAbfIdeal.τ).loc Cert.KernelAbfIdeal.main_arg0)
          ∧ r.2.mem ((c.tc : Thread Cert.KernelAbfIdeal.nD Cert.KernelAbfIdeal.τ).loc Cert.KernelAbfIdeal.main_arg1) = m ((c.tc : Thread Cert.KernelAbfIdeal.nD Cert.KernelAbfIdeal.τ).loc Cert.KernelAbfIdeal.main_arg1)
          ∧ r.2.mem ((c.tc : Thread Cert.KernelAbfIdeal.nD Cert.KernelAbfIdeal.τ).loc Cert.KernelAbfIdeal.main_arg2) = m ((c.tc : Thread Cert.KernelAbfIdeal.nD Cert.KernelAbfIdeal.τ).loc Cert.KernelAbfIdeal.main_arg2)
          ∧ r.2.mem ((c.tc : Thread Cert.KernelAbfIdeal.nD Cert.KernelAbfIdeal.τ).loc Cert.KernelAbfIdeal.main_arg3) = m ((c.tc : Thread Cert.KernelAbfIdeal.nD Cert.KernelAbfIdeal.τ).loc Cert.KernelAbfIdeal.main_arg3))
      ∧ θ_run (Cert.ReferenceAbfIdeal.defs (F := Ideal)) (onTc (τ := Cert.ReferenceAbfIdeal.τ) (Cert.ReferenceAbfIdeal.main (F := Ideal))) ⟨m', fun _ => 0, g'⟩ (fun r => ∀ c : Dev Cert.ReferenceAbfIdeal.nD,
          r.2.mem ((c.tc : Thread Cert.ReferenceAbfIdeal.nD Cert.ReferenceAbfIdeal.τ).loc Cert.ReferenceAbfIdeal.main_v23) = v0 c
          ∧ r.2.mem ((c.tc : Thread Cert.ReferenceAbfIdeal.nD Cert.ReferenceAbfIdeal.τ).loc Cert.ReferenceAbfIdeal.main_v4) = v1 c
          ∧ r.2.mem ((c.tc : Thread Cert.ReferenceAbfIdeal.nD Cert.ReferenceAbfIdeal.τ).loc Cert.ReferenceAbfIdeal.main_v10) = v2 c
          ∧ r.2.mem ((c.tc : Thread Cert.ReferenceAbfIdeal.nD Cert.ReferenceAbfIdeal.τ).loc Cert.ReferenceAbfIdeal.main_arg0) = m' ((c.tc : Thread Cert.ReferenceAbfIdeal.nD Cert.ReferenceAbfIdeal.τ).loc Cert.ReferenceAbfIdeal.main_arg0)
          ∧ r.2.mem ((c.tc : Thread Cert.ReferenceAbfIdeal.nD Cert.ReferenceAbfIdeal.τ).loc Cert.ReferenceAbfIdeal.main_arg1) = m' ((c.tc : Thread Cert.ReferenceAbfIdeal.nD Cert.ReferenceAbfIdeal.τ).loc Cert.ReferenceAbfIdeal.main_arg1)
          ∧ r.2.mem ((c.tc : Thread Cert.ReferenceAbfIdeal.nD Cert.ReferenceAbfIdeal.τ).loc Cert.ReferenceAbfIdeal.main_arg2) = m' ((c.tc : Thread Cert.ReferenceAbfIdeal.nD Cert.ReferenceAbfIdeal.τ).loc Cert.ReferenceAbfIdeal.main_arg2)
          ∧ r.2.mem ((c.tc : Thread Cert.ReferenceAbfIdeal.nD Cert.ReferenceAbfIdeal.τ).loc Cert.ReferenceAbfIdeal.main_arg3) = m' ((c.tc : Thread Cert.ReferenceAbfIdeal.nD Cert.ReferenceAbfIdeal.τ).loc Cert.ReferenceAbfIdeal.main_arg3))

def preserves_KernelAtaps_KernelAtapsIdeal : Prop :=
  True

def algebraic_KernelAtapsIdeal_ReferenceAtapsIdeal [hKernelAtapsIdeal : Cert.KernelAtapsIdeal.Facts] [hReferenceAtapsIdeal : Cert.ReferenceAtapsIdeal.Facts] : Prop :=
  ∀ (m : (ℓ : Loc Cert.KernelAtapsIdeal.nD Cert.KernelAtapsIdeal.τ Cert.KernelAtapsIdeal.sig) → Buf (Elt Ideal) ℓ) (g : Dev Cert.KernelAtapsIdeal.nD → PrngReg)
    (m' : (ℓ : Loc Cert.ReferenceAtapsIdeal.nD Cert.ReferenceAtapsIdeal.τ Cert.ReferenceAtapsIdeal.sig) → Buf (Elt Ideal) ℓ) (g' : Dev Cert.ReferenceAtapsIdeal.nD → PrngReg), Pre_KernelAtapsIdeal m →
    (∀ c : Dev Cert.KernelAtapsIdeal.nD,
      m' ((c.tc : Thread Cert.ReferenceAtapsIdeal.nD Cert.ReferenceAtapsIdeal.τ).loc Cert.ReferenceAtapsIdeal.main_arg0) = m ((c.tc : Thread Cert.KernelAtapsIdeal.nD Cert.KernelAtapsIdeal.τ).loc Cert.KernelAtapsIdeal.main_arg0)
      ∧ m' ((c.tc : Thread Cert.ReferenceAtapsIdeal.nD Cert.ReferenceAtapsIdeal.τ).loc Cert.ReferenceAtapsIdeal.main_arg1) = m ((c.tc : Thread Cert.KernelAtapsIdeal.nD Cert.KernelAtapsIdeal.τ).loc Cert.KernelAtapsIdeal.main_arg1)
      ∧ m' ((c.tc : Thread Cert.ReferenceAtapsIdeal.nD Cert.ReferenceAtapsIdeal.τ).loc Cert.ReferenceAtapsIdeal.main_arg2) = m ((c.tc : Thread Cert.KernelAtapsIdeal.nD Cert.KernelAtapsIdeal.τ).loc Cert.KernelAtapsIdeal.main_arg2)
      ∧ m' ((c.tc : Thread Cert.ReferenceAtapsIdeal.nD Cert.ReferenceAtapsIdeal.τ).loc Cert.ReferenceAtapsIdeal.main_arg3) = m ((c.tc : Thread Cert.KernelAtapsIdeal.nD Cert.KernelAtapsIdeal.τ).loc Cert.KernelAtapsIdeal.main_arg3)) →
    ∃ (v0 : (c : Dev Cert.KernelAtapsIdeal.nD) → Buf (Elt Ideal) ((c.tc : Thread Cert.KernelAtapsIdeal.nD Cert.KernelAtapsIdeal.τ).loc Cert.KernelAtapsIdeal.main_v0_0)) (v1 : (c : Dev Cert.KernelAtapsIdeal.nD) → Buf (Elt Ideal) ((c.tc : Thread Cert.KernelAtapsIdeal.nD Cert.KernelAtapsIdeal.τ).loc Cert.KernelAtapsIdeal.main_v0_1)) (v2 : (c : Dev Cert.KernelAtapsIdeal.nD) → Buf (Elt Ideal) ((c.tc : Thread Cert.KernelAtapsIdeal.nD Cert.KernelAtapsIdeal.τ).loc Cert.KernelAtapsIdeal.main_v0_2)),
      θ_run (Cert.KernelAtapsIdeal.defs (F := Ideal)) (onTc (τ := Cert.KernelAtapsIdeal.τ) (Cert.KernelAtapsIdeal.main (F := Ideal))) ⟨m, fun _ => 0, g⟩ (fun r => ∀ c : Dev Cert.KernelAtapsIdeal.nD,
          r.2.mem ((c.tc : Thread Cert.KernelAtapsIdeal.nD Cert.KernelAtapsIdeal.τ).loc Cert.KernelAtapsIdeal.main_v0_0) = v0 c
          ∧ r.2.mem ((c.tc : Thread Cert.KernelAtapsIdeal.nD Cert.KernelAtapsIdeal.τ).loc Cert.KernelAtapsIdeal.main_v0_1) = v1 c
          ∧ r.2.mem ((c.tc : Thread Cert.KernelAtapsIdeal.nD Cert.KernelAtapsIdeal.τ).loc Cert.KernelAtapsIdeal.main_v0_2) = v2 c
          ∧ r.2.mem ((c.tc : Thread Cert.KernelAtapsIdeal.nD Cert.KernelAtapsIdeal.τ).loc Cert.KernelAtapsIdeal.main_arg0) = m ((c.tc : Thread Cert.KernelAtapsIdeal.nD Cert.KernelAtapsIdeal.τ).loc Cert.KernelAtapsIdeal.main_arg0)
          ∧ r.2.mem ((c.tc : Thread Cert.KernelAtapsIdeal.nD Cert.KernelAtapsIdeal.τ).loc Cert.KernelAtapsIdeal.main_arg1) = m ((c.tc : Thread Cert.KernelAtapsIdeal.nD Cert.KernelAtapsIdeal.τ).loc Cert.KernelAtapsIdeal.main_arg1)
          ∧ r.2.mem ((c.tc : Thread Cert.KernelAtapsIdeal.nD Cert.KernelAtapsIdeal.τ).loc Cert.KernelAtapsIdeal.main_arg2) = m ((c.tc : Thread Cert.KernelAtapsIdeal.nD Cert.KernelAtapsIdeal.τ).loc Cert.KernelAtapsIdeal.main_arg2)
          ∧ r.2.mem ((c.tc : Thread Cert.KernelAtapsIdeal.nD Cert.KernelAtapsIdeal.τ).loc Cert.KernelAtapsIdeal.main_arg3) = m ((c.tc : Thread Cert.KernelAtapsIdeal.nD Cert.KernelAtapsIdeal.τ).loc Cert.KernelAtapsIdeal.main_arg3))
      ∧ θ_run (Cert.ReferenceAtapsIdeal.defs (F := Ideal)) (onTc (τ := Cert.ReferenceAtapsIdeal.τ) (Cert.ReferenceAtapsIdeal.main (F := Ideal))) ⟨m', fun _ => 0, g'⟩ (fun r => ∀ c : Dev Cert.ReferenceAtapsIdeal.nD,
          r.2.mem ((c.tc : Thread Cert.ReferenceAtapsIdeal.nD Cert.ReferenceAtapsIdeal.τ).loc Cert.ReferenceAtapsIdeal.main_v23) = v0 c
          ∧ r.2.mem ((c.tc : Thread Cert.ReferenceAtapsIdeal.nD Cert.ReferenceAtapsIdeal.τ).loc Cert.ReferenceAtapsIdeal.main_v4) = v1 c
          ∧ r.2.mem ((c.tc : Thread Cert.ReferenceAtapsIdeal.nD Cert.ReferenceAtapsIdeal.τ).loc Cert.ReferenceAtapsIdeal.main_v10) = v2 c
          ∧ r.2.mem ((c.tc : Thread Cert.ReferenceAtapsIdeal.nD Cert.ReferenceAtapsIdeal.τ).loc Cert.ReferenceAtapsIdeal.main_arg0) = m' ((c.tc : Thread Cert.ReferenceAtapsIdeal.nD Cert.ReferenceAtapsIdeal.τ).loc Cert.ReferenceAtapsIdeal.main_arg0)
          ∧ r.2.mem ((c.tc : Thread Cert.ReferenceAtapsIdeal.nD Cert.ReferenceAtapsIdeal.τ).loc Cert.ReferenceAtapsIdeal.main_arg1) = m' ((c.tc : Thread Cert.ReferenceAtapsIdeal.nD Cert.ReferenceAtapsIdeal.τ).loc Cert.ReferenceAtapsIdeal.main_arg1)
          ∧ r.2.mem ((c.tc : Thread Cert.ReferenceAtapsIdeal.nD Cert.ReferenceAtapsIdeal.τ).loc Cert.ReferenceAtapsIdeal.main_arg2) = m' ((c.tc : Thread Cert.ReferenceAtapsIdeal.nD Cert.ReferenceAtapsIdeal.τ).loc Cert.ReferenceAtapsIdeal.main_arg2)
          ∧ r.2.mem ((c.tc : Thread Cert.ReferenceAtapsIdeal.nD Cert.ReferenceAtapsIdeal.τ).loc Cert.ReferenceAtapsIdeal.main_arg3) = m' ((c.tc : Thread Cert.ReferenceAtapsIdeal.nD Cert.ReferenceAtapsIdeal.τ).loc Cert.ReferenceAtapsIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v50) = v0 c
          ∧ r.2.mem ((c.tc : Thread Cert.ReferenceLossIdeal.nD Cert.ReferenceLossIdeal.τ).loc Cert.ReferenceLossIdeal.main_v51) = v1 c
          ∧ r.2.mem ((c.tc : Thread Cert.ReferenceLossIdeal.nD Cert.ReferenceLossIdeal.τ).loc Cert.ReferenceLossIdeal.main_v52) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def Claim : Prop :=
  ∃ (hKernelF : Cert.KernelF.Facts) (hKernelFIdeal : Cert.KernelFIdeal.Facts) (hReferenceFIdeal : Cert.ReferenceFIdeal.Facts) (hKernelQ : Cert.KernelQ.Facts) (hKernelQIdeal : Cert.KernelQIdeal.Facts) (hReferenceQIdeal : Cert.ReferenceQIdeal.Facts) (hKernelKV : Cert.KernelKV.Facts) (hKernelKVIdeal : Cert.KernelKVIdeal.Facts) (hReferenceKVIdeal : Cert.ReferenceKVIdeal.Facts) (hKernelWin : Cert.KernelWin.Facts) (hKernelWinIdeal : Cert.KernelWinIdeal.Facts) (hReferenceWinIdeal : Cert.ReferenceWinIdeal.Facts) (hKernelWout : Cert.KernelWout.Facts) (hKernelWoutIdeal : Cert.KernelWoutIdeal.Facts) (hReferenceWoutIdeal : Cert.ReferenceWoutIdeal.Facts) (hKernelDout : Cert.KernelDout.Facts) (hKernelDoutIdeal : Cert.KernelDoutIdeal.Facts) (hReferenceDoutIdeal : Cert.ReferenceDoutIdeal.Facts) (hKernelDin : Cert.KernelDin.Facts) (hKernelDinIdeal : Cert.KernelDinIdeal.Facts) (hReferenceDinIdeal : Cert.ReferenceDinIdeal.Facts) (hKernelWmain : Cert.KernelWmain.Facts) (hKernelWmainIdeal : Cert.KernelWmainIdeal.Facts) (hReferenceWmainIdeal : Cert.ReferenceWmainIdeal.Facts) (hKernelWf : Cert.KernelWf.Facts) (hKernelWfIdeal : Cert.KernelWfIdeal.Facts) (hReferenceWfIdeal : Cert.ReferenceWfIdeal.Facts) (hKernelWsq : Cert.KernelWsq.Facts) (hKernelWsqIdeal : Cert.KernelWsqIdeal.Facts) (hReferenceWsqIdeal : Cert.ReferenceWsqIdeal.Facts) (hKernelWatt : Cert.KernelWatt.Facts) (hKernelWattIdeal : Cert.KernelWattIdeal.Facts) (hReferenceWattIdeal : Cert.ReferenceWattIdeal.Facts) (hKernelWple : Cert.KernelWple.Facts) (hKernelWpleIdeal : Cert.KernelWpleIdeal.Facts) (hReferenceWpleIdeal : Cert.ReferenceWpleIdeal.Facts) (hKernelDmain : Cert.KernelDmain.Facts) (hKernelDmainIdeal : Cert.KernelDmainIdeal.Facts) (hReferenceDmainIdeal : Cert.ReferenceDmainIdeal.Facts) (hKernelDf : Cert.KernelDf.Facts) (hKernelDfIdeal : Cert.KernelDfIdeal.Facts) (hReferenceDfIdeal : Cert.ReferenceDfIdeal.Facts) (hKernelDsq : Cert.KernelDsq.Facts) (hKernelDsqIdeal : Cert.KernelDsqIdeal.Facts) (hReferenceDsqIdeal : Cert.ReferenceDsqIdeal.Facts) (hKernelDatt : Cert.KernelDatt.Facts) (hKernelDattIdeal : Cert.KernelDattIdeal.Facts) (hReferenceDattIdeal : Cert.ReferenceDattIdeal.Facts) (hKernelZin : Cert.KernelZin.Facts) (hKernelZinIdeal : Cert.KernelZinIdeal.Facts) (hReferenceZinIdeal : Cert.ReferenceZinIdeal.Facts) (hKernelZout : Cert.KernelZout.Facts) (hKernelZoutIdeal : Cert.KernelZoutIdeal.Facts) (hReferenceZoutIdeal : Cert.ReferenceZoutIdeal.Facts) (hKernelZmain : Cert.KernelZmain.Facts) (hKernelZmainIdeal : Cert.KernelZmainIdeal.Facts) (hReferenceZmainIdeal : Cert.ReferenceZmainIdeal.Facts) (hKernelZf : Cert.KernelZf.Facts) (hKernelZfIdeal : Cert.KernelZfIdeal.Facts) (hReferenceZfIdeal : Cert.ReferenceZfIdeal.Facts) (hKernelZatt : Cert.KernelZatt.Facts) (hKernelZattIdeal : Cert.KernelZattIdeal.Facts) (hReferenceZattIdeal : Cert.ReferenceZattIdeal.Facts) (hKernelZmix : Cert.KernelZmix.Facts) (hKernelZmixIdeal : Cert.KernelZmixIdeal.Facts) (hReferenceZmixIdeal : Cert.ReferenceZmixIdeal.Facts) (hKernelZsq : Cert.KernelZsq.Facts) (hKernelZsqIdeal : Cert.KernelZsqIdeal.Facts) (hReferenceZsqIdeal : Cert.ReferenceZsqIdeal.Facts) (hKernelZple : Cert.KernelZple.Facts) (hKernelZpleIdeal : Cert.KernelZpleIdeal.Facts) (hReferenceZpleIdeal : Cert.ReferenceZpleIdeal.Facts) (hKernelAct : Cert.KernelAct.Facts) (hKernelActIdeal : Cert.KernelActIdeal.Facts) (hReferenceActIdeal : Cert.ReferenceActIdeal.Facts) (hKernelDact : Cert.KernelDact.Facts) (hKernelDactIdeal : Cert.KernelDactIdeal.Facts) (hReferenceDactIdeal : Cert.ReferenceDactIdeal.Facts) (hKernelMerge : Cert.KernelMerge.Facts) (hKernelMergeIdeal : Cert.KernelMergeIdeal.Facts) (hReferenceMergeIdeal : Cert.ReferenceMergeIdeal.Facts) (hKernelDmerge : Cert.KernelDmerge.Facts) (hKernelDmergeIdeal : Cert.KernelDmergeIdeal.Facts) (hReferenceDmergeIdeal : Cert.ReferenceDmergeIdeal.Facts) (hKernelMix : Cert.KernelMix.Facts) (hKernelMixIdeal : Cert.KernelMixIdeal.Facts) (hReferenceMixIdeal : Cert.ReferenceMixIdeal.Facts) (hKernelDmix : Cert.KernelDmix.Facts) (hKernelDmixIdeal : Cert.KernelDmixIdeal.Facts) (hReferenceDmixIdeal : Cert.ReferenceDmixIdeal.Facts) (hKernelRms : Cert.KernelRms.Facts) (hKernelRmsIdeal : Cert.KernelRmsIdeal.Facts) (hReferenceRmsIdeal : Cert.ReferenceRmsIdeal.Facts) (hKernelDrms : Cert.KernelDrms.Facts) (hKernelDrmsIdeal : Cert.KernelDrmsIdeal.Facts) (hReferenceDrmsIdeal : Cert.ReferenceDrmsIdeal.Facts) (hKernelDrmsm : Cert.KernelDrmsm.Facts) (hKernelDrmsmIdeal : Cert.KernelDrmsmIdeal.Facts) (hReferenceDrmsmIdeal : Cert.ReferenceDrmsmIdeal.Facts) (hKernelDrmsp : Cert.KernelDrmsp.Facts) (hKernelDrmspIdeal : Cert.KernelDrmspIdeal.Facts) (hReferenceDrmspIdeal : Cert.ReferenceDrmspIdeal.Facts) (hKernelAgain : Cert.KernelAgain.Facts) (hKernelAgainIdeal : Cert.KernelAgainIdeal.Facts) (hReferenceAgainIdeal : Cert.ReferenceAgainIdeal.Facts) (hKernelAfinal : Cert.KernelAfinal.Facts) (hKernelAfinalIdeal : Cert.KernelAfinalIdeal.Facts) (hReferenceAfinalIdeal : Cert.ReferenceAfinalIdeal.Facts) (hKernelAconv : Cert.KernelAconv.Facts) (hKernelAconvIdeal : Cert.KernelAconvIdeal.Facts) (hReferenceAconvIdeal : Cert.ReferenceAconvIdeal.Facts) (hKernelAbf : Cert.KernelAbf.Facts) (hKernelAbfIdeal : Cert.KernelAbfIdeal.Facts) (hReferenceAbfIdeal : Cert.ReferenceAbfIdeal.Facts) (hKernelAtaps : Cert.KernelAtaps.Facts) (hKernelAtapsIdeal : Cert.KernelAtapsIdeal.Facts) (hReferenceAtapsIdeal : Cert.ReferenceAtapsIdeal.Facts) (hKernelLoss : Cert.KernelLoss.Facts) (hKernelLossIdeal : Cert.KernelLossIdeal.Facts) (hReferenceLossIdeal : Cert.ReferenceLossIdeal.Facts) (hPre_finite_fwd : Cert.Pre_finite_fwd.Facts) (hPre_finite : Cert.Pre_finite.Facts) (hPre_finite_act : Cert.Pre_finite_act.Facts),
    quiescent_KernelF (hKernelF := hKernelF)
    ∧ quiescent_KernelFIdeal (hKernelFIdeal := hKernelFIdeal)
    ∧ quiescent_KernelFIdeal_pre_finite_fwd (hKernelFIdeal := hKernelFIdeal) (hPre_finite_fwd := hPre_finite_fwd)
    ∧ quiescent_ReferenceFIdeal (hReferenceFIdeal := hReferenceFIdeal)
    ∧ quiescent_ReferenceFIdeal_pre_finite_fwd (hReferenceFIdeal := hReferenceFIdeal) (hPre_finite_fwd := hPre_finite_fwd)
    ∧ quiescent_KernelQ (hKernelQ := hKernelQ)
    ∧ quiescent_KernelQIdeal (hKernelQIdeal := hKernelQIdeal)
    ∧ quiescent_KernelQIdeal_pre_finite (hKernelQIdeal := hKernelQIdeal) (hPre_finite := hPre_finite)
    ∧ quiescent_ReferenceQIdeal (hReferenceQIdeal := hReferenceQIdeal)
    ∧ quiescent_ReferenceQIdeal_pre_finite (hReferenceQIdeal := hReferenceQIdeal) (hPre_finite := hPre_finite)
    ∧ quiescent_KernelKV (hKernelKV := hKernelKV)
    ∧ quiescent_KernelKVIdeal (hKernelKVIdeal := hKernelKVIdeal)
    ∧ quiescent_KernelKVIdeal_pre_finite (hKernelKVIdeal := hKernelKVIdeal) (hPre_finite := hPre_finite)
    ∧ quiescent_ReferenceKVIdeal (hReferenceKVIdeal := hReferenceKVIdeal)
    ∧ quiescent_ReferenceKVIdeal_pre_finite (hReferenceKVIdeal := hReferenceKVIdeal) (hPre_finite := hPre_finite)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelDout (hKernelDout := hKernelDout)
    ∧ quiescent_KernelDoutIdeal (hKernelDoutIdeal := hKernelDoutIdeal)
    ∧ quiescent_ReferenceDoutIdeal (hReferenceDoutIdeal := hReferenceDoutIdeal)
    ∧ quiescent_KernelDin (hKernelDin := hKernelDin)
    ∧ quiescent_KernelDinIdeal (hKernelDinIdeal := hKernelDinIdeal)
    ∧ quiescent_ReferenceDinIdeal (hReferenceDinIdeal := hReferenceDinIdeal)
    ∧ quiescent_KernelWmain (hKernelWmain := hKernelWmain)
    ∧ quiescent_KernelWmainIdeal (hKernelWmainIdeal := hKernelWmainIdeal)
    ∧ quiescent_ReferenceWmainIdeal (hReferenceWmainIdeal := hReferenceWmainIdeal)
    ∧ quiescent_KernelWf (hKernelWf := hKernelWf)
    ∧ quiescent_KernelWfIdeal (hKernelWfIdeal := hKernelWfIdeal)
    ∧ quiescent_ReferenceWfIdeal (hReferenceWfIdeal := hReferenceWfIdeal)
    ∧ quiescent_KernelWsq (hKernelWsq := hKernelWsq)
    ∧ quiescent_KernelWsqIdeal (hKernelWsqIdeal := hKernelWsqIdeal)
    ∧ quiescent_ReferenceWsqIdeal (hReferenceWsqIdeal := hReferenceWsqIdeal)
    ∧ quiescent_KernelWatt (hKernelWatt := hKernelWatt)
    ∧ quiescent_KernelWattIdeal (hKernelWattIdeal := hKernelWattIdeal)
    ∧ quiescent_ReferenceWattIdeal (hReferenceWattIdeal := hReferenceWattIdeal)
    ∧ quiescent_KernelWple (hKernelWple := hKernelWple)
    ∧ quiescent_KernelWpleIdeal (hKernelWpleIdeal := hKernelWpleIdeal)
    ∧ quiescent_ReferenceWpleIdeal (hReferenceWpleIdeal := hReferenceWpleIdeal)
    ∧ quiescent_KernelDmain (hKernelDmain := hKernelDmain)
    ∧ quiescent_KernelDmainIdeal (hKernelDmainIdeal := hKernelDmainIdeal)
    ∧ quiescent_ReferenceDmainIdeal (hReferenceDmainIdeal := hReferenceDmainIdeal)
    ∧ quiescent_KernelDf (hKernelDf := hKernelDf)
    ∧ quiescent_KernelDfIdeal (hKernelDfIdeal := hKernelDfIdeal)
    ∧ quiescent_ReferenceDfIdeal (hReferenceDfIdeal := hReferenceDfIdeal)
    ∧ quiescent_KernelDsq (hKernelDsq := hKernelDsq)
    ∧ quiescent_KernelDsqIdeal (hKernelDsqIdeal := hKernelDsqIdeal)
    ∧ quiescent_ReferenceDsqIdeal (hReferenceDsqIdeal := hReferenceDsqIdeal)
    ∧ quiescent_KernelDatt (hKernelDatt := hKernelDatt)
    ∧ quiescent_KernelDattIdeal (hKernelDattIdeal := hKernelDattIdeal)
    ∧ quiescent_ReferenceDattIdeal (hReferenceDattIdeal := hReferenceDattIdeal)
    ∧ quiescent_KernelZin (hKernelZin := hKernelZin)
    ∧ quiescent_KernelZinIdeal (hKernelZinIdeal := hKernelZinIdeal)
    ∧ quiescent_ReferenceZinIdeal (hReferenceZinIdeal := hReferenceZinIdeal)
    ∧ quiescent_KernelZout (hKernelZout := hKernelZout)
    ∧ quiescent_KernelZoutIdeal (hKernelZoutIdeal := hKernelZoutIdeal)
    ∧ quiescent_ReferenceZoutIdeal (hReferenceZoutIdeal := hReferenceZoutIdeal)
    ∧ quiescent_KernelZmain (hKernelZmain := hKernelZmain)
    ∧ quiescent_KernelZmainIdeal (hKernelZmainIdeal := hKernelZmainIdeal)
    ∧ quiescent_ReferenceZmainIdeal (hReferenceZmainIdeal := hReferenceZmainIdeal)
    ∧ quiescent_KernelZf (hKernelZf := hKernelZf)
    ∧ quiescent_KernelZfIdeal (hKernelZfIdeal := hKernelZfIdeal)
    ∧ quiescent_ReferenceZfIdeal (hReferenceZfIdeal := hReferenceZfIdeal)
    ∧ quiescent_KernelZatt (hKernelZatt := hKernelZatt)
    ∧ quiescent_KernelZattIdeal (hKernelZattIdeal := hKernelZattIdeal)
    ∧ quiescent_ReferenceZattIdeal (hReferenceZattIdeal := hReferenceZattIdeal)
    ∧ quiescent_KernelZmix (hKernelZmix := hKernelZmix)
    ∧ quiescent_KernelZmixIdeal (hKernelZmixIdeal := hKernelZmixIdeal)
    ∧ quiescent_ReferenceZmixIdeal (hReferenceZmixIdeal := hReferenceZmixIdeal)
    ∧ quiescent_KernelZsq (hKernelZsq := hKernelZsq)
    ∧ quiescent_KernelZsqIdeal (hKernelZsqIdeal := hKernelZsqIdeal)
    ∧ quiescent_ReferenceZsqIdeal (hReferenceZsqIdeal := hReferenceZsqIdeal)
    ∧ quiescent_KernelZple (hKernelZple := hKernelZple)
    ∧ quiescent_KernelZpleIdeal (hKernelZpleIdeal := hKernelZpleIdeal)
    ∧ quiescent_ReferenceZpleIdeal (hReferenceZpleIdeal := hReferenceZpleIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelDact (hKernelDact := hKernelDact)
    ∧ quiescent_KernelDactIdeal (hKernelDactIdeal := hKernelDactIdeal)
    ∧ quiescent_KernelDactIdeal_pre_finite_act (hKernelDactIdeal := hKernelDactIdeal) (hPre_finite_act := hPre_finite_act)
    ∧ quiescent_ReferenceDactIdeal (hReferenceDactIdeal := hReferenceDactIdeal)
    ∧ quiescent_ReferenceDactIdeal_pre_finite_act (hReferenceDactIdeal := hReferenceDactIdeal) (hPre_finite_act := hPre_finite_act)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelDmerge (hKernelDmerge := hKernelDmerge)
    ∧ quiescent_KernelDmergeIdeal (hKernelDmergeIdeal := hKernelDmergeIdeal)
    ∧ quiescent_ReferenceDmergeIdeal (hReferenceDmergeIdeal := hReferenceDmergeIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelDmix (hKernelDmix := hKernelDmix)
    ∧ quiescent_KernelDmixIdeal (hKernelDmixIdeal := hKernelDmixIdeal)
    ∧ quiescent_ReferenceDmixIdeal (hReferenceDmixIdeal := hReferenceDmixIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelDrms (hKernelDrms := hKernelDrms)
    ∧ quiescent_KernelDrmsIdeal (hKernelDrmsIdeal := hKernelDrmsIdeal)
    ∧ quiescent_ReferenceDrmsIdeal (hReferenceDrmsIdeal := hReferenceDrmsIdeal)
    ∧ quiescent_KernelDrmsm (hKernelDrmsm := hKernelDrmsm)
    ∧ quiescent_KernelDrmsmIdeal (hKernelDrmsmIdeal := hKernelDrmsmIdeal)
    ∧ quiescent_ReferenceDrmsmIdeal (hReferenceDrmsmIdeal := hReferenceDrmsmIdeal)
    ∧ quiescent_KernelDrmsp (hKernelDrmsp := hKernelDrmsp)
    ∧ quiescent_KernelDrmspIdeal (hKernelDrmspIdeal := hKernelDrmspIdeal)
    ∧ quiescent_ReferenceDrmspIdeal (hReferenceDrmspIdeal := hReferenceDrmspIdeal)
    ∧ quiescent_KernelAgain (hKernelAgain := hKernelAgain)
    ∧ quiescent_KernelAgainIdeal (hKernelAgainIdeal := hKernelAgainIdeal)
    ∧ quiescent_ReferenceAgainIdeal (hReferenceAgainIdeal := hReferenceAgainIdeal)
    ∧ quiescent_KernelAfinal (hKernelAfinal := hKernelAfinal)
    ∧ quiescent_KernelAfinalIdeal (hKernelAfinalIdeal := hKernelAfinalIdeal)
    ∧ quiescent_ReferenceAfinalIdeal (hReferenceAfinalIdeal := hReferenceAfinalIdeal)
    ∧ quiescent_KernelAconv (hKernelAconv := hKernelAconv)
    ∧ quiescent_KernelAconvIdeal (hKernelAconvIdeal := hKernelAconvIdeal)
    ∧ quiescent_ReferenceAconvIdeal (hReferenceAconvIdeal := hReferenceAconvIdeal)
    ∧ quiescent_KernelAbf (hKernelAbf := hKernelAbf)
    ∧ quiescent_KernelAbfIdeal (hKernelAbfIdeal := hKernelAbfIdeal)
    ∧ quiescent_ReferenceAbfIdeal (hReferenceAbfIdeal := hReferenceAbfIdeal)
    ∧ quiescent_KernelAtaps (hKernelAtaps := hKernelAtaps)
    ∧ quiescent_KernelAtapsIdeal (hKernelAtapsIdeal := hKernelAtapsIdeal)
    ∧ quiescent_ReferenceAtapsIdeal (hReferenceAtapsIdeal := hReferenceAtapsIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ preserves_KernelF_KernelFIdeal
    ∧ algebraic_KernelFIdeal_ReferenceFIdeal_pre_finite_fwd (hKernelFIdeal := hKernelFIdeal) (hReferenceFIdeal := hReferenceFIdeal) (hPre_finite_fwd := hPre_finite_fwd)
    ∧ preserves_KernelQ_KernelQIdeal
    ∧ algebraic_KernelQIdeal_ReferenceQIdeal_pre_finite (hKernelQIdeal := hKernelQIdeal) (hReferenceQIdeal := hReferenceQIdeal) (hPre_finite := hPre_finite)
    ∧ preserves_KernelKV_KernelKVIdeal
    ∧ algebraic_KernelKVIdeal_ReferenceKVIdeal_pre_finite (hKernelKVIdeal := hKernelKVIdeal) (hReferenceKVIdeal := hReferenceKVIdeal) (hPre_finite := hPre_finite)
    ∧ preserves_KernelWin_KernelWinIdeal
    ∧ algebraic_KernelWinIdeal_ReferenceWinIdeal (hKernelWinIdeal := hKernelWinIdeal) (hReferenceWinIdeal := hReferenceWinIdeal)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelDout_KernelDoutIdeal
    ∧ algebraic_KernelDoutIdeal_ReferenceDoutIdeal (hKernelDoutIdeal := hKernelDoutIdeal) (hReferenceDoutIdeal := hReferenceDoutIdeal)
    ∧ preserves_KernelDin_KernelDinIdeal
    ∧ algebraic_KernelDinIdeal_ReferenceDinIdeal (hKernelDinIdeal := hKernelDinIdeal) (hReferenceDinIdeal := hReferenceDinIdeal)
    ∧ preserves_KernelWmain_KernelWmainIdeal
    ∧ algebraic_KernelWmainIdeal_ReferenceWmainIdeal (hKernelWmainIdeal := hKernelWmainIdeal) (hReferenceWmainIdeal := hReferenceWmainIdeal)
    ∧ preserves_KernelWf_KernelWfIdeal
    ∧ algebraic_KernelWfIdeal_ReferenceWfIdeal (hKernelWfIdeal := hKernelWfIdeal) (hReferenceWfIdeal := hReferenceWfIdeal)
    ∧ preserves_KernelWsq_KernelWsqIdeal
    ∧ algebraic_KernelWsqIdeal_ReferenceWsqIdeal (hKernelWsqIdeal := hKernelWsqIdeal) (hReferenceWsqIdeal := hReferenceWsqIdeal)
    ∧ preserves_KernelWatt_KernelWattIdeal
    ∧ algebraic_KernelWattIdeal_ReferenceWattIdeal (hKernelWattIdeal := hKernelWattIdeal) (hReferenceWattIdeal := hReferenceWattIdeal)
    ∧ preserves_KernelWple_KernelWpleIdeal
    ∧ algebraic_KernelWpleIdeal_ReferenceWpleIdeal (hKernelWpleIdeal := hKernelWpleIdeal) (hReferenceWpleIdeal := hReferenceWpleIdeal)
    ∧ preserves_KernelDmain_KernelDmainIdeal
    ∧ algebraic_KernelDmainIdeal_ReferenceDmainIdeal (hKernelDmainIdeal := hKernelDmainIdeal) (hReferenceDmainIdeal := hReferenceDmainIdeal)
    ∧ preserves_KernelDf_KernelDfIdeal
    ∧ algebraic_KernelDfIdeal_ReferenceDfIdeal (hKernelDfIdeal := hKernelDfIdeal) (hReferenceDfIdeal := hReferenceDfIdeal)
    ∧ preserves_KernelDsq_KernelDsqIdeal
    ∧ algebraic_KernelDsqIdeal_ReferenceDsqIdeal (hKernelDsqIdeal := hKernelDsqIdeal) (hReferenceDsqIdeal := hReferenceDsqIdeal)
    ∧ preserves_KernelDatt_KernelDattIdeal
    ∧ algebraic_KernelDattIdeal_ReferenceDattIdeal (hKernelDattIdeal := hKernelDattIdeal) (hReferenceDattIdeal := hReferenceDattIdeal)
    ∧ preserves_KernelZin_KernelZinIdeal
    ∧ algebraic_KernelZinIdeal_ReferenceZinIdeal (hKernelZinIdeal := hKernelZinIdeal) (hReferenceZinIdeal := hReferenceZinIdeal)
    ∧ preserves_KernelZout_KernelZoutIdeal
    ∧ algebraic_KernelZoutIdeal_ReferenceZoutIdeal (hKernelZoutIdeal := hKernelZoutIdeal) (hReferenceZoutIdeal := hReferenceZoutIdeal)
    ∧ preserves_KernelZmain_KernelZmainIdeal
    ∧ algebraic_KernelZmainIdeal_ReferenceZmainIdeal (hKernelZmainIdeal := hKernelZmainIdeal) (hReferenceZmainIdeal := hReferenceZmainIdeal)
    ∧ preserves_KernelZf_KernelZfIdeal
    ∧ algebraic_KernelZfIdeal_ReferenceZfIdeal (hKernelZfIdeal := hKernelZfIdeal) (hReferenceZfIdeal := hReferenceZfIdeal)
    ∧ preserves_KernelZatt_KernelZattIdeal
    ∧ algebraic_KernelZattIdeal_ReferenceZattIdeal (hKernelZattIdeal := hKernelZattIdeal) (hReferenceZattIdeal := hReferenceZattIdeal)
    ∧ preserves_KernelZmix_KernelZmixIdeal
    ∧ algebraic_KernelZmixIdeal_ReferenceZmixIdeal (hKernelZmixIdeal := hKernelZmixIdeal) (hReferenceZmixIdeal := hReferenceZmixIdeal)
    ∧ preserves_KernelZsq_KernelZsqIdeal
    ∧ algebraic_KernelZsqIdeal_ReferenceZsqIdeal (hKernelZsqIdeal := hKernelZsqIdeal) (hReferenceZsqIdeal := hReferenceZsqIdeal)
    ∧ preserves_KernelZple_KernelZpleIdeal
    ∧ algebraic_KernelZpleIdeal_ReferenceZpleIdeal (hKernelZpleIdeal := hKernelZpleIdeal) (hReferenceZpleIdeal := hReferenceZpleIdeal)
    ∧ preserves_KernelAct_KernelActIdeal
    ∧ algebraic_KernelActIdeal_ReferenceActIdeal (hKernelActIdeal := hKernelActIdeal) (hReferenceActIdeal := hReferenceActIdeal)
    ∧ preserves_KernelDact_KernelDactIdeal
    ∧ algebraic_KernelDactIdeal_ReferenceDactIdeal_pre_finite_act (hKernelDactIdeal := hKernelDactIdeal) (hReferenceDactIdeal := hReferenceDactIdeal) (hPre_finite_act := hPre_finite_act)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelDmerge_KernelDmergeIdeal
    ∧ algebraic_KernelDmergeIdeal_ReferenceDmergeIdeal (hKernelDmergeIdeal := hKernelDmergeIdeal) (hReferenceDmergeIdeal := hReferenceDmergeIdeal)
    ∧ preserves_KernelMix_KernelMixIdeal
    ∧ algebraic_KernelMixIdeal_ReferenceMixIdeal (hKernelMixIdeal := hKernelMixIdeal) (hReferenceMixIdeal := hReferenceMixIdeal)
    ∧ preserves_KernelDmix_KernelDmixIdeal
    ∧ algebraic_KernelDmixIdeal_ReferenceDmixIdeal (hKernelDmixIdeal := hKernelDmixIdeal) (hReferenceDmixIdeal := hReferenceDmixIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelDrms_KernelDrmsIdeal
    ∧ algebraic_KernelDrmsIdeal_ReferenceDrmsIdeal (hKernelDrmsIdeal := hKernelDrmsIdeal) (hReferenceDrmsIdeal := hReferenceDrmsIdeal)
    ∧ preserves_KernelDrmsm_KernelDrmsmIdeal
    ∧ algebraic_KernelDrmsmIdeal_ReferenceDrmsmIdeal (hKernelDrmsmIdeal := hKernelDrmsmIdeal) (hReferenceDrmsmIdeal := hReferenceDrmsmIdeal)
    ∧ preserves_KernelDrmsp_KernelDrmspIdeal
    ∧ algebraic_KernelDrmspIdeal_ReferenceDrmspIdeal (hKernelDrmspIdeal := hKernelDrmspIdeal) (hReferenceDrmspIdeal := hReferenceDrmspIdeal)
    ∧ preserves_KernelAgain_KernelAgainIdeal
    ∧ algebraic_KernelAgainIdeal_ReferenceAgainIdeal (hKernelAgainIdeal := hKernelAgainIdeal) (hReferenceAgainIdeal := hReferenceAgainIdeal)
    ∧ preserves_KernelAfinal_KernelAfinalIdeal
    ∧ algebraic_KernelAfinalIdeal_ReferenceAfinalIdeal (hKernelAfinalIdeal := hKernelAfinalIdeal) (hReferenceAfinalIdeal := hReferenceAfinalIdeal)
    ∧ preserves_KernelAconv_KernelAconvIdeal
    ∧ algebraic_KernelAconvIdeal_ReferenceAconvIdeal (hKernelAconvIdeal := hKernelAconvIdeal) (hReferenceAconvIdeal := hReferenceAconvIdeal)
    ∧ preserves_KernelAbf_KernelAbfIdeal
    ∧ algebraic_KernelAbfIdeal_ReferenceAbfIdeal (hKernelAbfIdeal := hKernelAbfIdeal) (hReferenceAbfIdeal := hReferenceAbfIdeal)
    ∧ preserves_KernelAtaps_KernelAtapsIdeal
    ∧ algebraic_KernelAtapsIdeal_ReferenceAtapsIdeal (hKernelAtapsIdeal := hKernelAtapsIdeal) (hReferenceAtapsIdeal := hReferenceAtapsIdeal)
    ∧ preserves_KernelLoss_KernelLossIdeal
    ∧ algebraic_KernelLossIdeal_ReferenceLossIdeal (hKernelLossIdeal := hKernelLossIdeal) (hReferenceLossIdeal := hReferenceLossIdeal)
-- ==== Pre_finite.lean ====
abbrev S2048x4608 : Shape := ⟨2, ![2048, 4608]⟩
abbrev S2048x512 : Shape := ⟨2, ![2048, 512]⟩
abbrev S8x2048 : Shape := ⟨2, ![8, 2048]⟩
abbrev S_ : Shape := ⟨0, ![]⟩

class Facts : Prop where
  bitsLt_bf16_f32 : FTy.bits .bf16 < FTy.bits .f32
  bcast_S_S2048x4608 : S_.BroadcastsInDim S2048x4608 (![] : Fin 0 → Fin S2048x4608.rank)
  reducesTo_S2048x4608_S_d0_1 : S2048x4608.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2048x4608 .bf16) (main_arg1 : FVec F S2048x512 .bf16) (main_arg2 : FVec F S8x2048 .f32) : IVec S_ 1 :=
  let main_v0 : FVec F S2048x4608 .f32 := (extf .f32 · bitsLt_bf16_f32) main_arg0
  let main_v1 : FVec F S2048x4608 .f32 := Host.absf main_v0
  let main_cst : FVec F S_ .f32 := constant S_ .f32 0x7F800000#32
  let main_v2 : FVec F S2048x4608 .f32 := broadcastInDim S2048x4608 ![] bcast_S_S2048x4608 main_cst
  let main_v3 : IVec S2048x4608 1 := cmpf .olt main_v1 main_v2
  let main_c : IVec S_ 1 := constantI S_ 1 1#1
  let main_v4 : IVec S_ 1 := (fun x v => Host.reduce IntOp.andi x v reducesTo_S2048x4608_S_d0_1 h_S_) main_v3 main_c
  let main_v5 : FVec F S2048x512 .f32 := (extf .f32 · bitsLt_bf16_f32) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S8x2048 .f32 := Host.absf main_arg2
  let main_cst_2 : FVec F S_ .f32 := constant S_ .f32 0x7F800000#32
  let main_v12 : FVec F S8x2048 .f32 := broadcastInDim S8x2048 ![] bcast_S_S8x2048 main_cst_2
  let main_v13 : IVec S8x2048 1 := cmpf .olt main_v11 main_v12
  let main_c_3 : IVec S_ 1 := constantI S_ 1 1#1
  let main_v14 : IVec S_ 1 := (fun x v => Host.reduce IntOp.andi x v reducesTo_S8x2048_S_d0_1 h_S_) main_v13 main_c_3
  let main_v15 : IVec S_ 1 := andi main_v10 main_v14
  main_v15
-- ==== Pre_finite_act.lean ====
abbrev S2048x5632 : Shape := ⟨2, ![2048, 5632]⟩
abbrev S2048x2816 : Shape := ⟨2, ![2048, 2816]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x5632 .bf16) (main_arg1 : FVec F S2048x2816 .bf16) : IVec S_ 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S2048x2816 .f32 := (extf .f32 · bitsLt_bf16_f32) main_arg1
  let main_v6 : FVec F S2048x2816 .f32 := Host.absf main_v5
  let main_cst_0 : FVec F S_ .f32 := constant S_ .f32 0x7F800000#32
  let main_v7 : FVec F S2048x2816 .f32 := broadcastInDim S2048x2816 ![] bcast_S_S2048x2816 main_cst_0
  let main_v8 : IVec S2048x2816 1 := cmpf .olt main_v6 main_v7
  let main_c_1 : IVec S_ 1 := constantI S_ 1 1#1
  let main_v9 : IVec S_ 1 := (fun x v => Host.reduce IntOp.andi x v reducesTo_S2048x2816_S_d0_1 h_S_) main_v8 main_c_1
  let main_v10 : IVec S_ 1 := andi main_v4 main_v9
  main_v10
-- ==== Pre_finite_fwd.lean ====
abbrev S2048x4608 : Shape := ⟨2, ![2048, 4608]⟩
abbrev S8x2048 : Shape := ⟨2, ![8, 2048]⟩
abbrev S_ : Shape := ⟨0, ![]⟩

class Facts : Prop where
  bitsLt_bf16_f32 : FTy.bits .bf16 < FTy.bits .f32
  bcast_S_S2048x4608 : S_.BroadcastsInDim S2048x4608 (![] : Fin 0 → Fin S2048x4608.rank)
  reducesTo_S2048x4608_S_d0_1 : S2048x4608.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2048x4608 .bf16) (main_arg1 : FVec F S8x2048 .f32) : IVec S_ 1 :=
  let main_v0 : FVec F S2048x4608 .f32 := (extf .f32 · bitsLt_bf16_f32) main_arg0
  let main_v1 : FVec F S2048x4608 .f32 := Host.absf main_v0
  let main_cst : FVec F S_ .f32 := constant S_ .f32 0x7F800000#32
  let main_v2 : FVec F S2048x4608 .f32 := broadcastInDim S2048x4608 ![] bcast_S_S2048x4608 main_cst
  let main_v3 : IVec S2048x4608 1 := cmpf .olt main_v1 main_v2
  let main_c : IVec S_ 1 := constantI S_ 1 1#1
  let main_v4 : IVec S_ 1 := (fun x v => Host.reduce IntOp.andi x v reducesTo_S2048x4608_S_d0_1 h_S_) main_v3 main_c
  let main_v5 : FVec F S8x2048 .f32 := Host.absf main_arg1
  let main_cst_0 : FVec F S_ .f32 := constant S_ .f32 0x7F800000#32
  let main_v6 : FVec F S8x2048 .f32 := broadcastInDim S8x2048 ![] bcast_S_S8x2048 main_cst_0
  let main_v7 : IVec S8x2048 1 := cmpf .olt main_v5 main_v6
  let main_c_1 : IVec S_ 1 := constantI S_ 1 1#1
  let main_v8 : IVec S_ 1 := (fun x v => Host.reduce IntOp.andi x v reducesTo_S8x2048_S_d0_1 h_S_) main_v7 main_c_1
  let main_v9 : IVec S_ 1 := andi main_v4 main_v8
  main_v9
-- ==== KernelF.lean ====
abbrev S2048x4608 : Shape := ⟨2, ![2048, 4608]⟩
abbrev S8x2048 : Shape := ⟨2, ![8, 2048]⟩
abbrev S8x2048x1 : Shape := ⟨3, ![8, 2048, 1]⟩
abbrev S8x8x1x256 : Shape := ⟨4, ![8, 8, 1, 256]⟩
abbrev S2048x512 : Shape := ⟨2, ![2048, 512]⟩
abbrev S256x128 : Shape := ⟨2, ![256, 128]⟩
abbrev S2048x128 : Shape := ⟨2, ![2048, 128]⟩
abbrev S2x256x1 : Shape := ⟨3, ![2, 256, 1]⟩
abbrev S2x8x1x256 : Shape := ⟨4, ![2, 8, 1, 256]⟩
abbrev S1x128 : Shape := ⟨2, ![1, 128]⟩
abbrev S1x256x1 : Shape := ⟨3, ![1, 256, 1]⟩
abbrev S256x1 : Shape := ⟨2, ![256, 1]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S2048x4608, .bf16⟩
  | .hbm, ⟨1, _⟩ => ⟨S8x2048, .f32⟩
  | .hbm, ⟨2, _⟩ => ⟨S8x2048x1, .f32⟩
  | .hbm, ⟨3, _⟩ => ⟨S8x8x1x256, .f32⟩
  | .hbm, ⟨4, _⟩ => ⟨S2048x512, .f32⟩
  | .hbm, ⟨5, _⟩ => ⟨S2048x512, .bf16⟩
  | .hbm, ⟨6, _⟩ => ⟨S8x2048x1, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x256x1, .f32⟩
  | .local _ .vmem, ⟨7, _⟩ => ⟨S2x256x1, .f32⟩
  | .local _ .vmem, ⟨8, _⟩ => ⟨S2x8x1x256, .f32⟩
  | .local _ .vmem, ⟨9, _⟩ => ⟨S2x8x1x256, .f32⟩
  | .local _ .vmem, ⟨10, _⟩ => ⟨S256x128, .f32⟩
  | .local _ .vmem, ⟨11, _⟩ => ⟨S256x128, .f32⟩
  | .local _ .vmem, ⟨12, _⟩ => ⟨S256x128, .bf16⟩
  | .local _ .vmem, ⟨13, _⟩ => ⟨S256x128, .bf16⟩
  | .local _ .vmem, ⟨14, _⟩ => ⟨S2x256x1, .f32⟩
  | .local _ .vmem, ⟨15, _⟩ => ⟨S2x256x1, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_11 : BitVec 32 := 1#32
  ⟨c0_i32, v25, c1_i32_11⟩
def k0_mult1 (i : grid0.Coords) (k0_t1 : Fin (k0_t1_loop i).trips) : BitVec 32 :=
  let c0_i32 : BitVec 32 := 0#32
  let c1_i32_11 : BitVec 32 := 1#32
  let arg10 : BitVec 32 := Scf.iv c0_i32 c1_i32_11 k0_t1
  let c256_i32_43 : BitVec 32 := 256#32
  let v118 : BitVec 32 := Scalar.muli arg10 c256_i32_43
  v118
def k0_off1 (i : grid0.Coords) (k0_t1 : Fin (k0_t1_loop i).trips) : Fin 2 → Nat :=
  let c0_i32 : BitVec 32 := 0#32
  let c1_i32_11 : BitVec 32 := 1#32
  let arg10 : BitVec 32 := Scf.iv c0_i32 c1_i32_11 k0_t1
  let c256_i32_43 : BitVec 32 := 256#32
  let v118 : BitVec 32 := Scalar.muli arg10 c256_i32_43
  let v119 : BitVec 32 := v118
  let v120 : Index := Scalar.indexCast v119
  let c0_44 : Index := 0#32
  ![v120.toNat, 0]
def k0_off2 (i : grid0.Coords) (k0_t1 : Fin (k0_t1_loop i).trips) : Fin 4 → Nat :=
  let c0_48 : Index := 0#32
  let c0_i32 : BitVec 32 := 0#32
  let c1_i32_11 : BitVec 32 := 1#32
  let arg10 : BitVec 32 := Scf.iv c0_i32 c1_i32_11 k0_t1
  let v127 : Index := Scalar.indexCast arg10
  let c0_49 : Index := 0#32
  let c0_50 : Index := 0#32
  ![0, v127.toNat, 0, 0]
def k0_off3 (i : grid0.Coords) (k0_t1 : Fin (k0_t1_loop i).trips) : Fin 4 → Nat :=
  let c1_56 : Index := 1#32
  let c0_i32 : BitVec 32 := 0#32
  let c1_i32_11 : BitVec 32 := 1#32
  let arg10 : BitVec 32 := Scf.iv c0_i32 c1_i32_11 k0_t1
  let v154 : Index := Scalar.indexCast arg10
  let c0_57 : Index := 0#32
  let c0_58 : Index := 0#32
  ![1, v154.toNat, 0, 0]
@[reducible] def k0_t2_loop (i : grid0.Coords) : Scf.Loop 32 :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let v22 : BitVec 32 := Scalar.addi c0_i32 v21
  let c1_i32_12 : BitVec 32 := 1#32
  ⟨v25, v22, c1_i32_12⟩
def k0_mult2 (i : grid0.Coords) (k0_t2 : Fin (k0_t2_loop i).trips) : BitVec 32 :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_12 : BitVec 32 := 1#32
  let arg10 : BitVec 32 := Scf.iv v25 c1_i32_12 k0_t2
  let c256_i32_43 : BitVec 32 := 256#32
  let v118 : BitVec 32 := Scalar.muli arg10 c256_i32_43
  v118
def k0_off4 (i : grid0.Coords) (k0_t2 : Fin (k0_t2_loop i).trips) : Fin 2 → Nat :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_12 : BitVec 32 := 1#32
  let arg10 : BitVec 32 := Scf.iv v25 c1_i32_12 k0_t2
  let c256_i32_43 : BitVec 32 := 256#32
  let v118 : BitVec 32 := Scalar.muli arg10 c256_i32_43
  let v119 : BitVec 32 := v118
  let v120 : Index := Scalar.indexCast v119
  let c0_44 : Index := 0#32
  ![v120.toNat, 0]
def k0_off5 (i : grid0.Coords) (k0_t2 : Fin (k0_t2_loop i).trips) : Fin 4 → Nat :=
  let c0_48 : Index := 0#32
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_12 : BitVec 32 := 1#32
  let arg10 : BitVec 32 := Scf.iv v25 c1_i32_12 k0_t2
  let v127 : Index := Scalar.indexCast arg10
  let c0_49 : Index := 0#32
  let c0_50 : Index := 0#32
  ![0, v127.toNat, 0, 0]
def k0_off6 (i : grid0.Coords) (k0_t2 : Fin (k0_t2_loop i).trips) : Fin 4 → Nat :=
  let c1_56 : Index := 1#32
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_12 : BitVec 32 := 1#32
  let arg10 : BitVec 32 := Scf.iv v25 c1_i32_12 k0_t2
  let v154 : Index := Scalar.indexCast arg10
  let c0_57 : Index := 0#32
  let c0_58 : Index := 0#32
  ![1, v154.toNat, 0, 0]
def k0_mult3 (i : grid0.Coords) : BitVec 32 :=
  let arg1 : BitVec 32 := BitVec.ofNat 32 (i 1).val
  let c256_i32 : BitVec 32 := 256#32
  let v28 : BitVec 32 := Scalar.muli arg1 c256_i32
  v28
def k0_off7 (i : grid0.Coords) : Fin 2 → Nat :=
  let arg1 : BitVec 32 := BitVec.ofNat 32 (i 1).val
  let c256_i32 : BitVec 32 := 256#32
  let v28 : BitVec 32 := Scalar.muli arg1 c256_i32
  let v29 : BitVec 32 := v28
  let v30 : Index := Scalar.indexCast v29
  let c0_13 : Index := 0#32
  ![v30.toNat, 0]
def k0_off8 (i : grid0.Coords) : Fin 4 → Nat :=
  let c0_17 : Index := 0#32
  let arg1 : BitVec 32 := BitVec.ofNat 32 (i 1).val
  let v37 : Index := Scalar.indexCast arg1
  let c0_18 : Index := 0#32
  let c0_19 : Index := 0#32
  ![0, v37.toNat, 0, 0]
def k0_off9 (i : grid0.Coords) : Fin 4 → Nat :=
  let c1_26 : Index := 1#32
  let arg1 : BitVec 32 := BitVec.ofNat 32 (i 1).val
  let v69 : Index := Scalar.indexCast arg1
  let c0_27 : Index := 0#32
  let c0_28 : Index := 0#32
  ![1, v69.toNat, 0, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceFIdeal.lean ====
abbrev S2048x4608 : Shape := ⟨2, ![2048, 4608]⟩
abbrev S8x2048 : Shape := ⟨2, ![8, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩

abbrev nBuf : Space → Nat
  | .hbm => 63
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S8x2048, .f32⟩
  | .hbm, ⟨2, _⟩ => ⟨S2048x512, .bf16⟩
  | .hbm, ⟨3, _⟩ => ⟨S2048x512, .f32⟩
  | .hbm, ⟨4, _⟩ => ⟨S2048x8x64, .f32⟩
  | .hbm, ⟨5, _⟩ => ⟨S2048x512, .bf16⟩
  | .hbm, ⟨6, _⟩ => ⟨S2048x512, .f32⟩
  | .hbm, ⟨7, _⟩ => ⟨S2048x8x64, .f32⟩
  | .hbm, ⟨8, _⟩ => ⟨S2048x512, .bf16⟩
  | .hbm, ⟨9, _⟩ => ⟨S2048x512, .f32⟩
  | .hbm, ⟨10, _⟩ => ⟨S2048x8x64, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x1, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S1x2048x2048, .i1⟩
  | .hbm, ⟨29, _⟩ => ⟨S_, .f32⟩
  | .hbm, ⟨30, _⟩ => ⟨S_, .f32⟩
  | .hbm, ⟨31, _⟩ => ⟨S8x2048x2048, .i1⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S8x2048, .f32⟩
  | .hbm, ⟨50, _⟩ => ⟨S8x2048x1, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x64x2048, .f32⟩
  | .hbm, ⟨60, _⟩ => ⟨S2048x8x64, .f32⟩
  | .hbm, ⟨61, _⟩ => ⟨S2048x512, .f32⟩
  | .hbm, ⟨62, _⟩ => ⟨S2048x512, .bf16⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== KernelQ.lean ====
abbrev S2048x4608 : Shape := ⟨2, ![2048, 4608]⟩
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x8x1x256 : Shape := ⟨4, ![8, 8, 1, 256]⟩
abbrev S4x2048x128 : Shape := ⟨3, ![4, 2048, 128]⟩
abbrev S256x128 : Shape := ⟨2, ![256, 128]⟩
abbrev S2048x128 : Shape := ⟨2, ![2048, 128]⟩
abbrev S2x256x1 : Shape := ⟨3, ![2, 256, 1]⟩
abbrev S2x8x1x256 : Shape := ⟨4, ![2, 8, 1, 256]⟩
abbrev S1x256x128 : Shape := ⟨3, ![1, 256, 128]⟩
abbrev S1x128 : Shape := ⟨2, ![1, 128]⟩
abbrev S256 : Shape := ⟨1, ![256]⟩
abbrev S256x1 : Shape := ⟨2, ![256, 1]⟩
abbrev S1x256x1 : Shape := ⟨3, ![1, 256, 1]⟩
abbrev S256x256 : Shape := ⟨2, ![256, 256]⟩
abbrev S1x1x1x256 : Shape := ⟨4, ![1, 1, 1, 256]⟩
abbrev S1x256 : Shape := ⟨2, ![1, 256]⟩

abbrev nBuf : Space → Nat
  | .hbm => 68
  | .vmem => 22
  | .smem => 0
  | _ => 0

abbrev bufTy : (tb : Table) → Fin (tcTables nBuf tb) → BufTy
  | .hbm, ⟨0, _⟩ => ⟨S2048x4608, .bf16⟩
  | .hbm, ⟨1, _⟩ => ⟨S2048x512, .bf16⟩
  | .hbm, ⟨2, _⟩ => ⟨S8x2048, .f32⟩
  | .hbm, ⟨3, _⟩ => ⟨S2048x512, .bf16⟩
  | .hbm, ⟨4, _⟩ => ⟨S2048x512, .f32⟩
  | .hbm, ⟨5, _⟩ => ⟨S2048x8x64, .f32⟩
  | .hbm, ⟨6, _⟩ => ⟨S2048x512, .bf16⟩
  | .hbm, ⟨7, _⟩ => ⟨S2048x512, .f32⟩
  | .hbm, ⟨8, _⟩ => ⟨S2048x8x64, .f32⟩
  | .hbm, ⟨9, _⟩ => ⟨S2048x512, .bf16⟩
  | .hbm, ⟨10, _⟩ => ⟨S2048x512, .f32⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x1, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x64x2048, .f32⟩
  | .hbm, ⟨61, _⟩ => ⟨S2048x8x64, .f32⟩
  | .hbm, ⟨62, _⟩ => ⟨S2048x512, .f32⟩
  | .hbm, ⟨63, _⟩ => ⟨S8x2048x1, .f32⟩
  | .hbm, ⟨64, _⟩ => ⟨S8x8x1x256, .f32⟩
  | .hbm, ⟨65, _⟩ => ⟨S2048x512, .bf16⟩
  | .hbm, ⟨66, _⟩ => ⟨S8x2048x1, .f32⟩
  | .hbm, ⟨67, _⟩ => ⟨S4x2048x128, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S2x256x1, .f32⟩
  | .local _ .vmem, ⟨11, _⟩ => ⟨S2x256x1, .f32⟩
  | .local _ .vmem, ⟨12, _⟩ => ⟨S2x256x1, .f32⟩
  | .local _ .vmem, ⟨13, _⟩ => ⟨S2x256x1, .f32⟩
  | .local _ .vmem, ⟨14, _⟩ => ⟨S2x8x1x256, .f32⟩
  | .local _ .vmem, ⟨15, _⟩ => ⟨S2x8x1x256, .f32⟩
  | .local _ .vmem, ⟨16, _⟩ => ⟨S256x128, .bf16⟩
  | .local _ .vmem, ⟨17, _⟩ => ⟨S256x128, .bf16⟩
  | .local _ .vmem, ⟨18, _⟩ => ⟨S2x256x1, .f32⟩
  | .local _ .vmem, ⟨19, _⟩ => ⟨S2x256x1, .f32⟩
  | .local _ .vmem, ⟨20, _⟩ => ⟨S1x256x128, .f32⟩
  | .local _ .vmem, ⟨21, _⟩ => ⟨S1x256x128, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_26 : BitVec 32 := 1#32
  ⟨c0_i32, v53, c1_i32_26⟩
def k0_mult1 (i : grid0.Coords) (k0_t1 : Fin (k0_t1_loop i).trips) : BitVec 32 :=
  let c0_i32 : BitVec 32 := 0#32
  let c1_i32_26 : BitVec 32 := 1#32
  let arg13 : BitVec 32 := Scf.iv c0_i32 c1_i32_26 k0_t1
  let c256_i32_63 : BitVec 32 := 256#32
  let v154 : BitVec 32 := Scalar.muli arg13 c256_i32_63
  v154
def k0_off1 (i : grid0.Coords) (k0_t1 : Fin (k0_t1_loop i).trips) : Fin 2 → Nat :=
  let c0_i32 : BitVec 32 := 0#32
  let c1_i32_26 : BitVec 32 := 1#32
  let arg13 : BitVec 32 := Scf.iv c0_i32 c1_i32_26 k0_t1
  let c256_i32_63 : BitVec 32 := 256#32
  let v154 : BitVec 32 := Scalar.muli arg13 c256_i32_63
  let v155 : BitVec 32 := v154
  let v156 : Index := Scalar.indexCast v155
  let c0_64 : Index := 0#32
  ![v156.toNat, 0]
def k0_off2 (i : grid0.Coords) (k0_t1 : Fin (k0_t1_loop i).trips) : Fin 4 → Nat :=
  let c0_68 : Index := 0#32
  let c0_i32 : BitVec 32 := 0#32
  let c1_i32_26 : BitVec 32 := 1#32
  let arg13 : BitVec 32 := Scf.iv c0_i32 c1_i32_26 k0_t1
  let v163 : Index := Scalar.indexCast arg13
  let c0_69 : Index := 0#32
  let c0_70 : Index := 0#32
  ![0, v163.toNat, 0, 0]
def k0_off3 (i : grid0.Coords) (k0_t1 : Fin (k0_t1_loop i).trips) : Fin 4 → Nat :=
  let c1_76 : Index := 1#32
  let c0_i32 : BitVec 32 := 0#32
  let c1_i32_26 : BitVec 32 := 1#32
  let arg13 : BitVec 32 := Scf.iv c0_i32 c1_i32_26 k0_t1
  let v186 : Index := Scalar.indexCast arg13
  let c0_77 : Index := 0#32
  let c0_78 : Index := 0#32
  ![1, v186.toNat, 0, 0]
@[reducible] def k0_t2_loop (i : grid0.Coords) : Scf.Loop 32 :=
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let v50 : BitVec 32 := Scalar.addi c0_i32 v49
  let c1_i32_27 : BitVec 32 := 1#32
  ⟨v53, v50, c1_i32_27⟩
def k0_mult2 (i : grid0.Coords) (k0_t2 : Fin (k0_t2_loop i).trips) : BitVec 32 :=
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_27 : BitVec 32 := 1#32
  let arg13 : BitVec 32 := Scf.iv v53 c1_i32_27 k0_t2
  let c256_i32_63 : BitVec 32 := 256#32
  let v154 : BitVec 32 := Scalar.muli arg13 c256_i32_63
  v154
def k0_off4 (i : grid0.Coords) (k0_t2 : Fin (k0_t2_loop i).trips) : Fin 2 → Nat :=
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_27 : BitVec 32 := 1#32
  let arg13 : BitVec 32 := Scf.iv v53 c1_i32_27 k0_t2
  let c256_i32_63 : BitVec 32 := 256#32
  let v154 : BitVec 32 := Scalar.muli arg13 c256_i32_63
  let v155 : BitVec 32 := v154
  let v156 : Index := Scalar.indexCast v155
  let c0_64 : Index := 0#32
  ![v156.toNat, 0]
def k0_off5 (i : grid0.Coords) (k0_t2 : Fin (k0_t2_loop i).trips) : Fin 4 → Nat :=
  let c0_68 : Index := 0#32
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_27 : BitVec 32 := 1#32
  let arg13 : BitVec 32 := Scf.iv v53 c1_i32_27 k0_t2
  let v163 : Index := Scalar.indexCast arg13
  let c0_69 : Index := 0#32
  let c0_70 : Index := 0#32
  ![0, v163.toNat, 0, 0]
def k0_off6 (i : grid0.Coords) (k0_t2 : Fin (k0_t2_loop i).trips) : Fin 4 → Nat :=
  let c1_76 : Index := 1#32
  let c0_i32 : BitVec 32 := 0#32
  let arg1 : BitVec 32 := BitVec.ofNat 32 (i 1).val
  let v49 : BitVec 32 := Scalar.subi arg1 c0_i32
  let c1_i32 : BitVec 32 := 1#32
  let v51 : BitVec 32 := Scalar.divsi v49 c1_i32
  let v52 : BitVec 32 := Scalar.muli v51 c1_i32
  let v53 : BitVec 32 := Scalar.addi c0_i32 v52
  let c1_i32_27 : BitVec 32 := 1#32
  let arg13 : BitVec 32 := Scf.iv v53 c1_i32_27 k0_t2
  let v186 : Index := Scalar.indexCast arg13
  let c0_77 : Index := 0#32
  let c0_78 : Index := 0#32
  ![1, v186.toNat, 0, 0]
def k0_mult3 (i : grid0.Coords) : BitVec 32 :=
  let arg1 : BitVec 32 := BitVec.ofNat 32 (i 1).val
  let c256_i32 : BitVec 32 := 256#32
  let v56 : BitVec 32 := Scalar.muli arg1 c256_i32
  v56
def k0_off7 (i : grid0.Coords) : Fin 2 → Nat :=
  let arg1 : BitVec 32 := BitVec.ofNat 32 (i 1).val
  let c256_i32 : BitVec 32 := 256#32
  let v56 : BitVec 32 := Scalar.muli arg1 c256_i32
  let v57 : BitVec 32 := v56
  let v58 : Index := Scalar.indexCast v57
  let c0_28 : Index := 0#32
  ![v58.toNat, 0]
def k0_off8 (i : grid0.Coords) : Fin 4 → Nat :=
  let c0_32 : Index := 0#32
  let arg1 : BitVec 32 := BitVec.ofNat 32 (i 1).val
  let v65 : Index := Scalar.indexCast arg1
  let c0_33 : Index := 0#32
  let c0_34 : Index := 0#32
  ![0, v65.toNat, 0, 0]
def k0_off9 (i : grid0.Coords) : Fin 4 → Nat :=
  let c1_41 : Index := 1#32
  let arg1 : BitVec 32 := BitVec.ofNat 32 (i 1).val
  let v93 : Index := Scalar.indexCast arg1
  let c0_42 : Index := 0#32
  let c0_43 : Index := 0#32
  ![1, v93.toNat, 0, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceQIdeal.lean ====
abbrev S2048x4608 : Shape := ⟨2, ![2048, 4608]⟩
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x2048x64 : Shape := ⟨3, ![8, 2048, 64]⟩
abbrev S2048x8 : Shape := ⟨2, ![2048, 8]⟩
abbrev S8 : Shape := ⟨1, ![8]⟩
abbrev S4x2 : Shape := ⟨2, ![4, 2]⟩
abbrev S4x2x1x1 : Shape := ⟨4, ![4, 2, 1, 1]⟩
abbrev S128 : Shape := ⟨1, ![128]⟩
abbrev S1x1x1x128 : Shape := ⟨4, ![1, 1, 1, 128]⟩
abbrev S4x2x1x128 : Shape := ⟨4, ![4, 2, 1, 128]⟩
abbrev S4x2x2048 : Shape := ⟨3, ![4, 2, 2048]⟩
abbrev S4x2x2048x1 : Shape := ⟨4, ![4, 2, 2048, 1]⟩
abbrev S4x2x2048x128 : Shape := ⟨4, ![4, 2, 2048, 128]⟩
abbrev S4x2048x128 : Shape := ⟨3, ![4, 2048, 128]⟩

abbrev nBuf : Space → Nat
  | .hbm => 146
  | .vmem => 0
  | .smem => 0
  | _ => 0

abbrev hbmTy0_0 (i : Nat) : BufTy := match i % 128 with
  | 0 => ⟨S2048x4608, .bf16⟩
  | 1 => ⟨S2048x512, .bf16⟩
  | 2 => ⟨S8x2048, .f32⟩
  | 3 => ⟨S2048x512, .bf16⟩
  | 4 => ⟨S2048x512, .f32⟩
  | 5 => ⟨S2048x8x64, .f32⟩
  | 6 => ⟨S2048x512, .bf16⟩
  | 7 => ⟨S2048x512, .f32⟩
  | 8 => ⟨S2048x8x64, .f32⟩
  | 9 => ⟨S2048x512, .bf16⟩
  | 10 => ⟨S2048x512, .f32⟩
  | 11 => ⟨S2048x8x64, .f32⟩
  | 12 => ⟨S8x2048x2048, .f32⟩
  | 13 => ⟨S_, .f32⟩
  | 14 => ⟨S8x2048x2048, .f32⟩
  | 15 => ⟨S8x2048x2048, .f32⟩
  | 16 => ⟨S8x2048x1, .f32⟩
  | 17 => ⟨S8x1x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S2048, .i32⟩
  | 23 => ⟨S2048x1, .i32⟩
  | 24 => ⟨S2048, .i32⟩
  | 25 => ⟨S1x2048, .i32⟩
  | 26 => ⟨S2048x2048, .i32⟩
  | 27 => ⟨S2048x2048, .i32⟩
  | 28 => ⟨S2048x2048, .i1⟩
  | 29 => ⟨S1x2048x2048, .i1⟩
  | 30 => ⟨S_, .f32⟩
  | 31 => ⟨S_, .f32⟩
  | 32 => ⟨S8x2048x2048, .i1⟩
  | 33 => ⟨S8x2048x2048, .f32⟩
  | 34 => ⟨S8x2048x2048, .f32⟩
  | 35 => ⟨S_, .f32⟩
  | 36 => ⟨S8x2048x2048, .f32⟩
  | 37 => ⟨S_, .f32⟩
  | 38 => ⟨S8x2048, .f32⟩
  | 39 => ⟨S8x2048x1, .f32⟩
  | 40 => ⟨S8x2048x2048, .f32⟩
  | 41 => ⟨S8x2048x2048, .i1⟩
  | 42 => ⟨S8x2048x2048, .f32⟩
  | 43 => ⟨S_, .f32⟩
  | 44 => ⟨S8x2048, .f32⟩
  | 45 => ⟨S_, .f32⟩
  | 46 => ⟨S8x2048, .f32⟩
  | 47 => ⟨S8x2048, .f32⟩
  | 48 => ⟨S_, .f32⟩
  | 49 => ⟨S8x2048, .f32⟩
  | 50 => ⟨S8x2048, .i1⟩
  | 51 => ⟨S_, .f32⟩
  | 52 => ⟨S8x2048, .f32⟩
  | 53 => ⟨S8x2048, .i1⟩
  | 54 => ⟨S_, .f32⟩
  | 55 => ⟨S8x2048, .f32⟩
  | 56 => ⟨S_, .f32⟩
  | 57 => ⟨S8x2048, .f32⟩
  | 58 => ⟨S_, .f32⟩
  | 59 => ⟨S8x2048, .f32⟩
  | 60 => ⟨S8x2048, .f32⟩
  | 61 => ⟨S8x2048, .f32⟩
  | 62 => ⟨S8x2048x1, .f32⟩
  | 63 => ⟨S8x2048x2048, .f32⟩
  | 64 => ⟨S8x2048x2048, .f32⟩
  | 65 => ⟨S8x2048x2048, .f32⟩
  | 66 => ⟨S_, .f32⟩
  | 67 => ⟨S8x2048, .f32⟩
  | 68 => ⟨S8x2048x1, .f32⟩
  | 69 => ⟨S8x2048x2048, .f32⟩
  | 70 => ⟨S8x2048x2048, .f32⟩
  | 71 => ⟨S8x2048x1, .f32⟩
  | 72 => ⟨S_, .f32⟩
  | 73 => ⟨S8x2048x1, .f32⟩
  | 74 => ⟨S8x2048x1, .f32⟩
  | 75 => ⟨S8x64x2048, .f32⟩
  | 76 => ⟨S2048x8x64, .f32⟩
  | 77 => ⟨S2048x512, .f32⟩
  | 78 => ⟨S2048x512, .f32⟩
  | 79 => ⟨S2048x8x64, .f32⟩
  | 80 => ⟨S8x64x2048, .f32⟩
  | 81 => ⟨S8x2048x2048, .f32⟩
  | 82 => ⟨S8x64x2048, .f32⟩
  | 83 => ⟨S2048x8x64, .f32⟩
  | 84 => ⟨S8x2048x2048, .f32⟩
  | 85 => ⟨S8x2048x2048, .f32⟩
  | 86 => ⟨S8x2048x2048, .f32⟩
  | 87 => ⟨S_, .f32⟩
  | 88 => ⟨S8x2048, .f32⟩
  | 89 => ⟨S8x2048x1, .f32⟩
  | 90 => ⟨S8x2048x1, .f32⟩
  | 91 => ⟨S8x2048x2048, .f32⟩
  | 92 => ⟨S8x2048x2048, .f32⟩
  | 93 => ⟨S_, .f32⟩
  | 94 => ⟨S8x2048, .f32⟩
  | 95 => ⟨S8x2048x2048, .f32⟩
  | 96 => ⟨S8x2048x2048, .f32⟩
  | 97 => ⟨S8x2048x2048, .f32⟩
  | 98 => ⟨S_, .f32⟩
  | 99 => ⟨S8x2048x2048, .f32⟩
  | 100 => ⟨S8x2048x2048, .f32⟩
  | 101 => ⟨S_, .f32⟩
  | 102 => ⟨S8x2048, .f32⟩
  | 103 => ⟨S8x2048x1, .f32⟩
  | 104 => ⟨S8x2048x2048, .f32⟩
  | 105 => ⟨S_, .f32⟩
  | 106 => ⟨S8x2048, .f32⟩
  | 107 => ⟨S8x1x2048, .f32⟩
  | 108 => ⟨S_, .f32⟩
  | 109 => ⟨S8x2048, .f32⟩
  | 110 => ⟨S_, .f32⟩
  | 111 => ⟨S8x2048, .f32⟩
  | 112 => ⟨S_, .f32⟩
  | 113 => ⟨S8x2048x2048, .f32⟩
  | 114 => ⟨S8x2048x2048, .f32⟩
  | 115 => ⟨S8x2048x64, .f32⟩
  | 116 => ⟨S2048x8x64, .f32⟩
  | 117 => ⟨S8x2048x64, .f32⟩
  | 118 => ⟨S2048x8x64, .f32⟩
  | 119 => ⟨S2048x512, .f32⟩
  | 120 => ⟨S2048x512, .bf16⟩
  | 121 => ⟨S2048x512, .f32⟩
  | 122 => ⟨S2048x512, .f32⟩
  | 123 => ⟨S2048x8x64, .f32⟩
  | 124 => ⟨S_, .f32⟩
  | 125 => ⟨S2048x8, .f32⟩
  | 126 => ⟨S8x2048, .f32⟩
  | 127 => ⟨S8x2048x1, .f32⟩
  | _ => ⟨S2048x4608, .bf16⟩

abbrev hbmTy0_1 (i : Nat) : BufTy := match i % 128 with
  | 0 => ⟨S8, .i32⟩
  | 1 => ⟨S4x2, .i32⟩
  | 2 => ⟨S4x2x1x1, .i32⟩
  | 3 => ⟨S128, .i32⟩
  | 4 => ⟨S1x1x1x128, .i32⟩
  | 5 => ⟨S4x2x1x128, .i32⟩
  | 6 => ⟨S4x2x1x128, .i32⟩
  | 7 => ⟨S4x2x1x128, .i1⟩
  | 8 => ⟨S4x2x2048, .f32⟩
  | 9 => ⟨S4x2x2048x1, .f32⟩
  | 10 => ⟨S_, .f32⟩
  | 11 => ⟨S_, .f32⟩
  | 12 => ⟨S4x2x2048x128, .i1⟩
  | 13 => ⟨S4x2x2048x128, .f32⟩
  | 14 => ⟨S4x2x2048x128, .f32⟩
  | 15 => ⟨S4x2x2048x128, .f32⟩
  | 16 => ⟨S_, .f32⟩
  | 17 => ⟨S4x2048x128, .f32⟩
  | _ => ⟨S2048x4608, .bf16⟩

abbrev hbmTy (i : Nat) : BufTy := match i / 128 with
  | 0 => hbmTy0_0 i
  | 1 => hbmTy0_1 i
  | _ => ⟨S2048x4608, .bf16⟩

abbrev bufTy : (tb : Table) → Fin (tcTables nBuf tb) → BufTy
  | .hbm, ⟨i, _⟩ => hbmTy i
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_19 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_v108 : Ref sig .tc := ⟨.hbm, 143, rfl⟩
abbrev main_cst_20 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== KernelKV.lean ====
abbrev S2048x4608 : Shape := ⟨2, ![2048, 4608]⟩
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S2048x8 : Shape := ⟨2, ![2048, 8]⟩
abbrev S8x8x1x256 : Shape := ⟨4, ![8, 8, 1, 256]⟩
abbrev S4x2048x128 : Shape := ⟨3, ![4, 2048, 128]⟩
abbrev S2048x128 : Shape := ⟨2, ![2048, 128]⟩
abbrev S256x128 : Shape := ⟨2, ![256, 128]⟩
abbrev S2x8x1x256 : Shape := ⟨4, ![2, 8, 1, 256]⟩
abbrev S2x256x1 : Shape := ⟨3, ![2, 256, 1]⟩
abbrev S1x256x128 : Shape := ⟨3, ![1, 256, 128]⟩
abbrev S1x128 : Shape := ⟨2, ![1, 128]⟩
abbrev S1x256x1 : Shape := ⟨3, ![1, 256, 1]⟩
abbrev S256x1 : Shape := ⟨2, ![256, 1]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩

abbrev nBuf : Space → Nat
  | .hbm => 77
  | .vmem => 22
  | .smem => 0
  | _ => 0

abbrev bufTy : (tb : Table) → Fin (tcTables nBuf tb) → BufTy
  | .hbm, ⟨0, _⟩ => ⟨S2048x4608, .bf16⟩
  | .hbm, ⟨1, _⟩ => ⟨S2048x512, .bf16⟩
  | .hbm, ⟨2, _⟩ => ⟨S8x2048, .f32⟩
  | .hbm, ⟨3, _⟩ => ⟨S2048x512, .bf16⟩
  | .hbm, ⟨4, _⟩ => ⟨S2048x512, .f32⟩
  | .hbm, ⟨5, _⟩ => ⟨S2048x8x64, .f32⟩
  | .hbm, ⟨6, _⟩ => ⟨S2048x512, .bf16⟩
  | .hbm, ⟨7, _⟩ => ⟨S2048x512, .f32⟩
  | .hbm, ⟨8, _⟩ => ⟨S2048x8x64, .f32⟩
  | .hbm, ⟨9, _⟩ => ⟨S2048x512, .bf16⟩
  | .hbm, ⟨10, _⟩ => ⟨S2048x512, .f32⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x1, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x64x2048, .f32⟩
  | .hbm, ⟨61, _⟩ => ⟨S2048x8x64, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S2048x8x64, .f32⟩
  | .hbm, ⟨66, _⟩ => ⟨S_, .f32⟩
  | .hbm, ⟨67, _⟩ => ⟨S2048x8, .f32⟩
  | .hbm, ⟨68, _⟩ => ⟨S8x2048, .f32⟩
  | .hbm, ⟨69, _⟩ => ⟨S8x2048x1, .f32⟩
  | .hbm, ⟨70, _⟩ => ⟨S8x2048x1, .f32⟩
  | .hbm, ⟨71, _⟩ => ⟨S8x8x1x256, .f32⟩
  | .hbm, ⟨72, _⟩ => ⟨S8x8x1x256, .f32⟩
  | .hbm, ⟨73, _⟩ => ⟨S8x8x1x256, .f32⟩
  | .hbm, ⟨74, _⟩ => ⟨S2048x512, .bf16⟩
  | .hbm, ⟨75, _⟩ => ⟨S2048x512, .bf16⟩
  | .hbm, ⟨76, _⟩ => ⟨S4x2048x128, .f32⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2x8x1x256, .f32⟩
  | .local _ .vmem, ⟨9, _⟩ => ⟨S2x8x1x256, .f32⟩
  | .local _ .vmem, ⟨10, _⟩ => ⟨S2x8x1x256, .f32⟩
  | .local _ .vmem, ⟨11, _⟩ => ⟨S2x8x1x256, .f32⟩
  | .local _ .vmem, ⟨12, _⟩ => ⟨S2x256x1, .f32⟩
  | .local _ .vmem, ⟨13, _⟩ => ⟨S2x256x1, .f32⟩
  | .local _ .vmem, ⟨14, _⟩ => ⟨S2x8x1x256, .f32⟩
  | .local _ .vmem, ⟨15, _⟩ => ⟨S2x8x1x256, .f32⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S1x256x128, .f32⟩
  | .local _ .vmem, ⟨21, _⟩ => ⟨S1x256x128, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60_0 : Ref sig .tc := ⟨.hbm, 74, rfl⟩
abbrev main_v60_1 : Ref sig .tc := ⟨.hbm, 75, rfl⟩
abbrev main_v60_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v30 : BitVec 32 := Scalar.muli arg1 c256_i32
  v30
def k0_off1 (i : grid0.Coords) : Fin 2 → Nat :=
  let arg1 : BitVec 32 := BitVec.ofNat 32 (i 1).val
  let c256_i32 : BitVec 32 := 256#32
  let v30 : BitVec 32 := Scalar.muli arg1 c256_i32
  let v31 : BitVec 32 := v30
  let v32 : Index := Scalar.indexCast v31
  let c0_15 : Index := 0#32
  ![v32.toNat, 0]
def k0_off2 (i : grid0.Coords) : Fin 4 → Nat :=
  let c0_19 : Index := 0#32
  let arg1 : BitVec 32 := BitVec.ofNat 32 (i 1).val
  let v39 : Index := Scalar.indexCast arg1
  let c0_20 : Index := 0#32
  let c0_21 : Index := 0#32
  ![0, v39.toNat, 0, 0]
def k0_off3 (i : grid0.Coords) : Fin 4 → Nat :=
  let c1_35 : Index := 1#32
  let arg1 : BitVec 32 := BitVec.ofNat 32 (i 1).val
  let v76 : Index := Scalar.indexCast arg1
  let c0_36 : Index := 0#32
  let c0_37 : Index := 0#32
  ![1, v76.toNat, 0, 0]
@[reducible] def k0_t1_loop (i : grid0.Coords) : Scf.Loop 32 :=
  let arg1 : BitVec 32 := BitVec.ofNat 32 (i 1).val
  let c1_i32 : BitVec 32 := 1#32
  let v110 : BitVec 32 := Scalar.addi arg1 c1_i32
  let c8_i32 : BitVec 32 := 8#32
  let v111 : BitVec 32 := Scalar.subi c8_i32 v110
  let c1_i32_49 : BitVec 32 := 1#32
  let v113 : BitVec 32 := Scalar.divsi v111 c1_i32_49
  let v114 : BitVec 32 := Scalar.muli v113 c1_i32_49
  let v115 : BitVec 32 := Scalar.addi v110 v114
  let c1_i32_50 : BitVec 32 := 1#32
  ⟨v110, v115, c1_i32_50⟩
def k0_mult2 (i : grid0.Coords) (k0_t1 : Fin (k0_t1_loop i).trips) : BitVec 32 :=
  let arg1 : BitVec 32 := BitVec.ofNat 32 (i 1).val
  let c1_i32 : BitVec 32 := 1#32
  let v110 : BitVec 32 := Scalar.addi arg1 c1_i32
  let c1_i32_50 : BitVec 32 := 1#32
  let arg13 : BitVec 32 := Scf.iv v110 c1_i32_50 k0_t1
  let c256_i32_63 : BitVec 32 := 256#32
  let v153 : BitVec 32 := Scalar.muli arg13 c256_i32_63
  v153
def k0_off4 (i : grid0.Coords) (k0_t1 : Fin (k0_t1_loop i).trips) : Fin 2 → Nat :=
  let arg1 : BitVec 32 := BitVec.ofNat 32 (i 1).val
  let c1_i32 : BitVec 32 := 1#32
  let v110 : BitVec 32 := Scalar.addi arg1 c1_i32
  let c1_i32_50 : BitVec 32 := 1#32
  let arg13 : BitVec 32 := Scf.iv v110 c1_i32_50 k0_t1
  let c256_i32_63 : BitVec 32 := 256#32
  let v153 : BitVec 32 := Scalar.muli arg13 c256_i32_63
  let v154 : BitVec 32 := v153
  let v155 : Index := Scalar.indexCast v154
  let c0_64 : Index := 0#32
  ![v155.toNat, 0]
def k0_off5 (i : grid0.Coords) (k0_t1 : Fin (k0_t1_loop i).trips) : Fin 4 → Nat :=
  let c0_68 : Index := 0#32
  let arg1 : BitVec 32 := BitVec.ofNat 32 (i 1).val
  let c1_i32 : BitVec 32 := 1#32
  let v110 : BitVec 32 := Scalar.addi arg1 c1_i32
  let c1_i32_50 : BitVec 32 := 1#32
  let arg13 : BitVec 32 := Scf.iv v110 c1_i32_50 k0_t1
  let v162 : Index := Scalar.indexCast arg13
  let c0_69 : Index := 0#32
  let c0_70 : Index := 0#32
  ![0, v162.toNat, 0, 0]
def k0_off6 (i : grid0.Coords) (k0_t1 : Fin (k0_t1_loop i).trips) : Fin 4 → Nat :=
  let c1_83 : Index := 1#32
  let arg1 : BitVec 32 := BitVec.ofNat 32 (i 1).val
  let c1_i32 : BitVec 32 := 1#32
  let v110 : BitVec 32 := Scalar.addi arg1 c1_i32
  let c1_i32_50 : BitVec 32 := 1#32
  let arg13 : BitVec 32 := Scf.iv v110 c1_i32_50 k0_t1
  let v194 : Index := Scalar.indexCast arg13
  let c0_84 : Index := 0#32
  let c0_85 : Index := 0#32
  ![1, v194.toNat, 0, 0]
@[reducible] def k0_t2_loop (i : grid0.Coords) : Scf.Loop 32 :=
  let arg1 : BitVec 32 := BitVec.ofNat 32 (i 1).val
  let c1_i32 : BitVec 32 := 1#32
  let v110 : BitVec 32 := Scalar.addi arg1 c1_i32
  let c8_i32 : BitVec 32 := 8#32
  let v111 : BitVec 32 := Scalar.subi c8_i32 v110
  let c1_i32_49 : BitVec 32 := 1#32
  let v113 : BitVec 32 := Scalar.divsi v111 c1_i32_49
  let v114 : BitVec 32 := Scalar.muli v113 c1_i32_49
  let v115 : BitVec 32 := Scalar.addi v110 v114
  let v112 : BitVec 32 := Scalar.addi v110 v111
  let c1_i32_51 : BitVec 32 := 1#32
  ⟨v115, v112, c1_i32_51⟩
def k0_mult3 (i : grid0.Coords) (k0_t2 : Fin (k0_t2_loop i).trips) : BitVec 32 :=
  let arg1 : BitVec 32 := BitVec.ofNat 32 (i 1).val
  let c1_i32 : BitVec 32 := 1#32
  let v110 : BitVec 32 := Scalar.addi arg1 c1_i32
  let c8_i32 : BitVec 32 := 8#32
  let v111 : BitVec 32 := Scalar.subi c8_i32 v110
  let c1_i32_49 : BitVec 32 := 1#32
  let v113 : BitVec 32 := Scalar.divsi v111 c1_i32_49
  let v114 : BitVec 32 := Scalar.muli v113 c1_i32_49
  let v115 : BitVec 32 := Scalar.addi v110 v114
  let c1_i32_51 : BitVec 32 := 1#32
  let arg13 : BitVec 32 := Scf.iv v115 c1_i32_51 k0_t2
  let c256_i32_63 : BitVec 32 := 256#32
  let v153 : BitVec 32 := Scalar.muli arg13 c256_i32_63
  v153
def k0_off7 (i : grid0.Coords) (k0_t2 : Fin (k0_t2_loop i).trips) : Fin 2 → Nat :=
  let arg1 : BitVec 32 := BitVec.ofNat 32 (i 1).val
  let c1_i32 : BitVec 32 := 1#32
  let v110 : BitVec 32 := Scalar.addi arg1 c1_i32
  let c8_i32 : BitVec 32 := 8#32
  let v111 : BitVec 32 := Scalar.subi c8_i32 v110
  let c1_i32_49 : BitVec 32 := 1#32
  let v113 : BitVec 32 := Scalar.divsi v111 c1_i32_49
  let v114 : BitVec 32 := Scalar.muli v113 c1_i32_49
  let v115 : BitVec 32 := Scalar.addi v110 v114
  let c1_i32_51 : BitVec 32 := 1#32
  let arg13 : BitVec 32 := Scf.iv v115 c1_i32_51 k0_t2
  let c256_i32_63 : BitVec 32 := 256#32
  let v153 : BitVec 32 := Scalar.muli arg13 c256_i32_63
  let v154 : BitVec 32 := v153
  let v155 : Index := Scalar.indexCast v154
  let c0_64 : Index := 0#32
  ![v155.toNat, 0]
def k0_off8 (i : grid0.Coords) (k0_t2 : Fin (k0_t2_loop i).trips) : Fin 4 → Nat :=
  let c0_68 : Index := 0#32
  let arg1 : BitVec 32 := BitVec.ofNat 32 (i 1).val
  let c1_i32 : BitVec 32 := 1#32
  let v110 : BitVec 32 := Scalar.addi arg1 c1_i32
  let c8_i32 : BitVec 32 := 8#32
  let v111 : BitVec 32 := Scalar.subi c8_i32 v110
  let c1_i32_49 : BitVec 32 := 1#32
  let v113 : BitVec 32 := Scalar.divsi v111 c1_i32_49
  let v114 : BitVec 32 := Scalar.muli v113 c1_i32_49
  let v115 : BitVec 32 := Scalar.addi v110 v114
  let c1_i32_51 : BitVec 32 := 1#32
  let arg13 : BitVec 32 := Scf.iv v115 c1_i32_51 k0_t2
  let v162 : Index := Scalar.indexCast arg13
  let c0_69 : Index := 0#32
  let c0_70 : Index := 0#32
  ![0, v162.toNat, 0, 0]
def k0_off9 (i : grid0.Coords) (k0_t2 : Fin (k0_t2_loop i).trips) : Fin 4 → Nat :=
  let c1_83 : Index := 1#32
  let arg1 : BitVec 32 := BitVec.ofNat 32 (i 1).val
  let c1_i32 : BitVec 32 := 1#32
  let v110 : BitVec 32 := Scalar.addi arg1 c1_i32
  let c8_i32 : BitVec 32 := 8#32
  let v111 : BitVec 32 := Scalar.subi c8_i32 v110
  let c1_i32_49 : BitVec 32 := 1#32
  let v113 : BitVec 32 := Scalar.divsi v111 c1_i32_49
  let v114 : BitVec 32 := Scalar.muli v113 c1_i32_49
  let v115 : BitVec 32 := Scalar.addi v110 v114
  let c1_i32_51 : BitVec 32 := 1#32
  let arg13 : BitVec 32 := Scf.iv v115 c1_i32_51 k0_t2
  let v194 : Index := Scalar.indexCast arg13
  let c0_84 : Index := 0#32
  let c0_85 : Index := 0#32
  ![1, v194.toNat, 0, 0]
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x8x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceKVIdeal.lean ====
abbrev S2048x4608 : Shape := ⟨2, ![2048, 4608]⟩
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x2048x64 : Shape := ⟨3, ![8, 2048, 64]⟩
abbrev S8 : Shape := ⟨1, ![8]⟩
abbrev S4x2 : Shape := ⟨2, ![4, 2]⟩
abbrev S4x2x1x1 : Shape := ⟨4, ![4, 2, 1, 1]⟩
abbrev S128 : Shape := ⟨1, ![128]⟩
abbrev S1x1x1x128 : Shape := ⟨4, ![1, 1, 1, 128]⟩
abbrev S4x2x1x128 : Shape := ⟨4, ![4, 2, 1, 128]⟩
abbrev S4x2x2048 : Shape := ⟨3, ![4, 2, 2048]⟩
abbrev S4x2x2048x1 : Shape := ⟨4, ![4, 2, 2048, 1]⟩
abbrev S4x2x2048x128 : Shape := ⟨4, ![4, 2, 2048, 128]⟩
abbrev S4x2048x128 : Shape := ⟨3, ![4, 2048, 128]⟩

abbrev nBuf : Space → Nat
  | .hbm => 141
  | .vmem => 0
  | .smem => 0
  | _ => 0

abbrev hbmTy0_0 (i : Nat) : BufTy := match i % 128 with
  | 0 => ⟨S2048x4608, .bf16⟩
  | 1 => ⟨S2048x512, .bf16⟩
  | 2 => ⟨S8x2048, .f32⟩
  | 3 => ⟨S2048x512, .bf16⟩
  | 4 => ⟨S2048x512, .f32⟩
  | 5 => ⟨S2048x8x64, .f32⟩
  | 6 => ⟨S2048x512, .bf16⟩
  | 7 => ⟨S2048x512, .f32⟩
  | 8 => ⟨S2048x8x64, .f32⟩
  | 9 => ⟨S2048x512, .bf16⟩
  | 10 => ⟨S2048x512, .f32⟩
  | 11 => ⟨S2048x8x64, .f32⟩
  | 12 => ⟨S8x2048x2048, .f32⟩
  | 13 => ⟨S_, .f32⟩
  | 14 => ⟨S8x2048x2048, .f32⟩
  | 15 => ⟨S8x2048x2048, .f32⟩
  | 16 => ⟨S8x2048x1, .f32⟩
  | 17 => ⟨S8x1x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S2048, .i32⟩
  | 23 => ⟨S2048x1, .i32⟩
  | 24 => ⟨S2048, .i32⟩
  | 25 => ⟨S1x2048, .i32⟩
  | 26 => ⟨S2048x2048, .i32⟩
  | 27 => ⟨S2048x2048, .i32⟩
  | 28 => ⟨S2048x2048, .i1⟩
  | 29 => ⟨S1x2048x2048, .i1⟩
  | 30 => ⟨S_, .f32⟩
  | 31 => ⟨S_, .f32⟩
  | 32 => ⟨S8x2048x2048, .i1⟩
  | 33 => ⟨S8x2048x2048, .f32⟩
  | 34 => ⟨S8x2048x2048, .f32⟩
  | 35 => ⟨S_, .f32⟩
  | 36 => ⟨S8x2048x2048, .f32⟩
  | 37 => ⟨S_, .f32⟩
  | 38 => ⟨S8x2048, .f32⟩
  | 39 => ⟨S8x2048x1, .f32⟩
  | 40 => ⟨S8x2048x2048, .f32⟩
  | 41 => ⟨S8x2048x2048, .i1⟩
  | 42 => ⟨S8x2048x2048, .f32⟩
  | 43 => ⟨S_, .f32⟩
  | 44 => ⟨S8x2048, .f32⟩
  | 45 => ⟨S_, .f32⟩
  | 46 => ⟨S8x2048, .f32⟩
  | 47 => ⟨S8x2048, .f32⟩
  | 48 => ⟨S_, .f32⟩
  | 49 => ⟨S8x2048, .f32⟩
  | 50 => ⟨S8x2048, .i1⟩
  | 51 => ⟨S_, .f32⟩
  | 52 => ⟨S8x2048, .f32⟩
  | 53 => ⟨S8x2048, .i1⟩
  | 54 => ⟨S_, .f32⟩
  | 55 => ⟨S8x2048, .f32⟩
  | 56 => ⟨S_, .f32⟩
  | 57 => ⟨S8x2048, .f32⟩
  | 58 => ⟨S_, .f32⟩
  | 59 => ⟨S8x2048, .f32⟩
  | 60 => ⟨S8x2048, .f32⟩
  | 61 => ⟨S8x2048, .f32⟩
  | 62 => ⟨S8x2048x1, .f32⟩
  | 63 => ⟨S8x2048x2048, .f32⟩
  | 64 => ⟨S8x2048x2048, .f32⟩
  | 65 => ⟨S8x2048x2048, .f32⟩
  | 66 => ⟨S_, .f32⟩
  | 67 => ⟨S8x2048, .f32⟩
  | 68 => ⟨S8x2048x1, .f32⟩
  | 69 => ⟨S8x2048x2048, .f32⟩
  | 70 => ⟨S8x2048x2048, .f32⟩
  | 71 => ⟨S8x2048x1, .f32⟩
  | 72 => ⟨S_, .f32⟩
  | 73 => ⟨S8x2048x1, .f32⟩
  | 74 => ⟨S8x2048x1, .f32⟩
  | 75 => ⟨S8x64x2048, .f32⟩
  | 76 => ⟨S2048x8x64, .f32⟩
  | 77 => ⟨S2048x512, .f32⟩
  | 78 => ⟨S2048x512, .f32⟩
  | 79 => ⟨S2048x8x64, .f32⟩
  | 80 => ⟨S8x64x2048, .f32⟩
  | 81 => ⟨S8x2048x2048, .f32⟩
  | 82 => ⟨S8x64x2048, .f32⟩
  | 83 => ⟨S2048x8x64, .f32⟩
  | 84 => ⟨S8x2048x2048, .f32⟩
  | 85 => ⟨S8x2048x2048, .f32⟩
  | 86 => ⟨S8x2048x2048, .f32⟩
  | 87 => ⟨S_, .f32⟩
  | 88 => ⟨S8x2048, .f32⟩
  | 89 => ⟨S8x2048x1, .f32⟩
  | 90 => ⟨S8x2048x1, .f32⟩
  | 91 => ⟨S8x2048x2048, .f32⟩
  | 92 => ⟨S8x2048x2048, .f32⟩
  | 93 => ⟨S_, .f32⟩
  | 94 => ⟨S8x2048, .f32⟩
  | 95 => ⟨S8x2048x2048, .f32⟩
  | 96 => ⟨S8x2048x2048, .f32⟩
  | 97 => ⟨S8x2048x2048, .f32⟩
  | 98 => ⟨S_, .f32⟩
  | 99 => ⟨S8x2048x2048, .f32⟩
  | 100 => ⟨S8x2048x2048, .f32⟩
  | 101 => ⟨S_, .f32⟩
  | 102 => ⟨S8x2048, .f32⟩
  | 103 => ⟨S8x2048x1, .f32⟩
  | 104 => ⟨S8x2048x2048, .f32⟩
  | 105 => ⟨S_, .f32⟩
  | 106 => ⟨S8x2048, .f32⟩
  | 107 => ⟨S8x1x2048, .f32⟩
  | 108 => ⟨S_, .f32⟩
  | 109 => ⟨S8x2048, .f32⟩
  | 110 => ⟨S_, .f32⟩
  | 111 => ⟨S8x2048, .f32⟩
  | 112 => ⟨S_, .f32⟩
  | 113 => ⟨S8x2048x2048, .f32⟩
  | 114 => ⟨S8x2048x2048, .f32⟩
  | 115 => ⟨S8x2048x64, .f32⟩
  | 116 => ⟨S2048x8x64, .f32⟩
  | 117 => ⟨S8x2048x64, .f32⟩
  | 118 => ⟨S2048x8x64, .f32⟩
  | 119 => ⟨S2048x512, .f32⟩
  | 120 => ⟨S2048x512, .bf16⟩
  | 121 => ⟨S2048x512, .f32⟩
  | 122 => ⟨S2048x512, .bf16⟩
  | 123 => ⟨S8, .i32⟩
  | 124 => ⟨S4x2, .i32⟩
  | 125 => ⟨S4x2x1x1, .i32⟩
  | 126 => ⟨S128, .i32⟩
  | 127 => ⟨S1x1x1x128, .i32⟩
  | _ => ⟨S2048x4608, .bf16⟩

abbrev hbmTy0_1 (i : Nat) : BufTy := match i % 128 with
  | 0 => ⟨S4x2x1x128, .i32⟩
  | 1 => ⟨S4x2x1x128, .i32⟩
  | 2 => ⟨S4x2x1x128, .i1⟩
  | 3 => ⟨S4x2x2048, .f32⟩
  | 4 => ⟨S4x2x2048x1, .f32⟩
  | 5 => ⟨S_, .f32⟩
  | 6 => ⟨S_, .f32⟩
  | 7 => ⟨S4x2x2048x128, .i1⟩
  | 8 => ⟨S4x2x2048x128, .f32⟩
  | 9 => ⟨S4x2x2048x128, .f32⟩
  | 10 => ⟨S4x2x2048x128, .f32⟩
  | 11 => ⟨S_, .f32⟩
  | 12 => ⟨S4x2048x128, .f32⟩
  | _ => ⟨S2048x4608, .bf16⟩

abbrev hbmTy (i : Nat) : BufTy := match i / 128 with
  | 0 => hbmTy0_0 i
  | 1 => hbmTy0_1 i
  | _ => ⟨S2048x4608, .bf16⟩

abbrev bufTy : (tb : Table) → Fin (tcTables nBuf tb) → BufTy
  | .hbm, ⟨i, _⟩ => hbmTy i
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_18 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== KernelWin.lean ====
abbrev S2048x1024 : Shape := ⟨2, ![2048, 1024]⟩
abbrev S2048x5632 : Shape := ⟨2, ![2048, 5632]⟩
abbrev S4x1024x1408 : Shape := ⟨3, ![4, 1024, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWinIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S2048x5632, .f32⟩
  | .hbm, ⟨4, _⟩ => ⟨S_, .f32⟩
  | .hbm, ⟨5, _⟩ => ⟨S1024x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWout.lean ====
abbrev S2048x2816 : Shape := ⟨2, ![2048, 2816]⟩
abbrev S2048x1024 : Shape := ⟨2, ![2048, 1024]⟩
abbrev S1x2816x1024 : Shape := ⟨3, ![1, 2816, 1024]⟩
abbrev S2048x256 : Shape := ⟨2, ![2048, 256]⟩
abbrev S1x256x1024 : Shape := ⟨3, ![1, 256, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S1x2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S1x256x1024, .bf16⟩
  | .local _ .vmem, ⟨4, _⟩ => ⟨S1x256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWoutIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S2816x1x1024 : Shape := ⟨3, ![2816, 1, 1024]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S_, .f32⟩
  | .hbm, ⟨5, _⟩ => ⟨S2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1x1024, .f32⟩
  | .hbm, ⟨10, _⟩ => ⟨S1x2816x1024, .f32⟩
  | .hbm, ⟨11, _⟩ => ⟨S1x2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDout.lean ====
abbrev S2048x1024 : Shape := ⟨2, ![2048, 1024]⟩
abbrev S1x2816x1024 : Shape := ⟨3, ![1, 2816, 1024]⟩
abbrev S2048x2816 : Shape := ⟨2, ![2048, 2816]⟩
abbrev S512x1024 : Shape := ⟨2, ![512, 1024]⟩
abbrev S1x1408x1024 : Shape := ⟨3, ![1, 1408, 1024]⟩
abbrev S512x1408 : Shape := ⟨2, ![512, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1x2816x1024, .bf16⟩
  | .hbm, ⟨2, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoutIdeal.lean ====
abbrev S2048x1024 : Shape := ⟨2, ![2048, 1024]⟩
abbrev S1x2816x1024 : Shape := ⟨3, ![1, 2816, 1024]⟩
abbrev S2816x1x1024 : Shape := ⟨3, ![2816, 1, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x2816x1024, .bf16⟩
  | .hbm, ⟨2, _⟩ => ⟨S1x2816x1024, .f32⟩
  | .hbm, ⟨3, _⟩ => ⟨S2816x1x1024, .f32⟩
  | .hbm, ⟨4, _⟩ => ⟨S2816x1024, .f32⟩
  | .hbm, ⟨5, _⟩ => ⟨S_, .f32⟩
  | .hbm, ⟨6, _⟩ => ⟨S2048x2816, .f32⟩
  | .hbm, ⟨7, _⟩ => ⟨S2048x1024, .f32⟩
  | .hbm, ⟨8, _⟩ => ⟨S2048x1024, .f32⟩
  | .hbm, ⟨9, _⟩ => ⟨S2048x2816, .f32⟩
  | .hbm, ⟨10, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDin.lean ====
abbrev S2048x5632 : Shape := ⟨2, ![2048, 5632]⟩
abbrev S4x1024x1408 : Shape := ⟨3, ![4, 1024, 1408]⟩
abbrev S2048x1024 : Shape := ⟨2, ![2048, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S4x1024x1408, .bf16⟩
  | .hbm, ⟨2, _⟩ => ⟨S2048x1024, .bf16⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDinIdeal.lean ====
abbrev S2048x5632 : Shape := ⟨2, ![2048, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S_, .f32⟩
  | .hbm, ⟨6, _⟩ => ⟨S2048x1024, .f32⟩
  | .hbm, ⟨7, _⟩ => ⟨S2048x5632, .f32⟩
  | .hbm, ⟨8, _⟩ => ⟨S2048x5632, .f32⟩
  | .hbm, ⟨9, _⟩ => ⟨S2048x1024, .f32⟩
  | .hbm, ⟨10, _⟩ => ⟨S2048x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWmain.lean ====
abbrev S2048x1024 : Shape := ⟨2, ![2048, 1024]⟩
abbrev S2048x4608 : Shape := ⟨2, ![2048, 4608]⟩
abbrev S1x1024x4608 : Shape := ⟨3, ![1, 1024, 4608]⟩
abbrev S2048x512 : Shape := ⟨2, ![2048, 512]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4608, .bf16⟩
  | .hbm, ⟨2, _⟩ => ⟨S1x1024x4608, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S1x512x768, .bf16⟩
  | .local _ .vmem, ⟨5, _⟩ => ⟨S1x512x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWmainIdeal.lean ====
abbrev S2048x1024 : Shape := ⟨2, ![2048, 1024]⟩
abbrev S2048x4608 : Shape := ⟨2, ![2048, 4608]⟩
abbrev S_ : Shape := ⟨0, ![]⟩
abbrev S1024x4608 : Shape := ⟨2, ![1024, 4608]⟩
abbrev S4608x1024 : Shape := ⟨2, ![4608, 1024]⟩
abbrev S1024x1x4608 : Shape := ⟨3, ![1024, 1, 4608]⟩
abbrev S1x1024x4608 : Shape := ⟨3, ![1, 1024, 4608]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4608, .bf16⟩
  | .hbm, ⟨2, _⟩ => ⟨S2048x1024, .f32⟩
  | .hbm, ⟨3, _⟩ => ⟨S2048x4608, .f32⟩
  | .hbm, ⟨4, _⟩ => ⟨S_, .f32⟩
  | .hbm, ⟨5, _⟩ => ⟨S1024x4608, .f32⟩
  | .hbm, ⟨6, _⟩ => ⟨S2048x4608, .f32⟩
  | .hbm, ⟨7, _⟩ => ⟨S4608x1024, .f32⟩
  | .hbm, ⟨8, _⟩ => ⟨S1024x4608, .f32⟩
  | .hbm, ⟨9, _⟩ => ⟨S1024x1x4608, .f32⟩
  | .hbm, ⟨10, _⟩ => ⟨S1x1024x4608, .f32⟩
  | .hbm, ⟨11, _⟩ => ⟨S1x1024x4608, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWf.lean ====
abbrev S2048x1024 : Shape := ⟨2, ![2048, 1024]⟩
abbrev S2048x128 : Shape := ⟨2, ![2048, 128]⟩
abbrev S1x1024x128 : Shape := ⟨3, ![1, 1024, 128]⟩
abbrev S2048x512 : Shape := ⟨2, ![2048, 512]⟩
abbrev S1x512x128 : Shape := ⟨3, ![1, 512, 128]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S1x1024x128, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S1x512x128, .bf16⟩
  | .local _ .vmem, ⟨4, _⟩ => ⟨S1x512x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWfIdeal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩
abbrev S1024x1x128 : Shape := ⟨3, ![1024, 1, 128]⟩
abbrev S1x1024x128 : Shape := ⟨3, ![1, 1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S2048x1024, .f32⟩
  | .hbm, ⟨3, _⟩ => ⟨S2048x128, .f32⟩
  | .hbm, ⟨4, _⟩ => ⟨S_, .f32⟩
  | .hbm, ⟨5, _⟩ => ⟨S1024x128, .f32⟩
  | .hbm, ⟨6, _⟩ => ⟨S2048x128, .f32⟩
  | .hbm, ⟨7, _⟩ => ⟨S128x1024, .f32⟩
  | .hbm, ⟨8, _⟩ => ⟨S1024x128, .f32⟩
  | .hbm, ⟨9, _⟩ => ⟨S1024x1x128, .f32⟩
  | .hbm, ⟨10, _⟩ => ⟨S1x1024x128, .f32⟩
  | .hbm, ⟨11, _⟩ => ⟨S1x1024x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWsq.lean ====
abbrev S2048x1024 : Shape := ⟨2, ![2048, 1024]⟩
abbrev S1x1024x1024 : Shape := ⟨3, ![1, 1024, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWsqIdeal.lean ====
abbrev S2048x1024 : Shape := ⟨2, ![2048, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWatt.lean ====
abbrev S2048x512 : Shape := ⟨2, ![2048, 512]⟩
abbrev S2048x1024 : Shape := ⟨2, ![2048, 1024]⟩
abbrev S4x512x256 : Shape := ⟨3, ![4, 512, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S4x512x256, .bf16⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S1x512x256, .bf16⟩
  | .local _ .vmem, ⟨4, _⟩ => ⟨S1x512x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWattIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x512, .f32⟩
  | .hbm, ⟨3, _⟩ => ⟨S2048x1024, .f32⟩
  | .hbm, ⟨4, _⟩ => ⟨S_, .f32⟩
  | .hbm, ⟨5, _⟩ => ⟨S512x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWple.lean ====
abbrev S2048x256 : Shape := ⟨2, ![2048, 256]⟩
abbrev S2048x1024 : Shape := ⟨2, ![2048, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S1x256x256, .bf16⟩
  | .local _ .vmem, ⟨4, _⟩ => ⟨S1x256x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceWpleIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S2048x256, .f32⟩
  | .hbm, ⟨3, _⟩ => ⟨S2048x1024, .f32⟩
  | .hbm, ⟨4, _⟩ => ⟨S_, .f32⟩
  | .hbm, ⟨5, _⟩ => ⟨S256x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | .hbm, ⟨11, _⟩ => ⟨S4x256x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDmain.lean ====
abbrev S2048x4608 : Shape := ⟨2, ![2048, 4608]⟩
abbrev S1x1024x4608 : Shape := ⟨3, ![1, 1024, 4608]⟩
abbrev S2048x1024 : Shape := ⟨2, ![2048, 1024]⟩
abbrev S512x1536 : Shape := ⟨2, ![512, 1536]⟩
abbrev S1x1024x1536 : Shape := ⟨3, ![1, 1024, 1536]⟩
abbrev S512x1024 : Shape := ⟨2, ![512, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S2048x4608, .bf16⟩
  | .hbm, ⟨1, _⟩ => ⟨S1x1024x4608, .bf16⟩
  | .hbm, ⟨2, _⟩ => ⟨S2048x1024, .bf16⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDmainIdeal.lean ====
abbrev S2048x4608 : Shape := ⟨2, ![2048, 4608]⟩
abbrev S1x1024x4608 : Shape := ⟨3, ![1, 1024, 4608]⟩
abbrev S1024x1x4608 : Shape := ⟨3, ![1024, 1, 4608]⟩
abbrev S1024x4608 : Shape := ⟨2, ![1024, 4608]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S1x1024x4608, .bf16⟩
  | .hbm, ⟨2, _⟩ => ⟨S1x1024x4608, .f32⟩
  | .hbm, ⟨3, _⟩ => ⟨S1024x1x4608, .f32⟩
  | .hbm, ⟨4, _⟩ => ⟨S1024x4608, .f32⟩
  | .hbm, ⟨5, _⟩ => ⟨S_, .f32⟩
  | .hbm, ⟨6, _⟩ => ⟨S2048x1024, .f32⟩
  | .hbm, ⟨7, _⟩ => ⟨S2048x4608, .f32⟩
  | .hbm, ⟨8, _⟩ => ⟨S2048x4608, .f32⟩
  | .hbm, ⟨9, _⟩ => ⟨S2048x1024, .f32⟩
  | .hbm, ⟨10, _⟩ => ⟨S2048x1024, .bf16⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDf.lean ====
abbrev S2048x128 : Shape := ⟨2, ![2048, 128]⟩
abbrev S1x1024x128 : Shape := ⟨3, ![1, 1024, 128]⟩
abbrev S2048x1024 : Shape := ⟨2, ![2048, 1024]⟩
abbrev S512x128 : Shape := ⟨2, ![512, 128]⟩
abbrev S512x1024 : Shape := ⟨2, ![512, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .bf16⟩
  | .hbm, ⟨1, _⟩ => ⟨S1x1024x128, .bf16⟩
  | .hbm, ⟨2, _⟩ => ⟨S2048x1024, .bf16⟩
  | .local _ .vmem, ⟨0, _⟩ => ⟨S512x128, .bf16⟩
  | .local _ .vmem, ⟨1, _⟩ => ⟨S512x128, .bf16⟩
  | .local _ .vmem, ⟨2, _⟩ => ⟨S1x1024x128, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDfIdeal.lean ====
abbrev S2048x128 : Shape := ⟨2, ![2048, 128]⟩
abbrev S1x1024x128 : Shape := ⟨3, ![1, 1024, 128]⟩
abbrev S1024x1x128 : Shape := ⟨3, ![1024, 1, 128]⟩
abbrev S1024x128 : Shape := ⟨2, ![1024, 128]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S1x1024x128, .bf16⟩
  | .hbm, ⟨2, _⟩ => ⟨S1x1024x128, .f32⟩
  | .hbm, ⟨3, _⟩ => ⟨S1024x1x128, .f32⟩
  | .hbm, ⟨4, _⟩ => ⟨S1024x128, .f32⟩
  | .hbm, ⟨5, _⟩ => ⟨S_, .f32⟩
  | .hbm, ⟨6, _⟩ => ⟨S2048x1024, .f32⟩
  | .hbm, ⟨7, _⟩ => ⟨S2048x128, .f32⟩
  | .hbm, ⟨8, _⟩ => ⟨S2048x128, .f32⟩
  | .hbm, ⟨9, _⟩ => ⟨S2048x1024, .f32⟩
  | .hbm, ⟨10, _⟩ => ⟨S2048x1024, .bf16⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDsq.lean ====
abbrev S2048x1024 : Shape := ⟨2, ![2048, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1x1024x1024, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDsqIdeal.lean ====
abbrev S2048x1024 : Shape := ⟨2, ![2048, 1024]⟩
abbrev S1x1024x1024 : Shape := ⟨3, ![1, 1024, 1024]⟩
abbrev S1024x1x1024 : Shape := ⟨3, ![1024, 1, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x1024x1024, .bf16⟩
  | .hbm, ⟨2, _⟩ => ⟨S1x1024x1024, .f32⟩
  | .hbm, ⟨3, _⟩ => ⟨S1024x1x1024, .f32⟩
  | .hbm, ⟨4, _⟩ => ⟨S1024x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDatt.lean ====
abbrev S2048x1024 : Shape := ⟨2, ![2048, 1024]⟩
abbrev S4x512x256 : Shape := ⟨3, ![4, 512, 256]⟩
abbrev S2048x512 : Shape := ⟨2, ![2048, 512]⟩
abbrev S512x256 : Shape := ⟨2, ![512, 256]⟩
abbrev S1x512x256 : Shape := ⟨3, ![1, 512, 256]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S2048x512, .bf16⟩
  | .local _ .vmem, ⟨0, _⟩ => ⟨S512x256, .bf16⟩
  | .local _ .vmem, ⟨1, _⟩ => ⟨S512x256, .bf16⟩
  | .local _ .vmem, ⟨2, _⟩ => ⟨S1x512x256, .bf16⟩
  | .local _ .vmem, ⟨3, _⟩ => ⟨S1x512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDattIdeal.lean ====
abbrev S2048x1024 : Shape := ⟨2, ![2048, 1024]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S4x512x256, .f32⟩
  | .hbm, ⟨3, _⟩ => ⟨S512x4x256, .f32⟩
  | .hbm, ⟨4, _⟩ => ⟨S512x1024, .f32⟩
  | .hbm, ⟨5, _⟩ => ⟨S_, .f32⟩
  | .hbm, ⟨6, _⟩ => ⟨S2048x512, .f32⟩
  | .hbm, ⟨7, _⟩ => ⟨S2048x1024, .f32⟩
  | .hbm, ⟨8, _⟩ => ⟨S2048x1024, .f32⟩
  | .hbm, ⟨9, _⟩ => ⟨S2048x512, .f32⟩
  | .hbm, ⟨10, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelZin.lean ====
abbrev S2048x1024 : Shape := ⟨2, ![2048, 1024]⟩
abbrev S4x1024x1408 : Shape := ⟨3, ![4, 1024, 1408]⟩
abbrev S2048x5632 : Shape := ⟨2, ![2048, 5632]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x5632, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZinIdeal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S2048x5632, .f32⟩
  | .hbm, ⟨7, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelZout.lean ====
abbrev S2048x2816 : Shape := ⟨2, ![2048, 2816]⟩
abbrev S1x2816x1024 : Shape := ⟨3, ![1, 2816, 1024]⟩
abbrev S2048x1024 : Shape := ⟨2, ![2048, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S1x2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceZoutIdeal.lean ====
abbrev S2048x2816 : Shape := ⟨2, ![2048, 2816]⟩
abbrev S1x2816x1024 : Shape := ⟨3, ![1, 2816, 1024]⟩
abbrev S2048x1024 : Shape := ⟨2, ![2048, 1024]⟩
abbrev S2816x1x1024 : Shape := ⟨3, ![2816, 1, 1024]⟩
abbrev S2816x1024 : Shape := ⟨2, ![2816, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S1x2816x1024, .bf16⟩
  | .hbm, ⟨2, _⟩ => ⟨S2048x1024, .f32⟩
  | .hbm, ⟨3, _⟩ => ⟨S2048x2816, .f32⟩
  | .hbm, ⟨4, _⟩ => ⟨S1x2816x1024, .f32⟩
  | .hbm, ⟨5, _⟩ => ⟨S2816x1x1024, .f32⟩
  | .hbm, ⟨6, _⟩ => ⟨S2816x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelZmain.lean ====
abbrev S2048x1024 : Shape := ⟨2, ![2048, 1024]⟩
abbrev S1x1024x4608 : Shape := ⟨3, ![1, 1024, 4608]⟩
abbrev S2048x4608 : Shape := ⟨2, ![2048, 4608]⟩
abbrev S512x1024 : Shape := ⟨2, ![512, 1024]⟩
abbrev S1x1024x768 : Shape := ⟨3, ![1, 1024, 768]⟩
abbrev S512x768 : Shape := ⟨2, ![512, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1x1024x4608, .bf16⟩
  | .hbm, ⟨2, _⟩ => ⟨S2048x4608, .bf16⟩
  | .local _ .vmem, ⟨0, _⟩ => ⟨S512x1024, .bf16⟩
  | .local _ .vmem, ⟨1, _⟩ => ⟨S512x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x768, .bf16⟩
  | .local _ .vmem, ⟨5, _⟩ => ⟨S512x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZmainIdeal.lean ====
abbrev S2048x1024 : Shape := ⟨2, ![2048, 1024]⟩
abbrev S1x1024x4608 : Shape := ⟨3, ![1, 1024, 4608]⟩
abbrev S1024x1x4608 : Shape := ⟨3, ![1024, 1, 4608]⟩
abbrev S1024x4608 : Shape := ⟨2, ![1024, 4608]⟩
abbrev S2048x4608 : Shape := ⟨2, ![2048, 4608]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x1024x4608, .bf16⟩
  | .hbm, ⟨2, _⟩ => ⟨S2048x1024, .f32⟩
  | .hbm, ⟨3, _⟩ => ⟨S1x1024x4608, .f32⟩
  | .hbm, ⟨4, _⟩ => ⟨S1024x1x4608, .f32⟩
  | .hbm, ⟨5, _⟩ => ⟨S1024x4608, .f32⟩
  | .hbm, ⟨6, _⟩ => ⟨S2048x4608, .f32⟩
  | .hbm, ⟨7, _⟩ => ⟨S2048x4608, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelZf.lean ====
abbrev S2048x1024 : Shape := ⟨2, ![2048, 1024]⟩
abbrev S1x1024x128 : Shape := ⟨3, ![1, 1024, 128]⟩
abbrev S2048x128 : Shape := ⟨2, ![2048, 128]⟩
abbrev S512x1024 : Shape := ⟨2, ![512, 1024]⟩
abbrev S512x128 : Shape := ⟨2, ![512, 128]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x1024x128, .bf16⟩
  | .hbm, ⟨2, _⟩ => ⟨S2048x128, .f32⟩
  | .local _ .vmem, ⟨0, _⟩ => ⟨S512x1024, .bf16⟩
  | .local _ .vmem, ⟨1, _⟩ => ⟨S512x1024, .bf16⟩
  | .local _ .vmem, ⟨2, _⟩ => ⟨S1x1024x128, .bf16⟩
  | .local _ .vmem, ⟨3, _⟩ => ⟨S512x128, .f32⟩
  | .local _ .vmem, ⟨4, _⟩ => ⟨S512x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZfIdeal.lean ====
abbrev S2048x1024 : Shape := ⟨2, ![2048, 1024]⟩
abbrev S1x1024x128 : Shape := ⟨3, ![1, 1024, 128]⟩
abbrev S1024x1x128 : Shape := ⟨3, ![1024, 1, 128]⟩
abbrev S1024x128 : Shape := ⟨2, ![1024, 128]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x1024x128, .bf16⟩
  | .hbm, ⟨2, _⟩ => ⟨S2048x1024, .f32⟩
  | .hbm, ⟨3, _⟩ => ⟨S1x1024x128, .f32⟩
  | .hbm, ⟨4, _⟩ => ⟨S1024x1x128, .f32⟩
  | .hbm, ⟨5, _⟩ => ⟨S1024x128, .f32⟩
  | .hbm, ⟨6, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelZatt.lean ====
abbrev S2048x512 : Shape := ⟨2, ![2048, 512]⟩
abbrev S4x512x256 : Shape := ⟨3, ![4, 512, 256]⟩
abbrev S2048x1024 : Shape := ⟨2, ![2048, 1024]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S1x512x256, .bf16⟩
  | .local _ .vmem, ⟨3, _⟩ => ⟨S1x512x256, .bf16⟩
  | .local _ .vmem, ⟨4, _⟩ => ⟨S512x256, .bf16⟩
  | .local _ .vmem, ⟨5, _⟩ => ⟨S512x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZattIdeal.lean ====
abbrev S2048x512 : Shape := ⟨2, ![2048, 512]⟩
abbrev S4x512x256 : Shape := ⟨3, ![4, 512, 256]⟩
abbrev S512x4x256 : Shape := ⟨3, ![512, 4, 256]⟩
abbrev S512x1024 : Shape := ⟨2, ![512, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x512, .f32⟩
  | .hbm, ⟨3, _⟩ => ⟨S4x512x256, .f32⟩
  | .hbm, ⟨4, _⟩ => ⟨S512x4x256, .f32⟩
  | .hbm, ⟨5, _⟩ => ⟨S512x1024, .f32⟩
  | .hbm, ⟨6, _⟩ => ⟨S2048x1024, .f32⟩
  | .hbm, ⟨7, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelZmix.lean ====
abbrev S2048x1024 : Shape := ⟨2, ![2048, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1x1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceZmixIdeal.lean ====
abbrev S2048x1024 : Shape := ⟨2, ![2048, 1024]⟩
abbrev S1x1024x1024 : Shape := ⟨3, ![1, 1024, 1024]⟩
abbrev S1024x1x1024 : Shape := ⟨3, ![1024, 1, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x1024x1024, .bf16⟩
  | .hbm, ⟨2, _⟩ => ⟨S2048x1024, .f32⟩
  | .hbm, ⟨3, _⟩ => ⟨S2048x1024, .f32⟩
  | .hbm, ⟨4, _⟩ => ⟨S1x1024x1024, .f32⟩
  | .hbm, ⟨5, _⟩ => ⟨S1024x1x1024, .f32⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelZsq.lean ====
abbrev S2048x1024 : Shape := ⟨2, ![2048, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x1024x1024, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZsqIdeal.lean ====
abbrev S2048x1024 : Shape := ⟨2, ![2048, 1024]⟩
abbrev S1x1024x1024 : Shape := ⟨3, ![1, 1024, 1024]⟩
abbrev S1024x1x1024 : Shape := ⟨3, ![1024, 1, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x1024x1024, .bf16⟩
  | .hbm, ⟨2, _⟩ => ⟨S2048x1024, .f32⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S2048x1024, .f32⟩
  | .hbm, ⟨7, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelZple.lean ====
abbrev S2048x256 : Shape := ⟨2, ![2048, 256]⟩
abbrev S4x256x256 : Shape := ⟨3, ![4, 256, 256]⟩
abbrev S2048x1024 : Shape := ⟨2, ![2048, 1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .bf16⟩
  | .hbm, ⟨1, _⟩ => ⟨S4x256x256, .bf16⟩
  | .hbm, ⟨2, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S1x256x256, .bf16⟩
  | .local _ .vmem, ⟨3, _⟩ => ⟨S1x256x256, .bf16⟩
  | .local _ .vmem, ⟨4, _⟩ => ⟨S512x256, .bf16⟩
  | .local _ .vmem, ⟨5, _⟩ => ⟨S512x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZpleIdeal.lean ====
abbrev S2048x256 : Shape := ⟨2, ![2048, 256]⟩
abbrev S4x256x256 : Shape := ⟨3, ![4, 256, 256]⟩
abbrev S256x4x256 : Shape := ⟨3, ![256, 4, 256]⟩
abbrev S256x1024 : Shape := ⟨2, ![256, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S4x256x256, .bf16⟩
  | .hbm, ⟨2, _⟩ => ⟨S2048x256, .f32⟩
  | .hbm, ⟨3, _⟩ => ⟨S4x256x256, .f32⟩
  | .hbm, ⟨4, _⟩ => ⟨S256x4x256, .f32⟩
  | .hbm, ⟨5, _⟩ => ⟨S256x1024, .f32⟩
  | .hbm, ⟨6, _⟩ => ⟨S2048x1024, .f32⟩
  | .hbm, ⟨7, _⟩ => ⟨S2048x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelAct.lean ====
abbrev S2048x5632 : Shape := ⟨2, ![2048, 5632]⟩
abbrev S2048x2816 : Shape := ⟨2, ![2048, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceActIdeal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== KernelDact.lean ====
abbrev S2048x5632 : Shape := ⟨2, ![2048, 5632]⟩
abbrev S2048x2816 : Shape := ⟨2, ![2048, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .bf16⟩
  | .hbm, ⟨2, _⟩ => ⟨S2048x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDactIdeal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .bf16⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x5632, .f32⟩
  | .hbm, ⟨27, _⟩ => ⟨S2048x5632, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== KernelMerge.lean ====
abbrev S2048x4608 : Shape := ⟨2, ![2048, 4608]⟩
abbrev S2048x1024 : Shape := ⟨2, ![2048, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x4608, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMergeIdeal.lean ====
abbrev S2048x4608 : Shape := ⟨2, ![2048, 4608]⟩
abbrev S2048x1024 : Shape := ⟨2, ![2048, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelDmerge.lean ====
abbrev S2048x1024 : Shape := ⟨2, ![2048, 1024]⟩
abbrev S2048x4608 : Shape := ⟨2, ![2048, 4608]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x4608, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceDmergeIdeal.lean ====
abbrev S2048x1024 : Shape := ⟨2, ![2048, 1024]⟩
abbrev S2048x4608 : Shape := ⟨2, ![2048, 4608]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4608, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | .hbm, ⟨45, _⟩ => ⟨S2048x1024, .bf16⟩
  | .hbm, ⟨46, _⟩ => ⟨S2048x1024, .bf16⟩
  | .hbm, ⟨47, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== KernelMix.lean ====
abbrev S2048x1024 : Shape := ⟨2, ![2048, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .bf16⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMixIdeal.lean ====
abbrev S2048x1024 : Shape := ⟨2, ![2048, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelDmix.lean ====
abbrev S2048x1024 : Shape := ⟨2, ![2048, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDmixIdeal.lean ====
abbrev S2048x1024 : Shape := ⟨2, ![2048, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelRms.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelDrms.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDrmsIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .bf16⟩
  | .hbm, ⟨52, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KernelDrmsm.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDrmsmIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .bf16⟩
  | .hbm, ⟨58, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelDrmsp.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDrmspIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelAgain.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelAgainIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAgainIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAfinal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelAfinalIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAfinalIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAconv.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelAconvIdeal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAconvIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAbf.lean ====
abbrev S4x8 : Shape := ⟨2, ![4, 8]⟩

abbrev nBuf : Space → Nat
  | .hbm => 7
  | .vmem => 7
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S4x8, .f32⟩
  | .hbm, ⟨5, _⟩ => ⟨S4x8, .f32⟩
  | .hbm, ⟨6, _⟩ => ⟨S4x8, .f32⟩
  | .local _ .vmem, ⟨0, _⟩ => ⟨S4x8, .f32⟩
  | .local _ .vmem, ⟨1, _⟩ => ⟨S4x8, .f32⟩
  | .local _ .vmem, ⟨2, _⟩ => ⟨S4x8, .f32⟩
  | .local _ .vmem, ⟨3, _⟩ => ⟨S4x8, .f32⟩
  | .local _ .vmem, ⟨4, _⟩ => ⟨S4x8, .f32⟩
  | .local _ .vmem, ⟨5, _⟩ => ⟨S4x8, .f32⟩
  | .local _ .vmem, ⟨6, _⟩ => ⟨S4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelAbfIdeal.lean ====
abbrev S4x8 : Shape := ⟨2, ![4, 8]⟩

abbrev nBuf : Space → Nat
  | .hbm => 7
  | .vmem => 7
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S4x8, .f32⟩
  | .hbm, ⟨5, _⟩ => ⟨S4x8, .f32⟩
  | .hbm, ⟨6, _⟩ => ⟨S4x8, .f32⟩
  | .local _ .vmem, ⟨0, _⟩ => ⟨S4x8, .f32⟩
  | .local _ .vmem, ⟨1, _⟩ => ⟨S4x8, .f32⟩
  | .local _ .vmem, ⟨2, _⟩ => ⟨S4x8, .f32⟩
  | .local _ .vmem, ⟨3, _⟩ => ⟨S4x8, .f32⟩
  | .local _ .vmem, ⟨4, _⟩ => ⟨S4x8, .f32⟩
  | .local _ .vmem, ⟨5, _⟩ => ⟨S4x8, .f32⟩
  | .local _ .vmem, ⟨6, _⟩ => ⟨S4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAbfIdeal.lean ====
abbrev S4x8 : Shape := ⟨2, ![4, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S_, .f32⟩
  | .hbm, ⟨5, _⟩ => ⟨S4x8, .f32⟩
  | .hbm, ⟨6, _⟩ => ⟨S4x8, .f32⟩
  | .hbm, ⟨7, _⟩ => ⟨S_, .f32⟩
  | .hbm, ⟨8, _⟩ => ⟨S4x8, .f32⟩
  | .hbm, ⟨9, _⟩ => ⟨S4x8, .f32⟩
  | .hbm, ⟨10, _⟩ => ⟨S4x8, .f32⟩
  | .hbm, ⟨11, _⟩ => ⟨S_, .f32⟩
  | .hbm, ⟨12, _⟩ => ⟨S4x8, .f32⟩
  | .hbm, ⟨13, _⟩ => ⟨S4x8, .f32⟩
  | .hbm, ⟨14, _⟩ => ⟨S4x8, .f32⟩
  | .hbm, ⟨15, _⟩ => ⟨S_, .f32⟩
  | .hbm, ⟨16, _⟩ => ⟨S4x8, .f32⟩
  | .hbm, ⟨17, _⟩ => ⟨S4x8, .f32⟩
  | .hbm, ⟨18, _⟩ => ⟨S4x8, .f32⟩
  | .hbm, ⟨19, _⟩ => ⟨S_, .f32⟩
  | .hbm, ⟨20, _⟩ => ⟨S4x8, .f32⟩
  | .hbm, ⟨21, _⟩ => ⟨S4x8, .f32⟩
  | .hbm, ⟨22, _⟩ => ⟨S_, .f32⟩
  | .hbm, ⟨23, _⟩ => ⟨S4x8, .f32⟩
  | .hbm, ⟨24, _⟩ => ⟨S4x8, .f32⟩
  | .hbm, ⟨25, _⟩ => ⟨S4x8, .f32⟩
  | .hbm, ⟨26, _⟩ => ⟨S_, .f32⟩
  | .hbm, ⟨27, _⟩ => ⟨S4x8, .f32⟩
  | .hbm, ⟨28, _⟩ => ⟨S4x8, .f32⟩
  | .hbm, ⟨29, _⟩ => ⟨S4x8, .f32⟩
  | .hbm, ⟨30, _⟩ => ⟨S_, .f32⟩
  | .hbm, ⟨31, _⟩ => ⟨S4x8, .f32⟩
  | .hbm, ⟨32, _⟩ => ⟨S4x8, .f32⟩
  | .hbm, ⟨33, _⟩ => ⟨S4x8, .f32⟩
  | .hbm, ⟨34, _⟩ => ⟨S_, .f32⟩
  | .hbm, ⟨35, _⟩ => ⟨S4x8, .f32⟩
  | .hbm, ⟨36, _⟩ => ⟨S4x8, .f32⟩
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAtaps.lean ====
abbrev S124x128 : Shape := ⟨2, ![124, 128]⟩

abbrev nBuf : Space → Nat
  | .hbm => 7
  | .vmem => 7
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S124x128, .f32⟩
  | .hbm, ⟨5, _⟩ => ⟨S124x128, .f32⟩
  | .hbm, ⟨6, _⟩ => ⟨S124x128, .f32⟩
  | .local _ .vmem, ⟨0, _⟩ => ⟨S124x128, .f32⟩
  | .local _ .vmem, ⟨1, _⟩ => ⟨S124x128, .f32⟩
  | .local _ .vmem, ⟨2, _⟩ => ⟨S124x128, .f32⟩
  | .local _ .vmem, ⟨3, _⟩ => ⟨S124x128, .f32⟩
  | .local _ .vmem, ⟨4, _⟩ => ⟨S124x128, .f32⟩
  | .local _ .vmem, ⟨5, _⟩ => ⟨S124x128, .f32⟩
  | .local _ .vmem, ⟨6, _⟩ => ⟨S124x128, .f32⟩
  | _, _ => ⟨S124x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAtapsIdeal.lean ====
abbrev S124x128 : Shape := ⟨2, ![124, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S_, .f32⟩
  | .hbm, ⟨5, _⟩ => ⟨S124x128, .f32⟩
  | .hbm, ⟨6, _⟩ => ⟨S124x128, .f32⟩
  | .hbm, ⟨7, _⟩ => ⟨S_, .f32⟩
  | .hbm, ⟨8, _⟩ => ⟨S124x128, .f32⟩
  | .hbm, ⟨9, _⟩ => ⟨S124x128, .f32⟩
  | .hbm, ⟨10, _⟩ => ⟨S124x128, .f32⟩
  | .hbm, ⟨11, _⟩ => ⟨S_, .f32⟩
  | .hbm, ⟨12, _⟩ => ⟨S124x128, .f32⟩
  | .hbm, ⟨13, _⟩ => ⟨S124x128, .f32⟩
  | .hbm, ⟨14, _⟩ => ⟨S124x128, .f32⟩
  | .hbm, ⟨15, _⟩ => ⟨S_, .f32⟩
  | .hbm, ⟨16, _⟩ => ⟨S124x128, .f32⟩
  | .hbm, ⟨17, _⟩ => ⟨S124x128, .f32⟩
  | .hbm, ⟨18, _⟩ => ⟨S124x128, .f32⟩
  | .hbm, ⟨19, _⟩ => ⟨S_, .f32⟩
  | .hbm, ⟨20, _⟩ => ⟨S124x128, .f32⟩
  | .hbm, ⟨21, _⟩ => ⟨S124x128, .f32⟩
  | .hbm, ⟨22, _⟩ => ⟨S_, .f32⟩
  | .hbm, ⟨23, _⟩ => ⟨S124x128, .f32⟩
  | .hbm, ⟨24, _⟩ => ⟨S124x128, .f32⟩
  | .hbm, ⟨25, _⟩ => ⟨S124x128, .f32⟩
  | .hbm, ⟨26, _⟩ => ⟨S_, .f32⟩
  | .hbm, ⟨27, _⟩ => ⟨S124x128, .f32⟩
  | .hbm, ⟨28, _⟩ => ⟨S124x128, .f32⟩
  | .hbm, ⟨29, _⟩ => ⟨S124x128, .f32⟩
  | .hbm, ⟨30, _⟩ => ⟨S_, .f32⟩
  | .hbm, ⟨31, _⟩ => ⟨S124x128, .f32⟩
  | .hbm, ⟨32, _⟩ => ⟨S124x128, .f32⟩
  | .hbm, ⟨33, _⟩ => ⟨S124x128, .f32⟩
  | .hbm, ⟨34, _⟩ => ⟨S_, .f32⟩
  | .hbm, ⟨35, _⟩ => ⟨S124x128, .f32⟩
  | .hbm, ⟨36, _⟩ => ⟨S124x128, .f32⟩
  | _, _ => ⟨S124x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelLoss.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x128, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x128, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x128, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.Tile.lean ====
/- Real-valued tiles.

   `up1`, `up2`, `up3`, `up4` turn a real function of natural-number coordinates into an ideal vector of rank 1 to 4.
   Every vector operation of the three kernels carries such vectors to such vectors; the lemmas below say which real
   function comes out.  A chain of operations on real inputs is then computed by rewriting, with no index types left. -/
module

public import Idealize.ShloMosaic.Lib.MatmulPlain
public import Idealize.ShloMosaic.Lib.Pipeline.Value
public import Idealize.ShloMosaic.PureOps.Ideal.Laws
public import Idealize.ShloMosaic.Lib.ValueIdx

@[expose] public section

noncomputable section

namespace Tile

open Idealize.ShloMosaic Idealize.ShloMosaic.ValueIdx

/-- A real function of one coordinate as an ideal vector. -/
def up1 {a : ℕ} (f : ℕ → ℝ) : (⟨1, ![a]⟩ : Shape).Idx → EReal := fun i => ((f (i 0).val : ℝ) : EReal)
/-- A real function of two coordinates as an ideal vector. -/
def up2 {a b : ℕ} (f : ℕ → ℕ → ℝ) : (⟨2, ![a, b]⟩ : Shape).Idx → EReal :=
  fun i => ((f (i 0).val (i 1).val : ℝ) : EReal)
/-- A real function of three coordinates as an ideal vector. -/
def up3 {a b c : ℕ} (f : ℕ → ℕ → ℕ → ℝ) : (⟨3, ![a, b, c]⟩ : Shape).Idx → EReal :=
  fun i => ((f (i 0).val (i 1).val (i 2).val : ℝ) : EReal)
/-- A real function of four coordinates as an ideal vector. -/
def up4 {a b c d : ℕ} (f : ℕ → ℕ → ℕ → ℕ → ℝ) : (⟨4, ![a, b, c, d]⟩ : Shape).Idx → EReal :=
  fun i => ((f (i 0).val (i 1).val (i 2).val (i 3).val : ℝ) : EReal)
/-- A two-coordinate predicate as a vector of bits. -/
def msk2 {a b : ℕ} (P : ℕ → ℕ → Bool) : IVec ⟨2, ![a, b]⟩ 1 := fun i => BitVec.ofBool (P (i 0).val (i 1).val)
/-- The real function where the predicate holds, `⊥` elsewhere. -/
def dn2 {a b : ℕ} (P : ℕ → ℕ → Bool) (f : ℕ → ℕ → ℝ) : (⟨2, ![a, b]⟩ : Shape).Idx → EReal :=
  fun i => if P (i 0).val (i 1).val then ((f (i 0).val (i 1).val : ℝ) : EReal) else ⊥

variable {a b c d : ℕ} {φ : FTy}

/-- A finite sum of real numbers read in the extended reals. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert x s hx ih => rw [Finset.sum_insert hx, Finset.sum_insert hx, ih, EReal.coe_add]

/-- The same over the first `n` naturals. -/
theorem coe_sum_fin (n : ℕ) (f : ℕ → ℝ) : (∑ k : Fin n, ((f k.val : ℝ) : EReal)) = ((∑ k ∈ Finset.range n, f k : ℝ) : EReal) := by
  rw [coe_sum, Finset.sum_range]

/-- Two functions equal at the coordinates of the shape give one vector. -/
theorem up2_congr {f g : ℕ → ℕ → ℝ} (h : ∀ i < a, ∀ j < b, f i j = g i j) : (up2 f : (⟨2, ![a, b]⟩ : Shape).Idx → EReal) = up2 g :=
  funext fun i => congrArg _ (h _ (i 0).isLt _ (i 1).isLt)
/-- Two functions equal at the coordinates of the shape give one vector. -/
theorem up3_congr {f g : ℕ → ℕ → ℕ → ℝ} (h : ∀ i < a, ∀ j < b, ∀ k < c, f i j k = g i j k) :
    (up3 f : (⟨3, ![a, b, c]⟩ : Shape).Idx → EReal) = up3 g :=
  funext fun i => congrArg _ (h _ (i 0).isLt _ (i 1).isLt _ (i 2).isLt)

theorem addf_up2 (f g : ℕ → ℕ → ℝ) :
    addf (F := Ideal) (s := ⟨2, ![a, b]⟩) (φ := φ) (up2 f) (up2 g) = up2 fun i j => f i j + g i j :=
  funext fun _ => (EReal.coe_add _ _).symm
theorem subf_up2 (f g : ℕ → ℕ → ℝ) :
    subf (F := Ideal) (s := ⟨2, ![a, b]⟩) (φ := φ) (up2 f) (up2 g) = up2 fun i j => f i j - g i j :=
  funext fun _ => (EReal.coe_sub _ _).symm
theorem mulf_up2 (f g : ℕ → ℕ → ℝ) :
    mulf (F := Ideal) (s := ⟨2, ![a, b]⟩) (φ := φ) (up2 f) (up2 g) = up2 fun i j => f i j * g i j :=
  funext fun _ => (EReal.coe_mul _ _).symm
theorem exp_up2 (f : ℕ → ℕ → ℝ) :
    exp (F := Ideal) (s := ⟨2, ![a, b]⟩) (φ := φ) (up2 f) = up2 fun i j => Real.exp (f i j) := rfl
theorem truncf_up2 {ψ : FTy} (f : ℕ → ℕ → ℝ) (h : ψ.bits < φ.bits) :
    truncf (F := Ideal) (s := ⟨2, ![a, b]⟩) (φ := φ) ψ (up2 f) h = up2 f := rfl
theorem extf_up2 {ψ : FTy} (f : ℕ → ℕ → ℝ) (h : φ.bits < ψ.bits) :
    extf (F := Ideal) (s := ⟨2, ![a, b]⟩) (φ := φ) ψ (up2 f) h = up2 f := rfl

/-- A quotient by a nowhere vanishing tile. -/
theorem divf_up2 (f g : ℕ → ℕ → ℝ) (h : ∀ i < a, ∀ j < b, g i j ≠ 0) :
    divf (F := Ideal) (s := ⟨2, ![a, b]⟩) (φ := φ) (up2 f) (up2 g) = up2 fun i j => f i j / g i j :=
  funext fun i => by
    show Ideal.div ((f _ _ : ℝ) : EReal) ((g _ _ : ℝ) : EReal) = _
    rw [Ideal.div_coe (h _ (i 0).isLt _ (i 1).isLt), ← EReal.coe_mul, mul_one_div]; rfl
/-- The logarithm of a positive tile. -/
theorem log_up2 (f : ℕ → ℕ → ℝ) (h : ∀ i < a, ∀ j < b, 0 < f i j) :
    log (F := Ideal) (s := ⟨2, ![a, b]⟩) (φ := φ) (up2 f) = up2 fun i j => Real.log (f i j) :=
  funext fun i => by
    show Ideal.log ((f _ _ : ℝ) : EReal) = _
    rw [Ideal.log_coe, if_neg (not_le.mpr (h _ (i 0).isLt _ (i 1).isLt))]; rfl

/-- The pattern of f32's one eighth. -/
theorem ofBits_eighth : Ideal.ofBits .f32 0x3E000000#32 = ((1 / 8 : ℝ) : EReal) := by
  simp [Ideal.ofBits, Ideal.ieee, zpow_neg]; norm_num [← EReal.coe_mul]
/-- The pattern of f32's `-∞`. -/
theorem ofBits_negInf : Ideal.ofBits .f32 0xFF800000#32 = ⊥ := by
  simp [Ideal.ofBits, Ideal.ieee]
/-- The zero pattern of bf16. -/
theorem ofBits_zero_bf16 : Ideal.ofBits .bf16 0x0000#16 = 0 := by
  simp [Ideal.ofBits, Ideal.ieee]

theorem splat_zero : broadcast ⟨2, ![a, b]⟩ (Scalar.ofBits (F := Ideal) .f32 0x00000000#32) = up2 fun _ _ => 0 :=
  funext fun _ => Ideal.ofBits_zero_f32
theorem splat_zero_bf16 : broadcast ⟨2, ![a, b]⟩ (Scalar.ofBits (F := Ideal) .bf16 0x0000#16) = up2 fun _ _ => 0 :=
  funext fun _ => ofBits_zero_bf16
theorem splat_eighth : broadcast ⟨2, ![a, b]⟩ (Scalar.ofBits (F := Ideal) .f32 0x3E000000#32) = up2 fun _ _ => 1 / 8 :=
  funext fun _ => ofBits_eighth
theorem splat_negInf : broadcast ⟨2, ![a, b]⟩ (Scalar.ofBits (F := Ideal) .f32 0xFF800000#32) = fun _ => (⊥ : EReal) :=
  funext fun _ => ofBits_negInf
theorem constant_zero : constant (F := Ideal) ⟨2, ![a, b]⟩ .f32 0x00000000#32 = up2 fun _ _ => 0 :=
  funext fun _ => Ideal.ofBits_zero_f32

/-- A product with the right operand contracted on its last axis. -/
theorem matmul_nt {M K N : ℕ} {φ₁ φ₂ : FTy} (prec : Option ContractPrecision) (f g h : ℕ → ℕ → ℝ) :
    FloatOps.matmul (F := Ideal) (φ₁ := φ₁) (φ₂ := φ₂) (DotDims.transposedRhs M K N) prec (up2 f) (up2 g) (up2 h)
      = up2 fun i j => h i j + ∑ k ∈ Finset.range K, f i k * g j k := by
  funext i
  obtain ⟨r, s, rfl⟩ : ∃ (r : Fin M) (s : Fin N), i = ix2 r s := ⟨i 0, i 1, funext fun x => by
    match x with
    | ⟨0, _⟩ => rfl
    | ⟨1, _⟩ => rfl⟩
  rw [Ideal.matmul_transposedRhs_apply]
  show ((h _ _ : ℝ) : EReal) + ∑ k : Fin K, ((f r.val k.val : ℝ) : EReal) * ((g s.val k.val : ℝ) : EReal) = ((_ : ℝ) : EReal)
  simp only [← EReal.coe_mul]
  rw [coe_sum_fin K fun k => f r.val k * g s.val k, ← EReal.coe_add]; rfl
/-- A plain product. -/
theorem matmul_nn {M K N : ℕ} {φ₁ φ₂ : FTy} (prec : Option ContractPrecision) (f g h : ℕ → ℕ → ℝ) :
    FloatOps.matmul (F := Ideal) (φ₁ := φ₁) (φ₂ := φ₂) (DotDims.plain M K N) prec (up2 f) (up2 g) (up2 h)
      = up2 fun i j => h i j + ∑ k ∈ Finset.range K, f i k * g k j := by
  funext i
  obtain ⟨r, s, rfl⟩ : ∃ (r : Fin M) (s : Fin N), i = ix2 r s := ⟨i 0, i 1, funext fun x => by
    match x with
    | ⟨0, _⟩ => rfl
    | ⟨1, _⟩ => rfl⟩
  rw [Ideal.matmul_plain_apply]
  show ((h _ _ : ℝ) : EReal) + ∑ k : Fin K, ((f r.val k.val : ℝ) : EReal) * ((g k.val s.val : ℝ) : EReal) = ((_ : ℝ) : EReal)
  simp only [← EReal.coe_mul]
  rw [coe_sum_fin K fun k => f r.val k * g k s.val, ← EReal.coe_add]; rfl

/-- The sum of each row. -/
theorem rowSum_up2 (f : ℕ → ℕ → ℝ) (ds : List (Fin (⟨2, ![a, b]⟩ : Shape).rank)) (h : (⟨2, ![a, b]⟩ : Shape).Reduces ds ⟨1, ![a]⟩)
    (hφ : FKind.Formats .f32) (acc : BitVec 32) (hacc : acc = 0x00000000#32) (hds : ds = [1]) :
    multiReduction (F := Ideal) (φ := .f32) .add ds ⟨1, ![a]⟩ (up2 f : FVec Ideal ⟨2, ![a, b]⟩ .f32) acc h hφ hacc
      = up1 fun i => ∑ k ∈ Finset.range b, f i k := by
  funext i
  subst hds
  exact (Ideal.multiReduction_add_single (φ := .f32) (up2 f : FVec Ideal ⟨2, ![a, b]⟩ .f32) acc h hφ hacc i).trans
    (coe_sum_fin b fun k => f (i 0).val k)

/-- A shape cast of a shape to itself. -/
theorem cast_self {α : Type} {s : Shape} (x : s.Idx → α) (h : s.ShapeCasts s) : shapeCast s x h = x := shapeCast_self x h
theorem cast_1_2 (f : ℕ → ℝ) (h : (⟨1, ![a]⟩ : Shape).ShapeCasts ⟨2, ![a, 1]⟩) :
    shapeCast ⟨2, ![a, 1]⟩ (up1 f) h = up2 fun i _ => f i := by
  funext i
  rw [shapeCast_apply (up1 f) h i (ix1 (i 0)) (by
    have := (i 1).isLt
    rw [Shape.rowMajor_val_one, Shape.rowMajor_val_two]
    show (i 0).val = (i 0).val * 1 + (i 1).val
    simp at this; omega)]
  rfl
theorem cast_drop (f : ℕ → ℕ → ℕ → ℝ) (h : (⟨3, ![1, a, b]⟩ : Shape).ShapeCasts ⟨2, ![a, b]⟩) :
    shapeCast ⟨2, ![a, b]⟩ (up3 f) h = up2 fun i j => f 0 i j := by
  funext i
  exact shapeCast_dropUnit_apply ![a, b] (up3 f) h i
theorem cast_add (f : ℕ → ℕ → ℝ) (h : (⟨2, ![a, b]⟩ : Shape).ShapeCasts ⟨3, ![1, a, b]⟩) :
    shapeCast ⟨3, ![1, a, b]⟩ (up2 f) h = up3 fun _ i j => f i j := by
  funext i
  exact shapeCast_addUnit_apply ![a, b] (up2 f) h i
theorem cast_4_2 (f : ℕ → ℕ → ℕ → ℕ → ℝ) (h : (⟨4, ![1, 1, 1, a]⟩ : Shape).ShapeCasts ⟨2, ![1, a]⟩) :
    shapeCast ⟨2, ![1, a]⟩ (up4 f) h = up2 fun _ j => f 0 0 0 j := by
  funext i
  rw [shapeCast_apply (up4 f) h i (ix4 0 0 0 (i 1)) (by
    have := (i 0).isLt
    rw [Shape.rowMajor_val_two, Shape.rowMajor_val_four]
    show ((0 * 1 + 0) * 1 + 0) * a + (i 1).val = (i 0).val * a + (i 1).val
    simp at this; simp [this])]
  rfl

theorem bcast_col (f : ℕ → ℕ → ℝ) (h : (⟨2, ![a, 1]⟩ : Shape).Broadcasts ⟨2, ![a, b]⟩) :
    broadcastTo ⟨2, ![a, b]⟩ (up2 f) h = up2 fun i _ => f i 0 := by
  funext i
  refine (broadcastTo_apply (up2 f) h i (ix2 (i 0) 0) fun x => ?_).trans rfl
  match x with
  | ⟨0, _⟩ =>
    show (i 0).val = if a = 1 then 0 else (i 0).val
    split
    · have := (i 0).isLt; simp at this; omega
    · rfl
  | ⟨1, _⟩ => rfl
theorem bcast_row (f : ℕ → ℕ → ℝ) (h : (⟨2, ![1, b]⟩ : Shape).Broadcasts ⟨2, ![a, b]⟩) :
    broadcastTo ⟨2, ![a, b]⟩ (up2 f) h = up2 fun _ j => f 0 j := by
  funext i
  refine (broadcastTo_apply (up2 f) h i (ix2 0 (i 1)) fun x => ?_).trans rfl
  match x with
  | ⟨0, _⟩ => rfl
  | ⟨1, _⟩ =>
    show (i 1).val = if b = 1 then 0 else (i 1).val
    split
    · have := (i 1).isLt; simp at this; omega
    · rfl
theorem bcast_msk_row (P : ℕ → ℕ → Bool) (h : (⟨2, ![1, b]⟩ : Shape).Broadcasts ⟨2, ![a, b]⟩) :
    broadcastTo ⟨2, ![a, b]⟩ (msk2 P) h = msk2 fun _ j => P 0 j := by
  funext i
  refine (broadcastTo_apply (msk2 P) h i (ix2 0 (i 1)) fun x => ?_).trans rfl
  match x with
  | ⟨0, _⟩ => rfl
  | ⟨1, _⟩ =>
    show (i 1).val = if b = 1 then 0 else (i 1).val
    split
    · have := (i 1).isLt; simp at this; omega
    · rfl

/-! ## Masks -/

theorem bit_eq_one (p : Bool) : (BitVec.ofBool p = 1#1) ↔ p = true := by cases p <;> decide

/-- A selection between two real tiles. -/
theorem select_up2 (P : ℕ → ℕ → Bool) (f g : ℕ → ℕ → ℝ) :
    select (msk2 P : IVec ⟨2, ![a, b]⟩ 1) (up2 f) (up2 g) = up2 fun i j => if P i j then f i j else g i j := by
  funext i
  show (if BitVec.ofBool _ = 1#1 then _ else _) = _
  simp only [bit_eq_one, up2]
  split <;> rfl
/-- A selection between a real tile and `-∞`. -/
theorem select_dn2 (P : ℕ → ℕ → Bool) (f : ℕ → ℕ → ℝ) :
    select (msk2 P : IVec ⟨2, ![a, b]⟩ 1) (up2 f) (fun _ => (⊥ : EReal)) = dn2 P f := by
  funext i
  show (if BitVec.ofBool _ = 1#1 then _ else _) = _
  simp only [bit_eq_one, dn2]
  split <;> rfl
theorem subf_dn2 (P : ℕ → ℕ → Bool) (f g : ℕ → ℕ → ℝ) :
    subf (F := Ideal) (s := ⟨2, ![a, b]⟩) (φ := φ) (dn2 P f) (up2 g) = dn2 P fun i j => f i j - g i j := by
  funext i
  show (dn2 P f i - up2 g i : EReal) = _
  simp only [dn2, up2]
  split
  · exact (EReal.coe_sub _ _).symm
  · rfl
theorem exp_dn2 (P : ℕ → ℕ → Bool) (f : ℕ → ℕ → ℝ) :
    exp (F := Ideal) (s := ⟨2, ![a, b]⟩) (φ := φ) (dn2 P f) = up2 fun i j => if P i j then Real.exp (f i j) else 0 := by
  funext i
  show Ideal.exp (dn2 P f i) = _
  simp only [dn2, up2]
  split
  · rfl
  · rfl

theorem toInt_small (n : ℕ) (h : n < 4096) : (BitVec.ofNat 32 n).toInt = n := by
  rw [BitVec.toInt_eq_toNat_of_lt, BitVec.toNat_ofNat, Nat.mod_eq_of_lt] <;> simp [BitVec.toNat_ofNat] <;> omega

/-- The lanes below `m`. -/
theorem lanes_lt (m : ℕ) (hm : m < 4096) (hb : b < 4096) (h : (⟨2, ![1, b]⟩ : Shape).Iotas .tc 32 [1]) :
    cmpi .slt (iota .tc ⟨2, ![1, b]⟩ 32 [1] h) (broadcast ⟨2, ![1, b]⟩ (BitVec.ofNat 32 m)) = msk2 fun _ j => decide (j < m) := by
  funext i
  have := (i 1).isLt
  show IntOp.cmpi .slt (iota .tc _ 32 [1] h i) (BitVec.ofNat 32 m) = _
  rw [iota_single_apply]
  simp only [IntOp.cmpi, msk2, BitVec.slt]
  simp at this
  rw [toInt_small _ hm, toInt_small _ (by omega)]
  simp
/-- The lanes from `m` on. -/
theorem lanes_ge (m : ℕ) (hm : m < 4096) (hb : b < 4096) (h : (⟨2, ![1, b]⟩ : Shape).Iotas .tc 32 [1]) :
    cmpi .sge (iota .tc ⟨2, ![1, b]⟩ 32 [1] h) (broadcast ⟨2, ![1, b]⟩ (BitVec.ofNat 32 m)) = msk2 fun _ j => decide (m ≤ j) := by
  funext i
  have := (i 1).isLt
  show IntOp.cmpi .sge (iota .tc _ 32 [1] h i) (BitVec.ofNat 32 m) = _
  rw [iota_single_apply]
  simp only [IntOp.cmpi, msk2, BitVec.sle]
  simp at this
  rw [toInt_small _ hm, toInt_small _ (by omega)]
  simp
/-- One lane. -/
theorem lanes_eq (m : ℕ) (hm : m < 4096) (hb : b < 4096) (h : (⟨2, ![1, b]⟩ : Shape).Iotas .tc 32 [1]) :
    cmpi .eq (iota .tc ⟨2, ![1, b]⟩ 32 [1] h) (broadcast ⟨2, ![1, b]⟩ (BitVec.ofNat 32 m)) = msk2 fun _ j => decide (j = m) := by
  funext i
  have := (i 1).isLt
  show IntOp.cmpi .eq (iota .tc _ 32 [1] h i) (BitVec.ofNat 32 m) = _
  rw [iota_single_apply]
  simp at this
  have key : (BitVec.ofNat 32 (i 1).val = BitVec.ofNat 32 m) ↔ (i 1).val = m := by
    constructor
    · intro e
      have := congrArg BitVec.toNat e
      simp at this; omega
    · intro e; rw [e]
  simp only [IntOp.cmpi, msk2]
  congr 1
  by_cases e : (i 1).val = m
  · simp [e]
  · simp only [e, decide_false]
    simpa using fun h' => e (key.mp h')
/-- The positions on and below the diagonal (second coordinate at most the first). -/
theorem lower (ha : a < 4096) (hb : b < 4096) (h0 : (⟨2, ![a, b]⟩ : Shape).Iotas .tc 32 [0]) (h1 : (⟨2, ![a, b]⟩ : Shape).Iotas .tc 32 [1]) :
    cmpi .sle (iota .tc ⟨2, ![a, b]⟩ 32 [1] h1) (iota .tc ⟨2, ![a, b]⟩ 32 [0] h0) = msk2 fun i j => decide (j ≤ i) := by
  funext i
  have i0 := (i 0).isLt
  have i1 := (i 1).isLt
  show IntOp.cmpi .sle (iota .tc _ 32 [1] h1 i) (iota .tc _ 32 [0] h0 i) = _
  rw [iota_single_apply, iota_single_apply]
  simp only [IntOp.cmpi, msk2, BitVec.sle]
  simp at i0 i1
  rw [toInt_small _ (by omega), toInt_small _ (by omega)]
  simp
/-- The positions on and above the diagonal (first coordinate at most the second). -/
theorem upper (ha : a < 4096) (hb : b < 4096) (h0 : (⟨2, ![a, b]⟩ : Shape).Iotas .tc 32 [0]) (h1 : (⟨2, ![a, b]⟩ : Shape).Iotas .tc 32 [1]) :
    cmpi .sle (iota .tc ⟨2, ![a, b]⟩ 32 [0] h0) (iota .tc ⟨2, ![a, b]⟩ 32 [1] h1) = msk2 fun i j => decide (i ≤ j) := by
  funext i
  have i0 := (i 0).isLt
  have i1 := (i 1).isLt
  show IntOp.cmpi .sle (iota .tc _ 32 [0] h0 i) (iota .tc _ 32 [1] h1 i) = _
  rw [iota_single_apply, iota_single_apply]
  simp only [IntOp.cmpi, msk2, BitVec.sle]
  simp at i0 i1
  rw [toInt_small _ (by omega), toInt_small _ (by omega)]
  simp

/-! ## Loads through a unit-stride rectangle of a buffer whose contents are a real tile -/

section Load
variable {sig : RefSig} {κ : Kind} {sp : Space} {a' b' c' d' : ℕ}

theorem load2 (m : Memref sig κ sp ⟨2, ![a, b]⟩ .f32) (h : m.IsWhole) (f : ℕ → ℕ → ℝ) (off : Fin 2 → ℕ)
    (inb : ∀ x, off x + (⟨2, ![a', b']⟩ : Shape).size x ≤ (⟨2, ![a, b]⟩ : Shape).size x) :
    View.readAt (Elt Ideal) m.view (Rect.unit (s := ⟨2, ![a, b]⟩) off (⟨2, ![a', b']⟩ : Shape).size inb).toLoadRect (h.unread (up2 f))
      = (up2 (fun i j => f (off 0 + i) (off 1 + j)) : Vec Ideal ⟨2, ![a', b']⟩ .f32) :=
  funext fun i => (congrFun (h.read_unread (Val := Elt Ideal) (up2 f)) _).trans (by
    show ((f (off 0 + 1 * (i 0).val) (off 1 + 1 * (i 1).val) : ℝ) : EReal) = _
    simp only [one_mul]; rfl)
theorem load2_bf16 (m : Memref sig κ sp ⟨2, ![a, b]⟩ .bf16) (h : m.IsWhole) (f : ℕ → ℕ → ℝ) (off : Fin 2 → ℕ)
    (inb : ∀ x, off x + (⟨2, ![a', b']⟩ : Shape).size x ≤ (⟨2, ![a, b]⟩ : Shape).size x) :
    View.readAt (Elt Ideal) m.view (Rect.unit (s := ⟨2, ![a, b]⟩) off (⟨2, ![a', b']⟩ : Shape).size inb).toLoadRect (h.unread (up2 f))
      = (up2 (fun i j => f (off 0 + i) (off 1 + j)) : Vec Ideal ⟨2, ![a', b']⟩ .bf16) :=
  funext fun i => (congrFun (h.read_unread (Val := Elt Ideal) (up2 f)) _).trans (by
    show ((f (off 0 + 1 * (i 0).val) (off 1 + 1 * (i 1).val) : ℝ) : EReal) = _
    simp only [one_mul]; rfl)
theorem load3 (m : Memref sig κ sp ⟨3, ![a, b, c]⟩ .f32) (h : m.IsWhole) (f : ℕ → ℕ → ℕ → ℝ) (off : Fin 3 → ℕ)
    (inb : ∀ x, off x + (⟨3, ![a', b', c']⟩ : Shape).size x ≤ (⟨3, ![a, b, c]⟩ : Shape).size x) :
    View.readAt (Elt Ideal) m.view (Rect.unit (s := ⟨3, ![a, b, c]⟩) off (⟨3, ![a', b', c']⟩ : Shape).size inb).toLoadRect (h.unread (up3 f))
      = (up3 (fun i j k => f (off 0 + i) (off 1 + j) (off 2 + k)) : Vec Ideal ⟨3, ![a', b', c']⟩ .f32) :=
  funext fun i => (congrFun (h.read_unread (Val := Elt Ideal) (up3 f)) _).trans (by
    show ((f (off 0 + 1 * (i 0).val) (off 1 + 1 * (i 1).val) (off 2 + 1 * (i 2).val) : ℝ) : EReal) = _
    simp only [one_mul]; rfl)
theorem load4 (m : Memref sig κ sp ⟨4, ![a, b, c, d]⟩ .f32) (h : m.IsWhole) (f : ℕ → ℕ → ℕ → ℕ → ℝ) (off : Fin 4 → ℕ)
    (inb : ∀ x, off x + (⟨4, ![a', b', c', d']⟩ : Shape).size x ≤ (⟨4, ![a, b, c, d]⟩ : Shape).size x) :
    View.readAt (Elt Ideal) m.view (Rect.unit (s := ⟨4, ![a, b, c, d]⟩) off (⟨4, ![a', b', c', d']⟩ : Shape).size inb).toLoadRect (h.unread (up4 f))
      = (up4 (fun i j k l => f (off 0 + i) (off 1 + j) (off 2 + k) (off 3 + l)) : Vec Ideal ⟨4, ![a', b', c', d']⟩ .f32) :=
  funext fun i => (congrFun (h.read_unread (Val := Elt Ideal) (up4 f)) _).trans (by
    show ((f (off 0 + 1 * (i 0).val) (off 1 + 1 * (i 1).val) (off 2 + 1 * (i 2).val) (off 3 + 1 * (i 3).val) : ℝ) : EReal) = _
    simp only [one_mul]; rfl)
end Load

end Tile
-- ==== Proof.Spec.lean ====
/- The attention of the training step, and its gradients, as real sums.

   `Z i j` are the projected activations (columns 3072.. the queries, 3584.. the keys, 4096.. the values, 64 per head),
   `C h i` the running sums of the log forget gates, `D i j` the cotangent of the attention's output.  `top h i` is any
   real shift of row `i` of head `h`; nothing below depends on which one. -/
module

public import Mathlib.Analysis.SpecialFunctions.Log.Basic
public import Mathlib.Algebra.BigOperators.Field
public import Mathlib.Tactic.Linarith
public import Mathlib.Tactic.Ring
public import Mathlib.Tactic.FieldSimp

@[expose] public section

noncomputable section

namespace Spec

open Finset

variable (Z : ℕ → ℕ → ℝ) (C : ℕ → ℕ → ℝ) (D O : ℕ → ℕ → ℝ) (top L E : ℕ → ℕ → ℝ)

/-- The score of query `i` against key `j`. -/
def S (h i j : ℕ) : ℝ :=
  (∑ d ∈ range 64, Z i (3072 + (64 * h + d)) * Z j (3584 + (64 * h + d))) * (1 / 8) + (C h i - C h j)
/-- A shifted and masked exponential of a score. -/
def A (h i j : ℕ) : ℝ := if j ≤ i then Real.exp (S Z C h i j - top h i) else 0
/-- The sum of a row of them. -/
def T (h i : ℕ) : ℝ := ∑ j ∈ range 2048, A Z C top h i j
/-- The log of the sum of the exponentials of a row of scores. -/
def lse (h i : ℕ) : ℝ := top h i + Real.log (T Z C top h i)
/-- The attention's output. -/
def out (i j : ℕ) : ℝ := ∑ x ∈ range 2048, Z x (4096 + j) * (A Z C top (j / 64) i x / T Z C top (j / 64) i)
/-- The cotangent of one softmax weight. -/
def gp (h i x : ℕ) : ℝ := ∑ d ∈ range 64, D i (64 * h + d) * Z x (4096 + (64 * h + d))
/-- The sum of the cotangent times the output over a head's columns. -/
def dot (h i : ℕ) : ℝ := ∑ d ∈ range 64, D i (64 * h + d) * O i (64 * h + d)
/-- The cotangent of one score, from the saved log sums and row sums. -/
def ds (h i x : ℕ) : ℝ := (if x ≤ i then Real.exp (S Z C h i x - L h i) else 0) * (gp Z D h i x - E h i)

theorem T_pos (h i : ℕ) : 0 < T Z C top h i := by
  unfold T
  refine lt_of_lt_of_le (Real.exp_pos (S Z C h i 0 - top h i)) ?_
  refine le_trans (le_of_eq ?_) (single_le_sum (f := A Z C top h i) (fun j _ => ?_) (mem_range.mpr (by norm_num : 0 < 2048)))
  · rw [A, if_pos (Nat.zero_le _)]
  · unfold A; split
    · exact (Real.exp_pos _).le
    · exact le_refl _

/-- A softmax weight is the exponential of the score less the log sum. -/
theorem weight (h i x : ℕ) :
    (if x ≤ i then Real.exp (S Z C h i x - lse Z C top h i) else 0) = A Z C top h i x / T Z C top h i := by
  unfold A
  split
  · rw [lse, ← sub_sub, Real.exp_sub, Real.exp_log (T_pos Z C top h i)]
  · rw [zero_div]

/-- The row sum of cotangent times output is the weighted sum of the weights' cotangents. -/
theorem dot_out (h i : ℕ) :
    dot D (out Z C top) h i = ∑ x ∈ range 2048, gp Z D h i x * (A Z C top h i x / T Z C top h i) := by
  unfold dot out gp
  simp only [mul_sum, sum_mul]
  rw [sum_comm]
  refine sum_congr rfl fun x _ => sum_congr rfl fun d hd => ?_
  have hd := mem_range.mp hd
  rw [show (64 * h + d) / 64 = h by omega]
  ring

/-- The gradient through the softmax, in the shape the vector-Jacobian product has, is `ds` at the saved values. -/
theorem ds_eq (h i x : ℕ) :
    (if x ≤ i then (gp Z D h i x / T Z C top h i
        + -(∑ y ∈ range 2048, gp Z D h i y * (1 / (T Z C top h i * T Z C top h i)) * A Z C top h i y)) * A Z C top h i x else 0)
      = ds Z C D (lse Z C top) (dot D (out Z C top)) h i x := by
  unfold ds
  rw [weight, dot_out]
  have hT := (T_pos Z C top h i).ne'
  have e : (∑ y ∈ range 2048, gp Z D h i y * (1 / (T Z C top h i * T Z C top h i)) * A Z C top h i y)
      = (∑ y ∈ range 2048, gp Z D h i y * (A Z C top h i y / T Z C top h i)) / T Z C top h i := by
    rw [sum_div]
    refine sum_congr rfl fun y _ => ?_
    field_simp
  rw [e]
  split
  · field_simp
    ring
  · rename_i hx
    rw [A, if_neg hx]; ring

/-- A sum over the keys up to a row, split at the row's block. -/
theorem sum_causal (f : ℕ → ℝ) (n r : ℕ) (hn : n < 8) (hr : r < 256) :
    ∑ x ∈ range 2048, (if x ≤ 256 * n + r then f x else 0)
      = ∑ x ∈ range (256 * n), f x + ∑ s ∈ range 256, (if s ≤ r then f (256 * n + s) else 0) := by
  have e : 2048 = 256 * n + (256 + (2048 - 256 * n - 256)) := by omega
  rw [e, sum_range_add, sum_range_add]
  have h1 : ∑ x ∈ range (256 * n), (if x ≤ 256 * n + r then f x else 0) = ∑ x ∈ range (256 * n), f x :=
    sum_congr rfl fun x hx => if_pos (by have := mem_range.mp hx; omega)
  have h2 : ∑ s ∈ range 256, (if 256 * n + s ≤ 256 * n + r then f (256 * n + s) else 0)
      = ∑ s ∈ range 256, (if s ≤ r then f (256 * n + s) else 0) :=
    sum_congr rfl fun s _ => by simp only [Nat.add_le_add_iff_left]
  have h3 : ∑ s ∈ range (2048 - 256 * n - 256), (if 256 * n + (256 + s) ≤ 256 * n + r then f (256 * n + (256 + s)) else 0) = 0 :=
    sum_eq_zero fun s _ => if_neg (by omega)
  rw [h1, h2, h3, add_zero]

/-- A sum over the queries from a key on, split at the key's block. -/
theorem sum_anticausal (f : ℕ → ℝ) (n r : ℕ) (hn : n < 8) (hr : r < 256) :
    ∑ x ∈ range 2048, (if 256 * n + r ≤ x then f x else 0)
      = ∑ s ∈ range 256, (if r ≤ s then f (256 * n + s) else 0) + ∑ x ∈ range (256 * (7 - n)), f (256 * (n + 1) + x) := by
  have e : 2048 = 256 * n + (256 + 256 * (7 - n)) := by omega
  rw [e, sum_range_add, sum_range_add]
  have h1 : ∑ x ∈ range (256 * n), (if 256 * n + r ≤ x then f x else 0) = 0 :=
    sum_eq_zero fun x hx => if_neg (by have := mem_range.mp hx; omega)
  have h2 : ∑ s ∈ range 256, (if 256 * n + r ≤ 256 * n + s then f (256 * n + s) else 0)
      = ∑ s ∈ range 256, (if r ≤ s then f (256 * n + s) else 0) :=
    sum_congr rfl fun s _ => by simp only [Nat.add_le_add_iff_left]
  have h3 : ∑ s ∈ range (256 * (7 - n)), (if 256 * n + r ≤ 256 * n + (256 + s) then f (256 * n + (256 + s)) else 0)
      = ∑ x ∈ range (256 * (7 - n)), f (256 * (n + 1) + x) :=
    sum_congr rfl fun s _ => by rw [if_pos (by omega), show 256 * n + (256 + s) = 256 * (n + 1) + s by omega]
  rw [h1, h2, h3, zero_add]

/-- A sum over the 128 lanes of a pair of heads with the second head's lanes zeroed. -/
theorem sum_lo (f : ℕ → ℝ) : ∑ t ∈ range 128, (if t < 64 then f t else 0) = ∑ d ∈ range 64, f d := by
  rw [show 128 = 64 + 64 from rfl, sum_range_add]
  rw [sum_congr rfl fun x hx => if_pos (mem_range.mp hx), sum_eq_zero (s := range 64) (f := fun x => if 64 + x < 64 then f (64 + x) else 0) fun x _ => if_neg (by omega), add_zero]
/-- The same with the first head's lanes zeroed. -/
theorem sum_hi (f : ℕ → ℝ) : ∑ t ∈ range 128, (if 64 ≤ t then f t else 0) = ∑ d ∈ range 64, f (64 + d) := by
  rw [show 128 = 64 + 64 from rfl, sum_range_add]
  rw [sum_eq_zero (s := range 64) fun x hx => if_neg (not_le.mpr (mem_range.mp hx)), zero_add]
  exact sum_congr rfl fun x _ => if_pos (by omega)

end Spec
-- ==== Proof.RefF.lean ====
/- The attention reference, operation by operation, on real inputs: its output and the log sums of its rows. -/
module

public import proofs.«01_k».proof.Proof.Gen.ReferenceFIdeal.Read
public import proofs.«01_k».proof.Proof.Tile
public import proofs.«01_k».proof.Proof.Spec

@[expose] public section

noncomputable section

namespace RefF

open Cert.ReferenceFIdeal Cert.ReferenceFIdeal.Gen Cert.ReferenceFIdeal.Read Idealize.ShloMosaic Idealize.ShloMosaic.TcCoe Idealize.ShloMosaic.ValueIdx Tile Finset

/-- A maximum of values below `⊤`, one of them real, is real. -/
theorem fold_max_real {n : ℕ} (f : Fin n → EReal) (hf : ∀ k, f k ≠ ⊤) (k : Fin n) (hk : f k ≠ ⊥) :
    (((Finset.univ : Finset (Fin n)).fold (FloatOps.maximumf (F := Ideal) (φ := .f32)) (⊥ : EReal) f).toReal : EReal)
      = (Finset.univ : Finset (Fin n)).fold (FloatOps.maximumf (F := Ideal) (φ := .f32)) (⊥ : EReal) f := by
  show (((Finset.univ : Finset (Fin n)).fold max (⊥ : EReal) f).toReal : EReal) = (Finset.univ : Finset (Fin n)).fold max (⊥ : EReal) f
  refine EReal.coe_toReal (ne_of_lt ?_) (ne_of_gt ?_)
  · rw [Finset.fold_max_lt]
    exact ⟨bot_lt_top, fun x _ => lt_top_iff_ne_top.mpr (hf x)⟩
  · exact lt_of_lt_of_le (bot_lt_iff_ne_bot.mpr hk) ((Finset.le_fold_max _).mpr (Or.inr ⟨k, mem_univ _, le_refl _⟩))

/-- A comparison of two small naturals written as words. -/
theorem sge_ofNat (a b : ℕ) (ha : a < 4096) (hb : b < 4096) :
    IntOp.cmpi .sge (BitVec.ofNat 32 a) (BitVec.ofNat 32 b) = BitVec.ofBool (decide (b ≤ a)) := by
  simp only [IntOp.cmpi, BitVec.sle]
  rw [toInt_small _ ha, toInt_small _ hb]
  simp

variable (Z : ℕ → ℕ → ℝ) (C : ℕ → ℕ → ℝ)

/-- The two arguments as real arrays. -/
abbrev z : S2048x4608.Idx → EReal := up2 Z
abbrev cc : S8x2048.Idx → EReal := up2 C

theorem split64 (i h d : ℕ) (hh : h < 8) (hd : d < 64) :
    ((i * 8 + h) * 64 + d) / 512 = i ∧ ((i * 8 + h) * 64 + d) % 512 = 64 * h + d := by omega

theorem v2 : val_main_v2 (F := Ideal) (z Z) = up3 fun i h d => Z i (3072 + (64 * h + d)) := by
  funext i
  have h1 : (i 1).val < 8 := (i 1).isLt
  have h2 : (i 2).val < 64 := (i 2).isLt
  obtain ⟨e1, e2⟩ := split64 (i 0).val _ _ h1 h2
  rw [val_main_v2_apply, val_main_v1_apply, val_main_v0_apply]
  show ((Z ((((i 0).val * 8 + (i 1).val) * 64 + (i 2).val) / 512) (3072 + (((i 0).val * 8 + (i 1).val) * 64 + (i 2).val) % 512) : ℝ) : EReal) = _
  rw [e1, e2]; rfl
theorem v5 : val_main_v5 (F := Ideal) (z Z) = up3 fun i h d => Z i (3584 + (64 * h + d)) := by
  funext i
  have h1 : (i 1).val < 8 := (i 1).isLt
  have h2 : (i 2).val < 64 := (i 2).isLt
  obtain ⟨e1, e2⟩ := split64 (i 0).val _ _ h1 h2
  rw [val_main_v5_apply, val_main_v4_apply, val_main_v3_apply]
  show ((Z ((((i 0).val * 8 + (i 1).val) * 64 + (i 2).val) / 512) (3584 + (((i 0).val * 8 + (i 1).val) * 64 + (i 2).val) % 512) : ℝ) : EReal) = _
  rw [e1, e2]; rfl
theorem v8 : val_main_v8 (F := Ideal) (z Z) = up3 fun i h d => Z i (4096 + (64 * h + d)) := by
  funext i
  have h1 : (i 1).val < 8 := (i 1).isLt
  have h2 : (i 2).val < 64 := (i 2).isLt
  obtain ⟨e1, e2⟩ := split64 (i 0).val _ _ h1 h2
  rw [val_main_v8_apply, val_main_v7_apply, val_main_v6_apply]
  show ((Z ((((i 0).val * 8 + (i 1).val) * 64 + (i 2).val) / 512) (4096 + (((i 0).val * 8 + (i 1).val) * 64 + (i 2).val) % 512) : ℝ) : EReal) = _
  rw [e1, e2]; rfl

theorem v17 : val_main_v17 (F := Ideal) (z Z) (cc C) = up3 (Spec.S Z C) := by
  funext i
  rw [val_main_v17_apply, val_main_v11_apply, val_main_v9_apply, val_main_v10_apply, val_main_cst_apply, val_main_v16_apply,
    val_main_v14_apply, val_main_v15_apply, val_main_v12_apply, val_main_v13_apply, v2, v5]
  show (∑ k : Fin 64, ((Z (i 1).val (3072 + (64 * (i 0).val + k.val)) : ℝ) : EReal) * ((Z (i 2).val (3584 + (64 * (i 0).val + k.val)) : ℝ) : EReal)) * Ideal.ofBits .f32 0x3E000000#32
    + (((C (i 0).val (i 1).val : ℝ) : EReal) - ((C (i 0).val (i 2).val : ℝ) : EReal)) = _
  simp only [← EReal.coe_mul]
  rw [coe_sum_fin 64 fun k => Z (i 1).val (3072 + (64 * (i 0).val + k)) * Z (i 2).val (3584 + (64 * (i 0).val + k)), ofBits_eighth]
  rw [← EReal.coe_sub, ← EReal.coe_mul, ← EReal.coe_add]
  rfl

/-- The causal mask. -/
theorem mask (i : S8x2048x2048.Idx) : val_main_call0_v1 (F := Ideal) i = BitVec.ofBool (decide ((i 2).val ≤ (i 1).val)) := by
  have h1 : (i 1).val < 2048 := (i 1).isLt
  have h2 : (i 2).val < 2048 := (i 2).isLt
  rw [val_main_call0_v1_apply, val_main_v25_apply, val_main_v24_apply, val_main_v22_apply, val_main_v23_apply, val_main_v19_apply,
    val_main_v21_apply, val_main_v18_apply, val_main_v20_apply]
  exact sge_ofNat (i 1).val (i 2).val (by omega) (by omega)

theorem v26 (i : S8x2048x2048.Idx) : val_main_v26 (F := Ideal) (z Z) (cc C) i
    = if (i 2).val ≤ (i 1).val then ((Spec.S Z C (i 0).val (i 1).val (i 2).val : ℝ) : EReal) else ⊥ := by
  rw [val_main_v26_apply, mask, v17, val_main_call0_v2_apply, val_main_call0_v0_apply, val_main_cst_0_apply]
  show (if BitVec.ofBool (decide ((i 2).val ≤ (i 1).val)) = 1#1 then _ else Ideal.ofBits .f32 0xFF800000#32) = _
  rw [ofBits_negInf]
  by_cases h : (i 2).val ≤ (i 1).val
  · rw [if_pos h]; simp only [h]; rfl
  · rw [if_neg h]; simp only [h]; rfl

/-- The largest score of a row. -/
def top (h i : ℕ) : ℝ :=
  if p : h < 8 ∧ i < 2048 then (val_main_v27 (F := Ideal) (z Z) (cc C) (ix2 ⟨h, p.1⟩ ⟨i, p.2⟩)).toReal else 0

theorem v27 : val_main_v27 (F := Ideal) (z Z) (cc C) = up2 (top Z C) := by
  funext i
  obtain ⟨r, s, rfl⟩ : ∃ (r : Fin 8) (s : Fin 2048), i = ix2 r s := ⟨i 0, i 1, funext fun x => by
    match x with
    | ⟨0, _⟩ => rfl
    | ⟨1, _⟩ => rfl⟩
  show _ = ((top Z C r.val s.val : ℝ) : EReal)
  unfold top
  rw [dif_pos ⟨r.isLt, s.isLt⟩]
  show val_main_v27 (F := Ideal) (z Z) (cc C) (ix2 r s) = ((val_main_v27 (F := Ideal) (z Z) (cc C) (ix2 r s)).toReal : EReal)
  unfold val_main_v27
  rw [Host.reduce_eq_fold_single _ _ _ reducesTo_S8x2048x2048_S8x2048_d2 (by decide) h_S_]
  rw [show val_main_cst_1 (F := Ideal) (Shape.Idx.first h_S_) = (⊥ : EReal) from ofBits_negInf]
  symm
  refine fold_max_real (n := 2048) _ (fun k => ?_) ⟨0, by decide⟩ ?_
  · show val_main_v26 (F := Ideal) (z Z) (cc C) _ ≠ ⊤
    rw [v26]
    split
    · exact EReal.coe_ne_top _
    · exact bot_ne_top
  · show val_main_v26 (F := Ideal) (z Z) (cc C) _ ≠ ⊥
    rw [v26, if_pos]
    · exact EReal.coe_ne_bot _
    · exact Nat.zero_le _

/-- The exponential of a shifted and masked score. -/
theorem exp_shift (p : Prop) [Decidable p] (s t : ℝ) :
    Ideal.exp ((if p then (s : EReal) else ⊥) - (t : EReal)) = ((if p then Real.exp (s - t) else 0 : ℝ) : EReal) := by
  split
  · rw [← EReal.coe_sub]; rfl
  · rw [EReal.bot_sub]; rfl

theorem v31 : val_main_v31 (F := Ideal) (z Z) (cc C) = up3 (Spec.A Z C (top Z C)) := by
  funext i
  rw [val_main_v31_apply, val_main_v30_apply, v26, val_main_v29_apply, val_main_v28_apply, v27]
  exact exp_shift _ _ _
theorem v42 : val_main_v42 (F := Ideal) (z Z) (cc C) = up3 (Spec.A Z C (top Z C)) := by
  funext i
  rw [val_main_v42_apply, val_main_v41_apply, v26, val_main_v40_apply, val_main_v39_apply, val_main_v38_apply,
    show val_main_v36 (F := Ideal) (z Z) (cc C) = val_main_v27 (F := Ideal) (z Z) (cc C) from rfl, v27, val_main_v37_apply, val_main_cst_4_apply]
  show Ideal.exp (_ - max (Ideal.ofBits .f32 0xFF800000#32) _) = _
  rw [ofBits_negInf, max_eq_right bot_le]
  exact exp_shift _ _ _

theorem v32 : val_main_v32 (F := Ideal) (z Z) (cc C) = up2 (Spec.T Z C (top Z C)) := by
  funext i
  rw [val_main_v32_apply, v31, val_main_cst_2_apply]
  show Ideal.ofBits .f32 0x00000000#32 + ∑ k : Fin 2048, ((Spec.A Z C (top Z C) (i 0).val (i 1).val k.val : ℝ) : EReal) = _
  rw [coe_sum_fin 2048 fun k => Spec.A Z C (top Z C) (i 0).val (i 1).val k, Ideal.ofBits_zero_f32, zero_add]
  rfl
theorem v43 : val_main_v43 (F := Ideal) (z Z) (cc C) = up2 (Spec.T Z C (top Z C)) := by
  funext i
  rw [val_main_v43_apply, v42, val_main_cst_5_apply]
  show Ideal.ofBits .f32 0x00000000#32 + ∑ k : Fin 2048, ((Spec.A Z C (top Z C) (i 0).val (i 1).val k.val : ℝ) : EReal) = _
  rw [coe_sum_fin 2048 fun k => Spec.A Z C (top Z C) (i 0).val (i 1).val k, Ideal.ofBits_zero_f32, zero_add]
  rfl

/-- The log sums of the rows. -/
theorem v35 : val_main_v35 (F := Ideal) (z Z) (cc C) = up3 fun h i _ => Spec.lse Z C (top Z C) h i := by
  funext i
  rw [val_main_v35_apply, val_main_v34_apply, val_main_v33_apply, v32, val_main_v28_apply, v27]
  show ((top Z C (i 0).val (i 1).val : ℝ) : EReal) + Ideal.log ((Spec.T Z C (top Z C) (i 0).val (i 1).val : ℝ) : EReal) = _
  rw [Ideal.log_coe, if_neg (not_le.mpr (Spec.T_pos _ _ _ _ _)), ← EReal.coe_add]
  rfl

theorem div_real (a b : ℝ) (h : b ≠ 0) : Ideal.div (a : EReal) (b : EReal) = ((a / b : ℝ) : EReal) := by
  rw [Ideal.div_coe h, ← EReal.coe_mul, mul_one_div]

theorem v46 : val_main_v46 (F := Ideal) (z Z) (cc C) = up3 fun h i j => Spec.A Z C (top Z C) h i j / Spec.T Z C (top Z C) h i := by
  funext i
  rw [val_main_v46_apply, v42, val_main_v45_apply, val_main_v44_apply, v43]
  exact div_real _ _ (Spec.T_pos _ _ _ _ _).ne'

theorem v47 : val_main_v47 (F := Ideal) (z Z) (cc C)
    = up3 fun h d i => ∑ x ∈ range 2048, Z x (4096 + (64 * h + d)) * (Spec.A Z C (top Z C) h i x / Spec.T Z C (top Z C) h i) := by
  funext i
  rw [val_main_v47_apply, v8, v46]
  show (∑ k : Fin 2048, ((Z k.val (4096 + (64 * (i 0).val + (i 1).val)) : ℝ) : EReal)
    * ((Spec.A Z C (top Z C) (i 0).val (i 2).val k.val / Spec.T Z C (top Z C) (i 0).val (i 2).val : ℝ) : EReal)) = _
  simp only [← EReal.coe_mul]
  exact coe_sum_fin 2048 fun k => Z k (4096 + (64 * (i 0).val + (i 1).val)) * (Spec.A Z C (top Z C) (i 0).val (i 2).val k / Spec.T Z C (top Z C) (i 0).val (i 2).val)

/-- The attention's output. -/
theorem v49 : val_main_v49 (F := Ideal) (z Z) (cc C) = up2 (Spec.out Z C (top Z C)) := by
  funext i
  have h0 : (i 0).val < 2048 := (i 0).isLt
  have h1 : (i 1).val < 512 := (i 1).isLt
  rw [val_main_v49_apply, val_main_v48_apply, v47]
  have e0 : ((i 0).val * 512 + (i 1).val) / 512 = (i 0).val := by omega
  have e1 : ((i 0).val * 512 + (i 1).val) / 64 % 8 = (i 1).val / 64 := by omega
  have e2 : 64 * ((i 1).val / 64) + ((i 0).val * 512 + (i 1).val) % 64 = (i 1).val := by omega
  show ((∑ x ∈ range 2048, Z x (4096 + (64 * (((i 0).val * 512 + (i 1).val) / 64 % 8) + ((i 0).val * 512 + (i 1).val) % 64))
    * (Spec.A Z C (top Z C) (((i 0).val * 512 + (i 1).val) / 64 % 8) (((i 0).val * 512 + (i 1).val) / 512) x
      / Spec.T Z C (top Z C) (((i 0).val * 512 + (i 1).val) / 64 % 8) (((i 0).val * 512 + (i 1).val) / 512)) : ℝ) : EReal) = _
  rw [e0, e1, e2]
  rfl

end RefF
-- ==== Proof.FStep.lean ====
/- One key block of the attention's forward pass, on real inputs.

   The kernel carries, per head and query row, the largest score met so far, the sum of the shifted exponentials and the
   shifted sum of the values.  Which real number the shift is does not matter: a carry is described by the existence of
   one.  Before the first block the shift is `⊥` and both sums are zero. -/
module

public import proofs.«01_k».proof.Proof.Gen.KernelFIdeal.Skeleton
public import proofs.«01_k».proof.Proof.RefF

@[expose] public section

noncomputable section

namespace KF

open Cert.KernelFIdeal Cert.KernelFIdeal.Gen Idealize.ShloMosaic Idealize.ShloMosaic.TcCoe Idealize.ShloMosaic.ValueIdx Idealize.SL.Sem Tile Finset

theorem dot_nt : (dot_S256x128_S256x128_S256x256_1_1_0_0_n_n : DotDims S256x128 S256x128 S256x256) = DotDims.transposedRhs 256 128 256 := rfl
theorem dot_nn : (dot_S256x256_S256x128_S256x128_1_0_0_1_n_n : DotDims S256x256 S256x128 S256x128) = DotDims.plain 256 256 128 := rfl

/-- The largest entry of a row of a masked real tile is real when the mask leaves the row one entry. -/
theorem rowMax (P : ℕ → ℕ → Bool) (f : ℕ → ℕ → ℝ) (hP : ∀ r, ∃ s < 256, P r s = true) (j : S256.Idx)
    (ds : List (Fin S256x256.rank)) (h : S256x256.Reduces ds S256) (hφ : FKind.Formats .f32) (acc : BitVec 32) (hacc : acc = 0xFF800000#32) (hds : ds = [1]) :
    ∃ x : ℝ, multiReduction (F := Ideal) (φ := .f32) .maximumf ds S256 (dn2 P f : FVec Ideal S256x256 .f32) acc h hφ hacc j = (x : EReal) := by
  subst hds
  have e := Ideal.multiReduction_maximumf_single (φ := .f32) (dn2 P f : FVec Ideal S256x256 .f32) acc h hφ hacc j
  rw [show FloatOps.ofBits (F := Ideal) .f32 acc = (⊥ : EReal) by rw [hacc]; exact ofBits_negInf] at e
  obtain ⟨s, hs, hp⟩ := hP (j 0).val
  refine ⟨_, e.trans (RefF.fold_max_real (n := 256) _ (fun k => ?_) ⟨s, hs⟩ ?_).symm⟩
  · show (if P (j 0).val k.val then ((f (j 0).val k.val : ℝ) : EReal) else ⊥) ≠ ⊤
    split
    · exact EReal.coe_ne_top _
    · exact bot_ne_top
  · show (if P (j 0).val s then ((f (j 0).val s : ℝ) : EReal) else ⊥) ≠ ⊥
    rw [if_pos hp]
    exact EReal.coe_ne_bot _

/-- The next shift is real. -/
theorem shift (P : ℕ → ℕ → Bool) (f : ℕ → ℕ → ℝ) (hP : ∀ r, ∃ s < 256, P r s = true) (m : FVec Ideal S256x1 .f32)
    (hm : (m = fun _ => (⊥ : EReal)) ∨ ∃ M : ℕ → ℝ, m = up2 fun r _ => M r) :
    ∃ M : ℕ → ℝ, k0_pay31 (F := Ideal) m (dn2 P f) = (up2 fun r _ => M r : S256x1.Idx → EReal) := by
  have real (i : S256x1.Idx) : ((k0_pay31 (F := Ideal) m (dn2 P f) i : EReal).toReal : EReal) = (k0_pay31 (F := Ideal) m (dn2 P f) i : EReal) := by
    obtain ⟨x, hx⟩ := rowMax P f hP (ix1 (i 0)) [1] reduces_S256x256_S256 (.inl rfl) _ rfl rfl
    have hc : shapeCast S256x1 (multiReduction (F := Ideal) (φ := .f32) .maximumf [1] S256 (dn2 P f : FVec Ideal S256x256 .f32) 0xFF800000#32 reduces_S256x256_S256 (.inl rfl) rfl) shapeCasts_S256_S256x1 i = (x : EReal) := by
      rw [shapeCast_apply _ shapeCasts_S256_S256x1 i (ix1 (i 0)) (by
        have : (i 1).val < 1 := (i 1).isLt
        rw [Shape.rowMajor_val_one, Shape.rowMajor_val_two]
        show (i 0).val = (i 0).val * 1 + (i 1).val
        omega)]
      exact hx
    have hv : (k0_pay31 (F := Ideal) m (dn2 P f) i : EReal) = max (m i : EReal) (x : EReal) := by
      rw [← hc]; rfl
    rw [hv]
    rcases hm with rfl | ⟨M, rfl⟩
    · rw [max_eq_right bot_le]; rfl
    · show ((max ((M (i 0).val : ℝ) : EReal) (x : EReal)).toReal : EReal) = max ((M (i 0).val : ℝ) : EReal) (x : EReal)
      rcases max_choice ((M (i 0).val : ℝ) : EReal) (x : EReal) with e | e <;> rw [e] <;> rfl
  refine ⟨fun r => if h : r < 256 then (k0_pay31 (F := Ideal) m (dn2 P f) (ix2 ⟨r, h⟩ 0) : EReal).toReal else 0, funext fun i => ?_⟩
  have e : i = ix2 (i 0) 0 := funext fun x => by
    match x with
    | ⟨0, _⟩ => rfl
    | ⟨1, _⟩ => exact Subsingleton.elim (α := Fin 1) _ _
  show (k0_pay31 (F := Ideal) m (dn2 P f) i : EReal) = ((if h : (i 0).val < 256 then (k0_pay31 (F := Ideal) m (dn2 P f) (ix2 ⟨(i 0).val, h⟩ 0) : EReal).toReal else 0 : ℝ) : EReal)
  rw [dif_pos (show (i 0).val < 256 from (i 0).isLt)]
  refine (real i).symm.trans ?_
  rw [e]
  rfl

/-- The factor that moves the carried sums to the next shift. -/
theorem factor (M : ℕ → ℝ) (m : FVec Ideal S256x1 .f32) (hm : (m = fun _ => (⊥ : EReal)) ∨ ∃ M : ℕ → ℝ, m = up2 fun r _ => M r) :
    ∃ E : ℕ → ℝ, exp (F := Ideal) (s := S256x1) (φ := .f32) (subf m (up2 fun r _ => M r)) = (up2 fun r _ => E r : S256x1.Idx → EReal)
      ∧ ((m = (fun _ => (⊥ : EReal)) ∧ E = 0) ∨ ∃ M₀ : ℕ → ℝ, m = (up2 fun r _ => M₀ r : S256x1.Idx → EReal) ∧ E = fun r => Real.exp (M₀ r - M r)) := by
  rcases hm with rfl | ⟨M₀, rfl⟩
  · refine ⟨0, funext fun i => ?_, .inl ⟨rfl, rfl⟩⟩
    show Ideal.exp ((⊥ : EReal) - ((M (i 0).val : ℝ) : EReal)) = _
    rw [EReal.bot_sub]; rfl
  · refine ⟨fun r => Real.exp (M₀ r - M r), ?_, .inr ⟨M₀, rfl, rfl⟩⟩
    rw [subf_up2, exp_up2]

variable (s v : ℕ → ℕ → ℝ)

/-- What is carried after `n` key blocks of scores `s` and values `v`. -/
def Carry (n : ℕ) (m l : FVec Ideal S256x1 .f32) (a : FVec Ideal S256x128 .f32) : Prop :=
  (n = 0 ∧ m = (fun _ => (⊥ : EReal)) ∧ l = (up2 fun _ _ => 0 : S256x1.Idx → EReal) ∧ a = (up2 fun _ _ => 0 : S256x128.Idx → EReal))
  ∨ ∃ M : ℕ → ℝ, m = (up2 fun r _ => M r : S256x1.Idx → EReal)
    ∧ l = (up2 fun r _ => ∑ x ∈ range (256 * n), Real.exp (s r x - M r) : S256x1.Idx → EReal)
    ∧ a = (up2 fun r t => ∑ x ∈ range (256 * n), Real.exp (s r x - M r) * v x t : S256x128.Idx → EReal)

/-- One more key block, of which a mask keeps at least one key in every row. -/
theorem step (P : ℕ → ℕ → Bool) (hP : ∀ r, ∃ y < 256, P r y = true) (n : ℕ) (m l : FVec Ideal S256x1 .f32) (a : FVec Ideal S256x128 .f32)
    (h : Carry s v n m l a) (sc : FVec Ideal S256x256 .f32) (hs : sc = (dn2 P fun r y => s r (256 * n + y) : S256x256.Idx → EReal))
    (w : FVec Ideal S256x128 .bf16) (hw : w = (up2 fun y t => v (256 * n + y) t : S256x128.Idx → EReal)) :
    ∃ M : ℕ → ℝ, k0_pay31 (F := Ideal) m sc = (up2 fun r _ => M r : S256x1.Idx → EReal)
      ∧ k0_pay34 (F := Ideal) m l sc = (up2 fun r _ => ∑ x ∈ range (256 * n), Real.exp (s r x - M r)
          + ∑ y ∈ range 256, (if P r y then Real.exp (s r (256 * n + y) - M r) else 0) : S256x1.Idx → EReal)
      ∧ k0_pay35 (F := Ideal) m a w sc = (up2 fun r t => ∑ x ∈ range (256 * n), Real.exp (s r x - M r) * v x t
          + ∑ y ∈ range 256, (if P r y then Real.exp (s r (256 * n + y) - M r) else 0) * v (256 * n + y) t : S256x128.Idx → EReal) := by
  have hm : (m = fun _ => (⊥ : EReal)) ∨ ∃ M : ℕ → ℝ, m = (up2 fun r _ => M r : S256x1.Idx → EReal) := by
    rcases h with ⟨-, h, -⟩ | ⟨M, h, -⟩
    · exact .inl h
    · exact .inr ⟨M, h⟩
  subst hs hw
  obtain ⟨M, hM⟩ := shift P _ hP m hm
  obtain ⟨E, hE, hc⟩ := factor M m hm
  have e32 : k0_pay32 (F := Ideal) m (dn2 P fun r y => s r (256 * n + y)) = (up2 fun r _ => E r : S256x1.Idx → EReal) := by
    unfold k0_pay32; rw [hM]; exact hE
  have e33 : k0_pay33 (F := Ideal) m (dn2 P fun r y => s r (256 * n + y)) = (up2 fun r y => if P r y then Real.exp (s r (256 * n + y) - M r) else 0 : S256x256.Idx → EReal) := by
    unfold k0_pay33; rw [hM]; simp only [bcast_col, subf_dn2, exp_dn2]
  refine ⟨M, hM, ?_, ?_⟩
  · unfold k0_pay34
    rw [e32, e33]
    rcases h with ⟨rfl, hm0, rfl, -⟩ | ⟨M₀, hm0, rfl, -⟩
    · simp only [rowSum_up2, cast_1_2, mulf_up2, addf_up2, mul_zero, range_zero, sum_empty]
    · simp only [rowSum_up2, cast_1_2, mulf_up2, addf_up2]
      refine up2_congr fun r hr _ _ => congrArg (· + _) ?_
      rcases hc with ⟨hb, -⟩ | ⟨M₁, h1, rfl⟩
      · exact absurd (congrFun (hm0.symm.trans hb) (ix2 ⟨0, by decide⟩ 0)) (EReal.coe_ne_bot _)
      · have : M₀ r = M₁ r := EReal.coe_eq_coe_iff.mp (congrFun (hm0.symm.trans h1) (ix2 ⟨r, hr⟩ 0))
        beta_reduce
        rw [← this, mul_sum]
        refine sum_congr rfl fun x _ => ?_
        rw [← Real.exp_add]; congr 1; ring
  · unfold k0_pay35
    rw [e32, e33]
    rcases h with ⟨rfl, hm0, -, rfl⟩ | ⟨M₀, hm0, -, rfl⟩
    · simp only [bcast_col, truncf_up2, dot_nn, constant_zero, matmul_nn, mulf_up2, addf_up2, mul_zero, range_zero, sum_empty, zero_add]
    · simp only [bcast_col, truncf_up2, dot_nn, constant_zero, matmul_nn, mulf_up2, addf_up2, zero_add]
      refine up2_congr fun r hr t _ => congrArg (· + _) ?_
      rcases hc with ⟨hb, -⟩ | ⟨M₁, h1, rfl⟩
      · exact absurd (congrFun (hm0.symm.trans hb) (ix2 ⟨0, by decide⟩ 0)) (EReal.coe_ne_bot _)
      · have : M₀ r = M₁ r := EReal.coe_eq_coe_iff.mp (congrFun (hm0.symm.trans h1) (ix2 ⟨r, hr⟩ 0))
        beta_reduce
        rw [← this, mul_sum]
        refine sum_congr rfl fun x _ => ?_
        rw [← mul_assoc, ← Real.exp_add]; congr 2; ring

theorem unmasked (f : ℕ → ℕ → ℝ) : (up2 f : S256x256.Idx → EReal) = dn2 (fun _ _ => true) f := by
  funext i; simp [dn2, up2]

/-- A whole key block. -/
theorem stepWhole (n : ℕ) (m l : FVec Ideal S256x1 .f32) (a : FVec Ideal S256x128 .f32) (h : Carry s v n m l a)
    (sc : FVec Ideal S256x256 .f32) (hs : sc = (up2 fun r y => s r (256 * n + y) : S256x256.Idx → EReal))
    (w : FVec Ideal S256x128 .bf16) (hw : w = (up2 fun y t => v (256 * n + y) t : S256x128.Idx → EReal)) :
    Carry s v (n + 1) (k0_pay31 (F := Ideal) m sc) (k0_pay34 (F := Ideal) m l sc) (k0_pay35 (F := Ideal) m a w sc) := by
  obtain ⟨M, h1, h2, h3⟩ := step s v (fun _ _ => true) (fun _ => ⟨0, by decide, rfl⟩) n m l a h sc (hs.trans (unmasked _)) w hw
  refine .inr ⟨M, h1, h2.trans ?_, h3.trans ?_⟩
  · simp only [if_true, mul_add, mul_one, sum_range_add]
  · simp only [if_true, mul_add, mul_one, sum_range_add]

/-- The sum of the exponentials of a row of scores up to the diagonal, the diagonal's block last. -/
def den (n r : ℕ) : ℝ := ∑ x ∈ range (256 * n), Real.exp (s r x) + ∑ y ∈ range 256, (if y ≤ r then Real.exp (s r (256 * n + y)) else 0)
/-- The same sum with each exponential times its value. -/
def num (n r t : ℕ) : ℝ := ∑ x ∈ range (256 * n), Real.exp (s r x) * v x t
  + ∑ y ∈ range 256, (if y ≤ r then Real.exp (s r (256 * n + y)) else 0) * v (256 * n + y) t

theorem den_pos (n r : ℕ) : 0 < den s n r := by
  unfold den
  refine add_pos_of_nonneg_of_pos (sum_nonneg fun x _ => (Real.exp_pos _).le) ?_
  refine lt_of_lt_of_le (Real.exp_pos (s r (256 * n + 0))) ?_
  refine le_trans (le_of_eq ?_) (single_le_sum (f := fun y => if y ≤ r then Real.exp (s r (256 * n + y)) else 0) (fun y _ => ?_) (mem_range.mpr (by norm_num : 0 < 256)))
  · rw [if_pos (Nat.zero_le _)]
  · split
    · exact (Real.exp_pos _).le
    · exact le_refl _

variable (n : ℕ) (m l : FVec Ideal S256x1 .f32) (a : FVec Ideal S256x128 .f32) (sc : FVec Ideal S256x256 .f32) (w : FVec Ideal S256x128 .bf16)

/-- The diagonal's block: the carried sums are the full ones, up to the shift. -/
theorem diag (h : Carry s v n m l a) (hs : sc = (dn2 (fun r y => decide (y ≤ r)) fun r y => s r (256 * n + y) : S256x256.Idx → EReal))
    (hw : w = (up2 fun y t => v (256 * n + y) t : S256x128.Idx → EReal)) :
    ∃ M : ℕ → ℝ, k0_pay31 (F := Ideal) m sc = (up2 fun r _ => M r : S256x1.Idx → EReal)
      ∧ k0_pay34 (F := Ideal) m l sc = (up2 fun r _ => Real.exp (-M r) * den s n r : S256x1.Idx → EReal)
      ∧ k0_pay35 (F := Ideal) m a w sc = (up2 fun r t => Real.exp (-M r) * num s v n r t : S256x128.Idx → EReal) := by
  obtain ⟨M, h1, h2, h3⟩ := step s v (fun r y => decide (y ≤ r)) (fun r => ⟨0, by decide, by simp⟩) n m l a h sc hs w hw
  have e (x y : ℝ) : Real.exp (x - y) = Real.exp (-y) * Real.exp x := by rw [← Real.exp_add]; congr 1; ring
  refine ⟨M, h1, h2.trans (up2_congr fun r _ _ _ => ?_), h3.trans (up2_congr fun r _ t _ => ?_)⟩
  · unfold den
    simp only [decide_eq_true_eq, e, mul_add, mul_sum, mul_ite, mul_zero]
  · unfold num
    simp only [decide_eq_true_eq, e, mul_add, mul_sum, mul_ite, mul_zero, ite_mul, zero_mul, mul_assoc]

/-- One head's output block. -/
theorem quot (h : Carry s v n m l a) (hs : sc = (dn2 (fun r y => decide (y ≤ r)) fun r y => s r (256 * n + y) : S256x256.Idx → EReal))
    (hw : w = (up2 fun y t => v (256 * n + y) t : S256x128.Idx → EReal)) :
    divf (k0_pay35 (F := Ideal) m a w sc) (broadcastTo S256x128 (k0_pay34 (F := Ideal) m l sc) broadcasts_S256x1_S256x128)
      = (up2 fun r t => num s v n r t / den s n r : S256x128.Idx → EReal) := by
  obtain ⟨M, -, h2, h3⟩ := diag s v n m l a sc w h hs hw
  rw [h2, h3, bcast_col, divf_up2 _ _ fun r _ _ _ => (mul_pos (Real.exp_pos _) (den_pos s n r)).ne']
  exact up2_congr fun r _ t _ => mul_div_mul_left _ _ (Real.exp_pos _).ne'

/-- One head's log sums. -/
theorem logSum (h : Carry s v n m l a) (hs : sc = (dn2 (fun r y => decide (y ≤ r)) fun r y => s r (256 * n + y) : S256x256.Idx → EReal)) :
    addf (k0_pay31 (F := Ideal) m sc) (log (k0_pay34 (F := Ideal) m l sc)) = (up2 fun r _ => Real.log (den s n r) : S256x1.Idx → EReal) := by
  obtain ⟨M, h1, h2, -⟩ := diag s v n m l a sc _ h hs rfl
  rw [h1, h2, log_up2 _ fun r _ _ _ => mul_pos (Real.exp_pos _) (den_pos s n r), addf_up2]
  refine up2_congr fun r _ _ _ => ?_
  rw [Real.log_mul (Real.exp_pos _).ne' (den_pos s n r).ne', Real.log_exp]; ring

/-- The scores of a block of queries against all keys. -/
def sr (q kk : ℕ → ℕ → ℝ) (c cr : ℕ → ℝ) (r x : ℕ) : ℝ := (∑ t ∈ range 128, q r t * kk x t) * (1 / 8) + (c r - cr x)

end KF
-- ==== Proof.KF.lean ====
/- The attention's forward kernel at one grid point: a pair of heads, one block of 256 queries. -/
module

public import proofs.«01_k».proof.Proof.Gen.KernelFIdeal.Value
public import proofs.«01_k».proof.Proof.FStep
public import Idealize.ShloMosaic.Lib.Pipeline.ValueKit.Geometry

@[expose] public section

noncomputable section

namespace KF

open Cert.KernelFIdeal Cert.KernelFIdeal.Gen Idealize.ShloMosaic Idealize.ShloMosaic.TcCoe Idealize.SL.Sem Tile Finset

/-- The lanes of a pair of heads that belong to its first and its second head. -/
def lo (f : ℕ → ℕ → ℝ) (i j : ℕ) : ℝ := if j < 64 then f i j else 0
def hi (f : ℕ → ℕ → ℝ) (i j : ℕ) : ℝ := if 64 ≤ j then f i j else 0

theorem trips1 (i : grid0.Coords) : Scf.trips (k0_t1_loop i).lb (k0_t1_loop i).ub (k0_t1_loop i).st = (i 1).val := by
  unfold k0_t1_loop
  generalize (i 1) = n
  revert n
  decide
theorem trips2 (i : grid0.Coords) : Scf.trips (k0_t2_loop i).lb (k0_t2_loop i).ub (k0_t2_loop i).st = 0 := by
  unfold k0_t2_loop
  generalize (i 1) = n
  revert n
  decide

theorem idx (k : ℕ) (h : k < 8) : BitVec.toNat (Scalar.indexCast (Scf.iv 0#32 1#32 k)) = k := by
  interval_cases k <;> rfl
theorem idx0 (k : ℕ) (h : k < 8) : BitVec.toNat (Scalar.indexCast (BitVec.ofNat 32 k)) = k := by
  interval_cases k <;> rfl
theorem idx_mul0 (k : ℕ) (h : k < 8) : BitVec.toNat (Scalar.indexCast (Scalar.muli (BitVec.ofNat 32 k) 256#32)) = 256 * k := by
  interval_cases k <;> rfl
theorem idx_mul (k : ℕ) (h : k < 8) : BitVec.toNat (Scalar.indexCast (Scalar.muli (Scf.iv 0#32 1#32 k) 256#32)) = 256 * k := by
  interval_cases k <;> rfl

theorem pay23 : k0_pay23 = msk2 fun _ j => decide (j < 64) := lanes_lt 64 (by omega) (by omega) _
theorem low : cmpi .sle (iota .tc S256x256 32 [1] iota_S256x256_d1_w32) (iota .tc S256x256 32 [0] iota_S256x256_d0_w32) = msk2 fun i j => decide (j ≤ i) :=
  lower (by omega) (by omega) _ _
theorem upHalf : cmpi .sge (iota .tc S1x128 32 [1] iota_S1x128_d1_w32) (broadcast S1x128 64#32) = msk2 fun _ j => decide (64 ≤ j) :=
  lanes_ge 64 (by omega) (by omega) _
theorem pay24 (q : ℕ → ℕ → ℝ) : k0_pay24 (F := Ideal) (up2 q) = (up2 (lo q) : S256x128.Idx → EReal) := by
  simp only [k0_pay24, pay23, cast_self, bcast_msk_row, splat_zero_bf16, select_up2, decide_eq_true_eq]; rfl
theorem pay25 (q : ℕ → ℕ → ℝ) : k0_pay25 (F := Ideal) (up2 q) = (up2 (hi q) : S256x128.Idx → EReal) := by
  simp only [k0_pay25, ↓upHalf, cast_self, bcast_msk_row, splat_zero_bf16, select_up2, decide_eq_true_eq]; rfl
theorem pay26 (c : ℕ → ℕ → ℕ → ℝ) : k0_pay26 (F := Ideal) (up3 c) = (up2 fun r _ => c 0 r 0 : S256x1.Idx → EReal) := by
  simp only [k0_pay26, cast_drop]
  exact up2_congr fun r _ j hj => by rw [Nat.lt_one_iff.mp hj]
theorem pay27 (c : ℕ → ℕ → ℕ → ℝ) : k0_pay27 (F := Ideal) (up3 c) = (up2 fun r _ => c 0 r 0 : S256x1.Idx → EReal) := by
  simp only [k0_pay27, cast_drop]
  exact up2_congr fun r _ j hj => by rw [Nat.lt_one_iff.mp hj]
theorem pay10 (v9 : FVec Ideal S256x128 .bf16) (v15 m : FVec Ideal S256x1 .f32) (v121 : FVec Ideal S256x128 .bf16) (v128 : FVec Ideal S1x1x1x256 .f32) :
    k0_pay10 (F := Ideal) v9 v15 m v121 v128 = k0_pay31 m (k0_pay9 v9 v15 v121 v128) := rfl
theorem pay13 (v9 : FVec Ideal S256x128 .bf16) (v15 m l : FVec Ideal S256x1 .f32) (v121 : FVec Ideal S256x128 .bf16) (v128 : FVec Ideal S1x1x1x256 .f32) :
    k0_pay13 (F := Ideal) v9 v15 m l v121 v128 = k0_pay34 m l (k0_pay9 v9 v15 v121 v128) := rfl
theorem pay14 (v9 : FVec Ideal S256x128 .bf16) (v15 m : FVec Ideal S256x1 .f32) (a : FVec Ideal S256x128 .f32) (v121 v123 : FVec Ideal S256x128 .bf16) (v128 : FVec Ideal S1x1x1x256 .f32) :
    k0_pay14 (F := Ideal) v9 v15 m a v121 v123 v128 = k0_pay35 m a v123 (k0_pay9 v9 v15 v121 v128) := rfl
theorem pay43 (v15 m : FVec Ideal S256x1 .f32) (v34 : FVec Ideal S256x256 .f32) (v38 : FVec Ideal S1x1x1x256 .f32) :
    k0_pay43 (F := Ideal) v15 m v34 v38 = k0_pay31 m (k0_pay42 v15 v34 v38) := rfl
theorem pay46 (v15 m l : FVec Ideal S256x1 .f32) (v34 : FVec Ideal S256x256 .f32) (v38 : FVec Ideal S1x1x1x256 .f32) :
    k0_pay46 (F := Ideal) v15 m l v34 v38 = k0_pay34 m l (k0_pay42 v15 v34 v38) := rfl
theorem pay47 (v15 m : FVec Ideal S256x1 .f32) (a : FVec Ideal S256x128 .f32) (v33 : FVec Ideal S256x128 .bf16) (v34 : FVec Ideal S256x256 .f32) (v38 : FVec Ideal S1x1x1x256 .f32) :
    k0_pay47 (F := Ideal) v15 m a v33 v34 v38 = k0_pay35 m a v33 (k0_pay42 v15 v34 v38) := rfl
theorem pay5 (v2 : IVec S1x128 1) (m l : FVec Ideal S256x1 .f32) (a : FVec Ideal S256x128 .f32) (v33 : FVec Ideal S256x128 .bf16) (v60 : FVec Ideal S256x1 .f32) (v65 : FVec Ideal S256x128 .f32) (sc : FVec Ideal S256x256 .f32) :
    k0_pay5 (F := Ideal) v2 m l a v33 v60 v65 sc = select (broadcastTo S256x128 (shapeCast S1x128 v2 shapeCasts_S1x128_S1x128) broadcasts_S1x128_S256x128)
      (divf v65 (broadcastTo S256x128 v60 broadcasts_S256x1_S256x128)) (divf (k0_pay35 m a v33 sc) (broadcastTo S256x128 (k0_pay34 m l sc) broadcasts_S256x1_S256x128)) := rfl
theorem pay8 (m l : FVec Ideal S256x1 .f32) (sc : FVec Ideal S256x256 .f32) :
    k0_pay8 (F := Ideal) m l sc = shapeCast S1x256x1 (addf (k0_pay31 m sc) (log (k0_pay34 m l sc))) shapeCasts_S256x1_S1x256x1 := rfl
theorem pay9 (q kk : ℕ → ℕ → ℝ) (c : ℕ → ℝ) (cr : ℕ → ℕ → ℕ → ℕ → ℝ) :
    k0_pay9 (F := Ideal) (up2 q) (up2 fun r _ => c r) (up2 kk) (up4 cr)
      = (up2 fun r y => (∑ t ∈ range 128, q r t * kk y t) * (1 / 8) + (c r - cr 0 0 0 y) : S256x256.Idx → EReal) := by
  simp only [k0_pay9, dot_nt, constant_zero, matmul_nt, splat_eighth, mulf_up2, cast_4_2, bcast_col, bcast_row, subf_up2, addf_up2, zero_add]
theorem pay15 (q kk : ℕ → ℕ → ℝ) (c : ℕ → ℝ) (cr : ℕ → ℕ → ℕ → ℕ → ℝ) :
    k0_pay15 (F := Ideal) (up2 q) (up2 fun r _ => c r) (up2 kk) (up4 cr)
      = (up2 fun r y => (∑ t ∈ range 128, q r t * kk y t) * (1 / 8) + (c r - cr 0 0 0 y) : S256x256.Idx → EReal) := pay9 q kk c cr
theorem pay42 (q kk : ℕ → ℕ → ℝ) (c : ℕ → ℝ) (cr : ℕ → ℕ → ℕ → ℕ → ℝ) :
    k0_pay42 (F := Ideal) (up2 fun r _ => c r) (k0_pay41 (F := Ideal) (up2 q) (up2 kk)) (up4 cr)
      = (dn2 (fun r y => decide (y ≤ r)) fun r y => (∑ t ∈ range 128, lo q r t * kk y t) * (1 / 8) + (c r - cr 0 0 0 y) : S256x256.Idx → EReal) := by
  simp only [k0_pay42, k0_pay41, pay24, ↓low, dot_nt, constant_zero, matmul_nt, splat_eighth, splat_negInf, select_dn2, mulf_up2, cast_4_2, bcast_col, bcast_row, subf_up2, addf_up2, zero_add]
theorem pay48 (q kk : ℕ → ℕ → ℝ) (c : ℕ → ℝ) (cr : ℕ → ℕ → ℕ → ℕ → ℝ) :
    k0_pay48 (F := Ideal) (up2 q) (up2 fun r _ => c r) (up2 kk) (up4 cr)
      = (dn2 (fun r y => decide (y ≤ r)) fun r y => (∑ t ∈ range 128, q r t * kk y t) * (1 / 8) + (c r - cr 0 0 0 y) : S256x256.Idx → EReal) := by
  simp only [k0_pay48, ↓low, dot_nt, constant_zero, matmul_nt, splat_eighth, splat_negInf, select_dn2, mulf_up2, cast_4_2, bcast_col, bcast_row, subf_up2, addf_up2, zero_add]

variable (𝒱 : Variants) (c : Dev nD) (bd : Option 𝒱.V) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x256x1 .f32) (harg5 : arg5.IsWhole) (arg6 : Memref sig .tc .vmem S2x8x1x256 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S2x256x1 .f32) (harg9 : arg9.IsWhole)
variable (q kk vv : ℕ → ℕ → ℝ) (c0 c1 : ℕ → ℕ → ℕ → ℝ) (cr : ℕ → ℕ → ℝ)

/-- One trip of the key loop takes each head's carry one block further. -/
theorem trip1 (k : Fin (k0_t1_loop i).trips) (m₀ l₀ : FVec Ideal S256x1 .f32) (a₀ : FVec Ideal S256x128 .f32) (m₁ l₁ : FVec Ideal S256x1 .f32) (a₁ : FVec Ideal S256x128 .f32)
    (h₀ : Carry (sr (lo q) kk (fun r => c0 0 r 0) (cr 0)) vv k.val m₀ l₀ a₀) (h₁ : Carry (sr (hi q) kk (fun r => c1 0 r 0) (cr 1)) vv k.val m₁ l₁ a₁) :
    ∃ m₀' l₀' a₀' m₁' l₁' a₁', tripR_k0_t1 (F := Ideal) 𝒱 c bd i arg2 harg2 arg3 harg3 arg4 harg4 arg5 harg5 arg6 harg6 arg7 harg7 arg8 harg8 arg9 harg9 (up2 q) (up3 c0) (up3 c1)
      (harg3.unread (up2 kk)) (harg4.unread (up2 vv)) (harg6.unread (up4 fun e n _ s => cr e (256 * n + s))) k (m₀, l₀, a₀, m₁, l₁, a₁) = (m₀', l₀', a₀', m₁', l₁', a₁')
    ∧ Carry (sr (lo q) kk (fun r => c0 0 r 0) (cr 0)) vv (k.val + 1) m₀' l₀' a₀' ∧ Carry (sr (hi q) kk (fun r => c1 0 r 0) (cr 1)) vv (k.val + 1) m₁' l₁' a₁' := by
  have hk : k.val < 8 := by have h := k.isLt; have h2 : (k0_t1_loop i).trips = (i 1).val := trips1 i; have h3 : (i 1).val < 8 := (i 1).isLt; omega
  refine ⟨_, _, _, _, _, _, ?_, stepWhole _ _ _ _ _ _ h₀ (up2 fun r y => sr (lo q) kk (fun r => c0 0 r 0) (cr 0) r (256 * k + y)) rfl (up2 fun y t => vv (256 * k + y) t) rfl,
    stepWhole _ _ _ _ _ _ h₁ (up2 fun r y => sr (hi q) kk (fun r => c1 0 r 0) (cr 1) r (256 * k + y)) rfl (up2 fun y t => vv (256 * k + y) t) rfl⟩
  unfold tripR_k0_t1 trip_k0_t1
  dsimp only
  unfold trip_k0_t1.sl.r_2 trip_k0_t1.sl.r_3 trip_k0_t1.sl.r_4 trip_k0_t1.sl.r trip_k0_t1.sl.r_1
  simp only [↓load2_bf16, ↓load4]
  simp only [k0_off1, k0_off2, k0_off3, idx _ hk, idx_mul _ hk, Matrix.cons_val_zero, Matrix.cons_val_one, Matrix.cons_val, pay10, pay13, pay14, pay24, pay25, pay26, pay27, pay9, pay15, zero_add, add_zero]
  rfl

/-- Both heads' carries after `n` trips. -/
theorem state1 (n : ℕ) (hn : n ≤ (k0_t1_loop i).trips) :
    ∃ m₀ l₀ a₀ m₁ l₁ a₁, st_k0_t1 (F := Ideal) 𝒱 c bd i arg2 harg2 arg3 harg3 arg4 harg4 arg5 harg5 arg6 harg6 arg7 harg7 arg8 harg8 arg9 harg9 (up2 q) (up3 c0) (up3 c1)
      (harg3.unread (up2 kk)) (harg4.unread (up2 vv)) (harg6.unread (up4 fun e n _ s => cr e (256 * n + s))) (k0_pay28, k0_pay29, k0_pay30, k0_pay28, k0_pay29, k0_pay30) n = (m₀, l₀, a₀, m₁, l₁, a₁)
    ∧ Carry (sr (lo q) kk (fun r => c0 0 r 0) (cr 0)) vv n m₀ l₀ a₀ ∧ Carry (sr (hi q) kk (fun r => c1 0 r 0) (cr 1)) vv n m₁ l₁ a₁ := by
  induction n with
  | zero =>
    refine ⟨_, _, _, _, _, _, st_k0_t1_zero .., .inl ⟨rfl, ?_, ?_, ?_⟩, .inl ⟨rfl, ?_, ?_, ?_⟩⟩
    exacts [splat_negInf, splat_zero, splat_zero, splat_negInf, splat_zero, splat_zero]
  | succ n ih =>
    obtain ⟨m₀, l₀, a₀, m₁, l₁, a₁, e, h₀, h₁⟩ := ih (by omega)
    have := st_k0_t1_succ (F := Ideal) 𝒱 c bd i arg2 harg2 arg3 harg3 arg4 harg4 arg5 harg5 arg6 harg6 arg7 harg7 arg8 harg8 arg9 harg9 (up2 q) (up3 c0) (up3 c1)
      (harg3.unread (up2 kk)) (harg4.unread (up2 vv)) (harg6.unread (up4 fun e n _ s => cr e (256 * n + s))) (k0_pay28, k0_pay29, k0_pay30, k0_pay28, k0_pay29, k0_pay30) ⟨n, hn⟩
    obtain ⟨m₀', l₀', a₀', m₁', l₁', a₁', e', h₀', h₁'⟩ := trip1 𝒱 c bd i arg2 harg2 arg3 harg3 arg4 harg4 arg5 harg5 arg6 harg6 arg7 harg7 arg8 harg8 arg9 harg9 q kk vv c0 c1 cr ⟨n, hn⟩ m₀ l₀ a₀ m₁ l₁ a₁ h₀ h₁
    refine ⟨_, _, _, _, _, _, this.trans ?_, h₀', h₁'⟩
    rw [e]
    exact e'

theorem i1lt : (i 1).val < 8 := (i 1).isLt
theorem off7 : k0_off7 i = ![256 * (i 1).val, 0] := by
  have h := i1lt i; unfold k0_off7; dsimp only; rw [idx_mul0 _ h]
theorem off8 : k0_off8 i = ![0, (i 1).val, 0, 0] := by
  have h := i1lt i; unfold k0_off8; dsimp only; rw [idx0 _ h]
theorem off9 : k0_off9 i = ![1, (i 1).val, 0, 0] := by
  have h := i1lt i; unfold k0_off9; dsimp only; rw [idx0 _ h]

variable (cc : ℕ → ℕ → ℕ → ℝ)

/-- The output block: each head's lanes hold its weighted mean of the values. -/
def ov (q kk vv : ℕ → ℕ → ℝ) (cc : ℕ → ℕ → ℕ → ℝ) (cr : ℕ → ℕ → ℝ) (n r t : ℕ) : ℝ :=
  if t < 64 then num (sr (lo q) kk (fun r => cc 0 r 0) (cr 0)) vv n r t / den (sr (lo q) kk (fun r => cc 0 r 0) (cr 0)) n r
    else num (sr (hi q) kk (fun r => cc 1 r 0) (cr 1)) vv n r t / den (sr (hi q) kk (fun r => cc 1 r 0) (cr 1)) n r
/-- The log sums of the block's rows, per head. -/
def lv (q kk : ℕ → ℕ → ℝ) (cc : ℕ → ℕ → ℕ → ℝ) (cr : ℕ → ℕ → ℝ) (n h r : ℕ) : ℝ :=
  if h = 0 then Real.log (den (sr (lo q) kk (fun r => cc 0 r 0) (cr 0)) n r) else Real.log (den (sr (hi q) kk (fun r => cc 1 r 0) (cr 1)) n r)

set_option maxRecDepth 4000 in
theorem out5 :
    out0_A_5 (F := Ideal) c i arg2 harg2 arg3 harg3 arg4 harg4 arg5 harg5 arg6 harg6 arg7 harg7 arg8 harg8 arg9 harg9 (up2 q) (up2 kk) (up2 vv) (up3 cc) (up4 fun e n _ s => cr e (256 * n + s)) = (up2 (ov q kk vv cc cr (i 1)) : S256x128.Idx → EReal) := by
  unfold out0_A_5
  rw [View.read_writes_eq_canon _ _ _ (cover0_A_5 _ _ _ _ _ _ _ _ _ _ _ _ _ _ _ _ _ _ _ _ _ _ _)]
  unfold kernelRun0_A
  dsimp only
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [↓load2_bf16, ↓load3, ↓load4, off7, off8, off9, Matrix.cons_val_zero, Matrix.cons_val_one, Matrix.cons_val, zero_add, add_zero]
  rw [trips1, trips2, st_k0_t2_zero]
  obtain ⟨m₀, l₀, a₀, m₁, l₁, a₁, e, h₀, h₁⟩ := state1 Variants.none c none i arg2 harg2 arg3 harg3 arg4 harg4 arg5 harg5 arg6 harg6 arg7 harg7 arg8 harg8 arg9 harg9 (fun i j => q i j) kk vv
    (fun i j k => cc i j k) (fun i j k => cc (1 + i) j k) cr (i 1).val (trips1 i).ge
  rw [e]
  dsimp only
  simp only [pay43, pay46, pay47, pay5, pay25, pay26, pay27, pay42, pay48]
  rw [quot _ _ _ _ _ _ _ _ h₀ ?_ ?_, quot _ _ _ _ _ _ _ _ h₁ ?_ ?_]
  any_goals rfl
  simp only [pay23, cast_self, bcast_msk_row, select_up2, decide_eq_true_eq]
  refine (View.canon_unit_zero (by decide) _ _).trans ?_
  rfl

set_option maxRecDepth 4000 in
theorem out6 :
    out0_A_6 (F := Ideal) c i arg2 harg2 arg3 harg3 arg4 harg4 arg5 harg5 arg6 harg6 arg7 harg7 arg8 harg8 arg9 harg9 (up2 q) (up2 kk) (up2 vv) (up3 cc) (up4 fun e n _ s => cr e (256 * n + s)) = (up2 (ov q kk vv cc cr (i 1)) : S256x128.Idx → EReal) := by
  unfold out0_A_6
  rw [View.read_writes_eq_canon _ _ _ (cover0_A_6 _ _ _ _ _ _ _ _ _ _ _ _ _ _ _ _ _ _ _ _ _ _ _)]
  unfold kernelRun0_A
  dsimp only
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [↓load2_bf16, ↓load3, ↓load4, off7, off8, off9, Matrix.cons_val_zero, Matrix.cons_val_one, Matrix.cons_val, zero_add, add_zero]
  rw [trips1, trips2, st_k0_t2_zero]
  obtain ⟨m₀, l₀, a₀, m₁, l₁, a₁, e, h₀, h₁⟩ := state1 Variants.none c none i arg2 harg2 arg3 harg3 arg4 harg4 arg5 harg5 arg6 harg6 arg7 harg7 arg8 harg8 arg9 harg9 (fun i j => q i j) kk vv
    (fun i j k => cc i j k) (fun i j k => cc (1 + i) j k) cr (i 1).val (trips1 i).ge
  rw [e]
  dsimp only
  simp only [k0_pay6, pay43, pay46, pay47, pay5, pay25, pay26, pay27, pay42, pay48]
  rw [quot _ _ _ _ _ _ _ _ h₀ ?_ ?_, quot _ _ _ _ _ _ _ _ h₁ ?_ ?_]
  any_goals rfl
  simp only [pay23, cast_self, bcast_msk_row, select_up2, decide_eq_true_eq, truncf_up2]
  refine (View.canon_unit_zero (by decide) _ _).trans ?_
  rfl

set_option maxRecDepth 4000 in
theorem out7 :
    out0_A_7 (F := Ideal) c i arg2 harg2 arg3 harg3 arg4 harg4 arg5 harg5 arg6 harg6 arg7 harg7 arg8 harg8 arg9 harg9 (up2 q) (up2 kk) (up2 vv) (up3 cc) (up4 fun e n _ s => cr e (256 * n + s)) = (up3 (fun h r _ => lv q kk cc cr (i 1) h r) : S2x256x1.Idx → EReal) := by
  unfold out0_A_7
  rw [View.read_writes_eq_canon _ _ _ (cover0_A_7 _ _ _ _ _ _ _ _ _ _ _ _ _ _ _ _ _ _ _ _ _ _ _)]
  unfold kernelRun0_A
  dsimp only
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [↓load2_bf16, ↓load3, ↓load4, off7, off8, off9, Matrix.cons_val_zero, Matrix.cons_val_one, Matrix.cons_val, zero_add, add_zero]
  rw [trips1, trips2, st_k0_t2_zero]
  obtain ⟨m₀, l₀, a₀, m₁, l₁, a₁, e, h₀, h₁⟩ := state1 Variants.none c none i arg2 harg2 arg3 harg3 arg4 harg4 arg5 harg5 arg6 harg6 arg7 harg7 arg8 harg8 arg9 harg9 (fun i j => q i j) kk vv
    (fun i j k => cc i j k) (fun i j k => cc (1 + i) j k) cr (i 1).val (trips1 i).ge
  rw [e]
  dsimp only
  simp only [pay43, pay46, k0_pay7, pay8, pay25, pay26, pay27, pay42, pay48]
  rw [logSum _ _ _ _ _ _ _ h₀ ?_, logSum _ _ _ _ _ _ _ h₁ ?_]
  any_goals rfl
  simp only [cast_add]
  funext y
  refine View.canon_apply_of_pieces (Val := Elt Ideal) (e := .f32) (S := S2x256x1) (up3 fun h r _ => lv q kk cc cr (i 1) h r) _ ?_ y ?_
  · intro p hp x
    simp only [List.mem_cons, List.not_mem_nil, or_false] at hp
    rcases hp with rfl | rfl
    · have h0 : ((x 0 : Fin _) : ℕ) = 0 := Nat.lt_one_iff.mp (x 0).isLt
      show _ = up3 _ ((Rect.unit (s := S2x256x1) ![1, 0, 0] ![1, 256, 1] inb_S2x256x1_S1x256x1_1_0_0).emb x)
      simp only [up3, lv, ValueKit.rect_emb_unit_val]
      rw [show (![1, 0, 0] : Fin 3 → ℕ) 0 + (x 0 : Fin _).val = 1 by rw [h0]; rfl, if_neg (by decide), show (![1, 0, 0] : Fin 3 → ℕ) 1 + (x 1 : Fin _).val = (x 1 : Fin _).val from Nat.zero_add _]
    · have h0 : ((x 0 : Fin _) : ℕ) = 0 := Nat.lt_one_iff.mp (x 0).isLt
      show _ = up3 _ ((Rect.unit (s := S2x256x1) ![0, 0, 0] ![1, 256, 1] inb_S2x256x1_S1x256x1_0_0_0).emb x)
      simp only [up3, lv, ValueKit.rect_emb_unit_val]
      rw [show (![0, 0, 0] : Fin 3 → ℕ) 0 + (x 0 : Fin _).val = 0 by rw [h0]; rfl, if_pos rfl, show (![0, 0, 0] : Fin 3 → ℕ) 1 + (x 1 : Fin _).val = (x 1 : Fin _).val from Nat.zero_add _]
  · have h0 : (y 0 : Fin _).val < 2 := (y 0).isLt
    have h1 : (y 1 : Fin _).val < 256 := (y 1).isLt
    have h2 : (y 2 : Fin _).val < 1 := (y 2).isLt
    by_cases h : (y 0 : Fin _).val = 0
    · refine ⟨_, List.mem_cons_of_mem _ List.mem_cons_self, ?_⟩
      show y ∈ (Rect.unit (s := S2x256x1) ![0, 0, 0] ![1, 256, 1] inb_S2x256x1_S1x256x1_0_0_0).set
      rw [Rect.mem_set_unit]
      intro a
      match a with
      | ⟨0, _⟩ => exact ⟨Nat.zero_le _, by show (y 0 : Fin _).val < 0 + 1; omega⟩
      | ⟨1, _⟩ => exact ⟨Nat.zero_le _, by show (y 1 : Fin _).val < 0 + 256; omega⟩
      | ⟨2, _⟩ => exact ⟨Nat.zero_le _, by show (y 2 : Fin _).val < 0 + 1; omega⟩
    · refine ⟨_, List.mem_cons_self, ?_⟩
      show y ∈ (Rect.unit (s := S2x256x1) ![1, 0, 0] ![1, 256, 1] inb_S2x256x1_S1x256x1_1_0_0).set
      rw [Rect.mem_set_unit]
      intro a
      match a with
      | ⟨0, _⟩ => exact ⟨by show 1 ≤ (y 0 : Fin _).val; omega, by show (y 0 : Fin _).val < 1 + 1; omega⟩
      | ⟨1, _⟩ => exact ⟨Nat.zero_le _, by show (y 1 : Fin _).val < 0 + 256; omega⟩
      | ⟨2, _⟩ => exact ⟨Nat.zero_le _, by show (y 2 : Fin _).val < 0 + 1; omega⟩
end KF
-- ==== Proof.KFA.lean ====
/- The attention's forward kernel: its three result arrays as real sums over the whole sequence.

   The blocks the pipeline hands to a grid point are windows of the whole arrays; the point's results (the module before
   this one) are rewritten in whole-array coordinates and put back where the pipeline writes them. -/
module

public import proofs.«01_k».proof.Proof.KF
public import proofs.«01_k».proof.Proof.Spec

@[expose] public section

noncomputable section

namespace KF

open Cert.KernelFIdeal Cert.KernelFIdeal.Gen Idealize.ShloMosaic Idealize.ShloMosaic.TcCoe Idealize.SL.Sem Tile Finset

theorem e0 : ∀ t : Fin cfg0.N, win0_0.index t = ![(grid0.coords t 1).val, 24 + (grid0.coords t 0).val] :=
  (by decide +kernel : ∀ t : Fin grid0.N, _)
theorem e1 : ∀ t : Fin cfg0.N, win0_1.index t = ![0, 28 + (grid0.coords t 0).val] :=
  (by decide +kernel : ∀ t : Fin grid0.N, _)
theorem e2 : ∀ t : Fin cfg0.N, win0_2.index t = ![0, 32 + (grid0.coords t 0).val] :=
  (by decide +kernel : ∀ t : Fin grid0.N, _)
theorem e3 : ∀ t : Fin cfg0.N, win0_3.index t = ![(grid0.coords t 0).val, (grid0.coords t 1).val, 0] :=
  (by decide +kernel : ∀ t : Fin grid0.N, _)
theorem e4 : ∀ t : Fin cfg0.N, win0_4.index t = ![(grid0.coords t 0).val, 0, 0, 0] :=
  (by decide +kernel : ∀ t : Fin grid0.N, _)
theorem e5 : ∀ t : Fin cfg0.N, win0_5.index t = ![(grid0.coords t 1).val, (grid0.coords t 0).val] :=
  (by decide +kernel : ∀ t : Fin grid0.N, _)
theorem e6 : ∀ t : Fin cfg0.N, win0_6.index t = ![(grid0.coords t 1).val, (grid0.coords t 0).val] :=
  (by decide +kernel : ∀ t : Fin grid0.N, _)
theorem e7 : ∀ t : Fin cfg0.N, win0_7.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)
variable (Z : ℕ → ℕ → ℝ) (C : ℕ → ℕ → ℝ)

theorem blk0 (X : Buf (Elt Ideal) ((c : Thread nD τ).loc (Pipeline.arrRef spec0 0))) (h : X = (up2 Z : S2048x4608.Idx → EReal)) :
    (((cfg0.win 0).blk t).view.read (Elt Ideal) X : ((cfg0.win 0).xblock (cfg0.grid.coords t)).Idx → Elt Ideal (cfg0.win 0).elt) = (up2 fun a b => Z (256 * (grid0.coords t 1).val + a) (3072 + 128 * (grid0.coords t 0).val + b) : S256x128.Idx → EReal) := by
  subst h
  funext y
  unfold up2
  blk_simp [e0]
  congr 2 <;> omega
theorem blk1 (X : Buf (Elt Ideal) ((c : Thread nD τ).loc (Pipeline.arrRef spec0 1))) (h : X = (up2 Z : S2048x4608.Idx → EReal)) :
    (((cfg0.win 1).blk t).view.read (Elt Ideal) X : ((cfg0.win 1).xblock (cfg0.grid.coords t)).Idx → Elt Ideal (cfg0.win 1).elt) = (up2 fun a b => Z a (3584 + 128 * (grid0.coords t 0).val + b) : S2048x128.Idx → EReal) := by
  subst h
  funext y
  unfold up2
  blk_simp [e1]
  congr 2 <;> omega
theorem blk2 (X : Buf (Elt Ideal) ((c : Thread nD τ).loc (Pipeline.arrRef spec0 2))) (h : X = (up2 Z : S2048x4608.Idx → EReal)) :
    (((cfg0.win 2).blk t).view.read (Elt Ideal) X : ((cfg0.win 2).xblock (cfg0.grid.coords t)).Idx → Elt Ideal (cfg0.win 2).elt) = (up2 fun a b => Z a (4096 + 128 * (grid0.coords t 0).val + b) : S2048x128.Idx → EReal) := by
  subst h
  funext y
  unfold up2
  blk_simp [e2]
  congr 2 <;> omega
theorem blk3 (X : Buf (Elt Ideal) ((c : Thread nD τ).loc (Pipeline.arrRef spec0 3))) (h : X = (up3 fun h i _ => C h i : S8x2048x1.Idx → EReal)) :
    (((cfg0.win 3).blk t).view.read (Elt Ideal) X : ((cfg0.win 3).xblock (cfg0.grid.coords t)).Idx → Elt Ideal (cfg0.win 3).elt) = (up3 fun e a _ => C (2 * (grid0.coords t 0).val + e) (256 * (grid0.coords t 1).val + a) : S2x256x1.Idx → EReal) := by
  subst h
  funext y
  unfold up3
  blk_simp [e3]
  rw [Nat.mul_comm _ 2, Nat.mul_comm _ 256]
theorem blk4 (X : Buf (Elt Ideal) ((c : Thread nD τ).loc (Pipeline.arrRef spec0 4))) (h : X = (up4 fun h n _ s => C h (256 * n + s) : S8x8x1x256.Idx → EReal)) :
    (((cfg0.win 4).blk t).view.read (Elt Ideal) X : ((cfg0.win 4).xblock (cfg0.grid.coords t)).Idx → Elt Ideal (cfg0.win 4).elt) = (up4 fun e n _ s => C (2 * (grid0.coords t 0).val + e) (256 * n + s) : S2x8x1x256.Idx → EReal) := by
  subst h
  funext y
  unfold up4
  blk_simp [e4]
  rw [Nat.mul_comm _ 2]

section Bridge

variable (top : ℕ → ℕ → ℝ) (n p : ℕ)

/-- The two heads' scores, from masked 128-lane products. -/
theorem sr_lo (r x : ℕ) :
    sr (lo fun a b => Z (256 * n + a) (3072 + 128 * p + b)) (fun a b => Z a (3584 + 128 * p + b))
      (fun a => C (2 * p) (256 * n + a)) (fun x => C (2 * p) x) r x
    = Spec.S Z C (2 * p) (256 * n + r) x := by
  unfold sr lo Spec.S
  simp only [ite_mul, zero_mul]
  rw [Spec.sum_lo (fun t => Z (256 * n + r) (3072 + 128 * p + t) * Z x (3584 + 128 * p + t))]
  simp only [show ∀ d, 3072 + (64 * (2 * p) + d) = 3072 + 128 * p + d from fun d => by omega,
    show ∀ d, 3584 + (64 * (2 * p) + d) = 3584 + 128 * p + d from fun d => by omega]
theorem sr_hi (r x : ℕ) :
    sr (hi fun a b => Z (256 * n + a) (3072 + 128 * p + b)) (fun a b => Z a (3584 + 128 * p + b))
      (fun a => C (2 * p + 1) (256 * n + a)) (fun x => C (2 * p + 1) x) r x
    = Spec.S Z C (2 * p + 1) (256 * n + r) x := by
  unfold sr hi Spec.S
  simp only [ite_mul, zero_mul]
  rw [Spec.sum_hi (fun t => Z (256 * n + r) (3072 + 128 * p + t) * Z x (3584 + 128 * p + t))]
  simp only [show ∀ d, 3072 + (64 * (2 * p + 1) + d) = 3072 + 128 * p + (64 + d) from fun d => by omega,
    show ∀ d, 3584 + (64 * (2 * p + 1) + d) = 3584 + 128 * p + (64 + d) from fun d => by omega]

/-- A shifted exponential is the unshifted one times a factor of the row. -/
theorem A_eq (h i x : ℕ) : Spec.A Z C top h i x = Real.exp (-top h i) * (if x ≤ i then Real.exp (Spec.S Z C h i x) else 0) := by
  unfold Spec.A
  split
  · rw [← Real.exp_add]; congr 1; ring
  · rw [mul_zero]

variable (s v : ℕ → ℕ → ℝ)

/-- The kernel's denominator is the row's sum of exponentials, up to that factor. -/
theorem T_den (h r : ℕ) (hn : n < 8) (hr : r < 256) (hs : ∀ x, s r x = Spec.S Z C h (256 * n + r) x) :
    Spec.T Z C top h (256 * n + r) = Real.exp (-top h (256 * n + r)) * den s n r := by
  unfold Spec.T den
  simp only [A_eq]
  rw [← mul_sum, Spec.sum_causal (fun x => Real.exp (Spec.S Z C h (256 * n + r) x)) n r hn hr]
  simp only [hs]
/-- The same for the numerator. -/
theorem A_num (h r t : ℕ) (hn : n < 8) (hr : r < 256) (hs : ∀ x, s r x = Spec.S Z C h (256 * n + r) x) :
    ∑ x ∈ range 2048, v x t * Spec.A Z C top h (256 * n + r) x = Real.exp (-top h (256 * n + r)) * num s v n r t := by
  unfold num
  simp only [A_eq]
  rw [sum_congr rfl fun x _ => show v x t * (Real.exp (-top h (256 * n + r)) * (if x ≤ 256 * n + r then Real.exp (Spec.S Z C h (256 * n + r) x) else 0))
    = Real.exp (-top h (256 * n + r)) * (if x ≤ 256 * n + r then Real.exp (Spec.S Z C h (256 * n + r) x) * v x t else 0) by split <;> ring]
  rw [← mul_sum, Spec.sum_causal (fun x => Real.exp (Spec.S Z C h (256 * n + r) x) * v x t) n r hn hr]
  simp only [hs]
  congr 2
  refine sum_congr rfl fun y _ => ?_
  split <;> simp

/-- So the quotient is the weighted mean of the values, -/
theorem quot_out (h r t : ℕ) (hn : n < 8) (hr : r < 256) (hs : ∀ x, s r x = Spec.S Z C h (256 * n + r) x) :
    num s v n r t / den s n r = ∑ x ∈ range 2048, v x t * (Spec.A Z C top h (256 * n + r) x / Spec.T Z C top h (256 * n + r)) := by
  simp only [← mul_div_assoc]
  rw [← sum_div, A_num Z C top n s v h r t hn hr hs, T_den Z C top n s h r hn hr hs, mul_div_mul_left _ _ (Real.exp_pos _).ne']
/-- and the log of the denominator is the row's log sum. -/
theorem log_lse (h r : ℕ) (hn : n < 8) (hr : r < 256) (hs : ∀ x, s r x = Spec.S Z C h (256 * n + r) x) :
    Real.log (den s n r) = Spec.lse Z C top h (256 * n + r) := by
  unfold Spec.lse
  rw [T_den Z C top n s h r hn hr hs, Real.log_mul (Real.exp_pos _).ne' (den_pos s n r).ne', Real.log_exp]; ring

end Bridge

/-- One grid point's output, in whole-array coordinates. -/
theorem valO (top : ℕ → ℕ → ℝ) (n p r t : ℕ) (hn : n < 8) (hr : r < 256) (ht : t < 128) :
    ov (fun a b => Z (256 * n + a) (3072 + 128 * p + b)) (fun a b => Z a (3584 + 128 * p + b)) (fun a b => Z a (4096 + 128 * p + b))
      (fun e a _ => C (2 * p + e) (256 * n + a)) (fun e x => C (2 * p + e) x) n r t = Spec.out Z C top (n * 256 + r) (p * 128 + t) := by
  unfold ov Spec.out
  rw [show n * 256 + r = 256 * n + r by omega, show 4096 + (p * 128 + t) = 4096 + 128 * p + t by omega]
  split
  · rw [show (p * 128 + t) / 64 = 2 * p by omega]
    exact quot_out Z C top n _ _ (2 * p) r t hn hr fun x => sr_lo Z C n p r x
  · rw [show (p * 128 + t) / 64 = 2 * p + 1 by omega]
    exact quot_out Z C top n _ _ (2 * p + 1) r t hn hr fun x => sr_hi Z C n p r x
/-- One grid point's log sums. -/
theorem valL (top : ℕ → ℕ → ℝ) (n p e r : ℕ) (hn : n < 8) (hr : r < 256) (he : e < 2) :
    lv (fun a b => Z (256 * n + a) (3072 + 128 * p + b)) (fun a b => Z a (3584 + 128 * p + b))
      (fun e a _ => C (2 * p + e) (256 * n + a)) (fun e x => C (2 * p + e) x) n e r = Spec.lse Z C top (p * 2 + e) (n * 256 + r) := by
  unfold lv
  rw [show n * 256 + r = 256 * n + r by omega]
  split
  · rw [show p * 2 + e = 2 * p by omega]
    exact log_lse Z C top n _ (2 * p) r hn hr fun x => sr_lo Z C n p r x
  · rw [show p * 2 + e = 2 * p + 1 by omega]
    exact log_lse Z C top n _ (2 * p + 1) r hn hr fun x => sr_hi Z C n p r x

section Arrays

variable (top : ℕ → ℕ → ℝ)
  (a0 : V m c (Pipeline.arrRef spec0 0) = (up2 Z : S2048x4608.Idx → EReal)) (a1 : V m c (Pipeline.arrRef spec0 1) = (up2 Z : S2048x4608.Idx → EReal))
  (a2 : V m c (Pipeline.arrRef spec0 2) = (up2 Z : S2048x4608.Idx → EReal)) (a3 : V m c (Pipeline.arrRef spec0 3) = (up3 (fun h i _ => C h i) : S8x2048x1.Idx → EReal))
  (a4 : V m c (Pipeline.arrRef spec0 4) = (up4 (fun h n _ s => C h (256 * n + s)) : S8x8x1x256.Idx → EReal))
include a0 a1 a2 a3 a4

theorem arr5 : (dats m 0 c).arrAt 5 cfg0.N = (up2 (Spec.out Z C top) : S2048x512.Idx → EReal) := by
  refine (dats m 0 c).arrAt_eq_of_covers 5 _ (by decide +kernel) fun t hf y => ?_
  have hn : (grid0.coords t 1).val < 8 := (grid0.coords t 1).isLt
  have h0 : (y 0).val < 256 := (y 0).isLt
  have h1 : (y 1).val < 128 := (y 1).isLt
  rw [after0_5]
  simp only [outsAt0]
  rw [show iblk m c 0 t = _ from blk0 c t Z _ a0, show iblk m c 1 t = _ from blk1 c t Z _ a1, show iblk m c 2 t = _ from blk2 c t Z _ a2,
    show iblk m c 3 t = _ from blk3 c t C _ a3, show iblk m c 4 t = _ from blk4 c t C _ a4]
  rw [out5 (cr := fun e x => C (2 * (grid0.coords t 0).val + e) x)]
  unfold up2
  blk_simp [e5]
  exact congrArg (fun z : ℝ => (z : EReal)) (valO Z C top _ _ _ _ hn h0 h1)
theorem arr6 : (dats m 0 c).arrAt 6 cfg0.N = (up2 (Spec.out Z C top) : S2048x512.Idx → EReal) := by
  refine (dats m 0 c).arrAt_eq_of_covers 6 _ (by decide +kernel) fun t hf y => ?_
  have hn : (grid0.coords t 1).val < 8 := (grid0.coords t 1).isLt
  have h0 : (y 0).val < 256 := (y 0).isLt
  have h1 : (y 1).val < 128 := (y 1).isLt
  rw [after0_6]
  simp only [outsAt0]
  rw [show iblk m c 0 t = _ from blk0 c t Z _ a0, show iblk m c 1 t = _ from blk1 c t Z _ a1, show iblk m c 2 t = _ from blk2 c t Z _ a2,
    show iblk m c 3 t = _ from blk3 c t C _ a3, show iblk m c 4 t = _ from blk4 c t C _ a4]
  rw [out6 (cr := fun e x => C (2 * (grid0.coords t 0).val + e) x)]
  unfold up2
  blk_simp [e6]
  exact congrArg (fun z : ℝ => (z : EReal)) (valO Z C top _ _ _ _ hn h0 h1)
theorem arr7 : (dats m 0 c).arrAt 7 cfg0.N = (up3 fun h i _ => Spec.lse Z C top h i : S8x2048x1.Idx → EReal) := by
  refine (dats m 0 c).arrAt_eq_of_covers 7 _ (by decide +kernel) fun t hf y => ?_
  have hn : (grid0.coords t 1).val < 8 := (grid0.coords t 1).isLt
  have h0 : (y 0).val < 2 := (y 0).isLt
  have h1 : (y 1).val < 256 := (y 1).isLt
  rw [after0_7]
  simp only [outsAt0]
  rw [show iblk m c 0 t = _ from blk0 c t Z _ a0, show iblk m c 1 t = _ from blk1 c t Z _ a1, show iblk m c 2 t = _ from blk2 c t Z _ a2,
    show iblk m c 3 t = _ from blk3 c t C _ a3, show iblk m c 4 t = _ from blk4 c t C _ a4]
  rw [out7 (cr := fun e x => C (2 * (grid0.coords t 0).val + e) x)]
  unfold up3
  blk_simp [e7]
  exact congrArg (fun z : ℝ => (z : EReal)) (valL Z C top _ _ _ _ hn h1 h0)
end Arrays
end KF
-- ==== Proof.Finite.lean ====
/- What the preconditions say: every element of every argument is a real number. -/
module

public import proofs.«01_k».proof.Proof.Gen.Pre_finite
public import proofs.«01_k».proof.Proof.Gen.Pre_finite_fwd
public import proofs.«01_k».proof.Proof.Gen.Pre_finite_act
public import proofs.«01_k».proof.Proof.Tile

@[expose] public section

noncomputable section

namespace Finite

open Idealize.ShloMosaic Idealize.ShloMosaic.ValueIdx Tile Finset

/-- A conjunction of bits is one only if every bit is. -/
theorem fold_and {ι : Type} [DecidableEq ι] (S : Finset ι) (f : ι → BitVec 1) (b : BitVec 1)
    (h : S.fold (IntOp.andi (w := 1)) b f = 1#1) : ∀ i ∈ S, f i = 1#1 := by
  induction S using Finset.induction_on with
  | empty => intro i hi; simp at hi
  | insert a S ha ih =>
    rw [Finset.fold_insert ha] at h
    have key : ∀ p q : BitVec 1, IntOp.andi p q = 1#1 → p = 1#1 ∧ q = 1#1 := by decide
    obtain ⟨h1, h2⟩ := key _ _ h
    intro i hi
    rcases Finset.mem_insert.mp hi with rfl | hi
    · exact h1
    · exact ih h2 i hi

theorem reduce_and {s : Shape} {axes : List (Fin s.rank)} (x : s.Idx → BitVec 1) (init : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi x init h hu j = 1#1) (i : s.Idx) : x i = 1#1 := by
  rw [Host.reduce_eq_fold] at e
  exact fold_and _ _ _ e i (by
    rw [Finset.mem_filter]
    exact ⟨mem_univ _, funext fun a => a.elim0⟩)

/-- A value whose magnitude is below `⊤` is real. -/
theorem real_of_lt (x : EReal) (h : FloatOps.cmpf (F := Ideal) (φ := .f32) .olt (FloatOps.hostAbsf (F := Ideal) (φ := .f32) x) (Ideal.ofBits .f32 0x7F800000#32) = 1#1) :
    (x.toReal : EReal) = x := by
  have hi : Ideal.ofBits .f32 0x7F800000#32 = ⊤ := by simp [Ideal.ofBits, Ideal.ieee]
  rw [hi] at h
  have h' : max x (-x) < (⊤ : EReal) := by
    by_contra hn
    have : FloatOps.cmpf (F := Ideal) (φ := .f32) .olt (max x (-x)) (⊤ : EReal) = 0#1 := by
      show BitVec.ofBool (decide (max x (-x) < (⊤ : EReal))) = _
      rw [decide_eq_false hn]; rfl
    exact absurd (h.symm.trans this) (by decide)
  refine EReal.coe_toReal ?_ ?_
  · rintro rfl; simp at h'
  · rintro rfl; simp at h'

/-- A matrix of reals is the lift of a real function of two naturals. -/
theorem lift {a b : ℕ} (x : (⟨2, ![a, b]⟩ : Shape).Idx → EReal) (h : ∀ i, ((x i).toReal : EReal) = x i) : ∃ f : ℕ → ℕ → ℝ, x = up2 f := by
  refine ⟨fun p q => if w : p < a ∧ q < b then (x (ix2 ⟨p, w.1⟩ ⟨q, w.2⟩)).toReal else 0, ?_⟩
  funext i
  obtain ⟨r, s, rfl⟩ : ∃ (r : Fin a) (s : Fin b), i = ix2 r s := ⟨i 0, i 1, funext fun x => by
    match x with
    | ⟨0, _⟩ => rfl
    | ⟨1, _⟩ => rfl⟩
  show _ = ((if w : r.val < a ∧ s.val < b then (x (ix2 ⟨r.val, w.1⟩ ⟨s.val, w.2⟩)).toReal else 0 : ℝ) : EReal)
  rw [dif_pos ⟨r.isLt, s.isLt⟩]
  exact (h _).symm

theorem and_one (p q : (⟨0, ![]⟩ : Shape).Idx → BitVec 1) (h : andi p q = fun _ => 1#1) (j : (⟨0, ![]⟩ : Shape).Idx) :
    p j = 1#1 ∧ q j = 1#1 := by
  have key : ∀ p q : BitVec 1, IntOp.andi p q = 1#1 → p = 1#1 ∧ q = 1#1 := by decide
  exact key _ _ (congrFun h j)

/-- The three arguments are real. -/
theorem three (x : FVec Ideal ⟨2, ![2048, 4608]⟩ .bf16) (y : FVec Ideal ⟨2, ![2048, 512]⟩ .bf16) (w : FVec Ideal ⟨2, ![8, 2048]⟩ .f32)
    (h : Cert.Pre_finite.fn (F := Ideal) x y w = fun _ => 1#1) :
    (∃ Z : ℕ → ℕ → ℝ, x = up2 Z) ∧ (∃ D : ℕ → ℕ → ℝ, y = up2 D) ∧ ∃ C : ℕ → ℕ → ℝ, w = up2 C := by
  unfold Cert.Pre_finite.fn at h
  dsimp only at h
  have j : (⟨0, ![]⟩ : Shape).Idx := fun a => a.elim0
  obtain ⟨h1, h3⟩ := and_one _ _ h j
  have h1' : andi (Host.reduce IntOp.andi _ _ _ _) (Host.reduce IntOp.andi _ _ _ _) = fun _ => 1#1 := funext fun k => by
    rw [Subsingleton.elim k j]; exact h1
  obtain ⟨h1, h2⟩ := and_one _ _ h1' j
  exact ⟨lift x fun i => real_of_lt _ (reduce_and _ _ _ _ _ h1 i), lift y fun i => real_of_lt _ (reduce_and _ _ _ _ _ h2 i),
    lift w fun i => real_of_lt _ (reduce_and _ _ _ _ _ h3 i)⟩

/-- The two arguments are real. -/
theorem two (x : FVec Ideal ⟨2, ![2048, 4608]⟩ .bf16) (w : FVec Ideal ⟨2, ![8, 2048]⟩ .f32)
    (h : Cert.Pre_finite_fwd.fn (F := Ideal) x w = fun _ => 1#1) :
    (∃ Z : ℕ → ℕ → ℝ, x = up2 Z) ∧ ∃ C : ℕ → ℕ → ℝ, w = up2 C := by
  unfold Cert.Pre_finite_fwd.fn at h
  dsimp only at h
  have j : (⟨0, ![]⟩ : Shape).Idx := fun a => a.elim0
  obtain ⟨h1, h3⟩ := and_one _ _ h j
  exact ⟨lift x fun i => real_of_lt _ (reduce_and _ _ _ _ _ h1 i), lift w fun i => real_of_lt _ (reduce_and _ _ _ _ _ h3 i)⟩

/-- The activation's two arguments are real. -/
theorem act (x : FVec Ideal ⟨2, ![2048, 5632]⟩ .bf16) (y : FVec Ideal ⟨2, ![2048, 2816]⟩ .bf16)
    (h : Cert.Pre_finite_act.fn (F := Ideal) x y = fun _ => 1#1) :
    (∃ Z : ℕ → ℕ → ℝ, x = up2 Z) ∧ ∃ D : ℕ → ℕ → ℝ, y = up2 D := by
  unfold Cert.Pre_finite_act.fn at h
  dsimp only at h
  have j : (⟨0, ![]⟩ : Shape).Idx := fun a => a.elim0
  obtain ⟨h1, h2⟩ := and_one _ _ h j
  exact ⟨lift x fun i => real_of_lt _ (reduce_and _ _ _ _ _ h1 i), lift y fun i => real_of_lt _ (reduce_and _ _ _ _ _ h2 i)⟩

end Finite
-- ==== Proof.AlgF.lean ====
/- The forward attention call computes the softmax attention its reference states, and each row's log sum. -/
module

public import proofs.«01_k».proof.Proof.KFA
public import proofs.«01_k».proof.Proof.RefF
public import proofs.«01_k».proof.Proof.Finite
public import proofs.«01_k».proof.Defs
public import proofs.«01_k».proof.Proof.Gen.KernelFIdeal.Value
public import proofs.«01_k».proof.Proof.Gen.ReferenceFIdeal.Run

@[expose] public section

noncomputable section

namespace KF

open Cert.KernelFIdeal Cert.KernelFIdeal.Gen Idealize.ShloMosaic Idealize.ShloMosaic.TcCoe Idealize.ShloMosaic.ValueIdx Idealize.SL.Sem Tile Finset

section Host

variable (m : (ℓ : Loc nD τ sig) → Buf (Elt Ideal) ℓ) (c : Dev nD)

/-- What the host hands the call: the bias as a column and in blocks of rows. -/
theorem host0 : V m c main_v0 = broadcastInDim S8x2048x1 ![0, 1] bcast_S8x2048_S8x2048x1_0_1 (m ((c : Thread nD τ).loc main_arg1)) := by
  simp only [V, hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
theorem host1 : V m c main_v1 = shapeCast S8x8x1x256 (broadcastInDim S8x2048x1 ![0, 1] bcast_S8x2048_S8x2048x1_0_1 (m ((c : Thread nD τ).loc main_arg1))) shapeCasts_S8x2048x1_S8x8x1x256 := by
  simp only [V, hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end Host

/-- The bias as a column. -/
theorem col (C : ℕ → ℕ → ℝ) : broadcastInDim S8x2048x1 ![0, 1] bcast_S8x2048_S8x2048x1_0_1 (up2 C : S8x2048.Idx → EReal)
    = up3 fun h i _ => C h i := by
  funext i
  exact broadcastInDim_apply _ bcast_S8x2048_S8x2048x1_0_1 (up2 C : S8x2048.Idx → EReal) i (ix2 (i 0) (i 1)) (fun a => match a with
    | ⟨0, _⟩ => by show (i 0).val = if (8 : Nat) = 1 then 0 else (i 0).val; rw [if_neg (by decide)]
    | ⟨1, _⟩ => by show (i 1).val = if (2048 : Nat) = 1 then 0 else (i 1).val; rw [if_neg (by decide)])

/-- A column cut into blocks of rows. -/
theorem blocks (C : ℕ → ℕ → ℝ) : shapeCast S8x8x1x256 (up3 (fun h i _ => C h i) : S8x2048x1.Idx → EReal) shapeCasts_S8x2048x1_S8x8x1x256
    = up4 fun h n _ s => C h (256 * n + s) := by
  funext i
  have h0 : (i 0).val < 8 := (i 0).isLt
  have h1 : (i 1).val < 8 := (i 1).isLt
  have h2 : (i 2).val < 1 := (i 2).isLt
  have h3 : (i 3).val < 256 := (i 3).isLt
  rw [shapeCast_apply (up3 (fun h i _ => C h i) : S8x2048x1.Idx → EReal) shapeCasts_S8x2048x1_S8x8x1x256 i
    (ix3 (i 0) ⟨256 * (i 1).val + (i 3).val, by omega⟩ 0) (by
      rw [Shape.rowMajor_val_three, Shape.rowMajor_val_four]
      show ((i 0).val * 2048 + (256 * (i 1).val + (i 3).val)) * 1 + 0 = (((i 0).val * 8 + (i 1).val) * 1 + (i 2).val) * 256 + (i 3).val
      omega)]
  rfl

/-- The call's three results, on arguments that are real. -/
theorem results (m : (ℓ : Loc nD τ sig) → Buf (Elt Ideal) ℓ) (c : Dev nD) (Z C : ℕ → ℕ → ℝ)
    (h0 : m ((c : Thread nD τ).loc main_arg0) = (up2 Z : S2048x4608.Idx → EReal))
    (h1 : m ((c : Thread nD τ).loc main_arg1) = (up2 C : S8x2048.Idx → EReal)) :
    (dats m 0 c).arrAt 5 cfg0.N = (up2 (Spec.out Z C (RefF.top Z C)) : S2048x512.Idx → EReal)
    ∧ (dats m 0 c).arrAt 6 cfg0.N = (up2 (Spec.out Z C (RefF.top Z C)) : S2048x512.Idx → EReal)
    ∧ (dats m 0 c).arrAt 7 cfg0.N = (up3 (fun h i _ => Spec.lse Z C (RefF.top Z C) h i) : S8x2048x1.Idx → EReal) := by
  have a0 : V m c main_arg0 = (up2 Z : S2048x4608.Idx → EReal) := (V_main_arg0 m c).trans h0
  have a3 : V m c main_v0 = (up3 (fun h i _ => C h i) : S8x2048x1.Idx → EReal) := by
    rw [host0, h1]; exact col C
  have a4 : V m c main_v1 = (up4 (fun h n _ s => C h (256 * n + s)) : S8x8x1x256.Idx → EReal) := by
    rw [host1, h1, col]; exact blocks C
  exact ⟨arr5 m c Z C _ a0 a0 a0 a3 a4, arr6 m c Z C _ a0 a0 a0 a3 a4, arr7 m c Z C _ a0 a0 a0 a3 a4⟩

/-- Both programs, from the same real arguments, end with the same three results. -/
theorem algebraic : Cert.algebraic_KernelFIdeal_ReferenceFIdeal_pre_finite_fwd := by
  intro m g m' g' hp he
  have real (c : Dev nD) := Finite.two _ _ (hp c)
  choose hZ hC using real
  choose Z hZ using hZ
  choose C hC using hC
  refine ⟨fun c => (dats m 0 c).arrAt 5 cfg0.N, fun c => (dats m 0 c).arrAt 6 cfg0.N, fun c => (dats m 0 c).arrAt 7 cfg0.N,
    Cert.KernelFIdeal.Value.run_blocks m g, ?_⟩
  refine (θ_run Cert.ReferenceFIdeal.defs _ _).mono (fun r h c => ?_) (Cert.ReferenceFIdeal.Value.run (F := Ideal) m' g')
  obtain ⟨r0, r1, r2, k⟩ := h c
  obtain ⟨e0, e1⟩ := he c
  obtain ⟨w0, w1, w2⟩ := results m c (Z c) (C c) (hZ c) (hC c)
  refine ⟨?_, ?_, ?_, k⟩
  · rw [r0, Cert.ReferenceFIdeal.Read.val_main_v49_eq, e0, e1]
    refine Eq.trans ?_ w0.symm
    rw [hZ c, hC c]
    exact RefF.v49 (Z c) (C c)
  · rw [r1, Cert.ReferenceFIdeal.Read.val_main_v50_eq, e0, e1]
    refine Eq.trans ?_ w1.symm
    rw [hZ c, hC c]
    exact RefF.v49 (Z c) (C c)
  · rw [r2, Cert.ReferenceFIdeal.Read.val_main_v35_eq, e0, e1]
    refine Eq.trans ?_ w2.symm
    rw [hZ c, hC c]
    exact RefF.v35 (Z c) (C c)

end KF
-- ==== Proof.KQ.lean ====
module
public import proofs.«01_k».proof.Proof.Gen.KernelQIdeal.Value
public import proofs.«01_k».proof.Proof.Tile
public import Idealize.ShloMosaic.Lib.Pipeline.ValueKit.Geometry
@[expose] public section
noncomputable section
namespace KQ
open Cert.KernelQIdeal Cert.KernelQIdeal.Gen Idealize.ShloMosaic Idealize.ShloMosaic.TcCoe Idealize.SL.Sem Tile Finset

theorem dot_nt : (dot_S256x128_S256x128_S256x256_1_1_0_0_n_n : DotDims S256x128 S256x128 S256x256) = DotDims.transposedRhs 256 128 256 := rfl
theorem dot_nn : (dot_S256x256_S256x128_S256x128_1_0_0_1_n_n : DotDims S256x256 S256x128 S256x128) = DotDims.plain 256 256 128 := rfl

/-- One entry of the score gradient of one head, rows of the query block against absolute key rows. -/
def wt (q kk : ℕ → ℕ → ℝ) (c l cr : ℕ → ℝ) (r x : ℕ) : ℝ :=
  Real.exp ((∑ t ∈ range 128, q r t * kk x t) * (1 / 8) + (c r - cr x) - l r)
def gp (d vv : ℕ → ℕ → ℝ) (e : ℕ → ℝ) (r x : ℕ) : ℝ := (∑ t ∈ range 128, d r t * vv x t) - e r
def dsc (q d kk vv : ℕ → ℕ → ℝ) (e c l cr : ℕ → ℝ) (r x : ℕ) : ℝ := wt q kk c l cr r x * gp d vv e r x
/-- The lanes of a pair of heads that belong to its first and its second head. -/
def lo (f : ℕ → ℕ → ℝ) (i j : ℕ) : ℝ := if j < 64 then f i j else 0
def hi (f : ℕ → ℕ → ℝ) (i j : ℕ) : ℝ := if 64 ≤ j then f i j else 0

theorem trips1 (i : grid0.Coords) : Scf.trips (k0_t1_loop i).lb (k0_t1_loop i).ub (k0_t1_loop i).st = (i 1).val := by
  unfold k0_t1_loop
  generalize (i 1) = n
  revert n
  decide
theorem trips2 (i : grid0.Coords) : Scf.trips (k0_t2_loop i).lb (k0_t2_loop i).ub (k0_t2_loop i).st = 0 := by
  unfold k0_t2_loop
  generalize (i 1) = n
  revert n
  decide

theorem idx (k : ℕ) (h : k < 8) : BitVec.toNat (Scalar.indexCast (Scf.iv 0#32 1#32 k)) = k := by
  interval_cases k <;> rfl
theorem idx0 (k : ℕ) (h : k < 8) : BitVec.toNat (Scalar.indexCast (BitVec.ofNat 32 k)) = k := by
  interval_cases k <;> rfl
theorem idx_mul0 (k : ℕ) (h : k < 8) : BitVec.toNat (Scalar.indexCast (Scalar.muli (BitVec.ofNat 32 k) 256#32)) = 256 * k := by
  interval_cases k <;> rfl
theorem idx_mul (k : ℕ) (h : k < 8) : BitVec.toNat (Scalar.indexCast (Scalar.muli (Scf.iv 0#32 1#32 k) 256#32)) = 256 * k := by
  interval_cases k <;> rfl

variable (𝒱 : Variants) (c : Dev nD) (bd : Option 𝒱.V) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .f32) (harg5 : arg5.IsWhole) (arg6 : Memref sig .tc .vmem S256x128 .bf16) (harg6 : arg6.IsWhole) (arg7 : Memref sig .tc .vmem S2x256x1 .f32) (harg7 : arg7.IsWhole) (arg8 : Memref sig .tc .vmem S2x256x1 .f32) (harg8 : arg8.IsWhole) (arg9 : Memref sig .tc .vmem S2x8x1x256 .f32) (harg9 : arg9.IsWhole) (arg10 : Memref sig .tc .vmem S256x128 .bf16) (harg10 : arg10.IsWhole) (arg11 : Memref sig .tc .vmem S2x256x1 .f32) (harg11 : arg11.IsWhole) (arg12 : Memref sig .tc .vmem S1x256x128 .f32) (harg12 : arg12.IsWhole) (arg1 : BitVec 32)
variable (q0 q1 d0 d1 e0 e1 kk vv : ℕ → ℕ → ℝ) (c0 c1 l0 l1 : ℕ → ℕ → ℕ → ℝ) (cr : ℕ → ℕ → ℝ)
set_option pp.proofs false
theorem trip1 (k : Fin (k0_t1_loop i).trips) (A B C D : ℕ → ℕ → ℝ) :
    tripR_k0_t1 (F := Ideal) 𝒱 c bd i arg2 harg2 arg3 harg3 arg4 harg4 arg5 harg5 arg6 harg6 arg7 harg7 arg8 harg8 arg9 harg9 arg10 harg10 arg11 harg11 arg12 harg12 arg1 (up2 q0) (up2 q1) (up2 d0) (up2 d1) (up2 e0) (up2 e1) (up3 c0) (up3 c1) (up3 l0) (up3 l1)
      (harg3.unread (up2 kk)) (harg4.unread (up2 vv)) (harg9.unread (up4 fun e n _ s => cr e (256 * n + s))) k (up2 A, up2 B, up2 C, up2 D)
    = (up2 fun r t => A r t + ∑ s ∈ range 256, dsc q0 d0 kk vv (fun r => e0 r 0) (fun r => c0 0 r 0) (fun r => l0 0 r 0) (cr 0) r (256 * k + s) * kk (256 * k + s) t,
       up2 fun r t => B r t + ∑ s ∈ range 256, dsc q0 d0 kk vv (fun r => e0 r 0) (fun r => c0 0 r 0) (fun r => l0 0 r 0) (cr 0) r (256 * k + s),
       up2 fun r t => C r t + ∑ s ∈ range 256, dsc q1 d1 kk vv (fun r => e1 r 0) (fun r => c1 0 r 0) (fun r => l1 0 r 0) (cr 1) r (256 * k + s) * kk (256 * k + s) t,
       up2 fun r t => D r t + ∑ s ∈ range 256, dsc q1 d1 kk vv (fun r => e1 r 0) (fun r => c1 0 r 0) (fun r => l1 0 r 0) (cr 1) r (256 * k + s)) := by
  unfold tripR_k0_t1 trip_k0_t1
  have hk : k.val < 8 := by have h := k.isLt; have h2 : (k0_t1_loop i).trips = (i 1).val := trips1 i; have h3 : (i 1).val < 8 := (i 1).isLt; omega
  dsimp only
  unfold trip_k0_t1.sl.r_2 trip_k0_t1.sl.r_3 trip_k0_t1.sl.r_4 trip_k0_t1.sl.r trip_k0_t1.sl.r_1  trip_k0_t1.sl.cst_79
  simp only [↓load2_bf16, ↓load4]
  simp only [k0_pay6, k0_pay7, k0_pay5, k0_pay8, k0_pay28, k0_pay29, k0_pay30, k0_pay22, k0_pay23, k0_pay24, k0_pay25, dot_nt, dot_nn, addf_up2, subf_up2, mulf_up2, exp_up2, truncf_up2, extf_up2, splat_zero, splat_eighth, constant_zero, matmul_nt, matmul_nn, rowSum_up2, cast_self, cast_1_2, cast_drop, cast_add, cast_4_2, bcast_col, bcast_row, k0_off1, k0_off2, k0_off3, idx _ hk, idx_mul _ hk, Matrix.cons_val_zero, Matrix.cons_val_one, Matrix.cons_val, zero_add, add_zero, mul_zero]
  rfl

/-- The state of the key loop after `n` trips. -/
theorem state1 (n : ℕ) (hn : n ≤ (k0_t1_loop i).trips) :
    st_k0_t1 (F := Ideal) 𝒱 c bd i arg2 harg2 arg3 harg3 arg4 harg4 arg5 harg5 arg6 harg6 arg7 harg7 arg8 harg8 arg9 harg9 arg10 harg10 arg11 harg11 arg12 harg12 arg1 (up2 q0) (up2 q1) (up2 d0) (up2 d1) (up2 e0) (up2 e1) (up3 c0) (up3 c1) (up3 l0) (up3 l1)
      (harg3.unread (up2 kk)) (harg4.unread (up2 vv)) (harg9.unread (up4 fun e n _ s => cr e (256 * n + s))) (k0_pay26, k0_pay27, k0_pay26, k0_pay27) n
    = (up2 fun r t => ∑ x ∈ range (256 * n), dsc q0 d0 kk vv (fun r => e0 r 0) (fun r => c0 0 r 0) (fun r => l0 0 r 0) (cr 0) r x * kk x t,
       up2 fun r _ => ∑ x ∈ range (256 * n), dsc q0 d0 kk vv (fun r => e0 r 0) (fun r => c0 0 r 0) (fun r => l0 0 r 0) (cr 0) r x,
       up2 fun r t => ∑ x ∈ range (256 * n), dsc q1 d1 kk vv (fun r => e1 r 0) (fun r => c1 0 r 0) (fun r => l1 0 r 0) (cr 1) r x * kk x t,
       up2 fun r _ => ∑ x ∈ range (256 * n), dsc q1 d1 kk vv (fun r => e1 r 0) (fun r => c1 0 r 0) (fun r => l1 0 r 0) (cr 1) r x) := by
  induction n with
  | zero =>
    rw [st_k0_t1_zero]
    simp only [k0_pay26, k0_pay27, splat_zero, mul_zero, range_zero, sum_empty]
  | succ n ih =>
    have := st_k0_t1_succ (F := Ideal) 𝒱 c bd i arg2 harg2 arg3 harg3 arg4 harg4 arg5 harg5 arg6 harg6 arg7 harg7 arg8 harg8 arg9 harg9 arg10 harg10 arg11 harg11 arg12 harg12 arg1 (up2 q0) (up2 q1) (up2 d0) (up2 d1) (up2 e0) (up2 e1) (up3 c0) (up3 c1) (up3 l0) (up3 l1)
      (harg3.unread (up2 kk)) (harg4.unread (up2 vv)) (harg9.unread (up4 fun e n _ s => cr e (256 * n + s))) (k0_pay26, k0_pay27, k0_pay26, k0_pay27) ⟨n, hn⟩
    refine this.trans ?_
    rw [ih (by omega), trip1]
    simp only [mul_add, mul_one, sum_range_add]

variable (q o d : ℕ → ℕ → ℝ) (l cc : ℕ → ℕ → ℕ → ℝ)
theorem pay13 : k0_pay13 = msk2 fun _ j => decide (j < 64) := lanes_lt 64 (by omega) (by omega) _
theorem pay14 : k0_pay14 = msk2 fun _ j => decide (64 ≤ j) := lanes_ge 64 (by omega) (by omega) _
theorem pay35 : k0_pay35 = msk2 fun i j => decide (j ≤ i) := lower (by omega) (by omega) _ _
theorem i1lt : (i 1).val < 8 := (i 1).isLt
theorem i0lt : (i 0).val < 4 := (i 0).isLt
theorem off7 : k0_off7 i = ![256 * (i 1).val, 0] := by
  have h := i1lt i; unfold k0_off7; dsimp only; rw [idx_mul0 _ h]
theorem off8 : k0_off8 i = ![0, (i 1).val, 0, 0] := by
  have h := i1lt i; unfold k0_off8; dsimp only; rw [idx0 _ h]
theorem off9 : k0_off9 i = ![1, (i 1).val, 0, 0] := by
  have h := i1lt i; unfold k0_off9; dsimp only; rw [idx0 _ h]
theorem low : cmpi .sle (iota .tc S256x256 32 [1] iota_S256x256_d1_w32) (iota .tc S256x256 32 [0] iota_S256x256_d0_w32) = msk2 fun i j => decide (j ≤ i) := pay35
theorem eq_lane (m : ℕ) (v : BitVec 32) (hv : v = BitVec.ofNat 32 m) (hm : m < 4096) :
    cmpi .eq (iota .tc S1x128 32 [1] iota_S1x128_d1_w32) (broadcast S1x128 v) = msk2 fun _ j => decide (j = m) := by
  subst hv; exact lanes_eq m hm (by omega) _
theorem pay4 (n : ℕ) (h : n < 4) (f g : ℕ → ℕ → ℝ) : k0_pay4 (F := Ideal) (BitVec.ofNat 32 n) (up2 f) (up2 g)
    = up3 fun _ r t => (if t = 2 * n then f r 0 else 0) + (if t = 2 * n + 1 then g r 0 else 0) := by
  have e1 := eq_lane (2 * n) (Scalar.muli 2#32 (BitVec.ofNat 32 n)) (by interval_cases n <;> rfl) (by omega)
  have e2 := eq_lane (2 * n + 1) (Scalar.addi (Scalar.muli 2#32 (BitVec.ofNat 32 n)) 1#32) (by interval_cases n <;> rfl) (by omega)
  simp only [k0_pay4, ↓e1, ↓e2, cast_self, bcast_msk_row, bcast_col, splat_zero, select_up2, addf_up2, cast_add, decide_eq_true_eq]
/-- One head's query gradient before its scale: whole key blocks first, then the diagonal block. -/
def gq (q d kk vv : ℕ → ℕ → ℝ) (e c l cr : ℕ → ℝ) (n r t : ℕ) : ℝ :=
  ∑ x ∈ range (256 * n), dsc q d kk vv e c l cr r x * kk x t
    + ∑ s ∈ range 256, (if s ≤ r then wt q kk c l cr r (256 * n + s) else 0) * gp d vv e r (256 * n + s) * kk (256 * n + s) t
/-- One head's bias gradient, in the same order. -/
def gc (q d kk vv : ℕ → ℕ → ℝ) (e c l cr : ℕ → ℝ) (n r : ℕ) : ℝ :=
  ∑ x ∈ range (256 * n), dsc q d kk vv e c l cr r x
    + ∑ s ∈ range 256, (if s ≤ r then wt q kk c l cr r (256 * n + s) else 0) * gp d vv e r (256 * n + s)
/-- The row sums of one head's lanes. -/
def el (o d : ℕ → ℕ → ℝ) (r : ℕ) : ℝ := ∑ t ∈ range 128, lo (fun r t => d r t * o r t) r t
def eh (o d : ℕ → ℕ → ℝ) (r : ℕ) : ℝ := ∑ t ∈ range 128, hi (fun r t => d r t * o r t) r t

set_option maxRecDepth 4000 in
theorem out8 :
    out0_A_8 (F := Ideal) c i arg2 harg2 arg3 harg3 arg4 harg4 arg5 harg5 arg6 harg6 arg7 harg7 arg8 harg8 arg9 harg9 arg10 harg10 arg11 harg11 arg12 harg12 (up2 q) (up2 kk) (up2 vv) (up2 o) (up2 d) (up3 l) (up3 cc) (up4 fun e n _ s => cr e (256 * n + s)) = up2 fun r t =>
      (if t < 64 then gq (lo q) (lo d) kk vv (el o d) (fun r => cc 0 r 0) (fun r => l 0 r 0) (cr 0) (i 1) r t
        else gq (hi q) (hi d) kk vv (eh o d) (fun r => cc 1 r 0) (fun r => l 1 r 0) (cr 1) (i 1) r t) * (1 / 8) := by
  unfold out0_A_8
  rw [View.read_writes_eq_canon _ _ _ (cover0_A_8 _ _ _ _ _ _ _ _ _ _ _ _ _ _ _ _ _ _ _ _ _ _ _ _ _ _ _ _ _ _ _ _)]
  unfold kernelRun0_A
  dsimp only
  try unfold kernelRun0_A.sl.r_18
  try unfold kernelRun0_A.sl.r_17
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold kernelRun0_A.sl.cst_35
  simp only [↓load2, ↓load2_bf16, ↓load3, ↓load4, off7, off8, off9, Matrix.cons_val_zero, Matrix.cons_val_one, Matrix.cons_val, zero_add, add_zero]
  simp only [k0_pay16, k0_pay17, k0_pay18, k0_pay19, k0_pay20, k0_pay21, pay13, pay14, k0_pay15, cast_self, bcast_msk_row, select_up2, splat_zero_bf16, splat_zero, extf_up2, mulf_up2, rowSum_up2, cast_1_2]
  rw [trips1, trips2, st_k0_t2_zero, state1 _ _ _ _ _ _ _ _ _ _ _ _ _ _ _ _ _ _ _ _ _ _ _ _ _ _ _ _ _ _ _ _ _ _ _ _ _ _ _ _ _ (trips1 i).ge]
  dsimp only
  simp only [k0_pay1, k0_pay2, k0_pay3, pay4 _ (i0lt i), k0_pay37, k0_pay39, k0_pay40, k0_pay41, k0_pay34, pay13, pay35, ↓low, k0_pay36, k0_pay38, k0_pay22, k0_pay23, k0_pay24, k0_pay25, cast_self, bcast_msk_row, select_up2, dot_nt, dot_nn, addf_up2, subf_up2, mulf_up2, exp_up2, truncf_up2, extf_up2, splat_zero, splat_eighth, splat_negInf, constant_zero, matmul_nt, matmul_nn, rowSum_up2, cast_1_2, cast_drop, cast_add, cast_4_2, bcast_col, bcast_row, select_dn2, subf_dn2, exp_dn2, add_zero, zero_add, decide_eq_true_eq]
  refine (View.canon_unit_zero (by decide) _ _).trans ?_
  rfl

set_option maxRecDepth 4000 in
theorem out10 :
    out0_A_10 (F := Ideal) c i arg2 harg2 arg3 harg3 arg4 harg4 arg5 harg5 arg6 harg6 arg7 harg7 arg8 harg8 arg9 harg9 arg10 harg10 arg11 harg11 arg12 harg12 (up2 q) (up2 kk) (up2 vv) (up2 o) (up2 d) (up3 l) (up3 cc) (up4 fun e n _ s => cr e (256 * n + s)) = up3 fun _ r t =>
      (if t = 2 * (i 0).val then gc (lo q) (lo d) kk vv (el o d) (fun r => cc 0 r 0) (fun r => l 0 r 0) (cr 0) (i 1) r else 0)
        + (if t = 2 * (i 0).val + 1 then gc (hi q) (hi d) kk vv (eh o d) (fun r => cc 1 r 0) (fun r => l 1 r 0) (cr 1) (i 1) r else 0) := by
  unfold out0_A_10
  rw [View.read_writes_eq_canon _ _ _ (cover0_A_10 _ _ _ _ _ _ _ _ _ _ _ _ _ _ _ _ _ _ _ _ _ _ _ _ _ _ _ _ _ _ _ _)]
  unfold kernelRun0_A
  dsimp only
  try unfold kernelRun0_A.sl.r_18
  try unfold kernelRun0_A.sl.r_17
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold kernelRun0_A.sl.cst_35
  simp only [↓load2, ↓load2_bf16, ↓load3, ↓load4, off7, off8, off9, Matrix.cons_val_zero, Matrix.cons_val_one, Matrix.cons_val, zero_add, add_zero]
  simp only [k0_pay16, k0_pay17, k0_pay18, k0_pay19, k0_pay20, k0_pay21, pay13, pay14, k0_pay15, cast_self, bcast_msk_row, select_up2, splat_zero_bf16, splat_zero, extf_up2, mulf_up2, rowSum_up2, cast_1_2]
  rw [trips1, trips2, st_k0_t2_zero, state1 _ _ _ _ _ _ _ _ _ _ _ _ _ _ _ _ _ _ _ _ _ _ _ _ _ _ _ _ _ _ _ _ _ _ _ _ _ _ _ _ _ (trips1 i).ge]
  dsimp only
  simp only [k0_pay1, k0_pay2, k0_pay3, pay4 _ (i0lt i), k0_pay37, k0_pay39, k0_pay40, k0_pay41, k0_pay34, pay13, pay35, ↓low, k0_pay36, k0_pay38, k0_pay22, k0_pay23, k0_pay24, k0_pay25, cast_self, bcast_msk_row, select_up2, dot_nt, dot_nn, addf_up2, subf_up2, mulf_up2, exp_up2, truncf_up2, extf_up2, splat_zero, splat_eighth, splat_negInf, constant_zero, matmul_nt, matmul_nn, rowSum_up2, cast_1_2, cast_drop, cast_add, cast_4_2, bcast_col, bcast_row, select_dn2, subf_dn2, exp_dn2, add_zero, zero_add, decide_eq_true_eq]
  refine (View.canon_unit_zero (by decide) _ _).trans ?_
  rfl

set_option maxRecDepth 4000 in
theorem out9 :
    out0_A_9 (F := Ideal) c i arg2 harg2 arg3 harg3 arg4 harg4 arg5 harg5 arg6 harg6 arg7 harg7 arg8 harg8 arg9 harg9 arg10 harg10 arg11 harg11 arg12 harg12 (up2 q) (up2 kk) (up2 vv) (up2 o) (up2 d) (up3 l) (up3 cc) (up4 fun e n _ s => cr e (256 * n + s)) = up3 fun h r _ => if h = 0 then el o d r else eh o d r := by
  unfold out0_A_9
  rw [View.read_writes_eq_canon _ _ _ (cover0_A_9 _ _ _ _ _ _ _ _ _ _ _ _ _ _ _ _ _ _ _ _ _ _ _ _ _ _ _ _ _ _ _ _)]
  unfold kernelRun0_A
  dsimp only
  try unfold kernelRun0_A.sl.r_18
  try unfold kernelRun0_A.sl.r_17
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold kernelRun0_A.sl.cst_35
  simp only [↓load2, ↓load2_bf16, ↓load3, ↓load4, off7, off8, off9, Matrix.cons_val_zero, Matrix.cons_val_one, Matrix.cons_val, zero_add, add_zero]
  simp only [k0_pay16, k0_pay17, k0_pay18, k0_pay19, k0_pay20, k0_pay21, pay13, pay14, k0_pay15, cast_self, bcast_msk_row, select_up2, splat_zero_bf16, splat_zero, extf_up2, mulf_up2, rowSum_up2, cast_1_2]
  simp only [k0_pay1, k0_pay2, k0_pay3, pay4 _ (i0lt i), k0_pay37, k0_pay39, k0_pay40, k0_pay41, k0_pay34, pay13, pay35, ↓low, k0_pay36, k0_pay38, k0_pay22, k0_pay23, k0_pay24, k0_pay25, cast_self, bcast_msk_row, select_up2, dot_nt, dot_nn, addf_up2, subf_up2, mulf_up2, exp_up2, truncf_up2, extf_up2, splat_zero, splat_eighth, splat_negInf, constant_zero, matmul_nt, matmul_nn, rowSum_up2, cast_1_2, cast_drop, cast_add, cast_4_2, bcast_col, bcast_row, select_dn2, subf_dn2, exp_dn2, add_zero, zero_add, decide_eq_true_eq]
  funext y
  refine View.canon_apply_of_pieces (Val := Elt Ideal) (e := .f32) (S := S2x256x1) (up3 fun h r _ => if h = 0 then el o d r else eh o d r) _ ?_ y ?_
  · intro p hp x
    simp only [List.mem_cons, List.not_mem_nil, or_false] at hp
    rcases hp with rfl | rfl
    · have h0 : ((x 0 : Fin _) : ℕ) = 0 := Nat.lt_one_iff.mp (x 0).isLt
      show _ = up3 _ ((Rect.unit (s := S2x256x1) ![1, 0, 0] ![1, 256, 1] inb_S2x256x1_S1x256x1_1_0_0).emb x)
      simp only [up3, ValueKit.rect_emb_unit_val]
      rw [show (![1, 0, 0] : Fin 3 → ℕ) 0 + (x 0 : Fin _).val = 1 by rw [h0]; rfl, if_neg (by decide), show (![1, 0, 0] : Fin 3 → ℕ) 1 + (x 1 : Fin _).val = (x 1 : Fin _).val from Nat.zero_add _]
      rfl
    · have h0 : ((x 0 : Fin _) : ℕ) = 0 := Nat.lt_one_iff.mp (x 0).isLt
      show _ = up3 _ ((Rect.unit (s := S2x256x1) ![0, 0, 0] ![1, 256, 1] inb_S2x256x1_S1x256x1_0_0_0).emb x)
      simp only [up3, ValueKit.rect_emb_unit_val]
      rw [show (![0, 0, 0] : Fin 3 → ℕ) 0 + (x 0 : Fin _).val = 0 by rw [h0]; rfl, if_pos rfl, show (![0, 0, 0] : Fin 3 → ℕ) 1 + (x 1 : Fin _).val = (x 1 : Fin _).val from Nat.zero_add _]
      rfl
  · have h0 : (y 0 : Fin _).val < 2 := (y 0).isLt
    have h1 : (y 1 : Fin _).val < 256 := (y 1).isLt
    have h2 : (y 2 : Fin _).val < 1 := (y 2).isLt
    by_cases h : (y 0 : Fin _).val = 0
    · refine ⟨_, List.mem_cons_of_mem _ List.mem_cons_self, ?_⟩
      show y ∈ (Rect.unit (s := S2x256x1) ![0, 0, 0] ![1, 256, 1] inb_S2x256x1_S1x256x1_0_0_0).set
      rw [Rect.mem_set_unit]
      intro a
      match a with
      | ⟨0, _⟩ => exact ⟨Nat.zero_le _, by show (y 0 : Fin _).val < 0 + 1; omega⟩
      | ⟨1, _⟩ => exact ⟨Nat.zero_le _, by show (y 1 : Fin _).val < 0 + 256; omega⟩
      | ⟨2, _⟩ => exact ⟨Nat.zero_le _, by show (y 2 : Fin _).val < 0 + 1; omega⟩
    · refine ⟨_, List.mem_cons_self, ?_⟩
      show y ∈ (Rect.unit (s := S2x256x1) ![1, 0, 0] ![1, 256, 1] inb_S2x256x1_S1x256x1_1_0_0).set
      rw [Rect.mem_set_unit]
      intro a
      match a with
      | ⟨0, _⟩ => exact ⟨by show 1 ≤ (y 0 : Fin _).val; omega, by show (y 0 : Fin _).val < 1 + 1; omega⟩
      | ⟨1, _⟩ => exact ⟨Nat.zero_le _, by show (y 1 : Fin _).val < 0 + 256; omega⟩
      | ⟨2, _⟩ => exact ⟨Nat.zero_le _, by show (y 2 : Fin _).val < 0 + 1; omega⟩
end KQ
-- ==== Proof.KQA.lean ====
/- The query-side gradient kernel: its three result arrays as real sums over the whole sequence.

   The blocks the pipeline hands to a grid point are windows of the whole arrays; the point's results (the module before
   this one) are rewritten in whole-array coordinates and put back where the pipeline writes them. -/
module

public import proofs.«01_k».proof.Proof.KQ
public import proofs.«01_k».proof.Proof.Spec

@[expose] public section

noncomputable section

namespace KQ

open Cert.KernelQIdeal Cert.KernelQIdeal.Gen Idealize.ShloMosaic Idealize.ShloMosaic.TcCoe Idealize.SL.Sem Tile Finset

theorem e0 : ∀ t : Fin cfg0.N, win0_0.index t = ![(grid0.coords t 1).val, 24 + (grid0.coords t 0).val] :=
  (by decide +kernel : ∀ t : Fin grid0.N, _)
theorem e1 : ∀ t : Fin cfg0.N, win0_1.index t = ![0, 28 + (grid0.coords t 0).val] :=
  (by decide +kernel : ∀ t : Fin grid0.N, _)
theorem e2 : ∀ t : Fin cfg0.N, win0_2.index t = ![0, 32 + (grid0.coords t 0).val] :=
  (by decide +kernel : ∀ t : Fin grid0.N, _)
theorem e3 : ∀ t : Fin cfg0.N, win0_3.index t = ![(grid0.coords t 1).val, (grid0.coords t 0).val] :=
  (by decide +kernel : ∀ t : Fin grid0.N, _)
theorem e4 : ∀ t : Fin cfg0.N, win0_4.index t = ![(grid0.coords t 1).val, (grid0.coords t 0).val] :=
  (by decide +kernel : ∀ t : Fin grid0.N, _)
theorem e5 : ∀ t : Fin cfg0.N, win0_5.index t = ![(grid0.coords t 0).val, (grid0.coords t 1).val, 0] :=
  (by decide +kernel : ∀ t : Fin grid0.N, _)
theorem e6 : ∀ t : Fin cfg0.N, win0_6.index t = ![(grid0.coords t 0).val, (grid0.coords t 1).val, 0] :=
  (by decide +kernel : ∀ t : Fin grid0.N, _)
theorem e7 : ∀ t : Fin cfg0.N, win0_7.index t = ![(grid0.coords t 0).val, 0, 0, 0] :=
  (by decide +kernel : ∀ t : Fin grid0.N, _)
theorem e8 : ∀ t : Fin cfg0.N, win0_8.index t = ![(grid0.coords t 1).val, (grid0.coords t 0).val] :=
  (by decide +kernel : ∀ t : Fin grid0.N, _)
theorem e9 : ∀ t : Fin cfg0.N, win0_9.index t = ![(grid0.coords t 0).val, (grid0.coords t 1).val, 0] :=
  (by decide +kernel : ∀ t : Fin grid0.N, _)
theorem e10 : ∀ t : Fin cfg0.N, win0_10.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)
variable (Z D O : ℕ → ℕ → ℝ) (C L : ℕ → ℕ → ℝ)

theorem blk0 (X : Buf (Elt Ideal) ((c : Thread nD τ).loc (Pipeline.arrRef spec0 0))) (h : X = (up2 Z : S2048x4608.Idx → EReal)) :
    (((cfg0.win 0).blk t).view.read (Elt Ideal) X : ((cfg0.win 0).xblock (cfg0.grid.coords t)).Idx → Elt Ideal (cfg0.win 0).elt) = (up2 fun a b => Z (256 * (grid0.coords t 1).val + a) (3072 + 128 * (grid0.coords t 0).val + b) : S256x128.Idx → EReal) := by
  subst h
  funext y
  unfold up2
  blk_simp [e0]
  congr 2 <;> omega
theorem blk1 (X : Buf (Elt Ideal) ((c : Thread nD τ).loc (Pipeline.arrRef spec0 1))) (h : X = (up2 Z : S2048x4608.Idx → EReal)) :
    (((cfg0.win 1).blk t).view.read (Elt Ideal) X : ((cfg0.win 1).xblock (cfg0.grid.coords t)).Idx → Elt Ideal (cfg0.win 1).elt) = (up2 fun a b => Z a (3584 + 128 * (grid0.coords t 0).val + b) : S2048x128.Idx → EReal) := by
  subst h
  funext y
  unfold up2
  blk_simp [e1]
  congr 2 <;> omega
theorem blk2 (X : Buf (Elt Ideal) ((c : Thread nD τ).loc (Pipeline.arrRef spec0 2))) (h : X = (up2 Z : S2048x4608.Idx → EReal)) :
    (((cfg0.win 2).blk t).view.read (Elt Ideal) X : ((cfg0.win 2).xblock (cfg0.grid.coords t)).Idx → Elt Ideal (cfg0.win 2).elt) = (up2 fun a b => Z a (4096 + 128 * (grid0.coords t 0).val + b) : S2048x128.Idx → EReal) := by
  subst h
  funext y
  unfold up2
  blk_simp [e2]
  congr 2 <;> omega
theorem blk3 (X : Buf (Elt Ideal) ((c : Thread nD τ).loc (Pipeline.arrRef spec0 3))) (h : X = (up2 O : S2048x512.Idx → EReal)) :
    (((cfg0.win 3).blk t).view.read (Elt Ideal) X : ((cfg0.win 3).xblock (cfg0.grid.coords t)).Idx → Elt Ideal (cfg0.win 3).elt) = (up2 fun a b => O (256 * (grid0.coords t 1).val + a) (128 * (grid0.coords t 0).val + b) : S256x128.Idx → EReal) := by
  subst h
  funext y
  unfold up2
  blk_simp [e3]
  congr 2 <;> omega
theorem blk4 (X : Buf (Elt Ideal) ((c : Thread nD τ).loc (Pipeline.arrRef spec0 4))) (h : X = (up2 D : S2048x512.Idx → EReal)) :
    (((cfg0.win 4).blk t).view.read (Elt Ideal) X : ((cfg0.win 4).xblock (cfg0.grid.coords t)).Idx → Elt Ideal (cfg0.win 4).elt) = (up2 fun a b => D (256 * (grid0.coords t 1).val + a) (128 * (grid0.coords t 0).val + b) : S256x128.Idx → EReal) := by
  subst h
  funext y
  unfold up2
  blk_simp [e4]
  congr 2 <;> omega
theorem blk5 (X : Buf (Elt Ideal) ((c : Thread nD τ).loc (Pipeline.arrRef spec0 5))) (h : X = (up3 fun h i _ => L h i : S8x2048x1.Idx → EReal)) :
    (((cfg0.win 5).blk t).view.read (Elt Ideal) X : ((cfg0.win 5).xblock (cfg0.grid.coords t)).Idx → Elt Ideal (cfg0.win 5).elt) = (up3 fun e a _ => L (2 * (grid0.coords t 0).val + e) (256 * (grid0.coords t 1).val + a) : S2x256x1.Idx → EReal) := by
  subst h
  funext y
  unfold up3
  blk_simp [e5]
  rw [Nat.mul_comm _ 2, Nat.mul_comm _ 256]
theorem blk6 (X : Buf (Elt Ideal) ((c : Thread nD τ).loc (Pipeline.arrRef spec0 6))) (h : X = (up3 fun h i _ => C h i : S8x2048x1.Idx → EReal)) :
    (((cfg0.win 6).blk t).view.read (Elt Ideal) X : ((cfg0.win 6).xblock (cfg0.grid.coords t)).Idx → Elt Ideal (cfg0.win 6).elt) = (up3 fun e a _ => C (2 * (grid0.coords t 0).val + e) (256 * (grid0.coords t 1).val + a) : S2x256x1.Idx → EReal) := by
  subst h
  funext y
  unfold up3
  blk_simp [e6]
  rw [Nat.mul_comm _ 2, Nat.mul_comm _ 256]
theorem blk7 (X : Buf (Elt Ideal) ((c : Thread nD τ).loc (Pipeline.arrRef spec0 7))) (h : X = (up4 fun h n _ s => C h (256 * n + s) : S8x8x1x256.Idx → EReal)) :
    (((cfg0.win 7).blk t).view.read (Elt Ideal) X : ((cfg0.win 7).xblock (cfg0.grid.coords t)).Idx → Elt Ideal (cfg0.win 7).elt) = (up4 fun e n _ s => C (2 * (grid0.coords t 0).val + e) (256 * n + s) : S2x8x1x256.Idx → EReal) := by
  subst h
  funext y
  unfold up4
  blk_simp [e7]
  rw [Nat.mul_comm _ 2]

section Bridge

variable (Z D O : ℕ → ℕ → ℝ) (C L E : ℕ → ℕ → ℝ) (n p : ℕ)

/-- The two heads' scores, from masked 128-lane products. -/
theorem wt_lo (r x : ℕ) :
    wt (lo fun a b => Z (256 * n + a) (3072 + 128 * p + b)) (fun a b => Z a (3584 + 128 * p + b))
      (fun a => C (2 * p) (256 * n + a)) (fun a => L (2 * p) (256 * n + a)) (C (2 * p)) r x
    = Real.exp (Spec.S Z C (2 * p) (256 * n + r) x - L (2 * p) (256 * n + r)) := by
  unfold wt lo Spec.S
  simp only [ite_mul, zero_mul]
  rw [Spec.sum_lo (fun t => Z (256 * n + r) (3072 + 128 * p + t) * Z x (3584 + 128 * p + t))]
  simp only [show ∀ d, 3072 + (64 * (2 * p) + d) = 3072 + 128 * p + d from fun d => by omega,
    show ∀ d, 3584 + (64 * (2 * p) + d) = 3584 + 128 * p + d from fun d => by omega]
theorem wt_hi (r x : ℕ) :
    wt (hi fun a b => Z (256 * n + a) (3072 + 128 * p + b)) (fun a b => Z a (3584 + 128 * p + b))
      (fun a => C (2 * p + 1) (256 * n + a)) (fun a => L (2 * p + 1) (256 * n + a)) (C (2 * p + 1)) r x
    = Real.exp (Spec.S Z C (2 * p + 1) (256 * n + r) x - L (2 * p + 1) (256 * n + r)) := by
  unfold wt hi Spec.S
  simp only [ite_mul, zero_mul]
  rw [Spec.sum_hi (fun t => Z (256 * n + r) (3072 + 128 * p + t) * Z x (3584 + 128 * p + t))]
  simp only [show ∀ d, 3072 + (64 * (2 * p + 1) + d) = 3072 + 128 * p + (64 + d) from fun d => by omega,
    show ∀ d, 3584 + (64 * (2 * p + 1) + d) = 3584 + 128 * p + (64 + d) from fun d => by omega]

theorem gp_lo (r x : ℕ) :
    gp (lo fun a b => D (256 * n + a) (128 * p + b)) (fun a b => Z a (4096 + 128 * p + b)) (fun a => E (2 * p) (256 * n + a)) r x
    = Spec.gp Z D (2 * p) (256 * n + r) x - E (2 * p) (256 * n + r) := by
  unfold gp lo Spec.gp
  simp only [ite_mul, zero_mul]
  rw [Spec.sum_lo (fun t => D (256 * n + r) (128 * p + t) * Z x (4096 + 128 * p + t))]
  simp only [show ∀ d, 64 * (2 * p) + d = 128 * p + d from fun d => by omega,
    show ∀ d, 4096 + (64 * (2 * p) + d) = 4096 + 128 * p + d from fun d => by omega, Nat.add_assoc]
theorem gp_hi (r x : ℕ) :
    gp (hi fun a b => D (256 * n + a) (128 * p + b)) (fun a b => Z a (4096 + 128 * p + b)) (fun a => E (2 * p + 1) (256 * n + a)) r x
    = Spec.gp Z D (2 * p + 1) (256 * n + r) x - E (2 * p + 1) (256 * n + r) := by
  unfold gp hi Spec.gp
  simp only [ite_mul, zero_mul]
  rw [Spec.sum_hi (fun t => D (256 * n + r) (128 * p + t) * Z x (4096 + 128 * p + t))]
  simp only [show ∀ d, 64 * (2 * p + 1) + d = 128 * p + (64 + d) from fun d => by omega, Nat.add_assoc]

/-- The row sums of one head. -/
theorem el_eq :
    el (fun a b => O (256 * n + a) (128 * p + b)) (fun a b => D (256 * n + a) (128 * p + b)) = fun r => Spec.dot D O (2 * p) (256 * n + r) := by
  funext r
  unfold el lo Spec.dot
  rw [Spec.sum_lo (fun t => D (256 * n + r) (128 * p + t) * O (256 * n + r) (128 * p + t))]
  simp only [show ∀ d, 64 * (2 * p) + d = 128 * p + d from fun d => by omega]
theorem eh_eq :
    eh (fun a b => O (256 * n + a) (128 * p + b)) (fun a b => D (256 * n + a) (128 * p + b)) = fun r => Spec.dot D O (2 * p + 1) (256 * n + r) := by
  funext r
  unfold eh hi Spec.dot
  rw [Spec.sum_hi (fun t => D (256 * n + r) (128 * p + t) * O (256 * n + r) (128 * p + t))]
  simp only [show ∀ d, 64 * (2 * p + 1) + d = 128 * p + (64 + d) from fun d => by omega]

/-- A causal row of score gradients, block by block, against any right-hand side. -/
theorem row (w g G : ℕ → ℝ) (r : ℕ) (hn : n < 8) (hr : r < 256) :
    ∑ x ∈ range (256 * n), w x * g x * G x
      + ∑ s ∈ range 256, (if s ≤ r then w (256 * n + s) else 0) * g (256 * n + s) * G (256 * n + s)
    = ∑ x ∈ range 2048, (if x ≤ 256 * n + r then w x else 0) * g x * G x := by
  rw [sum_congr rfl fun x _ => show (if x ≤ 256 * n + r then w x else 0) * g x * G x
    = if x ≤ 256 * n + r then w x * g x * G x else 0 by split <;> simp]
  rw [Spec.sum_causal (fun x => w x * g x * G x) n r hn hr]
  refine congrArg _ (sum_congr rfl fun s _ => ?_)
  split <;> simp

theorem gq_lo (r t : ℕ) (hn : n < 8) (hr : r < 256) :
    gq (lo fun a b => Z (256 * n + a) (3072 + 128 * p + b)) (lo fun a b => D (256 * n + a) (128 * p + b))
      (fun a b => Z a (3584 + 128 * p + b)) (fun a b => Z a (4096 + 128 * p + b)) (fun a => E (2 * p) (256 * n + a))
      (fun a => C (2 * p) (256 * n + a)) (fun a => L (2 * p) (256 * n + a)) (C (2 * p)) n r t
    = ∑ x ∈ range 2048, Spec.ds Z C D L E (2 * p) (256 * n + r) x * Z x (3584 + 128 * p + t) := by
  unfold gq dsc Spec.ds
  simp only [wt_lo, gp_lo]
  exact row n _ _ _ r hn hr
theorem gq_hi (r t : ℕ) (hn : n < 8) (hr : r < 256) :
    gq (hi fun a b => Z (256 * n + a) (3072 + 128 * p + b)) (hi fun a b => D (256 * n + a) (128 * p + b))
      (fun a b => Z a (3584 + 128 * p + b)) (fun a b => Z a (4096 + 128 * p + b)) (fun a => E (2 * p + 1) (256 * n + a))
      (fun a => C (2 * p + 1) (256 * n + a)) (fun a => L (2 * p + 1) (256 * n + a)) (C (2 * p + 1)) n r t
    = ∑ x ∈ range 2048, Spec.ds Z C D L E (2 * p + 1) (256 * n + r) x * Z x (3584 + 128 * p + t) := by
  unfold gq dsc Spec.ds
  simp only [wt_hi, gp_hi]
  exact row n _ _ _ r hn hr
theorem gc_lo (r : ℕ) (hn : n < 8) (hr : r < 256) :
    gc (lo fun a b => Z (256 * n + a) (3072 + 128 * p + b)) (lo fun a b => D (256 * n + a) (128 * p + b))
      (fun a b => Z a (3584 + 128 * p + b)) (fun a b => Z a (4096 + 128 * p + b)) (fun a => E (2 * p) (256 * n + a))
      (fun a => C (2 * p) (256 * n + a)) (fun a => L (2 * p) (256 * n + a)) (C (2 * p)) n r
    = ∑ x ∈ range 2048, Spec.ds Z C D L E (2 * p) (256 * n + r) x := by
  unfold gc dsc Spec.ds
  simp only [wt_lo, gp_lo]
  simpa only [mul_one] using row n _ _ (fun _ => 1) r hn hr
theorem gc_hi (r : ℕ) (hn : n < 8) (hr : r < 256) :
    gc (hi fun a b => Z (256 * n + a) (3072 + 128 * p + b)) (hi fun a b => D (256 * n + a) (128 * p + b))
      (fun a b => Z a (3584 + 128 * p + b)) (fun a b => Z a (4096 + 128 * p + b)) (fun a => E (2 * p + 1) (256 * n + a))
      (fun a => C (2 * p + 1) (256 * n + a)) (fun a => L (2 * p + 1) (256 * n + a)) (C (2 * p + 1)) n r
    = ∑ x ∈ range 2048, Spec.ds Z C D L E (2 * p + 1) (256 * n + r) x := by
  unfold gc dsc Spec.ds
  simp only [wt_hi, gp_hi]
  simpa only [mul_one] using row n _ _ (fun _ => 1) r hn hr

end Bridge

/-- The query gradient. -/
def dq (i j : ℕ) : ℝ := (∑ x ∈ range 2048, Spec.ds Z C D L (Spec.dot D O) (j / 64) i x * Z x (3584 + j)) * (1 / 8)
/-- The gradient of the bias at the queries, each head on the lane of its own number. -/
def dcq (p i t : ℕ) : ℝ :=
  (if t = 2 * p then ∑ x ∈ range 2048, Spec.ds Z C D L (Spec.dot D O) (2 * p) i x else 0)
    + (if t = 2 * p + 1 then ∑ x ∈ range 2048, Spec.ds Z C D L (Spec.dot D O) (2 * p + 1) i x else 0)

/-- One grid point's query gradient, in whole-array coordinates. -/
theorem val8 (n p r t : ℕ) (hn : n < 8) (hr : r < 256) (ht : t < 128) :
    (if t < 64 then gq (lo fun a b => Z (256 * n + a) (3072 + 128 * p + b)) (lo fun a b => D (256 * n + a) (128 * p + b))
      (fun a b => Z a (3584 + 128 * p + b)) (fun a b => Z a (4096 + 128 * p + b))
      (el (fun a b => O (256 * n + a) (128 * p + b)) (fun a b => D (256 * n + a) (128 * p + b)))
      (fun a => C (2 * p) (256 * n + a)) (fun a => L (2 * p) (256 * n + a)) (fun x => C (2 * p) x) n r t
      else gq (hi fun a b => Z (256 * n + a) (3072 + 128 * p + b)) (hi fun a b => D (256 * n + a) (128 * p + b))
      (fun a b => Z a (3584 + 128 * p + b)) (fun a b => Z a (4096 + 128 * p + b))
      (eh (fun a b => O (256 * n + a) (128 * p + b)) (fun a b => D (256 * n + a) (128 * p + b)))
      (fun a => C (2 * p + 1) (256 * n + a)) (fun a => L (2 * p + 1) (256 * n + a)) (fun x => C (2 * p + 1) x) n r t) * (1 / 8) = dq Z D O C L (n * 256 + r) (p * 128 + t) := by
  rw [el_eq, eh_eq]
  rw [gq_lo Z D C L (Spec.dot D O) n p r t hn hr, gq_hi Z D C L (Spec.dot D O) n p r t hn hr]
  unfold dq
  rw [show n * 256 + r = 256 * n + r by omega, show 3584 + (p * 128 + t) = 3584 + 128 * p + t by omega]
  split
  · rw [show (p * 128 + t) / 64 = 2 * p by omega]
  · rw [show (p * 128 + t) / 64 = 2 * p + 1 by omega]
/-- One grid point's row sums. -/
theorem val9 (n p e r : ℕ) (he : e < 2) :
    (if e = 0 then el (fun a b => O (256 * n + a) (128 * p + b)) (fun a b => D (256 * n + a) (128 * p + b)) r
      else eh (fun a b => O (256 * n + a) (128 * p + b)) (fun a b => D (256 * n + a) (128 * p + b)) r)
    = Spec.dot D O (p * 2 + e) (n * 256 + r) := by
  rw [el_eq, eh_eq, show n * 256 + r = 256 * n + r by omega]
  split
  · rw [show p * 2 + e = 2 * p by omega]
  · rw [show p * 2 + e = 2 * p + 1 by omega]
/-- One grid point's bias gradient. -/
theorem val10 (n p r t : ℕ) (hn : n < 8) (hr : r < 256) :
    (if t = 2 * p then gc (lo fun a b => Z (256 * n + a) (3072 + 128 * p + b)) (lo fun a b => D (256 * n + a) (128 * p + b))
      (fun a b => Z a (3584 + 128 * p + b)) (fun a b => Z a (4096 + 128 * p + b))
      (el (fun a b => O (256 * n + a) (128 * p + b)) (fun a b => D (256 * n + a) (128 * p + b)))
      (fun a => C (2 * p) (256 * n + a)) (fun a => L (2 * p) (256 * n + a)) (fun x => C (2 * p) x) n r else 0)
      + (if t = 2 * p + 1 then gc (hi fun a b => Z (256 * n + a) (3072 + 128 * p + b)) (hi fun a b => D (256 * n + a) (128 * p + b))
      (fun a b => Z a (3584 + 128 * p + b)) (fun a b => Z a (4096 + 128 * p + b))
      (eh (fun a b => O (256 * n + a) (128 * p + b)) (fun a b => D (256 * n + a) (128 * p + b)))
      (fun a => C (2 * p + 1) (256 * n + a)) (fun a => L (2 * p + 1) (256 * n + a)) (fun x => C (2 * p + 1) x) n r else 0) = dcq Z D O C L p (n * 256 + r) t := by
  rw [el_eq, eh_eq]
  rw [gc_lo Z D C L (Spec.dot D O) n p r hn hr, gc_hi Z D C L (Spec.dot D O) n p r hn hr]
  unfold dcq
  rw [show n * 256 + r = 256 * n + r by omega]

section Arrays

variable (a0 : V m c (Pipeline.arrRef spec0 0) = (up2 Z : S2048x4608.Idx → EReal)) (a1 : V m c (Pipeline.arrRef spec0 1) = (up2 Z : S2048x4608.Idx → EReal))
  (a2 : V m c (Pipeline.arrRef spec0 2) = (up2 Z : S2048x4608.Idx → EReal)) (a3 : V m c (Pipeline.arrRef spec0 3) = (up2 O : S2048x512.Idx → EReal))
  (a4 : V m c (Pipeline.arrRef spec0 4) = (up2 D : S2048x512.Idx → EReal)) (a5 : V m c (Pipeline.arrRef spec0 5) = (up3 (fun h i _ => L h i) : S8x2048x1.Idx → EReal))
  (a6 : V m c (Pipeline.arrRef spec0 6) = (up3 (fun h i _ => C h i) : S8x2048x1.Idx → EReal))
  (a7 : V m c (Pipeline.arrRef spec0 7) = (up4 (fun h n _ s => C h (256 * n + s)) : S8x8x1x256.Idx → EReal))
include a0 a1 a2 a3 a4 a5 a6 a7

theorem arr8 : (dats m 0 c).arrAt 8 cfg0.N = (up2 (dq Z D O C L) : S2048x512.Idx → EReal) := by
  refine (dats m 0 c).arrAt_eq_of_covers 8 _ (by decide +kernel) fun t hf y => ?_
  have hn : (grid0.coords t 1).val < 8 := (grid0.coords t 1).isLt
  have h0 : (y 0).val < 256 := (y 0).isLt
  have h1 : (y 1).val < 128 := (y 1).isLt
  rw [after0_8]
  simp only [outsAt0]
  rw [show iblk m c 0 t = _ from blk0 c t Z _ a0, show iblk m c 1 t = _ from blk1 c t Z _ a1, show iblk m c 2 t = _ from blk2 c t Z _ a2,
    show iblk m c 3 t = _ from blk3 c t O _ a3, show iblk m c 4 t = _ from blk4 c t D _ a4, show iblk m c 5 t = _ from blk5 c t L _ a5,
    show iblk m c 6 t = _ from blk6 c t C _ a6, show iblk m c 7 t = _ from blk7 c t C _ a7]
  rw [out8 (cr := fun e x => C (2 * (grid0.coords t 0).val + e) x)]
  unfold up2
  blk_simp [e8]
  exact congrArg (fun z : ℝ => (z : EReal)) (val8 Z D O C L _ _ _ _ hn h0 h1)
theorem arr9 : (dats m 0 c).arrAt 9 cfg0.N = (up3 fun h i _ => Spec.dot D O h i : S8x2048x1.Idx → EReal) := by
  refine (dats m 0 c).arrAt_eq_of_covers 9 _ (by decide +kernel) fun t hf y => ?_
  have hn : (grid0.coords t 1).val < 8 := (grid0.coords t 1).isLt
  have h0 : (y 0).val < 2 := (y 0).isLt
  have h1 : (y 1).val < 256 := (y 1).isLt
  rw [after0_9]
  simp only [outsAt0]
  rw [show iblk m c 0 t = _ from blk0 c t Z _ a0, show iblk m c 1 t = _ from blk1 c t Z _ a1, show iblk m c 2 t = _ from blk2 c t Z _ a2,
    show iblk m c 3 t = _ from blk3 c t O _ a3, show iblk m c 4 t = _ from blk4 c t D _ a4, show iblk m c 5 t = _ from blk5 c t L _ a5,
    show iblk m c 6 t = _ from blk6 c t C _ a6, show iblk m c 7 t = _ from blk7 c t C _ a7]
  rw [out9 (cr := fun e x => C (2 * (grid0.coords t 0).val + e) x)]
  unfold up3
  blk_simp [e9]
  exact congrArg (fun z : ℝ => (z : EReal)) (val9 D O _ _ _ _ h0)
theorem arr10 : (dats m 0 c).arrAt 10 cfg0.N = (up3 (dcq Z D O C L) : S4x2048x128.Idx → EReal) := by
  refine (dats m 0 c).arrAt_eq_of_covers 10 _ (by decide +kernel) fun t hf y => ?_
  have hn : (grid0.coords t 1).val < 8 := (grid0.coords t 1).isLt
  have h0 : (y 0).val < 1 := (y 0).isLt
  have h1 : (y 1).val < 256 := (y 1).isLt
  rw [after0_10]
  simp only [outsAt0]
  rw [show iblk m c 0 t = _ from blk0 c t Z _ a0, show iblk m c 1 t = _ from blk1 c t Z _ a1, show iblk m c 2 t = _ from blk2 c t Z _ a2,
    show iblk m c 3 t = _ from blk3 c t O _ a3, show iblk m c 4 t = _ from blk4 c t D _ a4, show iblk m c 5 t = _ from blk5 c t L _ a5,
    show iblk m c 6 t = _ from blk6 c t C _ a6, show iblk m c 7 t = _ from blk7 c t C _ a7]
  rw [out10 (cr := fun e x => C (2 * (grid0.coords t 0).val + e) x)]
  unfold up3
  blk_simp [e10]
  exact congrArg (fun z : ℝ => (z : EReal)) (val10 Z D O C L _ _ _ _ hn h1)
end Arrays
end KQ
-- ==== Proof.RefQ.lean ====
/- The vector-Jacobian product of the attention's query side, operation by operation, on real inputs. -/
module

public import proofs.«01_k».proof.Proof.Gen.ReferenceQIdeal.Read
public import proofs.«01_k».proof.Proof.RefF
public import proofs.«01_k».proof.Proof.KQA

@[expose] public section

noncomputable section

namespace RefQ

open Cert.ReferenceQIdeal Cert.ReferenceQIdeal.Gen Cert.ReferenceQIdeal.Read Idealize.ShloMosaic Idealize.ShloMosaic.TcCoe Idealize.ShloMosaic.ValueIdx Tile Finset

/-- Equality of two small naturals written as words. -/
theorem eq_ofNat (a b : ℕ) (ha : a < 4096) (hb : b < 4096) :
    IntOp.cmpi .eq (BitVec.ofNat 32 a) (BitVec.ofNat 32 b) = BitVec.ofBool (decide (a = b)) := by
  simp only [IntOp.cmpi]
  congr 1
  rw [Bool.eq_iff_iff, beq_iff_eq, decide_eq_true_iff]
  constructor
  · intro h
    have := congrArg BitVec.toNat h
    simp only [BitVec.toNat_ofNat] at this
    omega
  · rintro rfl; rfl

theorem ofBits_one : Ideal.ofBits .f32 0x3F800000#32 = ((1 : ℝ) : EReal) := by
  simp [Ideal.ofBits, Ideal.ieee]; norm_num [← EReal.coe_mul]

variable (Z : ℕ → ℕ → ℝ) (C : ℕ → ℕ → ℝ) (D : ℕ → ℕ → ℝ)

/-- The three arguments as real arrays. -/
abbrev z : S2048x4608.Idx → EReal := up2 Z
abbrev dd : S2048x512.Idx → EReal := up2 D
abbrev cc : S8x2048.Idx → EReal := up2 C
/-- The largest score of a row, the row's sum of exponentials, and the exponentials. -/
abbrev tp : ℕ → ℕ → ℝ := RefF.top Z C
abbrev T : ℕ → ℕ → ℝ := Spec.T Z C (tp Z C)
abbrev A : ℕ → ℕ → ℕ → ℝ := Spec.A Z C (tp Z C)

theorem v2 : val_main_v2 (F := Ideal) (z Z) = up3 fun i h d => Z i (3072 + (64 * h + d)) := RefF.v2 Z
theorem v5 : val_main_v5 (F := Ideal) (z Z) = up3 fun i h d => Z i (3584 + (64 * h + d)) := RefF.v5 Z
theorem v8 : val_main_v8 (F := Ideal) (z Z) = up3 fun i h d => Z i (4096 + (64 * h + d)) := RefF.v8 Z
theorem mask (i : S8x2048x2048.Idx) : val_main_v26_1 (F := Ideal) i = BitVec.ofBool (decide ((i 2).val ≤ (i 1).val)) := RefF.mask i
theorem v47 : val_main_v47 (F := Ideal) (z Z) (cc C) = up3 (A Z C) := RefF.v42 Z C
theorem v48 : val_main_v48 (F := Ideal) (z Z) (cc C) = up2 (T Z C) := RefF.v43 Z C
theorem v51 : val_main_v51 (F := Ideal) (z Z) (cc C) = up3 fun h i j => A Z C h i j / T Z C h i := RefF.v46 Z C
theorem v57 : val_main_v57 (F := Ideal) (z Z) (cc C) = up2 (Spec.out Z C (tp Z C)) := RefF.v49 Z C

theorem v54 : val_main_v54 (F := Ideal) (z Z) (cc C) = up3 fun h i _ => 1 / (T Z C h i * T Z C h i) := by
  funext i
  rw [val_main_v54_apply, val_main_v53_apply, val_main_cst_10_apply, val_main_v52_apply, val_main_v49_apply, v48]
  show Ideal.div (Ideal.ofBits .f32 0x3F800000#32) (((T Z C (i 0).val (i 1).val : ℝ) : EReal) * ((T Z C (i 0).val (i 1).val : ℝ) : EReal)) = _
  have h := (Spec.T_pos Z C (tp Z C) (i 0).val (i 1).val).ne'
  rw [ofBits_one, ← EReal.coe_mul, RefF.div_real _ _ (mul_ne_zero h h)]
  rfl

theorem v60 : val_main_v60 (F := Ideal) (dd D) = up3 fun h d i => D i (64 * h + d) := by
  funext i
  have h0 : (i 0).val < 8 := (i 0).isLt
  have h1 : (i 1).val < 64 := (i 1).isLt
  obtain ⟨e1, e2⟩ := RefF.split64 (i 2).val _ _ h0 h1
  rw [val_main_v60_apply, val_main_v59_apply, val_main_v58_apply]
  show ((D ((((i 2).val * 8 + (i 0).val) * 64 + (i 1).val) / 512) ((((i 2).val * 8 + (i 0).val) * 64 + (i 1).val) % 512) : ℝ) : EReal) = _
  rw [e1, e2]; rfl

theorem v61 : val_main_v61 (F := Ideal) (z Z) (dd D) = up3 (Spec.gp Z D) := by
  funext i
  rw [val_main_v61_apply, v60, v8]
  show (∑ k : Fin 64, ((D (i 1).val (64 * (i 0).val + k.val) : ℝ) : EReal) * ((Z (i 2).val (4096 + (64 * (i 0).val + k.val)) : ℝ) : EReal)) = _
  simp only [← EReal.coe_mul]
  exact coe_sum_fin 64 fun k => D (i 1).val (64 * (i 0).val + k) * Z (i 2).val (4096 + (64 * (i 0).val + k))

theorem v67 : val_main_v67 (F := Ideal) (z Z) (dd D) (cc C)
    = up2 fun h i => ∑ y ∈ range 2048, Spec.gp Z D h i y * (1 / (T Z C h i * T Z C h i)) * A Z C h i y := by
  funext i
  rw [val_main_v67_apply, val_main_cst_11_apply]
  simp only [val_main_v66_apply, val_main_v65_apply, val_main_v64_apply, v61, v54, v47]
  show Ideal.ofBits .f32 0x00000000#32 + ∑ k : Fin 2048, ((Spec.gp Z D (i 0).val (i 1).val k.val : ℝ) : EReal)
    * ((1 / (T Z C (i 0).val (i 1).val * T Z C (i 0).val (i 1).val) : ℝ) : EReal) * ((A Z C (i 0).val (i 1).val k.val : ℝ) : EReal) = _
  simp only [← EReal.coe_mul]
  rw [coe_sum_fin 2048 fun k => Spec.gp Z D (i 0).val (i 1).val k * (1 / (T Z C (i 0).val (i 1).val * T Z C (i 0).val (i 1).val)) * A Z C (i 0).val (i 1).val k,
    Ideal.ofBits_zero_f32, zero_add]
  rfl

theorem v72 : val_main_v72 (F := Ideal) (z Z) (dd D) (cc C)
    = up2 fun h i => -∑ y ∈ range 2048, Spec.gp Z D h i y * (1 / (T Z C h i * T Z C h i)) * A Z C h i y := by
  funext i
  have h1 : (i 1).val < 2048 := (i 1).isLt
  have e1 : (((i 0).val * 2048 + (i 1).val) * 1 + 0) / 2048 = (i 0).val := by omega
  have e2 : (((i 0).val * 2048 + (i 1).val) * 1 + 0) % 2048 = (i 1).val := by omega
  rw [val_main_v72_apply, val_main_cst_12_apply, Fin.sum_univ_one, val_main_v69_apply, val_main_v68_apply, v67]
  show Ideal.ofBits .f32 0x00000000#32 + -((up2 _ (idx_main_v68 (idx_main_v72 i 0)) : EReal)) = _
  rw [Ideal.ofBits_zero_f32, zero_add]
  show -(((∑ y ∈ range 2048, Spec.gp Z D ((((i 0).val * 2048 + (i 1).val) * 1 + 0) / 2048) ((((i 0).val * 2048 + (i 1).val) * 1 + 0) % 2048) y
    * (1 / (T Z C ((((i 0).val * 2048 + (i 1).val) * 1 + 0) / 2048) ((((i 0).val * 2048 + (i 1).val) * 1 + 0) % 2048)
      * T Z C ((((i 0).val * 2048 + (i 1).val) * 1 + 0) / 2048) ((((i 0).val * 2048 + (i 1).val) * 1 + 0) % 2048)))
    * A Z C ((((i 0).val * 2048 + (i 1).val) * 1 + 0) / 2048) ((((i 0).val * 2048 + (i 1).val) * 1 + 0) % 2048) y : ℝ)) : EReal) = _
  rw [e1, e2]
  exact (EReal.coe_neg _).symm

/-- The gradient of the scores. -/
abbrev g : ℕ → ℕ → ℕ → ℝ := Spec.ds Z C D (Spec.lse Z C (tp Z C)) (Spec.dot D (Spec.out Z C (tp Z C)))

theorem v76 : val_main_v76 (F := Ideal) (z Z) (dd D) (cc C) = up3 (g Z C D) := by
  funext i
  rw [val_main_v76_apply, mask, val_main_v75_apply, val_main_v74_apply, val_main_v71_apply, val_main_v73_apply, v72, v61, v47,
    val_main_v70_apply, val_main_v49_apply, v48]
  show _ = ((g Z C D (i 0).val (i 1).val (i 2).val : ℝ) : EReal)
  unfold g
  rw [← Spec.ds_eq]
  have hT := (Spec.T_pos Z C (tp Z C) (i 0).val (i 1).val).ne'
  by_cases h : (i 2).val ≤ (i 1).val
  · rw [if_pos h, decide_eq_true h]
    show (Ideal.div ((Spec.gp Z D (i 0).val (i 1).val (i 2).val : ℝ) : EReal) ((T Z C (i 0).val (i 1).val : ℝ) : EReal)
      + ((-∑ y ∈ range 2048, Spec.gp Z D (i 0).val (i 1).val y * (1 / (T Z C (i 0).val (i 1).val * T Z C (i 0).val (i 1).val)) * A Z C (i 0).val (i 1).val y : ℝ) : EReal))
      * ((A Z C (i 0).val (i 1).val (i 2).val : ℝ) : EReal) = _
    rw [RefF.div_real _ _ hT, ← EReal.coe_add, ← EReal.coe_mul]
  · rw [if_neg h, decide_eq_false h]
    exact Ideal.ofBits_zero_f32

theorem v83 : val_main_v83 (F := Ideal) (z Z) (dd D) (cc C) = up2 fun h i => ∑ x ∈ range 2048, g Z C D h i x := by
  funext i
  have h1 : (i 1).val < 2048 := (i 1).isLt
  have e1 : (((i 0).val * 2048 + (i 1).val) * 1 + 0) / 2048 = (i 0).val := by omega
  have e2 : (((i 0).val * 2048 + (i 1).val) * 1 + 0) % 2048 = (i 1).val := by omega
  rw [val_main_v83_apply, val_main_cst_16_apply, Fin.sum_univ_one, val_main_v78_apply, val_main_v77_apply, v76, val_main_cst_13_apply]
  show Ideal.ofBits .f32 0x00000000#32 + (Ideal.ofBits .f32 0x00000000#32
    + ∑ k : Fin 2048, ((g Z C D ((((i 0).val * 2048 + (i 1).val) * 1 + 0) / 2048) ((((i 0).val * 2048 + (i 1).val) * 1 + 0) % 2048) k.val : ℝ) : EReal)) = _
  rw [e1, e2, coe_sum_fin 2048 fun k => g Z C D (i 0).val (i 1).val k, Ideal.ofBits_zero_f32, zero_add, zero_add]
  rfl

/-- The gradient of the queries. -/
theorem v91 : val_main_v91 (F := Ideal) (z Z) (dd D) (cc C)
    = up2 (KQ.dq Z D (Spec.out Z C (tp Z C)) C (Spec.lse Z C (tp Z C))) := by
  funext i
  have h1 : (i 1).val < 512 := (i 1).isLt
  have e0 : ((i 0).val * 512 + (i 1).val) / 512 = (i 0).val := by omega
  have e1 : ((i 0).val * 512 + (i 1).val) / 64 % 8 = (i 1).val / 64 := by omega
  have e2 : 64 * ((i 1).val / 64) + ((i 0).val * 512 + (i 1).val) % 64 = (i 1).val := by omega
  rw [val_main_v91_apply, val_main_v90_apply, val_main_v89_apply, val_main_v88_apply]
  simp only [val_main_v85_apply, v76, val_main_v84_apply, val_main_cst_17_apply, v5]
  show (∑ k : Fin 2048, ((g Z C D (((i 0).val * 512 + (i 1).val) / 64 % 8) (((i 0).val * 512 + (i 1).val) / 512) k.val : ℝ) : EReal) * Ideal.ofBits .f32 0x3E000000#32
    * ((Z k.val (3584 + (64 * (((i 0).val * 512 + (i 1).val) / 64 % 8) + ((i 0).val * 512 + (i 1).val) % 64)) : ℝ) : EReal)) = _
  rw [e0, e1, e2, ofBits_eighth]
  simp only [← EReal.coe_mul]
  rw [coe_sum_fin 2048 fun k => g Z C D ((i 1).val / 64) (i 0).val k * (1 / 8) * Z k (3584 + (i 1).val)]
  show _ = ((KQ.dq Z D (Spec.out Z C (tp Z C)) C (Spec.lse Z C (tp Z C)) (i 0).val (i 1).val : ℝ) : EReal)
  unfold KQ.dq
  rw [sum_mul]
  exact congrArg _ (sum_congr rfl fun x _ => by ring)

/-- The row sums of the cotangent times the output. -/
theorem v97 : val_main_v97 (F := Ideal) (z Z) (dd D) (cc C) = up3 fun h i _ => Spec.dot D (Spec.out Z C (tp Z C)) h i := by
  funext i
  have h0 : (i 0).val < 8 := (i 0).isLt
  rw [val_main_v97_apply, val_main_v96_apply, val_main_v95_apply, val_main_cst_18_apply]
  simp only [val_main_v94_apply, val_main_v93_apply, val_main_v92_apply, v57]
  show Ideal.ofBits .f32 0x00000000#32 + ∑ k : Fin 64,
    ((D ((((i 1).val * 8 + (i 0).val) * 64 + k.val) / 512) ((((i 1).val * 8 + (i 0).val) * 64 + k.val) % 512) : ℝ) : EReal)
    * ((Spec.out Z C (tp Z C) ((((i 1).val * 8 + (i 0).val) * 64 + k.val) / 512) ((((i 1).val * 8 + (i 0).val) * 64 + k.val) % 512) : ℝ) : EReal) = _
  have e (k : Fin 64) := RefF.split64 (i 1).val _ _ h0 k.isLt
  simp only [fun k => (e k).1, fun k => (e k).2, ← EReal.coe_mul]
  rw [coe_sum_fin 64 fun k => D (i 1).val (64 * (i 0).val + k) * Spec.out Z C (tp Z C) (i 1).val (64 * (i 0).val + k), Ideal.ofBits_zero_f32, zero_add]
  rfl

/-- The gradient of the bias at the queries, on lanes. -/
theorem v109 : val_main_v109 (F := Ideal) (z Z) (dd D) (cc C)
    = up3 (KQ.dcq Z D (Spec.out Z C (tp Z C)) C (Spec.lse Z C (tp Z C))) := by
  funext i
  have h0 : (i 0).val < 4 := (i 0).isLt
  have h1 : (i 1).val < 2048 := (i 1).isLt
  have h2 : (i 2).val < 128 := (i 2).isLt
  rw [val_main_v109_apply, val_main_cst_20_apply]
  have one (k : Fin 2) : val_main_v108 (F := Ideal) (z Z) (dd D) (cc C) (idx_main_v109 i k)
      = ((if (i 2).val = 2 * (i 0).val + k.val then ∑ x ∈ range 2048, g Z C D (2 * (i 0).val + k.val) (i 1).val x else 0 : ℝ) : EReal) := by
    have hk : k.val < 2 := k.isLt
    have e1 : (((i 0).val * 2 + k.val) * 2048 + (i 1).val) / 2048 = 2 * (i 0).val + k.val := by omega
    have e2 : (((i 0).val * 2 + k.val) * 2048 + (i 1).val) % 2048 = (i 1).val := by omega
    rw [val_main_v108_apply, val_main_call2_v1_apply, val_main_v105_apply, val_main_v103_apply, val_main_v102_apply, val_main_v101_apply,
      val_main_v104_apply, val_main_v100_apply, val_main_v99_apply, val_main_v98_apply, val_main_call2_v2_apply, val_main_v107_apply,
      val_main_v106_apply, v83, val_main_call2_v3_apply, val_main_call2_v0_apply, val_main_cst_19_apply]
    show Scalar.select (IntOp.cmpi .eq (BitVec.ofNat 32 (i 2).val) (BitVec.ofNat 32 ((i 0).val * 2 + k.val)))
      ((∑ x ∈ range 2048, g Z C D ((((i 0).val * 2 + k.val) * 2048 + (i 1).val) / 2048) ((((i 0).val * 2 + k.val) * 2048 + (i 1).val) % 2048) x : ℝ) : EReal)
      (Ideal.ofBits .f32 0x00000000#32) = _
    rw [e1, e2, eq_ofNat _ _ (by omega) (by omega), show (i 0).val * 2 + k.val = 2 * (i 0).val + k.val by omega, Ideal.ofBits_zero_f32]
    by_cases h : (i 2).val = 2 * (i 0).val + k.val
    · rw [if_pos h, decide_eq_true h]; rfl
    · rw [if_neg h, decide_eq_false h]; rfl
  simp only [one]
  rw [Fin.sum_univ_two, ← EReal.coe_add]
  show Ideal.ofBits .f32 0x00000000#32 + _ = _
  rw [Ideal.ofBits_zero_f32, zero_add]
  rfl

end RefQ
-- ==== Proof.HostQ.lean ====
/- What the host hands the query-side backward call: the saved output and log sums, and the bias in columns and blocks. -/
module

public import proofs.«01_k».proof.Proof.RefQ

@[expose] public section

noncomputable section

namespace KQ

open Cert.KernelQIdeal Cert.KernelQIdeal.Gen Idealize.ShloMosaic Idealize.ShloMosaic.TcCoe Idealize.SL.Sem Tile Finset

variable (m : (ℓ : Loc nD τ sig) → Buf (Elt Ideal) ℓ) (c : Dev nD)

theorem host49 : V m c main_v49 = Cert.ReferenceFIdeal.Read.val_main_v49 (F := Ideal) (m ((c : Thread nD τ).loc main_arg0)) (m ((c : Thread nD τ).loc main_arg2)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl
theorem host35 : V m c main_v35 = Cert.ReferenceFIdeal.Read.val_main_v35 (F := Ideal) (m ((c : Thread nD τ).loc main_arg0)) (m ((c : Thread nD τ).loc main_arg2)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl
theorem host50 : V m c main_v50 = broadcastInDim S8x2048x1 ![0, 1] bcast_S8x2048_S8x2048x1_0_1 (m ((c : Thread nD τ).loc main_arg2)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
theorem host51 : V m c main_v51 = shapeCast S8x8x1x256 (broadcastInDim S8x2048x1 ![0, 1] bcast_S8x2048_S8x2048x1_0_1 (m ((c : Thread nD τ).loc main_arg2))) shapeCasts_S8x2048x1_S8x8x1x256 := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end KQ
-- ==== Proof.AlgQ.lean ====
/- The query-side backward call computes the vector-Jacobian product its reference states. -/
module

public import proofs.«01_k».proof.Proof.HostQ
public import proofs.«01_k».proof.Proof.Finite
public import proofs.«01_k».proof.Defs
public import proofs.«01_k».proof.Proof.Gen.KernelQIdeal.Value
public import proofs.«01_k».proof.Proof.Gen.ReferenceQIdeal.Run

@[expose] public section

noncomputable section

namespace KQ

open Cert.KernelQIdeal Cert.KernelQIdeal.Gen Idealize.ShloMosaic Idealize.ShloMosaic.TcCoe Idealize.ShloMosaic.ValueIdx Idealize.SL.Sem Tile Finset

/-- The bias as a column. -/
theorem col (C : ℕ → ℕ → ℝ) : broadcastInDim S8x2048x1 ![0, 1] bcast_S8x2048_S8x2048x1_0_1 (up2 C : S8x2048.Idx → EReal)
    = up3 fun h i _ => C h i := by
  funext i
  exact broadcastInDim_apply _ bcast_S8x2048_S8x2048x1_0_1 (up2 C : S8x2048.Idx → EReal) i (ix2 (i 0) (i 1)) (fun a => match a with
    | ⟨0, _⟩ => by show (i 0).val = if (8 : Nat) = 1 then 0 else (i 0).val; rw [if_neg (by decide)]
    | ⟨1, _⟩ => by show (i 1).val = if (2048 : Nat) = 1 then 0 else (i 1).val; rw [if_neg (by decide)])

/-- A column cut into blocks of rows. -/
theorem blocks (C : ℕ → ℕ → ℝ) : shapeCast S8x8x1x256 (up3 (fun h i _ => C h i) : S8x2048x1.Idx → EReal) shapeCasts_S8x2048x1_S8x8x1x256
    = up4 fun h n _ s => C h (256 * n + s) := by
  funext i
  have h0 : (i 0).val < 8 := (i 0).isLt
  have h1 : (i 1).val < 8 := (i 1).isLt
  have h2 : (i 2).val < 1 := (i 2).isLt
  have h3 : (i 3).val < 256 := (i 3).isLt
  rw [shapeCast_apply (up3 (fun h i _ => C h i) : S8x2048x1.Idx → EReal) shapeCasts_S8x2048x1_S8x8x1x256 i
    (ix3 (i 0) ⟨256 * (i 1).val + (i 3).val, by omega⟩ 0) (by
      rw [Shape.rowMajor_val_three, Shape.rowMajor_val_four]
      show ((i 0).val * 2048 + (256 * (i 1).val + (i 3).val)) * 1 + 0 = (((i 0).val * 8 + (i 1).val) * 1 + (i 2).val) * 256 + (i 3).val
      omega)]
  rfl

/-- The call's three results, on arguments that are real. -/
theorem results (m : (ℓ : Loc nD τ sig) → Buf (Elt Ideal) ℓ) (c : Dev nD) (Z D C : ℕ → ℕ → ℝ)
    (h0 : m ((c : Thread nD τ).loc main_arg0) = (up2 Z : S2048x4608.Idx → EReal))
    (h1 : m ((c : Thread nD τ).loc main_arg1) = (up2 D : S2048x512.Idx → EReal))
    (h2 : m ((c : Thread nD τ).loc main_arg2) = (up2 C : S8x2048.Idx → EReal)) :
    (dats m 0 c).arrAt 8 cfg0.N = (up2 (dq Z D (Spec.out Z C (RefF.top Z C)) C (Spec.lse Z C (RefF.top Z C))) : S2048x512.Idx → EReal)
    ∧ (dats m 0 c).arrAt 9 cfg0.N = (up3 (fun h i _ => Spec.dot D (Spec.out Z C (RefF.top Z C)) h i) : S8x2048x1.Idx → EReal)
    ∧ (dats m 0 c).arrAt 10 cfg0.N = (up3 (dcq Z D (Spec.out Z C (RefF.top Z C)) C (Spec.lse Z C (RefF.top Z C))) : S4x2048x128.Idx → EReal) := by
  have a0 : V m c main_arg0 = (up2 Z : S2048x4608.Idx → EReal) := (V_main_arg0 m c).trans h0
  have a3 : V m c main_v49 = (up2 (Spec.out Z C (RefF.top Z C)) : S2048x512.Idx → EReal) := by
    rw [host49, h0, h2]; exact RefF.v49 Z C
  have a4 : V m c main_arg1 = (up2 D : S2048x512.Idx → EReal) := (V_main_arg1 m c).trans h1
  have a5 : V m c main_v35 = (up3 (fun h i _ => Spec.lse Z C (RefF.top Z C) h i) : S8x2048x1.Idx → EReal) := by
    rw [host35, h0, h2]; exact RefF.v35 Z C
  have a6 : V m c main_v50 = (up3 (fun h i _ => C h i) : S8x2048x1.Idx → EReal) := by
    rw [host50, h2]; exact col C
  have a7 : V m c main_v51 = (up4 (fun h n _ s => C h (256 * n + s)) : S8x8x1x256.Idx → EReal) := by
    rw [host51, h2, col]; exact blocks C
  exact ⟨arr8 m c Z D _ C _ a0 a0 a0 a3 a4 a5 a6 a7, arr9 m c Z D _ C _ a0 a0 a0 a3 a4 a5 a6 a7, arr10 m c Z D _ C _ a0 a0 a0 a3 a4 a5 a6 a7⟩

/-- Both programs, from the same real arguments, end with the same three results. -/
theorem algebraic : Cert.algebraic_KernelQIdeal_ReferenceQIdeal_pre_finite := by
  intro m g m' g' hp he
  have real (c : Dev nD) := Finite.three _ _ _ (hp c)
  choose hZ hD hC using real
  choose Z hZ using hZ
  choose D hD using hD
  choose C hC using hC
  refine ⟨fun c => (dats m 0 c).arrAt 8 cfg0.N, fun c => (dats m 0 c).arrAt 9 cfg0.N, fun c => (dats m 0 c).arrAt 10 cfg0.N,
    Cert.KernelQIdeal.Value.run_blocks m g, ?_⟩
  refine (θ_run Cert.ReferenceQIdeal.defs _ _).mono (fun r h c => ?_) (Cert.ReferenceQIdeal.Value.run (F := Ideal) m' g')
  obtain ⟨r0, r1, r2, k⟩ := h c
  obtain ⟨e0, e1, e2⟩ := he c
  obtain ⟨w0, w1, w2⟩ := results m c (Z c) (D c) (C c) (hZ c) (hD c) (hC c)
  refine ⟨?_, ?_, ?_, k⟩
  · rw [r0, Cert.ReferenceQIdeal.Read.val_main_v91_eq, e0, e1, e2]
    refine Eq.trans ?_ w0.symm
    have := RefQ.v91 (Z c) (C c) (D c)
    rw [hZ c, hD c, hC c]
    exact this
  · rw [r1, Cert.ReferenceQIdeal.Read.val_main_v97_eq, e0, e1, e2]
    refine Eq.trans ?_ w1.symm
    rw [hZ c, hD c, hC c]
    exact RefQ.v97 (Z c) (C c) (D c)
  · rw [r2, Cert.ReferenceQIdeal.Read.val_main_v109_eq, e0, e1, e2]
    refine Eq.trans ?_ w2.symm
    rw [hZ c, hD c, hC c]
    exact RefQ.v109 (Z c) (C c) (D c)

end KQ
-- ==== Proof.KKV.lean ====
module
public import proofs.«01_k».proof.Proof.Gen.KernelKVIdeal.Value
public import proofs.«01_k».proof.Proof.Tile
public import Idealize.ShloMosaic.Lib.Pipeline.ValueKit.Geometry
@[expose] public section
noncomputable section
/-! One grid step of the key/value backward call: the diagonal block, the loop over the later query blocks, and the three blocks stored. -/
namespace KKV
open Cert.KernelKVIdeal Cert.KernelKVIdeal.Gen Idealize.ShloMosaic Idealize.ShloMosaic.TcCoe Idealize.SL.Sem Tile Finset

theorem dot_nt : (dot_S256x128_S256x128_S256x256_1_1_0_0_n_n : DotDims S256x128 S256x128 S256x256) = DotDims.transposedRhs 256 128 256 := rfl
theorem dot_nn : (dot_S256x256_S256x128_S256x128_1_0_0_1_n_n : DotDims S256x256 S256x128 S256x128) = DotDims.plain 256 256 128 := rfl

/-- The weight of one head: rows of the key block against absolute query rows. -/
def wt (k q : ℕ → ℕ → ℝ) (c l cr : ℕ → ℝ) (r x : ℕ) : ℝ :=
  Real.exp ((∑ t ∈ range 128, k r t * q x t) * (1 / 8) + (cr x - c r) - l x)
/-- The gradient of the weight, less the row's mean. -/
def gp (v d : ℕ → ℕ → ℝ) (e : ℕ → ℝ) (r x : ℕ) : ℝ := (∑ t ∈ range 128, v r t * d x t) - e x
/-- The gradient of the score. -/
def dsc (k v q d : ℕ → ℕ → ℝ) (c l e cr : ℕ → ℝ) (r x : ℕ) : ℝ := wt k q c l cr r x * gp v d e r x
/-- The lanes of a pair of heads that belong to its first and its second head. -/
def lo (f : ℕ → ℕ → ℝ) (i j : ℕ) : ℝ := if j < 64 then f i j else 0
def hi (f : ℕ → ℕ → ℝ) (i j : ℕ) : ℝ := if 64 ≤ j then f i j else 0

theorem trips1 (i : grid0.Coords) : Scf.trips (k0_t1_loop i).lb (k0_t1_loop i).ub (k0_t1_loop i).st = 7 - (i 1).val := by
  unfold k0_t1_loop
  generalize (i 1) = n
  revert n
  decide
theorem trips2 (i : grid0.Coords) : Scf.trips (k0_t2_loop i).lb (k0_t2_loop i).ub (k0_t2_loop i).st = 0 := by
  unfold k0_t2_loop
  generalize (i 1) = n
  revert n
  decide

theorem idx (n k : ℕ) (h : n + 1 + k < 8) : BitVec.toNat (Scalar.indexCast (Scf.iv (Scalar.addi (BitVec.ofNat 32 n) 1#32) 1#32 k)) = n + 1 + k := by
  have : n < 8 := by omega
  have : k < 8 := by omega
  interval_cases n <;> interval_cases k <;> first | rfl | omega
theorem idx_mul (n k : ℕ) (h : n + 1 + k < 8) : BitVec.toNat (Scalar.indexCast (Scalar.muli (Scf.iv (Scalar.addi (BitVec.ofNat 32 n) 1#32) 1#32 k) 256#32)) = 256 * (n + 1 + k) := by
  have : n < 8 := by omega
  have : k < 8 := by omega
  interval_cases n <;> interval_cases k <;> first | rfl | omega
theorem idx0 (k : ℕ) (h : k < 8) : BitVec.toNat (Scalar.indexCast (BitVec.ofNat 32 k)) = k := by
  interval_cases k <;> rfl
theorem idx_mul0 (k : ℕ) (h : k < 8) : BitVec.toNat (Scalar.indexCast (Scalar.muli (BitVec.ofNat 32 k) 256#32)) = 256 * k := by
  interval_cases k <;> rfl

variable (𝒱 : Variants) (c : Dev nD) (bd : Option 𝒱.V) (i : grid0.Coords) (arg2 : Memref sig .tc .vmem S2048x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2x8x1x256 .f32) (harg6 : arg6.IsWhole) (arg7 : Memref sig .tc .vmem S2x8x1x256 .f32) (harg7 : arg7.IsWhole) (arg8 : Memref sig .tc .vmem S2x256x1 .f32) (harg8 : arg8.IsWhole) (arg9 : Memref sig .tc .vmem S2x8x1x256 .f32) (harg9 : arg9.IsWhole) (arg10 : Memref sig .tc .vmem S256x128 .bf16) (harg10 : arg10.IsWhole) (arg11 : Memref sig .tc .vmem S256x128 .bf16) (harg11 : arg11.IsWhole) (arg12 : Memref sig .tc .vmem S1x256x128 .f32) (harg12 : arg12.IsWhole) (arg1 v110 : BitVec 32)
variable (v2 : IVec S1x128 1) (v27 v28 v59 v69 : FVec Ideal S256x128 .f32) (v29 v72 : FVec Ideal S256x1 .f32) (v33 v35 : Vec Ideal S256x128 .bf16) (v75 : FVec Ideal S256x256 .f32)
variable (k0 k1 z0 z1 c0 c1 q d : ℕ → ℕ → ℝ) (l de cr : ℕ → ℕ → ℝ)

theorem inside (k : Fin (k0_t1_loop i).trips) : (i 1).val + 1 + k.val < 8 := by
  have h := k.isLt; have h2 : (k0_t1_loop i).trips = 7 - (i 1).val := trips1 i; omega
theorem i1lt : (i 1).val < 8 := (i 1).isLt
theorem i0lt : (i 0).val < 4 := (i 0).isLt
theorem off1 : k0_off1 i = ![256 * (i 1).val, 0] := by
  have h := i1lt i; unfold k0_off1; dsimp only; rw [idx_mul0 _ h]
theorem off2 : k0_off2 i = ![0, (i 1).val, 0, 0] := by
  have h := i1lt i; unfold k0_off2; dsimp only; rw [idx0 _ h]
theorem off3 : k0_off3 i = ![1, (i 1).val, 0, 0] := by
  have h := i1lt i; unfold k0_off3; dsimp only; rw [idx0 _ h]
theorem off4 (k : Fin (k0_t1_loop i).trips) : k0_off4 i k = ![256 * ((i 1).val + 1 + k.val), 0] := by
  have h := inside i k; unfold k0_off4; dsimp only; rw [idx_mul _ _ h]
theorem off5 (k : Fin (k0_t1_loop i).trips) : k0_off5 i k = ![0, (i 1).val + 1 + k.val, 0, 0] := by
  have h := inside i k; unfold k0_off5; dsimp only; rw [idx _ _ h]
theorem off6 (k : Fin (k0_t1_loop i).trips) : k0_off6 i k = ![1, (i 1).val + 1 + k.val, 0, 0] := by
  have h := inside i k; unfold k0_off6; dsimp only; rw [idx _ _ h]

/-- One trip adds one later query block to each of the six running sums. -/
theorem trip1 (k : Fin (k0_t1_loop i).trips) (A B G A' B' G' : ℕ → ℕ → ℝ) :
    tripR_k0_t1 (F := Ideal) 𝒱 c bd i arg2 harg2 arg3 harg3 arg4 harg4 arg5 harg5 arg6 harg6 arg7 harg7 arg8 harg8 arg9 harg9 arg10 harg10 arg11 harg11 arg12 harg12 arg1 v2 (up2 k0) (up2 k1) (up2 z0) (up2 z1) (up2 c0) (up2 c1) v27 v28 v29 v33 v35 v59 v69 v72 v75 v110
      (harg2.unread (up2 q)) (harg5.unread (up2 d)) (harg6.unread (up4 fun e n _ s => l e (256 * n + s))) (harg7.unread (up4 fun e n _ s => de e (256 * n + s))) (harg9.unread (up4 fun e n _ s => cr e (256 * n + s))) k (up2 A, up2 B, up2 G, up2 A', up2 B', up2 G')
    = (up2 fun r t => A r t + ∑ s ∈ range 256, dsc k0 z0 q d (fun r => c0 r 0) (l 0) (de 0) (cr 0) r (256 * ((i 1).val + 1 + k.val) + s) * q (256 * ((i 1).val + 1 + k.val) + s) t,
       up2 fun r t => B r t + ∑ s ∈ range 256, wt k0 q (fun r => c0 r 0) (l 0) (cr 0) r (256 * ((i 1).val + 1 + k.val) + s) * d (256 * ((i 1).val + 1 + k.val) + s) t,
       up2 fun r t => G r t - ∑ s ∈ range 256, dsc k0 z0 q d (fun r => c0 r 0) (l 0) (de 0) (cr 0) r (256 * ((i 1).val + 1 + k.val) + s),
       up2 fun r t => A' r t + ∑ s ∈ range 256, dsc k1 z1 q d (fun r => c1 r 0) (l 1) (de 1) (cr 1) r (256 * ((i 1).val + 1 + k.val) + s) * q (256 * ((i 1).val + 1 + k.val) + s) t,
       up2 fun r t => B' r t + ∑ s ∈ range 256, wt k1 q (fun r => c1 r 0) (l 1) (cr 1) r (256 * ((i 1).val + 1 + k.val) + s) * d (256 * ((i 1).val + 1 + k.val) + s) t,
       up2 fun r t => G' r t - ∑ s ∈ range 256, dsc k1 z1 q d (fun r => c1 r 0) (l 1) (de 1) (cr 1) r (256 * ((i 1).val + 1 + k.val) + s)) := by
  unfold tripR_k0_t1 trip_k0_t1
  try unfold trip_k0_t1.sl.r_7
  try unfold trip_k0_t1.sl.r_6
  try unfold trip_k0_t1.sl.r_5
  try unfold trip_k0_t1.sl.r_4
  try unfold trip_k0_t1.sl.r_3
  try unfold trip_k0_t1.sl.r_2
  try unfold trip_k0_t1.sl.r_1
  try unfold trip_k0_t1.sl.r
  try unfold trip_k0_t1.sl.cst_82
  simp only [↓load2_bf16, ↓load4]
  simp only [off4, off5, off6, Matrix.cons_val_zero, Matrix.cons_val_one, Matrix.cons_val, k0_pay4, k0_pay5, k0_pay6, k0_pay7, k0_pay8, k0_pay9, k0_pay38, k0_pay39, k0_pay40, k0_pay41, k0_pay42, dot_nt, dot_nn, addf_up2, subf_up2, mulf_up2, exp_up2, truncf_up2, extf_up2, splat_zero, splat_eighth, constant_zero, matmul_nt, matmul_nn, rowSum_up2, cast_self, cast_1_2, cast_drop, cast_add, cast_4_2, bcast_col, bcast_row, zero_add, add_zero, mul_zero]
  rfl

/-- The state of the loop over the later query blocks after `n` trips. -/
theorem state1 (A B G A' B' G' : ℕ → ℕ → ℝ) (n : ℕ) (hn : n ≤ (k0_t1_loop i).trips) :
    st_k0_t1 (F := Ideal) 𝒱 c bd i arg2 harg2 arg3 harg3 arg4 harg4 arg5 harg5 arg6 harg6 arg7 harg7 arg8 harg8 arg9 harg9 arg10 harg10 arg11 harg11 arg12 harg12 arg1 v2 (up2 k0) (up2 k1) (up2 z0) (up2 z1) (up2 c0) (up2 c1) v27 v28 v29 v33 v35 v59 v69 v72 v75 v110
      (harg2.unread (up2 q)) (harg5.unread (up2 d)) (harg6.unread (up4 fun e n _ s => l e (256 * n + s))) (harg7.unread (up4 fun e n _ s => de e (256 * n + s))) (harg9.unread (up4 fun e n _ s => cr e (256 * n + s))) (up2 A, up2 B, up2 G, up2 A', up2 B', up2 G') n
    = (up2 fun r t => A r t + ∑ s ∈ range (256 * n), dsc k0 z0 q d (fun r => c0 r 0) (l 0) (de 0) (cr 0) r (256 * ((i 1).val + 1) + s) * q (256 * ((i 1).val + 1) + s) t,
       up2 fun r t => B r t + ∑ s ∈ range (256 * n), wt k0 q (fun r => c0 r 0) (l 0) (cr 0) r (256 * ((i 1).val + 1) + s) * d (256 * ((i 1).val + 1) + s) t,
       up2 fun r t => G r t - ∑ s ∈ range (256 * n), dsc k0 z0 q d (fun r => c0 r 0) (l 0) (de 0) (cr 0) r (256 * ((i 1).val + 1) + s),
       up2 fun r t => A' r t + ∑ s ∈ range (256 * n), dsc k1 z1 q d (fun r => c1 r 0) (l 1) (de 1) (cr 1) r (256 * ((i 1).val + 1) + s) * q (256 * ((i 1).val + 1) + s) t,
       up2 fun r t => B' r t + ∑ s ∈ range (256 * n), wt k1 q (fun r => c1 r 0) (l 1) (cr 1) r (256 * ((i 1).val + 1) + s) * d (256 * ((i 1).val + 1) + s) t,
       up2 fun r t => G' r t - ∑ s ∈ range (256 * n), dsc k1 z1 q d (fun r => c1 r 0) (l 1) (de 1) (cr 1) r (256 * ((i 1).val + 1) + s)) := by
  induction n with
  | zero =>
    rw [st_k0_t1_zero]
    simp only [mul_zero, range_zero, sum_empty, add_zero, sub_zero]
  | succ n ih =>
    have := st_k0_t1_succ (F := Ideal) 𝒱 c bd i arg2 harg2 arg3 harg3 arg4 harg4 arg5 harg5 arg6 harg6 arg7 harg7 arg8 harg8 arg9 harg9 arg10 harg10 arg11 harg11 arg12 harg12 arg1 v2 (up2 k0) (up2 k1) (up2 z0) (up2 z1) (up2 c0) (up2 c1) v27 v28 v29 v33 v35 v59 v69 v72 v75 v110
      (harg2.unread (up2 q)) (harg5.unread (up2 d)) (harg6.unread (up4 fun e n _ s => l e (256 * n + s))) (harg7.unread (up4 fun e n _ s => de e (256 * n + s))) (harg9.unread (up4 fun e n _ s => cr e (256 * n + s))) (up2 A, up2 B, up2 G, up2 A', up2 B', up2 G') ⟨n, hn⟩
    refine this.trans ?_
    rw [ih (by omega), trip1]
    simp only [mul_add, mul_one, sum_range_add, add_assoc, sub_sub]

variable (kk vv : ℕ → ℕ → ℝ) (cc : ℕ → ℕ → ℕ → ℝ)
theorem pay16 : k0_pay16 = msk2 fun _ j => decide (j < 64) := lanes_lt 64 (by omega) (by omega) _
theorem pay17 : k0_pay17 = msk2 fun _ j => decide (64 ≤ j) := lanes_ge 64 (by omega) (by omega) _
theorem upp : cmpi .sle (iota .tc S256x256 32 [0] iota_S256x256_d0_w32) (iota .tc S256x256 32 [1] iota_S256x256_d1_w32) = msk2 fun i j => decide (i ≤ j) := upper (by omega) (by omega) _ _
theorem eq_lane (m : ℕ) (v : BitVec 32) (hv : v = BitVec.ofNat 32 m) (hm : m < 4096) :
    cmpi .eq (iota .tc S1x128 32 [1] iota_S1x128_d1_w32) (broadcast S1x128 v) = msk2 fun _ j => decide (j = m) := by
  subst hv; exact lanes_eq m hm (by omega) _
theorem pay3 (n : ℕ) (h : n < 4) (f g : ℕ → ℕ → ℝ) : k0_pay3 (F := Ideal) (BitVec.ofNat 32 n) (up2 f) (up2 g)
    = up3 fun _ r t => (if t = 2 * n then f r 0 else 0) + (if t = 2 * n + 1 then g r 0 else 0) := by
  have e1 := eq_lane (2 * n) (Scalar.muli 2#32 (BitVec.ofNat 32 n)) (by interval_cases n <;> rfl) (by omega)
  have e2 := eq_lane (2 * n + 1) (Scalar.addi (Scalar.muli 2#32 (BitVec.ofNat 32 n)) 1#32) (by interval_cases n <;> rfl) (by omega)
  simp only [k0_pay3, ↓e1, ↓e2, cast_self, bcast_msk_row, bcast_col, splat_zero, select_up2, addf_up2, cast_add, decide_eq_true_eq]
/-- One head's key gradient before its scale: the diagonal block first, then the later query blocks. -/
def gk (k v q d : ℕ → ℕ → ℝ) (c l e cr : ℕ → ℝ) (n r t : ℕ) : ℝ :=
  ∑ s ∈ range 256, (if r ≤ s then wt k q c l cr r (256 * n + s) else 0) * gp v d e r (256 * n + s) * q (256 * n + s) t
    + ∑ s ∈ range (256 * (7 - n)), dsc k v q d c l e cr r (256 * (n + 1) + s) * q (256 * (n + 1) + s) t
/-- One head's value gradient, in the same order. -/
def gv (k q d : ℕ → ℕ → ℝ) (c l cr : ℕ → ℝ) (n r t : ℕ) : ℝ :=
  ∑ s ∈ range 256, (if r ≤ s then wt k q c l cr r (256 * n + s) else 0) * d (256 * n + s) t
    + ∑ s ∈ range (256 * (7 - n)), wt k q c l cr r (256 * (n + 1) + s) * d (256 * (n + 1) + s) t
/-- One head's bias gradient, in the same order. -/
def gc (k v q d : ℕ → ℕ → ℝ) (c l e cr : ℕ → ℝ) (n r : ℕ) : ℝ :=
  0 - ∑ s ∈ range 256, (if r ≤ s then wt k q c l cr r (256 * n + s) else 0) * gp v d e r (256 * n + s)
    - ∑ s ∈ range (256 * (7 - n)), dsc k v q d c l e cr r (256 * (n + 1) + s)

set_option maxRecDepth 4000 in
/-- The key gradient block stored. -/
theorem out8 :
    out0_A_8 (F := Ideal) c i arg2 harg2 arg3 harg3 arg4 harg4 arg5 harg5 arg6 harg6 arg7 harg7 arg8 harg8 arg9 harg9 arg10 harg10 arg11 harg11 arg12 harg12 (up2 q) (up2 kk) (up2 vv) (up2 d) (up4 fun e n _ s => l e (256 * n + s)) (up4 fun e n _ s => de e (256 * n + s)) (up3 cc) (up4 fun e n _ s => cr e (256 * n + s)) = up2 fun r t =>
      (if t < 64 then gk (lo kk) (lo vv) q d (fun r => cc 0 r 0) (l 0) (de 0) (cr 0) (i 1) r t
        else gk (hi kk) (hi vv) q d (fun r => cc 1 r 0) (l 1) (de 1) (cr 1) (i 1) r t) * (1 / 8) := by
  unfold out0_A_8
  rw [View.read_writes_eq_canon _ _ _ (cover0_A_8 _ _ _ _ _ _ _ _ _ _ _ _ _ _ _ _ _ _ _ _ _ _ _ _ _ _ _ _ _ _ _ _)]
  unfold kernelRun0_A
  dsimp only
  try unfold kernelRun0_A.sl.r_30
  try unfold kernelRun0_A.sl.r_29
  try unfold kernelRun0_A.sl.r_28
  try unfold kernelRun0_A.sl.r_27
  try unfold kernelRun0_A.sl.r_26
  try unfold kernelRun0_A.sl.r_25
  try unfold kernelRun0_A.sl.r_24
  try unfold kernelRun0_A.sl.r_23
  try unfold kernelRun0_A.sl.r_22
  try unfold kernelRun0_A.sl.r_21
  try unfold kernelRun0_A.sl.r_20
  try unfold kernelRun0_A.sl.r_19
  try unfold kernelRun0_A.sl.r_18
  try unfold kernelRun0_A.sl.r_17
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [↓load2, ↓load2_bf16, ↓load3, ↓load4, off1, off2, off3, Matrix.cons_val_zero, Matrix.cons_val_one, Matrix.cons_val, zero_add, add_zero]
  simp only [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, pay16, pay17, ↓upp, splat_zero_bf16, splat_negInf, bcast_msk_row, select_up2, select_dn2, subf_dn2, exp_dn2, dot_nt, dot_nn, addf_up2, subf_up2, mulf_up2, exp_up2, truncf_up2, extf_up2, splat_zero, splat_eighth, constant_zero, matmul_nt, matmul_nn, rowSum_up2, cast_self, cast_1_2, cast_drop, cast_add, cast_4_2, bcast_col, bcast_row, add_zero, zero_add, decide_eq_true_eq]
  rw [trips1, trips2, st_k0_t2_zero, state1 (hn := (trips1 i).ge)]
  dsimp only
  simp only [k0_pay1, k0_pay2, pay3 _ (i0lt i), k0_pay48, pay16, bcast_msk_row, select_up2, cast_self, mulf_up2, truncf_up2, splat_eighth, add_zero, zero_add, decide_eq_true_eq]
  refine (View.canon_unit_zero (by decide) _ _).trans ?_
  rfl

set_option maxRecDepth 4000 in
/-- The value gradient block stored. -/
theorem out9 :
    out0_A_9 (F := Ideal) c i arg2 harg2 arg3 harg3 arg4 harg4 arg5 harg5 arg6 harg6 arg7 harg7 arg8 harg8 arg9 harg9 arg10 harg10 arg11 harg11 arg12 harg12 (up2 q) (up2 kk) (up2 vv) (up2 d) (up4 fun e n _ s => l e (256 * n + s)) (up4 fun e n _ s => de e (256 * n + s)) (up3 cc) (up4 fun e n _ s => cr e (256 * n + s)) = up2 fun r t =>
      if t < 64 then gv (lo kk) q d (fun r => cc 0 r 0) (l 0) (cr 0) (i 1) r t
        else gv (hi kk) q d (fun r => cc 1 r 0) (l 1) (cr 1) (i 1) r t := by
  unfold out0_A_9
  rw [View.read_writes_eq_canon _ _ _ (cover0_A_9 _ _ _ _ _ _ _ _ _ _ _ _ _ _ _ _ _ _ _ _ _ _ _ _ _ _ _ _ _ _ _ _)]
  unfold kernelRun0_A
  dsimp only
  try unfold kernelRun0_A.sl.r_30
  try unfold kernelRun0_A.sl.r_29
  try unfold kernelRun0_A.sl.r_28
  try unfold kernelRun0_A.sl.r_27
  try unfold kernelRun0_A.sl.r_26
  try unfold kernelRun0_A.sl.r_25
  try unfold kernelRun0_A.sl.r_24
  try unfold kernelRun0_A.sl.r_23
  try unfold kernelRun0_A.sl.r_22
  try unfold kernelRun0_A.sl.r_21
  try unfold kernelRun0_A.sl.r_20
  try unfold kernelRun0_A.sl.r_19
  try unfold kernelRun0_A.sl.r_18
  try unfold kernelRun0_A.sl.r_17
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [↓load2, ↓load2_bf16, ↓load3, ↓load4, off1, off2, off3, Matrix.cons_val_zero, Matrix.cons_val_one, Matrix.cons_val, zero_add, add_zero]
  simp only [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, pay16, pay17, ↓upp, splat_zero_bf16, splat_negInf, bcast_msk_row, select_up2, select_dn2, subf_dn2, exp_dn2, dot_nt, dot_nn, addf_up2, subf_up2, mulf_up2, exp_up2, truncf_up2, extf_up2, splat_zero, splat_eighth, constant_zero, matmul_nt, matmul_nn, rowSum_up2, cast_self, cast_1_2, cast_drop, cast_add, cast_4_2, bcast_col, bcast_row, add_zero, zero_add, decide_eq_true_eq]
  rw [trips1, trips2, st_k0_t2_zero, state1 (hn := (trips1 i).ge)]
  dsimp only
  simp only [k0_pay1, k0_pay2, pay3 _ (i0lt i), k0_pay48, pay16, bcast_msk_row, select_up2, cast_self, mulf_up2, truncf_up2, splat_eighth, add_zero, zero_add, decide_eq_true_eq]
  refine (View.canon_unit_zero (by decide) _ _).trans ?_
  rfl

set_option maxRecDepth 4000 in
/-- The bias gradient block stored. -/
theorem out10 :
    out0_A_10 (F := Ideal) c i arg2 harg2 arg3 harg3 arg4 harg4 arg5 harg5 arg6 harg6 arg7 harg7 arg8 harg8 arg9 harg9 arg10 harg10 arg11 harg11 arg12 harg12 (up2 q) (up2 kk) (up2 vv) (up2 d) (up4 fun e n _ s => l e (256 * n + s)) (up4 fun e n _ s => de e (256 * n + s)) (up3 cc) (up4 fun e n _ s => cr e (256 * n + s)) = up3 fun _ r t =>
      (if t = 2 * (i 0).val then gc (lo kk) (lo vv) q d (fun r => cc 0 r 0) (l 0) (de 0) (cr 0) (i 1) r else 0)
        + (if t = 2 * (i 0).val + 1 then gc (hi kk) (hi vv) q d (fun r => cc 1 r 0) (l 1) (de 1) (cr 1) (i 1) r else 0) := by
  unfold out0_A_10
  rw [View.read_writes_eq_canon _ _ _ (cover0_A_10 _ _ _ _ _ _ _ _ _ _ _ _ _ _ _ _ _ _ _ _ _ _ _ _ _ _ _ _ _ _ _ _)]
  unfold kernelRun0_A
  dsimp only
  try unfold kernelRun0_A.sl.r_30
  try unfold kernelRun0_A.sl.r_29
  try unfold kernelRun0_A.sl.r_28
  try unfold kernelRun0_A.sl.r_27
  try unfold kernelRun0_A.sl.r_26
  try unfold kernelRun0_A.sl.r_25
  try unfold kernelRun0_A.sl.r_24
  try unfold kernelRun0_A.sl.r_23
  try unfold kernelRun0_A.sl.r_22
  try unfold kernelRun0_A.sl.r_21
  try unfold kernelRun0_A.sl.r_20
  try unfold kernelRun0_A.sl.r_19
  try unfold kernelRun0_A.sl.r_18
  try unfold kernelRun0_A.sl.r_17
  try unfold kernelRun0_A.sl.r_16
  try unfold kernelRun0_A.sl.r_15
  try unfold kernelRun0_A.sl.r_14
  try unfold kernelRun0_A.sl.r_13
  try unfold kernelRun0_A.sl.r_12
  try unfold kernelRun0_A.sl.r_11
  try unfold kernelRun0_A.sl.r_10
  try unfold kernelRun0_A.sl.r_9
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  simp only [↓load2, ↓load2_bf16, ↓load3, ↓load4, off1, off2, off3, Matrix.cons_val_zero, Matrix.cons_val_one, Matrix.cons_val, zero_add, add_zero]
  simp only [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, pay16, pay17, ↓upp, splat_zero_bf16, splat_negInf, bcast_msk_row, select_up2, select_dn2, subf_dn2, exp_dn2, dot_nt, dot_nn, addf_up2, subf_up2, mulf_up2, exp_up2, truncf_up2, extf_up2, splat_zero, splat_eighth, constant_zero, matmul_nt, matmul_nn, rowSum_up2, cast_self, cast_1_2, cast_drop, cast_add, cast_4_2, bcast_col, bcast_row, add_zero, zero_add, decide_eq_true_eq]
  rw [trips1, trips2, st_k0_t2_zero, state1 (hn := (trips1 i).ge)]
  dsimp only
  simp only [k0_pay1, k0_pay2, pay3 _ (i0lt i), k0_pay48, pay16, bcast_msk_row, select_up2, cast_self, mulf_up2, truncf_up2, splat_eighth, add_zero, zero_add, decide_eq_true_eq]
  refine (View.canon_unit_zero (by decide) _ _).trans ?_
  rfl
end KKV
-- ==== Proof.KKVA.lean ====
/- The key/value backward kernel: its three result arrays as real sums over the whole sequence.

   The blocks the pipeline hands to a grid point are windows of the whole arrays; the point's results (the module before
   this one) are rewritten in whole-array coordinates and put back where the pipeline writes them. -/
module

public import proofs.«01_k».proof.Proof.KKV
public import proofs.«01_k».proof.Proof.Spec

@[expose] public section

noncomputable section

namespace KKV

open Cert.KernelKVIdeal Cert.KernelKVIdeal.Gen Idealize.ShloMosaic Idealize.ShloMosaic.TcCoe Idealize.SL.Sem Tile Finset

theorem e0 : ∀ t : Fin cfg0.N, win0_0.index t = ![0, 24 + (grid0.coords t 0).val] :=
  (by decide +kernel : ∀ t : Fin grid0.N, _)
theorem e1 : ∀ t : Fin cfg0.N, win0_1.index t = ![(grid0.coords t 1).val, 28 + (grid0.coords t 0).val] :=
  (by decide +kernel : ∀ t : Fin grid0.N, _)
theorem e2 : ∀ t : Fin cfg0.N, win0_2.index t = ![(grid0.coords t 1).val, 32 + (grid0.coords t 0).val] :=
  (by decide +kernel : ∀ t : Fin grid0.N, _)
theorem e3 : ∀ t : Fin cfg0.N, win0_3.index t = ![0, (grid0.coords t 0).val] :=
  (by decide +kernel : ∀ t : Fin grid0.N, _)
theorem e4 : ∀ t : Fin cfg0.N, win0_4.index t = ![(grid0.coords t 0).val, 0, 0, 0] :=
  (by decide +kernel : ∀ t : Fin grid0.N, _)
theorem e5 : ∀ t : Fin cfg0.N, win0_5.index t = ![(grid0.coords t 0).val, 0, 0, 0] :=
  (by decide +kernel : ∀ t : Fin grid0.N, _)
theorem e6 : ∀ t : Fin cfg0.N, win0_6.index t = ![(grid0.coords t 0).val, (grid0.coords t 1).val, 0] :=
  (by decide +kernel : ∀ t : Fin grid0.N, _)
theorem e7 : ∀ t : Fin cfg0.N, win0_7.index t = ![(grid0.coords t 0).val, 0, 0, 0] :=
  (by decide +kernel : ∀ t : Fin grid0.N, _)
theorem e8 : ∀ t : Fin cfg0.N, win0_8.index t = ![(grid0.coords t 1).val, (grid0.coords t 0).val] :=
  (by decide +kernel : ∀ t : Fin grid0.N, _)
theorem e9 : ∀ t : Fin cfg0.N, win0_9.index t = ![(grid0.coords t 1).val, (grid0.coords t 0).val] :=
  (by decide +kernel : ∀ t : Fin grid0.N, _)
theorem e10 : ∀ t : Fin cfg0.N, win0_10.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)
variable (Z D : ℕ → ℕ → ℝ) (C L E : ℕ → ℕ → ℝ)

theorem blk0 (X : Buf (Elt Ideal) ((c : Thread nD τ).loc (Pipeline.arrRef spec0 0))) (h : X = (up2 Z : S2048x4608.Idx → EReal)) :
    (((cfg0.win 0).blk t).view.read (Elt Ideal) X : ((cfg0.win 0).xblock (cfg0.grid.coords t)).Idx → Elt Ideal (cfg0.win 0).elt) = (up2 fun a b => Z a (3072 + 128 * (grid0.coords t 0).val + b) : S2048x128.Idx → EReal) := by
  subst h
  funext y
  unfold up2
  blk_simp [e0]
  congr 2 <;> omega
theorem blk1 (X : Buf (Elt Ideal) ((c : Thread nD τ).loc (Pipeline.arrRef spec0 1))) (h : X = (up2 Z : S2048x4608.Idx → EReal)) :
    (((cfg0.win 1).blk t).view.read (Elt Ideal) X : ((cfg0.win 1).xblock (cfg0.grid.coords t)).Idx → Elt Ideal (cfg0.win 1).elt) = (up2 fun a b => Z (256 * (grid0.coords t 1).val + a) (3584 + 128 * (grid0.coords t 0).val + b) : S256x128.Idx → EReal) := by
  subst h
  funext y
  unfold up2
  blk_simp [e1]
  congr 2 <;> omega
theorem blk2 (X : Buf (Elt Ideal) ((c : Thread nD τ).loc (Pipeline.arrRef spec0 2))) (h : X = (up2 Z : S2048x4608.Idx → EReal)) :
    (((cfg0.win 2).blk t).view.read (Elt Ideal) X : ((cfg0.win 2).xblock (cfg0.grid.coords t)).Idx → Elt Ideal (cfg0.win 2).elt) = (up2 fun a b => Z (256 * (grid0.coords t 1).val + a) (4096 + 128 * (grid0.coords t 0).val + b) : S256x128.Idx → EReal) := by
  subst h
  funext y
  unfold up2
  blk_simp [e2]
  congr 2 <;> omega
theorem blk3 (X : Buf (Elt Ideal) ((c : Thread nD τ).loc (Pipeline.arrRef spec0 3))) (h : X = (up2 D : S2048x512.Idx → EReal)) :
    (((cfg0.win 3).blk t).view.read (Elt Ideal) X : ((cfg0.win 3).xblock (cfg0.grid.coords t)).Idx → Elt Ideal (cfg0.win 3).elt) = (up2 fun a b => D a (128 * (grid0.coords t 0).val + b) : S2048x128.Idx → EReal) := by
  subst h
  funext y
  unfold up2
  blk_simp [e3]
  congr 2 <;> omega
theorem blk4 (X : Buf (Elt Ideal) ((c : Thread nD τ).loc (Pipeline.arrRef spec0 4))) (h : X = (up4 fun h n _ s => L h (256 * n + s) : S8x8x1x256.Idx → EReal)) :
    (((cfg0.win 4).blk t).view.read (Elt Ideal) X : ((cfg0.win 4).xblock (cfg0.grid.coords t)).Idx → Elt Ideal (cfg0.win 4).elt) = (up4 fun e n _ s => L (2 * (grid0.coords t 0).val + e) (256 * n + s) : S2x8x1x256.Idx → EReal) := by
  subst h
  funext y
  unfold up4
  blk_simp [e4]
  rw [Nat.mul_comm _ 2]
theorem blk5 (X : Buf (Elt Ideal) ((c : Thread nD τ).loc (Pipeline.arrRef spec0 5))) (h : X = (up4 fun h n _ s => E h (256 * n + s) : S8x8x1x256.Idx → EReal)) :
    (((cfg0.win 5).blk t).view.read (Elt Ideal) X : ((cfg0.win 5).xblock (cfg0.grid.coords t)).Idx → Elt Ideal (cfg0.win 5).elt) = (up4 fun e n _ s => E (2 * (grid0.coords t 0).val + e) (256 * n + s) : S2x8x1x256.Idx → EReal) := by
  subst h
  funext y
  unfold up4
  blk_simp [e5]
  rw [Nat.mul_comm _ 2]
theorem blk6 (X : Buf (Elt Ideal) ((c : Thread nD τ).loc (Pipeline.arrRef spec0 6))) (h : X = (up3 fun h i _ => C h i : S8x2048x1.Idx → EReal)) :
    (((cfg0.win 6).blk t).view.read (Elt Ideal) X : ((cfg0.win 6).xblock (cfg0.grid.coords t)).Idx → Elt Ideal (cfg0.win 6).elt) = (up3 fun e a _ => C (2 * (grid0.coords t 0).val + e) (256 * (grid0.coords t 1).val + a) : S2x256x1.Idx → EReal) := by
  subst h
  funext y
  unfold up3
  blk_simp [e6]
  rw [Nat.mul_comm _ 2, Nat.mul_comm _ 256]
theorem blk7 (X : Buf (Elt Ideal) ((c : Thread nD τ).loc (Pipeline.arrRef spec0 7))) (h : X = (up4 fun h n _ s => C h (256 * n + s) : S8x8x1x256.Idx → EReal)) :
    (((cfg0.win 7).blk t).view.read (Elt Ideal) X : ((cfg0.win 7).xblock (cfg0.grid.coords t)).Idx → Elt Ideal (cfg0.win 7).elt) = (up4 fun e n _ s => C (2 * (grid0.coords t 0).val + e) (256 * n + s) : S2x8x1x256.Idx → EReal) := by
  subst h
  funext y
  unfold up4
  blk_simp [e7]
  rw [Nat.mul_comm _ 2]

section Bridge

variable (n p : ℕ)

/-- The weights of the pair's two heads, from masked 128-lane products. -/
theorem wt_lo (r x : ℕ) :
    wt (lo fun a b => Z (256 * n + a) (3584 + 128 * p + b)) (fun a b => Z a (3072 + 128 * p + b))
      (fun a => C (2 * p) (256 * n + a)) (fun a => L (2 * p) a) (fun a => C (2 * p) a) r x
    = Real.exp (Spec.S Z C (2 * p) x (256 * n + r) - L (2 * p) x) := by
  unfold wt lo Spec.S
  simp only [ite_mul, zero_mul]
  rw [Spec.sum_lo (fun t => Z (256 * n + r) (3584 + 128 * p + t) * Z x (3072 + 128 * p + t))]
  simp only [show ∀ d, 3072 + (64 * (2 * p) + d) = 3072 + 128 * p + d from fun d => by omega,
    show ∀ d, 3584 + (64 * (2 * p) + d) = 3584 + 128 * p + d from fun d => by omega]
  rw [sum_congr rfl fun d _ => mul_comm (Z (256 * n + r) (3584 + 128 * p + d)) _]
theorem wt_hi (r x : ℕ) :
    wt (hi fun a b => Z (256 * n + a) (3584 + 128 * p + b)) (fun a b => Z a (3072 + 128 * p + b))
      (fun a => C (2 * p + 1) (256 * n + a)) (fun a => L (2 * p + 1) a) (fun a => C (2 * p + 1) a) r x
    = Real.exp (Spec.S Z C (2 * p + 1) x (256 * n + r) - L (2 * p + 1) x) := by
  unfold wt hi Spec.S
  simp only [ite_mul, zero_mul]
  rw [Spec.sum_hi (fun t => Z (256 * n + r) (3584 + 128 * p + t) * Z x (3072 + 128 * p + t))]
  simp only [show ∀ d, 3072 + (64 * (2 * p + 1) + d) = 3072 + 128 * p + (64 + d) from fun d => by omega,
    show ∀ d, 3584 + (64 * (2 * p + 1) + d) = 3584 + 128 * p + (64 + d) from fun d => by omega]
  rw [sum_congr rfl fun d _ => mul_comm (Z (256 * n + r) (3584 + 128 * p + (64 + d))) _]
/-- The cotangents of the weights. -/
theorem gp_lo (r x : ℕ) :
    gp (lo fun a b => Z (256 * n + a) (4096 + 128 * p + b)) (fun a b => D a (128 * p + b)) (fun a => E (2 * p) a) r x = Spec.gp Z D (2 * p) x (256 * n + r) - E (2 * p) x := by
  unfold gp lo Spec.gp
  simp only [ite_mul, zero_mul]
  rw [Spec.sum_lo (fun t => Z (256 * n + r) (4096 + 128 * p + t) * D x (128 * p + t))]
  simp only [show ∀ d, 64 * (2 * p) + d = 128 * p + d from fun d => by omega,
    show ∀ d, 4096 + (128 * p + d) = 4096 + 128 * p + d from fun d => by omega]
  rw [sum_congr rfl fun d _ => mul_comm (Z (256 * n + r) (4096 + 128 * p + d)) _]
theorem gp_hi (r x : ℕ) :
    gp (hi fun a b => Z (256 * n + a) (4096 + 128 * p + b)) (fun a b => D a (128 * p + b)) (fun a => E (2 * p + 1) a) r x = Spec.gp Z D (2 * p + 1) x (256 * n + r) - E (2 * p + 1) x := by
  unfold gp hi Spec.gp
  simp only [ite_mul, zero_mul]
  rw [Spec.sum_hi (fun t => Z (256 * n + r) (4096 + 128 * p + t) * D x (128 * p + t))]
  simp only [show ∀ d, 64 * (2 * p + 1) + d = 128 * p + (64 + d) from fun d => by omega,
    show ∀ d, 4096 + (128 * p + (64 + d)) = 4096 + 128 * p + (64 + d) from fun d => by omega]
  rw [sum_congr rfl fun d _ => mul_comm (Z (256 * n + r) (4096 + 128 * p + (64 + d))) _]

/-- A causal column of score gradients, block by block, against any right-hand side. -/
theorem column (w g G : ℕ → ℝ) (r : ℕ) (hn : n < 8) (hr : r < 256) :
    ∑ s ∈ range 256, (if r ≤ s then w (256 * n + s) else 0) * g (256 * n + s) * G (256 * n + s)
      + ∑ x ∈ range (256 * (7 - n)), w (256 * (n + 1) + x) * g (256 * (n + 1) + x) * G (256 * (n + 1) + x)
    = ∑ x ∈ range 2048, (if 256 * n + r ≤ x then w x else 0) * g x * G x := by
  rw [sum_congr rfl fun x _ => show (if 256 * n + r ≤ x then w x else 0) * g x * G x
    = if 256 * n + r ≤ x then w x * g x * G x else 0 by split <;> simp]
  rw [Spec.sum_anticausal (fun x => w x * g x * G x) n r hn hr]
  refine congrArg (· + _) (sum_congr rfl fun s _ => ?_)
  split <;> simp

theorem gk_lo (r t : ℕ) (hn : n < 8) (hr : r < 256) :
    gk (lo fun a b => Z (256 * n + a) (3584 + 128 * p + b)) (lo fun a b => Z (256 * n + a) (4096 + 128 * p + b)) (fun a b => Z a (3072 + 128 * p + b)) (fun a b => D a (128 * p + b))
      (fun a => C (2 * p) (256 * n + a)) (fun a => L (2 * p) a) (fun a => E (2 * p) a) (fun a => C (2 * p) a) n r t
    = ∑ x ∈ range 2048, Spec.ds Z C D L E (2 * p) x (256 * n + r) * Z x (3072 + 128 * p + t) := by
  unfold gk dsc Spec.ds
  simp only [wt_lo, gp_lo]
  exact column n (fun x => Real.exp (Spec.S Z C (2 * p) x (256 * n + r) - L (2 * p) x)) (fun x => Spec.gp Z D (2 * p) x (256 * n + r) - E (2 * p) x) (fun x => Z x (3072 + 128 * p + t)) r hn hr
theorem gv_lo (r t : ℕ) (hn : n < 8) (hr : r < 256) :
    gv (lo fun a b => Z (256 * n + a) (3584 + 128 * p + b)) (fun a b => Z a (3072 + 128 * p + b)) (fun a b => D a (128 * p + b))
      (fun a => C (2 * p) (256 * n + a)) (fun a => L (2 * p) a) (fun a => C (2 * p) a) n r t
    = ∑ x ∈ range 2048, (if 256 * n + r ≤ x then Real.exp (Spec.S Z C (2 * p) x (256 * n + r) - L (2 * p) x) else 0) * D x (128 * p + t) := by
  unfold gv
  simp only [wt_lo]
  simpa only [mul_one] using column n (fun x => Real.exp (Spec.S Z C (2 * p) x (256 * n + r) - L (2 * p) x)) (fun _ => 1) (fun x => D x (128 * p + t)) r hn hr
theorem gc_lo (r : ℕ) (hn : n < 8) (hr : r < 256) :
    gc (lo fun a b => Z (256 * n + a) (3584 + 128 * p + b)) (lo fun a b => Z (256 * n + a) (4096 + 128 * p + b)) (fun a b => Z a (3072 + 128 * p + b)) (fun a b => D a (128 * p + b))
      (fun a => C (2 * p) (256 * n + a)) (fun a => L (2 * p) a) (fun a => E (2 * p) a) (fun a => C (2 * p) a) n r
    = -∑ x ∈ range 2048, Spec.ds Z C D L E (2 * p) x (256 * n + r) := by
  unfold gc dsc Spec.ds
  simp only [wt_lo, gp_lo]
  rw [zero_sub, ← neg_add']
  refine congrArg Neg.neg ?_
  simpa only [mul_one] using column n (fun x => Real.exp (Spec.S Z C (2 * p) x (256 * n + r) - L (2 * p) x)) (fun x => Spec.gp Z D (2 * p) x (256 * n + r) - E (2 * p) x) (fun _ => 1) r hn hr
theorem gk_hi (r t : ℕ) (hn : n < 8) (hr : r < 256) :
    gk (hi fun a b => Z (256 * n + a) (3584 + 128 * p + b)) (hi fun a b => Z (256 * n + a) (4096 + 128 * p + b)) (fun a b => Z a (3072 + 128 * p + b)) (fun a b => D a (128 * p + b))
      (fun a => C (2 * p + 1) (256 * n + a)) (fun a => L (2 * p + 1) a) (fun a => E (2 * p + 1) a) (fun a => C (2 * p + 1) a) n r t
    = ∑ x ∈ range 2048, Spec.ds Z C D L E (2 * p + 1) x (256 * n + r) * Z x (3072 + 128 * p + t) := by
  unfold gk dsc Spec.ds
  simp only [wt_hi, gp_hi]
  exact column n (fun x => Real.exp (Spec.S Z C (2 * p + 1) x (256 * n + r) - L (2 * p + 1) x)) (fun x => Spec.gp Z D (2 * p + 1) x (256 * n + r) - E (2 * p + 1) x) (fun x => Z x (3072 + 128 * p + t)) r hn hr
theorem gv_hi (r t : ℕ) (hn : n < 8) (hr : r < 256) :
    gv (hi fun a b => Z (256 * n + a) (3584 + 128 * p + b)) (fun a b => Z a (3072 + 128 * p + b)) (fun a b => D a (128 * p + b))
      (fun a => C (2 * p + 1) (256 * n + a)) (fun a => L (2 * p + 1) a) (fun a => C (2 * p + 1) a) n r t
    = ∑ x ∈ range 2048, (if 256 * n + r ≤ x then Real.exp (Spec.S Z C (2 * p + 1) x (256 * n + r) - L (2 * p + 1) x) else 0) * D x (128 * p + t) := by
  unfold gv
  simp only [wt_hi]
  simpa only [mul_one] using column n (fun x => Real.exp (Spec.S Z C (2 * p + 1) x (256 * n + r) - L (2 * p + 1) x)) (fun _ => 1) (fun x => D x (128 * p + t)) r hn hr
theorem gc_hi (r : ℕ) (hn : n < 8) (hr : r < 256) :
    gc (hi fun a b => Z (256 * n + a) (3584 + 128 * p + b)) (hi fun a b => Z (256 * n + a) (4096 + 128 * p + b)) (fun a b => Z a (3072 + 128 * p + b)) (fun a b => D a (128 * p + b))
      (fun a => C (2 * p + 1) (256 * n + a)) (fun a => L (2 * p + 1) a) (fun a => E (2 * p + 1) a) (fun a => C (2 * p + 1) a) n r
    = -∑ x ∈ range 2048, Spec.ds Z C D L E (2 * p + 1) x (256 * n + r) := by
  unfold gc dsc Spec.ds
  simp only [wt_hi, gp_hi]
  rw [zero_sub, ← neg_add']
  refine congrArg Neg.neg ?_
  simpa only [mul_one] using column n (fun x => Real.exp (Spec.S Z C (2 * p + 1) x (256 * n + r) - L (2 * p + 1) x)) (fun x => Spec.gp Z D (2 * p + 1) x (256 * n + r) - E (2 * p + 1) x) (fun _ => 1) r hn hr

end Bridge

/-- The key gradient. -/
def dk (x j : ℕ) : ℝ := (∑ i ∈ range 2048, Spec.ds Z C D L E (j / 64) i x * Z i (3072 + j)) * (1 / 8)
/-- The value gradient. -/
def dv (x j : ℕ) : ℝ := ∑ i ∈ range 2048, (if x ≤ i then Real.exp (Spec.S Z C (j / 64) i x - L (j / 64) i) else 0) * D i j
/-- The gradient of the bias at the keys, each head on the lane of its own number. -/
def dck (p x t : ℕ) : ℝ :=
  (if t = 2 * p then -∑ i ∈ range 2048, Spec.ds Z C D L E (2 * p) i x else 0)
    + (if t = 2 * p + 1 then -∑ i ∈ range 2048, Spec.ds Z C D L E (2 * p + 1) i x else 0)

/-- One grid point's key gradient, in whole-array coordinates. -/
theorem val8 (n p r t : ℕ) (hn : n < 8) (hr : r < 256) (ht : t < 128) :
    (if t < 64 then gk (lo fun a b => Z (256 * n + a) (3584 + 128 * p + b)) (lo fun a b => Z (256 * n + a) (4096 + 128 * p + b)) (fun a b => Z a (3072 + 128 * p + b)) (fun a b => D a (128 * p + b))
      (fun a => C (2 * p + 0) (256 * n + a)) (fun a => L (2 * p + 0) a) (fun a => E (2 * p + 0) a) (fun a => C (2 * p + 0) a) n r t
      else gk (hi fun a b => Z (256 * n + a) (3584 + 128 * p + b)) (hi fun a b => Z (256 * n + a) (4096 + 128 * p + b)) (fun a b => Z a (3072 + 128 * p + b)) (fun a b => D a (128 * p + b))
      (fun a => C (2 * p + 1) (256 * n + a)) (fun a => L (2 * p + 1) a) (fun a => E (2 * p + 1) a) (fun a => C (2 * p + 1) a) n r t) * (1 / 8) = dk Z D C L E (n * 256 + r) (p * 128 + t) := by
  simp only [add_zero]
  rw [gk_lo Z D C L E n p r t hn hr, gk_hi Z D C L E n p r t hn hr]
  unfold dk
  rw [show n * 256 + r = 256 * n + r by omega, show 3072 + (p * 128 + t) = 3072 + 128 * p + t by omega]
  split
  · rw [show (p * 128 + t) / 64 = 2 * p by omega]
  · rw [show (p * 128 + t) / 64 = 2 * p + 1 by omega]
/-- One grid point's value gradient. -/
theorem val9 (n p r t : ℕ) (hn : n < 8) (hr : r < 256) (ht : t < 128) :
    (if t < 64 then gv (lo fun a b => Z (256 * n + a) (3584 + 128 * p + b)) (fun a b => Z a (3072 + 128 * p + b)) (fun a b => D a (128 * p + b))
      (fun a => C (2 * p + 0) (256 * n + a)) (fun a => L (2 * p + 0) a) (fun a => C (2 * p + 0) a) n r t
      else gv (hi fun a b => Z (256 * n + a) (3584 + 128 * p + b)) (fun a b => Z a (3072 + 128 * p + b)) (fun a b => D a (128 * p + b))
      (fun a => C (2 * p + 1) (256 * n + a)) (fun a => L (2 * p + 1) a) (fun a => C (2 * p + 1) a) n r t) = dv Z D C L (n * 256 + r) (p * 128 + t) := by
  simp only [add_zero]
  rw [gv_lo Z D C L n p r t hn hr, gv_hi Z D C L n p r t hn hr]
  unfold dv
  rw [show n * 256 + r = 256 * n + r by omega]
  split
  · rw [show (p * 128 + t) / 64 = 2 * p by omega, show p * 128 + t = 128 * p + t by omega]
  · rw [show (p * 128 + t) / 64 = 2 * p + 1 by omega, show p * 128 + t = 128 * p + t by omega]
/-- One grid point's bias gradient. -/
theorem val10 (n p r t : ℕ) (hn : n < 8) (hr : r < 256) :
    (if t = 2 * p then gc (lo fun a b => Z (256 * n + a) (3584 + 128 * p + b)) (lo fun a b => Z (256 * n + a) (4096 + 128 * p + b)) (fun a b => Z a (3072 + 128 * p + b)) (fun a b => D a (128 * p + b))
      (fun a => C (2 * p + 0) (256 * n + a)) (fun a => L (2 * p + 0) a) (fun a => E (2 * p + 0) a) (fun a => C (2 * p + 0) a) n r else 0)
      + (if t = 2 * p + 1 then gc (hi fun a b => Z (256 * n + a) (3584 + 128 * p + b)) (hi fun a b => Z (256 * n + a) (4096 + 128 * p + b)) (fun a b => Z a (3072 + 128 * p + b)) (fun a b => D a (128 * p + b))
      (fun a => C (2 * p + 1) (256 * n + a)) (fun a => L (2 * p + 1) a) (fun a => E (2 * p + 1) a) (fun a => C (2 * p + 1) a) n r else 0) = dck Z D C L E p (n * 256 + r) t := by
  simp only [add_zero]
  rw [gc_lo Z D C L E n p r hn hr, gc_hi Z D C L E n p r hn hr]
  unfold dck
  rw [show n * 256 + r = 256 * n + r by omega]

section Arrays

variable (a0 : V m c (Pipeline.arrRef spec0 0) = (up2 Z : S2048x4608.Idx → EReal))
  (a1 : V m c (Pipeline.arrRef spec0 1) = (up2 Z : S2048x4608.Idx → EReal))
  (a2 : V m c (Pipeline.arrRef spec0 2) = (up2 Z : S2048x4608.Idx → EReal))
  (a3 : V m c (Pipeline.arrRef spec0 3) = (up2 D : S2048x512.Idx → EReal))
  (a4 : V m c (Pipeline.arrRef spec0 4) = (up4 fun h n _ s => L h (256 * n + s) : S8x8x1x256.Idx → EReal))
  (a5 : V m c (Pipeline.arrRef spec0 5) = (up4 fun h n _ s => E h (256 * n + s) : S8x8x1x256.Idx → EReal))
  (a6 : V m c (Pipeline.arrRef spec0 6) = (up3 fun h i _ => C h i : S8x2048x1.Idx → EReal))
  (a7 : V m c (Pipeline.arrRef spec0 7) = (up4 fun h n _ s => C h (256 * n + s) : S8x8x1x256.Idx → EReal))
include a0 a1 a2 a3 a4 a5 a6 a7

theorem arr8 : (dats m 0 c).arrAt 8 cfg0.N = (up2 (dk Z D C L E) : S2048x512.Idx → EReal) := by
  refine (dats m 0 c).arrAt_eq_of_covers 8 _ (by decide +kernel) fun t hf y => ?_
  have hn : (grid0.coords t 1).val < 8 := (grid0.coords t 1).isLt
  have h0 : (y 0).val < 256 := (y 0).isLt
  have h1 : (y 1).val < 128 := (y 1).isLt
  rw [after0_8]
  simp only [outsAt0]
  rw [show iblk m c 0 t = _ from blk0 c t Z _ a0, show iblk m c 1 t = _ from blk1 c t Z _ a1, show iblk m c 2 t = _ from blk2 c t Z _ a2, show iblk m c 3 t = _ from blk3 c t D _ a3, show iblk m c 4 t = _ from blk4 c t L _ a4, show iblk m c 5 t = _ from blk5 c t E _ a5, show iblk m c 6 t = _ from blk6 c t C _ a6, show iblk m c 7 t = _ from blk7 c t C _ a7]
  rw [out8 (l := fun e x => L (2 * (grid0.coords t 0).val + e) x) (de := fun e x => E (2 * (grid0.coords t 0).val + e) x) (cr := fun e x => C (2 * (grid0.coords t 0).val + e) x)]
  unfold up2
  blk_simp [e8]
  exact congrArg (fun z : ℝ => (z : EReal)) (val8 Z D C L E _ _ _ _ hn h0 h1)
theorem arr9 : (dats m 0 c).arrAt 9 cfg0.N = (up2 (dv Z D C L) : S2048x512.Idx → EReal) := by
  refine (dats m 0 c).arrAt_eq_of_covers 9 _ (by decide +kernel) fun t hf y => ?_
  have hn : (grid0.coords t 1).val < 8 := (grid0.coords t 1).isLt
  have h0 : (y 0).val < 256 := (y 0).isLt
  have h1 : (y 1).val < 128 := (y 1).isLt
  rw [after0_9]
  simp only [outsAt0]
  rw [show iblk m c 0 t = _ from blk0 c t Z _ a0, show iblk m c 1 t = _ from blk1 c t Z _ a1, show iblk m c 2 t = _ from blk2 c t Z _ a2, show iblk m c 3 t = _ from blk3 c t D _ a3, show iblk m c 4 t = _ from blk4 c t L _ a4, show iblk m c 5 t = _ from blk5 c t E _ a5, show iblk m c 6 t = _ from blk6 c t C _ a6, show iblk m c 7 t = _ from blk7 c t C _ a7]
  rw [out9 (l := fun e x => L (2 * (grid0.coords t 0).val + e) x) (cr := fun e x => C (2 * (grid0.coords t 0).val + e) x)]
  unfold up2
  blk_simp [e9]
  exact congrArg (fun z : ℝ => (z : EReal)) (val9 Z D C L _ _ _ _ hn h0 h1)
theorem arr10 : (dats m 0 c).arrAt 10 cfg0.N = (up3 (dck Z D C L E) : S4x2048x128.Idx → EReal) := by
  refine (dats m 0 c).arrAt_eq_of_covers 10 _ (by decide +kernel) fun t hf y => ?_
  have hn : (grid0.coords t 1).val < 8 := (grid0.coords t 1).isLt
  have h0 : (y 0).val < 1 := (y 0).isLt
  have h1 : (y 1).val < 256 := (y 1).isLt
  rw [after0_10]
  simp only [outsAt0]
  rw [show iblk m c 0 t = _ from blk0 c t Z _ a0, show iblk m c 1 t = _ from blk1 c t Z _ a1, show iblk m c 2 t = _ from blk2 c t Z _ a2, show iblk m c 3 t = _ from blk3 c t D _ a3, show iblk m c 4 t = _ from blk4 c t L _ a4, show iblk m c 5 t = _ from blk5 c t E _ a5, show iblk m c 6 t = _ from blk6 c t C _ a6, show iblk m c 7 t = _ from blk7 c t C _ a7]
  rw [out10 (l := fun e x => L (2 * (grid0.coords t 0).val + e) x) (de := fun e x => E (2 * (grid0.coords t 0).val + e) x) (cr := fun e x => C (2 * (grid0.coords t 0).val + e) x)]
  unfold up3
  blk_simp [e10]
  exact congrArg (fun z : ℝ => (z : EReal)) (val10 Z D C L E _ _ _ _ hn h1)
end Arrays
end KKV
-- ==== Proof.RefKV.lean ====
/- The vector-Jacobian product of the attention's key and value side, operation by operation, on real inputs. -/
module

public import proofs.«01_k».proof.Proof.Gen.ReferenceKVIdeal.Read
public import proofs.«01_k».proof.Proof.RefQ
public import proofs.«01_k».proof.Proof.KKVA

@[expose] public section

noncomputable section

namespace RefKV

open Cert.ReferenceKVIdeal Cert.ReferenceKVIdeal.Gen Cert.ReferenceKVIdeal.Read Idealize.ShloMosaic Idealize.ShloMosaic.TcCoe Idealize.ShloMosaic.ValueIdx Tile Finset

variable (Z : ℕ → ℕ → ℝ) (C : ℕ → ℕ → ℝ) (D : ℕ → ℕ → ℝ)

/-- The three arguments as real arrays, the weights' exponentials and their sums, and the scores' gradient. -/
abbrev z : S2048x4608.Idx → EReal := up2 Z
abbrev dd : S2048x512.Idx → EReal := up2 D
abbrev cc : S8x2048.Idx → EReal := up2 C
abbrev tp : ℕ → ℕ → ℝ := RefF.top Z C
abbrev T : ℕ → ℕ → ℝ := Spec.T Z C (tp Z C)
abbrev A : ℕ → ℕ → ℕ → ℝ := Spec.A Z C (tp Z C)
abbrev g : ℕ → ℕ → ℕ → ℝ := RefQ.g Z C D

theorem v2 : val_main_v2 (F := Ideal) (z Z) = up3 fun i h d => Z i (3072 + (64 * h + d)) := RefQ.v2 Z
theorem v51 : val_main_v51 (F := Ideal) (z Z) (cc C) = up3 fun h i j => A Z C h i j / T Z C h i := RefQ.v51 Z C
theorem v60 : val_main_v60 (F := Ideal) (dd D) = up3 fun h d i => D i (64 * h + d) := RefQ.v60 D
theorem v76 : val_main_v76 (F := Ideal) (z Z) (dd D) (cc C) = up3 (g Z C D) := RefQ.v76 Z C D

/-- The gradient of the keys. -/
theorem v91 : val_main_v91 (F := Ideal) (z Z) (dd D) (cc C)
    = up2 (KKV.dk Z D C (Spec.lse Z C (tp Z C)) (Spec.dot D (Spec.out Z C (tp Z C)))) := by
  funext i
  have h1 : (i 1).val < 512 := (i 1).isLt
  have e0 : ((i 0).val * 512 + (i 1).val) / 512 = (i 0).val := by omega
  have e1 : ((i 0).val * 512 + (i 1).val) / 64 % 8 = (i 1).val / 64 := by omega
  have e2 : 64 * ((i 1).val / 64) + ((i 0).val * 512 + (i 1).val) % 64 = (i 1).val := by omega
  rw [val_main_v91_apply, val_main_v90_apply, val_main_v87_apply, val_main_v86_apply]
  simp only [val_main_v85_apply, v76, val_main_v84_apply, val_main_cst_17_apply, v2]
  show (∑ k : Fin 2048, ((g Z C D (((i 0).val * 512 + (i 1).val) / 64 % 8) k.val (((i 0).val * 512 + (i 1).val) / 512) : ℝ) : EReal) * Ideal.ofBits .f32 0x3E000000#32
    * ((Z k.val (3072 + (64 * (((i 0).val * 512 + (i 1).val) / 64 % 8) + ((i 0).val * 512 + (i 1).val) % 64)) : ℝ) : EReal)) = _
  rw [e0, e1, e2, ofBits_eighth]
  simp only [← EReal.coe_mul]
  rw [coe_sum_fin 2048 fun k => g Z C D ((i 1).val / 64) k (i 0).val * (1 / 8) * Z k (3072 + (i 1).val)]
  show _ = ((KKV.dk Z D C (Spec.lse Z C (tp Z C)) (Spec.dot D (Spec.out Z C (tp Z C))) (i 0).val (i 1).val : ℝ) : EReal)
  unfold KKV.dk
  rw [sum_mul]
  exact congrArg _ (sum_congr rfl fun x _ => by ring)

/-- The gradient of the values. -/
theorem v93 : val_main_v93 (F := Ideal) (z Z) (dd D) (cc C) = up2 (KKV.dv Z D C (Spec.lse Z C (tp Z C))) := by
  funext i
  have h1 : (i 1).val < 512 := (i 1).isLt
  have e0 : ((i 0).val * 512 + (i 1).val) / 512 = (i 0).val := by omega
  have e1 : ((i 0).val * 512 + (i 1).val) / 64 % 8 = (i 1).val / 64 := by omega
  have e2 : 64 * ((i 1).val / 64) + ((i 0).val * 512 + (i 1).val) % 64 = (i 1).val := by omega
  rw [val_main_v93_apply, val_main_v92_apply, val_main_v63_apply, val_main_v62_apply]
  simp only [v60, v51]
  show (∑ k : Fin 2048, ((D k.val (64 * (((i 0).val * 512 + (i 1).val) / 64 % 8) + ((i 0).val * 512 + (i 1).val) % 64) : ℝ) : EReal)
    * ((A Z C (((i 0).val * 512 + (i 1).val) / 64 % 8) k.val (((i 0).val * 512 + (i 1).val) / 512)
      / T Z C (((i 0).val * 512 + (i 1).val) / 64 % 8) k.val : ℝ) : EReal)) = _
  rw [e0, e1, e2]
  simp only [← EReal.coe_mul]
  rw [coe_sum_fin 2048 fun k => D k (i 1).val * (A Z C ((i 1).val / 64) k (i 0).val / T Z C ((i 1).val / 64) k)]
  show _ = ((KKV.dv Z D C (Spec.lse Z C (tp Z C)) (i 0).val (i 1).val : ℝ) : EReal)
  unfold KKV.dv
  simp only [Spec.weight]
  exact congrArg _ (sum_congr rfl fun x _ => mul_comm _ _)

/-- The column sums of the scores' gradient, negated. -/
theorem v82 : val_main_v82 (F := Ideal) (z Z) (dd D) (cc C) = up2 fun h x => -∑ i ∈ range 2048, g Z C D h i x := by
  funext i
  have h1 : (i 1).val < 2048 := (i 1).isLt
  have e1 : (((i 0).val * 1 + 0) * 2048 + (i 1).val) / 2048 = (i 0).val := by omega
  have e2 : (((i 0).val * 1 + 0) * 2048 + (i 1).val) % 2048 = (i 1).val := by omega
  rw [val_main_v82_apply, val_main_cst_15_apply, Fin.sum_univ_one, val_main_v81_apply, val_main_v80_apply, val_main_cst_14_apply]
  simp only [val_main_v79_apply, v76]
  show Ideal.ofBits .f32 0x00000000#32 + (Ideal.ofBits .f32 0x00000000#32
    + ∑ k : Fin 2048, -((g Z C D ((((i 0).val * 1 + 0) * 2048 + (i 1).val) / 2048) k.val ((((i 0).val * 1 + 0) * 2048 + (i 1).val) % 2048) : ℝ) : EReal)) = _
  rw [e1, e2]
  simp only [← EReal.coe_neg]
  rw [coe_sum_fin 2048 fun k => -g Z C D (i 0).val k (i 1).val, Ideal.ofBits_zero_f32, zero_add, zero_add, sum_neg_distrib]
  rfl

/-- The gradient of the bias at the keys, on lanes. -/
theorem v105 : val_main_v105 (F := Ideal) (z Z) (dd D) (cc C)
    = up3 (KKV.dck Z D C (Spec.lse Z C (tp Z C)) (Spec.dot D (Spec.out Z C (tp Z C)))) := by
  funext i
  have h0 : (i 0).val < 4 := (i 0).isLt
  have h1 : (i 1).val < 2048 := (i 1).isLt
  have h2 : (i 2).val < 128 := (i 2).isLt
  rw [val_main_v105_apply, val_main_cst_19_apply]
  have one (k : Fin 2) : val_main_v104 (F := Ideal) (z Z) (dd D) (cc C) (idx_main_v105 i k)
      = ((if (i 2).val = 2 * (i 0).val + k.val then -∑ x ∈ range 2048, g Z C D (2 * (i 0).val + k.val) x (i 1).val else 0 : ℝ) : EReal) := by
    have hk : k.val < 2 := k.isLt
    have e1 : (((i 0).val * 2 + k.val) * 2048 + (i 1).val) / 2048 = 2 * (i 0).val + k.val := by omega
    have e2 : (((i 0).val * 2 + k.val) * 2048 + (i 1).val) % 2048 = (i 1).val := by omega
    rw [val_main_v104_apply, val_main_call2_v1_apply, val_main_v101_apply, val_main_v99_apply, val_main_v98_apply, val_main_v97_apply,
      val_main_v100_apply, val_main_v96_apply, val_main_v95_apply, val_main_v94_apply, val_main_call2_v2_apply, val_main_v103_apply,
      val_main_v102_apply, v82, val_main_call2_v3_apply, val_main_call2_v0_apply, val_main_cst_18_apply]
    show Scalar.select (IntOp.cmpi .eq (BitVec.ofNat 32 (i 2).val) (BitVec.ofNat 32 ((i 0).val * 2 + k.val)))
      ((-∑ x ∈ range 2048, g Z C D ((((i 0).val * 2 + k.val) * 2048 + (i 1).val) / 2048) x ((((i 0).val * 2 + k.val) * 2048 + (i 1).val) % 2048) : ℝ) : EReal)
      (Ideal.ofBits .f32 0x00000000#32) = _
    rw [e1, e2, RefQ.eq_ofNat _ _ (by omega) (by omega), show (i 0).val * 2 + k.val = 2 * (i 0).val + k.val by omega, Ideal.ofBits_zero_f32]
    by_cases h : (i 2).val = 2 * (i 0).val + k.val
    · rw [if_pos h, decide_eq_true h]; rfl
    · rw [if_neg h, decide_eq_false h]; rfl
  simp only [one]
  rw [Fin.sum_univ_two, ← EReal.coe_add]
  show Ideal.ofBits .f32 0x00000000#32 + _ = _
  rw [Ideal.ofBits_zero_f32, zero_add]
  rfl

end RefKV
-- ==== Proof.HostKV.lean ====
/- What the host hands the key/value backward call: the log sums, the row sums and the bias, in columns and in blocks of rows. -/
module

public import proofs.«01_k».proof.Proof.RefKV

@[expose] public section

noncomputable section

namespace KKV

open Cert.KernelKVIdeal Cert.KernelKVIdeal.Gen Idealize.ShloMosaic Idealize.ShloMosaic.TcCoe Idealize.SL.Sem Tile Finset

variable (m : (ℓ : Loc nD τ sig) → Buf (Elt Ideal) ℓ) (c : Dev nD)

theorem host56 : V m c main_v56 = broadcastInDim S8x2048x1 ![0, 1] bcast_S8x2048_S8x2048x1_0_1 (m ((c : Thread nD τ).loc main_arg2)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
theorem host59 : V m c main_v59 = shapeCast S8x8x1x256 (broadcastInDim S8x2048x1 ![0, 1] bcast_S8x2048_S8x2048x1_0_1 (m ((c : Thread nD τ).loc main_arg2))) shapeCasts_S8x2048x1_S8x8x1x256 := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl
theorem host57 : V m c main_v57 = shapeCast S8x8x1x256 (Cert.ReferenceFIdeal.Read.val_main_v35 (F := Ideal) (m ((c : Thread nD τ).loc main_arg0)) (m ((c : Thread nD τ).loc main_arg2))) shapeCasts_S8x2048x1_S8x8x1x256 := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl
theorem host58 : V m c main_v58 = shapeCast S8x8x1x256 (Cert.ReferenceQIdeal.Read.val_main_v97 (F := Ideal) (m ((c : Thread nD τ).loc main_arg0)) (m ((c : Thread nD τ).loc main_arg1)) (m ((c : Thread nD τ).loc main_arg2))) shapeCasts_S8x2048x1_S8x8x1x256 := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end KKV
-- ==== Proof.AlgKV.lean ====
/- The key/value backward call computes the vector-Jacobian product its reference states. -/
module

public import proofs.«01_k».proof.Proof.HostKV
public import proofs.«01_k».proof.Proof.AlgQ
public import proofs.«01_k».proof.Proof.Finite
public import proofs.«01_k».proof.Defs
public import proofs.«01_k».proof.Proof.Gen.KernelKVIdeal.Value
public import proofs.«01_k».proof.Proof.Gen.ReferenceKVIdeal.Run

@[expose] public section

noncomputable section

namespace KKV

open Cert.KernelKVIdeal Cert.KernelKVIdeal.Gen Idealize.ShloMosaic Idealize.ShloMosaic.TcCoe Idealize.ShloMosaic.ValueIdx Idealize.SL.Sem Tile Finset

/-- The call's three results, on arguments that are real. -/
theorem results (m : (ℓ : Loc nD τ sig) → Buf (Elt Ideal) ℓ) (c : Dev nD) (Z D C : ℕ → ℕ → ℝ)
    (h0 : m ((c : Thread nD τ).loc main_arg0) = (up2 Z : S2048x4608.Idx → EReal))
    (h1 : m ((c : Thread nD τ).loc main_arg1) = (up2 D : S2048x512.Idx → EReal))
    (h2 : m ((c : Thread nD τ).loc main_arg2) = (up2 C : S8x2048.Idx → EReal)) :
    (dats m 0 c).arrAt 8 cfg0.N = (up2 (dk Z D C (Spec.lse Z C (RefF.top Z C)) (Spec.dot D (Spec.out Z C (RefF.top Z C)))) : S2048x512.Idx → EReal)
    ∧ (dats m 0 c).arrAt 9 cfg0.N = (up2 (dv Z D C (Spec.lse Z C (RefF.top Z C))) : S2048x512.Idx → EReal)
    ∧ (dats m 0 c).arrAt 10 cfg0.N = (up3 (dck Z D C (Spec.lse Z C (RefF.top Z C)) (Spec.dot D (Spec.out Z C (RefF.top Z C)))) : S4x2048x128.Idx → EReal) := by
  have a0 : V m c main_arg0 = (up2 Z : S2048x4608.Idx → EReal) := (V_main_arg0 m c).trans h0
  have a3 : V m c main_arg1 = (up2 D : S2048x512.Idx → EReal) := (V_main_arg1 m c).trans h1
  have a4 : V m c main_v57 = (up4 (fun h n _ s => (Spec.lse Z C (RefF.top Z C)) h (256 * n + s)) : S8x8x1x256.Idx → EReal) := by
    rw [host57, h0, h2, show Cert.ReferenceFIdeal.Read.val_main_v35 (F := Ideal) (up2 Z) (up2 C) = _ from RefF.v35 Z C]; exact KQ.blocks (Spec.lse Z C (RefF.top Z C))
  have a5 : V m c main_v58 = (up4 (fun h n _ s => (Spec.dot D (Spec.out Z C (RefF.top Z C))) h (256 * n + s)) : S8x8x1x256.Idx → EReal) := by
    rw [host58, h0, h1, h2, show Cert.ReferenceQIdeal.Read.val_main_v97 (F := Ideal) (up2 Z) (up2 D) (up2 C) = _ from RefQ.v97 Z C D]; exact KQ.blocks (Spec.dot D (Spec.out Z C (RefF.top Z C)))
  have a6 : V m c main_v56 = (up3 (fun h i _ => C h i) : S8x2048x1.Idx → EReal) := by
    rw [host56, h2]; exact KQ.col C
  have a7 : V m c main_v59 = (up4 (fun h n _ s => C h (256 * n + s)) : S8x8x1x256.Idx → EReal) := by
    rw [host59, h2, show broadcastInDim S8x2048x1 ![0, 1] bcast_S8x2048_S8x2048x1_0_1 (up2 C : S8x2048.Idx → EReal) = _ from KQ.col C]; exact KQ.blocks C
  exact ⟨arr8 m c Z D C _ _ a0 a0 a0 a3 a4 a5 a6 a7, arr9 m c Z D C _ _ a0 a0 a0 a3 a4 a5 a6 a7, arr10 m c Z D C _ _ a0 a0 a0 a3 a4 a5 a6 a7⟩

/-- Both programs, from the same real arguments, end with the same three results. -/
theorem algebraic : Cert.algebraic_KernelKVIdeal_ReferenceKVIdeal_pre_finite := by
  intro m g m' g' hp he
  have real (c : Dev nD) := Finite.three _ _ _ (hp c)
  choose hZ hD hC using real
  choose Z hZ using hZ
  choose D hD using hD
  choose C hC using hC
  refine ⟨fun c => (dats m 0 c).arrAt 8 cfg0.N, fun c => (dats m 0 c).arrAt 9 cfg0.N, fun c => (dats m 0 c).arrAt 10 cfg0.N,
    Cert.KernelKVIdeal.Value.run_blocks m g, ?_⟩
  refine (θ_run Cert.ReferenceKVIdeal.defs _ _).mono (fun r h c => ?_) (Cert.ReferenceKVIdeal.Value.run (F := Ideal) m' g')
  obtain ⟨r0, r1, r2, k⟩ := h c
  obtain ⟨e0, e1, e2⟩ := he c
  obtain ⟨w0, w1, w2⟩ := results m c (Z c) (D c) (C c) (hZ c) (hD c) (hC c)
  refine ⟨?_, ?_, ?_, k⟩
  · rw [r0, Cert.ReferenceKVIdeal.Read.val_main_v91_eq, e0, e1, e2]
    refine Eq.trans ?_ w0.symm
    rw [hZ c, hD c, hC c]
    exact RefKV.v91 (Z c) (C c) (D c)
  · rw [r1, Cert.ReferenceKVIdeal.Read.val_main_v93_eq, e0, e1, e2]
    refine Eq.trans ?_ w1.symm
    rw [hZ c, hD c, hC c]
    exact RefKV.v93 (Z c) (C c) (D c)
  · rw [r2, Cert.ReferenceKVIdeal.Read.val_main_v105_eq, e0, e1, e2]
    refine Eq.trans ?_ w2.symm
    rw [hZ c, hD c, hC c]
    exact RefKV.v105 (Z c) (C c) (D c)

end KKV
-- ==== Proof.Product.lean ====
/- Products of extended-real tiles.

   `ar2`, `ar3` turn an extended-real function of natural-number coordinates into an ideal vector of rank 2 or 3. Every
   vector is one of these, so nothing is assumed of its entries.  The three matrix products of the step — rows by
   columns, rows by rows, columns by columns — carry such vectors to such vectors. -/
module

public import Idealize.ShloMosaic.Lib.MatmulPlain
public import Idealize.ShloMosaic.Lib.Pipeline.Value
public import Idealize.ShloMosaic.PureOps.Ideal.Laws
public import Idealize.ShloMosaic.Lib.ValueIdx

@[expose] public section

noncomputable section

namespace Product

open Idealize.ShloMosaic Idealize.ShloMosaic.ValueIdx

/-- An extended-real function of two coordinates as an ideal vector. -/
def ar2 {a b : ℕ} (f : ℕ → ℕ → EReal) : (⟨2, ![a, b]⟩ : Shape).Idx → EReal := fun i => f (i 0).val (i 1).val
/-- An extended-real function of three coordinates as an ideal vector. -/
def ar3 {a b c : ℕ} (f : ℕ → ℕ → ℕ → EReal) : (⟨3, ![a, b, c]⟩ : Shape).Idx → EReal :=
  fun i => f (i 0).val (i 1).val (i 2).val

variable {a b c : ℕ} {φ : FTy}

/-- Every vector of rank two is a function of its two coordinates. -/
theorem exists_ar2 (X : (⟨2, ![a, b]⟩ : Shape).Idx → EReal) : ∃ f, X = ar2 f :=
  ⟨fun i j => if h : i < a ∧ j < b then X (ix2 ⟨i, h.1⟩ ⟨j, h.2⟩) else 0, funext fun i => by
    have h : (i 0).val < a ∧ (i 1).val < b := ⟨(i 0).isLt, (i 1).isLt⟩
    refine Eq.trans ?_ (dif_pos h).symm
    refine congrArg X (funext fun k => Fin.ext ?_)
    match k with
    | ⟨0, _⟩ => rfl
    | ⟨1, _⟩ => rfl⟩
/-- Every vector of rank three is a function of its three coordinates. -/
theorem exists_ar3 (X : (⟨3, ![a, b, c]⟩ : Shape).Idx → EReal) : ∃ f, X = ar3 f :=
  ⟨fun i j k => if h : i < a ∧ j < b ∧ k < c then X (ix3 ⟨i, h.1⟩ ⟨j, h.2.1⟩ ⟨k, h.2.2⟩) else 0, funext fun i => by
    have h : (i 0).val < a ∧ (i 1).val < b ∧ (i 2).val < c := ⟨(i 0).isLt, (i 1).isLt, (i 2).isLt⟩
    refine Eq.trans ?_ (dif_pos h).symm
    refine congrArg X (funext fun k => Fin.ext ?_)
    match k with
    | ⟨0, _⟩ => rfl
    | ⟨1, _⟩ => rfl
    | ⟨2, _⟩ => rfl⟩

/-- Two functions equal at the coordinates of the shape give one vector. -/
theorem ar2_congr {f g : ℕ → ℕ → EReal} (h : ∀ i < a, ∀ j < b, f i j = g i j) : (ar2 f : (⟨2, ![a, b]⟩ : Shape).Idx → EReal) = ar2 g :=
  funext fun i => h _ (i 0).isLt _ (i 1).isLt

theorem addf_ar2 (f g : ℕ → ℕ → EReal) :
    addf (F := Ideal) (s := ⟨2, ![a, b]⟩) (φ := φ) (ar2 f) (ar2 g) = ar2 fun i j => f i j + g i j := rfl
theorem truncf_ar2 {ψ : FTy} (f : ℕ → ℕ → EReal) (h : ψ.bits < φ.bits) :
    truncf (F := Ideal) (s := ⟨2, ![a, b]⟩) (φ := φ) ψ (ar2 f) h = ar2 f := rfl

/-- The tile of zeros. -/
theorem zero_ar2 : (constant (F := Ideal) ⟨2, ![a, b]⟩ .f32 0x00000000#32 : FVec Ideal ⟨2, ![a, b]⟩ .f32) = ar2 fun _ _ => 0 :=
  funext fun _ => Ideal.ofBits_zero_f32
theorem zero_broadcast : (broadcast ⟨2, ![a, b]⟩ (Scalar.ofBits .f32 0x00000000#32 : Ideal .f32) : FVec Ideal ⟨2, ![a, b]⟩ .f32) = ar2 fun _ _ => 0 :=
  funext fun _ => Ideal.ofBits_zero_f32

/-- A leading axis of extent one dropped. -/
theorem drop_ar3 (f : ℕ → ℕ → ℕ → EReal) (h : Shape.ShapeCasts ⟨3, ![1, a, b]⟩ ⟨2, ![a, b]⟩) :
    shapeCast ⟨2, ![a, b]⟩ (ar3 f) h = ar2 (f 0) :=
  funext fun i => by
    refine (shapeCast_apply (ar3 f) h i (ix3 0 (i 0) (i 1)) ?_).trans rfl
    rw [Shape.rowMajor_val_three, Shape.rowMajor_val_two]
    show (0 * a + (i 0).val) * b + (i 1).val = _
    rw [zero_mul, zero_add]; rfl
/-- A leading axis of extent one added. -/
theorem add_ar2 (f : ℕ → ℕ → EReal) (h : Shape.ShapeCasts ⟨2, ![a, b]⟩ ⟨3, ![1, a, b]⟩) :
    shapeCast ⟨3, ![1, a, b]⟩ (ar2 f) h = ar3 fun _ i j => f i j :=
  funext fun i => by
    refine (shapeCast_apply (ar2 f) h i (ix2 (i 1) (i 2)) ?_).trans rfl
    have h0 : (i 0).val = 0 := Nat.lt_one_iff.mp (i 0).isLt
    rw [Shape.rowMajor_val_three, Shape.rowMajor_val_two]
    show (i 1).val * b + (i 2).val = ((i 0).val * a + (i 1).val) * b + (i 2).val
    rw [h0, zero_mul, zero_add]

/-- The dimension numbers of a product of columns with columns. -/
def cols (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, List.cons_ne_nil _ _, rfl, fun _ h => absurd h List.not_mem_nil, List.pairwise_singleton _ _, List.pairwise_singleton _ _,
    List.Perm.swap 0 1 [], List.Perm.swap 0 1 [], rfl, Nat.zero_lt_two, fun x => match x with | ⟨0, _⟩ => rfl | ⟨1, _⟩ => rfl⟩

/-- Its contraction index has one coordinate, -/
theorem cols_rank (M K N : ℕ) : (cols M K N).contr.rank = 1 := rfl
/-- which runs over the contracted positions. -/
theorem cols_size (M K N : ℕ) : (cols M K N).contr.size ⟨0, by rw [cols_rank]; exact Nat.one_pos⟩ = K := rfl

/-- Columns by columns into an accumulator. -/
theorem matmul_tn {M K N : ℕ} {φ₁ φ₂ : FTy} (prec : Option ContractPrecision) (f g h : ℕ → ℕ → EReal) :
    FloatOps.matmul (F := Ideal) (φ₁ := φ₁) (φ₂ := φ₂) (cols M K N) prec (ar2 f) (ar2 g) (ar2 h)
      = ar2 fun i j => h i j + ∑ k ∈ Finset.range K, f k i * g k j :=
  funext fun i => by
    rw [Ideal.matmul_apply, ← Equiv.sum_comp (contrEquiv1 (cols M K N) K (cols_rank M K N) (cols_size M K N)).symm]
    show _ = h (i 0).val (i 1).val + ∑ k ∈ Finset.range K, f k (i 0).val * g k (i 1).val
    rw [Finset.sum_range]
    refine congrArg _ (Finset.sum_congr rfl fun k _ => ?_)
    have hk := contrEquiv1_symm_val (cols M K N) K (cols_rank M K N) (cols_size M K N) k
    exact congrArg₂ (· * ·) (congrArg₂ f hk rfl) (congrArg₂ g hk rfl)
/-- Rows by rows into an accumulator. -/
theorem matmul_nt {M K N : ℕ} {φ₁ φ₂ : FTy} (prec : Option ContractPrecision) (f g h : ℕ → ℕ → EReal) :
    FloatOps.matmul (F := Ideal) (φ₁ := φ₁) (φ₂ := φ₂) (DotDims.transposedRhs M K N) prec (ar2 f) (ar2 g) (ar2 h)
      = ar2 fun i j => h i j + ∑ k ∈ Finset.range K, f i k * g j k :=
  funext fun i => by
    rw [Ideal.matmul_apply, ← Equiv.sum_comp (DotDims.transposedRhsContr M K N).symm]
    show _ = h (i 0).val (i 1).val + ∑ k ∈ Finset.range K, f (i 0).val k * g (i 1).val k
    rw [Finset.sum_range]
    refine congrArg _ (Finset.sum_congr rfl fun k _ => ?_)
    have hk := contrEquiv1_symm_val _ K (DotDims.transposedRhs_contr_rank M K N) (DotDims.transposedRhs_contr_size M K N) k
    exact congrArg₂ (· * ·) (congrArg₂ f rfl hk) (congrArg₂ g rfl hk)
/-- Rows by columns into an accumulator. -/
theorem matmul_nn {M K N : ℕ} {φ₁ φ₂ : FTy} (prec : Option ContractPrecision) (f g h : ℕ → ℕ → EReal) :
    FloatOps.matmul (F := Ideal) (φ₁ := φ₁) (φ₂ := φ₂) (DotDims.plain M K N) prec (ar2 f) (ar2 g) (ar2 h)
      = ar2 fun i j => h i j + ∑ k ∈ Finset.range K, f i k * g k j :=
  funext fun i => by
    rw [Ideal.matmul_apply, ← Equiv.sum_comp (DotDims.plainContr M K N).symm]
    show _ = h (i 0).val (i 1).val + ∑ k ∈ Finset.range K, f (i 0).val k * g k (i 1).val
    rw [Finset.sum_range]
    refine congrArg _ (Finset.sum_congr rfl fun k _ => ?_)
    have hk := contrEquiv1_symm_val _ K (DotDims.plain_contr_rank M K N) (DotDims.plain_contr_size M K N) k
    exact congrArg₂ (· * ·) (congrArg₂ f rfl hk) (congrArg₂ g hk rfl)

/-- Sums with equal terms. -/
theorem sum_eq {n : ℕ} {F G : ℕ → EReal} (h : ∀ r < n, F r = G r) : (∑ r ∈ Finset.range n, F r) = ∑ r ∈ Finset.range n, G r :=
  Finset.sum_congr rfl fun r hr => h r (Finset.mem_range.mp hr)

/-- The same over a finite index type. -/
theorem sum_fin_eq {n : ℕ} {F G : Fin n → EReal} (h : ∀ s, F s = G s) : ∑ s, F s = ∑ s, G s :=
  Finset.sum_congr rfl fun s _ => h s

/-- A sum over `J` consecutive runs of `L` is the sum over all `J * L`. -/
theorem sum_runs (J L : ℕ) (f : ℕ → EReal) :
    ∑ s ∈ Finset.range J, ∑ k ∈ Finset.range L, f (L * s + k) = ∑ k ∈ Finset.range (J * L), f k := by
  induction J with
  | zero => simp
  | succ J ih => rw [Finset.sum_range_succ, ih, Nat.succ_mul, Finset.sum_range_add, Nat.mul_comm L J]

end Product

end
-- ==== Proof.KWin.lean ====
/- The gradient of the feed-forward block's input weight: the product of the columns of the input rows with the columns of the output gradient.

   Each grid point forms one tile of the product over all the rows and writes it into its chip's block. -/
module

public import proofs.«01_k».proof.Proof.Product
public import proofs.«01_k».proof.Proof.Gen.KernelWinIdeal.Value
public import proofs.«01_k».proof.Proof.Gen.ReferenceWinIdeal.Run
public import proofs.«01_k».proof.Proof.Gen.ReferenceWinIdeal.Read
public import proofs.«01_k».proof.Defs
public import Idealize.ShloMosaic.Lib.Pipeline.ValueKit.Geometry

@[expose] public section

noncomputable section

namespace KWin

open Cert.KernelWinIdeal Cert.KernelWinIdeal.Gen Idealize.ShloMosaic Idealize.ShloMosaic.TcCoe Idealize.SL.Sem Product Finset

theorem e0 : ∀ t : Fin cfg0.N, win0_0.index t = ![0, (grid0.coords t 0).val] :=
  (by decide +kernel : ∀ t : Fin grid0.N, _)
theorem e1 : ∀ t : Fin cfg0.N, win0_1.index t = ![0, (grid0.coords t 1).val] :=
  (by decide +kernel : ∀ t : Fin grid0.N, _)
theorem e2 : ∀ t : Fin cfg0.N, win0_2.index t = ![(grid0.coords t 1).val, (grid0.coords t 0).val, 0] :=
  (by decide +kernel : ∀ t : Fin grid0.N, _)

/-- The printed dimension numbers are those of a product of columns with columns. -/
theorem dims : (dot_S2048x512_S2048x1408_S512x1408_0_0_1_1_n_n : DotDims S2048x512 S2048x1408 S512x1408) = cols 512 2048 1408 := rfl

variable (m : (ℓ : Loc nD τ sig) → Buf (Elt Ideal) ℓ) (c : Dev nD) (t : Fin cfg0.N) (f g : ℕ → ℕ → EReal)

/-- The input's columns at a grid point. -/
theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 fun a b => f a (512 * (grid0.coords t 0).val + b) : S2048x512.Idx → EReal) := by
  subst h
  funext y
  unfold ar2
  blk_simp [e0]
  congr 1 <;> omega
/-- The output gradient's columns at a grid point. -/
theorem blk1 (X : Buf (Elt Ideal) ((c : Thread nD τ).loc (Pipeline.arrRef spec0 1))) (h : X = (ar2 g : S2048x5632.Idx → EReal)) :
    (((cfg0.win 1).blk t).view.read (Elt Ideal) X : ((cfg0.win 1).xblock (cfg0.grid.coords t)).Idx → Elt Ideal (cfg0.win 1).elt)
      = (ar2 fun a b => g a (1408 * (grid0.coords t 1).val + b) : S2048x1408.Idx → EReal) := by
  subst h
  funext y
  unfold ar2
  blk_simp [e1]
  congr 1 <;> omega

/-- What the body leaves in the output block. -/
theorem tile : out0_2 (F := Ideal) (ar2 f) (ar2 g) = (ar3 fun _ i j => ∑ r ∈ range 2048, f r i * g r j : S1x512x1408.Idx → EReal) := by
  unfold out0_2
  refine (View.canon_unit_zero (by decide) _ _).trans ?_
  rw [View.ld_unit_zero (S := S2048x512) (by decide), View.ld_unit_zero (S := S2048x1408) (by decide)]
  unfold k0_pay1
  dsimp only
  simp only [zero_ar2, dims, matmul_tn, truncf_ar2, add_ar2, zero_add]

/-- The result array: every entry the sum over the rows. -/
theorem array (a0 : V m c main_arg0 = (ar2 f : S2048x1024.Idx → EReal)) (a1 : V m c main_arg1 = (ar2 g : S2048x5632.Idx → EReal)) :
    (dats m 0 c).arrAt 2 cfg0.N = (ar3 fun p i j => ∑ r ∈ range 2048, f r i * g r (1408 * p + j) : S4x1024x1408.Idx → EReal) := by
  refine (dats m 0 c).arrAt_eq_of_covers 2 _ (by decide +kernel) fun t hf y => ?_
  have h0 : (y 0).val < 1 := (y 0).isLt
  have hn : (grid0.coords t 1).val < 4 := (grid0.coords t 1).isLt
  rw [after0_2]
  rw [show iblk m c 0 t = _ from blk0 c t f _ a0, show iblk m c 1 t = _ from blk1 c t g _ a1, tile]
  unfold ar3
  blk_simp [e2]
  refine sum_eq fun r _ => ?_
  refine congrArg₂ (· * ·) (congrArg (f r) (?_ : 512 * (grid0.coords t 0).val + (y 1).val = _))
    (congrArg (g r) (?_ : 1408 * (grid0.coords t 1).val + (y 2).val = _)) <;> omega

/-- The reference's result in the same form. -/
theorem reference : Cert.ReferenceWinIdeal.Read.val_main_v8 (F := Ideal) (ar2 f) (ar2 g)
    = (ar3 fun p i j => ∑ r ∈ range 2048, f r i * g r (1408 * p + j) : S4x1024x1408.Idx → EReal) := by
  funext i
  have h0 : (i 0).val < 4 := (i 0).isLt
  have h1 : (i 1).val < 1024 := (i 1).isLt
  have h2 : (i 2).val < 1408 := (i 2).isLt
  rw [Cert.ReferenceWinIdeal.Read.val_main_v8_apply, Cert.ReferenceWinIdeal.Read.val_main_v7_apply,
    Cert.ReferenceWinIdeal.Read.val_main_v6_apply, Cert.ReferenceWinIdeal.Read.val_main_v5_apply, Cert.ReferenceWinIdeal.Read.val_main_v4_apply]
  show _ = ∑ r ∈ range 2048, f r (i 1).val * g r (1408 * (i 0).val + (i 2).val)
  rw [sum_range]
  refine sum_congr rfl fun r _ => ?_
  refine (mul_comm _ _).trans (congrArg₂ (· * ·) ?_ ?_)
  · refine congrArg (f r.val) (?_ : (((i 1).val * 4 + (i 0).val) * 1408 + (i 2).val) / 5632 = (i 1).val)
    omega
  · refine congrArg (g r.val) (?_ : (((i 1).val * 4 + (i 0).val) * 1408 + (i 2).val) % 5632 = 1408 * (i 0).val + (i 2).val)
    omega

/-- Both programs, from the same arguments, end with the same result. -/
theorem algebraic : Cert.algebraic_KernelWinIdeal_ReferenceWinIdeal := by
  intro m g m' g' _ he
  refine ⟨fun c => (dats m 0 c).arrAt 2 cfg0.N, Cert.KernelWinIdeal.Value.run_blocks m g, ?_⟩
  refine (θ_run Cert.ReferenceWinIdeal.defs _ _).mono (fun r h c => ?_) (Cert.ReferenceWinIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar2 (a := 2048) (b := 5632) (m ((c : Thread nD τ).loc main_arg1))
  rw [r0, Cert.ReferenceWinIdeal.Read.val_main_v8_eq, e0, e1]
  refine Eq.trans ?_ (array m c x y ((V_main_arg0 m c).trans hx) ((V_main_arg1 m c).trans hy)).symm
  rw [hx, hy]
  exact reference x y

end KWin

end
-- ==== Proof.KWout.lean ====
/- The gradient of the feed-forward block's output weight: the product of the columns of the input rows with the columns of the output gradient.

   Each grid point forms one tile of the product over all the rows and writes it into its chip's block. -/
module

public import proofs.«01_k».proof.Proof.Product
public import proofs.«01_k».proof.Proof.Gen.KernelWoutIdeal.Value
public import proofs.«01_k».proof.Proof.Gen.ReferenceWoutIdeal.Run
public import proofs.«01_k».proof.Proof.Gen.ReferenceWoutIdeal.Read
public import proofs.«01_k».proof.Defs
public import Idealize.ShloMosaic.Lib.Pipeline.ValueKit.Geometry

@[expose] public section

noncomputable section

namespace KWout

open Cert.KernelWoutIdeal Cert.KernelWoutIdeal.Gen Idealize.ShloMosaic Idealize.ShloMosaic.TcCoe Idealize.SL.Sem Product Finset

theorem e0 : ∀ t : Fin cfg0.N, win0_0.index t = ![0, (grid0.coords t 0).val] :=
  (by decide +kernel : ∀ t : Fin grid0.N, _)
theorem e1 : ∀ t : Fin cfg0.N, win0_1.index t = ![0, (grid0.coords t 1).val] :=
  (by decide +kernel : ∀ t : Fin grid0.N, _)
theorem e2 : ∀ t : Fin cfg0.N, win0_2.index t = ![(grid0.coords t 1).val, (grid0.coords t 0).val, 0] :=
  (by decide +kernel : ∀ t : Fin grid0.N, _)

/-- The printed dimension numbers are those of a product of columns with columns. -/
theorem dims : (dot_S2048x256_S2048x1024_S256x1024_0_0_1_1_n_n : DotDims S2048x256 S2048x1024 S256x1024) = cols 256 2048 1024 := rfl

variable (m : (ℓ : Loc nD τ sig) → Buf (Elt Ideal) ℓ) (c : Dev nD) (t : Fin cfg0.N) (f g : ℕ → ℕ → EReal)

/-- The input's columns at a grid point. -/
theorem blk0 (X : Buf (Elt Ideal) ((c : Thread nD τ).loc (Pipeline.arrRef spec0 0))) (h : X = (ar2 f : S2048x2816.Idx → EReal)) :
    (((cfg0.win 0).blk t).view.read (Elt Ideal) X : ((cfg0.win 0).xblock (cfg0.grid.coords t)).Idx → Elt Ideal (cfg0.win 0).elt)
      = (ar2 fun a b => f a (256 * (grid0.coords t 0).val + b) : S2048x256.Idx → EReal) := by
  subst h
  funext y
  unfold ar2
  blk_simp [e0]
  congr 1 <;> omega
/-- The output gradient's columns at a grid point. -/
theorem blk1 (X : Buf (Elt Ideal) ((c : Thread nD τ).loc (Pipeline.arrRef spec0 1))) (h : X = (ar2 g : S2048x1024.Idx → EReal)) :
    (((cfg0.win 1).blk t).view.read (Elt Ideal) X : ((cfg0.win 1).xblock (cfg0.grid.coords t)).Idx → Elt Ideal (cfg0.win 1).elt)
      = (ar2 fun a b => g a (1024 * (grid0.coords t 1).val + b) : S2048x1024.Idx → EReal) := by
  subst h
  funext y
  unfold ar2
  blk_simp [e1]
  congr 1 <;> omega

/-- What the body leaves in the output block. -/
theorem tile : out0_2 (F := Ideal) (ar2 f) (ar2 g) = (ar3 fun _ i j => ∑ r ∈ range 2048, f r i * g r j : S1x256x1024.Idx → EReal) := by
  unfold out0_2
  refine (View.canon_unit_zero (by decide) _ _).trans ?_
  rw [View.ld_unit_zero (S := S2048x256) (by decide), View.ld_unit_zero (S := S2048x1024) (by decide)]
  unfold k0_pay1
  dsimp only
  simp only [zero_ar2, dims, matmul_tn, truncf_ar2, add_ar2, zero_add]

/-- The result array: every entry the sum over the rows. -/
theorem array (a0 : V m c main_arg0 = (ar2 f : S2048x2816.Idx → EReal)) (a1 : V m c main_arg1 = (ar2 g : S2048x1024.Idx → EReal)) :
    (dats m 0 c).arrAt 2 cfg0.N = (ar3 fun p i j => ∑ r ∈ range 2048, f r i * g r (1024 * p + j) : S1x2816x1024.Idx → EReal) := by
  refine (dats m 0 c).arrAt_eq_of_covers 2 _ (by decide +kernel) fun t hf y => ?_
  have h0 : (y 0).val < 1 := (y 0).isLt
  have hn : (grid0.coords t 1).val < 1 := (grid0.coords t 1).isLt
  rw [after0_2]
  rw [show iblk m c 0 t = _ from blk0 c t f _ a0, show iblk m c 1 t = _ from blk1 c t g _ a1, tile]
  unfold ar3
  blk_simp [e2]
  refine sum_eq fun r _ => ?_
  refine congrArg₂ (· * ·) (congrArg (f r) (?_ : 256 * (grid0.coords t 0).val + (y 1).val = _))
    (congrArg (g r) (?_ : 1024 * 0 + (y 2).val = _)) <;> omega

/-- The reference's result in the same form. -/
theorem reference : Cert.ReferenceWoutIdeal.Read.val_main_v8 (F := Ideal) (ar2 f) (ar2 g)
    = (ar3 fun p i j => ∑ r ∈ range 2048, f r i * g r (1024 * p + j) : S1x2816x1024.Idx → EReal) := by
  funext i
  have h0 : (i 0).val < 1 := (i 0).isLt
  have h1 : (i 1).val < 2816 := (i 1).isLt
  have h2 : (i 2).val < 1024 := (i 2).isLt
  rw [Cert.ReferenceWoutIdeal.Read.val_main_v8_apply, Cert.ReferenceWoutIdeal.Read.val_main_v7_apply,
    Cert.ReferenceWoutIdeal.Read.val_main_v6_apply, Cert.ReferenceWoutIdeal.Read.val_main_v5_apply, Cert.ReferenceWoutIdeal.Read.val_main_v4_apply]
  show _ = ∑ r ∈ range 2048, f r (i 1).val * g r (1024 * (i 0).val + (i 2).val)
  rw [sum_range]
  refine sum_congr rfl fun r _ => ?_
  refine (mul_comm _ _).trans (congrArg₂ (· * ·) ?_ ?_)
  · refine congrArg (f r.val) (?_ : (((i 1).val * 1 + (i 0).val) * 1024 + (i 2).val) / 1024 = (i 1).val)
    omega
  · refine congrArg (g r.val) (?_ : (((i 1).val * 1 + (i 0).val) * 1024 + (i 2).val) % 1024 = 1024 * (i 0).val + (i 2).val)
    omega

/-- Both programs, from the same arguments, end with the same result. -/
theorem algebraic : Cert.algebraic_KernelWoutIdeal_ReferenceWoutIdeal := by
  intro m g m' g' _ he
  refine ⟨fun c => (dats m 0 c).arrAt 2 cfg0.N, Cert.KernelWoutIdeal.Value.run_blocks m g, ?_⟩
  refine (θ_run Cert.ReferenceWoutIdeal.defs _ _).mono (fun r h c => ?_) (Cert.ReferenceWoutIdeal.Value.run (F := Ideal) m' g')
  obtain ⟨r0, k⟩ := h c
  obtain ⟨e0, e1⟩ := he c
  refine ⟨?_, k⟩
  obtain ⟨x, hx⟩ := exists_ar2 (a := 2048) (b := 2816) (m ((c : Thread nD τ).loc main_arg0))
  obtain ⟨y, hy⟩ := exists_ar2 (a := 2048) (b := 1024) (m ((c : Thread nD τ).loc main_arg1))
  rw [r0, Cert.ReferenceWoutIdeal.Read.val_main_v8_eq, e0, e1]
  refine Eq.trans ?_ (array m c x y ((V_main_arg0 m c).trans hx) ((V_main_arg1 m c).trans hy)).symm
  rw [hx, hy]
  exact reference x y

end KWout

end
-- ==== Proof.KDout.lean ====
/- The gradient of the feed-forward block's hidden activation: the product of the rows of the output gradient with the rows of the weight.

   The reduction runs over the blocks of the weight's columns, chip by chip. -/
module

public import proofs.«01_k».proof.Proof.Product
public import proofs.«01_k».proof.Proof.Gen.KernelDoutIdeal.Value
public import proofs.«01_k».proof.Proof.Gen.ReferenceDoutIdeal.Run
public import proofs.«01_k».proof.Proof.Gen.ReferenceDoutIdeal.Read
public import proofs.«01_k».proof.Defs
public import Idealize.ShloMosaic.Lib.Pipeline.ValueKit.Geometry
public import Idealize.ShloMosaic.Lib.Pipeline.ValueKit.Acc

@[expose] public section

noncomputable section

namespace KDout

open Cert.KernelDoutIdeal Cert.KernelDoutIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, t.val / 4, 0] :=
  (by decide +kernel : ∀ t : Fin grid0.N, _)
theorem e2 : ∀ t : Fin cfg0.N, win0_2.index t = ![t.val % 4, t.val / 4] :=
  (by decide +kernel : ∀ t : Fin grid0.N, _)

/-- The printed dimension numbers are those of a product of rows with rows. -/
theorem dims : (dot_S512x1024_S1408x1024_S512x1408_1_1_0_0_n_n : DotDims S512x1024 S1408x1024 S512x1408) = DotDims.transposedRhs 512 1024 1408 := rfl

variable (m : (ℓ : Loc nD τ sig) → Buf (Elt Ideal) ℓ) (c : Dev nD) (t : Fin cfg0.N) (f : ℕ → ℕ → EReal) (w : ℕ → ℕ → ℕ → EReal)

/-- The output gradient's block at a grid point. -/
def bf : ℕ → ℕ → EReal := fun a b => f (512 * (t.val % 4) + a) (1024 * (0) + b)
/-- The weight's block at a grid point. -/
def bw : ℕ → ℕ → ℕ → EReal := fun z a b => w (0 + z) (1408 * (t.val / 4) + a) (1024 * (0) + b)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf t f) : S512x1024.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x2816x1024.Idx → EReal)) :
    (((cfg0.win 1).blk t).view.read (Elt Ideal) X : ((cfg0.win 1).xblock (cfg0.grid.coords t)).Idx → Elt Ideal (cfg0.win 1).elt)
      = (ar3 (bw t w) : S1x1408x1024.Idx → EReal) := by
  subst h
  funext y
  unfold ar3 bw
  blk_simp [e1]
  congr 1 <;> omega

/-- What the body leaves in the output block. -/
theorem tile : (k0_pay3 (F := Ideal) (k0_pay2 (F := Ideal) (k0_pay1 (F := Ideal)) (ar2 (bf t f)) (ar3 (bw t w))) : S512x1408.Idx → EReal)
    = ar2 fun i j => ∑ k ∈ range 1024, bf t f i k * bw t w 0 j k := by
  unfold k0_pay3 k0_pay2 k0_pay1
  dsimp only
  rw [shapeCast_self, shapeCast_self]
  simp only [zero_broadcast, zero_ar2, dims, drop_ar3, matmul_nt, addf_ar2, truncf_ar2, zero_add]

/-- The output block as the three stores' values. -/
theorem body : outsAt0 m c t = k0_pay3 (F := Ideal) (k0_pay2 (F := Ideal) (k0_pay1 (F := Ideal)) (iblk m c 0 t) (iblk m c 1 t)) := by
  unfold outsAt0
  frame_out

/-- The result array: every entry the sum over all the columns. -/
theorem array (a0 : V m c main_arg0 = (ar2 f : S2048x1024.Idx → EReal)) (a1 : V m c main_arg1 = (ar3 w : S1x2816x1024.Idx → EReal)) :
    (dats m 0 c).arrAt 2 cfg0.N = (ar2 fun i j => ∑ k ∈ range 1024, f i k * w (k / 1024) j (k % 1024) : S2048x2816.Idx → EReal) := by
  refine (dats m 0 c).arrAt_eq_of_covers 2 _ (by decide +kernel) fun t hf y => ?_
  have hN : t.val < 8 := t.isLt
  rw [after0_2, body]
  rw [show iblk m c 0 t = _ from blk0 c t f _ a0, show iblk m c 1 t = _ from blk1 c t w _ a1, tile]
  unfold ar2 bf bw
  blk_simp [e2]
  refine sum_eq fun k hk => ?_
  refine congrArg₂ (· * ·) (congrArg₂ f (?_ : 512 * (t.val % 4) + (y 0).val = _) (?_ : 1024 * (0) + k = _))
    (congr (congrArg₂ w (?_ : 0 + 0 = _) (?_ : 1408 * (t.val / 4) + (y 1).val = _)) (?_ : 1024 * (0) + k = _)) <;> omega

/-- The reference's result in the same form. -/
theorem reference : Cert.ReferenceDoutIdeal.Read.val_main_v7 (F := Ideal) (ar2 f) (ar3 w)
    = (ar2 fun i j => ∑ k ∈ range 1024, f i k * w (k / 1024) j (k % 1024) : S2048x2816.Idx → EReal) := by
  funext i
  have h1 : (i 1).val < 2816 := (i 1).isLt
  rw [Cert.ReferenceDoutIdeal.Read.val_main_v7_apply, Cert.ReferenceDoutIdeal.Read.val_main_v6_apply]
  show _ = ∑ k ∈ range 1024, f (i 0).val k * w (k / 1024) (i 1).val (k % 1024)
  rw [sum_range]
  refine sum_congr rfl fun k _ => congrArg₂ (· * ·) rfl ?_
  have hk : k.val < 1024 := k.isLt
  rw [Cert.ReferenceDoutIdeal.Read.val_main_v2_apply, Cert.ReferenceDoutIdeal.Read.val_main_v1_apply]
  refine congr (congrArg₂ w (?_ : 0 = k.val / 1024) (?_ : ((i 1).val * 1024 + k.val) / 1024 = (i 1).val))
    (?_ : ((i 1).val * 1024 + k.val) % 1024 = k.val % 1024) <;> omega

/-- Both programs, from the same arguments, end with the same result. -/
theorem algebraic : Cert.algebraic_KernelDoutIdeal_ReferenceDoutIdeal := by
  intro m g m' g' _ he
  refine ⟨fun c => (dats m 0 c).arrAt 2 cfg0.N, Cert.KernelDoutIdeal.Value.run_blocks m g, ?_⟩
  refine (θ_run Cert.ReferenceDoutIdeal.defs _ _).mono (fun r h c => ?_) (Cert.ReferenceDoutIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar3 (a := 1) (b := 2816) (c := 1024) (m ((c : Thread nD τ).loc main_arg1))
  rw [r0, Cert.ReferenceDoutIdeal.Read.val_main_v7_eq, e0, e1]
  refine Eq.trans ?_ (array m c x y ((V_main_arg0 m c).trans hx) ((V_main_arg1 m c).trans hy)).symm
  rw [hx, hy]
  exact reference x y

end KDout

end
-- ==== Proof.KDin.lean ====
/- The gradient of the feed-forward block's normalised input: the product of the rows of the output gradient with the rows of the weight.

   The reduction runs over the blocks of the weight's columns, chip by chip, in an accumulator kept between grid points. -/
module

public import proofs.«01_k».proof.Proof.Product
public import proofs.«01_k».proof.Proof.Gen.KernelDinIdeal.Value
public import proofs.«01_k».proof.Proof.Gen.ReferenceDinIdeal.Run
public import proofs.«01_k».proof.Proof.Gen.ReferenceDinIdeal.Read
public import proofs.«01_k».proof.Defs
public import Idealize.ShloMosaic.Lib.Pipeline.ValueKit.Geometry
public import Idealize.ShloMosaic.Lib.Pipeline.ValueKit.Acc

@[expose] public section

noncomputable section

namespace KDin

open Cert.KernelDinIdeal Cert.KernelDinIdeal.Gen Idealize.ShloMosaic Idealize.ShloMosaic.TcCoe Idealize.SL.Sem Product Finset

theorem e0 : ∀ t : Fin cfg0.N, win0_0.index t = ![t.val / 4 % 4, t.val % 4] :=
  (by decide +kernel : ∀ t : Fin grid0.N, _)
theorem e1 : ∀ t : Fin cfg0.N, win0_1.index t = ![t.val % 4, 0, 0] :=
  (by decide +kernel : ∀ t : Fin grid0.N, _)
theorem e2 : ∀ t : Fin cfg0.N, win0_2.index t = ![t.val / 4 % 4, 0] :=
  (by decide +kernel : ∀ t : Fin grid0.N, _)

/-- The printed dimension numbers are those of a product of rows with rows. -/
theorem dims : (dot_S512x1408_S1024x1408_S512x1024_1_1_0_0_n_n : DotDims S512x1408 S1024x1408 S512x1024) = DotDims.transposedRhs 512 1408 1024 := rfl

variable (m : (ℓ : Loc nD τ sig) → Buf (Elt Ideal) ℓ) (c : Dev nD) (t : Fin cfg0.N) (f : ℕ → ℕ → EReal) (w : ℕ → ℕ → ℕ → EReal)

/-- The output gradient's block at a grid point. -/
def bf : ℕ → ℕ → EReal := fun a b => f (512 * (t.val / 4 % 4) + a) (1408 * (t.val % 4) + b)
/-- The weight's block at a grid point. -/
def bw : ℕ → ℕ → ℕ → EReal := fun z a b => w (t.val % 4 + z) (1024 * (0) + a) (1408 * (0) + b)

theorem blk0 (X : Buf (Elt Ideal) ((c : Thread nD τ).loc (Pipeline.arrRef spec0 0))) (h : X = (ar2 f : S2048x5632.Idx → EReal)) :
    (((cfg0.win 0).blk t).view.read (Elt Ideal) X : ((cfg0.win 0).xblock (cfg0.grid.coords t)).Idx → Elt Ideal (cfg0.win 0).elt)
      = (ar2 (bf t f) : S512x1408.Idx → EReal) := by
  subst h
  funext y
  unfold ar2 bf
  blk_simp [e0]
  congr 1 <;> omega
theorem blk1 (X : Buf (Elt Ideal) ((c : Thread nD τ).loc (Pipeline.arrRef spec0 1))) (h : X = (ar3 w : S4x1024x1408.Idx → EReal)) :
    (((cfg0.win 1).blk t).view.read (Elt Ideal) X : ((cfg0.win 1).xblock (cfg0.grid.coords t)).Idx → Elt Ideal (cfg0.win 1).elt)
      = (ar3 (bw t w) : S1x1024x1408.Idx → EReal) := by
  subst h
  funext y
  unfold ar3 bw
  blk_simp [e1]
  congr 1 <;> omega

/-- A grid point's share of the product. -/
def part : S512x1024.Idx → EReal := ar2 fun i j => ∑ k ∈ range 1408, bf t f i k * bw t w 0 j k

/-- The accumulator starts at zero. -/
theorem start : (k0_pay1 (F := Ideal) : S512x1024.Idx → EReal) = ar2 fun _ _ => 0 := by
  unfold k0_pay1
  dsimp only
  rw [shapeCast_self]
  exact zero_broadcast
/-- One point adds its share. -/
theorem step (a : S512x1024.Idx → EReal) : (k0_pay2 (F := Ideal) a (ar2 (bf t f)) (ar3 (bw t w)) : S512x1024.Idx → EReal) = fun i => a i + part t f w i := by
  obtain ⟨h, rfl⟩ := exists_ar2 a
  unfold k0_pay2
  dsimp only
  rw [shapeCast_self]
  simp only [zero_ar2, dims, drop_ar3, matmul_nt, addf_ar2, zero_add]
  rfl

section Arrays
variable (a0 : V m c main_arg0 = (ar2 f : S2048x5632.Idx → EReal)) (a1 : V m c main_arg1 = (ar3 w : S4x1024x1408.Idx → EReal))
include a0 a1

/-- The accumulator after the first point of a run. -/
theorem acc_first (h : t.val % 4 = 0) (i : S512x1024.Idx) : (outsAt0 m c t.val t.isLt).2 i = 0 + part t f w i := by
  have h1 : ¬t.val % 4 = 3 := by omega
  rw [outsAt0_A m c t h h1]
  frame_out
  rw [show iblk m c 0 t = _ from blk0 c t f _ a0, show iblk m c 1 t = _ from blk1 c t w _ a1, start, step]
  rfl
/-- The accumulator after a later point. -/
theorem acc_later (h : ¬t.val % 4 = 0) (i : S512x1024.Idx) : (outsAt0 m c t.val t.isLt).2 i
    = (outsAt0 m c (t.val - 1) (Nat.lt_of_le_of_lt (Nat.sub_le _ _) t.isLt)).2 i + part t f w i := by
  by_cases h1 : t.val % 4 = 3
  · rw [outsAt0_C m c t h h1]
    frame_out
    rw [show iblk m c 0 t = _ from blk0 c t f _ a0, show iblk m c 1 t = _ from blk1 c t w _ a1, step]
    exact congrArg (· + part t f w i) (congrFun (Memref.IsWhole.read_unread _ _) i)
  · rw [outsAt0_B m c t h h1]
    frame_out
    rw [show iblk m c 0 t = _ from blk0 c t f _ a0, show iblk m c 1 t = _ from blk1 c t w _ a1, step]
    exact congrArg (· + part t f w i) (congrFun (Memref.IsWhole.read_unread _ _) i)
omit a0 a1 in
/-- The block written back is the accumulator. -/
theorem written (h : t.val % 4 = 3) : ((outsAt0 m c t.val t.isLt).1 : S512x1024.Idx → EReal) = (outsAt0 m c t.val t.isLt).2 := by
  rw [outsAt0_C m c t (by omega) h]
  dsimp only
  frame_out
  rfl

/-- The result array: every entry the sum over all the columns. -/
theorem array : (dats m 0 c).arrAt 2 cfg0.N = (ar2 fun i j => ∑ k ∈ range 5632, f i k * w (k / 1408) j (k % 1408) : S2048x1024.Idx → EReal) := by
  refine (dats m 0 c).arrAt_eq_of_covers 2 _ (by decide +kernel) fun t hf y => ?_
  have ht : t.val % 4 = 3 := (flush0_2 t).mp hf
  have hN : t.val < 16 := t.isLt
  rw [after0_2, written m c t ht]
  rw [Pipeline.eq_sum_fin_of_reset_step_apply_of_flush (fun n h => (outsAt0 m c n h).2) 4 (fun _ => (0 : EReal)) (fun t => part t f w)
    (fun t h i => acc_first m c t f w a0 a1 h i) (fun t h i => acc_later m c t f w a0 a1 h i) t ht, zero_add]
  unfold part ar2 bf bw
  blk_simp [e2]
  rw [show (5632 : ℕ) = 4 * 1408 from rfl, ← sum_runs, sum_range]
  refine sum_fin_eq fun s => sum_eq fun k hk => ?_
  have hs : s.val < 4 := s.isLt
  refine congrArg₂ (· * ·) (congrArg₂ f (?_ : 512 * ((4 * (t.val / 4) + s.val) / 4 % 4) + (y 0).val = _) (?_ : 1408 * ((4 * (t.val / 4) + s.val) % 4) + k = _))
    (congr (congrArg₂ w (?_ : (4 * (t.val / 4) + s.val) % 4 + 0 = _) (?_ : 1024 * (0) + (y 1).val = _)) (?_ : 1408 * (0) + k = _)) <;> omega
end Arrays

/-- The reference's result in the same form. -/
theorem reference : Cert.ReferenceDinIdeal.Read.val_main_v7 (F := Ideal) (ar2 f) (ar3 w)
    = (ar2 fun i j => ∑ k ∈ range 5632, f i k * w (k / 1408) j (k % 1408) : S2048x1024.Idx → EReal) := by
  funext i
  have h1 : (i 1).val < 1024 := (i 1).isLt
  rw [Cert.ReferenceDinIdeal.Read.val_main_v7_apply, Cert.ReferenceDinIdeal.Read.val_main_v6_apply]
  show _ = ∑ k ∈ range 5632, f (i 0).val k * w (k / 1408) (i 1).val (k % 1408)
  rw [sum_range]
  refine sum_congr rfl fun k _ => congrArg₂ (· * ·) rfl ?_
  have hk : k.val < 5632 := k.isLt
  rw [Cert.ReferenceDinIdeal.Read.val_main_v2_apply, Cert.ReferenceDinIdeal.Read.val_main_v1_apply]
  refine congr (congrArg₂ w (?_ : ((i 1).val * 5632 + k.val) / 1408 % 4 = k.val / 1408) (?_ : ((i 1).val * 5632 + k.val) / 5632 = (i 1).val))
    (?_ : ((i 1).val * 5632 + k.val) % 1408 = k.val % 1408) <;> omega

/-- Both programs, from the same arguments, end with the same result. -/
theorem algebraic : Cert.algebraic_KernelDinIdeal_ReferenceDinIdeal := by
  intro m g m' g' _ he
  refine ⟨fun c => (dats m 0 c).arrAt 2 cfg0.N, Cert.KernelDinIdeal.Value.run_blocks m g, ?_⟩
  refine (θ_run Cert.ReferenceDinIdeal.defs _ _).mono (fun r h c => ?_) (Cert.ReferenceDinIdeal.Value.run (F := Ideal) m' g')
  obtain ⟨r0, k⟩ := h c
  obtain ⟨e0, e1⟩ := he c
  refine ⟨?_, k⟩
  obtain ⟨x, hx⟩ := exists_ar2 (a := 2048) (b := 5632) (m ((c : Thread nD τ).loc main_arg0))
  obtain ⟨y, hy⟩ := exists_ar3 (a := 4) (b := 1024) (c := 1408) (m ((c : Thread nD τ).loc main_arg1))
  rw [r0, Cert.ReferenceDinIdeal.Read.val_main_v7_eq, e0, e1]
  refine Eq.trans ?_ (array m c x y ((V_main_arg0 m c).trans hx) ((V_main_arg1 m c).trans hy)).symm
  rw [hx, hy]
  exact reference x y

end KDin

end
-- ==== Proof.KWmain.lean ====
/- The gradient of the main input weight: the product of the columns of the input rows with the columns of the output gradient.

   Each grid point forms one tile of the product over all the rows and writes it into its chip's block. -/
module

public import proofs.«01_k».proof.Proof.Product
public import proofs.«01_k».proof.Proof.Gen.KernelWmainIdeal.Value
public import proofs.«01_k».proof.Proof.Gen.ReferenceWmainIdeal.Run
public import proofs.«01_k».proof.Proof.Gen.ReferenceWmainIdeal.Read
public import proofs.«01_k».proof.Defs
public import Idealize.ShloMosaic.Lib.Pipeline.ValueKit.Geometry

@[expose] public section

noncomputable section

namespace KWmain

open Cert.KernelWmainIdeal Cert.KernelWmainIdeal.Gen Idealize.ShloMosaic Idealize.ShloMosaic.TcCoe Idealize.SL.Sem Product Finset

theorem e0 : ∀ t : Fin cfg0.N, win0_0.index t = ![0, (grid0.coords t 0).val] :=
  (by decide +kernel : ∀ t : Fin grid0.N, _)
theorem e1 : ∀ t : Fin cfg0.N, win0_1.index t = ![0, (grid0.coords t 1).val] :=
  (by decide +kernel : ∀ t : Fin grid0.N, _)
theorem e2 : ∀ t : Fin cfg0.N, win0_2.index t = ![(grid0.coords t 1).val / 6, (grid0.coords t 0).val, (grid0.coords t 1).val % 6] :=
  (by decide +kernel : ∀ t : Fin grid0.N, _)

/-- The printed dimension numbers are those of a product of columns with columns. -/
theorem dims : (dot_S2048x512_S2048x768_S512x768_0_0_1_1_n_n : DotDims S2048x512 S2048x768 S512x768) = cols 512 2048 768 := rfl

variable (m : (ℓ : Loc nD τ sig) → Buf (Elt Ideal) ℓ) (c : Dev nD) (t : Fin cfg0.N) (f g : ℕ → ℕ → EReal)

/-- The input's columns at a grid point. -/
theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 fun a b => f a (512 * (grid0.coords t 0).val + b) : S2048x512.Idx → EReal) := by
  subst h
  funext y
  unfold ar2
  blk_simp [e0]
  congr 1 <;> omega
/-- The output gradient's columns at a grid point. -/
theorem blk1 (X : Buf (Elt Ideal) ((c : Thread nD τ).loc (Pipeline.arrRef spec0 1))) (h : X = (ar2 g : S2048x4608.Idx → EReal)) :
    (((cfg0.win 1).blk t).view.read (Elt Ideal) X : ((cfg0.win 1).xblock (cfg0.grid.coords t)).Idx → Elt Ideal (cfg0.win 1).elt)
      = (ar2 fun a b => g a (768 * (grid0.coords t 1).val + b) : S2048x768.Idx → EReal) := by
  subst h
  funext y
  unfold ar2
  blk_simp [e1]
  congr 1 <;> omega

/-- What the body leaves in the output block. -/
theorem tile : out0_2 (F := Ideal) (ar2 f) (ar2 g) = (ar3 fun _ i j => ∑ r ∈ range 2048, f r i * g r j : S1x512x768.Idx → EReal) := by
  unfold out0_2
  refine (View.canon_unit_zero (by decide) _ _).trans ?_
  rw [View.ld_unit_zero (S := S2048x512) (by decide), View.ld_unit_zero (S := S2048x768) (by decide)]
  unfold k0_pay1
  dsimp only
  simp only [zero_ar2, dims, matmul_tn, truncf_ar2, add_ar2, zero_add]

/-- The result array: every entry the sum over the rows. -/
theorem array (a0 : V m c main_arg0 = (ar2 f : S2048x1024.Idx → EReal)) (a1 : V m c main_arg1 = (ar2 g : S2048x4608.Idx → EReal)) :
    (dats m 0 c).arrAt 2 cfg0.N = (ar3 fun p i j => ∑ r ∈ range 2048, f r i * g r (4608 * p + j) : S1x1024x4608.Idx → EReal) := by
  refine (dats m 0 c).arrAt_eq_of_covers 2 _ (by decide +kernel) fun t hf y => ?_
  have h0 : (y 0).val < 1 := (y 0).isLt
  have hn : (grid0.coords t 1).val < 6 := (grid0.coords t 1).isLt
  rw [after0_2]
  rw [show iblk m c 0 t = _ from blk0 c t f _ a0, show iblk m c 1 t = _ from blk1 c t g _ a1, tile]
  unfold ar3
  blk_simp [e2]
  refine sum_eq fun r _ => ?_
  refine congrArg₂ (· * ·) (congrArg (f r) (?_ : 512 * (grid0.coords t 0).val + (y 1).val = _))
    (congrArg (g r) (?_ : 768 * (grid0.coords t 1).val + (y 2).val = _)) <;> omega

/-- The reference's result in the same form. -/
theorem reference : Cert.ReferenceWmainIdeal.Read.val_main_v8 (F := Ideal) (ar2 f) (ar2 g)
    = (ar3 fun p i j => ∑ r ∈ range 2048, f r i * g r (4608 * p + j) : S1x1024x4608.Idx → EReal) := by
  funext i
  have h0 : (i 0).val < 1 := (i 0).isLt
  have h1 : (i 1).val < 1024 := (i 1).isLt
  have h2 : (i 2).val < 4608 := (i 2).isLt
  rw [Cert.ReferenceWmainIdeal.Read.val_main_v8_apply, Cert.ReferenceWmainIdeal.Read.val_main_v7_apply,
    Cert.ReferenceWmainIdeal.Read.val_main_v6_apply, Cert.ReferenceWmainIdeal.Read.val_main_v5_apply, Cert.ReferenceWmainIdeal.Read.val_main_v4_apply]
  show _ = ∑ r ∈ range 2048, f r (i 1).val * g r (4608 * (i 0).val + (i 2).val)
  rw [sum_range]
  refine sum_congr rfl fun r _ => ?_
  refine (mul_comm _ _).trans (congrArg₂ (· * ·) ?_ ?_)
  · refine congrArg (f r.val) (?_ : (((i 1).val * 1 + (i 0).val) * 4608 + (i 2).val) / 4608 = (i 1).val)
    omega
  · refine congrArg (g r.val) (?_ : (((i 1).val * 1 + (i 0).val) * 4608 + (i 2).val) % 4608 = 4608 * (i 0).val + (i 2).val)
    omega

/-- Both programs, from the same arguments, end with the same result. -/
theorem algebraic : Cert.algebraic_KernelWmainIdeal_ReferenceWmainIdeal := by
  intro m g m' g' _ he
  refine ⟨fun c => (dats m 0 c).arrAt 2 cfg0.N, Cert.KernelWmainIdeal.Value.run_blocks m g, ?_⟩
  refine (θ_run Cert.ReferenceWmainIdeal.defs _ _).mono (fun r h c => ?_) (Cert.ReferenceWmainIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar2 (a := 2048) (b := 4608) (m ((c : Thread nD τ).loc main_arg1))
  rw [r0, Cert.ReferenceWmainIdeal.Read.val_main_v8_eq, e0, e1]
  refine Eq.trans ?_ (array m c x y ((V_main_arg0 m c).trans hx) ((V_main_arg1 m c).trans hy)).symm
  rw [hx, hy]
  exact reference x y

end KWmain

end
-- ==== Proof.KWf.lean ====
/- The gradient of the forget gate's weight: the product of the columns of the input rows with the columns of the output gradient.

   Each grid point forms one tile of the product over all the rows and writes it into its chip's block. -/
module

public import proofs.«01_k».proof.Proof.Product
public import proofs.«01_k».proof.Proof.Gen.KernelWfIdeal.Value
public import proofs.«01_k».proof.Proof.Gen.ReferenceWfIdeal.Run
public import proofs.«01_k».proof.Proof.Gen.ReferenceWfIdeal.Read
public import proofs.«01_k».proof.Defs
public import Idealize.ShloMosaic.Lib.Pipeline.ValueKit.Geometry

@[expose] public section

noncomputable section

namespace KWf

open Cert.KernelWfIdeal Cert.KernelWfIdeal.Gen Idealize.ShloMosaic Idealize.ShloMosaic.TcCoe Idealize.SL.Sem Product Finset

theorem e0 : ∀ t : Fin cfg0.N, win0_0.index t = ![0, (grid0.coords t 0).val] :=
  (by decide +kernel : ∀ t : Fin grid0.N, _)
theorem e1 : ∀ t : Fin cfg0.N, win0_1.index t = ![0, (grid0.coords t 1).val] :=
  (by decide +kernel : ∀ t : Fin grid0.N, _)
theorem e2 : ∀ t : Fin cfg0.N, win0_2.index t = ![(grid0.coords t 1).val, (grid0.coords t 0).val, 0] :=
  (by decide +kernel : ∀ t : Fin grid0.N, _)

/-- The printed dimension numbers are those of a product of columns with columns. -/
theorem dims : (dot_S2048x512_S2048x128_S512x128_0_0_1_1_n_n : DotDims S2048x512 S2048x128 S512x128) = cols 512 2048 128 := rfl

variable (m : (ℓ : Loc nD τ sig) → Buf (Elt Ideal) ℓ) (c : Dev nD) (t : Fin cfg0.N) (f g : ℕ → ℕ → EReal)

/-- The input's columns at a grid point. -/
theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 fun a b => f a (512 * (grid0.coords t 0).val + b) : S2048x512.Idx → EReal) := by
  subst h
  funext y
  unfold ar2
  blk_simp [e0]
  congr 1 <;> omega
/-- The output gradient's columns at a grid point. -/
theorem blk1 (X : Buf (Elt Ideal) ((c : Thread nD τ).loc (Pipeline.arrRef spec0 1))) (h : X = (ar2 g : S2048x128.Idx → EReal)) :
    (((cfg0.win 1).blk t).view.read (Elt Ideal) X : ((cfg0.win 1).xblock (cfg0.grid.coords t)).Idx → Elt Ideal (cfg0.win 1).elt)
      = (ar2 fun a b => g a (128 * (grid0.coords t 1).val + b) : S2048x128.Idx → EReal) := by
  subst h
  funext y
  unfold ar2
  blk_simp [e1]
  congr 1 <;> omega

/-- What the body leaves in the output block. -/
theorem tile : out0_2 (F := Ideal) (ar2 f) (ar2 g) = (ar3 fun _ i j => ∑ r ∈ range 2048, f r i * g r j : S1x512x128.Idx → EReal) := by
  unfold out0_2
  refine (View.canon_unit_zero (by decide) _ _).trans ?_
  rw [View.ld_unit_zero (S := S2048x512) (by decide), View.ld_unit_zero (S := S2048x128) (by decide)]
  unfold k0_pay1
  dsimp only
  simp only [zero_ar2, dims, matmul_tn, truncf_ar2, add_ar2, zero_add]

/-- The result array: every entry the sum over the rows. -/
theorem array (a0 : V m c main_arg0 = (ar2 f : S2048x1024.Idx → EReal)) (a1 : V m c main_arg1 = (ar2 g : S2048x128.Idx → EReal)) :
    (dats m 0 c).arrAt 2 cfg0.N = (ar3 fun p i j => ∑ r ∈ range 2048, f r i * g r (128 * p + j) : S1x1024x128.Idx → EReal) := by
  refine (dats m 0 c).arrAt_eq_of_covers 2 _ (by decide +kernel) fun t hf y => ?_
  have h0 : (y 0).val < 1 := (y 0).isLt
  have hn : (grid0.coords t 1).val < 1 := (grid0.coords t 1).isLt
  rw [after0_2]
  rw [show iblk m c 0 t = _ from blk0 c t f _ a0, show iblk m c 1 t = _ from blk1 c t g _ a1, tile]
  unfold ar3
  blk_simp [e2]
  refine sum_eq fun r _ => ?_
  refine congrArg₂ (· * ·) (congrArg (f r) (?_ : 512 * (grid0.coords t 0).val + (y 1).val = _))
    (congrArg (g r) (?_ : 128 * 0 + (y 2).val = _)) <;> omega

/-- The reference's result in the same form. -/
theorem reference : Cert.ReferenceWfIdeal.Read.val_main_v8 (F := Ideal) (ar2 f) (ar2 g)
    = (ar3 fun p i j => ∑ r ∈ range 2048, f r i * g r (128 * p + j) : S1x1024x128.Idx → EReal) := by
  funext i
  have h0 : (i 0).val < 1 := (i 0).isLt
  have h1 : (i 1).val < 1024 := (i 1).isLt
  have h2 : (i 2).val < 128 := (i 2).isLt
  rw [Cert.ReferenceWfIdeal.Read.val_main_v8_apply, Cert.ReferenceWfIdeal.Read.val_main_v7_apply,
    Cert.ReferenceWfIdeal.Read.val_main_v6_apply, Cert.ReferenceWfIdeal.Read.val_main_v5_apply, Cert.ReferenceWfIdeal.Read.val_main_v4_apply]
  show _ = ∑ r ∈ range 2048, f r (i 1).val * g r (128 * (i 0).val + (i 2).val)
  rw [sum_range]
  refine sum_congr rfl fun r _ => ?_
  refine (mul_comm _ _).trans (congrArg₂ (· * ·) ?_ ?_)
  · refine congrArg (f r.val) (?_ : (((i 1).val * 1 + (i 0).val) * 128 + (i 2).val) / 128 = (i 1).val)
    omega
  · refine congrArg (g r.val) (?_ : (((i 1).val * 1 + (i 0).val) * 128 + (i 2).val) % 128 = 128 * (i 0).val + (i 2).val)
    omega

/-- Both programs, from the same arguments, end with the same result. -/
theorem algebraic : Cert.algebraic_KernelWfIdeal_ReferenceWfIdeal := by
  intro m g m' g' _ he
  refine ⟨fun c => (dats m 0 c).arrAt 2 cfg0.N, Cert.KernelWfIdeal.Value.run_blocks m g, ?_⟩
  refine (θ_run Cert.ReferenceWfIdeal.defs _ _).mono (fun r h c => ?_) (Cert.ReferenceWfIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar2 (a := 2048) (b := 128) (m ((c : Thread nD τ).loc main_arg1))
  rw [r0, Cert.ReferenceWfIdeal.Read.val_main_v8_eq, e0, e1]
  refine Eq.trans ?_ (array m c x y ((V_main_arg0 m c).trans hx) ((V_main_arg1 m c).trans hy)).symm
  rw [hx, hy]
  exact reference x y

end KWf

end
-- ==== Proof.KWsq.lean ====
/- The gradient of a square weight: the product of the columns of the input rows with the columns of the output gradient.

   Each grid point forms one tile of the product over all the rows and writes it into its chip's block. -/
module

public import proofs.«01_k».proof.Proof.Product
public import proofs.«01_k».proof.Proof.Gen.KernelWsqIdeal.Value
public import proofs.«01_k».proof.Proof.Gen.ReferenceWsqIdeal.Run
public import proofs.«01_k».proof.Proof.Gen.ReferenceWsqIdeal.Read
public import proofs.«01_k».proof.Defs
public import Idealize.ShloMosaic.Lib.Pipeline.ValueKit.Geometry

@[expose] public section

noncomputable section

namespace KWsq

open Cert.KernelWsqIdeal Cert.KernelWsqIdeal.Gen Idealize.ShloMosaic Idealize.ShloMosaic.TcCoe Idealize.SL.Sem Product Finset

theorem e0 : ∀ t : Fin cfg0.N, win0_0.index t = ![0, (grid0.coords t 0).val] :=
  (by decide +kernel : ∀ t : Fin grid0.N, _)
theorem e1 : ∀ t : Fin cfg0.N, win0_1.index t = ![0, (grid0.coords t 1).val] :=
  (by decide +kernel : ∀ t : Fin grid0.N, _)
theorem e2 : ∀ t : Fin cfg0.N, win0_2.index t = ![(grid0.coords t 1).val, (grid0.coords t 0).val, 0] :=
  (by decide +kernel : ∀ t : Fin grid0.N, _)

/-- The printed dimension numbers are those of a product of columns with columns. -/
theorem dims : (dot_S2048x512_S2048x1024_S512x1024_0_0_1_1_n_n : DotDims S2048x512 S2048x1024 S512x1024) = cols 512 2048 1024 := rfl

variable (m : (ℓ : Loc nD τ sig) → Buf (Elt Ideal) ℓ) (c : Dev nD) (t : Fin cfg0.N) (f g : ℕ → ℕ → EReal)

/-- The input's columns at a grid point. -/
theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 fun a b => f a (512 * (grid0.coords t 0).val + b) : S2048x512.Idx → EReal) := by
  subst h
  funext y
  unfold ar2
  blk_simp [e0]
  congr 1 <;> omega
/-- The output gradient's columns at a grid point. -/
theorem blk1 (X : Buf (Elt Ideal) ((c : Thread nD τ).loc (Pipeline.arrRef spec0 1))) (h : X = (ar2 g : S2048x1024.Idx → EReal)) :
    (((cfg0.win 1).blk t).view.read (Elt Ideal) X : ((cfg0.win 1).xblock (cfg0.grid.coords t)).Idx → Elt Ideal (cfg0.win 1).elt)
      = (ar2 fun a b => g a (1024 * (grid0.coords t 1).val + b) : S2048x1024.Idx → EReal) := by
  subst h
  funext y
  unfold ar2
  blk_simp [e1]
  congr 1 <;> omega

/-- What the body leaves in the output block. -/
theorem tile : out0_2 (F := Ideal) (ar2 f) (ar2 g) = (ar3 fun _ i j => ∑ r ∈ range 2048, f r i * g r j : S1x512x1024.Idx → EReal) := by
  unfold out0_2
  refine (View.canon_unit_zero (by decide) _ _).trans ?_
  rw [View.ld_unit_zero (S := S2048x512) (by decide), View.ld_unit_zero (S := S2048x1024) (by decide)]
  unfold k0_pay1
  dsimp only
  simp only [zero_ar2, dims, matmul_tn, truncf_ar2, add_ar2, zero_add]

/-- The result array: every entry the sum over the rows. -/
theorem array (a0 : V m c main_arg0 = (ar2 f : S2048x1024.Idx → EReal)) (a1 : V m c main_arg1 = (ar2 g : S2048x1024.Idx → EReal)) :
    (dats m 0 c).arrAt 2 cfg0.N = (ar3 fun p i j => ∑ r ∈ range 2048, f r i * g r (1024 * p + j) : S1x1024x1024.Idx → EReal) := by
  refine (dats m 0 c).arrAt_eq_of_covers 2 _ (by decide +kernel) fun t hf y => ?_
  have h0 : (y 0).val < 1 := (y 0).isLt
  have hn : (grid0.coords t 1).val < 1 := (grid0.coords t 1).isLt
  rw [after0_2]
  rw [show iblk m c 0 t = _ from blk0 c t f _ a0, show iblk m c 1 t = _ from blk1 c t g _ a1, tile]
  unfold ar3
  blk_simp [e2]
  refine sum_eq fun r _ => ?_
  refine congrArg₂ (· * ·) (congrArg (f r) (?_ : 512 * (grid0.coords t 0).val + (y 1).val = _))
    (congrArg (g r) (?_ : 1024 * 0 + (y 2).val = _)) <;> omega

/-- The reference's result in the same form. -/
theorem reference : Cert.ReferenceWsqIdeal.Read.val_main_v8 (F := Ideal) (ar2 f) (ar2 g)
    = (ar3 fun p i j => ∑ r ∈ range 2048, f r i * g r (1024 * p + j) : S1x1024x1024.Idx → EReal) := by
  funext i
  have h0 : (i 0).val < 1 := (i 0).isLt
  have h1 : (i 1).val < 1024 := (i 1).isLt
  have h2 : (i 2).val < 1024 := (i 2).isLt
  rw [Cert.ReferenceWsqIdeal.Read.val_main_v8_apply, Cert.ReferenceWsqIdeal.Read.val_main_v7_apply,
    Cert.ReferenceWsqIdeal.Read.val_main_v6_apply, Cert.ReferenceWsqIdeal.Read.val_main_v5_apply, Cert.ReferenceWsqIdeal.Read.val_main_v4_apply]
  show _ = ∑ r ∈ range 2048, f r (i 1).val * g r (1024 * (i 0).val + (i 2).val)
  rw [sum_range]
  refine sum_congr rfl fun r _ => ?_
  refine (mul_comm _ _).trans (congrArg₂ (· * ·) ?_ ?_)
  · refine congrArg (f r.val) (?_ : (((i 1).val * 1 + (i 0).val) * 1024 + (i 2).val) / 1024 = (i 1).val)
    omega
  · refine congrArg (g r.val) (?_ : (((i 1).val * 1 + (i 0).val) * 1024 + (i 2).val) % 1024 = 1024 * (i 0).val + (i 2).val)
    omega

/-- Both programs, from the same arguments, end with the same result. -/
theorem algebraic : Cert.algebraic_KernelWsqIdeal_ReferenceWsqIdeal := by
  intro m g m' g' _ he
  refine ⟨fun c => (dats m 0 c).arrAt 2 cfg0.N, Cert.KernelWsqIdeal.Value.run_blocks m g, ?_⟩
  refine (θ_run Cert.ReferenceWsqIdeal.defs _ _).mono (fun r h c => ?_) (Cert.ReferenceWsqIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar2 (a := 2048) (b := 1024) (m ((c : Thread nD τ).loc main_arg1))
  rw [r0, Cert.ReferenceWsqIdeal.Read.val_main_v8_eq, e0, e1]
  refine Eq.trans ?_ (array m c x y ((V_main_arg0 m c).trans hx) ((V_main_arg1 m c).trans hy)).symm
  rw [hx, hy]
  exact reference x y

end KWsq

end
-- ==== Proof.KWatt.lean ====
/- The gradient of the attention's or the convolution's output weight: the product of the columns of the input rows with the columns of the output gradient.

   Each grid point forms one tile of the product over all the rows and writes it into its chip's block. -/
module

public import proofs.«01_k».proof.Proof.Product
public import proofs.«01_k».proof.Proof.Gen.KernelWattIdeal.Value
public import proofs.«01_k».proof.Proof.Gen.ReferenceWattIdeal.Run
public import proofs.«01_k».proof.Proof.Gen.ReferenceWattIdeal.Read
public import proofs.«01_k».proof.Defs
public import Idealize.ShloMosaic.Lib.Pipeline.ValueKit.Geometry

@[expose] public section

noncomputable section

namespace KWatt

open Cert.KernelWattIdeal Cert.KernelWattIdeal.Gen Idealize.ShloMosaic Idealize.ShloMosaic.TcCoe Idealize.SL.Sem Product Finset

theorem e0 : ∀ t : Fin cfg0.N, win0_0.index t = ![0, (grid0.coords t 0).val] :=
  (by decide +kernel : ∀ t : Fin grid0.N, _)
theorem e1 : ∀ t : Fin cfg0.N, win0_1.index t = ![0, (grid0.coords t 1).val] :=
  (by decide +kernel : ∀ t : Fin grid0.N, _)
theorem e2 : ∀ t : Fin cfg0.N, win0_2.index t = ![(grid0.coords t 1).val, (grid0.coords t 0).val, 0] :=
  (by decide +kernel : ∀ t : Fin grid0.N, _)

/-- The printed dimension numbers are those of a product of columns with columns. -/
theorem dims : (dot_S2048x512_S2048x256_S512x256_0_0_1_1_n_n : DotDims S2048x512 S2048x256 S512x256) = cols 512 2048 256 := rfl

variable (m : (ℓ : Loc nD τ sig) → Buf (Elt Ideal) ℓ) (c : Dev nD) (t : Fin cfg0.N) (f g : ℕ → ℕ → EReal)

/-- The input's columns at a grid point. -/
theorem blk0 (X : Buf (Elt Ideal) ((c : Thread nD τ).loc (Pipeline.arrRef spec0 0))) (h : X = (ar2 f : S2048x512.Idx → EReal)) :
    (((cfg0.win 0).blk t).view.read (Elt Ideal) X : ((cfg0.win 0).xblock (cfg0.grid.coords t)).Idx → Elt Ideal (cfg0.win 0).elt)
      = (ar2 fun a b => f a (512 * (grid0.coords t 0).val + b) : S2048x512.Idx → EReal) := by
  subst h
  funext y
  unfold ar2
  blk_simp [e0]
  congr 1 <;> omega
/-- The output gradient's columns at a grid point. -/
theorem blk1 (X : Buf (Elt Ideal) ((c : Thread nD τ).loc (Pipeline.arrRef spec0 1))) (h : X = (ar2 g : S2048x1024.Idx → EReal)) :
    (((cfg0.win 1).blk t).view.read (Elt Ideal) X : ((cfg0.win 1).xblock (cfg0.grid.coords t)).Idx → Elt Ideal (cfg0.win 1).elt)
      = (ar2 fun a b => g a (256 * (grid0.coords t 1).val + b) : S2048x256.Idx → EReal) := by
  subst h
  funext y
  unfold ar2
  blk_simp [e1]
  congr 1 <;> omega

/-- What the body leaves in the output block. -/
theorem tile : out0_2 (F := Ideal) (ar2 f) (ar2 g) = (ar3 fun _ i j => ∑ r ∈ range 2048, f r i * g r j : S1x512x256.Idx → EReal) := by
  unfold out0_2
  refine (View.canon_unit_zero (by decide) _ _).trans ?_
  rw [View.ld_unit_zero (S := S2048x512) (by decide), View.ld_unit_zero (S := S2048x256) (by decide)]
  unfold k0_pay1
  dsimp only
  simp only [zero_ar2, dims, matmul_tn, truncf_ar2, add_ar2, zero_add]

/-- The result array: every entry the sum over the rows. -/
theorem array (a0 : V m c main_arg0 = (ar2 f : S2048x512.Idx → EReal)) (a1 : V m c main_arg1 = (ar2 g : S2048x1024.Idx → EReal)) :
    (dats m 0 c).arrAt 2 cfg0.N = (ar3 fun p i j => ∑ r ∈ range 2048, f r i * g r (256 * p + j) : S4x512x256.Idx → EReal) := by
  refine (dats m 0 c).arrAt_eq_of_covers 2 _ (by decide +kernel) fun t hf y => ?_
  have h0 : (y 0).val < 1 := (y 0).isLt
  have hn : (grid0.coords t 1).val < 4 := (grid0.coords t 1).isLt
  rw [after0_2]
  rw [show iblk m c 0 t = _ from blk0 c t f _ a0, show iblk m c 1 t = _ from blk1 c t g _ a1, tile]
  unfold ar3
  blk_simp [e2]
  refine sum_eq fun r _ => ?_
  refine congrArg₂ (· * ·) (congrArg (f r) (?_ : 512 * 0 + (y 1).val = _))
    (congrArg (g r) (?_ : 256 * (grid0.coords t 1).val + (y 2).val = _)) <;> omega

/-- The reference's result in the same form. -/
theorem reference : Cert.ReferenceWattIdeal.Read.val_main_v8 (F := Ideal) (ar2 f) (ar2 g)
    = (ar3 fun p i j => ∑ r ∈ range 2048, f r i * g r (256 * p + j) : S4x512x256.Idx → EReal) := by
  funext i
  have h0 : (i 0).val < 4 := (i 0).isLt
  have h1 : (i 1).val < 512 := (i 1).isLt
  have h2 : (i 2).val < 256 := (i 2).isLt
  rw [Cert.ReferenceWattIdeal.Read.val_main_v8_apply, Cert.ReferenceWattIdeal.Read.val_main_v7_apply,
    Cert.ReferenceWattIdeal.Read.val_main_v6_apply, Cert.ReferenceWattIdeal.Read.val_main_v5_apply, Cert.ReferenceWattIdeal.Read.val_main_v4_apply]
  show _ = ∑ r ∈ range 2048, f r (i 1).val * g r (256 * (i 0).val + (i 2).val)
  rw [sum_range]
  refine sum_congr rfl fun r _ => ?_
  refine (mul_comm _ _).trans (congrArg₂ (· * ·) ?_ ?_)
  · refine congrArg (f r.val) (?_ : (((i 1).val * 4 + (i 0).val) * 256 + (i 2).val) / 1024 = (i 1).val)
    omega
  · refine congrArg (g r.val) (?_ : (((i 1).val * 4 + (i 0).val) * 256 + (i 2).val) % 1024 = 256 * (i 0).val + (i 2).val)
    omega

/-- Both programs, from the same arguments, end with the same result. -/
theorem algebraic : Cert.algebraic_KernelWattIdeal_ReferenceWattIdeal := by
  intro m g m' g' _ he
  refine ⟨fun c => (dats m 0 c).arrAt 2 cfg0.N, Cert.KernelWattIdeal.Value.run_blocks m g, ?_⟩
  refine (θ_run Cert.ReferenceWattIdeal.defs _ _).mono (fun r h c => ?_) (Cert.ReferenceWattIdeal.Value.run (F := Ideal) m' g')
  obtain ⟨r0, k⟩ := h c
  obtain ⟨e0, e1⟩ := he c
  refine ⟨?_, k⟩
  obtain ⟨x, hx⟩ := exists_ar2 (a := 2048) (b := 512) (m ((c : Thread nD τ).loc main_arg0))
  obtain ⟨y, hy⟩ := exists_ar2 (a := 2048) (b := 1024) (m ((c : Thread nD τ).loc main_arg1))
  rw [r0, Cert.ReferenceWattIdeal.Read.val_main_v8_eq, e0, e1]
  refine Eq.trans ?_ (array m c x y ((V_main_arg0 m c).trans hx) ((V_main_arg1 m c).trans hy)).symm
  rw [hx, hy]
  exact reference x y

end KWatt

end
-- ==== Proof.KWple.lean ====
/- The gradient of the per-layer embedding's projection: the product of the columns of the input rows with the columns of the output gradient.

   Each grid point forms one tile of the product over all the rows and writes it into its chip's block. -/
module

public import proofs.«01_k».proof.Proof.Product
public import proofs.«01_k».proof.Proof.Gen.KernelWpleIdeal.Value
public import proofs.«01_k».proof.Proof.Gen.ReferenceWpleIdeal.Run
public import proofs.«01_k».proof.Proof.Gen.ReferenceWpleIdeal.Read
public import proofs.«01_k».proof.Defs
public import Idealize.ShloMosaic.Lib.Pipeline.ValueKit.Geometry

@[expose] public section

noncomputable section

namespace KWple

open Cert.KernelWpleIdeal Cert.KernelWpleIdeal.Gen Idealize.ShloMosaic Idealize.ShloMosaic.TcCoe Idealize.SL.Sem Product Finset

theorem e0 : ∀ t : Fin cfg0.N, win0_0.index t = ![0, (grid0.coords t 0).val] :=
  (by decide +kernel : ∀ t : Fin grid0.N, _)
theorem e1 : ∀ t : Fin cfg0.N, win0_1.index t = ![0, (grid0.coords t 1).val] :=
  (by decide +kernel : ∀ t : Fin grid0.N, _)
theorem e2 : ∀ t : Fin cfg0.N, win0_2.index t = ![(grid0.coords t 1).val, (grid0.coords t 0).val, 0] :=
  (by decide +kernel : ∀ t : Fin grid0.N, _)

/-- The printed dimension numbers are those of a product of columns with columns. -/
theorem dims : (dot_S2048x256_S2048x256_S256x256_0_0_1_1_n_n : DotDims S2048x256 S2048x256 S256x256) = cols 256 2048 256 := rfl

variable (m : (ℓ : Loc nD τ sig) → Buf (Elt Ideal) ℓ) (c : Dev nD) (t : Fin cfg0.N) (f g : ℕ → ℕ → EReal)

/-- The input's columns at a grid point. -/
theorem blk0 (X : Buf (Elt Ideal) ((c : Thread nD τ).loc (Pipeline.arrRef spec0 0))) (h : X = (ar2 f : S2048x256.Idx → EReal)) :
    (((cfg0.win 0).blk t).view.read (Elt Ideal) X : ((cfg0.win 0).xblock (cfg0.grid.coords t)).Idx → Elt Ideal (cfg0.win 0).elt)
      = (ar2 fun a b => f a (256 * (grid0.coords t 0).val + b) : S2048x256.Idx → EReal) := by
  subst h
  funext y
  unfold ar2
  blk_simp [e0]
  congr 1 <;> omega
/-- The output gradient's columns at a grid point. -/
theorem blk1 (X : Buf (Elt Ideal) ((c : Thread nD τ).loc (Pipeline.arrRef spec0 1))) (h : X = (ar2 g : S2048x1024.Idx → EReal)) :
    (((cfg0.win 1).blk t).view.read (Elt Ideal) X : ((cfg0.win 1).xblock (cfg0.grid.coords t)).Idx → Elt Ideal (cfg0.win 1).elt)
      = (ar2 fun a b => g a (256 * (grid0.coords t 1).val + b) : S2048x256.Idx → EReal) := by
  subst h
  funext y
  unfold ar2
  blk_simp [e1]
  congr 1 <;> omega

/-- What the body leaves in the output block. -/
theorem tile : out0_2 (F := Ideal) (ar2 f) (ar2 g) = (ar3 fun _ i j => ∑ r ∈ range 2048, f r i * g r j : S1x256x256.Idx → EReal) := by
  unfold out0_2
  refine (View.canon_unit_zero (by decide) _ _).trans ?_
  rw [View.ld_unit_zero (S := S2048x256) (by decide), View.ld_unit_zero (S := S2048x256) (by decide)]
  unfold k0_pay1
  dsimp only
  simp only [zero_ar2, dims, matmul_tn, truncf_ar2, add_ar2, zero_add]

/-- The result array: every entry the sum over the rows. -/
theorem array (a0 : V m c main_arg0 = (ar2 f : S2048x256.Idx → EReal)) (a1 : V m c main_arg1 = (ar2 g : S2048x1024.Idx → EReal)) :
    (dats m 0 c).arrAt 2 cfg0.N = (ar3 fun p i j => ∑ r ∈ range 2048, f r i * g r (256 * p + j) : S4x256x256.Idx → EReal) := by
  refine (dats m 0 c).arrAt_eq_of_covers 2 _ (by decide +kernel) fun t hf y => ?_
  have h0 : (y 0).val < 1 := (y 0).isLt
  have hn : (grid0.coords t 1).val < 4 := (grid0.coords t 1).isLt
  rw [after0_2]
  rw [show iblk m c 0 t = _ from blk0 c t f _ a0, show iblk m c 1 t = _ from blk1 c t g _ a1, tile]
  unfold ar3
  blk_simp [e2]
  refine sum_eq fun r _ => ?_
  refine congrArg₂ (· * ·) (congrArg (f r) (?_ : 256 * 0 + (y 1).val = _))
    (congrArg (g r) (?_ : 256 * (grid0.coords t 1).val + (y 2).val = _)) <;> omega

/-- The reference's result in the same form. -/
theorem reference : Cert.ReferenceWpleIdeal.Read.val_main_v8 (F := Ideal) (ar2 f) (ar2 g)
    = (ar3 fun p i j => ∑ r ∈ range 2048, f r i * g r (256 * p + j) : S4x256x256.Idx → EReal) := by
  funext i
  have h0 : (i 0).val < 4 := (i 0).isLt
  have h1 : (i 1).val < 256 := (i 1).isLt
  have h2 : (i 2).val < 256 := (i 2).isLt
  rw [Cert.ReferenceWpleIdeal.Read.val_main_v8_apply, Cert.ReferenceWpleIdeal.Read.val_main_v7_apply,
    Cert.ReferenceWpleIdeal.Read.val_main_v6_apply, Cert.ReferenceWpleIdeal.Read.val_main_v5_apply, Cert.ReferenceWpleIdeal.Read.val_main_v4_apply]
  show _ = ∑ r ∈ range 2048, f r (i 1).val * g r (256 * (i 0).val + (i 2).val)
  rw [sum_range]
  refine sum_congr rfl fun r _ => ?_
  refine (mul_comm _ _).trans (congrArg₂ (· * ·) ?_ ?_)
  · refine congrArg (f r.val) (?_ : (((i 1).val * 4 + (i 0).val) * 256 + (i 2).val) / 1024 = (i 1).val)
    omega
  · refine congrArg (g r.val) (?_ : (((i 1).val * 4 + (i 0).val) * 256 + (i 2).val) % 1024 = 256 * (i 0).val + (i 2).val)
    omega

/-- Both programs, from the same arguments, end with the same result. -/
theorem algebraic : Cert.algebraic_KernelWpleIdeal_ReferenceWpleIdeal := by
  intro m g m' g' _ he
  refine ⟨fun c => (dats m 0 c).arrAt 2 cfg0.N, Cert.KernelWpleIdeal.Value.run_blocks m g, ?_⟩
  refine (θ_run Cert.ReferenceWpleIdeal.defs _ _).mono (fun r h c => ?_) (Cert.ReferenceWpleIdeal.Value.run (F := Ideal) m' g')
  obtain ⟨r0, k⟩ := h c
  obtain ⟨e0, e1⟩ := he c
  refine ⟨?_, k⟩
  obtain ⟨x, hx⟩ := exists_ar2 (a := 2048) (b := 256) (m ((c : Thread nD τ).loc main_arg0))
  obtain ⟨y, hy⟩ := exists_ar2 (a := 2048) (b := 1024) (m ((c : Thread nD τ).loc main_arg1))
  rw [r0, Cert.ReferenceWpleIdeal.Read.val_main_v8_eq, e0, e1]
  refine Eq.trans ?_ (array m c x y ((V_main_arg0 m c).trans hx) ((V_main_arg1 m c).trans hy)).symm
  rw [hx, hy]
  exact reference x y

end KWple

end
-- ==== Proof.KDmain.lean ====
/- The gradient of the main branch's normalised input: the product of the rows of the output gradient with the rows of the weight.

   The reduction runs over the blocks of the weight's columns, chip by chip, in an accumulator kept between grid points. -/
module

public import proofs.«01_k».proof.Proof.Product
public import proofs.«01_k».proof.Proof.Gen.KernelDmainIdeal.Value
public import proofs.«01_k».proof.Proof.Gen.ReferenceDmainIdeal.Run
public import proofs.«01_k».proof.Proof.Gen.ReferenceDmainIdeal.Read
public import proofs.«01_k».proof.Defs
public import Idealize.ShloMosaic.Lib.Pipeline.ValueKit.Geometry
public import Idealize.ShloMosaic.Lib.Pipeline.ValueKit.Acc

@[expose] public section

noncomputable section

namespace KDmain

open Cert.KernelDmainIdeal Cert.KernelDmainIdeal.Gen Idealize.ShloMosaic Idealize.ShloMosaic.TcCoe Idealize.SL.Sem Product Finset

theorem e0 : ∀ t : Fin cfg0.N, win0_0.index t = ![t.val / 3 % 4, t.val % 3] :=
  (by decide +kernel : ∀ t : Fin grid0.N, _)
theorem e1 : ∀ t : Fin cfg0.N, win0_1.index t = ![0, 0, t.val % 3 % 3] :=
  (by decide +kernel : ∀ t : Fin grid0.N, _)
theorem e2 : ∀ t : Fin cfg0.N, win0_2.index t = ![t.val / 3 % 4, 0] :=
  (by decide +kernel : ∀ t : Fin grid0.N, _)

/-- The printed dimension numbers are those of a product of rows with rows. -/
theorem dims : (dot_S512x1536_S1024x1536_S512x1024_1_1_0_0_n_n : DotDims S512x1536 S1024x1536 S512x1024) = DotDims.transposedRhs 512 1536 1024 := rfl

variable (m : (ℓ : Loc nD τ sig) → Buf (Elt Ideal) ℓ) (c : Dev nD) (t : Fin cfg0.N) (f : ℕ → ℕ → EReal) (w : ℕ → ℕ → ℕ → EReal)

/-- The output gradient's block at a grid point. -/
def bf : ℕ → ℕ → EReal := fun a b => f (512 * (t.val / 3 % 4) + a) (1536 * (t.val % 3) + b)
/-- The weight's block at a grid point. -/
def bw : ℕ → ℕ → ℕ → EReal := fun z a b => w (0 + z) (1024 * (0) + a) (1536 * (t.val % 3 % 3) + b)

theorem blk0 (X : Buf (Elt Ideal) ((c : Thread nD τ).loc (Pipeline.arrRef spec0 0))) (h : X = (ar2 f : S2048x4608.Idx → EReal)) :
    (((cfg0.win 0).blk t).view.read (Elt Ideal) X : ((cfg0.win 0).xblock (cfg0.grid.coords t)).Idx → Elt Ideal (cfg0.win 0).elt)
      = (ar2 (bf t f) : S512x1536.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x1024x4608.Idx → EReal)) :
    (((cfg0.win 1).blk t).view.read (Elt Ideal) X : ((cfg0.win 1).xblock (cfg0.grid.coords t)).Idx → Elt Ideal (cfg0.win 1).elt)
      = (ar3 (bw t w) : S1x1024x1536.Idx → EReal) := by
  subst h
  funext y
  unfold ar3 bw
  blk_simp [e1]
  congr 1 <;> omega

/-- A grid point's share of the product. -/
def part : S512x1024.Idx → EReal := ar2 fun i j => ∑ k ∈ range 1536, bf t f i k * bw t w 0 j k

/-- The accumulator starts at zero. -/
theorem start : (k0_pay1 (F := Ideal) : S512x1024.Idx → EReal) = ar2 fun _ _ => 0 := by
  unfold k0_pay1
  dsimp only
  rw [shapeCast_self]
  exact zero_broadcast
/-- One point adds its share. -/
theorem step (a : S512x1024.Idx → EReal) : (k0_pay2 (F := Ideal) a (ar2 (bf t f)) (ar3 (bw t w)) : S512x1024.Idx → EReal) = fun i => a i + part t f w i := by
  obtain ⟨h, rfl⟩ := exists_ar2 a
  unfold k0_pay2
  dsimp only
  rw [shapeCast_self]
  simp only [zero_ar2, dims, drop_ar3, matmul_nt, addf_ar2, zero_add]
  rfl

section Arrays
variable (a0 : V m c main_arg0 = (ar2 f : S2048x4608.Idx → EReal)) (a1 : V m c main_arg1 = (ar3 w : S1x1024x4608.Idx → EReal))
include a0 a1

/-- The accumulator after the first point of a run. -/
theorem acc_first (h : t.val % 3 = 0) (i : S512x1024.Idx) : (outsAt0 m c t.val t.isLt).2 i = 0 + part t f w i := by
  have h1 : ¬t.val % 3 = 2 := by omega
  rw [outsAt0_A m c t h h1]
  frame_out
  rw [show iblk m c 0 t = _ from blk0 c t f _ a0, show iblk m c 1 t = _ from blk1 c t w _ a1, start, step]
  rfl
/-- The accumulator after a later point. -/
theorem acc_later (h : ¬t.val % 3 = 0) (i : S512x1024.Idx) : (outsAt0 m c t.val t.isLt).2 i
    = (outsAt0 m c (t.val - 1) (Nat.lt_of_le_of_lt (Nat.sub_le _ _) t.isLt)).2 i + part t f w i := by
  by_cases h1 : t.val % 3 = 2
  · rw [outsAt0_C m c t h h1]
    frame_out
    rw [show iblk m c 0 t = _ from blk0 c t f _ a0, show iblk m c 1 t = _ from blk1 c t w _ a1, step]
    exact congrArg (· + part t f w i) (congrFun (Memref.IsWhole.read_unread _ _) i)
  · rw [outsAt0_B m c t h h1]
    frame_out
    rw [show iblk m c 0 t = _ from blk0 c t f _ a0, show iblk m c 1 t = _ from blk1 c t w _ a1, step]
    exact congrArg (· + part t f w i) (congrFun (Memref.IsWhole.read_unread _ _) i)
omit a0 a1 in
/-- The block written back is the accumulator. -/
theorem written (h : t.val % 3 = 2) : ((outsAt0 m c t.val t.isLt).1 : S512x1024.Idx → EReal) = (outsAt0 m c t.val t.isLt).2 := by
  rw [outsAt0_C m c t (by omega) h]
  dsimp only
  frame_out
  rfl

/-- The result array: every entry the sum over all the columns. -/
theorem array : (dats m 0 c).arrAt 2 cfg0.N = (ar2 fun i j => ∑ k ∈ range 4608, f i k * w (k / 4608) j (k % 4608) : S2048x1024.Idx → EReal) := by
  refine (dats m 0 c).arrAt_eq_of_covers 2 _ (by decide +kernel) fun t hf y => ?_
  have ht : t.val % 3 = 2 := (flush0_2 t).mp hf
  have hN : t.val < 12 := t.isLt
  rw [after0_2, written m c t ht]
  rw [Pipeline.eq_sum_fin_of_reset_step_apply_of_flush (fun n h => (outsAt0 m c n h).2) 3 (fun _ => (0 : EReal)) (fun t => part t f w)
    (fun t h i => acc_first m c t f w a0 a1 h i) (fun t h i => acc_later m c t f w a0 a1 h i) t ht, zero_add]
  unfold part ar2 bf bw
  blk_simp [e2]
  rw [show (4608 : ℕ) = 3 * 1536 from rfl, ← sum_runs, sum_range]
  refine sum_fin_eq fun s => sum_eq fun k hk => ?_
  have hs : s.val < 3 := s.isLt
  refine congrArg₂ (· * ·) (congrArg₂ f (?_ : 512 * ((3 * (t.val / 3) + s.val) / 3 % 4) + (y 0).val = _) (?_ : 1536 * ((3 * (t.val / 3) + s.val) % 3) + k = _))
    (congr (congrArg₂ w (?_ : 0 + 0 = _) (?_ : 1024 * (0) + (y 1).val = _)) (?_ : 1536 * ((3 * (t.val / 3) + s.val) % 3 % 3) + k = _)) <;> omega
end Arrays

/-- The reference's result in the same form. -/
theorem reference : Cert.ReferenceDmainIdeal.Read.val_main_v7 (F := Ideal) (ar2 f) (ar3 w)
    = (ar2 fun i j => ∑ k ∈ range 4608, f i k * w (k / 4608) j (k % 4608) : S2048x1024.Idx → EReal) := by
  funext i
  have h1 : (i 1).val < 1024 := (i 1).isLt
  rw [Cert.ReferenceDmainIdeal.Read.val_main_v7_apply, Cert.ReferenceDmainIdeal.Read.val_main_v6_apply]
  show _ = ∑ k ∈ range 4608, f (i 0).val k * w (k / 4608) (i 1).val (k % 4608)
  rw [sum_range]
  refine sum_congr rfl fun k _ => congrArg₂ (· * ·) rfl ?_
  have hk : k.val < 4608 := k.isLt
  rw [Cert.ReferenceDmainIdeal.Read.val_main_v2_apply, Cert.ReferenceDmainIdeal.Read.val_main_v1_apply]
  refine congr (congrArg₂ w (?_ : 0 = k.val / 4608) (?_ : ((i 1).val * 4608 + k.val) / 4608 = (i 1).val))
    (?_ : ((i 1).val * 4608 + k.val) % 4608 = k.val % 4608) <;> omega

/-- Both programs, from the same arguments, end with the same result. -/
theorem algebraic : Cert.algebraic_KernelDmainIdeal_ReferenceDmainIdeal := by
  intro m g m' g' _ he
  refine ⟨fun c => (dats m 0 c).arrAt 2 cfg0.N, Cert.KernelDmainIdeal.Value.run_blocks m g, ?_⟩
  refine (θ_run Cert.ReferenceDmainIdeal.defs _ _).mono (fun r h c => ?_) (Cert.ReferenceDmainIdeal.Value.run (F := Ideal) m' g')
  obtain ⟨r0, k⟩ := h c
  obtain ⟨e0, e1⟩ := he c
  refine ⟨?_, k⟩
  obtain ⟨x, hx⟩ := exists_ar2 (a := 2048) (b := 4608) (m ((c : Thread nD τ).loc main_arg0))
  obtain ⟨y, hy⟩ := exists_ar3 (a := 1) (b := 1024) (c := 4608) (m ((c : Thread nD τ).loc main_arg1))
  rw [r0, Cert.ReferenceDmainIdeal.Read.val_main_v7_eq, e0, e1]
  refine Eq.trans ?_ (array m c x y ((V_main_arg0 m c).trans hx) ((V_main_arg1 m c).trans hy)).symm
  rw [hx, hy]
  exact reference x y

end KDmain

end
-- ==== Proof.KDf.lean ====
/- The gradient of the forget gate's input: the product of the rows of the output gradient with the rows of the weight.

   The reduction runs over the blocks of the weight's columns, chip by chip. -/
module

public import proofs.«01_k».proof.Proof.Product
public import proofs.«01_k».proof.Proof.Gen.KernelDfIdeal.Value
public import proofs.«01_k».proof.Proof.Gen.ReferenceDfIdeal.Run
public import proofs.«01_k».proof.Proof.Gen.ReferenceDfIdeal.Read
public import proofs.«01_k».proof.Defs
public import Idealize.ShloMosaic.Lib.Pipeline.ValueKit.Geometry
public import Idealize.ShloMosaic.Lib.Pipeline.ValueKit.Acc

@[expose] public section

noncomputable section

namespace KDf

open Cert.KernelDfIdeal Cert.KernelDfIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, 0, 0] :=
  (by decide +kernel : ∀ t : Fin grid0.N, _)
theorem e2 : ∀ t : Fin cfg0.N, win0_2.index t = ![t.val % 4, 0] :=
  (by decide +kernel : ∀ t : Fin grid0.N, _)

/-- The printed dimension numbers are those of a product of rows with rows. -/
theorem dims : (dot_S512x128_S1024x128_S512x1024_1_1_0_0_n_n : DotDims S512x128 S1024x128 S512x1024) = DotDims.transposedRhs 512 128 1024 := rfl

variable (m : (ℓ : Loc nD τ sig) → Buf (Elt Ideal) ℓ) (c : Dev nD) (t : Fin cfg0.N) (f : ℕ → ℕ → EReal) (w : ℕ → ℕ → ℕ → EReal)

/-- The output gradient's block at a grid point. -/
def bf : ℕ → ℕ → EReal := fun a b => f (512 * (t.val % 4) + a) (128 * (0) + b)
/-- The weight's block at a grid point. -/
def bw (t : Fin cfg0.N) (w : ℕ → ℕ → ℕ → EReal) : ℕ → ℕ → ℕ → EReal := fun z a b => w (0 + z) (1024 * (0) + a) (128 * (0) + b)

theorem blk0 (X : Buf (Elt Ideal) ((c : Thread nD τ).loc (Pipeline.arrRef spec0 0))) (h : X = (ar2 f : S2048x128.Idx → EReal)) :
    (((cfg0.win 0).blk t).view.read (Elt Ideal) X : ((cfg0.win 0).xblock (cfg0.grid.coords t)).Idx → Elt Ideal (cfg0.win 0).elt)
      = (ar2 (bf t f) : S512x128.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x1024x128.Idx → EReal)) :
    (((cfg0.win 1).blk t).view.read (Elt Ideal) X : ((cfg0.win 1).xblock (cfg0.grid.coords t)).Idx → Elt Ideal (cfg0.win 1).elt)
      = (ar3 (bw t w) : S1x1024x128.Idx → EReal) := by
  subst h
  funext y
  unfold ar3 bw
  blk_simp [e1]
  congr 1 <;> omega

/-- What the body leaves in the output block. -/
theorem tile : (k0_pay3 (F := Ideal) (k0_pay2 (F := Ideal) (k0_pay1 (F := Ideal)) (ar2 (bf t f)) (ar3 (bw t w))) : S512x1024.Idx → EReal)
    = ar2 fun i j => ∑ k ∈ range 128, bf t f i k * bw t w 0 j k := by
  unfold k0_pay3 k0_pay2 k0_pay1
  dsimp only
  rw [shapeCast_self, shapeCast_self]
  simp only [zero_broadcast, zero_ar2, dims, drop_ar3, matmul_nt, addf_ar2, truncf_ar2, zero_add]

/-- The output block as the three stores' values. -/
theorem body : outsAt0 m c t = k0_pay3 (F := Ideal) (k0_pay2 (F := Ideal) (k0_pay1 (F := Ideal)) (iblk m c 0 t) (iblk m c 1 t)) := by
  unfold outsAt0
  frame_out

/-- The result array: every entry the sum over all the columns. -/
theorem array (a0 : V m c main_arg0 = (ar2 f : S2048x128.Idx → EReal)) (a1 : V m c main_arg1 = (ar3 w : S1x1024x128.Idx → EReal)) :
    (dats m 0 c).arrAt 2 cfg0.N = (ar2 fun i j => ∑ k ∈ range 128, f i k * w (k / 128) j (k % 128) : S2048x1024.Idx → EReal) := by
  refine (dats m 0 c).arrAt_eq_of_covers 2 _ (by decide +kernel) fun t hf y => ?_
  have hN : t.val < 4 := t.isLt
  rw [after0_2, body]
  rw [show iblk m c 0 t = _ from blk0 c t f _ a0, show iblk m c 1 t = _ from blk1 c t w _ a1, tile]
  unfold ar2 bf bw
  blk_simp [e2]
  refine sum_eq fun k hk => ?_
  refine congrArg₂ (· * ·) (congrArg₂ f (?_ : 512 * (t.val % 4) + (y 0).val = _) (?_ : 128 * (0) + k = _))
    (congr (congrArg₂ w (?_ : 0 + 0 = _) (?_ : 1024 * (0) + (y 1).val = _)) (?_ : 128 * (0) + k = _)) <;> omega

/-- The reference's result in the same form. -/
theorem reference : Cert.ReferenceDfIdeal.Read.val_main_v7 (F := Ideal) (ar2 f) (ar3 w)
    = (ar2 fun i j => ∑ k ∈ range 128, f i k * w (k / 128) j (k % 128) : S2048x1024.Idx → EReal) := by
  funext i
  have h1 : (i 1).val < 1024 := (i 1).isLt
  rw [Cert.ReferenceDfIdeal.Read.val_main_v7_apply, Cert.ReferenceDfIdeal.Read.val_main_v6_apply]
  show _ = ∑ k ∈ range 128, f (i 0).val k * w (k / 128) (i 1).val (k % 128)
  rw [sum_range]
  refine sum_congr rfl fun k _ => congrArg₂ (· * ·) rfl ?_
  have hk : k.val < 128 := k.isLt
  rw [Cert.ReferenceDfIdeal.Read.val_main_v2_apply, Cert.ReferenceDfIdeal.Read.val_main_v1_apply]
  refine congr (congrArg₂ w (?_ : 0 = k.val / 128) (?_ : ((i 1).val * 128 + k.val) / 128 = (i 1).val))
    (?_ : ((i 1).val * 128 + k.val) % 128 = k.val % 128) <;> omega

/-- Both programs, from the same arguments, end with the same result. -/
theorem algebraic : Cert.algebraic_KernelDfIdeal_ReferenceDfIdeal := by
  intro m g m' g' _ he
  refine ⟨fun c => (dats m 0 c).arrAt 2 cfg0.N, Cert.KernelDfIdeal.Value.run_blocks m g, ?_⟩
  refine (θ_run Cert.ReferenceDfIdeal.defs _ _).mono (fun r h c => ?_) (Cert.ReferenceDfIdeal.Value.run (F := Ideal) m' g')
  obtain ⟨r0, k⟩ := h c
  obtain ⟨e0, e1⟩ := he c
  refine ⟨?_, k⟩
  obtain ⟨x, hx⟩ := exists_ar2 (a := 2048) (b := 128) (m ((c : Thread nD τ).loc main_arg0))
  obtain ⟨y, hy⟩ := exists_ar3 (a := 1) (b := 1024) (c := 128) (m ((c : Thread nD τ).loc main_arg1))
  rw [r0, Cert.ReferenceDfIdeal.Read.val_main_v7_eq, e0, e1]
  refine Eq.trans ?_ (array m c x y ((V_main_arg0 m c).trans hx) ((V_main_arg1 m c).trans hy)).symm
  rw [hx, hy]
  exact reference x y

end KDf

end
-- ==== Proof.KDsq.lean ====
/- The gradient of the input of a square weight: the product of the rows of the output gradient with the rows of the weight.

   The reduction runs over the blocks of the weight's columns, chip by chip. -/
module

public import proofs.«01_k».proof.Proof.Product
public import proofs.«01_k».proof.Proof.Gen.KernelDsqIdeal.Value
public import proofs.«01_k».proof.Proof.Gen.ReferenceDsqIdeal.Run
public import proofs.«01_k».proof.Proof.Gen.ReferenceDsqIdeal.Read
public import proofs.«01_k».proof.Defs
public import Idealize.ShloMosaic.Lib.Pipeline.ValueKit.Geometry
public import Idealize.ShloMosaic.Lib.Pipeline.ValueKit.Acc

@[expose] public section

noncomputable section

namespace KDsq

open Cert.KernelDsqIdeal Cert.KernelDsqIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, 0, 0] :=
  (by decide +kernel : ∀ t : Fin grid0.N, _)
theorem e2 : ∀ t : Fin cfg0.N, win0_2.index t = ![t.val % 4, 0] :=
  (by decide +kernel : ∀ t : Fin grid0.N, _)

/-- The printed dimension numbers are those of a product of rows with rows. -/
theorem dims : (dot_S512x1024_S1024x1024_S512x1024_1_1_0_0_n_n : DotDims S512x1024 S1024x1024 S512x1024) = DotDims.transposedRhs 512 1024 1024 := rfl

variable (m : (ℓ : Loc nD τ sig) → Buf (Elt Ideal) ℓ) (c : Dev nD) (t : Fin cfg0.N) (f : ℕ → ℕ → EReal) (w : ℕ → ℕ → ℕ → EReal)

/-- The output gradient's block at a grid point. -/
def bf : ℕ → ℕ → EReal := fun a b => f (512 * (t.val % 4) + a) (1024 * (0) + b)
/-- The weight's block at a grid point. -/
def bw (t : Fin cfg0.N) (w : ℕ → ℕ → ℕ → EReal) : ℕ → ℕ → ℕ → EReal := fun z a b => w (0 + z) (1024 * (0) + a) (1024 * (0) + b)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf t f) : S512x1024.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x1024x1024.Idx → EReal)) :
    (((cfg0.win 1).blk t).view.read (Elt Ideal) X : ((cfg0.win 1).xblock (cfg0.grid.coords t)).Idx → Elt Ideal (cfg0.win 1).elt)
      = (ar3 (bw t w) : S1x1024x1024.Idx → EReal) := by
  subst h
  funext y
  unfold ar3 bw
  blk_simp [e1]
  congr 1 <;> omega

/-- What the body leaves in the output block. -/
theorem tile : (k0_pay3 (F := Ideal) (k0_pay2 (F := Ideal) (k0_pay1 (F := Ideal)) (ar2 (bf t f)) (ar3 (bw t w))) : S512x1024.Idx → EReal)
    = ar2 fun i j => ∑ k ∈ range 1024, bf t f i k * bw t w 0 j k := by
  unfold k0_pay3 k0_pay2 k0_pay1
  dsimp only
  rw [shapeCast_self, shapeCast_self]
  simp only [zero_broadcast, zero_ar2, dims, drop_ar3, matmul_nt, addf_ar2, truncf_ar2, zero_add]

/-- The output block as the three stores' values. -/
theorem body : outsAt0 m c t = k0_pay3 (F := Ideal) (k0_pay2 (F := Ideal) (k0_pay1 (F := Ideal)) (iblk m c 0 t) (iblk m c 1 t)) := by
  unfold outsAt0
  frame_out

/-- The result array: every entry the sum over all the columns. -/
theorem array (a0 : V m c main_arg0 = (ar2 f : S2048x1024.Idx → EReal)) (a1 : V m c main_arg1 = (ar3 w : S1x1024x1024.Idx → EReal)) :
    (dats m 0 c).arrAt 2 cfg0.N = (ar2 fun i j => ∑ k ∈ range 1024, f i k * w (k / 1024) j (k % 1024) : S2048x1024.Idx → EReal) := by
  refine (dats m 0 c).arrAt_eq_of_covers 2 _ (by decide +kernel) fun t hf y => ?_
  have hN : t.val < 4 := t.isLt
  rw [after0_2, body]
  rw [show iblk m c 0 t = _ from blk0 c t f _ a0, show iblk m c 1 t = _ from blk1 c t w _ a1, tile]
  unfold ar2 bf bw
  blk_simp [e2]
  refine sum_eq fun k hk => ?_
  refine congrArg₂ (· * ·) (congrArg₂ f (?_ : 512 * (t.val % 4) + (y 0).val = _) (?_ : 1024 * (0) + k = _))
    (congr (congrArg₂ w (?_ : 0 + 0 = _) (?_ : 1024 * (0) + (y 1).val = _)) (?_ : 1024 * (0) + k = _)) <;> omega

/-- The reference's result in the same form. -/
theorem reference : Cert.ReferenceDsqIdeal.Read.val_main_v7 (F := Ideal) (ar2 f) (ar3 w)
    = (ar2 fun i j => ∑ k ∈ range 1024, f i k * w (k / 1024) j (k % 1024) : S2048x1024.Idx → EReal) := by
  funext i
  have h1 : (i 1).val < 1024 := (i 1).isLt
  rw [Cert.ReferenceDsqIdeal.Read.val_main_v7_apply, Cert.ReferenceDsqIdeal.Read.val_main_v6_apply]
  show _ = ∑ k ∈ range 1024, f (i 0).val k * w (k / 1024) (i 1).val (k % 1024)
  rw [sum_range]
  refine sum_congr rfl fun k _ => congrArg₂ (· * ·) rfl ?_
  have hk : k.val < 1024 := k.isLt
  rw [Cert.ReferenceDsqIdeal.Read.val_main_v2_apply, Cert.ReferenceDsqIdeal.Read.val_main_v1_apply]
  refine congr (congrArg₂ w (?_ : 0 = k.val / 1024) (?_ : ((i 1).val * 1024 + k.val) / 1024 = (i 1).val))
    (?_ : ((i 1).val * 1024 + k.val) % 1024 = k.val % 1024) <;> omega

/-- Both programs, from the same arguments, end with the same result. -/
theorem algebraic : Cert.algebraic_KernelDsqIdeal_ReferenceDsqIdeal := by
  intro m g m' g' _ he
  refine ⟨fun c => (dats m 0 c).arrAt 2 cfg0.N, Cert.KernelDsqIdeal.Value.run_blocks m g, ?_⟩
  refine (θ_run Cert.ReferenceDsqIdeal.defs _ _).mono (fun r h c => ?_) (Cert.ReferenceDsqIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar3 (a := 1) (b := 1024) (c := 1024) (m ((c : Thread nD τ).loc main_arg1))
  rw [r0, Cert.ReferenceDsqIdeal.Read.val_main_v7_eq, e0, e1]
  refine Eq.trans ?_ (array m c x y ((V_main_arg0 m c).trans hx) ((V_main_arg1 m c).trans hy)).symm
  rw [hx, hy]
  exact reference x y

end KDsq

end
-- ==== Proof.KDatt.lean ====
/- The gradient of the attention's or the convolution's output: the product of the rows of the output gradient with the rows of the weight.

   The reduction runs over the blocks of the weight's columns, chip by chip, in an accumulator kept between grid points. -/
module

public import proofs.«01_k».proof.Proof.Product
public import proofs.«01_k».proof.Proof.Gen.KernelDattIdeal.Value
public import proofs.«01_k».proof.Proof.Gen.ReferenceDattIdeal.Run
public import proofs.«01_k».proof.Proof.Gen.ReferenceDattIdeal.Read
public import proofs.«01_k».proof.Defs
public import Idealize.ShloMosaic.Lib.Pipeline.ValueKit.Geometry
public import Idealize.ShloMosaic.Lib.Pipeline.ValueKit.Acc

@[expose] public section

noncomputable section

namespace KDatt

open Cert.KernelDattIdeal Cert.KernelDattIdeal.Gen Idealize.ShloMosaic Idealize.ShloMosaic.TcCoe Idealize.SL.Sem Product Finset

theorem e0 : ∀ t : Fin cfg0.N, win0_0.index t = ![t.val / 4 % 4, t.val % 4] :=
  (by decide +kernel : ∀ t : Fin grid0.N, _)
theorem e1 : ∀ t : Fin cfg0.N, win0_1.index t = ![t.val % 4, 0, 0] :=
  (by decide +kernel : ∀ t : Fin grid0.N, _)
theorem e2 : ∀ t : Fin cfg0.N, win0_2.index t = ![t.val / 4 % 4, 0] :=
  (by decide +kernel : ∀ t : Fin grid0.N, _)

/-- The printed dimension numbers are those of a product of rows with rows. -/
theorem dims : (dot_S512x256_S512x256_S512x512_1_1_0_0_n_n : DotDims S512x256 S512x256 S512x512) = DotDims.transposedRhs 512 256 512 := rfl

variable (m : (ℓ : Loc nD τ sig) → Buf (Elt Ideal) ℓ) (c : Dev nD) (t : Fin cfg0.N) (f : ℕ → ℕ → EReal) (w : ℕ → ℕ → ℕ → EReal)

/-- The output gradient's block at a grid point. -/
def bf : ℕ → ℕ → EReal := fun a b => f (512 * (t.val / 4 % 4) + a) (256 * (t.val % 4) + b)
/-- The weight's block at a grid point. -/
def bw : ℕ → ℕ → ℕ → EReal := fun z a b => w (t.val % 4 + z) (512 * (0) + a) (256 * (0) + b)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf t f) : S512x256.Idx → EReal) := by
  subst h
  funext y
  unfold ar2 bf
  blk_simp [e0]
  congr 1 <;> omega
theorem blk1 (X : Buf (Elt Ideal) ((c : Thread nD τ).loc (Pipeline.arrRef spec0 1))) (h : X = (ar3 w : S4x512x256.Idx → EReal)) :
    (((cfg0.win 1).blk t).view.read (Elt Ideal) X : ((cfg0.win 1).xblock (cfg0.grid.coords t)).Idx → Elt Ideal (cfg0.win 1).elt)
      = (ar3 (bw t w) : S1x512x256.Idx → EReal) := by
  subst h
  funext y
  unfold ar3 bw
  blk_simp [e1]
  congr 1 <;> omega

/-- A grid point's share of the product. -/
def part : S512x512.Idx → EReal := ar2 fun i j => ∑ k ∈ range 256, bf t f i k * bw t w 0 j k

/-- The accumulator starts at zero. -/
theorem start : (k0_pay1 (F := Ideal) : S512x512.Idx → EReal) = ar2 fun _ _ => 0 := by
  unfold k0_pay1
  dsimp only
  rw [shapeCast_self]
  exact zero_broadcast
/-- One point adds its share. -/
theorem step (a : S512x512.Idx → EReal) : (k0_pay2 (F := Ideal) a (ar2 (bf t f)) (ar3 (bw t w)) : S512x512.Idx → EReal) = fun i => a i + part t f w i := by
  obtain ⟨h, rfl⟩ := exists_ar2 a
  unfold k0_pay2
  dsimp only
  rw [shapeCast_self]
  simp only [zero_ar2, dims, drop_ar3, matmul_nt, addf_ar2, zero_add]
  rfl

section Arrays
variable (a0 : V m c main_arg0 = (ar2 f : S2048x1024.Idx → EReal)) (a1 : V m c main_arg1 = (ar3 w : S4x512x256.Idx → EReal))
include a0 a1

/-- The accumulator after the first point of a run. -/
theorem acc_first (h : t.val % 4 = 0) (i : S512x512.Idx) : (outsAt0 m c t.val t.isLt).2 i = 0 + part t f w i := by
  have h1 : ¬t.val % 4 = 3 := by omega
  rw [outsAt0_A m c t h h1]
  frame_out
  rw [show iblk m c 0 t = _ from blk0 c t f _ a0, show iblk m c 1 t = _ from blk1 c t w _ a1, start, step]
  rfl
/-- The accumulator after a later point. -/
theorem acc_later (h : ¬t.val % 4 = 0) (i : S512x512.Idx) : (outsAt0 m c t.val t.isLt).2 i
    = (outsAt0 m c (t.val - 1) (Nat.lt_of_le_of_lt (Nat.sub_le _ _) t.isLt)).2 i + part t f w i := by
  by_cases h1 : t.val % 4 = 3
  · rw [outsAt0_C m c t h h1]
    frame_out
    rw [show iblk m c 0 t = _ from blk0 c t f _ a0, show iblk m c 1 t = _ from blk1 c t w _ a1, step]
    exact congrArg (· + part t f w i) (congrFun (Memref.IsWhole.read_unread _ _) i)
  · rw [outsAt0_B m c t h h1]
    frame_out
    rw [show iblk m c 0 t = _ from blk0 c t f _ a0, show iblk m c 1 t = _ from blk1 c t w _ a1, step]
    exact congrArg (· + part t f w i) (congrFun (Memref.IsWhole.read_unread _ _) i)
omit a0 a1 in
/-- The block written back is the accumulator. -/
theorem written (h : t.val % 4 = 3) : ((outsAt0 m c t.val t.isLt).1 : S512x512.Idx → EReal) = (outsAt0 m c t.val t.isLt).2 := by
  rw [outsAt0_C m c t (by omega) h]
  dsimp only
  frame_out
  rfl

/-- The result array: every entry the sum over all the columns. -/
theorem array : (dats m 0 c).arrAt 2 cfg0.N = (ar2 fun i j => ∑ k ∈ range 1024, f i k * w (k / 256) j (k % 256) : S2048x512.Idx → EReal) := by
  refine (dats m 0 c).arrAt_eq_of_covers 2 _ (by decide +kernel) fun t hf y => ?_
  have ht : t.val % 4 = 3 := (flush0_2 t).mp hf
  have hN : t.val < 16 := t.isLt
  rw [after0_2, written m c t ht]
  rw [Pipeline.eq_sum_fin_of_reset_step_apply_of_flush (fun n h => (outsAt0 m c n h).2) 4 (fun _ => (0 : EReal)) (fun t => part t f w)
    (fun t h i => acc_first m c t f w a0 a1 h i) (fun t h i => acc_later m c t f w a0 a1 h i) t ht, zero_add]
  unfold part ar2 bf bw
  blk_simp [e2]
  rw [show (1024 : ℕ) = 4 * 256 from rfl, ← sum_runs, sum_range]
  refine sum_fin_eq fun s => sum_eq fun k hk => ?_
  have hs : s.val < 4 := s.isLt
  refine congrArg₂ (· * ·) (congrArg₂ f (?_ : 512 * ((4 * (t.val / 4) + s.val) / 4 % 4) + (y 0).val = _) (?_ : 256 * ((4 * (t.val / 4) + s.val) % 4) + k = _))
    (congr (congrArg₂ w (?_ : (4 * (t.val / 4) + s.val) % 4 + 0 = _) (?_ : 512 * (0) + (y 1).val = _)) (?_ : 256 * (0) + k = _)) <;> omega
end Arrays

/-- The reference's result in the same form. -/
theorem reference : Cert.ReferenceDattIdeal.Read.val_main_v7 (F := Ideal) (ar2 f) (ar3 w)
    = (ar2 fun i j => ∑ k ∈ range 1024, f i k * w (k / 256) j (k % 256) : S2048x512.Idx → EReal) := by
  funext i
  have h1 : (i 1).val < 512 := (i 1).isLt
  rw [Cert.ReferenceDattIdeal.Read.val_main_v7_apply, Cert.ReferenceDattIdeal.Read.val_main_v6_apply]
  show _ = ∑ k ∈ range 1024, f (i 0).val k * w (k / 256) (i 1).val (k % 256)
  rw [sum_range]
  refine sum_congr rfl fun k _ => congrArg₂ (· * ·) rfl ?_
  have hk : k.val < 1024 := k.isLt
  rw [Cert.ReferenceDattIdeal.Read.val_main_v2_apply, Cert.ReferenceDattIdeal.Read.val_main_v1_apply]
  refine congr (congrArg₂ w (?_ : ((i 1).val * 1024 + k.val) / 256 % 4 = k.val / 256) (?_ : ((i 1).val * 1024 + k.val) / 1024 = (i 1).val))
    (?_ : ((i 1).val * 1024 + k.val) % 256 = k.val % 256) <;> omega

/-- Both programs, from the same arguments, end with the same result. -/
theorem algebraic : Cert.algebraic_KernelDattIdeal_ReferenceDattIdeal := by
  intro m g m' g' _ he
  refine ⟨fun c => (dats m 0 c).arrAt 2 cfg0.N, Cert.KernelDattIdeal.Value.run_blocks m g, ?_⟩
  refine (θ_run Cert.ReferenceDattIdeal.defs _ _).mono (fun r h c => ?_) (Cert.ReferenceDattIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar3 (a := 4) (b := 512) (c := 256) (m ((c : Thread nD τ).loc main_arg1))
  rw [r0, Cert.ReferenceDattIdeal.Read.val_main_v7_eq, e0, e1]
  refine Eq.trans ?_ (array m c x y ((V_main_arg0 m c).trans hx) ((V_main_arg1 m c).trans hy)).symm
  rw [hx, hy]
  exact reference x y

end KDatt

end
-- ==== Proof.KZin.lean ====
/- The feed-forward block's input product: the product of the input's rows with the weight.

   Every grid point multiplies one block of rows by one block of one chip's columns. -/
module

public import proofs.«01_k».proof.Proof.Product
public import proofs.«01_k».proof.Proof.Gen.KernelZinIdeal.Value
public import proofs.«01_k».proof.Proof.Gen.ReferenceZinIdeal.Run
public import proofs.«01_k».proof.Proof.Gen.ReferenceZinIdeal.Read
public import proofs.«01_k».proof.Defs
public import Idealize.ShloMosaic.Lib.Pipeline.ValueKit.Geometry
public import Idealize.ShloMosaic.Lib.Pipeline.ValueKit.Acc

@[expose] public section

noncomputable section

namespace KZin

open Cert.KernelZinIdeal Cert.KernelZinIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![t.val / 4, 0, 0] :=
  (by decide +kernel : ∀ t : Fin grid0.N, _)
theorem e2 : ∀ t : Fin cfg0.N, win0_2.index t = ![t.val % 4, t.val / 4] :=
  (by decide +kernel : ∀ t : Fin grid0.N, _)

/-- The printed dimension numbers are those of a product of rows with columns. -/
theorem dims : (dot_S512x1024_S1024x1408_S512x1408_1_0_0_1_n_n : DotDims S512x1024 S1024x1408 S512x1408) = DotDims.plain 512 1024 1408 := rfl

variable (m : (ℓ : Loc nD τ sig) → Buf (Elt Ideal) ℓ) (c : Dev nD) (f : ℕ → ℕ → EReal) (w : ℕ → ℕ → ℕ → EReal)

/-- The rows at a grid point. -/
def bf (t : Fin cfg0.N) : ℕ → ℕ → EReal := fun a b => f (512 * (t.val % 4) + a) (1024 * 0 + b)
/-- The weight's block at a grid point. -/
def bw (t : Fin cfg0.N) : ℕ → ℕ → ℕ → EReal := fun z a b => w (t.val / 4 + z) (1024 * 0 + a) (1408 * (0) + b)

variable (t : Fin cfg0.N)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf f t) : S512x1024.Idx → EReal) := by
  subst h
  funext y
  unfold ar2 bf
  blk_simp [e0]
  congr 1 <;> omega
theorem blk1 (X : Buf (Elt Ideal) ((c : Thread nD τ).loc (Pipeline.arrRef spec0 1))) (h : X = (ar3 w : S4x1024x1408.Idx → EReal)) :
    (((cfg0.win 1).blk t).view.read (Elt Ideal) X : ((cfg0.win 1).xblock (cfg0.grid.coords t)).Idx → Elt Ideal (cfg0.win 1).elt)
      = (ar3 (bw w t) : S1x1024x1408.Idx → EReal) := by
  subst h
  funext y
  unfold ar3 bw
  blk_simp [e1]
  congr 1 <;> omega

/-- What the body makes of its blocks. -/
theorem tile : (k0_pay1 (F := Ideal) (ar2 (bf f t)) (ar3 (bw w t)) : S512x1408.Idx → EReal) = ar2 fun i j => ∑ k ∈ range 1024, bf f t i k * bw w t 0 k j := by
  unfold k0_pay1
  dsimp only
  simp only [zero_ar2, dims, drop_ar3, matmul_nn, truncf_ar2, zero_add]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x1024.Idx → EReal)) (a1 : V m c main_arg1 = (ar3 w : S4x1024x1408.Idx → EReal)) :
    (dats m 0 c).arrAt 2 cfg0.N = (ar2 fun i j => ∑ k ∈ range 1024, f i k * w (j / 1408) k (j % 1408) : S2048x5632.Idx → EReal) := by
  refine (dats m 0 c).arrAt_eq_of_covers 2 _ (by decide +kernel) fun t hf y => ?_
  have hN : t.val < 16 := t.isLt
  have hy : (y 1).val < 1408 := (y 1).isLt
  rw [after0_2, body]
  rw [show iblk m c 0 t = _ from blk0 c f t _ a0, show iblk m c 1 t = _ from blk1 c w t _ a1, tile]
  unfold ar2 bf bw
  blk_simp [e2]
  refine sum_eq fun k hk => ?_
  refine congrArg₂ (· * ·) (congrArg₂ f (?_ : 512 * (t.val % 4) + (y 0).val = _) (?_ : 1024 * 0 + k = _))
    (congr (congrArg₂ w (?_ : t.val / 4 + 0 = (t.val / 4 * 1408 + (y 1).val) / 1408) (?_ : 1024 * 0 + k = _)) (?_ : 1408 * (0) + (y 1).val = (t.val / 4 * 1408 + (y 1).val) % 1408)) <;> omega

/-- The reference's result in the same form. -/
theorem reference : Cert.ReferenceZinIdeal.Read.val_main_v5 (F := Ideal) (ar2 f) (ar3 w)
    = (ar2 fun i j => ∑ k ∈ range 1024, f i k * w (j / 1408) k (j % 1408) : S2048x5632.Idx → EReal) := by
  funext i
  have h0 : (i 0).val < 2048 := (i 0).isLt
  have h1 : (i 1).val < 5632 := (i 1).isLt
  rw [Cert.ReferenceZinIdeal.Read.val_main_v5_apply, Cert.ReferenceZinIdeal.Read.val_main_v4_apply]
  show _ = ∑ k ∈ range 1024, f (i 0).val k * w ((i 1).val / 1408) k ((i 1).val % 1408)
  rw [sum_range]
  refine sum_congr rfl fun k _ => congrArg₂ (· * ·) rfl ?_
  have hk : k.val < 1024 := k.isLt
  rw [Cert.ReferenceZinIdeal.Read.val_main_v3_apply, Cert.ReferenceZinIdeal.Read.val_main_v2_apply, Cert.ReferenceZinIdeal.Read.val_main_v1_apply]
  refine congr (congrArg₂ w (?_ : (k.val * 5632 + (i 1).val) / 1408 % 4 = (i 1).val / 1408) (?_ : (k.val * 5632 + (i 1).val) / 5632 = k.val))
    (?_ : (k.val * 5632 + (i 1).val) % 1408 = (i 1).val % 1408) <;> omega

/-- Both programs, from the same arguments, end with the same result. -/
theorem algebraic : Cert.algebraic_KernelZinIdeal_ReferenceZinIdeal := by
  intro m g m' g' _ he
  refine ⟨fun c => (dats m 0 c).arrAt 2 cfg0.N, Cert.KernelZinIdeal.Value.run_blocks m g, ?_⟩
  refine (θ_run Cert.ReferenceZinIdeal.defs _ _).mono (fun r h c => ?_) (Cert.ReferenceZinIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar3 (a := 4) (b := 1024) (c := 1408) (m ((c : Thread nD τ).loc main_arg1))
  rw [r0, Cert.ReferenceZinIdeal.Read.val_main_v5_eq, e0, e1]
  refine Eq.trans ?_ (array m c x y ((V_main_arg0 m c).trans hx) ((V_main_arg1 m c).trans hy)).symm
  rw [hx, hy]
  exact reference x y

end KZin

end
-- ==== Proof.KZout.lean ====
/- The feed-forward block's output product: the product of the input's rows with the weight, added to the residual.

   Every grid point multiplies one block of rows by one block of one chip's columns. -/
module

public import proofs.«01_k».proof.Proof.Product
public import proofs.«01_k».proof.Proof.Gen.KernelZoutIdeal.Value
public import proofs.«01_k».proof.Proof.Gen.ReferenceZoutIdeal.Run
public import proofs.«01_k».proof.Proof.Gen.ReferenceZoutIdeal.Read
public import proofs.«01_k».proof.Defs
public import Idealize.ShloMosaic.Lib.Pipeline.ValueKit.Geometry
public import Idealize.ShloMosaic.Lib.Pipeline.ValueKit.Acc

@[expose] public section

noncomputable section

namespace KZout

open Cert.KernelZoutIdeal Cert.KernelZoutIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, 0, 0] :=
  (by decide +kernel : ∀ t : Fin grid0.N, _)
theorem e2 : ∀ t : Fin cfg0.N, win0_2.index t = ![t.val % 4, 0] :=
  (by decide +kernel : ∀ t : Fin grid0.N, _)
theorem e3 : ∀ t : Fin cfg0.N, win0_3.index t = ![t.val % 4, 0] :=
  (by decide +kernel : ∀ t : Fin grid0.N, _)

/-- The printed dimension numbers are those of a product of rows with columns. -/
theorem dims : (dot_S512x2816_S2816x1024_S512x1024_1_0_0_1_n_n : DotDims S512x2816 S2816x1024 S512x1024) = DotDims.plain 512 2816 1024 := rfl

/-- The factor of the residual step. -/
def half : EReal := Ideal.ofBits .f32 0x3F000000#32

variable (m : (ℓ : Loc nD τ sig) → Buf (Elt Ideal) ℓ) (c : Dev nD) (f : ℕ → ℕ → EReal) (w : ℕ → ℕ → ℕ → EReal) (h : ℕ → ℕ → EReal)

/-- The rows at a grid point. -/
def bf (t : Fin cfg0.N) : ℕ → ℕ → EReal := fun a b => f (512 * (t.val % 4) + a) (2816 * 0 + b)
/-- The weight's block at a grid point. -/
def bw (t : Fin cfg0.N) : ℕ → ℕ → ℕ → EReal := fun z a b => w (0 + z) (2816 * 0 + a) (1024 * (0) + b)
/-- The residual's block at a grid point. -/
def bh (t : Fin cfg0.N) : ℕ → ℕ → EReal := fun a b => h (512 * (t.val % 4) + a) (1024 * (0) + b)

variable (t : Fin cfg0.N)

theorem blk0 (X : Buf (Elt Ideal) ((c : Thread nD τ).loc (Pipeline.arrRef spec0 0))) (h : X = (ar2 f : S2048x2816.Idx → EReal)) :
    (((cfg0.win 0).blk t).view.read (Elt Ideal) X : ((cfg0.win 0).xblock (cfg0.grid.coords t)).Idx → Elt Ideal (cfg0.win 0).elt)
      = (ar2 (bf f t) : S512x2816.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x2816x1024.Idx → EReal)) :
    (((cfg0.win 1).blk t).view.read (Elt Ideal) X : ((cfg0.win 1).xblock (cfg0.grid.coords t)).Idx → Elt Ideal (cfg0.win 1).elt)
      = (ar3 (bw w t) : S1x2816x1024.Idx → EReal) := by
  subst h
  funext y
  unfold ar3 bw
  blk_simp [e1]
  congr 1 <;> omega
theorem blk2 (X : Buf (Elt Ideal) ((c : Thread nD τ).loc (Pipeline.arrRef spec0 2))) (e : X = (ar2 h : S2048x1024.Idx → EReal)) :
    (((cfg0.win 2).blk t).view.read (Elt Ideal) X : ((cfg0.win 2).xblock (cfg0.grid.coords t)).Idx → Elt Ideal (cfg0.win 2).elt)
      = (ar2 (bh h t) : S512x1024.Idx → EReal) := by
  subst e
  funext y
  unfold ar2 bh
  blk_simp [e2]
  congr 1 <;> omega

/-- What the body makes of its blocks. -/
theorem tile : (k0_pay1 (F := Ideal) (ar2 (bf f t)) (ar3 (bw w t)) (ar2 (bh h t)) : S512x1024.Idx → EReal) = ar2 fun i j => bh h t i j + half * ∑ k ∈ range 2816, bf f t i k * bw w t 0 k j := by
  unfold k0_pay1
  dsimp only
  simp only [zero_ar2, dims, drop_ar3, matmul_nn, zero_add]
  rfl

/-- The output block as the store's value. -/
theorem body : out0_3 (iblk m c 0 t) (iblk m c 1 t) (iblk m c 2 t) = k0_pay1 (F := Ideal) (iblk m c 0 t) (iblk m c 1 t) (iblk m c 2 t) := by
  unfold out0_3
  frame_out

/-- The result array. -/
theorem array (a0 : V m c main_arg0 = (ar2 f : S2048x2816.Idx → EReal)) (a1 : V m c main_arg1 = (ar3 w : S1x2816x1024.Idx → EReal)) (a2 : V m c main_arg2 = (ar2 h : S2048x1024.Idx → EReal)) :
    (dats m 0 c).arrAt 3 cfg0.N = (ar2 fun i j => h i j + half * (∑ k ∈ range 2816, f i k * w (j / 1024) k (j % 1024)) : S2048x1024.Idx → EReal) := by
  refine (dats m 0 c).arrAt_eq_of_covers 3 _ (by decide +kernel) fun t hf y => ?_
  have hN : t.val < 4 := t.isLt
  have hy : (y 1).val < 1024 := (y 1).isLt
  rw [after0_3, body]
  rw [show iblk m c 0 t = _ from blk0 c f t _ a0, show iblk m c 1 t = _ from blk1 c w t _ a1, show iblk m c 2 t = _ from blk2 c h t _ a2, tile]
  unfold ar2 bf bw bh
  blk_simp [e3]
  refine congrArg₂ (· + ·) (congrArg₂ h (?_ : 512 * (t.val % 4) + (y 0).val = _) (?_ : 1024 * (0) + (y 1).val = _)) (congrArg (half * ·) (sum_eq fun k hk => ?_))
  · omega
  · omega
  refine congrArg₂ (· * ·) (congrArg₂ f (?_ : 512 * (t.val % 4) + (y 0).val = _) (?_ : 2816 * 0 + k = _))
    (congr (congrArg₂ w (?_ : 0 + 0 = ((y 1).val) / 1024) (?_ : 2816 * 0 + k = _)) (?_ : 1024 * (0) + (y 1).val = ((y 1).val) % 1024)) <;> omega

/-- The reference's result in the same form. -/
theorem reference : Cert.ReferenceZoutIdeal.Read.val_main_v7 (F := Ideal) (ar2 f) (ar3 w) (ar2 h)
    = (ar2 fun i j => h i j + half * (∑ k ∈ range 2816, f i k * w (j / 1024) k (j % 1024)) : S2048x1024.Idx → EReal) := by
  funext i
  have h0 : (i 0).val < 2048 := (i 0).isLt
  have h1 : (i 1).val < 1024 := (i 1).isLt
  rw [Cert.ReferenceZoutIdeal.Read.val_main_v7_apply, Cert.ReferenceZoutIdeal.Read.val_main_v6_apply, Cert.ReferenceZoutIdeal.Read.val_main_v4_apply]
  show _ = h (i 0).val (i 1).val + half * (∑ k ∈ range 2816, f (i 0).val k * w ((i 1).val / 1024) k ((i 1).val % 1024))
  refine congrArg (h (i 0).val (i 1).val + half * ·) ?_
  rw [sum_range]
  refine sum_congr rfl fun k _ => congrArg₂ (· * ·) rfl ?_
  have hk : k.val < 2816 := k.isLt
  rw [Cert.ReferenceZoutIdeal.Read.val_main_v3_apply, Cert.ReferenceZoutIdeal.Read.val_main_v2_apply, Cert.ReferenceZoutIdeal.Read.val_main_v1_apply]
  refine congr (congrArg₂ w (?_ : 0 = (i 1).val / 1024) (?_ : (k.val * 1024 + (i 1).val) / 1024 = k.val))
    (?_ : (k.val * 1024 + (i 1).val) % 1024 = (i 1).val % 1024) <;> omega

/-- Both programs, from the same arguments, end with the same result. -/
theorem algebraic : Cert.algebraic_KernelZoutIdeal_ReferenceZoutIdeal := by
  intro m g m' g' _ he
  refine ⟨fun c => (dats m 0 c).arrAt 3 cfg0.N, Cert.KernelZoutIdeal.Value.run_blocks m g, ?_⟩
  refine (θ_run Cert.ReferenceZoutIdeal.defs _ _).mono (fun r h c => ?_) (Cert.ReferenceZoutIdeal.Value.run (F := Ideal) m' g')
  obtain ⟨r0, k⟩ := h c
  obtain ⟨e0, e1, e2⟩ := he c
  refine ⟨?_, k⟩
  obtain ⟨x, hx⟩ := exists_ar2 (a := 2048) (b := 2816) (m ((c : Thread nD τ).loc main_arg0))
  obtain ⟨y, hy⟩ := exists_ar3 (a := 1) (b := 2816) (c := 1024) (m ((c : Thread nD τ).loc main_arg1))
  obtain ⟨z, hz⟩ := exists_ar2 (a := 2048) (b := 1024) (m ((c : Thread nD τ).loc main_arg2))
  rw [r0, Cert.ReferenceZoutIdeal.Read.val_main_v7_eq, e0, e1, e2]
  refine Eq.trans ?_ (array m c x y z ((V_main_arg0 m c).trans hx) ((V_main_arg1 m c).trans hy) ((V_main_arg2 m c).trans hz)).symm
  rw [hx, hy, hz]
  exact reference x y z

end KZout

end
-- ==== Proof.KZmain.lean ====
/- The main input product of the mixers: the product of the input's rows with the weight.

   Every grid point multiplies one block of rows by one block of one chip's columns. -/
module

public import proofs.«01_k».proof.Proof.Product
public import proofs.«01_k».proof.Proof.Gen.KernelZmainIdeal.Value
public import proofs.«01_k».proof.Proof.Gen.ReferenceZmainIdeal.Run
public import proofs.«01_k».proof.Proof.Gen.ReferenceZmainIdeal.Read
public import proofs.«01_k».proof.Defs
public import Idealize.ShloMosaic.Lib.Pipeline.ValueKit.Geometry
public import Idealize.ShloMosaic.Lib.Pipeline.ValueKit.Acc

@[expose] public section

noncomputable section

namespace KZmain

open Cert.KernelZmainIdeal Cert.KernelZmainIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, 0, t.val / 4] :=
  (by decide +kernel : ∀ t : Fin grid0.N, _)
theorem e2 : ∀ t : Fin cfg0.N, win0_2.index t = ![t.val % 4, t.val / 4] :=
  (by decide +kernel : ∀ t : Fin grid0.N, _)

/-- The printed dimension numbers are those of a product of rows with columns. -/
theorem dims : (dot_S512x1024_S1024x768_S512x768_1_0_0_1_n_n : DotDims S512x1024 S1024x768 S512x768) = DotDims.plain 512 1024 768 := rfl

variable (m : (ℓ : Loc nD τ sig) → Buf (Elt Ideal) ℓ) (c : Dev nD) (f : ℕ → ℕ → EReal) (w : ℕ → ℕ → ℕ → EReal)

/-- The rows at a grid point. -/
def bf (t : Fin cfg0.N) : ℕ → ℕ → EReal := fun a b => f (512 * (t.val % 4) + a) (1024 * 0 + b)
/-- The weight's block at a grid point. -/
def bw (t : Fin cfg0.N) : ℕ → ℕ → ℕ → EReal := fun z a b => w (0 + z) (1024 * 0 + a) (768 * (t.val / 4) + b)

variable (t : Fin cfg0.N)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf f t) : S512x1024.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x1024x4608.Idx → EReal)) :
    (((cfg0.win 1).blk t).view.read (Elt Ideal) X : ((cfg0.win 1).xblock (cfg0.grid.coords t)).Idx → Elt Ideal (cfg0.win 1).elt)
      = (ar3 (bw w t) : S1x1024x768.Idx → EReal) := by
  subst h
  funext y
  unfold ar3 bw
  blk_simp [e1]
  congr 1 <;> omega

/-- What the body makes of its blocks. -/
theorem tile : (k0_pay1 (F := Ideal) (ar2 (bf f t)) (ar3 (bw w t)) : S512x768.Idx → EReal) = ar2 fun i j => ∑ k ∈ range 1024, bf f t i k * bw w t 0 k j := by
  unfold k0_pay1
  dsimp only
  simp only [zero_ar2, dims, drop_ar3, matmul_nn, truncf_ar2, zero_add]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x1024.Idx → EReal)) (a1 : V m c main_arg1 = (ar3 w : S1x1024x4608.Idx → EReal)) :
    (dats m 0 c).arrAt 2 cfg0.N = (ar2 fun i j => ∑ k ∈ range 1024, f i k * w (j / 4608) k (j % 4608) : S2048x4608.Idx → EReal) := by
  refine (dats m 0 c).arrAt_eq_of_covers 2 _ (by decide +kernel) fun t hf y => ?_
  have hN : t.val < 24 := t.isLt
  have hy : (y 1).val < 768 := (y 1).isLt
  rw [after0_2, body]
  rw [show iblk m c 0 t = _ from blk0 c f t _ a0, show iblk m c 1 t = _ from blk1 c w t _ a1, tile]
  unfold ar2 bf bw
  blk_simp [e2]
  refine sum_eq fun k hk => ?_
  refine congrArg₂ (· * ·) (congrArg₂ f (?_ : 512 * (t.val % 4) + (y 0).val = _) (?_ : 1024 * 0 + k = _))
    (congr (congrArg₂ w (?_ : 0 + 0 = (t.val / 4 * 768 + (y 1).val) / 4608) (?_ : 1024 * 0 + k = _)) (?_ : 768 * (t.val / 4) + (y 1).val = (t.val / 4 * 768 + (y 1).val) % 4608)) <;> omega

/-- The reference's result in the same form. -/
theorem reference : Cert.ReferenceZmainIdeal.Read.val_main_v5 (F := Ideal) (ar2 f) (ar3 w)
    = (ar2 fun i j => ∑ k ∈ range 1024, f i k * w (j / 4608) k (j % 4608) : S2048x4608.Idx → EReal) := by
  funext i
  have h0 : (i 0).val < 2048 := (i 0).isLt
  have h1 : (i 1).val < 4608 := (i 1).isLt
  rw [Cert.ReferenceZmainIdeal.Read.val_main_v5_apply, Cert.ReferenceZmainIdeal.Read.val_main_v4_apply]
  show _ = ∑ k ∈ range 1024, f (i 0).val k * w ((i 1).val / 4608) k ((i 1).val % 4608)
  rw [sum_range]
  refine sum_congr rfl fun k _ => congrArg₂ (· * ·) rfl ?_
  have hk : k.val < 1024 := k.isLt
  rw [Cert.ReferenceZmainIdeal.Read.val_main_v3_apply, Cert.ReferenceZmainIdeal.Read.val_main_v2_apply, Cert.ReferenceZmainIdeal.Read.val_main_v1_apply]
  refine congr (congrArg₂ w (?_ : 0 = (i 1).val / 4608) (?_ : (k.val * 4608 + (i 1).val) / 4608 = k.val))
    (?_ : (k.val * 4608 + (i 1).val) % 4608 = (i 1).val % 4608) <;> omega

/-- Both programs, from the same arguments, end with the same result. -/
theorem algebraic : Cert.algebraic_KernelZmainIdeal_ReferenceZmainIdeal := by
  intro m g m' g' _ he
  refine ⟨fun c => (dats m 0 c).arrAt 2 cfg0.N, Cert.KernelZmainIdeal.Value.run_blocks m g, ?_⟩
  refine (θ_run Cert.ReferenceZmainIdeal.defs _ _).mono (fun r h c => ?_) (Cert.ReferenceZmainIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar3 (a := 1) (b := 1024) (c := 4608) (m ((c : Thread nD τ).loc main_arg1))
  rw [r0, Cert.ReferenceZmainIdeal.Read.val_main_v5_eq, e0, e1]
  refine Eq.trans ?_ (array m c x y ((V_main_arg0 m c).trans hx) ((V_main_arg1 m c).trans hy)).symm
  rw [hx, hy]
  exact reference x y

end KZmain

end
-- ==== Proof.KZf.lean ====
/- The forget gate's product: the product of the input's rows with the weight.

   Every grid point multiplies one block of rows by one block of one chip's columns. -/
module

public import proofs.«01_k».proof.Proof.Product
public import proofs.«01_k».proof.Proof.Gen.KernelZfIdeal.Value
public import proofs.«01_k».proof.Proof.Gen.ReferenceZfIdeal.Run
public import proofs.«01_k».proof.Proof.Gen.ReferenceZfIdeal.Read
public import proofs.«01_k».proof.Defs
public import Idealize.ShloMosaic.Lib.Pipeline.ValueKit.Geometry
public import Idealize.ShloMosaic.Lib.Pipeline.ValueKit.Acc

@[expose] public section

noncomputable section

namespace KZf

open Cert.KernelZfIdeal Cert.KernelZfIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, 0, 0] :=
  (by decide +kernel : ∀ t : Fin grid0.N, _)
theorem e2 : ∀ t : Fin cfg0.N, win0_2.index t = ![t.val % 4, 0] :=
  (by decide +kernel : ∀ t : Fin grid0.N, _)

/-- The printed dimension numbers are those of a product of rows with columns. -/
theorem dims : (dot_S512x1024_S1024x128_S512x128_1_0_0_1_n_n : DotDims S512x1024 S1024x128 S512x128) = DotDims.plain 512 1024 128 := rfl

variable (m : (ℓ : Loc nD τ sig) → Buf (Elt Ideal) ℓ) (c : Dev nD) (f : ℕ → ℕ → EReal) (w : ℕ → ℕ → ℕ → EReal)

/-- The rows at a grid point. -/
def bf (t : Fin cfg0.N) : ℕ → ℕ → EReal := fun a b => f (512 * (t.val % 4) + a) (1024 * 0 + b)
/-- The weight's block at a grid point. -/
def bw (t : Fin cfg0.N) : ℕ → ℕ → ℕ → EReal := fun z a b => w (0 + z) (1024 * 0 + a) (128 * (0) + b)

variable (t : Fin cfg0.N)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf f t) : S512x1024.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x1024x128.Idx → EReal)) :
    (((cfg0.win 1).blk t).view.read (Elt Ideal) X : ((cfg0.win 1).xblock (cfg0.grid.coords t)).Idx → Elt Ideal (cfg0.win 1).elt)
      = (ar3 (bw w t) : S1x1024x128.Idx → EReal) := by
  subst h
  funext y
  unfold ar3 bw
  blk_simp [e1]
  congr 1 <;> omega

/-- What the body makes of its blocks. -/
theorem tile : (k0_pay1 (F := Ideal) (ar2 (bf f t)) (ar3 (bw w t)) : S512x128.Idx → EReal) = ar2 fun i j => ∑ k ∈ range 1024, bf f t i k * bw w t 0 k j := by
  unfold k0_pay1
  dsimp only
  simp only [zero_ar2, dims, drop_ar3, matmul_nn, zero_add]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x1024.Idx → EReal)) (a1 : V m c main_arg1 = (ar3 w : S1x1024x128.Idx → EReal)) :
    (dats m 0 c).arrAt 2 cfg0.N = (ar2 fun i j => ∑ k ∈ range 1024, f i k * w (j / 128) k (j % 128) : S2048x128.Idx → EReal) := by
  refine (dats m 0 c).arrAt_eq_of_covers 2 _ (by decide +kernel) fun t hf y => ?_
  have hN : t.val < 4 := t.isLt
  have hy : (y 1).val < 128 := (y 1).isLt
  rw [after0_2, body]
  rw [show iblk m c 0 t = _ from blk0 c f t _ a0, show iblk m c 1 t = _ from blk1 c w t _ a1, tile]
  unfold ar2 bf bw
  blk_simp [e2]
  refine sum_eq fun k hk => ?_
  refine congrArg₂ (· * ·) (congrArg₂ f (?_ : 512 * (t.val % 4) + (y 0).val = _) (?_ : 1024 * 0 + k = _))
    (congr (congrArg₂ w (?_ : 0 + 0 = ((y 1).val) / 128) (?_ : 1024 * 0 + k = _)) (?_ : 128 * (0) + (y 1).val = ((y 1).val) % 128)) <;> omega

/-- The reference's result in the same form. -/
theorem reference : Cert.ReferenceZfIdeal.Read.val_main_v4 (F := Ideal) (ar2 f) (ar3 w)
    = (ar2 fun i j => ∑ k ∈ range 1024, f i k * w (j / 128) k (j % 128) : S2048x128.Idx → EReal) := by
  funext i
  have h0 : (i 0).val < 2048 := (i 0).isLt
  have h1 : (i 1).val < 128 := (i 1).isLt
  rw [Cert.ReferenceZfIdeal.Read.val_main_v4_apply]
  show _ = ∑ k ∈ range 1024, f (i 0).val k * w ((i 1).val / 128) k ((i 1).val % 128)
  rw [sum_range]
  refine sum_congr rfl fun k _ => congrArg₂ (· * ·) rfl ?_
  have hk : k.val < 1024 := k.isLt
  rw [Cert.ReferenceZfIdeal.Read.val_main_v3_apply, Cert.ReferenceZfIdeal.Read.val_main_v2_apply, Cert.ReferenceZfIdeal.Read.val_main_v1_apply]
  refine congr (congrArg₂ w (?_ : 0 = (i 1).val / 128) (?_ : (k.val * 128 + (i 1).val) / 128 = k.val))
    (?_ : (k.val * 128 + (i 1).val) % 128 = (i 1).val % 128) <;> omega

/-- Both programs, from the same arguments, end with the same result. -/
theorem algebraic : Cert.algebraic_KernelZfIdeal_ReferenceZfIdeal := by
  intro m g m' g' _ he
  refine ⟨fun c => (dats m 0 c).arrAt 2 cfg0.N, Cert.KernelZfIdeal.Value.run_blocks m g, ?_⟩
  refine (θ_run Cert.ReferenceZfIdeal.defs _ _).mono (fun r h c => ?_) (Cert.ReferenceZfIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar3 (a := 1) (b := 1024) (c := 128) (m ((c : Thread nD τ).loc main_arg1))
  rw [r0, Cert.ReferenceZfIdeal.Read.val_main_v4_eq, e0, e1]
  refine Eq.trans ?_ (array m c x y ((V_main_arg0 m c).trans hx) ((V_main_arg1 m c).trans hy)).symm
  rw [hx, hy]
  exact reference x y

end KZf

end
-- ==== Proof.KZatt.lean ====
/- The output product of the attention or of the convolution: the product of the input's rows with the weight.

   Every grid point multiplies one block of rows by one block of one chip's columns. -/
module

public import proofs.«01_k».proof.Proof.Product
public import proofs.«01_k».proof.Proof.Gen.KernelZattIdeal.Value
public import proofs.«01_k».proof.Proof.Gen.ReferenceZattIdeal.Run
public import proofs.«01_k».proof.Proof.Gen.ReferenceZattIdeal.Read
public import proofs.«01_k».proof.Defs
public import Idealize.ShloMosaic.Lib.Pipeline.ValueKit.Geometry
public import Idealize.ShloMosaic.Lib.Pipeline.ValueKit.Acc

@[expose] public section

noncomputable section

namespace KZatt

open Cert.KernelZattIdeal Cert.KernelZattIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![t.val / 4, 0, 0] :=
  (by decide +kernel : ∀ t : Fin grid0.N, _)
theorem e2 : ∀ t : Fin cfg0.N, win0_2.index t = ![t.val % 4, t.val / 4] :=
  (by decide +kernel : ∀ t : Fin grid0.N, _)

/-- The printed dimension numbers are those of a product of rows with columns. -/
theorem dims : (dot_S512x512_S512x256_S512x256_1_0_0_1_n_n : DotDims S512x512 S512x256 S512x256) = DotDims.plain 512 512 256 := rfl

variable (m : (ℓ : Loc nD τ sig) → Buf (Elt Ideal) ℓ) (c : Dev nD) (f : ℕ → ℕ → EReal) (w : ℕ → ℕ → ℕ → EReal)

/-- The rows at a grid point. -/
def bf (t : Fin cfg0.N) : ℕ → ℕ → EReal := fun a b => f (512 * (t.val % 4) + a) (512 * 0 + b)
/-- The weight's block at a grid point. -/
def bw (t : Fin cfg0.N) : ℕ → ℕ → ℕ → EReal := fun z a b => w (t.val / 4 + z) (512 * 0 + a) (256 * (0) + b)

variable (t : Fin cfg0.N)

theorem blk0 (X : Buf (Elt Ideal) ((c : Thread nD τ).loc (Pipeline.arrRef spec0 0))) (h : X = (ar2 f : S2048x512.Idx → EReal)) :
    (((cfg0.win 0).blk t).view.read (Elt Ideal) X : ((cfg0.win 0).xblock (cfg0.grid.coords t)).Idx → Elt Ideal (cfg0.win 0).elt)
      = (ar2 (bf f t) : S512x512.Idx → EReal) := by
  subst h
  funext y
  unfold ar2 bf
  blk_simp [e0]
  congr 1 <;> omega
theorem blk1 (X : Buf (Elt Ideal) ((c : Thread nD τ).loc (Pipeline.arrRef spec0 1))) (h : X = (ar3 w : S4x512x256.Idx → EReal)) :
    (((cfg0.win 1).blk t).view.read (Elt Ideal) X : ((cfg0.win 1).xblock (cfg0.grid.coords t)).Idx → Elt Ideal (cfg0.win 1).elt)
      = (ar3 (bw w t) : S1x512x256.Idx → EReal) := by
  subst h
  funext y
  unfold ar3 bw
  blk_simp [e1]
  congr 1 <;> omega

/-- What the body makes of its blocks. -/
theorem tile : (k0_pay1 (F := Ideal) (ar2 (bf f t)) (ar3 (bw w t)) : S512x256.Idx → EReal) = ar2 fun i j => ∑ k ∈ range 512, bf f t i k * bw w t 0 k j := by
  unfold k0_pay1
  dsimp only
  simp only [zero_ar2, dims, drop_ar3, matmul_nn, truncf_ar2, zero_add]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x512.Idx → EReal)) (a1 : V m c main_arg1 = (ar3 w : S4x512x256.Idx → EReal)) :
    (dats m 0 c).arrAt 2 cfg0.N = (ar2 fun i j => ∑ k ∈ range 512, f i k * w (j / 256) k (j % 256) : S2048x1024.Idx → EReal) := by
  refine (dats m 0 c).arrAt_eq_of_covers 2 _ (by decide +kernel) fun t hf y => ?_
  have hN : t.val < 16 := t.isLt
  have hy : (y 1).val < 256 := (y 1).isLt
  rw [after0_2, body]
  rw [show iblk m c 0 t = _ from blk0 c f t _ a0, show iblk m c 1 t = _ from blk1 c w t _ a1, tile]
  unfold ar2 bf bw
  blk_simp [e2]
  refine sum_eq fun k hk => ?_
  refine congrArg₂ (· * ·) (congrArg₂ f (?_ : 512 * (t.val % 4) + (y 0).val = _) (?_ : 512 * 0 + k = _))
    (congr (congrArg₂ w (?_ : t.val / 4 + 0 = (t.val / 4 * 256 + (y 1).val) / 256) (?_ : 512 * 0 + k = _)) (?_ : 256 * (0) + (y 1).val = (t.val / 4 * 256 + (y 1).val) % 256)) <;> omega

/-- The reference's result in the same form. -/
theorem reference : Cert.ReferenceZattIdeal.Read.val_main_v5 (F := Ideal) (ar2 f) (ar3 w)
    = (ar2 fun i j => ∑ k ∈ range 512, f i k * w (j / 256) k (j % 256) : S2048x1024.Idx → EReal) := by
  funext i
  have h0 : (i 0).val < 2048 := (i 0).isLt
  have h1 : (i 1).val < 1024 := (i 1).isLt
  rw [Cert.ReferenceZattIdeal.Read.val_main_v5_apply, Cert.ReferenceZattIdeal.Read.val_main_v4_apply]
  show _ = ∑ k ∈ range 512, f (i 0).val k * w ((i 1).val / 256) k ((i 1).val % 256)
  rw [sum_range]
  refine sum_congr rfl fun k _ => congrArg₂ (· * ·) rfl ?_
  have hk : k.val < 512 := k.isLt
  rw [Cert.ReferenceZattIdeal.Read.val_main_v3_apply, Cert.ReferenceZattIdeal.Read.val_main_v2_apply, Cert.ReferenceZattIdeal.Read.val_main_v1_apply]
  refine congr (congrArg₂ w (?_ : (k.val * 1024 + (i 1).val) / 256 % 4 = (i 1).val / 256) (?_ : (k.val * 1024 + (i 1).val) / 1024 = k.val))
    (?_ : (k.val * 1024 + (i 1).val) % 256 = (i 1).val % 256) <;> omega

/-- Both programs, from the same arguments, end with the same result. -/
theorem algebraic : Cert.algebraic_KernelZattIdeal_ReferenceZattIdeal := by
  intro m g m' g' _ he
  refine ⟨fun c => (dats m 0 c).arrAt 2 cfg0.N, Cert.KernelZattIdeal.Value.run_blocks m g, ?_⟩
  refine (θ_run Cert.ReferenceZattIdeal.defs _ _).mono (fun r h c => ?_) (Cert.ReferenceZattIdeal.Value.run (F := Ideal) m' g')
  obtain ⟨r0, k⟩ := h c
  obtain ⟨e0, e1⟩ := he c
  refine ⟨?_, k⟩
  obtain ⟨x, hx⟩ := exists_ar2 (a := 2048) (b := 512) (m ((c : Thread nD τ).loc main_arg0))
  obtain ⟨y, hy⟩ := exists_ar3 (a := 4) (b := 512) (c := 256) (m ((c : Thread nD τ).loc main_arg1))
  rw [r0, Cert.ReferenceZattIdeal.Read.val_main_v5_eq, e0, e1]
  refine Eq.trans ?_ (array m c x y ((V_main_arg0 m c).trans hx) ((V_main_arg1 m c).trans hy)).symm
  rw [hx, hy]
  exact reference x y

end KZatt

end
-- ==== Proof.KZmix.lean ====
/- The mixers' output product: the product of the input's rows with the weight, added to the residual.

   Every grid point multiplies one block of rows by one block of one chip's columns. -/
module

public import proofs.«01_k».proof.Proof.Product
public import proofs.«01_k».proof.Proof.Gen.KernelZmixIdeal.Value
public import proofs.«01_k».proof.Proof.Gen.ReferenceZmixIdeal.Run
public import proofs.«01_k».proof.Proof.Gen.ReferenceZmixIdeal.Read
public import proofs.«01_k».proof.Defs
public import Idealize.ShloMosaic.Lib.Pipeline.ValueKit.Geometry
public import Idealize.ShloMosaic.Lib.Pipeline.ValueKit.Acc
public import Idealize.ShloMosaic.Lib.IdealHost

@[expose] public section

noncomputable section

namespace KZmix

open Cert.KernelZmixIdeal Cert.KernelZmixIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, 0, 0] :=
  (by decide +kernel : ∀ t : Fin grid0.N, _)
theorem e2 : ∀ t : Fin cfg0.N, win0_2.index t = ![t.val % 4, 0] :=
  (by decide +kernel : ∀ t : Fin grid0.N, _)
theorem e3 : ∀ t : Fin cfg0.N, win0_3.index t = ![t.val % 4, 0] :=
  (by decide +kernel : ∀ t : Fin grid0.N, _)

/-- The printed dimension numbers are those of a product of rows with columns. -/
theorem dims : (dot_S512x1024_S1024x1024_S512x1024_1_0_0_1_n_n : DotDims S512x1024 S1024x1024 S512x1024) = DotDims.plain 512 1024 1024 := rfl

variable (m : (ℓ : Loc nD τ sig) → Buf (Elt Ideal) ℓ) (c : Dev nD) (f : ℕ → ℕ → EReal) (w : ℕ → ℕ → ℕ → EReal) (h : ℕ → ℕ → EReal)

/-- The rows at a grid point. -/
def bf (t : Fin cfg0.N) : ℕ → ℕ → EReal := fun a b => f (512 * (t.val % 4) + a) (1024 * 0 + b)
/-- The weight's block at a grid point. -/
def bw (t : Fin cfg0.N) : ℕ → ℕ → ℕ → EReal := fun z a b => w (0 + z) (1024 * 0 + a) (1024 * (0) + b)
/-- The residual's block at a grid point. -/
def bh (t : Fin cfg0.N) : ℕ → ℕ → EReal := fun a b => h (512 * (t.val % 4) + a) (1024 * (0) + b)

variable (t : Fin cfg0.N)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf f t) : S512x1024.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x1024x1024.Idx → EReal)) :
    (((cfg0.win 1).blk t).view.read (Elt Ideal) X : ((cfg0.win 1).xblock (cfg0.grid.coords t)).Idx → Elt Ideal (cfg0.win 1).elt)
      = (ar3 (bw w t) : S1x1024x1024.Idx → EReal) := by
  subst h
  funext y
  unfold ar3 bw
  blk_simp [e1]
  congr 1 <;> omega
theorem blk2 (X : Buf (Elt Ideal) ((c : Thread nD τ).loc (Pipeline.arrRef spec0 2))) (e : X = (ar2 h : S2048x1024.Idx → EReal)) :
    (((cfg0.win 2).blk t).view.read (Elt Ideal) X : ((cfg0.win 2).xblock (cfg0.grid.coords t)).Idx → Elt Ideal (cfg0.win 2).elt)
      = (ar2 (bh h t) : S512x1024.Idx → EReal) := by
  subst e
  funext y
  unfold ar2 bh
  blk_simp [e2]
  congr 1 <;> omega

/-- What the body makes of its blocks. -/
theorem tile : (k0_pay1 (F := Ideal) (ar2 (bf f t)) (ar3 (bw w t)) (ar2 (bh h t)) : S512x1024.Idx → EReal) = ar2 fun i j => bh h t i j + ∑ k ∈ range 1024, bf f t i k * bw w t 0 k j := by
  unfold k0_pay1
  dsimp only
  simp only [zero_ar2, dims, drop_ar3, matmul_nn, zero_add]
  refine funext fun i => congrArg (bh h t (i 0).val (i 1).val + ·) ?_
  exact (congrArg (· * _) Ideal.ofBits_one_f32).trans (one_mul _)

/-- The output block as the store's value. -/
theorem body : out0_3 (iblk m c 0 t) (iblk m c 1 t) (iblk m c 2 t) = k0_pay1 (F := Ideal) (iblk m c 0 t) (iblk m c 1 t) (iblk m c 2 t) := by
  unfold out0_3
  frame_out

/-- The result array. -/
theorem array (a0 : V m c main_arg0 = (ar2 f : S2048x1024.Idx → EReal)) (a1 : V m c main_arg1 = (ar3 w : S1x1024x1024.Idx → EReal)) (a2 : V m c main_arg2 = (ar2 h : S2048x1024.Idx → EReal)) :
    (dats m 0 c).arrAt 3 cfg0.N = (ar2 fun i j => h i j + ∑ k ∈ range 1024, f i k * w (j / 1024) k (j % 1024) : S2048x1024.Idx → EReal) := by
  refine (dats m 0 c).arrAt_eq_of_covers 3 _ (by decide +kernel) fun t hf y => ?_
  have hN : t.val < 4 := t.isLt
  have hy : (y 1).val < 1024 := (y 1).isLt
  rw [after0_3, body]
  rw [show iblk m c 0 t = _ from blk0 c f t _ a0, show iblk m c 1 t = _ from blk1 c w t _ a1, show iblk m c 2 t = _ from blk2 c h t _ a2, tile]
  unfold ar2 bf bw bh
  blk_simp [e3]
  refine congrArg₂ (· + ·) (congrArg₂ h (?_ : 512 * (t.val % 4) + (y 0).val = _) (?_ : 1024 * (0) + (y 1).val = _)) ((sum_eq fun k hk => ?_))
  · omega
  · omega
  refine congrArg₂ (· * ·) (congrArg₂ f (?_ : 512 * (t.val % 4) + (y 0).val = _) (?_ : 1024 * 0 + k = _))
    (congr (congrArg₂ w (?_ : 0 + 0 = ((y 1).val) / 1024) (?_ : 1024 * 0 + k = _)) (?_ : 1024 * (0) + (y 1).val = ((y 1).val) % 1024)) <;> omega

/-- The reference's result in the same form. -/
theorem reference : Cert.ReferenceZmixIdeal.Read.val_main_v5 (F := Ideal) (ar2 f) (ar3 w) (ar2 h)
    = (ar2 fun i j => h i j + ∑ k ∈ range 1024, f i k * w (j / 1024) k (j % 1024) : S2048x1024.Idx → EReal) := by
  funext i
  have h0 : (i 0).val < 2048 := (i 0).isLt
  have h1 : (i 1).val < 1024 := (i 1).isLt
  rw [Cert.ReferenceZmixIdeal.Read.val_main_v5_apply, Cert.ReferenceZmixIdeal.Read.val_main_v4_apply]
  show _ = h (i 0).val (i 1).val + ∑ k ∈ range 1024, f (i 0).val k * w ((i 1).val / 1024) k ((i 1).val % 1024)
  refine congrArg (h (i 0).val (i 1).val + ·) ?_
  rw [sum_range]
  refine sum_congr rfl fun k _ => congrArg₂ (· * ·) rfl ?_
  have hk : k.val < 1024 := k.isLt
  rw [Cert.ReferenceZmixIdeal.Read.val_main_v3_apply, Cert.ReferenceZmixIdeal.Read.val_main_v2_apply, Cert.ReferenceZmixIdeal.Read.val_main_v1_apply]
  refine congr (congrArg₂ w (?_ : 0 = (i 1).val / 1024) (?_ : (k.val * 1024 + (i 1).val) / 1024 = k.val))
    (?_ : (k.val * 1024 + (i 1).val) % 1024 = (i 1).val % 1024) <;> omega

/-- Both programs, from the same arguments, end with the same result. -/
theorem algebraic : Cert.algebraic_KernelZmixIdeal_ReferenceZmixIdeal := by
  intro m g m' g' _ he
  refine ⟨fun c => (dats m 0 c).arrAt 3 cfg0.N, Cert.KernelZmixIdeal.Value.run_blocks m g, ?_⟩
  refine (θ_run Cert.ReferenceZmixIdeal.defs _ _).mono (fun r h c => ?_) (Cert.ReferenceZmixIdeal.Value.run (F := Ideal) m' g')
  obtain ⟨r0, k⟩ := h c
  obtain ⟨e0, e1, e2⟩ := he c
  refine ⟨?_, k⟩
  obtain ⟨x, hx⟩ := exists_ar2 (a := 2048) (b := 1024) (m ((c : Thread nD τ).loc main_arg0))
  obtain ⟨y, hy⟩ := exists_ar3 (a := 1) (b := 1024) (c := 1024) (m ((c : Thread nD τ).loc main_arg1))
  obtain ⟨z, hz⟩ := exists_ar2 (a := 2048) (b := 1024) (m ((c : Thread nD τ).loc main_arg2))
  rw [r0, Cert.ReferenceZmixIdeal.Read.val_main_v5_eq, e0, e1, e2]
  refine Eq.trans ?_ (array m c x y z ((V_main_arg0 m c).trans hx) ((V_main_arg1 m c).trans hy) ((V_main_arg2 m c).trans hz)).symm
  rw [hx, hy, hz]
  exact reference x y z

end KZmix

end
-- ==== Proof.KZsq.lean ====
/- The per-layer gate's product: the product of the input's rows with the weight.

   Every grid point multiplies one block of rows by one block of one chip's columns. -/
module

public import proofs.«01_k».proof.Proof.Product
public import proofs.«01_k».proof.Proof.Gen.KernelZsqIdeal.Value
public import proofs.«01_k».proof.Proof.Gen.ReferenceZsqIdeal.Run
public import proofs.«01_k».proof.Proof.Gen.ReferenceZsqIdeal.Read
public import proofs.«01_k».proof.Defs
public import Idealize.ShloMosaic.Lib.Pipeline.ValueKit.Geometry
public import Idealize.ShloMosaic.Lib.Pipeline.ValueKit.Acc

@[expose] public section

noncomputable section

namespace KZsq

open Cert.KernelZsqIdeal Cert.KernelZsqIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![0, 0, 0] :=
  (by decide +kernel : ∀ t : Fin grid0.N, _)
theorem e2 : ∀ t : Fin cfg0.N, win0_2.index t = ![t.val % 4, 0] :=
  (by decide +kernel : ∀ t : Fin grid0.N, _)

/-- The printed dimension numbers are those of a product of rows with columns. -/
theorem dims : (dot_S512x1024_S1024x1024_S512x1024_1_0_0_1_n_n : DotDims S512x1024 S1024x1024 S512x1024) = DotDims.plain 512 1024 1024 := rfl

variable (m : (ℓ : Loc nD τ sig) → Buf (Elt Ideal) ℓ) (c : Dev nD) (f : ℕ → ℕ → EReal) (w : ℕ → ℕ → ℕ → EReal)

/-- The rows at a grid point. -/
def bf (t : Fin cfg0.N) : ℕ → ℕ → EReal := fun a b => f (512 * (t.val % 4) + a) (1024 * 0 + b)
/-- The weight's block at a grid point. -/
def bw (t : Fin cfg0.N) : ℕ → ℕ → ℕ → EReal := fun z a b => w (0 + z) (1024 * 0 + a) (1024 * (0) + b)

variable (t : Fin cfg0.N)

theorem blk0 (X : Buf (Elt Ideal) ((c : Thread nD τ).loc (Pipeline.arrRef spec0 0))) (h : X = (ar2 f : S2048x1024.Idx → EReal)) :
    (((cfg0.win 0).blk t).view.read (Elt Ideal) X : ((cfg0.win 0).xblock (cfg0.grid.coords t)).Idx → Elt Ideal (cfg0.win 0).elt)
      = (ar2 (bf f t) : S512x1024.Idx → EReal) := by
  subst h
  funext y
  unfold ar2 bf
  blk_simp [e0]
  congr 1 <;> omega
theorem blk1 (X : Buf (Elt Ideal) ((c : Thread nD τ).loc (Pipeline.arrRef spec0 1))) (h : X = (ar3 w : S1x1024x1024.Idx → EReal)) :
    (((cfg0.win 1).blk t).view.read (Elt Ideal) X : ((cfg0.win 1).xblock (cfg0.grid.coords t)).Idx → Elt Ideal (cfg0.win 1).elt)
      = (ar3 (bw w t) : S1x1024x1024.Idx → EReal) := by
  subst h
  funext y
  unfold ar3 bw
  blk_simp [e1]
  congr 1 <;> omega

/-- What the body makes of its blocks. -/
theorem tile : (k0_pay1 (F := Ideal) (ar2 (bf f t)) (ar3 (bw w t)) : S512x1024.Idx → EReal) = ar2 fun i j => ∑ k ∈ range 1024, bf f t i k * bw w t 0 k j := by
  unfold k0_pay1
  dsimp only
  simp only [zero_ar2, dims, drop_ar3, matmul_nn, truncf_ar2, zero_add]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x1024.Idx → EReal)) (a1 : V m c main_arg1 = (ar3 w : S1x1024x1024.Idx → EReal)) :
    (dats m 0 c).arrAt 2 cfg0.N = (ar2 fun i j => ∑ k ∈ range 1024, f i k * w (j / 1024) k (j % 1024) : S2048x1024.Idx → EReal) := by
  refine (dats m 0 c).arrAt_eq_of_covers 2 _ (by decide +kernel) fun t hf y => ?_
  have hN : t.val < 4 := t.isLt
  have hy : (y 1).val < 1024 := (y 1).isLt
  rw [after0_2, body]
  rw [show iblk m c 0 t = _ from blk0 c f t _ a0, show iblk m c 1 t = _ from blk1 c w t _ a1, tile]
  unfold ar2 bf bw
  blk_simp [e2]
  refine sum_eq fun k hk => ?_
  refine congrArg₂ (· * ·) (congrArg₂ f (?_ : 512 * (t.val % 4) + (y 0).val = _) (?_ : 1024 * 0 + k = _))
    (congr (congrArg₂ w (?_ : 0 + 0 = ((y 1).val) / 1024) (?_ : 1024 * 0 + k = _)) (?_ : 1024 * (0) + (y 1).val = ((y 1).val) % 1024)) <;> omega

/-- The reference's result in the same form. -/
theorem reference : Cert.ReferenceZsqIdeal.Read.val_main_v5 (F := Ideal) (ar2 f) (ar3 w)
    = (ar2 fun i j => ∑ k ∈ range 1024, f i k * w (j / 1024) k (j % 1024) : S2048x1024.Idx → EReal) := by
  funext i
  have h0 : (i 0).val < 2048 := (i 0).isLt
  have h1 : (i 1).val < 1024 := (i 1).isLt
  rw [Cert.ReferenceZsqIdeal.Read.val_main_v5_apply, Cert.ReferenceZsqIdeal.Read.val_main_v4_apply]
  show _ = ∑ k ∈ range 1024, f (i 0).val k * w ((i 1).val / 1024) k ((i 1).val % 1024)
  rw [sum_range]
  refine sum_congr rfl fun k _ => congrArg₂ (· * ·) rfl ?_
  have hk : k.val < 1024 := k.isLt
  rw [Cert.ReferenceZsqIdeal.Read.val_main_v3_apply, Cert.ReferenceZsqIdeal.Read.val_main_v2_apply, Cert.ReferenceZsqIdeal.Read.val_main_v1_apply]
  refine congr (congrArg₂ w (?_ : 0 = (i 1).val / 1024) (?_ : (k.val * 1024 + (i 1).val) / 1024 = k.val))
    (?_ : (k.val * 1024 + (i 1).val) % 1024 = (i 1).val % 1024) <;> omega

/-- Both programs, from the same arguments, end with the same result. -/
theorem algebraic : Cert.algebraic_KernelZsqIdeal_ReferenceZsqIdeal := by
  intro m g m' g' _ he
  refine ⟨fun c => (dats m 0 c).arrAt 2 cfg0.N, Cert.KernelZsqIdeal.Value.run_blocks m g, ?_⟩
  refine (θ_run Cert.ReferenceZsqIdeal.defs _ _).mono (fun r h c => ?_) (Cert.ReferenceZsqIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar3 (a := 1) (b := 1024) (c := 1024) (m ((c : Thread nD τ).loc main_arg1))
  rw [r0, Cert.ReferenceZsqIdeal.Read.val_main_v5_eq, e0, e1]
  refine Eq.trans ?_ (array m c x y ((V_main_arg0 m c).trans hx) ((V_main_arg1 m c).trans hy)).symm
  rw [hx, hy]
  exact reference x y

end KZsq

end
-- ==== Proof.KZple.lean ====
/- The per-layer embedding's projection: the product of the input's rows with the weight.

   Every grid point multiplies one block of rows by one block of one chip's columns. -/
module

public import proofs.«01_k».proof.Proof.Product
public import proofs.«01_k».proof.Proof.Gen.KernelZpleIdeal.Value
public import proofs.«01_k».proof.Proof.Gen.ReferenceZpleIdeal.Run
public import proofs.«01_k».proof.Proof.Gen.ReferenceZpleIdeal.Read
public import proofs.«01_k».proof.Defs
public import Idealize.ShloMosaic.Lib.Pipeline.ValueKit.Geometry
public import Idealize.ShloMosaic.Lib.Pipeline.ValueKit.Acc

@[expose] public section

noncomputable section

namespace KZple

open Cert.KernelZpleIdeal Cert.KernelZpleIdeal.Gen Idealize.ShloMosaic Idealize.ShloMosaic.TcCoe Idealize.SL.Sem Product Finset

theorem e0 : ∀ t : Fin cfg0.N, win0_0.index t = ![t.val % 4, 0] :=
  (by decide +kernel : ∀ t : Fin grid0.N, _)
theorem e1 : ∀ t : Fin cfg0.N, win0_1.index t = ![t.val / 4, 0, 0] :=
  (by decide +kernel : ∀ t : Fin grid0.N, _)
theorem e2 : ∀ t : Fin cfg0.N, win0_2.index t = ![t.val % 4, t.val / 4] :=
  (by decide +kernel : ∀ t : Fin grid0.N, _)

/-- The printed dimension numbers are those of a product of rows with columns. -/
theorem dims : (dot_S512x256_S256x256_S512x256_1_0_0_1_n_n : DotDims S512x256 S256x256 S512x256) = DotDims.plain 512 256 256 := rfl

variable (m : (ℓ : Loc nD τ sig) → Buf (Elt Ideal) ℓ) (c : Dev nD) (f : ℕ → ℕ → EReal) (w : ℕ → ℕ → ℕ → EReal)

/-- The rows at a grid point. -/
def bf (t : Fin cfg0.N) : ℕ → ℕ → EReal := fun a b => f (512 * (t.val % 4) + a) (256 * 0 + b)
/-- The weight's block at a grid point. -/
def bw (t : Fin cfg0.N) : ℕ → ℕ → ℕ → EReal := fun z a b => w (t.val / 4 + z) (256 * 0 + a) (256 * (0) + b)

variable (t : Fin cfg0.N)

theorem blk0 (X : Buf (Elt Ideal) ((c : Thread nD τ).loc (Pipeline.arrRef spec0 0))) (h : X = (ar2 f : S2048x256.Idx → EReal)) :
    (((cfg0.win 0).blk t).view.read (Elt Ideal) X : ((cfg0.win 0).xblock (cfg0.grid.coords t)).Idx → Elt Ideal (cfg0.win 0).elt)
      = (ar2 (bf f t) : S512x256.Idx → EReal) := by
  subst h
  funext y
  unfold ar2 bf
  blk_simp [e0]
  congr 1 <;> omega
theorem blk1 (X : Buf (Elt Ideal) ((c : Thread nD τ).loc (Pipeline.arrRef spec0 1))) (h : X = (ar3 w : S4x256x256.Idx → EReal)) :
    (((cfg0.win 1).blk t).view.read (Elt Ideal) X : ((cfg0.win 1).xblock (cfg0.grid.coords t)).Idx → Elt Ideal (cfg0.win 1).elt)
      = (ar3 (bw w t) : S1x256x256.Idx → EReal) := by
  subst h
  funext y
  unfold ar3 bw
  blk_simp [e1]
  congr 1 <;> omega

/-- What the body makes of its blocks. -/
theorem tile : (k0_pay1 (F := Ideal) (ar2 (bf f t)) (ar3 (bw w t)) : S512x256.Idx → EReal) = ar2 fun i j => ∑ k ∈ range 256, bf f t i k * bw w t 0 k j := by
  unfold k0_pay1
  dsimp only
  simp only [zero_ar2, dims, drop_ar3, matmul_nn, truncf_ar2, zero_add]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x256.Idx → EReal)) (a1 : V m c main_arg1 = (ar3 w : S4x256x256.Idx → EReal)) :
    (dats m 0 c).arrAt 2 cfg0.N = (ar2 fun i j => ∑ k ∈ range 256, f i k * w (j / 256) k (j % 256) : S2048x1024.Idx → EReal) := by
  refine (dats m 0 c).arrAt_eq_of_covers 2 _ (by decide +kernel) fun t hf y => ?_
  have hN : t.val < 16 := t.isLt
  have hy : (y 1).val < 256 := (y 1).isLt
  rw [after0_2, body]
  rw [show iblk m c 0 t = _ from blk0 c f t _ a0, show iblk m c 1 t = _ from blk1 c w t _ a1, tile]
  unfold ar2 bf bw
  blk_simp [e2]
  refine sum_eq fun k hk => ?_
  refine congrArg₂ (· * ·) (congrArg₂ f (?_ : 512 * (t.val % 4) + (y 0).val = _) (?_ : 256 * 0 + k = _))
    (congr (congrArg₂ w (?_ : t.val / 4 + 0 = (t.val / 4 * 256 + (y 1).val) / 256) (?_ : 256 * 0 + k = _)) (?_ : 256 * (0) + (y 1).val = (t.val / 4 * 256 + (y 1).val) % 256)) <;> omega

/-- The reference's result in the same form. -/
theorem reference : Cert.ReferenceZpleIdeal.Read.val_main_v5 (F := Ideal) (ar2 f) (ar3 w)
    = (ar2 fun i j => ∑ k ∈ range 256, f i k * w (j / 256) k (j % 256) : S2048x1024.Idx → EReal) := by
  funext i
  have h0 : (i 0).val < 2048 := (i 0).isLt
  have h1 : (i 1).val < 1024 := (i 1).isLt
  rw [Cert.ReferenceZpleIdeal.Read.val_main_v5_apply, Cert.ReferenceZpleIdeal.Read.val_main_v4_apply]
  show _ = ∑ k ∈ range 256, f (i 0).val k * w ((i 1).val / 256) k ((i 1).val % 256)
  rw [sum_range]
  refine sum_congr rfl fun k _ => congrArg₂ (· * ·) rfl ?_
  have hk : k.val < 256 := k.isLt
  rw [Cert.ReferenceZpleIdeal.Read.val_main_v3_apply, Cert.ReferenceZpleIdeal.Read.val_main_v2_apply, Cert.ReferenceZpleIdeal.Read.val_main_v1_apply]
  refine congr (congrArg₂ w (?_ : (k.val * 1024 + (i 1).val) / 256 % 4 = (i 1).val / 256) (?_ : (k.val * 1024 + (i 1).val) / 1024 = k.val))
    (?_ : (k.val * 1024 + (i 1).val) % 256 = (i 1).val % 256) <;> omega

/-- Both programs, from the same arguments, end with the same result. -/
theorem algebraic : Cert.algebraic_KernelZpleIdeal_ReferenceZpleIdeal := by
  intro m g m' g' _ he
  refine ⟨fun c => (dats m 0 c).arrAt 2 cfg0.N, Cert.KernelZpleIdeal.Value.run_blocks m g, ?_⟩
  refine (θ_run Cert.ReferenceZpleIdeal.defs _ _).mono (fun r h c => ?_) (Cert.ReferenceZpleIdeal.Value.run (F := Ideal) m' g')
  obtain ⟨r0, k⟩ := h c
  obtain ⟨e0, e1⟩ := he c
  refine ⟨?_, k⟩
  obtain ⟨x, hx⟩ := exists_ar2 (a := 2048) (b := 256) (m ((c : Thread nD τ).loc main_arg0))
  obtain ⟨y, hy⟩ := exists_ar3 (a := 4) (b := 256) (c := 256) (m ((c : Thread nD τ).loc main_arg1))
  rw [r0, Cert.ReferenceZpleIdeal.Read.val_main_v5_eq, e0, e1]
  refine Eq.trans ?_ (array m c x y ((V_main_arg0 m c).trans hx) ((V_main_arg1 m c).trans hy)).symm
  rw [hx, hy]
  exact reference x y

end KZple

end
-- ==== Proof.Gate.lean ====
/- The gate `1 / (1 + exp (-x))` the activation functions are made of, and joining two arrays side by side. -/
module

public import proofs.«01_k».proof.Proof.Product
public import Idealize.ShloMosaic.Lib.Pipeline.Value
public import Idealize.ShloMosaic.Lib.IdealHost

@[expose] public section

noncomputable section

namespace Gate

open Idealize.ShloMosaic Product

variable {a b : ℕ}

/-- The gate. -/
def gate (x : EReal) : EReal := Ideal.div 1 (1 + Ideal.exp (-x))

/-- The gate of a real is a real. -/
theorem gate_coe (x : ℝ) : gate (x : EReal) = ((1 / (1 + Real.exp (-x)) : ℝ) : EReal) := by
  have e : (1 : EReal) + Ideal.exp (-(x : EReal)) = ((1 + Real.exp (-x) : ℝ) : EReal) := by
    rw [← EReal.coe_neg, EReal.coe_add]
    rfl
  have p : (1 + Real.exp (-x) : ℝ) ≠ 0 := (add_pos one_pos (Real.exp_pos _)).ne'
  unfold gate
  rw [e, Ideal.div_coe p, one_mul]

/-- A block of an array: 256 rows from a block row's start, the columns from a first one. -/
def rows (f : ℕ → ℕ → EReal) (t o : ℕ) : ℕ → ℕ → EReal := fun i j => f (256 * t + i) (o + j)

/-- The array of ones. -/
theorem one_broadcast : (broadcast ⟨2, ![a, b]⟩ (Scalar.ofBits .f32 0x3F800000#32 : Ideal .f32) : FVec Ideal ⟨2, ![a, b]⟩ .f32) = ar2 fun _ _ => 1 :=
  funext fun _ => Ideal.ofBits_one_f32

/-- The kernels' spelling of the gate. -/
theorem gate_ar2 (f : ℕ → ℕ → EReal) :
    (divf (ar2 fun _ _ => 1) (addf (ar2 fun _ _ => 1) (exp (ar2 fun i j => 0 - f i j : FVec Ideal ⟨2, ![a, b]⟩ .f32))) : FVec Ideal ⟨2, ![a, b]⟩ .f32)
      = ar2 fun i j => gate (f i j) := by
  funext i
  show Ideal.div 1 (1 + Ideal.exp (0 - f (i 0).val (i 1).val)) = gate (f (i 0).val (i 1).val)
  rw [zero_sub, gate]

theorem mul_ar2 (f g : ℕ → ℕ → EReal) :
    (mulf (ar2 f : FVec Ideal ⟨2, ![a, b]⟩ .f32) (ar2 g) : FVec Ideal ⟨2, ![a, b]⟩ .f32) = ar2 fun i j => f i j * g i j := rfl
theorem sum_ar2 (f g : ℕ → ℕ → EReal) :
    (addf (ar2 f : FVec Ideal ⟨2, ![a, b]⟩ .f32) (ar2 g) : FVec Ideal ⟨2, ![a, b]⟩ .f32) = ar2 fun i j => f i j + g i j := rfl
theorem sub_ar2 (f g : ℕ → ℕ → EReal) :
    (subf (ar2 f : FVec Ideal ⟨2, ![a, b]⟩ .f32) (ar2 g) : FVec Ideal ⟨2, ![a, b]⟩ .f32) = ar2 fun i j => f i j - g i j := rfl
/-- A change of format changes no value. -/
theorem widen_ar2 (f : ℕ → ℕ → EReal) (h : FTy.bits .bf16 < FTy.bits .f32) :
    (extf .f32 (ar2 f : FVec Ideal ⟨2, ![a, b]⟩ .bf16) h : FVec Ideal ⟨2, ![a, b]⟩ .f32) = ar2 f := rfl
theorem narrow_ar2 (f : ℕ → ℕ → EReal) (h : FTy.bits .bf16 < FTy.bits .f32) :
    (truncf .bf16 (ar2 f : FVec Ideal ⟨2, ![a, b]⟩ .f32) h : FVec Ideal ⟨2, ![a, b]⟩ .bf16) = ar2 f := rfl

/-- A range of columns. -/
theorem slice_ar2 {n o : ℕ} (f : ℕ → ℕ → EReal) (h : (⟨2, ![a, b]⟩ : Shape).Slices ![0, o] ⟨2, ![a, n]⟩) :
    (extractStridedSlice ⟨2, ![a, n]⟩ ![0, o] (ar2 f : FVec Ideal ⟨2, ![a, b]⟩ .bf16) h : FVec Ideal ⟨2, ![a, n]⟩ .bf16)
      = ar2 fun i j => f i (o + j) := by
  funext i
  have h1 := h.2 1
  have hj : (i 1).val < n := (i 1).isLt
  have hb : o + (i 1).val < b := Nat.lt_of_lt_of_le (Nat.add_lt_add_left hj o) h1
  exact extractStridedSlice_apply ![0, o] (ar2 f : FVec Ideal ⟨2, ![a, b]⟩ .bf16) h i (ValueIdx.ix2 (i 0) ⟨o + (i 1).val, hb⟩) (fun q => match q with
    | ⟨0, _⟩ => by show (i 0).val = 0 + (i 0).val; omega
    | ⟨1, _⟩ => rfl)

/-- Two arrays side by side. -/
theorem join_ar2 {n w : ℕ} (f g : ℕ → ℕ → EReal) (h : Shape.Concatenates [(⟨2, ![a, n]⟩ : Shape), ⟨2, ![a, n]⟩] ⟨2, ![a, w]⟩ 1) (hw : w = n + n) :
    (concatenate ⟨2, ![a, w]⟩ 1 [⟨⟨2, ![a, n]⟩, (ar2 f : FVec Ideal ⟨2, ![a, n]⟩ .f32)⟩, ⟨⟨2, ![a, n]⟩, (ar2 g : FVec Ideal ⟨2, ![a, n]⟩ .f32)⟩] h : FVec Ideal ⟨2, ![a, w]⟩ .f32)
      = ar2 fun i j => if j < n then f i j else g i (j - n) := by
  funext i
  have hi : (i 1).val < w := (i 1).isLt
  by_cases c : (i 1).val < n
  · rw [concatenate_pair_apply_left 1 _ _ h i rfl (ValueIdx.ix2 (i 0) ⟨(i 1).val, c⟩) (fun q => match q with
      | ⟨0, _⟩ => rfl
      | ⟨1, _⟩ => rfl)]
    exact (if_pos c).symm
  · rw [concatenate_pair_apply_right 1 _ _ h i rfl rfl (ValueIdx.ix2 (i 0) ⟨(i 1).val - n, by omega⟩) (fun q => match q with
      | ⟨0, _⟩ => fun _ => rfl
      | ⟨1, _⟩ => fun e => absurd rfl e) (Nat.sub_add_cancel (Nat.le_of_not_lt c))]
    exact (if_neg c).symm

theorem narrow_join {n w : ℕ} (f g : ℕ → ℕ → EReal) (x y : FVec Ideal ⟨2, ![a, n]⟩ .f32) (hx : x = ar2 f) (hy : y = ar2 g)
    (h : Shape.Concatenates [(⟨2, ![a, n]⟩ : Shape), ⟨2, ![a, n]⟩] ⟨2, ![a, w]⟩ 1) (hw : w = n + n) (hb : FTy.bits .bf16 < FTy.bits .f32) :
    (truncf .bf16 (concatenate ⟨2, ![a, w]⟩ 1 [⟨⟨2, ![a, n]⟩, x⟩, ⟨⟨2, ![a, n]⟩, y⟩] h : FVec Ideal ⟨2, ![a, w]⟩ .f32) hb : FVec Ideal ⟨2, ![a, w]⟩ .bf16)
      = ar2 fun i j => if j < n then f i j else g i (j - n) := by
  subst hx hy
  rw [join_ar2 f g h hw]
  rfl

end Gate

end
-- ==== Proof.KAct.lean ====
/- The activation, forward: the first half of the columns times its own gate, times the second half.

   Every grid point computes one block of 256 rows. -/
module

public import proofs.«01_k».proof.Proof.Gate
public import proofs.«01_k».proof.Proof.Gen.KernelActIdeal.Value
public import proofs.«01_k».proof.Proof.Gen.ReferenceActIdeal.Run
public import proofs.«01_k».proof.Proof.Gen.ReferenceActIdeal.Read
public import proofs.«01_k».proof.Defs
public import Idealize.ShloMosaic.Lib.Pipeline.ValueKit.Geometry
public import Idealize.ShloMosaic.Lib.Pipeline.ValueKit.Acc

@[expose] public section

noncomputable section

namespace KAct

open Cert.KernelActIdeal Cert.KernelActIdeal.Gen Idealize.ShloMosaic Idealize.ShloMosaic.TcCoe Idealize.SL.Sem Product Gate

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)

variable (m : (ℓ : Loc nD τ sig) → Buf (Elt Ideal) ℓ) (c : Dev nD) (f  : ℕ → ℕ → EReal) (t : Fin cfg0.N)

theorem blk0 (X : Buf (Elt Ideal) ((c : Thread nD τ).loc (Pipeline.arrRef spec0 0))) (e : X = (ar2 f : S2048x5632.Idx → EReal)) :
    (((cfg0.win 0).blk t).view.read (Elt Ideal) X : ((cfg0.win 0).xblock (cfg0.grid.coords t)).Idx → Elt Ideal (cfg0.win 0).elt)
      = (ar2 (rows f t.val 0) : S256x5632.Idx → EReal) := by
  subst e
  funext y
  unfold ar2 rows
  blk_simp [e0]
  congr 1 <;> omega

/-- What the body makes of its blocks. -/
theorem tile : (k0_pay1 (F := Ideal) (ar2 f) : S256x2816.Idx → EReal) = ar2 fun i j => f i (0 + j) * gate (f i (0 + j)) * f i (2816 + j) := by
  unfold k0_pay1
  dsimp only
  simp only [zero_broadcast, one_broadcast, widen_ar2, narrow_ar2, slice_ar2, gate_ar2, mul_ar2, sum_ar2, sub_ar2]

/-- The output block as the store's value. -/
theorem body : out0_1 (iblk m c 0 t) = k0_pay1 (F := Ideal) (iblk m c 0 t) := by
  unfold out0_1
  frame_out

/-- The result array. -/
theorem array (a0 : V m c main_arg0 = (ar2 f : S2048x5632.Idx → EReal)) :
    (dats m 0 c).arrAt 1 cfg0.N = (ar2 fun i j => f i j * gate (f i j) * f i (2816 + j) : S2048x2816.Idx → EReal) := by
  refine (dats m 0 c).arrAt_eq_of_covers 1 _ (by decide +kernel) fun t hf y => ?_
  rw [after0_1, body]
  rw [show iblk m c 0 t = _ from blk0 c f t _ a0, tile]
  unfold ar2 rows
  blk_simp [e1]
  rw [Nat.mul_comm 256]

/-- The reference's result in the same form. -/
theorem reference : Cert.ReferenceActIdeal.Read.val_main_v5 (F := Ideal) (ar2 f)
    = (ar2 fun i j => f i j * gate (f i j) * f i (2816 + j) : S2048x2816.Idx → EReal) := by
  have ev : ∀ i : S2048x2816.Idx, Cert.ReferenceActIdeal.Read.val_main_v1 (F := Ideal) (ar2 f) i = f (i 0).val (i 1).val := fun i => by
    rw [Cert.ReferenceActIdeal.Read.val_main_v1_apply]
    rfl
  funext i
  show Cert.ReferenceActIdeal.Read.val_main_v1 (F := Ideal) (ar2 f) i * Ideal.div (Ideal.ofBits .f32 0x3F800000#32) (Ideal.ofBits .f32 0x3F800000#32 + Ideal.exp (-(Cert.ReferenceActIdeal.Read.val_main_v1 (F := Ideal) (ar2 f) i))) * Cert.ReferenceActIdeal.Read.val_main_v2 (F := Ideal) (ar2 f) i
    = f (i 0).val (i 1).val * gate (f (i 0).val (i 1).val) * f (i 0).val (2816 + (i 1).val)
  rw [ev, Cert.ReferenceActIdeal.Read.val_main_v2_apply, Ideal.ofBits_one_f32, gate]
  rfl

/-- Both programs, from the same arguments, end with the same result. -/
theorem algebraic : Cert.algebraic_KernelActIdeal_ReferenceActIdeal := by
  intro m g m' g' _ he
  refine ⟨fun c => (dats m 0 c).arrAt 1 cfg0.N, Cert.KernelActIdeal.Value.run_blocks m g, ?_⟩
  refine (θ_run Cert.ReferenceActIdeal.defs _ _).mono (fun r h c => ?_) (Cert.ReferenceActIdeal.Value.run (F := Ideal) m' g')
  obtain ⟨r0, k⟩ := h c
  have e0 := he c
  obtain ⟨x0, h0⟩ := exists_ar2 (a := 2048) (b := 5632) (m ((c : Thread nD τ).loc main_arg0))
  refine ⟨?_, k⟩
  · rw [r0, Cert.ReferenceActIdeal.Read.val_main_v5_eq, e0]
    refine Eq.trans ?_ (array m c x0 ((V_main_arg0 m c).trans h0)).symm
    rw [h0]
    exact reference x0

end KAct

end
-- ==== Proof.KDact.lean ====
/- The activation, backward: the gradients of both halves of its argument's columns, side by side.

   Every grid point computes one block of 256 rows. -/
module

public import proofs.«01_k».proof.Proof.Gate
public import proofs.«01_k».proof.Proof.Finite
public import proofs.«01_k».proof.Proof.Gen.KernelDactIdeal.Value
public import proofs.«01_k».proof.Proof.Gen.ReferenceDactIdeal.Run
public import proofs.«01_k».proof.Proof.Gen.ReferenceDactIdeal.Read
public import proofs.«01_k».proof.Defs
public import Idealize.ShloMosaic.Lib.Pipeline.ValueKit.Geometry
public import Idealize.ShloMosaic.Lib.Pipeline.ValueKit.Acc

@[expose] public section

noncomputable section

namespace KDact

open Cert.KernelDactIdeal Cert.KernelDactIdeal.Gen Idealize.ShloMosaic Idealize.ShloMosaic.TcCoe Idealize.SL.Sem Product Gate

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)
theorem e2 : ∀ t : Fin cfg0.N, win0_2.index t = ![t.val, 0] :=
  (by decide +kernel : ∀ t : Fin grid0.N, _)

variable (m : (ℓ : Loc nD τ sig) → Buf (Elt Ideal) ℓ) (c : Dev nD) (f g : ℕ → ℕ → EReal) (t : Fin cfg0.N)

theorem blk0 (X : Buf (Elt Ideal) ((c : Thread nD τ).loc (Pipeline.arrRef spec0 0))) (e : X = (ar2 f : S2048x5632.Idx → EReal)) :
    (((cfg0.win 0).blk t).view.read (Elt Ideal) X : ((cfg0.win 0).xblock (cfg0.grid.coords t)).Idx → Elt Ideal (cfg0.win 0).elt)
      = (ar2 (rows f t.val 0) : S256x5632.Idx → EReal) := by
  subst e
  funext y
  unfold ar2 rows
  blk_simp [e0]
  congr 1 <;> omega
theorem blk1 (X : Buf (Elt Ideal) ((c : Thread nD τ).loc (Pipeline.arrRef spec0 1))) (e : X = (ar2 f : S2048x2816.Idx → EReal)) :
    (((cfg0.win 1).blk t).view.read (Elt Ideal) X : ((cfg0.win 1).xblock (cfg0.grid.coords t)).Idx → Elt Ideal (cfg0.win 1).elt)
      = (ar2 (rows f t.val 0) : S256x2816.Idx → EReal) := by
  subst e
  funext y
  unfold ar2 rows
  blk_simp [e1]
  congr 1 <;> omega

/-- What the body makes of its blocks. -/
theorem tile : (k0_pay1 (F := Ideal) (ar2 f) (ar2 g) : S256x5632.Idx → EReal) = ar2 fun i j => if j < 2816 then g i j * f i (2816 + j) * (gate (f i (0 + j)) * (1 + f i (0 + j) * (1 - gate (f i (0 + j))))) else g i (j - 2816) * f i (0 + (j - 2816)) * gate (f i (0 + (j - 2816))) := by
  unfold k0_pay1
  dsimp only
  refine narrow_join (a := 256) (n := 2816) (w := 5632) (fun i j => g i j * f i (2816 + j) * (gate (f i (0 + j)) * (1 + f i (0 + j) * (1 - gate (f i (0 + j))))))
    (fun i j => g i j * f i (0 + j) * gate (f i (0 + j))) _ _ ?_ ?_ _ rfl _
  all_goals simp only [zero_broadcast, one_broadcast, widen_ar2, slice_ar2, sub_ar2, gate_ar2, mul_ar2, sum_ar2]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x5632.Idx → EReal)) (a1 : V m c main_arg1 = (ar2 g : S2048x2816.Idx → EReal)) :
    (dats m 0 c).arrAt 2 cfg0.N = (ar2 fun i j => if j < 2816 then g i j * f i (2816 + j) * (gate (f i (0 + j)) * (1 + f i (0 + j) * (1 - gate (f i (0 + j))))) else g i (j - 2816) * f i (0 + (j - 2816)) * gate (f i (0 + (j - 2816))) : S2048x5632.Idx → EReal) := by
  refine (dats m 0 c).arrAt_eq_of_covers 2 _ (by decide +kernel) fun t hf y => ?_
  rw [after0_2, body]
  rw [show iblk m c 0 t = _ from blk0 c f t _ a0, show iblk m c 1 t = _ from blk1 c g t _ a1, tile]
  unfold ar2 rows
  blk_simp [e2]
  rw [Nat.mul_comm 256]

variable (Z D : ℕ → ℕ → ℝ)

open Cert.ReferenceDactIdeal.Read in
/-- The gate's argument in the reference. -/
theorem arg (i : S2048x2816.Idx) : val_main_v1 (F := Ideal) (Tile.up2 Z) i = ((Z (i 0).val (i 1).val : ℝ) : EReal) := by
  rw [val_main_v1_apply]
  rfl
open Cert.ReferenceDactIdeal.Read in
theorem val (i : S2048x2816.Idx) : val_main_v2 (F := Ideal) (Tile.up2 Z) i = ((Z (i 0).val (2816 + (i 1).val) : ℝ) : EReal) := by
  rw [val_main_v2_apply]
  rfl

/-- The gradient of the gated columns, of real arguments: the product rule's two terms are the kernel's one. -/
theorem rule (d a b : ℝ) :
    ((d : EReal) * b) * gate a + ((a : EReal) * (d * b)) * (gate a * (1 - gate a)) = d * b * (gate a * (1 + a * (1 - gate a))) := by
  rw [gate_coe, ← EReal.coe_one]
  simp only [← EReal.coe_mul, ← EReal.coe_sub, ← EReal.coe_add]
  congr 1
  ring

open Cert.ReferenceDactIdeal.Read in
theorem left : val_main_v8 (F := Ideal) (Tile.up2 Z) (Tile.up2 D) = (ar2 fun i j => ((D i j : ℝ) : EReal) * ((Z i (2816 + j) : ℝ) : EReal) *
      (gate ((Z i (0 + j) : ℝ) : EReal) * (1 + ((Z i (0 + j) : ℝ) : EReal) * (1 - gate ((Z i (0 + j) : ℝ) : EReal)))) : S2048x2816.Idx → EReal) := by
  funext i
  show (((D (i 0).val (i 1).val : ℝ) : EReal) * val_main_v2 (F := Ideal) (Tile.up2 Z) i) * Ideal.div (Ideal.ofBits .f32 0x3F800000#32) (Ideal.ofBits .f32 0x3F800000#32 + Ideal.exp (-(val_main_v1 (F := Ideal) (Tile.up2 Z) i)))
      + (val_main_v1 (F := Ideal) (Tile.up2 Z) i * (((D (i 0).val (i 1).val : ℝ) : EReal) * val_main_v2 (F := Ideal) (Tile.up2 Z) i))
        * (Ideal.div (Ideal.ofBits .f32 0x3F800000#32) (Ideal.ofBits .f32 0x3F800000#32 + Ideal.exp (-(val_main_v1 (F := Ideal) (Tile.up2 Z) i))) * (Ideal.ofBits .f32 0x3F800000#32 - Ideal.div (Ideal.ofBits .f32 0x3F800000#32) (Ideal.ofBits .f32 0x3F800000#32 + Ideal.exp (-(val_main_v1 (F := Ideal) (Tile.up2 Z) i))))) = _
  rw [Ideal.ofBits_one_f32, arg, val, ← gate]
  refine (rule _ _ _).trans ?_
  unfold ar2
  simp only [Nat.zero_add]
open Cert.ReferenceDactIdeal.Read in
theorem right : val_main_v6 (F := Ideal) (Tile.up2 Z) (Tile.up2 D)
    = (ar2 fun i j => ((D i j : ℝ) : EReal) * ((Z i (0 + j) : ℝ) : EReal) * gate ((Z i (0 + j) : ℝ) : EReal) : S2048x2816.Idx → EReal) := by
  funext i
  show val_main_v1 (F := Ideal) (Tile.up2 Z) i * Ideal.div (Ideal.ofBits .f32 0x3F800000#32) (Ideal.ofBits .f32 0x3F800000#32 + Ideal.exp (-(val_main_v1 (F := Ideal) (Tile.up2 Z) i))) * ((D (i 0).val (i 1).val : ℝ) : EReal) = _
  rw [Ideal.ofBits_one_f32, arg, ← gate]
  unfold ar2
  simp only [Nat.zero_add]
  rw [mul_comm, mul_assoc]

/-- The reference's result in the same form. -/
theorem reference : Cert.ReferenceDactIdeal.Read.val_main_v10 (F := Ideal) (Tile.up2 Z) (Tile.up2 D)
    = (ar2 fun i j => if j < 2816 then (fun i j => ((D i j : ℝ) : EReal)) i j * (fun i j => ((Z i j : ℝ) : EReal)) i (2816 + j) * (gate ((fun i j => ((Z i j : ℝ) : EReal)) i (0 + j)) * (1 + (fun i j => ((Z i j : ℝ) : EReal)) i (0 + j) * (1 - gate ((fun i j => ((Z i j : ℝ) : EReal)) i (0 + j))))) else (fun i j => ((D i j : ℝ) : EReal)) i (j - 2816) * (fun i j => ((Z i j : ℝ) : EReal)) i (0 + (j - 2816)) * gate ((fun i j => ((Z i j : ℝ) : EReal)) i (0 + (j - 2816))) : S2048x5632.Idx → EReal) := by
  exact narrow_join (a := 2048) (n := 2816) (w := 5632) _ _ _ _ (left Z D) (right Z D) _ rfl _

/-- Both programs, from the same arguments, end with the same result. -/
theorem algebraic : Cert.algebraic_KernelDactIdeal_ReferenceDactIdeal_pre_finite_act := by
  intro m g m' g' hp he
  refine ⟨fun c => (dats m 0 c).arrAt 2 cfg0.N, Cert.KernelDactIdeal.Value.run_blocks m g, ?_⟩
  refine (θ_run Cert.ReferenceDactIdeal.defs _ _).mono (fun r h c => ?_) (Cert.ReferenceDactIdeal.Value.run (F := Ideal) m' g')
  obtain ⟨r0, k⟩ := h c
  obtain ⟨e0, e1⟩ := he c
  obtain ⟨⟨Z, h0⟩, ⟨D, h1⟩⟩ := Finite.act _ _ (hp c)
  refine ⟨?_, k⟩
  · rw [r0, Cert.ReferenceDactIdeal.Read.val_main_v10_eq, e0, e1]
    refine Eq.trans ?_ (array m c (fun i j => ((Z i j : ℝ) : EReal)) (fun i j => ((D i j : ℝ) : EReal)) ((V_main_arg0 m c).trans h0) ((V_main_arg1 m c).trans h1)).symm
    rw [h0, h1]
    exact reference Z D

end KDact

end
-- ==== Proof.KMerge.lean ====
/- The gated sum of the two mixers, forward: each mixer's result times the gate of its own columns of the input's product.

   Every grid point computes one block of 256 rows. -/
module

public import proofs.«01_k».proof.Proof.Gate
public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Defs
public import Idealize.ShloMosaic.Lib.Pipeline.ValueKit.Geometry
public import Idealize.ShloMosaic.Lib.Pipeline.ValueKit.Acc

@[expose] public section

noncomputable section

namespace KMerge

open Cert.KernelMergeIdeal Cert.KernelMergeIdeal.Gen Idealize.ShloMosaic Idealize.ShloMosaic.TcCoe Idealize.SL.Sem Product Gate

theorem e0 : ∀ t : Fin cfg0.N, win0_0.index t = ![t.val, 1] :=
  (by decide +kernel : ∀ t : Fin grid0.N, _)
theorem e1 : ∀ t : Fin cfg0.N, win0_1.index t = ![t.val, 2] :=
  (by decide +kernel : ∀ t : Fin grid0.N, _)
theorem e2 : ∀ t : Fin cfg0.N, win0_2.index t = ![t.val, 0] :=
  (by decide +kernel : ∀ t : Fin grid0.N, _)
theorem e3 : ∀ t : Fin cfg0.N, win0_3.index t = ![t.val, 0] :=
  (by decide +kernel : ∀ t : Fin grid0.N, _)
theorem e4 : ∀ t : Fin cfg0.N, win0_4.index t = ![t.val, 0] :=
  (by decide +kernel : ∀ t : Fin grid0.N, _)

variable (m : (ℓ : Loc nD τ sig) → Buf (Elt Ideal) ℓ) (c : Dev nD) (f g h k : ℕ → ℕ → EReal) (t : Fin cfg0.N)

theorem blk0 (e : V m c main_arg0 = (ar2 f : S2048x4608.Idx → EReal)) :
    X0_0 m c t = (ar2 (rows f t.val 1024) : S256x1024.Idx → EReal) := by
  funext j
  unfold X0_0 Pipeline.Window.fill
  rw [dif_pos (moved0_0 t j)]
  unfold iblk
  rw [show V m c (Pipeline.arrRef spec0 0) = _ from e]
  unfold ar2 rows
  blk_simp [e0]
  refine congrArg₂ f (?_ : t.val * 256 + (j 0).val = 256 * t.val + (j 0).val) (?_ : 1024 + (j 1).val = 1024 + (j 1).val) <;> omega
theorem blk1 (e : V m c main_arg0 = (ar2 f : S2048x4608.Idx → EReal)) :
    X0_1 m c t = (ar2 (rows f t.val 2048) : S256x1024.Idx → EReal) := by
  funext j
  unfold X0_1 Pipeline.Window.fill
  rw [dif_pos (moved0_1 t j)]
  unfold iblk
  rw [show V m c (Pipeline.arrRef spec0 1) = _ from e]
  unfold ar2 rows
  blk_simp [e1]
  refine congrArg₂ f (?_ : t.val * 256 + (j 0).val = 256 * t.val + (j 0).val) (?_ : 2048 + (j 1).val = 2048 + (j 1).val) <;> omega
theorem blk2 (X : Buf (Elt Ideal) ((c : Thread nD τ).loc (Pipeline.arrRef spec0 2))) (e : X = (ar2 f : S2048x1024.Idx → EReal)) :
    (((cfg0.win 2).blk t).view.read (Elt Ideal) X : ((cfg0.win 2).xblock (cfg0.grid.coords t)).Idx → Elt Ideal (cfg0.win 2).elt)
      = (ar2 (rows f t.val 0) : S256x1024.Idx → EReal) := by
  subst e
  funext y
  unfold ar2 rows
  blk_simp [e2]
  congr 1 <;> omega
theorem blk3 (X : Buf (Elt Ideal) ((c : Thread nD τ).loc (Pipeline.arrRef spec0 3))) (e : X = (ar2 f : S2048x1024.Idx → EReal)) :
    (((cfg0.win 3).blk t).view.read (Elt Ideal) X : ((cfg0.win 3).xblock (cfg0.grid.coords t)).Idx → Elt Ideal (cfg0.win 3).elt)
      = (ar2 (rows f t.val 0) : S256x1024.Idx → EReal) := by
  subst e
  funext y
  unfold ar2 rows
  blk_simp [e3]
  congr 1 <;> omega

/-- What the body makes of its blocks. -/
theorem tile : (k0_pay1 (F := Ideal) (ar2 f) (ar2 k) (ar2 g) (ar2 h) : S256x1024.Idx → EReal) = ar2 fun i j => gate (f i j) * g i j + gate (k i j) * h i j := by
  unfold k0_pay1
  dsimp only
  simp only [zero_broadcast, one_broadcast, widen_ar2, narrow_ar2, slice_ar2, gate_ar2, mul_ar2, sum_ar2, sub_ar2]

/-- The output block as the store's value. -/
theorem body (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (x0 : Vec Ideal S256x1024 .bf16) (x1 : Vec Ideal S256x1024 .bf16) (x2 : Vec Ideal S256x1024 .bf16) (x3 : Vec Ideal S256x1024 .bf16) :
    out0_A_4 (F := Ideal) c i arg1 harg1 arg2 harg2 arg3 harg3 arg4 harg4 arg5 harg5 x0 x1 x2 x3 = k0_pay1 (F := Ideal) x0 x1 x2 x3 := by
  unfold out0_A_4
  frame_out

/-- The result array. -/
theorem array (a0 : V m c main_arg0 = (ar2 f : S2048x4608.Idx → EReal)) (a1 : V m c main_arg1 = (ar2 g : S2048x1024.Idx → EReal)) (a2 : V m c main_arg2 = (ar2 h : S2048x1024.Idx → EReal)) :
    (dats m 0 c).arrAt 4 cfg0.N = (ar2 fun i j => gate (f i (1024 + j)) * g i j + gate (f i (2048 + j)) * h i j : S2048x1024.Idx → EReal) := by
  refine (dats m 0 c).arrAt_eq_of_covers 4 _ (by decide +kernel) fun t hf y => ?_
  rw [after0_4]
  simp only [outsAt0]
  rw [body]
  rw [show X0_0 m c t = _ from blk0 m c f t a0, show X0_1 m c t = _ from blk1 m c f t a0, show iblk m c 2 t = _ from blk2 c g t _ a1, show iblk m c 3 t = _ from blk3 c h t _ a2, tile]
  unfold ar2 rows
  blk_simp [e4]
  rw [Nat.mul_comm 256]

/-- The reference's result in the same form. -/
theorem reference : Cert.ReferenceMergeIdeal.Read.val_main_v21 (F := Ideal) (ar2 f) (ar2 g) (ar2 h)
    = (ar2 fun i j => gate (f i (1024 + j)) * g i j + gate (f i (2048 + j)) * h i j : S2048x1024.Idx → EReal) := by
  funext i
  show Ideal.div (Ideal.ofBits .f32 0x3F800000#32) (Ideal.ofBits .f32 0x3F800000#32 + Ideal.exp (-(Cert.ReferenceMergeIdeal.Read.val_main_v0 (F := Ideal) (ar2 f) i))) * g (i 0).val (i 1).val + Ideal.div (Ideal.ofBits .f32 0x3F800000#32) (Ideal.ofBits .f32 0x3F800000#32 + Ideal.exp (-(Cert.ReferenceMergeIdeal.Read.val_main_v2 (F := Ideal) (ar2 f) i))) * h (i 0).val (i 1).val
    = gate (f (i 0).val (1024 + (i 1).val)) * g (i 0).val (i 1).val + gate (f (i 0).val (2048 + (i 1).val)) * h (i 0).val (i 1).val
  rw [Cert.ReferenceMergeIdeal.Read.val_main_v0_apply, Cert.ReferenceMergeIdeal.Read.val_main_v2_apply, Ideal.ofBits_one_f32, gate, gate]
  rfl

/-- Both programs, from the same arguments, end with the same result. -/
theorem algebraic : Cert.algebraic_KernelMergeIdeal_ReferenceMergeIdeal := by
  intro m g m' g' _ he
  refine ⟨fun c => (dats m 0 c).arrAt 4 cfg0.N, Cert.KernelMergeIdeal.Value.run_blocks m g, ?_⟩
  refine (θ_run Cert.ReferenceMergeIdeal.defs _ _).mono (fun r h c => ?_) (Cert.ReferenceMergeIdeal.Value.run (F := Ideal) m' g')
  obtain ⟨r0, k⟩ := h c
  obtain ⟨e0, e1, e2⟩ := he c
  obtain ⟨x0, h0⟩ := exists_ar2 (a := 2048) (b := 4608) (m ((c : Thread nD τ).loc main_arg0))
  obtain ⟨x1, h1⟩ := exists_ar2 (a := 2048) (b := 1024) (m ((c : Thread nD τ).loc main_arg1))
  obtain ⟨x2, h2⟩ := exists_ar2 (a := 2048) (b := 1024) (m ((c : Thread nD τ).loc main_arg2))
  refine ⟨?_, k⟩
  · rw [r0, Cert.ReferenceMergeIdeal.Read.val_main_v21_eq, e0, e1, e2]
    refine Eq.trans ?_ (array m c x0 x1 x2 ((V_main_arg0 m c).trans h0) ((V_main_arg1 m c).trans h1) ((V_main_arg2 m c).trans h2)).symm
    rw [h0, h1, h2]
    exact reference x0 x1 x2

end KMerge

end
-- ==== Proof.KDmerge.lean ====
/- The gated sum of the two mixers, backward: the gradients of both mixers' results and of both gates' arguments.

   Every grid point computes one block of 256 rows of all four. -/
module

public import proofs.«01_k».proof.Proof.Gate
public import proofs.«01_k».proof.Proof.Gen.KernelDmergeIdeal.Value
public import proofs.«01_k».proof.Proof.Gen.ReferenceDmergeIdeal.Run
public import proofs.«01_k».proof.Proof.Gen.ReferenceDmergeIdeal.Read
public import proofs.«01_k».proof.Defs
public import Idealize.ShloMosaic.Lib.Pipeline.ValueKit.Geometry
public import Idealize.ShloMosaic.Lib.Pipeline.ValueKit.Acc

@[expose] public section

noncomputable section

namespace KDmerge

open Cert.KernelDmergeIdeal Cert.KernelDmergeIdeal.Gen Idealize.ShloMosaic Idealize.ShloMosaic.TcCoe Idealize.SL.Sem Product Gate

theorem e0 : ∀ t : Fin cfg0.N, win0_0.index t = ![t.val, 0] :=
  (by decide +kernel : ∀ t : Fin grid0.N, _)
theorem e1 : ∀ t : Fin cfg0.N, win0_1.index t = ![t.val, 1] :=
  (by decide +kernel : ∀ t : Fin grid0.N, _)
theorem e2 : ∀ t : Fin cfg0.N, win0_2.index t = ![t.val, 2] :=
  (by decide +kernel : ∀ t : Fin grid0.N, _)
theorem e3 : ∀ t : Fin cfg0.N, win0_3.index t = ![t.val, 0] :=
  (by decide +kernel : ∀ t : Fin grid0.N, _)
theorem e4 : ∀ t : Fin cfg0.N, win0_4.index t = ![t.val, 0] :=
  (by decide +kernel : ∀ t : Fin grid0.N, _)
theorem e5 : ∀ t : Fin cfg0.N, win0_5.index t = ![t.val, 0] :=
  (by decide +kernel : ∀ t : Fin grid0.N, _)
theorem e6 : ∀ t : Fin cfg0.N, win0_6.index t = ![t.val, 0] :=
  (by decide +kernel : ∀ t : Fin grid0.N, _)
theorem e7 : ∀ t : Fin cfg0.N, win0_7.index t = ![t.val, 0] :=
  (by decide +kernel : ∀ t : Fin grid0.N, _)
theorem e8 : ∀ t : Fin cfg0.N, win0_8.index t = ![t.val, 0] :=
  (by decide +kernel : ∀ t : Fin grid0.N, _)

variable (m : (ℓ : Loc nD τ sig) → Buf (Elt Ideal) ℓ) (c : Dev nD) (f g h k : ℕ → ℕ → EReal) (t : Fin cfg0.N)

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (e : V m c main_arg1 = (ar2 f : S2048x4608.Idx → EReal)) :
    X0_1 m c t = (ar2 (rows f t.val 1024) : S256x1024.Idx → EReal) := by
  funext j
  unfold X0_1 Pipeline.Window.fill
  rw [dif_pos (moved0_1 t j)]
  unfold iblk
  rw [show V m c (Pipeline.arrRef spec0 1) = _ from e]
  unfold ar2 rows
  blk_simp [e1]
  refine congrArg₂ f (?_ : t.val * 256 + (j 0).val = 256 * t.val + (j 0).val) (?_ : 1024 + (j 1).val = 1024 + (j 1).val) <;> omega
theorem blk2 (e : V m c main_arg1 = (ar2 f : S2048x4608.Idx → EReal)) :
    X0_2 m c t = (ar2 (rows f t.val 2048) : S256x1024.Idx → EReal) := by
  funext j
  unfold X0_2 Pipeline.Window.fill
  rw [dif_pos (moved0_2 t j)]
  unfold iblk
  rw [show V m c (Pipeline.arrRef spec0 2) = _ from e]
  unfold ar2 rows
  blk_simp [e2]
  refine congrArg₂ f (?_ : t.val * 256 + (j 0).val = 256 * t.val + (j 0).val) (?_ : 2048 + (j 1).val = 2048 + (j 1).val) <;> omega
theorem blk3 (X : Buf (Elt Ideal) ((c : Thread nD τ).loc (Pipeline.arrRef spec0 3))) (e : X = (ar2 f : S2048x1024.Idx → EReal)) :
    (((cfg0.win 3).blk t).view.read (Elt Ideal) X : ((cfg0.win 3).xblock (cfg0.grid.coords t)).Idx → Elt Ideal (cfg0.win 3).elt)
      = (ar2 (rows f t.val 0) : S256x1024.Idx → EReal) := by
  subst e
  funext y
  unfold ar2 rows
  blk_simp [e3]
  congr 1 <;> omega
theorem blk4 (X : Buf (Elt Ideal) ((c : Thread nD τ).loc (Pipeline.arrRef spec0 4))) (e : X = (ar2 f : S2048x1024.Idx → EReal)) :
    (((cfg0.win 4).blk t).view.read (Elt Ideal) X : ((cfg0.win 4).xblock (cfg0.grid.coords t)).Idx → Elt Ideal (cfg0.win 4).elt)
      = (ar2 (rows f t.val 0) : S256x1024.Idx → EReal) := by
  subst e
  funext y
  unfold ar2 rows
  blk_simp [e4]
  congr 1 <;> omega

/-- What the body makes of its blocks. -/
theorem tile0 : (k0_pay10 (F := Ideal) (ar2 f) (ar2 g) : S256x1024.Idx → EReal) = ar2 fun i j => f i j * gate (g i j) := by
  unfold k0_pay10 k0_pay4 k0_pay5
  dsimp only
  simp only [zero_broadcast, one_broadcast, widen_ar2, narrow_ar2, slice_ar2, gate_ar2, mul_ar2, sum_ar2, sub_ar2]

/-- The output block as the store's value. -/
theorem body0 (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (x0 : Vec Ideal S256x1024 .bf16) (x1 : Vec Ideal S256x1024 .bf16) (x2 : Vec Ideal S256x1024 .bf16) (x3 : Vec Ideal S256x1024 .bf16) (x4 : Vec Ideal S256x1024 .bf16) :
    out0_A_5 (F := Ideal) c i arg1 harg1 arg2 harg2 arg3 harg3 arg4 harg4 arg5 harg5 arg6 harg6 arg7 harg7 arg8 harg8 arg9 harg9 x0 x1 x2 x3 x4 = k0_pay10 (F := Ideal) x0 x1 := by
  unfold out0_A_5
  frame_out

/-- The result array. -/
theorem array0 (a0 : V m c main_arg0 = (ar2 f : S2048x1024.Idx → EReal)) (a1 : V m c main_arg1 = (ar2 g : S2048x4608.Idx → EReal)) (a2 : V m c main_arg2 = (ar2 h : S2048x1024.Idx → EReal)) (a3 : V m c main_arg3 = (ar2 k : S2048x1024.Idx → EReal)) :
    (dats m 0 c).arrAt 5 cfg0.N = (ar2 fun i j => f i j * gate (g i (1024 + j)) : S2048x1024.Idx → EReal) := by
  refine (dats m 0 c).arrAt_eq_of_covers 5 _ (by decide +kernel) fun t hf y => ?_
  rw [after0_5]
  simp only [outsAt0]
  rw [body0]
  rw [show iblk m c 0 t = _ from blk0 c f t _ a0, show X0_1 m c t = _ from blk1 m c g t a1, tile0]
  unfold ar2 rows
  blk_simp [e5]
  rw [Nat.mul_comm 256]

/-- The reference's result in the same form. -/
theorem reference0 : Cert.ReferenceDmergeIdeal.Read.val_main_v34 (F := Ideal) (ar2 f) (ar2 g)
    = (ar2 fun i j => f i j * gate (g i (1024 + j)) : S2048x1024.Idx → EReal) := by
  funext i
  show Ideal.div (Ideal.ofBits .f32 0x3F800000#32) (Ideal.ofBits .f32 0x3F800000#32 + Ideal.exp (-(Cert.ReferenceDmergeIdeal.Read.val_main_v0 (F := Ideal) (ar2 g) i))) * f (i 0).val (i 1).val
    = f (i 0).val (i 1).val * gate (g (i 0).val (1024 + (i 1).val))
  rw [Cert.ReferenceDmergeIdeal.Read.val_main_v0_apply, Ideal.ofBits_one_f32, mul_comm, gate]
  rfl

/-- What the body makes of its blocks. -/
theorem tile1 : (k0_pay1 (F := Ideal) (k0_pay7 (F := Ideal) (ar2 f) (ar2 g)) : S256x1024.Idx → EReal) = ar2 fun i j => f i j * gate (g i j) := by
  unfold k0_pay1 k0_pay7 k0_pay4 k0_pay6
  dsimp only
  simp only [zero_broadcast, one_broadcast, widen_ar2, narrow_ar2, slice_ar2, gate_ar2, mul_ar2, sum_ar2, sub_ar2]

/-- The output block as the store's value. -/
theorem body1 (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (x0 : Vec Ideal S256x1024 .bf16) (x1 : Vec Ideal S256x1024 .bf16) (x2 : Vec Ideal S256x1024 .bf16) (x3 : Vec Ideal S256x1024 .bf16) (x4 : Vec Ideal S256x1024 .bf16) :
    out0_A_6 (F := Ideal) c i arg1 harg1 arg2 harg2 arg3 harg3 arg4 harg4 arg5 harg5 arg6 harg6 arg7 harg7 arg8 harg8 arg9 harg9 x0 x1 x2 x3 x4 = k0_pay1 (F := Ideal) (k0_pay7 (F := Ideal) x0 x2) := by
  unfold out0_A_6
  frame_out

/-- The result array. -/
theorem array1 (a0 : V m c main_arg0 = (ar2 f : S2048x1024.Idx → EReal)) (a1 : V m c main_arg1 = (ar2 g : S2048x4608.Idx → EReal)) (a2 : V m c main_arg2 = (ar2 h : S2048x1024.Idx → EReal)) (a3 : V m c main_arg3 = (ar2 k : S2048x1024.Idx → EReal)) :
    (dats m 0 c).arrAt 6 cfg0.N = (ar2 fun i j => f i j * gate (g i (2048 + j)) : S2048x1024.Idx → EReal) := by
  refine (dats m 0 c).arrAt_eq_of_covers 6 _ (by decide +kernel) fun t hf y => ?_
  rw [after0_6]
  simp only [outsAt0]
  rw [body1]
  rw [show iblk m c 0 t = _ from blk0 c f t _ a0, show X0_2 m c t = _ from blk2 m c g t a1, tile1]
  unfold ar2 rows
  blk_simp [e6]
  rw [Nat.mul_comm 256]

/-- The reference's result in the same form. -/
theorem reference1 : Cert.ReferenceDmergeIdeal.Read.val_main_v35 (F := Ideal) (ar2 f) (ar2 g)
    = (ar2 fun i j => f i j * gate (g i (2048 + j)) : S2048x1024.Idx → EReal) := by
  funext i
  show Ideal.div (Ideal.ofBits .f32 0x3F800000#32) (Ideal.ofBits .f32 0x3F800000#32 + Ideal.exp (-(Cert.ReferenceDmergeIdeal.Read.val_main_v2 (F := Ideal) (ar2 g) i))) * f (i 0).val (i 1).val
    = f (i 0).val (i 1).val * gate (g (i 0).val (2048 + (i 1).val))
  rw [Cert.ReferenceDmergeIdeal.Read.val_main_v2_apply, Ideal.ofBits_one_f32, mul_comm, gate]
  rfl

/-- What the body makes of its blocks. -/
theorem tile2 : (k0_pay2 (F := Ideal) (k0_pay8 (F := Ideal) (ar2 f) (ar2 g) (ar2 h)) : S256x1024.Idx → EReal) = ar2 fun i j => f i j * h i j * gate (g i j) * (1 - gate (g i j)) := by
  unfold k0_pay2 k0_pay8 k0_pay4 k0_pay5
  dsimp only
  simp only [zero_broadcast, one_broadcast, widen_ar2, narrow_ar2, slice_ar2, gate_ar2, mul_ar2, sum_ar2, sub_ar2]

/-- The output block as the store's value. -/
theorem body2 (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (x0 : Vec Ideal S256x1024 .bf16) (x1 : Vec Ideal S256x1024 .bf16) (x2 : Vec Ideal S256x1024 .bf16) (x3 : Vec Ideal S256x1024 .bf16) (x4 : Vec Ideal S256x1024 .bf16) :
    out0_A_7 (F := Ideal) c i arg1 harg1 arg2 harg2 arg3 harg3 arg4 harg4 arg5 harg5 arg6 harg6 arg7 harg7 arg8 harg8 arg9 harg9 x0 x1 x2 x3 x4 = k0_pay2 (F := Ideal) (k0_pay8 (F := Ideal) x0 x1 x3) := by
  unfold out0_A_7
  frame_out

/-- The result array. -/
theorem array2 (a0 : V m c main_arg0 = (ar2 f : S2048x1024.Idx → EReal)) (a1 : V m c main_arg1 = (ar2 g : S2048x4608.Idx → EReal)) (a2 : V m c main_arg2 = (ar2 h : S2048x1024.Idx → EReal)) (a3 : V m c main_arg3 = (ar2 k : S2048x1024.Idx → EReal)) :
    (dats m 0 c).arrAt 7 cfg0.N = (ar2 fun i j => f i j * h i j * gate (g i (1024 + j)) * (1 - gate (g i (1024 + j))) : S2048x1024.Idx → EReal) := by
  refine (dats m 0 c).arrAt_eq_of_covers 7 _ (by decide +kernel) fun t hf y => ?_
  rw [after0_7]
  simp only [outsAt0]
  rw [body2]
  rw [show iblk m c 0 t = _ from blk0 c f t _ a0, show X0_1 m c t = _ from blk1 m c g t a1, show iblk m c 3 t = _ from blk3 c h t _ a2, tile2]
  unfold ar2 rows
  blk_simp [e7]
  rw [Nat.mul_comm 256]

/-- The reference's result in the same form. -/
theorem reference2 : Cert.ReferenceDmergeIdeal.Read.val_main_v36 (F := Ideal) (ar2 f) (ar2 g) (ar2 h)
    = (ar2 fun i j => f i j * h i j * gate (g i (1024 + j)) * (1 - gate (g i (1024 + j))) : S2048x1024.Idx → EReal) := by
  funext i
  show f (i 0).val (i 1).val * h (i 0).val (i 1).val * (Ideal.div (Ideal.ofBits .f32 0x3F800000#32) (Ideal.ofBits .f32 0x3F800000#32 + Ideal.exp (-(Cert.ReferenceDmergeIdeal.Read.val_main_v0 (F := Ideal) (ar2 g) i))) * (Ideal.ofBits .f32 0x3F800000#32 - Ideal.div (Ideal.ofBits .f32 0x3F800000#32) (Ideal.ofBits .f32 0x3F800000#32 + Ideal.exp (-(Cert.ReferenceDmergeIdeal.Read.val_main_v0 (F := Ideal) (ar2 g) i)))))
    = f (i 0).val (i 1).val * h (i 0).val (i 1).val * gate (g (i 0).val (1024 + (i 1).val)) * (1 - gate (g (i 0).val (1024 + (i 1).val)))
  rw [Cert.ReferenceDmergeIdeal.Read.val_main_v0_apply, Ideal.ofBits_one_f32, ← mul_assoc, gate]
  rfl

/-- What the body makes of its blocks. -/
theorem tile3 : (k0_pay3 (F := Ideal) (k0_pay9 (F := Ideal) (ar2 f) (ar2 g) (ar2 k)) : S256x1024.Idx → EReal) = ar2 fun i j => f i j * k i j * gate (g i j) * (1 - gate (g i j)) := by
  unfold k0_pay3 k0_pay9 k0_pay4 k0_pay6
  dsimp only
  simp only [zero_broadcast, one_broadcast, widen_ar2, narrow_ar2, slice_ar2, gate_ar2, mul_ar2, sum_ar2, sub_ar2]

/-- The output block as the store's value. -/
theorem body3 (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (x0 : Vec Ideal S256x1024 .bf16) (x1 : Vec Ideal S256x1024 .bf16) (x2 : Vec Ideal S256x1024 .bf16) (x3 : Vec Ideal S256x1024 .bf16) (x4 : Vec Ideal S256x1024 .bf16) :
    out0_A_8 (F := Ideal) c i arg1 harg1 arg2 harg2 arg3 harg3 arg4 harg4 arg5 harg5 arg6 harg6 arg7 harg7 arg8 harg8 arg9 harg9 x0 x1 x2 x3 x4 = k0_pay3 (F := Ideal) (k0_pay9 (F := Ideal) x0 x2 x4) := by
  unfold out0_A_8
  frame_out

/-- The result array. -/
theorem array3 (a0 : V m c main_arg0 = (ar2 f : S2048x1024.Idx → EReal)) (a1 : V m c main_arg1 = (ar2 g : S2048x4608.Idx → EReal)) (a2 : V m c main_arg2 = (ar2 h : S2048x1024.Idx → EReal)) (a3 : V m c main_arg3 = (ar2 k : S2048x1024.Idx → EReal)) :
    (dats m 0 c).arrAt 8 cfg0.N = (ar2 fun i j => f i j * k i j * gate (g i (2048 + j)) * (1 - gate (g i (2048 + j))) : S2048x1024.Idx → EReal) := by
  refine (dats m 0 c).arrAt_eq_of_covers 8 _ (by decide +kernel) fun t hf y => ?_
  rw [after0_8]
  simp only [outsAt0]
  rw [body3]
  rw [show iblk m c 0 t = _ from blk0 c f t _ a0, show X0_2 m c t = _ from blk2 m c g t a1, show iblk m c 4 t = _ from blk4 c k t _ a3, tile3]
  unfold ar2 rows
  blk_simp [e8]
  rw [Nat.mul_comm 256]

/-- The reference's result in the same form. -/
theorem reference3 : Cert.ReferenceDmergeIdeal.Read.val_main_v37 (F := Ideal) (ar2 f) (ar2 g) (ar2 k)
    = (ar2 fun i j => f i j * k i j * gate (g i (2048 + j)) * (1 - gate (g i (2048 + j))) : S2048x1024.Idx → EReal) := by
  funext i
  show f (i 0).val (i 1).val * k (i 0).val (i 1).val * (Ideal.div (Ideal.ofBits .f32 0x3F800000#32) (Ideal.ofBits .f32 0x3F800000#32 + Ideal.exp (-(Cert.ReferenceDmergeIdeal.Read.val_main_v2 (F := Ideal) (ar2 g) i))) * (Ideal.ofBits .f32 0x3F800000#32 - Ideal.div (Ideal.ofBits .f32 0x3F800000#32) (Ideal.ofBits .f32 0x3F800000#32 + Ideal.exp (-(Cert.ReferenceDmergeIdeal.Read.val_main_v2 (F := Ideal) (ar2 g) i)))))
    = f (i 0).val (i 1).val * k (i 0).val (i 1).val * gate (g (i 0).val (2048 + (i 1).val)) * (1 - gate (g (i 0).val (2048 + (i 1).val)))
  rw [Cert.ReferenceDmergeIdeal.Read.val_main_v2_apply, Ideal.ofBits_one_f32, ← mul_assoc, gate]
  rfl

/-- Both programs, from the same arguments, end with the same results. -/
theorem algebraic : Cert.algebraic_KernelDmergeIdeal_ReferenceDmergeIdeal := by
  intro m g m' g' _ he
  refine ⟨fun c => (dats m 0 c).arrAt 5 cfg0.N, fun c => (dats m 0 c).arrAt 6 cfg0.N, fun c => (dats m 0 c).arrAt 7 cfg0.N, fun c => (dats m 0 c).arrAt 8 cfg0.N, Cert.KernelDmergeIdeal.Value.run_blocks m g, ?_⟩
  refine (θ_run Cert.ReferenceDmergeIdeal.defs _ _).mono (fun r h c => ?_) (Cert.ReferenceDmergeIdeal.Value.run (F := Ideal) m' g')
  obtain ⟨r0, r1, r2, r3, k⟩ := h c
  obtain ⟨e0, e1, e2, e3⟩ := he c
  obtain ⟨x0, h0⟩ := exists_ar2 (a := 2048) (b := 1024) (m ((c : Thread nD τ).loc main_arg0))
  obtain ⟨x1, h1⟩ := exists_ar2 (a := 2048) (b := 4608) (m ((c : Thread nD τ).loc main_arg1))
  obtain ⟨x2, h2⟩ := exists_ar2 (a := 2048) (b := 1024) (m ((c : Thread nD τ).loc main_arg2))
  obtain ⟨x3, h3⟩ := exists_ar2 (a := 2048) (b := 1024) (m ((c : Thread nD τ).loc main_arg3))
  refine ⟨?_, ?_, ?_, ?_, k⟩
  · rw [r0, Cert.ReferenceDmergeIdeal.Read.val_main_v34_eq, e0, e1]
    refine Eq.trans ?_ (array0 m c x0 x1 x2 x3 ((V_main_arg0 m c).trans h0) ((V_main_arg1 m c).trans h1) ((V_main_arg2 m c).trans h2) ((V_main_arg3 m c).trans h3)).symm
    rw [h0, h1]
    exact reference0 x0 x1
  · rw [r1, Cert.ReferenceDmergeIdeal.Read.val_main_v35_eq, e0, e1]
    refine Eq.trans ?_ (array1 m c x0 x1 x2 x3 ((V_main_arg0 m c).trans h0) ((V_main_arg1 m c).trans h1) ((V_main_arg2 m c).trans h2) ((V_main_arg3 m c).trans h3)).symm
    rw [h0, h1]
    exact reference1 x0 x1
  · rw [r2, Cert.ReferenceDmergeIdeal.Read.val_main_v36_eq, e0, e1, e2]
    refine Eq.trans ?_ (array2 m c x0 x1 x2 x3 ((V_main_arg0 m c).trans h0) ((V_main_arg1 m c).trans h1) ((V_main_arg2 m c).trans h2) ((V_main_arg3 m c).trans h3)).symm
    rw [h0, h1, h2]
    exact reference2 x0 x1 x2
  · rw [r3, Cert.ReferenceDmergeIdeal.Read.val_main_v37_eq, e0, e1, e3]
    refine Eq.trans ?_ (array3 m c x0 x1 x2 x3 ((V_main_arg0 m c).trans h0) ((V_main_arg1 m c).trans h1) ((V_main_arg2 m c).trans h2) ((V_main_arg3 m c).trans h3)).symm
    rw [h0, h1, h3]
    exact reference3 x0 x1 x3

end KDmerge

end
-- ==== Proof.KMix.lean ====
/- The gated per-layer embedding, forward: the residual plus the gate of one array times another.

   Every grid point computes one block of 256 rows. -/
module

public import proofs.«01_k».proof.Proof.Gate
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Defs
public import Idealize.ShloMosaic.Lib.Pipeline.ValueKit.Geometry
public import Idealize.ShloMosaic.Lib.Pipeline.ValueKit.Acc

@[expose] public section

noncomputable section

namespace KMix

open Cert.KernelMixIdeal Cert.KernelMixIdeal.Gen Idealize.ShloMosaic Idealize.ShloMosaic.TcCoe Idealize.SL.Sem Product Gate

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)
theorem e2 : ∀ t : Fin cfg0.N, win0_2.index t = ![t.val, 0] :=
  (by decide +kernel : ∀ t : Fin grid0.N, _)
theorem e3 : ∀ t : Fin cfg0.N, win0_3.index t = ![t.val, 0] :=
  (by decide +kernel : ∀ t : Fin grid0.N, _)

variable (m : (ℓ : Loc nD τ sig) → Buf (Elt Ideal) ℓ) (c : Dev nD) (f g h : ℕ → ℕ → EReal) (t : Fin cfg0.N)

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (X : Buf (Elt Ideal) ((c : Thread nD τ).loc (Pipeline.arrRef spec0 1))) (e : X = (ar2 f : S2048x1024.Idx → EReal)) :
    (((cfg0.win 1).blk t).view.read (Elt Ideal) X : ((cfg0.win 1).xblock (cfg0.grid.coords t)).Idx → Elt Ideal (cfg0.win 1).elt)
      = (ar2 (rows f t.val 0) : S256x1024.Idx → EReal) := by
  subst e
  funext y
  unfold ar2 rows
  blk_simp [e1]
  congr 1 <;> omega
theorem blk2 (X : Buf (Elt Ideal) ((c : Thread nD τ).loc (Pipeline.arrRef spec0 2))) (e : X = (ar2 f : S2048x1024.Idx → EReal)) :
    (((cfg0.win 2).blk t).view.read (Elt Ideal) X : ((cfg0.win 2).xblock (cfg0.grid.coords t)).Idx → Elt Ideal (cfg0.win 2).elt)
      = (ar2 (rows f t.val 0) : S256x1024.Idx → EReal) := by
  subst e
  funext y
  unfold ar2 rows
  blk_simp [e2]
  congr 1 <;> omega

/-- What the body makes of its blocks. -/
theorem tile : (k0_pay1 (F := Ideal) (ar2 f) (ar2 g) (ar2 h) : S256x1024.Idx → EReal) = ar2 fun i j => f i j + gate (g i j) * h i j := by
  unfold k0_pay1
  dsimp only
  simp only [zero_broadcast, one_broadcast, widen_ar2, gate_ar2, mul_ar2, sum_ar2, sub_ar2]

/-- The output block as the store's value. -/
theorem body : out0_3 (iblk m c 0 t) (iblk m c 1 t) (iblk m c 2 t) = k0_pay1 (F := Ideal) (iblk m c 0 t) (iblk m c 1 t) (iblk m c 2 t) := by
  unfold out0_3
  frame_out

/-- The result array. -/
theorem array (a0 : V m c main_arg0 = (ar2 f : S2048x1024.Idx → EReal)) (a1 : V m c main_arg1 = (ar2 g : S2048x1024.Idx → EReal)) (a2 : V m c main_arg2 = (ar2 h : S2048x1024.Idx → EReal)) :
    (dats m 0 c).arrAt 3 cfg0.N = (ar2 fun i j => f i j + gate (g i j) * h i j : S2048x1024.Idx → EReal) := by
  refine (dats m 0 c).arrAt_eq_of_covers 3 _ (by decide +kernel) fun t hf y => ?_
  rw [after0_3, body]
  rw [show iblk m c 0 t = _ from blk0 c f t _ a0, show iblk m c 1 t = _ from blk1 c g t _ a1, show iblk m c 2 t = _ from blk2 c h t _ a2, tile]
  unfold ar2 rows
  blk_simp [e3]
  rw [Nat.mul_comm 256]

/-- The reference's result in the same form. -/
theorem reference : Cert.ReferenceMixIdeal.Read.val_main_v9 (F := Ideal) (ar2 f) (ar2 g) (ar2 h)
    = (ar2 fun i j => f i j + gate (g i j) * h i j : S2048x1024.Idx → EReal) := by
  funext i
  show f (i 0).val (i 1).val + Ideal.div (Ideal.ofBits .f32 0x3F800000#32) (Ideal.ofBits .f32 0x3F800000#32 + Ideal.exp (-(g (i 0).val (i 1).val))) * h (i 0).val (i 1).val
    = f (i 0).val (i 1).val + gate (g (i 0).val (i 1).val) * h (i 0).val (i 1).val
  rw [Ideal.ofBits_one_f32, gate]

/-- Both programs, from the same arguments, end with the same result. -/
theorem algebraic : Cert.algebraic_KernelMixIdeal_ReferenceMixIdeal := by
  intro m g m' g' _ he
  refine ⟨fun c => (dats m 0 c).arrAt 3 cfg0.N, Cert.KernelMixIdeal.Value.run_blocks m g, ?_⟩
  refine (θ_run Cert.ReferenceMixIdeal.defs _ _).mono (fun r h c => ?_) (Cert.ReferenceMixIdeal.Value.run (F := Ideal) m' g')
  obtain ⟨r0, k⟩ := h c
  obtain ⟨e0, e1, e2⟩ := he c
  refine ⟨?_, k⟩
  obtain ⟨x, hx⟩ := exists_ar2 (a := 2048) (b := 1024) (m ((c : Thread nD τ).loc main_arg0))
  obtain ⟨y, hy⟩ := exists_ar2 (a := 2048) (b := 1024) (m ((c : Thread nD τ).loc main_arg1))
  obtain ⟨z, hz⟩ := exists_ar2 (a := 2048) (b := 1024) (m ((c : Thread nD τ).loc main_arg2))
  rw [r0, Cert.ReferenceMixIdeal.Read.val_main_v9_eq, e0, e1, e2]
  refine Eq.trans ?_ (array m c x y z ((V_main_arg0 m c).trans hx) ((V_main_arg1 m c).trans hy) ((V_main_arg2 m c).trans hz)).symm
  rw [hx, hy, hz]
  exact reference x y z

end KMix

end
-- ==== Proof.KDmix.lean ====
/- The gated per-layer embedding, backward: the gradients of the gate's argument and of the gated array.

   Every grid point computes one block of 256 rows of both. -/
module

public import proofs.«01_k».proof.Proof.Gate
public import proofs.«01_k».proof.Proof.Gen.KernelDmixIdeal.Value
public import proofs.«01_k».proof.Proof.Gen.ReferenceDmixIdeal.Run
public import proofs.«01_k».proof.Proof.Gen.ReferenceDmixIdeal.Read
public import proofs.«01_k».proof.Defs
public import Idealize.ShloMosaic.Lib.Pipeline.ValueKit.Geometry
public import Idealize.ShloMosaic.Lib.Pipeline.ValueKit.Acc

@[expose] public section

noncomputable section

namespace KDmix

open Cert.KernelDmixIdeal Cert.KernelDmixIdeal.Gen Idealize.ShloMosaic Idealize.ShloMosaic.TcCoe Idealize.SL.Sem Product Gate

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)
theorem e2 : ∀ t : Fin cfg0.N, win0_2.index t = ![t.val, 0] :=
  (by decide +kernel : ∀ t : Fin grid0.N, _)
theorem e3 : ∀ t : Fin cfg0.N, win0_3.index t = ![t.val, 0] :=
  (by decide +kernel : ∀ t : Fin grid0.N, _)
theorem e4 : ∀ t : Fin cfg0.N, win0_4.index t = ![t.val, 0] :=
  (by decide +kernel : ∀ t : Fin grid0.N, _)

variable (m : (ℓ : Loc nD τ sig) → Buf (Elt Ideal) ℓ) (c : Dev nD) (f g h : ℕ → ℕ → EReal) (t : Fin cfg0.N)

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (X : Buf (Elt Ideal) ((c : Thread nD τ).loc (Pipeline.arrRef spec0 1))) (e : X = (ar2 f : S2048x1024.Idx → EReal)) :
    (((cfg0.win 1).blk t).view.read (Elt Ideal) X : ((cfg0.win 1).xblock (cfg0.grid.coords t)).Idx → Elt Ideal (cfg0.win 1).elt)
      = (ar2 (rows f t.val 0) : S256x1024.Idx → EReal) := by
  subst e
  funext y
  unfold ar2 rows
  blk_simp [e1]
  congr 1 <;> omega
theorem blk2 (X : Buf (Elt Ideal) ((c : Thread nD τ).loc (Pipeline.arrRef spec0 2))) (e : X = (ar2 f : S2048x1024.Idx → EReal)) :
    (((cfg0.win 2).blk t).view.read (Elt Ideal) X : ((cfg0.win 2).xblock (cfg0.grid.coords t)).Idx → Elt Ideal (cfg0.win 2).elt)
      = (ar2 (rows f t.val 0) : S256x1024.Idx → EReal) := by
  subst e
  funext y
  unfold ar2 rows
  blk_simp [e2]
  congr 1 <;> omega

/-- What the body makes of its blocks. -/
theorem tile0 : (k0_pay2 (F := Ideal) (ar2 f) (ar2 g) (ar2 h) : S256x1024.Idx → EReal) = ar2 fun i j => f i j * h i j * gate (g i j) * (1 - gate (g i j)) := by
  unfold k0_pay2 k0_pay1
  dsimp only
  simp only [zero_broadcast, one_broadcast, widen_ar2, narrow_ar2, slice_ar2, gate_ar2, mul_ar2, sum_ar2, sub_ar2]

/-- The output block as the store's value. -/
theorem body0 : out0_3 (iblk m c 0 t) (iblk m c 1 t) (iblk m c 2 t) = k0_pay2 (F := Ideal) (iblk m c 0 t) (iblk m c 1 t) (iblk m c 2 t) := by
  unfold out0_3
  frame_out

/-- The result array. -/
theorem array0 (a0 : V m c main_arg0 = (ar2 f : S2048x1024.Idx → EReal)) (a1 : V m c main_arg1 = (ar2 g : S2048x1024.Idx → EReal)) (a2 : V m c main_arg2 = (ar2 h : S2048x1024.Idx → EReal)) :
    (dats m 0 c).arrAt 3 cfg0.N = (ar2 fun i j => f i j * h i j * gate (g i j) * (1 - gate (g i j)) : S2048x1024.Idx → EReal) := by
  refine (dats m 0 c).arrAt_eq_of_covers 3 _ (by decide +kernel) fun t hf y => ?_
  rw [after0_3, body0]
  rw [show iblk m c 0 t = _ from blk0 c f t _ a0, show iblk m c 1 t = _ from blk1 c g t _ a1, show iblk m c 2 t = _ from blk2 c h t _ a2, tile0]
  unfold ar2 rows
  blk_simp [e3]
  rw [Nat.mul_comm 256]

/-- The reference's result in the same form. -/
theorem reference0 : Cert.ReferenceDmixIdeal.Read.val_main_v15 (F := Ideal) (ar2 f) (ar2 g) (ar2 h)
    = (ar2 fun i j => f i j * h i j * gate (g i j) * (1 - gate (g i j)) : S2048x1024.Idx → EReal) := by
  funext i
  show f (i 0).val (i 1).val * h (i 0).val (i 1).val * (Ideal.div (Ideal.ofBits .f32 0x3F800000#32) (Ideal.ofBits .f32 0x3F800000#32 + Ideal.exp (-(g (i 0).val (i 1).val))) * (Ideal.ofBits .f32 0x3F800000#32 - Ideal.div (Ideal.ofBits .f32 0x3F800000#32) (Ideal.ofBits .f32 0x3F800000#32 + Ideal.exp (-(g (i 0).val (i 1).val)))))
    = f (i 0).val (i 1).val * h (i 0).val (i 1).val * gate (g (i 0).val (i 1).val) * (1 - gate (g (i 0).val (i 1).val))
  rw [Ideal.ofBits_one_f32, gate, mul_assoc (f _ _ * h _ _)]

/-- What the body makes of its blocks. -/
theorem tile1 : (k0_pay3 (F := Ideal) (ar2 f) (ar2 g) : S256x1024.Idx → EReal) = ar2 fun i j => f i j * gate (g i j) := by
  unfold k0_pay3 k0_pay1
  dsimp only
  simp only [zero_broadcast, one_broadcast, widen_ar2, narrow_ar2, slice_ar2, gate_ar2, mul_ar2, sum_ar2, sub_ar2]

/-- The output block as the store's value. -/
theorem body1 : out0_4 (iblk m c 0 t) (iblk m c 1 t) (iblk m c 2 t) = k0_pay3 (F := Ideal) (iblk m c 0 t) (iblk m c 1 t) := by
  unfold out0_4
  frame_out

/-- The result array. -/
theorem array1 (a0 : V m c main_arg0 = (ar2 f : S2048x1024.Idx → EReal)) (a1 : V m c main_arg1 = (ar2 g : S2048x1024.Idx → EReal)) (a2 : V m c main_arg2 = (ar2 h : S2048x1024.Idx → EReal)) :
    (dats m 0 c).arrAt 4 cfg0.N = (ar2 fun i j => f i j * gate (g i j) : S2048x1024.Idx → EReal) := by
  refine (dats m 0 c).arrAt_eq_of_covers 4 _ (by decide +kernel) fun t hf y => ?_
  rw [after0_4, body1]
  rw [show iblk m c 0 t = _ from blk0 c f t _ a0, show iblk m c 1 t = _ from blk1 c g t _ a1, tile1]
  unfold ar2 rows
  blk_simp [e4]
  rw [Nat.mul_comm 256]

/-- The reference's result in the same form. -/
theorem reference1 : Cert.ReferenceDmixIdeal.Read.val_main_v16 (F := Ideal) (ar2 f) (ar2 g)
    = (ar2 fun i j => f i j * gate (g i j) : S2048x1024.Idx → EReal) := by
  funext i
  show Ideal.div (Ideal.ofBits .f32 0x3F800000#32) (Ideal.ofBits .f32 0x3F800000#32 + Ideal.exp (-(g (i 0).val (i 1).val))) * f (i 0).val (i 1).val
    = f (i 0).val (i 1).val * gate (g (i 0).val (i 1).val)
  rw [Ideal.ofBits_one_f32, gate, mul_comm]

/-- Both programs, from the same arguments, end with the same results. -/
theorem algebraic : Cert.algebraic_KernelDmixIdeal_ReferenceDmixIdeal := by
  intro m g m' g' _ he
  refine ⟨fun c => (dats m 0 c).arrAt 3 cfg0.N, fun c => (dats m 0 c).arrAt 4 cfg0.N, Cert.KernelDmixIdeal.Value.run_blocks m g, ?_⟩
  refine (θ_run Cert.ReferenceDmixIdeal.defs _ _).mono (fun r h c => ?_) (Cert.ReferenceDmixIdeal.Value.run (F := Ideal) m' g')
  obtain ⟨r0, r1, k⟩ := h c
  obtain ⟨e0, e1, e2⟩ := he c
  obtain ⟨x0, h0⟩ := exists_ar2 (a := 2048) (b := 1024) (m ((c : Thread nD τ).loc main_arg0))
  obtain ⟨x1, h1⟩ := exists_ar2 (a := 2048) (b := 1024) (m ((c : Thread nD τ).loc main_arg1))
  obtain ⟨x2, h2⟩ := exists_ar2 (a := 2048) (b := 1024) (m ((c : Thread nD τ).loc main_arg2))
  refine ⟨?_, ?_, k⟩
  · rw [r0, Cert.ReferenceDmixIdeal.Read.val_main_v15_eq, e0, e1, e2]
    refine Eq.trans ?_ (array0 m c x0 x1 x2 ((V_main_arg0 m c).trans h0) ((V_main_arg1 m c).trans h1) ((V_main_arg2 m c).trans h2)).symm
    rw [h0, h1, h2]
    exact reference0 x0 x1 x2
  · rw [r1, Cert.ReferenceDmixIdeal.Read.val_main_v16_eq, e0, e1]
    refine Eq.trans ?_ (array1 m c x0 x1 x2 ((V_main_arg0 m c).trans h0) ((V_main_arg1 m c).trans h1) ((V_main_arg2 m c).trans h2)).symm
    rw [h0, h1]
    exact reference1 x0 x1

end KDmix

end
-- ==== Proof.Norm.lean ====
/- The root-mean-square normalisation of rows of 1024 entries, and its derivative, over the extended reals.

   A row is divided by the square root of its mean square plus a positive number.  The factor is therefore a real number, never
   negative, whatever the row holds, and so it may be carried through sums. -/
module

public import proofs.«01_k».proof.Proof.Gate

@[expose] public section

noncomputable section

namespace Norm

open Idealize.ShloMosaic Idealize.ShloMosaic.ValueIdx Product Finset

/-- The number of entries of a row, as the programs write it, -/
def len : EReal := Ideal.ofBits .f32 0x44800000#32
/-- the number added to the mean square, -/
def eps : EReal := Ideal.ofBits .f32 0x358637BD#32
/-- and the exponent of the derivative of the inverse square root. -/
def half : EReal := Ideal.ofBits .f32 0xBF000000#32

theorem len_eq : len = ((1024 : ℝ) : EReal) := by
  simp [len, Ideal.ofBits, Ideal.ieee, -EReal.coe_mul] <;> norm_num
theorem half_eq : half = ((-(1 / 2) : ℝ) : EReal) := by
  simp [half, Ideal.ofBits, Ideal.ieee, -EReal.coe_mul] <;> norm_num
theorem eps_eq : ∃ e : ℝ, 0 < e ∧ eps = (e : EReal) := by
  refine ⟨8796093 * (2 ^ 43)⁻¹, by positivity, ?_⟩
  simp [eps, Ideal.ofBits, Ideal.ieee, -EReal.coe_mul] <;> norm_num

/-- Division by the row's length is multiplication by a real. -/
theorem div_len (x : EReal) : Ideal.div x len = x * ((1 / 1024 : ℝ) : EReal) := by
  rw [len_eq, Ideal.div_coe (by norm_num)]

theorem square_nonneg (x : EReal) : 0 ≤ x * x := by
  rcases le_total 0 x with h | h
  · exact mul_nonneg h h
  · rw [← neg_mul_neg]
    exact mul_nonneg (by simpa using h) (by simpa using h)

/-- The mean square of a row plus the small number, -/
def arg (x : ℕ → EReal) : EReal := Ideal.div (∑ k ∈ range 1024, x k * x k) len + eps
/-- and its inverse square root. -/
def inv (x : ℕ → EReal) : EReal := Ideal.rsqrt (arg x)

/-- The factor is a real, not negative, and its quotient by its argument is its third power. -/
theorem inv_real (x : ℕ → EReal) : ∃ r : ℝ, 0 ≤ r ∧ inv x = (r : EReal) ∧ Ideal.div (inv x) (arg x) = ((r * r * r : ℝ) : EReal) := by
  obtain ⟨e, he, hE⟩ := eps_eq
  have hs : 0 ≤ Ideal.div (∑ k ∈ range 1024, x k * x k) len := by
    rw [div_len]
    exact mul_nonneg (sum_nonneg fun k _ => square_nonneg _) (by exact_mod_cast (by norm_num : (0 : ℝ) ≤ 1 / 1024))
  unfold inv arg
  rw [hE]
  generalize Ideal.div (∑ k ∈ range 1024, x k * x k) len = u at hs ⊢
  induction u with
  | bot => exact absurd hs (by simp)
  | top =>
    refine ⟨0, le_rfl, ?_, ?_⟩
    · simp
    · simp [Ideal.div]
  | coe u =>
    have hu : 0 ≤ u := by exact_mod_cast hs
    have hp : 0 < u + e := by linarith
    have hq : 0 < Real.sqrt (u + e) := Real.sqrt_pos.mpr hp
    have hv : Ideal.rsqrt ((u : EReal) + (e : EReal)) = (((Real.sqrt (u + e))⁻¹ : ℝ) : EReal) := by
      rw [← EReal.coe_add, Ideal.rsqrt_coe, if_neg (not_lt.mpr hp.le), if_neg hp.ne']
    refine ⟨(Real.sqrt (u + e))⁻¹, inv_nonneg.mpr hq.le, hv, ?_⟩
    rw [hv, ← EReal.coe_add, Ideal.div_coe hp.ne', ← EReal.coe_mul]
    congr 1
    have h2 : Real.sqrt (u + e) * Real.sqrt (u + e) = u + e := Real.mul_self_sqrt hp.le
    have h3 : 1 / (u + e) = (Real.sqrt (u + e))⁻¹ * (Real.sqrt (u + e))⁻¹ := by rw [one_div, ← mul_inv, h2]
    rw [h3, mul_assoc]

/-- A real that is not negative goes through a sum. -/
theorem sum_mul_real (n : ℕ) (f : ℕ → EReal) (r : ℝ) (hr : 0 ≤ r) : (∑ k ∈ range n, f k * (r : EReal)) = (∑ k ∈ range n, f k) * (r : EReal) := by
  induction n with
  | zero => simp
  | succ n ih =>
    rw [sum_range_succ, sum_range_succ, ih, EReal.right_distrib_of_nonneg_of_ne_top (by exact_mod_cast hr) (EReal.coe_ne_top r)]

/-- A value times minus a real, twice, is the value times minus twice the real. -/
theorem twice (y : EReal) (p : ℝ) (hp : 0 ≤ p) : y * ((-p : ℝ) : EReal) + y * ((-p : ℝ) : EReal) = -(y * ((p + p : ℝ) : EReal)) := by
  have hp' : (0 : EReal) ≤ (p : EReal) := by exact_mod_cast hp
  rw [EReal.coe_neg, mul_neg, ← neg_mul, ← neg_mul, EReal.coe_add, EReal.left_distrib_of_nonneg hp' hp']

/-- The derivative of a row's normalisation along a row `a`, at the entry `X` of the row where `a` is `A`: the form with the
    normalised row taken out, and the form the rules of calculus give. -/
theorem grad (x a : ℕ → EReal) (X A : EReal) :
    inv x * (A - X * inv x * Ideal.div (∑ k ∈ range 1024, a k * (x k * inv x)) len)
      = A * inv x + X * Ideal.div ((∑ k ∈ range 1024, x k * a k) * (half * Ideal.div (inv x) (arg x))) len
        + Ideal.div ((∑ k ∈ range 1024, x k * a k) * (half * Ideal.div (inv x) (arg x))) len * X := by
  obtain ⟨r, hr, e1, e2⟩ := inv_real x
  rw [e2, e1, div_len, div_len, half_eq]
  have hS : (∑ k ∈ range 1024, a k * (x k * (r : EReal))) = (∑ k ∈ range 1024, x k * a k) * (r : EReal) := by
    rw [← sum_mul_real 1024 _ r hr]
    exact sum_eq fun k _ => by rw [← mul_assoc, mul_comm (a k)]
  rw [hS]
  generalize (∑ k ∈ range 1024, x k * a k) = S
  have hr' : (0 : EReal) ≤ (r : EReal) := by exact_mod_cast hr
  have hp : 0 ≤ r * r * r / 2048 := by positivity
  have hT : S * (((-(1 / 2) : ℝ) : EReal) * ((r * r * r : ℝ) : EReal)) * ((1 / 1024 : ℝ) : EReal) = S * ((-(r * r * r / 2048) : ℝ) : EReal) := by
    rw [mul_assoc, ← EReal.coe_mul, ← EReal.coe_mul]
    congr 2
    ring
  rw [hT, mul_comm _ X, add_assoc, ← mul_assoc X S, twice (X * S) _ hp, EReal.mul_sub_of_nonneg_of_ne_top hr' (EReal.coe_ne_top r), mul_comm A, sub_eq_add_neg]
  congr 2
  rw [show X * (r : EReal) * (S * (r : EReal) * ((1 / 1024 : ℝ) : EReal)) = X * S * ((r : EReal) * ((r : EReal) * ((1 / 1024 : ℝ) : EReal))) by ac_rfl,
    mul_left_comm, ← EReal.coe_mul, ← EReal.coe_mul, ← EReal.coe_mul]
  congr 2
  ring

variable {a b : ℕ}

/-- The sum of each row, as a column. -/
theorem rowsum (f : ℕ → ℕ → EReal) (ds : List (Fin (⟨2, ![a, b]⟩ : Shape).rank)) (h : (⟨2, ![a, b]⟩ : Shape).Reduces ds ⟨1, ![a]⟩) (hφ : FKind.Formats .f32) (acc : BitVec 32) (hacc : acc = 0x00000000#32) (hds : ds = [1])
    (hc : (⟨1, ![a]⟩ : Shape).ShapeCasts ⟨2, ![a, 1]⟩) :
    (shapeCast ⟨2, ![a, 1]⟩ (multiReduction (F := Ideal) (φ := .f32) .add ds ⟨1, ![a]⟩ (ar2 f : FVec Ideal ⟨2, ![a, b]⟩ .f32) acc h hφ hacc) hc : FVec Ideal ⟨2, ![a, 1]⟩ .f32)
      = ar2 fun i _ => ∑ k ∈ range b, f i k := by
  funext i
  subst hds
  rw [shapeCast_apply _ hc i (ix1 (i 0)) (by
    have := (i 1).isLt
    rw [Shape.rowMajor_val_one, Shape.rowMajor_val_two]
    show (i 0).val = (i 0).val * 1 + (i 1).val
    simp at this; omega)]
  refine (Ideal.multiReduction_add_single (φ := .f32) (ar2 f : FVec Ideal ⟨2, ![a, b]⟩ .f32) _ h hφ hacc _).trans ?_
  exact (sum_range (fun k => f (i 0).val k)).symm
/-- The sum of each column, as a row. -/
theorem colsum (f : ℕ → ℕ → EReal) (ds : List (Fin (⟨2, ![a, b]⟩ : Shape).rank)) (h : (⟨2, ![a, b]⟩ : Shape).Reduces ds ⟨1, ![b]⟩) (hφ : FKind.Formats .f32) (acc : BitVec 32) (hacc : acc = 0x00000000#32) (hds : ds = [0])
    (hc : (⟨1, ![b]⟩ : Shape).ShapeCasts ⟨2, ![1, b]⟩) :
    (shapeCast ⟨2, ![1, b]⟩ (multiReduction (F := Ideal) (φ := .f32) .add ds ⟨1, ![b]⟩ (ar2 f : FVec Ideal ⟨2, ![a, b]⟩ .f32) acc h hφ hacc) hc : FVec Ideal ⟨2, ![1, b]⟩ .f32)
      = ar2 fun _ j => ∑ k ∈ range a, f k j := by
  funext i
  subst hds
  rw [shapeCast_apply _ hc i (ix1 (i 1)) (by
    have h0 : (i 0).val = 0 := Nat.lt_one_iff.mp (i 0).isLt
    rw [Shape.rowMajor_val_one, Shape.rowMajor_val_two]
    show (i 1).val = (i 0).val * b + (i 1).val
    rw [h0]; omega)]
  refine (Ideal.multiReduction_add_single (φ := .f32) (ar2 f : FVec Ideal ⟨2, ![a, b]⟩ .f32) _ h hφ hacc _).trans ?_
  exact (sum_range (fun k => f k (i 1).val)).symm
/-- A column repeated along the rows. -/
theorem spread_col (f : ℕ → ℕ → EReal) (h : (⟨2, ![a, 1]⟩ : Shape).Broadcasts ⟨2, ![a, b]⟩) :
    broadcastTo ⟨2, ![a, b]⟩ (ar2 f) h = ar2 fun i _ => f i 0 := by
  funext i
  refine (broadcastTo_apply (ar2 f) h i (ix2 (i 0) 0) fun x => ?_).trans rfl
  match x with
  | ⟨0, _⟩ =>
    show (i 0).val = if a = 1 then 0 else (i 0).val
    split
    · have := (i 0).isLt; simp at this; omega
    · rfl
  | ⟨1, _⟩ => rfl
/-- A row repeated along the columns. -/
theorem spread_row (f : ℕ → ℕ → EReal) (h : (⟨2, ![1, b]⟩ : Shape).Broadcasts ⟨2, ![a, b]⟩) :
    broadcastTo ⟨2, ![a, b]⟩ (ar2 f) h = ar2 fun _ j => f 0 j := by
  funext i
  refine (broadcastTo_apply (ar2 f) h i (ix2 0 (i 1)) fun x => ?_).trans rfl
  match x with
  | ⟨0, _⟩ => rfl
  | ⟨1, _⟩ =>
    show (i 1).val = if b = 1 then 0 else (i 1).val
    split
    · have := (i 1).isLt; simp at this; omega
    · rfl
theorem len_broadcast : (broadcast ⟨2, ![a, b]⟩ (Scalar.ofBits .f32 0x44800000#32 : Ideal .f32) : FVec Ideal ⟨2, ![a, b]⟩ .f32) = ar2 fun _ _ => len := rfl
theorem eps_broadcast : (broadcast ⟨2, ![a, b]⟩ (Scalar.ofBits .f32 0x358637BD#32 : Ideal .f32) : FVec Ideal ⟨2, ![a, b]⟩ .f32) = ar2 fun _ _ => eps := rfl
theorem div_ar2 (f g : ℕ → ℕ → EReal) :
    (divf (ar2 f : FVec Ideal ⟨2, ![a, b]⟩ .f32) (ar2 g) : FVec Ideal ⟨2, ![a, b]⟩ .f32) = ar2 fun i j => Ideal.div (f i j) (g i j) := rfl
theorem rsqrt_ar2 (f : ℕ → ℕ → EReal) :
    (rsqrt (ar2 f : FVec Ideal ⟨2, ![a, b]⟩ .f32) : FVec Ideal ⟨2, ![a, b]⟩ .f32) = ar2 fun i j => Ideal.rsqrt (f i j) := rfl

/-- The programs' spelling of the factor of each row. -/
theorem inv_row (f : ℕ → ℕ → EReal) (i : ℕ) : Ideal.rsqrt (Ideal.div (∑ k ∈ range 1024, f i k * f i k) len + eps) = inv (f i) := rfl

end Norm

end
-- ==== Proof.KRms.lean ====
/- The normalisation of rows by their root mean square, forward: each row times the inverse square root of its mean square plus a
   small number, times the gains.

   Every grid point computes one block of 256 rows. -/
module

public import proofs.«01_k».proof.Proof.Norm
public import proofs.«01_k».proof.Proof.Gen.KernelRmsIdeal.Value
public import proofs.«01_k».proof.Proof.Gen.ReferenceRmsIdeal.Run
public import proofs.«01_k».proof.Proof.Gen.ReferenceRmsIdeal.Read
public import proofs.«01_k».proof.Defs
public import Idealize.ShloMosaic.Lib.Pipeline.ValueKit.Geometry
public import Idealize.ShloMosaic.Lib.Pipeline.ValueKit.Acc

@[expose] public section

noncomputable section

namespace KRms

open Cert.KernelRmsIdeal Cert.KernelRmsIdeal.Gen Idealize.ShloMosaic Idealize.ShloMosaic.TcCoe Idealize.SL.Sem Product Gate Norm

theorem e0 : ∀ t : Fin cfg0.N, win0_0.index t = ![t.val, 0] :=
  (by decide +kernel : ∀ t : Fin grid0.N, _)
theorem e1 : ∀ t : Fin cfg0.N, win0_1.index t = ![0, 0] :=
  (by decide +kernel : ∀ t : Fin grid0.N, _)
theorem e2 : ∀ t : Fin cfg0.N, win0_2.index t = ![t.val, 0] :=
  (by decide +kernel : ∀ t : Fin grid0.N, _)

variable (m : (ℓ : Loc nD τ sig) → Buf (Elt Ideal) ℓ) (c : Dev nD) (f g : ℕ → ℕ → EReal) (t : Fin cfg0.N)

/-- What the host hands the call: the gains as one row. -/
theorem gains : V m c main_v0 = broadcastInDim S1x1024 ![1] bcast_S1024_S1x1024_1 (m ((c : Thread nD τ).loc main_arg1)) := by
  simp only [V, hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (X : Buf (Elt Ideal) ((c : Thread nD τ).loc (Pipeline.arrRef spec0 1))) (e : X = (ar2 g : S1x1024.Idx → EReal)) :
    (((cfg0.win 1).blk t).view.read (Elt Ideal) X : ((cfg0.win 1).xblock (cfg0.grid.coords t)).Idx → Elt Ideal (cfg0.win 1).elt)
      = (ar2 g : S1x1024.Idx → EReal) := by
  subst e
  funext y
  unfold ar2
  blk_simp [e1]

/-- What the body makes of its blocks. -/
theorem tile : (k0_pay1 (F := Ideal) (ar2 f) (ar2 g) : S256x1024.Idx → EReal) = ar2 fun i j => f i j * inv (f i) * g 0 j := by
  unfold k0_pay1
  dsimp only
  rw [shapeCast_self]
  simp only [mul_ar2, rowsum, len_broadcast, eps_broadcast, div_ar2, sum_ar2, rsqrt_ar2, spread_col, spread_row, narrow_ar2, inv_row]

/-- The output block as the store's value. -/
theorem body : out0_2 (iblk m c 0 t) (iblk m c 1 t) = k0_pay1 (F := Ideal) (iblk m c 0 t) (iblk m c 1 t) := by
  unfold out0_2
  frame_out

/-- The result array. -/
theorem array (a0 : V m c main_arg0 = (ar2 f : S2048x1024.Idx → EReal)) (a1 : V m c main_v0 = (ar2 g : S1x1024.Idx → EReal)) :
    (dats m 0 c).arrAt 2 cfg0.N = (ar2 fun i j => f i j * inv (f i) * g 0 j : S2048x1024.Idx → EReal) := by
  refine (dats m 0 c).arrAt_eq_of_covers 2 _ (by decide +kernel) fun t hf y => ?_
  rw [after0_2, body]
  rw [show iblk m c 0 t = _ from blk0 c f t _ a0, show iblk m c 1 t = _ from blk1 c g t _ a1, tile]
  unfold ar2 rows
  blk_simp [e2]
  simp only [Nat.zero_add]
  rw [Nat.mul_comm 256]

/-- The reference's mean square and small number, by row. -/
theorem ref_arg (i : Cert.ReferenceRmsIdeal.S2048x1.Idx) : Cert.ReferenceRmsIdeal.Read.val_main_v6 (F := Ideal) (ar2 f) i = arg (f (i 0).val) := by
  rw [Cert.ReferenceRmsIdeal.Read.val_main_v6_apply, Cert.ReferenceRmsIdeal.Read.val_main_v4_apply, Cert.ReferenceRmsIdeal.Read.val_main_v2_apply,
    Cert.ReferenceRmsIdeal.Read.val_main_v1_apply]
  show Ideal.div (Ideal.ofBits .f32 0x00000000#32 + ∑ k : Fin 1024, f (i 0).val k.val * f (i 0).val k.val) len + eps = _
  rw [Ideal.ofBits_zero_f32, zero_add, arg, Finset.sum_range]

/-- The reference's result in the same form. -/
theorem reference (y : S1024.Idx → EReal) (hy : broadcastInDim S1x1024 ![1] bcast_S1024_S1x1024_1 y = (ar2 g : S1x1024.Idx → EReal)) :
    Cert.ReferenceRmsIdeal.Read.val_main_v13 (F := Ideal) (ar2 f) y = (ar2 fun i j => f i j * inv (f i) * g 0 j : S2048x1024.Idx → EReal) := by
  funext i
  have hg : Cert.ReferenceRmsIdeal.Read.val_main_v10 (F := Ideal) y = (ar2 g : S1x1024.Idx → EReal) := hy
  show f (i 0).val (i 1).val * Cert.ReferenceRmsIdeal.Read.val_main_v8 (F := Ideal) (ar2 f) i * Cert.ReferenceRmsIdeal.Read.val_main_v11 (F := Ideal) y i = _
  rw [Cert.ReferenceRmsIdeal.Read.val_main_v8_apply, Cert.ReferenceRmsIdeal.Read.val_main_v7_apply, ref_arg, Cert.ReferenceRmsIdeal.Read.val_main_v11_apply, hg]
  rfl

/-- Both programs, from the same arguments, end with the same result. -/
theorem algebraic : Cert.algebraic_KernelRmsIdeal_ReferenceRmsIdeal := by
  intro m g m' g' _ he
  refine ⟨fun c => (dats m 0 c).arrAt 2 cfg0.N, Cert.KernelRmsIdeal.Value.run_blocks m g, ?_⟩
  refine (θ_run Cert.ReferenceRmsIdeal.defs _ _).mono (fun r h c => ?_) (Cert.ReferenceRmsIdeal.Value.run (F := Ideal) m' g')
  obtain ⟨r0, k⟩ := h c
  obtain ⟨e0, e1⟩ := he c
  refine ⟨?_, k⟩
  obtain ⟨x, hx⟩ := exists_ar2 (a := 2048) (b := 1024) (m ((c : Thread nD τ).loc main_arg0))
  obtain ⟨y, hy⟩ := exists_ar2 (a := 1) (b := 1024) (broadcastInDim S1x1024 ![1] bcast_S1024_S1x1024_1 (m ((c : Thread nD τ).loc main_arg1)))
  rw [r0, Cert.ReferenceRmsIdeal.Read.val_main_v13_eq, e0, e1]
  refine Eq.trans ?_ (array m c x y ((V_main_arg0 m c).trans hx) ((gains m c).trans hy)).symm
  rw [hx]
  exact reference x y _ hy

end KRms

end
-- ==== Proof.KDrms.lean ====
/- The gradient of the normalisation of rows by their root mean square, added to the residual's gradient, and the gradient of the gains.

   Every grid point computes one block of 256 rows of the first, in both formats, and adds its rows' share of the second, which is
   one row kept between grid points. -/
module

public import proofs.«01_k».proof.Proof.Norm
public import proofs.«01_k».proof.Proof.Gen.KernelDrmsIdeal.Value
public import proofs.«01_k».proof.Proof.Gen.ReferenceDrmsIdeal.Run
public import proofs.«01_k».proof.Proof.Gen.ReferenceDrmsIdeal.Read
public import proofs.«01_k».proof.Defs
public import Idealize.ShloMosaic.Lib.Pipeline.ValueKit.Geometry
public import Idealize.ShloMosaic.Lib.Pipeline.ValueKit.Acc

@[expose] public section

noncomputable section

namespace KDrms

open Cert.KernelDrmsIdeal Cert.KernelDrmsIdeal.Gen Idealize.ShloMosaic Idealize.ShloMosaic.TcCoe Idealize.SL.Sem Product Gate Norm

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)
theorem e2 : ∀ t : Fin cfg0.N, win0_2.index t = ![t.val, 0] :=
  (by decide +kernel : ∀ t : Fin grid0.N, _)
theorem e3 : ∀ t : Fin cfg0.N, win0_3.index t = ![0, 0] :=
  (by decide +kernel : ∀ t : Fin grid0.N, _)
theorem e4 : ∀ t : Fin cfg0.N, win0_4.index t = ![t.val, 0] :=
  (by decide +kernel : ∀ t : Fin grid0.N, _)
theorem e5 : ∀ t : Fin cfg0.N, win0_5.index t = ![t.val, 0] :=
  (by decide +kernel : ∀ t : Fin grid0.N, _)
theorem e6 : ∀ t : Fin cfg0.N, win0_6.index t = ![0, 0] :=
  (by decide +kernel : ∀ t : Fin grid0.N, _)

variable (m : (ℓ : Loc nD τ sig) → Buf (Elt Ideal) ℓ) (c : Dev nD) (f n d g : ℕ → ℕ → EReal) (t : Fin cfg0.N)

/-- What the host hands the call: the gains as one row. -/
theorem gains : V m c main_v0 = broadcastInDim S1x1024 ![1] bcast_S1024_S1x1024_1 (m ((c : Thread nD τ).loc main_arg1)) := by
  simp only [V, hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (X : Buf (Elt Ideal) ((c : Thread nD τ).loc (Pipeline.arrRef spec0 1))) (e : X = (ar2 f : S2048x1024.Idx → EReal)) :
    (((cfg0.win 1).blk t).view.read (Elt Ideal) X : ((cfg0.win 1).xblock (cfg0.grid.coords t)).Idx → Elt Ideal (cfg0.win 1).elt)
      = (ar2 (rows f t.val 0) : S256x1024.Idx → EReal) := by
  subst e
  funext y
  unfold ar2 rows
  blk_simp [e1]
  congr 1 <;> omega
theorem blk2 (X : Buf (Elt Ideal) ((c : Thread nD τ).loc (Pipeline.arrRef spec0 2))) (e : X = (ar2 f : S2048x1024.Idx → EReal)) :
    (((cfg0.win 2).blk t).view.read (Elt Ideal) X : ((cfg0.win 2).xblock (cfg0.grid.coords t)).Idx → Elt Ideal (cfg0.win 2).elt)
      = (ar2 (rows f t.val 0) : S256x1024.Idx → EReal) := by
  subst e
  funext y
  unfold ar2 rows
  blk_simp [e2]
  congr 1 <;> omega
theorem blk3 (X : Buf (Elt Ideal) ((c : Thread nD τ).loc (Pipeline.arrRef spec0 3))) (e : X = (ar2 g : S1x1024.Idx → EReal)) :
    (((cfg0.win 3).blk t).view.read (Elt Ideal) X : ((cfg0.win 3).xblock (cfg0.grid.coords t)).Idx → Elt Ideal (cfg0.win 3).elt)
      = (ar2 g : S1x1024.Idx → EReal) := by
  subst e
  funext y
  unfold ar2
  blk_simp [e3]

/-- The gradient of the row's entry: the residual's plus the factor times the gained gradient less its part along the normalised row. -/
def dh : ℕ → ℕ → EReal := fun i j =>
  d i j + inv (f i) * (n i j * g 0 j - f i j * inv (f i) * Ideal.div (∑ k ∈ Finset.range 1024, n i k * g 0 k * (f i k * inv (f i))) len)

theorem factor : (k0_pay4 (F := Ideal) (ar2 f) : S256x1.Idx → EReal) = ar2 fun i _ => inv (f i) := by
  unfold k0_pay4
  dsimp only
  simp only [mul_ar2, rowsum, len_broadcast, eps_broadcast, div_ar2, sum_ar2, rsqrt_ar2, inv_row]
theorem normed : (k0_pay5 (F := Ideal) (ar2 f) : S256x1024.Idx → EReal) = ar2 fun i j => f i j * inv (f i) := by
  unfold k0_pay5
  dsimp only
  rw [factor]
  simp only [spread_col, mul_ar2]
theorem wide : (k0_pay3 (F := Ideal) (ar2 n) : S256x1024.Idx → EReal) = ar2 n := rfl

/-- What the body makes of its blocks. -/
theorem tile : (k0_pay7 (F := Ideal) (ar2 f) (ar2 n) (ar2 d) (ar2 g) : S256x1024.Idx → EReal) = ar2 (dh f n d g) := by
  unfold k0_pay7
  dsimp only
  rw [shapeCast_self, normed, wide, factor]
  simp only [mul_ar2, rowsum, len_broadcast, div_ar2, sum_ar2, sub_ar2, spread_col, spread_row]
  rfl
theorem tile16 : (k0_pay8 (F := Ideal) (ar2 f) (ar2 n) (ar2 d) (ar2 g) : S256x1024.Idx → EReal) = ar2 (dh f n d g) := by
  unfold k0_pay8
  dsimp only
  rw [tile]
  simp only [one_broadcast, mul_ar2, narrow_ar2, one_mul]
/-- One block's share of the gains' gradient. -/
theorem share : (k0_pay6 (F := Ideal) (ar2 f) (ar2 n) : S1x1024.Idx → EReal) = ar2 fun _ j => ∑ k ∈ Finset.range 256, n k j * (f k j * inv (f k)) := by
  unfold k0_pay6
  dsimp only
  rw [normed, wide]
  simp only [mul_ar2, colsum]

/-- A grid point's share of the gains' gradient. -/
def part : S1x1024.Idx → EReal := ar2 fun _ j => ∑ k ∈ Finset.range 256, n (256 * t.val + k) j * (f (256 * t.val + k) j * inv (f (256 * t.val + k)))

/-- The accumulator starts at zero. -/
theorem start : (k0_pay1 (F := Ideal) : S1x1024.Idx → EReal) = ar2 fun _ _ => 0 := by
  unfold k0_pay1
  dsimp only
  exact zero_broadcast
/-- One point adds its share. -/
theorem step (a : S1x1024.Idx → EReal) :
    (k0_pay2 (F := Ideal) (k0_pay6 (F := Ideal) (ar2 (rows f t.val 0)) (ar2 (rows n t.val 0))) a : S1x1024.Idx → EReal) = fun i => a i + part f n t i := by
  obtain ⟨h, rfl⟩ := exists_ar2 a
  unfold k0_pay2
  dsimp only
  rw [shapeCast_self, share, sum_ar2]
  unfold part rows
  simp only [Nat.zero_add]
  rfl

section Arrays
variable (a0 : V m c main_arg0 = (ar2 f : S2048x1024.Idx → EReal)) (a1 : V m c main_arg2 = (ar2 n : S2048x1024.Idx → EReal))
  (a2 : V m c main_arg3 = (ar2 d : S2048x1024.Idx → EReal)) (a3 : V m c main_v0 = (ar2 g : S1x1024.Idx → EReal))
include a0 a1

/-- The accumulator after the first point, -/
theorem acc_first (h : t.val % 8 = 0) (i : S1x1024.Idx) : (outsAt0 m c t.val t.isLt).2.2 i = 0 + part f n t i := by
  rw [outsAt0_A m c t h]
  dsimp only
  frame_out
  rw [show iblk m c 0 t = _ from blk0 c f t _ a0, show iblk m c 1 t = _ from blk1 c n t _ a1, start, step]
  rfl
/-- and after a later point. -/
theorem acc_later (h : ¬t.val % 8 = 0) (i : S1x1024.Idx) : (outsAt0 m c t.val t.isLt).2.2 i
    = (outsAt0 m c (t.val - 1) (Nat.lt_of_le_of_lt (Nat.sub_le _ _) t.isLt)).2.2 i + part f n t i := by
  rw [outsAt0_B m c t h]
  dsimp only
  frame_out
  rw [show iblk m c 0 t = _ from blk0 c f t _ a0, show iblk m c 1 t = _ from blk1 c n t _ a1, step]

/-- The gains' gradient: every entry the sum over all the rows. -/
theorem array6 : (dats m 0 c).arrAt 6 cfg0.N = (ar2 fun _ j => ∑ k ∈ Finset.range 2048, n k j * (f k j * inv (f k)) : S1x1024.Idx → EReal) := by
  refine (dats m 0 c).arrAt_eq_of_covers 6 _ (by decide +kernel) fun t hf y => ?_
  have ht : t.val % 8 = 7 := (flush0_6 t).mp hf
  have hN : t.val < 8 := t.isLt
  rw [after0_6]
  rw [Pipeline.eq_sum_fin_of_reset_step_apply_of_flush (fun n h => (outsAt0 m c n h).2.2) 8 (fun _ => (0 : EReal)) (fun t => part f n t)
    (fun t h i => acc_first m c f n t a0 a1 h i) (fun t h i => acc_later m c f n t a0 a1 h i) t ht, zero_add]
  unfold part ar2
  blk_simp [e6]
  rw [show (2048 : ℕ) = 8 * 256 from rfl, ← sum_runs, Finset.sum_range]
  refine sum_fin_eq fun s => sum_eq fun k hk => ?_
  have hs : 256 * (8 * (t.val / 8) + s.val) + k = 256 * s.val + k := by omega
  simp only [hs, Nat.zero_add]

include a2 a3

/-- The block written at a point. -/
theorem written4 : ((outsAt0 m c t.val t.isLt).1 : S256x1024.Idx → EReal) = ar2 (dh (rows f t.val 0) (rows n t.val 0) (rows d t.val 0) g) := by
  by_cases h : t.val % 8 = 0
  · rw [outsAt0_A m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile]
  · rw [outsAt0_B m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile]
/-- The whole gradient. -/
theorem array4 : (dats m 0 c).arrAt 4 cfg0.N = (ar2 (dh f n d g) : S2048x1024.Idx → EReal) := by
  refine (dats m 0 c).arrAt_eq_of_covers 4 _ (by decide +kernel) fun t hf y => ?_
  rw [after0_4, written4 m c f n d g t a0 a1 a2 a3]
  unfold ar2 dh rows
  blk_simp [e4]
  simp only [Nat.zero_add]
  rw [Nat.mul_comm 256]
/-- The block written at a point. -/
theorem written5 : ((outsAt0 m c t.val t.isLt).2.1 : S256x1024.Idx → EReal) = ar2 (dh (rows f t.val 0) (rows n t.val 0) (rows d t.val 0) g) := by
  by_cases h : t.val % 8 = 0
  · rw [outsAt0_A m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile16]
  · rw [outsAt0_B m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile16]
/-- The whole gradient. -/
theorem array5 : (dats m 0 c).arrAt 5 cfg0.N = (ar2 (dh f n d g) : S2048x1024.Idx → EReal) := by
  refine (dats m 0 c).arrAt_eq_of_covers 5 _ (by decide +kernel) fun t hf y => ?_
  rw [after0_5, written5 m c f n d g t a0 a1 a2 a3]
  unfold ar2 dh rows
  blk_simp [e5]
  simp only [Nat.zero_add]
  rw [Nat.mul_comm 256]
end Arrays

section Reference
open Cert.ReferenceDrmsIdeal.Read

/-- The reference's mean square and small number, by row, -/
theorem ref_arg (i : Cert.ReferenceDrmsIdeal.S2048x1.Idx) : val_main_v6 (F := Ideal) (ar2 f) i = arg (f (i 0).val) := by
  rw [val_main_v6_apply, val_main_v4_apply, val_main_v2_apply, val_main_v1_apply]
  show Ideal.div (Ideal.ofBits .f32 0x00000000#32 + ∑ k : Fin 1024, f (i 0).val k.val * f (i 0).val k.val) len + eps = _
  rw [Ideal.ofBits_zero_f32, zero_add, arg, Finset.sum_range]
/-- its factor, -/
theorem ref_inv (i : Cert.ReferenceDrmsIdeal.S2048x1.Idx) : val_main_v7 (F := Ideal) (ar2 f) i = inv (f (i 0).val) := by
  rw [val_main_v7_apply, ref_arg]
  rfl
/-- the factor's derivative, -/
theorem ref_slope (i : Cert.ReferenceDrmsIdeal.S2048x1.Idx) :
    val_main_v10 (F := Ideal) (ar2 f) i = half * Ideal.div (inv (f (i 0).val)) (arg (f (i 0).val)) := by
  rw [val_main_v10_apply, val_main_v8_apply, ref_inv, ref_arg]
  rfl

/-- and its gradient of the gains. -/
theorem reference6 : val_main_v39 (F := Ideal) (ar2 f) (ar2 n)
    = (ar2 fun _ j => ∑ k ∈ Finset.range 2048, n k j * (f k j * inv (f k)) : S1x1024.Idx → EReal) := by
  funext i
  rw [val_main_v39_apply, val_main_v22_apply]
  show Ideal.ofBits .f32 0x00000000#32 + ∑ k : Fin 1, _ = _
  rw [Ideal.ofBits_zero_f32, zero_add, Fin.sum_univ_one, val_main_v19_apply, val_main_v18_apply]
  show Ideal.ofBits .f32 0x00000000#32 + ∑ k : Fin 2048, _ = ∑ k ∈ Finset.range 2048, n k (i 1).val * (f k (i 1).val * inv (f k))
  rw [Ideal.ofBits_zero_f32, zero_add, Finset.sum_range]
  refine sum_fin_eq fun k => ?_
  rw [val_main_v17_apply, val_main_v12_apply, val_main_v11_apply, ref_inv, val_main_v16_apply]
  show f k.val (0 * 1024 + (i 1).val) * inv (f k.val) * n k.val (0 * 1024 + (i 1).val) = _
  rw [Nat.zero_mul, Nat.zero_add, mul_comm]

variable (y : S1024.Idx → EReal) (hy : broadcastInDim S1x1024 ![1] bcast_S1024_S1x1024_1 y = (ar2 g : S1x1024.Idx → EReal))
include hy

/-- The gradient times the gains, -/
theorem ref_gained : val_main_v21 (F := Ideal) y (ar2 n) = (ar2 fun i j => n i j * g 0 j : S2048x1024.Idx → EReal) := by
  funext i
  have hg : val_main_v13 (F := Ideal) y = (ar2 g : S1x1024.Idx → EReal) := hy
  rw [val_main_v21_apply, val_main_v20_apply]
  show n (i 0).val (i 1).val * val_main_v13 (F := Ideal) y _ = _
  rw [hg]
  rfl
/-- the part of the row's gradient through the factor, -/
theorem ref_through (i : Cert.ReferenceDrmsIdeal.S2048x1024.Idx) : val_main_v32 (F := Ideal) (ar2 f) y (ar2 n) i
    = Ideal.div ((∑ k ∈ Finset.range 1024, f (i 0).val k * (n (i 0).val k * g 0 k)) * (half * Ideal.div (inv (f (i 0).val)) (arg (f (i 0).val)))) len := by
  rw [val_main_v32_apply, val_main_v31_apply]
  show Ideal.ofBits .f32 0x00000000#32 + ∑ k : Fin 1, _ = _
  rw [Ideal.ofBits_zero_f32, zero_add, Fin.sum_univ_one, val_main_v30_apply, val_main_v28_apply, ref_slope, val_main_v25_apply, val_main_v24_apply]
  show Ideal.div ((Ideal.ofBits .f32 0x00000000#32 + ∑ k : Fin 1024, _) * _) len = _
  rw [Ideal.ofBits_zero_f32, zero_add, Finset.sum_range]
  refine congrArg (fun u => Ideal.div (u * _) len) (sum_fin_eq fun k => ?_)
  rw [val_main_v23_apply, ref_gained n g y hy]
  show f ((i 0).val * 1 + 0) k.val * (n ((i 0).val * 1 + 0) k.val * g 0 k.val) = _
  rw [Nat.mul_one, Nat.add_zero]

/-- and the row's whole gradient, in the kernel's form. -/
theorem reference4 : val_main_v37 (F := Ideal) (ar2 f) y (ar2 n) (ar2 d) = (ar2 (dh f n d g) : S2048x1024.Idx → EReal) := by
  funext i
  show d (i 0).val (i 1).val + (val_main_v21 (F := Ideal) y (ar2 n) i * val_main_v26 (F := Ideal) (ar2 f) i
    + f (i 0).val (i 1).val * val_main_v32 (F := Ideal) (ar2 f) y (ar2 n) i + val_main_v32 (F := Ideal) (ar2 f) y (ar2 n) i * f (i 0).val (i 1).val) = _
  rw [ref_gained n g y hy, ref_through f n g y hy, val_main_v26_apply, ref_inv]
  exact congrArg (d (i 0).val (i 1).val + ·) (grad (f (i 0).val) (fun k => n (i 0).val k * g 0 k) (f (i 0).val (i 1).val) (n (i 0).val (i 1).val * g 0 (i 1).val)).symm
theorem reference5 : val_main_v38 (F := Ideal) (ar2 f) y (ar2 n) (ar2 d) = (ar2 (dh f n d g) : S2048x1024.Idx → EReal) := by
  funext i
  rw [val_main_v38_apply, reference4 f n d g y hy]
  rfl
end Reference

/-- Both programs, from the same arguments, end with the same results. -/
theorem algebraic : Cert.algebraic_KernelDrmsIdeal_ReferenceDrmsIdeal := by
  intro m g m' g' _ he
  refine ⟨fun c => (dats m 0 c).arrAt 4 cfg0.N, fun c => (dats m 0 c).arrAt 5 cfg0.N, fun c => (dats m 0 c).arrAt 6 cfg0.N, Cert.KernelDrmsIdeal.Value.run_blocks m g, ?_⟩
  refine (θ_run Cert.ReferenceDrmsIdeal.defs _ _).mono (fun r h c => ?_) (Cert.ReferenceDrmsIdeal.Value.run (F := Ideal) m' g')
  obtain ⟨r0, r1, r2, k⟩ := h c
  obtain ⟨e0, e1, e2, e3⟩ := he c
  obtain ⟨x, hx⟩ := exists_ar2 (a := 2048) (b := 1024) (m ((c : Thread nD τ).loc main_arg0))
  obtain ⟨y, hy⟩ := exists_ar2 (a := 1) (b := 1024) (broadcastInDim S1x1024 ![1] bcast_S1024_S1x1024_1 (m ((c : Thread nD τ).loc main_arg1)))
  obtain ⟨z, hz⟩ := exists_ar2 (a := 2048) (b := 1024) (m ((c : Thread nD τ).loc main_arg2))
  obtain ⟨w, hw⟩ := exists_ar2 (a := 2048) (b := 1024) (m ((c : Thread nD τ).loc main_arg3))
  have a0 := (V_main_arg0 m c).trans hx
  have a1 := (V_main_arg2 m c).trans hz
  have a2 := (V_main_arg3 m c).trans hw
  have a3 := (gains m c).trans hy
  refine ⟨?_, ?_, ?_, k⟩
  · rw [r0, Cert.ReferenceDrmsIdeal.Read.val_main_v37_eq, e0, e1, e2, e3]
    refine Eq.trans ?_ (array4 m c x z w y a0 a1 a2 a3).symm
    rw [hx, hz, hw]
    exact reference4 x z w y _ hy
  · rw [r1, Cert.ReferenceDrmsIdeal.Read.val_main_v38_eq, e0, e1, e2, e3]
    refine Eq.trans ?_ (array5 m c x z w y a0 a1 a2 a3).symm
    rw [hx, hz, hw]
    exact reference5 x z w y _ hy
  · rw [r2, Cert.ReferenceDrmsIdeal.Read.val_main_v39_eq, e0, e2]
    refine Eq.trans ?_ (array6 m c x z a0 a1).symm
    rw [hx, hz]
    exact reference6 x z

end KDrms

end
-- ==== Proof.KDrmsm.lean ====
/- The gradient of the normalisation of rows by their root mean square, where two gradients reach the rows, added to the residual's gradient, and the gradient of the gains.

   Every grid point computes one block of 256 rows of the first, and of its half in the narrow format, and adds its rows' share of the second, which is
   one row kept between grid points. -/
module

public import proofs.«01_k».proof.Proof.Norm
public import proofs.«01_k».proof.Proof.Gen.KernelDrmsmIdeal.Value
public import proofs.«01_k».proof.Proof.Gen.ReferenceDrmsmIdeal.Run
public import proofs.«01_k».proof.Proof.Gen.ReferenceDrmsmIdeal.Read
public import proofs.«01_k».proof.Defs
public import Idealize.ShloMosaic.Lib.Pipeline.ValueKit.Geometry
public import Idealize.ShloMosaic.Lib.Pipeline.ValueKit.Acc

@[expose] public section

noncomputable section

namespace KDrmsm

open Cert.KernelDrmsmIdeal Cert.KernelDrmsmIdeal.Gen Idealize.ShloMosaic Idealize.ShloMosaic.TcCoe Idealize.SL.Sem Product Gate Norm

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)
theorem e2 : ∀ t : Fin cfg0.N, win0_2.index t = ![t.val, 0] :=
  (by decide +kernel : ∀ t : Fin grid0.N, _)
theorem e3 : ∀ t : Fin cfg0.N, win0_3.index t = ![t.val, 0] :=
  (by decide +kernel : ∀ t : Fin grid0.N, _)
theorem e4 : ∀ t : Fin cfg0.N, win0_4.index t = ![0, 0] :=
  (by decide +kernel : ∀ t : Fin grid0.N, _)
theorem e5 : ∀ t : Fin cfg0.N, win0_5.index t = ![t.val, 0] :=
  (by decide +kernel : ∀ t : Fin grid0.N, _)
theorem e6 : ∀ t : Fin cfg0.N, win0_6.index t = ![t.val, 0] :=
  (by decide +kernel : ∀ t : Fin grid0.N, _)
theorem e7 : ∀ t : Fin cfg0.N, win0_7.index t = ![0, 0] :=
  (by decide +kernel : ∀ t : Fin grid0.N, _)

variable (m : (ℓ : Loc nD τ sig) → Buf (Elt Ideal) ℓ) (c : Dev nD) (f a b d g : ℕ → ℕ → EReal) (t : Fin cfg0.N)

/-- What the host hands the call: the gains as one row. -/
theorem gains : V m c main_v0 = broadcastInDim S1x1024 ![1] bcast_S1024_S1x1024_1 (m ((c : Thread nD τ).loc main_arg1)) := by
  simp only [V, hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (X : Buf (Elt Ideal) ((c : Thread nD τ).loc (Pipeline.arrRef spec0 1))) (e : X = (ar2 f : S2048x1024.Idx → EReal)) :
    (((cfg0.win 1).blk t).view.read (Elt Ideal) X : ((cfg0.win 1).xblock (cfg0.grid.coords t)).Idx → Elt Ideal (cfg0.win 1).elt)
      = (ar2 (rows f t.val 0) : S256x1024.Idx → EReal) := by
  subst e
  funext y
  unfold ar2 rows
  blk_simp [e1]
  congr 1 <;> omega
theorem blk2 (X : Buf (Elt Ideal) ((c : Thread nD τ).loc (Pipeline.arrRef spec0 2))) (e : X = (ar2 f : S2048x1024.Idx → EReal)) :
    (((cfg0.win 2).blk t).view.read (Elt Ideal) X : ((cfg0.win 2).xblock (cfg0.grid.coords t)).Idx → Elt Ideal (cfg0.win 2).elt)
      = (ar2 (rows f t.val 0) : S256x1024.Idx → EReal) := by
  subst e
  funext y
  unfold ar2 rows
  blk_simp [e2]
  congr 1 <;> omega
theorem blk3 (X : Buf (Elt Ideal) ((c : Thread nD τ).loc (Pipeline.arrRef spec0 3))) (e : X = (ar2 f : S2048x1024.Idx → EReal)) :
    (((cfg0.win 3).blk t).view.read (Elt Ideal) X : ((cfg0.win 3).xblock (cfg0.grid.coords t)).Idx → Elt Ideal (cfg0.win 3).elt)
      = (ar2 (rows f t.val 0) : S256x1024.Idx → EReal) := by
  subst e
  funext y
  unfold ar2 rows
  blk_simp [e3]
  congr 1 <;> omega
theorem blk4 (X : Buf (Elt Ideal) ((c : Thread nD τ).loc (Pipeline.arrRef spec0 4))) (e : X = (ar2 g : S1x1024.Idx → EReal)) :
    (((cfg0.win 4).blk t).view.read (Elt Ideal) X : ((cfg0.win 4).xblock (cfg0.grid.coords t)).Idx → Elt Ideal (cfg0.win 4).elt)
      = (ar2 g : S1x1024.Idx → EReal) := by
  subst e
  funext y
  unfold ar2
  blk_simp [e4]

/-- The two gradients that reach the rows, added. -/
def both : ℕ → ℕ → EReal := fun i j => a i j + b i j

/-- The gradient of the row's entry: the residual's plus the factor times the gained gradient less its part along the normalised row. -/
def dh (f n d g : ℕ → ℕ → EReal) : ℕ → ℕ → EReal := fun i j =>
  d i j + inv (f i) * (n i j * g 0 j - f i j * inv (f i) * Ideal.div (∑ k ∈ Finset.range 1024, n i k * g 0 k * (f i k * inv (f i))) len)

/-- The factor of the copy: one half. -/
def res : EReal := Ideal.ofBits .f32 0x3F000000#32
theorem res_broadcast : (broadcast S256x1024 (Scalar.ofBits (F := Ideal) .f32 0x3F000000#32) : S256x1024.Idx → EReal) = ar2 fun _ _ => res := rfl
/-- The gradient in the narrow format, halved. -/
def dhh (f n d g : ℕ → ℕ → EReal) : ℕ → ℕ → EReal := fun i j => res * dh f n d g i j
/-- A grid point's share of the gains' gradient. -/
def part (f n : ℕ → ℕ → EReal) (t : Fin cfg0.N) : S1x1024.Idx → EReal := ar2 fun _ j => ∑ k ∈ Finset.range 256, n (256 * t.val + k) j * (f (256 * t.val + k) j * inv (f (256 * t.val + k)))

theorem factor : (k0_pay4 (F := Ideal) (ar2 f) : S256x1.Idx → EReal) = ar2 fun i _ => inv (f i) := by
  unfold k0_pay4
  dsimp only
  simp only [mul_ar2, rowsum, len_broadcast, eps_broadcast, div_ar2, sum_ar2, rsqrt_ar2, inv_row]
theorem normed : (k0_pay5 (F := Ideal) (ar2 f) : S256x1024.Idx → EReal) = ar2 fun i j => f i j * inv (f i) := by
  unfold k0_pay5
  dsimp only
  rw [factor]
  simp only [spread_col, mul_ar2]
theorem wide : (k0_pay3 (F := Ideal) (ar2 a) (ar2 b) : S256x1024.Idx → EReal) = ar2 (both a b) := rfl

/-- What the body makes of its blocks. -/
theorem tile : (k0_pay7 (F := Ideal) (ar2 f) (ar2 a) (ar2 b) (ar2 d) (ar2 g) : S256x1024.Idx → EReal) = ar2 (dh f (both a b) d g) := by
  unfold k0_pay7
  dsimp only
  rw [shapeCast_self, normed, wide, factor]
  simp only [mul_ar2, rowsum, len_broadcast, div_ar2, sum_ar2, sub_ar2, spread_col, spread_row]
  rfl
theorem tile16 : (k0_pay8 (F := Ideal) (ar2 f) (ar2 a) (ar2 b) (ar2 d) (ar2 g) : S256x1024.Idx → EReal) = ar2 (dhh f (both a b) d g) := by
  unfold k0_pay8
  dsimp only
  rw [tile]
  simp only [res_broadcast, mul_ar2, narrow_ar2]
  rfl
/-- One block's share of the gains' gradient. -/
theorem share : (k0_pay6 (F := Ideal) (ar2 f) (ar2 a) (ar2 b) : S1x1024.Idx → EReal) = ar2 fun _ j => ∑ k ∈ Finset.range 256, both a b k j * (f k j * inv (f k)) := by
  unfold k0_pay6
  dsimp only
  rw [normed, wide]
  simp only [mul_ar2, colsum]

/-- The accumulator starts at zero. -/
theorem start : (k0_pay1 (F := Ideal) : S1x1024.Idx → EReal) = ar2 fun _ _ => 0 := by
  unfold k0_pay1
  dsimp only
  exact zero_broadcast
/-- One point adds its share. -/
theorem step (z : S1x1024.Idx → EReal) :
    (k0_pay2 (F := Ideal) (k0_pay6 (F := Ideal) (ar2 (rows f t.val 0)) (ar2 (rows a t.val 0)) (ar2 (rows b t.val 0))) z : S1x1024.Idx → EReal) = fun i => z i + part f (both a b) t i := by
  obtain ⟨h, rfl⟩ := exists_ar2 z
  unfold k0_pay2
  dsimp only
  rw [shapeCast_self, share, sum_ar2]
  unfold part both rows
  simp only [Nat.zero_add]
  rfl

section Arrays
variable (a0 : V m c main_arg0 = (ar2 f : S2048x1024.Idx → EReal)) (a1 : V m c main_arg2 = (ar2 a : S2048x1024.Idx → EReal))
  (a2 : V m c main_arg3 = (ar2 b : S2048x1024.Idx → EReal)) (a3 : V m c main_arg4 = (ar2 d : S2048x1024.Idx → EReal))
  (a4 : V m c main_v0 = (ar2 g : S1x1024.Idx → EReal))
include a0 a1 a2

/-- The accumulator after the first point, -/
theorem acc_first (h : t.val % 8 = 0) (i : S1x1024.Idx) : (outsAt0 m c t.val t.isLt).2.2 i = 0 + part f (both a b) t i := by
  rw [outsAt0_A m c t h]
  dsimp only
  frame_out
  rw [show iblk m c 0 t = _ from blk0 c f t _ a0, show iblk m c 1 t = _ from blk1 c a t _ a1, show iblk m c 2 t = _ from blk2 c b t _ a2, start, step]
  rfl
/-- and after a later point. -/
theorem acc_later (h : ¬t.val % 8 = 0) (i : S1x1024.Idx) : (outsAt0 m c t.val t.isLt).2.2 i
    = (outsAt0 m c (t.val - 1) (Nat.lt_of_le_of_lt (Nat.sub_le _ _) t.isLt)).2.2 i + part f (both a b) t i := by
  rw [outsAt0_B m c t h]
  dsimp only
  frame_out
  rw [show iblk m c 0 t = _ from blk0 c f t _ a0, show iblk m c 1 t = _ from blk1 c a t _ a1, show iblk m c 2 t = _ from blk2 c b t _ a2, step]

/-- The gains' gradient: every entry the sum over all the rows. -/
theorem array7 : (dats m 0 c).arrAt 7 cfg0.N = (ar2 fun _ j => ∑ k ∈ Finset.range 2048, both a b k j * (f k j * inv (f k)) : S1x1024.Idx → EReal) := by
  refine (dats m 0 c).arrAt_eq_of_covers 7 _ (by decide +kernel) fun t hf y => ?_
  have ht : t.val % 8 = 7 := (flush0_7 t).mp hf
  have hN : t.val < 8 := t.isLt
  rw [after0_7]
  rw [Pipeline.eq_sum_fin_of_reset_step_apply_of_flush (fun n h => (outsAt0 m c n h).2.2) 8 (fun _ => (0 : EReal)) (fun t => part f (both a b) t)
    (fun t h i => acc_first m c f a b t a0 a1 a2 h i) (fun t h i => acc_later m c f a b t a0 a1 a2 h i) t ht, zero_add]
  unfold part both ar2
  blk_simp [e7]
  rw [show (2048 : ℕ) = 8 * 256 from rfl, ← sum_runs, Finset.sum_range]
  refine sum_fin_eq fun s => sum_eq fun k hk => ?_
  have hs : 256 * (8 * (t.val / 8) + s.val) + k = 256 * s.val + k := by omega
  simp only [hs, Nat.zero_add]

include a3 a4

/-- The block written at a point. -/
theorem written5 : ((outsAt0 m c t.val t.isLt).1 : S256x1024.Idx → EReal) = ar2 (dh (rows f t.val 0) (both (rows a t.val 0) (rows b t.val 0)) (rows d t.val 0) g) := by
  by_cases h : t.val % 8 = 0
  · rw [outsAt0_A m c t h]
    dsimp only
    frame_out
    rw [show iblk m c 0 t = _ from blk0 c f t _ a0, show iblk m c 1 t = _ from blk1 c a t _ a1, show iblk m c 2 t = _ from blk2 c b t _ a2, show iblk m c 3 t = _ from blk3 c d t _ a3, show iblk m c 4 t = _ from blk4 c g t _ a4, tile]
  · rw [outsAt0_B m c t h]
    dsimp only
    frame_out
    rw [show iblk m c 0 t = _ from blk0 c f t _ a0, show iblk m c 1 t = _ from blk1 c a t _ a1, show iblk m c 2 t = _ from blk2 c b t _ a2, show iblk m c 3 t = _ from blk3 c d t _ a3, show iblk m c 4 t = _ from blk4 c g t _ a4, tile]
/-- The whole gradient. -/
theorem array5 : (dats m 0 c).arrAt 5 cfg0.N = (ar2 (dh f (both a b) d g) : S2048x1024.Idx → EReal) := by
  refine (dats m 0 c).arrAt_eq_of_covers 5 _ (by decide +kernel) fun t hf y => ?_
  rw [after0_5, written5 m c f a b d g t a0 a1 a2 a3 a4]
  unfold ar2 dh both rows
  blk_simp [e5]
  simp only [Nat.zero_add]
  rw [Nat.mul_comm 256]
/-- The block written at a point. -/
theorem written6 : ((outsAt0 m c t.val t.isLt).2.1 : S256x1024.Idx → EReal) = ar2 (dhh (rows f t.val 0) (both (rows a t.val 0) (rows b t.val 0)) (rows d t.val 0) g) := by
  by_cases h : t.val % 8 = 0
  · rw [outsAt0_A m c t h]
    dsimp only
    frame_out
    rw [show iblk m c 0 t = _ from blk0 c f t _ a0, show iblk m c 1 t = _ from blk1 c a t _ a1, show iblk m c 2 t = _ from blk2 c b t _ a2, show iblk m c 3 t = _ from blk3 c d t _ a3, show iblk m c 4 t = _ from blk4 c g t _ a4, tile16]
  · rw [outsAt0_B m c t h]
    dsimp only
    frame_out
    rw [show iblk m c 0 t = _ from blk0 c f t _ a0, show iblk m c 1 t = _ from blk1 c a t _ a1, show iblk m c 2 t = _ from blk2 c b t _ a2, show iblk m c 3 t = _ from blk3 c d t _ a3, show iblk m c 4 t = _ from blk4 c g t _ a4, tile16]
/-- The whole gradient. -/
theorem array6 : (dats m 0 c).arrAt 6 cfg0.N = (ar2 (dhh f (both a b) d g) : S2048x1024.Idx → EReal) := by
  refine (dats m 0 c).arrAt_eq_of_covers 6 _ (by decide +kernel) fun t hf y => ?_
  rw [after0_6, written6 m c f a b d g t a0 a1 a2 a3 a4]
  unfold ar2 dhh dh both rows
  blk_simp [e6]
  simp only [Nat.zero_add]
  rw [Nat.mul_comm 256]
end Arrays

section Reference
open Cert.ReferenceDrmsmIdeal.Read

/-- The reference's mean square and small number, by row, -/
theorem ref_arg (i : Cert.ReferenceDrmsmIdeal.S2048x1.Idx) : val_main_v6 (F := Ideal) (ar2 f) i = arg (f (i 0).val) := by
  rw [val_main_v6_apply, val_main_v4_apply, val_main_v2_apply, val_main_v1_apply]
  show Ideal.div (Ideal.ofBits .f32 0x00000000#32 + ∑ k : Fin 1024, f (i 0).val k.val * f (i 0).val k.val) len + eps = _
  rw [Ideal.ofBits_zero_f32, zero_add, arg, Finset.sum_range]
/-- its factor, -/
theorem ref_inv (i : Cert.ReferenceDrmsmIdeal.S2048x1.Idx) : val_main_v7 (F := Ideal) (ar2 f) i = inv (f (i 0).val) := by
  rw [val_main_v7_apply, ref_arg]
  rfl
/-- the factor's derivative, -/
theorem ref_slope (i : Cert.ReferenceDrmsmIdeal.S2048x1.Idx) :
    val_main_v10 (F := Ideal) (ar2 f) i = half * Ideal.div (inv (f (i 0).val)) (arg (f (i 0).val)) := by
  rw [val_main_v10_apply, val_main_v8_apply, ref_inv, ref_arg]
  rfl

/-- and its gradient of the gains. -/
theorem reference6 : val_main_v43 (F := Ideal) (ar2 f) (ar2 a) (ar2 b)
    = (ar2 fun _ j => ∑ k ∈ Finset.range 2048, both a b k j * (f k j * inv (f k)) : S1x1024.Idx → EReal) := by
  funext i
  rw [val_main_v43_apply, val_main_v24_apply]
  show Ideal.ofBits .f32 0x00000000#32 + ∑ k : Fin 1, _ = _
  rw [Ideal.ofBits_zero_f32, zero_add, Fin.sum_univ_one, val_main_v21_apply, val_main_v20_apply]
  show Ideal.ofBits .f32 0x00000000#32 + ∑ k : Fin 2048, _ = ∑ k ∈ Finset.range 2048, both a b k (i 1).val * (f k (i 1).val * inv (f k))
  rw [Ideal.ofBits_zero_f32, zero_add, Finset.sum_range]
  refine sum_fin_eq fun k => ?_
  rw [val_main_v19_apply, val_main_v12_apply, val_main_v11_apply, ref_inv, val_main_v18_apply]
  show f k.val (0 * 1024 + (i 1).val) * inv (f k.val) * both a b k.val (0 * 1024 + (i 1).val) = _
  rw [Nat.zero_mul, Nat.zero_add, mul_comm]

variable (y : S1024.Idx → EReal) (hy : broadcastInDim S1x1024 ![1] bcast_S1024_S1x1024_1 y = (ar2 g : S1x1024.Idx → EReal))
include hy

/-- The gradient times the gains, -/
theorem ref_gained : val_main_v23 (F := Ideal) y (ar2 a) (ar2 b) = (ar2 fun i j => both a b i j * g 0 j : S2048x1024.Idx → EReal) := by
  funext i
  have hg : val_main_v13 (F := Ideal) y = (ar2 g : S1x1024.Idx → EReal) := hy
  rw [val_main_v23_apply, val_main_v22_apply]
  show both a b (i 0).val (i 1).val * val_main_v13 (F := Ideal) y _ = _
  rw [hg]
  rfl
/-- the part of the row's gradient through the factor, -/
theorem ref_through (i : Cert.ReferenceDrmsmIdeal.S2048x1024.Idx) : val_main_v34 (F := Ideal) (ar2 f) y (ar2 a) (ar2 b) i
    = Ideal.div ((∑ k ∈ Finset.range 1024, f (i 0).val k * (both a b (i 0).val k * g 0 k)) * (half * Ideal.div (inv (f (i 0).val)) (arg (f (i 0).val)))) len := by
  rw [val_main_v34_apply, val_main_v33_apply]
  show Ideal.ofBits .f32 0x00000000#32 + ∑ k : Fin 1, _ = _
  rw [Ideal.ofBits_zero_f32, zero_add, Fin.sum_univ_one, val_main_v32_apply, val_main_v30_apply, ref_slope, val_main_v27_apply, val_main_v26_apply]
  show Ideal.div ((Ideal.ofBits .f32 0x00000000#32 + ∑ k : Fin 1024, _) * _) len = _
  rw [Ideal.ofBits_zero_f32, zero_add, Finset.sum_range]
  refine congrArg (fun u => Ideal.div (u * _) len) (sum_fin_eq fun k => ?_)
  rw [val_main_v25_apply, ref_gained a b g y hy]
  show f ((i 0).val * 1 + 0) k.val * (both a b ((i 0).val * 1 + 0) k.val * g 0 k.val) = _
  rw [Nat.mul_one, Nat.add_zero]

/-- and the row's whole gradient, in the kernel's form. -/
theorem reference4 : val_main_v39 (F := Ideal) (ar2 f) y (ar2 a) (ar2 b) (ar2 d) = (ar2 (dh f (both a b) d g) : S2048x1024.Idx → EReal) := by
  funext i
  show d (i 0).val (i 1).val + (val_main_v23 (F := Ideal) y (ar2 a) (ar2 b) i * val_main_v28 (F := Ideal) (ar2 f) i
    + f (i 0).val (i 1).val * val_main_v34 (F := Ideal) (ar2 f) y (ar2 a) (ar2 b) i + val_main_v34 (F := Ideal) (ar2 f) y (ar2 a) (ar2 b) i * f (i 0).val (i 1).val) = _
  rw [ref_gained a b g y hy, ref_through f a b g y hy, val_main_v28_apply, ref_inv]
  exact congrArg (d (i 0).val (i 1).val + ·) (grad (f (i 0).val) (fun k => both a b (i 0).val k * g 0 k) (f (i 0).val (i 1).val) (both a b (i 0).val (i 1).val * g 0 (i 1).val)).symm
theorem reference5 : val_main_v42 (F := Ideal) (ar2 f) y (ar2 a) (ar2 b) (ar2 d) = (ar2 (dhh f (both a b) d g) : S2048x1024.Idx → EReal) := by
  funext i
  show res * val_main_v39 (F := Ideal) (ar2 f) y (ar2 a) (ar2 b) (ar2 d) i = _
  rw [reference4 f a b d g y hy]
  rfl
end Reference

/-- Both programs, from the same arguments, end with the same results. -/
theorem algebraic : Cert.algebraic_KernelDrmsmIdeal_ReferenceDrmsmIdeal := by
  intro m g m' g' _ he
  refine ⟨fun c => (dats m 0 c).arrAt 5 cfg0.N, fun c => (dats m 0 c).arrAt 6 cfg0.N, fun c => (dats m 0 c).arrAt 7 cfg0.N, Cert.KernelDrmsmIdeal.Value.run_blocks m g, ?_⟩
  refine (θ_run Cert.ReferenceDrmsmIdeal.defs _ _).mono (fun r h c => ?_) (Cert.ReferenceDrmsmIdeal.Value.run (F := Ideal) m' g')
  obtain ⟨r0, r1, r2, k⟩ := h c
  obtain ⟨e0, e1, e2, e3, e4⟩ := he c
  obtain ⟨x, hx⟩ := exists_ar2 (a := 2048) (b := 1024) (m ((c : Thread nD τ).loc main_arg0))
  obtain ⟨y, hy⟩ := exists_ar2 (a := 1) (b := 1024) (broadcastInDim S1x1024 ![1] bcast_S1024_S1x1024_1 (m ((c : Thread nD τ).loc main_arg1)))
  obtain ⟨z, hz⟩ := exists_ar2 (a := 2048) (b := 1024) (m ((c : Thread nD τ).loc main_arg2))
  obtain ⟨u, hu⟩ := exists_ar2 (a := 2048) (b := 1024) (m ((c : Thread nD τ).loc main_arg3))
  obtain ⟨w, hw⟩ := exists_ar2 (a := 2048) (b := 1024) (m ((c : Thread nD τ).loc main_arg4))
  have a0 := (V_main_arg0 m c).trans hx
  have a1 := (V_main_arg2 m c).trans hz
  have a2 := (V_main_arg3 m c).trans hu
  have a3 := (V_main_arg4 m c).trans hw
  have a4 := (gains m c).trans hy
  refine ⟨?_, ?_, ?_, k⟩
  · rw [r0, Cert.ReferenceDrmsmIdeal.Read.val_main_v39_eq, e0, e1, e2, e3, e4]
    refine Eq.trans ?_ (array5 m c x z u w y a0 a1 a2 a3 a4).symm
    rw [hx, hz, hu, hw]
    exact reference4 x z u w y _ hy
  · rw [r1, Cert.ReferenceDrmsmIdeal.Read.val_main_v42_eq, e0, e1, e2, e3, e4]
    refine Eq.trans ?_ (array6 m c x z u w y a0 a1 a2 a3 a4).symm
    rw [hx, hz, hu, hw]
    exact reference5 x z u w y _ hy
  · rw [r2, Cert.ReferenceDrmsmIdeal.Read.val_main_v43_eq, e0, e2, e3]
    refine Eq.trans ?_ (array7 m c x z u a0 a1 a2).symm
    rw [hx, hz, hu]
    exact reference6 x z u

end KDrmsm

end
-- ==== Proof.KDrmsp.lean ====
/- The gradient of the normalisation of rows by their root mean square, added to the residual's gradient, and the gradient of the gains.

   Every grid point computes one block of 256 rows of the first, and of its half in the narrow format, and adds its rows' share of the second, which is
   one row kept between grid points. -/
module

public import proofs.«01_k».proof.Proof.Norm
public import proofs.«01_k».proof.Proof.Gen.KernelDrmspIdeal.Value
public import proofs.«01_k».proof.Proof.Gen.ReferenceDrmspIdeal.Run
public import proofs.«01_k».proof.Proof.Gen.ReferenceDrmspIdeal.Read
public import proofs.«01_k».proof.Defs
public import Idealize.ShloMosaic.Lib.Pipeline.ValueKit.Geometry
public import Idealize.ShloMosaic.Lib.Pipeline.ValueKit.Acc

@[expose] public section

noncomputable section

namespace KDrmsp

open Cert.KernelDrmspIdeal Cert.KernelDrmspIdeal.Gen Idealize.ShloMosaic Idealize.ShloMosaic.TcCoe Idealize.SL.Sem Product Gate Norm

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)
theorem e2 : ∀ t : Fin cfg0.N, win0_2.index t = ![t.val, 0] :=
  (by decide +kernel : ∀ t : Fin grid0.N, _)
theorem e3 : ∀ t : Fin cfg0.N, win0_3.index t = ![0, 0] :=
  (by decide +kernel : ∀ t : Fin grid0.N, _)
theorem e4 : ∀ t : Fin cfg0.N, win0_4.index t = ![t.val, 0] :=
  (by decide +kernel : ∀ t : Fin grid0.N, _)
theorem e5 : ∀ t : Fin cfg0.N, win0_5.index t = ![t.val, 0] :=
  (by decide +kernel : ∀ t : Fin grid0.N, _)
theorem e6 : ∀ t : Fin cfg0.N, win0_6.index t = ![0, 0] :=
  (by decide +kernel : ∀ t : Fin grid0.N, _)

variable (m : (ℓ : Loc nD τ sig) → Buf (Elt Ideal) ℓ) (c : Dev nD) (f n d g : ℕ → ℕ → EReal) (t : Fin cfg0.N)

/-- What the host hands the call: the gains as one row. -/
theorem gains : V m c main_v0 = broadcastInDim S1x1024 ![1] bcast_S1024_S1x1024_1 (m ((c : Thread nD τ).loc main_arg1)) := by
  simp only [V, hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (X : Buf (Elt Ideal) ((c : Thread nD τ).loc (Pipeline.arrRef spec0 1))) (e : X = (ar2 f : S2048x1024.Idx → EReal)) :
    (((cfg0.win 1).blk t).view.read (Elt Ideal) X : ((cfg0.win 1).xblock (cfg0.grid.coords t)).Idx → Elt Ideal (cfg0.win 1).elt)
      = (ar2 (rows f t.val 0) : S256x1024.Idx → EReal) := by
  subst e
  funext y
  unfold ar2 rows
  blk_simp [e1]
  congr 1 <;> omega
theorem blk2 (X : Buf (Elt Ideal) ((c : Thread nD τ).loc (Pipeline.arrRef spec0 2))) (e : X = (ar2 f : S2048x1024.Idx → EReal)) :
    (((cfg0.win 2).blk t).view.read (Elt Ideal) X : ((cfg0.win 2).xblock (cfg0.grid.coords t)).Idx → Elt Ideal (cfg0.win 2).elt)
      = (ar2 (rows f t.val 0) : S256x1024.Idx → EReal) := by
  subst e
  funext y
  unfold ar2 rows
  blk_simp [e2]
  congr 1 <;> omega
theorem blk3 (X : Buf (Elt Ideal) ((c : Thread nD τ).loc (Pipeline.arrRef spec0 3))) (e : X = (ar2 g : S1x1024.Idx → EReal)) :
    (((cfg0.win 3).blk t).view.read (Elt Ideal) X : ((cfg0.win 3).xblock (cfg0.grid.coords t)).Idx → Elt Ideal (cfg0.win 3).elt)
      = (ar2 g : S1x1024.Idx → EReal) := by
  subst e
  funext y
  unfold ar2
  blk_simp [e3]

/-- The gradient of the row's entry: the residual's plus the factor times the gained gradient less its part along the normalised row. -/
def dh : ℕ → ℕ → EReal := fun i j =>
  d i j + inv (f i) * (n i j * g 0 j - f i j * inv (f i) * Ideal.div (∑ k ∈ Finset.range 1024, n i k * g 0 k * (f i k * inv (f i))) len)

/-- The factor of the copy: one half. -/
def res : EReal := Ideal.ofBits .f32 0x3F000000#32
theorem res_broadcast : (broadcast S256x1024 (Scalar.ofBits (F := Ideal) .f32 0x3F000000#32) : S256x1024.Idx → EReal) = ar2 fun _ _ => res := rfl
/-- The gradient in the narrow format, halved. -/
def dhh : ℕ → ℕ → EReal := fun i j => res * dh f n d g i j

theorem factor : (k0_pay4 (F := Ideal) (ar2 f) : S256x1.Idx → EReal) = ar2 fun i _ => inv (f i) := by
  unfold k0_pay4
  dsimp only
  simp only [mul_ar2, rowsum, len_broadcast, eps_broadcast, div_ar2, sum_ar2, rsqrt_ar2, inv_row]
theorem normed : (k0_pay5 (F := Ideal) (ar2 f) : S256x1024.Idx → EReal) = ar2 fun i j => f i j * inv (f i) := by
  unfold k0_pay5
  dsimp only
  rw [factor]
  simp only [spread_col, mul_ar2]
theorem wide : (k0_pay3 (F := Ideal) (ar2 n) : S256x1024.Idx → EReal) = ar2 n := rfl

/-- What the body makes of its blocks. -/
theorem tile : (k0_pay7 (F := Ideal) (ar2 f) (ar2 n) (ar2 d) (ar2 g) : S256x1024.Idx → EReal) = ar2 (dh f n d g) := by
  unfold k0_pay7
  dsimp only
  rw [shapeCast_self, normed, wide, factor]
  simp only [mul_ar2, rowsum, len_broadcast, div_ar2, sum_ar2, sub_ar2, spread_col, spread_row]
  rfl
theorem tile16 : (k0_pay8 (F := Ideal) (ar2 f) (ar2 n) (ar2 d) (ar2 g) : S256x1024.Idx → EReal) = ar2 (dhh f n d g) := by
  unfold k0_pay8
  dsimp only
  rw [tile]
  simp only [res_broadcast, mul_ar2, narrow_ar2]
  rfl
/-- One block's share of the gains' gradient. -/
theorem share : (k0_pay6 (F := Ideal) (ar2 f) (ar2 n) : S1x1024.Idx → EReal) = ar2 fun _ j => ∑ k ∈ Finset.range 256, n k j * (f k j * inv (f k)) := by
  unfold k0_pay6
  dsimp only
  rw [normed, wide]
  simp only [mul_ar2, colsum]

/-- A grid point's share of the gains' gradient. -/
def part : S1x1024.Idx → EReal := ar2 fun _ j => ∑ k ∈ Finset.range 256, n (256 * t.val + k) j * (f (256 * t.val + k) j * inv (f (256 * t.val + k)))

/-- The accumulator starts at zero. -/
theorem start : (k0_pay1 (F := Ideal) : S1x1024.Idx → EReal) = ar2 fun _ _ => 0 := by
  unfold k0_pay1
  dsimp only
  exact zero_broadcast
/-- One point adds its share. -/
theorem step (a : S1x1024.Idx → EReal) :
    (k0_pay2 (F := Ideal) (k0_pay6 (F := Ideal) (ar2 (rows f t.val 0)) (ar2 (rows n t.val 0))) a : S1x1024.Idx → EReal) = fun i => a i + part f n t i := by
  obtain ⟨h, rfl⟩ := exists_ar2 a
  unfold k0_pay2
  dsimp only
  rw [shapeCast_self, share, sum_ar2]
  unfold part rows
  simp only [Nat.zero_add]
  rfl

section Arrays
variable (a0 : V m c main_arg0 = (ar2 f : S2048x1024.Idx → EReal)) (a1 : V m c main_arg2 = (ar2 n : S2048x1024.Idx → EReal))
  (a2 : V m c main_arg3 = (ar2 d : S2048x1024.Idx → EReal)) (a3 : V m c main_v0 = (ar2 g : S1x1024.Idx → EReal))
include a0 a1

/-- The accumulator after the first point, -/
theorem acc_first (h : t.val % 8 = 0) (i : S1x1024.Idx) : (outsAt0 m c t.val t.isLt).2.2 i = 0 + part f n t i := by
  rw [outsAt0_A m c t h]
  dsimp only
  frame_out
  rw [show iblk m c 0 t = _ from blk0 c f t _ a0, show iblk m c 1 t = _ from blk1 c n t _ a1, start, step]
  rfl
/-- and after a later point. -/
theorem acc_later (h : ¬t.val % 8 = 0) (i : S1x1024.Idx) : (outsAt0 m c t.val t.isLt).2.2 i
    = (outsAt0 m c (t.val - 1) (Nat.lt_of_le_of_lt (Nat.sub_le _ _) t.isLt)).2.2 i + part f n t i := by
  rw [outsAt0_B m c t h]
  dsimp only
  frame_out
  rw [show iblk m c 0 t = _ from blk0 c f t _ a0, show iblk m c 1 t = _ from blk1 c n t _ a1, step]

/-- The gains' gradient: every entry the sum over all the rows. -/
theorem array6 : (dats m 0 c).arrAt 6 cfg0.N = (ar2 fun _ j => ∑ k ∈ Finset.range 2048, n k j * (f k j * inv (f k)) : S1x1024.Idx → EReal) := by
  refine (dats m 0 c).arrAt_eq_of_covers 6 _ (by decide +kernel) fun t hf y => ?_
  have ht : t.val % 8 = 7 := (flush0_6 t).mp hf
  have hN : t.val < 8 := t.isLt
  rw [after0_6]
  rw [Pipeline.eq_sum_fin_of_reset_step_apply_of_flush (fun n h => (outsAt0 m c n h).2.2) 8 (fun _ => (0 : EReal)) (fun t => part f n t)
    (fun t h i => acc_first m c f n t a0 a1 h i) (fun t h i => acc_later m c f n t a0 a1 h i) t ht, zero_add]
  unfold part ar2
  blk_simp [e6]
  rw [show (2048 : ℕ) = 8 * 256 from rfl, ← sum_runs, Finset.sum_range]
  refine sum_fin_eq fun s => sum_eq fun k hk => ?_
  have hs : 256 * (8 * (t.val / 8) + s.val) + k = 256 * s.val + k := by omega
  simp only [hs, Nat.zero_add]

include a2 a3

/-- The block written at a point. -/
theorem written4 : ((outsAt0 m c t.val t.isLt).1 : S256x1024.Idx → EReal) = ar2 (dh (rows f t.val 0) (rows n t.val 0) (rows d t.val 0) g) := by
  by_cases h : t.val % 8 = 0
  · rw [outsAt0_A m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile]
  · rw [outsAt0_B m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile]
/-- The whole gradient. -/
theorem array4 : (dats m 0 c).arrAt 4 cfg0.N = (ar2 (dh f n d g) : S2048x1024.Idx → EReal) := by
  refine (dats m 0 c).arrAt_eq_of_covers 4 _ (by decide +kernel) fun t hf y => ?_
  rw [after0_4, written4 m c f n d g t a0 a1 a2 a3]
  unfold ar2 dh rows
  blk_simp [e4]
  simp only [Nat.zero_add]
  rw [Nat.mul_comm 256]
/-- The block written at a point. -/
theorem written5 : ((outsAt0 m c t.val t.isLt).2.1 : S256x1024.Idx → EReal) = ar2 (dhh (rows f t.val 0) (rows n t.val 0) (rows d t.val 0) g) := by
  by_cases h : t.val % 8 = 0
  · rw [outsAt0_A m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile16]
  · rw [outsAt0_B m c t h]
    dsimp only
    frame_out
    rw [show iblk m c 0 t = _ from blk0 c f t _ a0, show iblk m c 1 t = _ from blk1 c n t _ a1, show iblk m c 2 t = _ from blk2 c d t _ a2, show iblk m c 3 t = _ from blk3 c g t _ a3, tile16]
/-- The whole gradient. -/
theorem array5 : (dats m 0 c).arrAt 5 cfg0.N = (ar2 (dhh f n d g) : S2048x1024.Idx → EReal) := by
  refine (dats m 0 c).arrAt_eq_of_covers 5 _ (by decide +kernel) fun t hf y => ?_
  rw [after0_5, written5 m c f n d g t a0 a1 a2 a3]
  unfold ar2 dhh dh rows
  blk_simp [e5]
  simp only [Nat.zero_add]
  rw [Nat.mul_comm 256]
end Arrays

section Reference
open Cert.ReferenceDrmspIdeal.Read

/-- The reference's mean square and small number, by row, -/
theorem ref_arg (i : Cert.ReferenceDrmspIdeal.S2048x1.Idx) : val_main_v6 (F := Ideal) (ar2 f) i = arg (f (i 0).val) := by
  rw [val_main_v6_apply, val_main_v4_apply, val_main_v2_apply, val_main_v1_apply]
  show Ideal.div (Ideal.ofBits .f32 0x00000000#32 + ∑ k : Fin 1024, f (i 0).val k.val * f (i 0).val k.val) len + eps = _
  rw [Ideal.ofBits_zero_f32, zero_add, arg, Finset.sum_range]
/-- its factor, -/
theorem ref_inv (i : Cert.ReferenceDrmspIdeal.S2048x1.Idx) : val_main_v7 (F := Ideal) (ar2 f) i = inv (f (i 0).val) := by
  rw [val_main_v7_apply, ref_arg]
  rfl
/-- the factor's derivative, -/
theorem ref_slope (i : Cert.ReferenceDrmspIdeal.S2048x1.Idx) :
    val_main_v10 (F := Ideal) (ar2 f) i = half * Ideal.div (inv (f (i 0).val)) (arg (f (i 0).val)) := by
  rw [val_main_v10_apply, val_main_v8_apply, ref_inv, ref_arg]
  rfl

/-- and its gradient of the gains. -/
theorem reference6 : val_main_v41 (F := Ideal) (ar2 f) (ar2 n)
    = (ar2 fun _ j => ∑ k ∈ Finset.range 2048, n k j * (f k j * inv (f k)) : S1x1024.Idx → EReal) := by
  funext i
  rw [val_main_v41_apply, val_main_v22_apply]
  show Ideal.ofBits .f32 0x00000000#32 + ∑ k : Fin 1, _ = _
  rw [Ideal.ofBits_zero_f32, zero_add, Fin.sum_univ_one, val_main_v19_apply, val_main_v18_apply]
  show Ideal.ofBits .f32 0x00000000#32 + ∑ k : Fin 2048, _ = ∑ k ∈ Finset.range 2048, n k (i 1).val * (f k (i 1).val * inv (f k))
  rw [Ideal.ofBits_zero_f32, zero_add, Finset.sum_range]
  refine sum_fin_eq fun k => ?_
  rw [val_main_v17_apply, val_main_v12_apply, val_main_v11_apply, ref_inv, val_main_v16_apply]
  show f k.val (0 * 1024 + (i 1).val) * inv (f k.val) * n k.val (0 * 1024 + (i 1).val) = _
  rw [Nat.zero_mul, Nat.zero_add, mul_comm]

variable (y : S1024.Idx → EReal) (hy : broadcastInDim S1x1024 ![1] bcast_S1024_S1x1024_1 y = (ar2 g : S1x1024.Idx → EReal))
include hy

/-- The gradient times the gains, -/
theorem ref_gained : val_main_v21 (F := Ideal) y (ar2 n) = (ar2 fun i j => n i j * g 0 j : S2048x1024.Idx → EReal) := by
  funext i
  have hg : val_main_v13 (F := Ideal) y = (ar2 g : S1x1024.Idx → EReal) := hy
  rw [val_main_v21_apply, val_main_v20_apply]
  show n (i 0).val (i 1).val * val_main_v13 (F := Ideal) y _ = _
  rw [hg]
  rfl
/-- the part of the row's gradient through the factor, -/
theorem ref_through (i : Cert.ReferenceDrmspIdeal.S2048x1024.Idx) : val_main_v32 (F := Ideal) (ar2 f) y (ar2 n) i
    = Ideal.div ((∑ k ∈ Finset.range 1024, f (i 0).val k * (n (i 0).val k * g 0 k)) * (half * Ideal.div (inv (f (i 0).val)) (arg (f (i 0).val)))) len := by
  rw [val_main_v32_apply, val_main_v31_apply]
  show Ideal.ofBits .f32 0x00000000#32 + ∑ k : Fin 1, _ = _
  rw [Ideal.ofBits_zero_f32, zero_add, Fin.sum_univ_one, val_main_v30_apply, val_main_v28_apply, ref_slope, val_main_v25_apply, val_main_v24_apply]
  show Ideal.div ((Ideal.ofBits .f32 0x00000000#32 + ∑ k : Fin 1024, _) * _) len = _
  rw [Ideal.ofBits_zero_f32, zero_add, Finset.sum_range]
  refine congrArg (fun u => Ideal.div (u * _) len) (sum_fin_eq fun k => ?_)
  rw [val_main_v23_apply, ref_gained n g y hy]
  show f ((i 0).val * 1 + 0) k.val * (n ((i 0).val * 1 + 0) k.val * g 0 k.val) = _
  rw [Nat.mul_one, Nat.add_zero]

/-- and the row's whole gradient, in the kernel's form. -/
theorem reference4 : val_main_v37 (F := Ideal) (ar2 f) y (ar2 n) (ar2 d) = (ar2 (dh f n d g) : S2048x1024.Idx → EReal) := by
  funext i
  show d (i 0).val (i 1).val + (val_main_v21 (F := Ideal) y (ar2 n) i * val_main_v26 (F := Ideal) (ar2 f) i
    + f (i 0).val (i 1).val * val_main_v32 (F := Ideal) (ar2 f) y (ar2 n) i + val_main_v32 (F := Ideal) (ar2 f) y (ar2 n) i * f (i 0).val (i 1).val) = _
  rw [ref_gained n g y hy, ref_through f n g y hy, val_main_v26_apply, ref_inv]
  exact congrArg (d (i 0).val (i 1).val + ·) (grad (f (i 0).val) (fun k => n (i 0).val k * g 0 k) (f (i 0).val (i 1).val) (n (i 0).val (i 1).val * g 0 (i 1).val)).symm
theorem reference5 : val_main_v40 (F := Ideal) (ar2 f) y (ar2 n) (ar2 d) = (ar2 (dhh f n d g) : S2048x1024.Idx → EReal) := by
  funext i
  show res * val_main_v37 (F := Ideal) (ar2 f) y (ar2 n) (ar2 d) i = _
  rw [reference4 f n d g y hy]
  rfl
end Reference

/-- Both programs, from the same arguments, end with the same results. -/
theorem algebraic : Cert.algebraic_KernelDrmspIdeal_ReferenceDrmspIdeal := by
  intro m g m' g' _ he
  refine ⟨fun c => (dats m 0 c).arrAt 4 cfg0.N, fun c => (dats m 0 c).arrAt 5 cfg0.N, fun c => (dats m 0 c).arrAt 6 cfg0.N, Cert.KernelDrmspIdeal.Value.run_blocks m g, ?_⟩
  refine (θ_run Cert.ReferenceDrmspIdeal.defs _ _).mono (fun r h c => ?_) (Cert.ReferenceDrmspIdeal.Value.run (F := Ideal) m' g')
  obtain ⟨r0, r1, r2, k⟩ := h c
  obtain ⟨e0, e1, e2, e3⟩ := he c
  obtain ⟨x, hx⟩ := exists_ar2 (a := 2048) (b := 1024) (m ((c : Thread nD τ).loc main_arg0))
  obtain ⟨y, hy⟩ := exists_ar2 (a := 1) (b := 1024) (broadcastInDim S1x1024 ![1] bcast_S1024_S1x1024_1 (m ((c : Thread nD τ).loc main_arg1)))
  obtain ⟨z, hz⟩ := exists_ar2 (a := 2048) (b := 1024) (m ((c : Thread nD τ).loc main_arg2))
  obtain ⟨w, hw⟩ := exists_ar2 (a := 2048) (b := 1024) (m ((c : Thread nD τ).loc main_arg3))
  have a0 := (V_main_arg0 m c).trans hx
  have a1 := (V_main_arg2 m c).trans hz
  have a2 := (V_main_arg3 m c).trans hw
  have a3 := (gains m c).trans hy
  refine ⟨?_, ?_, ?_, k⟩
  · rw [r0, Cert.ReferenceDrmspIdeal.Read.val_main_v37_eq, e0, e1, e2, e3]
    refine Eq.trans ?_ (array4 m c x z w y a0 a1 a2 a3).symm
    rw [hx, hz, hw]
    exact reference4 x z w y _ hy
  · rw [r1, Cert.ReferenceDrmspIdeal.Read.val_main_v40_eq, e0, e1, e2, e3]
    refine Eq.trans ?_ (array5 m c x z w y a0 a1 a2 a3).symm
    rw [hx, hz, hw]
    exact reference5 x z w y _ hy
  · rw [r2, Cert.ReferenceDrmspIdeal.Read.val_main_v41_eq, e0, e2]
    refine Eq.trans ?_ (array6 m c x z a0 a1).symm
    rw [hx, hz]
    exact reference6 x z

end KDrmsp

end
-- ==== Proof.KAgain.lean ====
/- The optimiser's step for the gains of the layers' normalisations.

   The kernel has one grid point, and every entry of its three results is the reference's operations on the four entries at the same place. -/
module

public import proofs.«01_k».proof.Proof.Gen.KernelAgainIdeal.Value
public import proofs.«01_k».proof.Proof.Gen.ReferenceAgainIdeal.Run
public import proofs.«01_k».proof.Proof.Gen.ReferenceAgainIdeal.Read
public import proofs.«01_k».proof.Defs

@[expose] public section

noncomputable section

namespace KAgain

open Cert.KernelAgainIdeal Cert.KernelAgainIdeal.Gen Idealize.ShloMosaic Idealize.ShloMosaic.TcCoe Idealize.SL.Sem

/-- Both programs, from the same arguments, end with the same results. -/
theorem algebraic : Cert.algebraic_KernelAgainIdeal_ReferenceAgainIdeal := by
  intro m g m' g' _ he
  refine ⟨fun c => Cert.KernelAgainIdeal.Value.G4 (m ((c : Thread nD τ).loc main_arg0)) (m ((c : Thread nD τ).loc main_arg1)) (m ((c : Thread nD τ).loc main_arg2)) (m ((c : Thread nD τ).loc main_arg3)),
    fun c => Cert.KernelAgainIdeal.Value.G5 (m ((c : Thread nD τ).loc main_arg1)) (m ((c : Thread nD τ).loc main_arg2)),
    fun c => Cert.KernelAgainIdeal.Value.G6 (m ((c : Thread nD τ).loc main_arg1)) (m ((c : Thread nD τ).loc main_arg3)), Cert.KernelAgainIdeal.Value.run m g, ?_⟩
  refine (θ_run Cert.ReferenceAgainIdeal.defs _ _).mono (fun r h c => ?_) (Cert.ReferenceAgainIdeal.Value.run (F := Ideal) m' g')
  obtain ⟨r0, r1, r2, k⟩ := h c
  obtain ⟨e0, e1, e2, e3⟩ := he c
  refine ⟨?_, ?_, ?_, k⟩
  · rw [r0, e0, e1, e2, e3]
    rfl
  · rw [r1, e1, e2]
    rfl
  · rw [r2, e1, e3]
    rfl

end KAgain

end
-- ==== Proof.KAfinal.lean ====
/- The optimiser's step for the last normalisation's gains.

   The kernel has one grid point, and every entry of its three results is the reference's operations on the four entries at the same place. -/
module

public import proofs.«01_k».proof.Proof.Gen.KernelAfinalIdeal.Value
public import proofs.«01_k».proof.Proof.Gen.ReferenceAfinalIdeal.Run
public import proofs.«01_k».proof.Proof.Gen.ReferenceAfinalIdeal.Read
public import proofs.«01_k».proof.Defs

@[expose] public section

noncomputable section

namespace KAfinal

open Cert.KernelAfinalIdeal Cert.KernelAfinalIdeal.Gen Idealize.ShloMosaic Idealize.ShloMosaic.TcCoe Idealize.SL.Sem

/-- Both programs, from the same arguments, end with the same results. -/
theorem algebraic : Cert.algebraic_KernelAfinalIdeal_ReferenceAfinalIdeal := by
  intro m g m' g' _ he
  refine ⟨fun c => Cert.KernelAfinalIdeal.Value.G4 (m ((c : Thread nD τ).loc main_arg0)) (m ((c : Thread nD τ).loc main_arg1)) (m ((c : Thread nD τ).loc main_arg2)) (m ((c : Thread nD τ).loc main_arg3)),
    fun c => Cert.KernelAfinalIdeal.Value.G5 (m ((c : Thread nD τ).loc main_arg1)) (m ((c : Thread nD τ).loc main_arg2)),
    fun c => Cert.KernelAfinalIdeal.Value.G6 (m ((c : Thread nD τ).loc main_arg1)) (m ((c : Thread nD τ).loc main_arg3)), Cert.KernelAfinalIdeal.Value.run m g, ?_⟩
  refine (θ_run Cert.ReferenceAfinalIdeal.defs _ _).mono (fun r h c => ?_) (Cert.ReferenceAfinalIdeal.Value.run (F := Ideal) m' g')
  obtain ⟨r0, r1, r2, k⟩ := h c
  obtain ⟨e0, e1, e2, e3⟩ := he c
  refine ⟨?_, ?_, ?_, k⟩
  · rw [r0, e0, e1, e2, e3]
    rfl
  · rw [r1, e1, e2]
    rfl
  · rw [r2, e1, e3]
    rfl

end KAfinal

end
-- ==== Proof.KAconv.lean ====
/- The optimiser's step for the convolution's bias and the gains of its normalisation.

   The kernel has one grid point, and every entry of its three results is the reference's operations on the four entries at the same place. -/
module

public import proofs.«01_k».proof.Proof.Gen.KernelAconvIdeal.Value
public import proofs.«01_k».proof.Proof.Gen.ReferenceAconvIdeal.Run
public import proofs.«01_k».proof.Proof.Gen.ReferenceAconvIdeal.Read
public import proofs.«01_k».proof.Defs

@[expose] public section

noncomputable section

namespace KAconv

open Cert.KernelAconvIdeal Cert.KernelAconvIdeal.Gen Idealize.ShloMosaic Idealize.ShloMosaic.TcCoe Idealize.SL.Sem

/-- Both programs, from the same arguments, end with the same results. -/
theorem algebraic : Cert.algebraic_KernelAconvIdeal_ReferenceAconvIdeal := by
  intro m g m' g' _ he
  refine ⟨fun c => Cert.KernelAconvIdeal.Value.G4 (m ((c : Thread nD τ).loc main_arg0)) (m ((c : Thread nD τ).loc main_arg1)) (m ((c : Thread nD τ).loc main_arg2)) (m ((c : Thread nD τ).loc main_arg3)),
    fun c => Cert.KernelAconvIdeal.Value.G5 (m ((c : Thread nD τ).loc main_arg1)) (m ((c : Thread nD τ).loc main_arg2)),
    fun c => Cert.KernelAconvIdeal.Value.G6 (m ((c : Thread nD τ).loc main_arg1)) (m ((c : Thread nD τ).loc main_arg3)), Cert.KernelAconvIdeal.Value.run m g, ?_⟩
  refine (θ_run Cert.ReferenceAconvIdeal.defs _ _).mono (fun r h c => ?_) (Cert.ReferenceAconvIdeal.Value.run (F := Ideal) m' g')
  obtain ⟨r0, r1, r2, k⟩ := h c
  obtain ⟨e0, e1, e2, e3⟩ := he c
  refine ⟨?_, ?_, ?_, k⟩
  · rw [r0, e0, e1, e2, e3]
    rfl
  · rw [r1, e1, e2]
    rfl
  · rw [r2, e1, e3]
    rfl

end KAconv

end
-- ==== Proof.KAbf.lean ====
/- The optimiser's step for the gates' bias.

   The kernel has one grid point, and every entry of its three results is the reference's operations on the four entries at the same place. -/
module

public import proofs.«01_k».proof.Proof.Gen.KernelAbfIdeal.Value
public import proofs.«01_k».proof.Proof.Gen.ReferenceAbfIdeal.Run
public import proofs.«01_k».proof.Proof.Gen.ReferenceAbfIdeal.Read
public import proofs.«01_k».proof.Defs

@[expose] public section

noncomputable section

namespace KAbf

open Cert.KernelAbfIdeal Cert.KernelAbfIdeal.Gen Idealize.ShloMosaic Idealize.ShloMosaic.TcCoe Idealize.SL.Sem

/-- Both programs, from the same arguments, end with the same results. -/
theorem algebraic : Cert.algebraic_KernelAbfIdeal_ReferenceAbfIdeal := by
  intro m g m' g' _ he
  refine ⟨fun c => Cert.KernelAbfIdeal.Value.G4 (m ((c : Thread nD τ).loc main_arg0)) (m ((c : Thread nD τ).loc main_arg1)) (m ((c : Thread nD τ).loc main_arg2)) (m ((c : Thread nD τ).loc main_arg3)),
    fun c => Cert.KernelAbfIdeal.Value.G5 (m ((c : Thread nD τ).loc main_arg1)) (m ((c : Thread nD τ).loc main_arg2)),
    fun c => Cert.KernelAbfIdeal.Value.G6 (m ((c : Thread nD τ).loc main_arg1)) (m ((c : Thread nD τ).loc main_arg3)), Cert.KernelAbfIdeal.Value.run m g, ?_⟩
  refine (θ_run Cert.ReferenceAbfIdeal.defs _ _).mono (fun r h c => ?_) (Cert.ReferenceAbfIdeal.Value.run (F := Ideal) m' g')
  obtain ⟨r0, r1, r2, k⟩ := h c
  obtain ⟨e0, e1, e2, e3⟩ := he c
  refine ⟨?_, ?_, ?_, k⟩
  · rw [r0, e0, e1, e2, e3]
    rfl
  · rw [r1, e1, e2]
    rfl
  · rw [r2, e1, e3]
    rfl

end KAbf

end
-- ==== Proof.KAtaps.lean ====
/- The optimiser's step for one device's columns of the convolution's taps.

   The kernel has one grid point, and every entry of its three results is the reference's operations on the four entries at the same place. -/
module

public import proofs.«01_k».proof.Proof.Gen.KernelAtapsIdeal.Value
public import proofs.«01_k».proof.Proof.Gen.ReferenceAtapsIdeal.Run
public import proofs.«01_k».proof.Proof.Gen.ReferenceAtapsIdeal.Read
public import proofs.«01_k».proof.Defs

@[expose] public section

noncomputable section

namespace KAtaps

open Cert.KernelAtapsIdeal Cert.KernelAtapsIdeal.Gen Idealize.ShloMosaic Idealize.ShloMosaic.TcCoe Idealize.SL.Sem

/-- Both programs, from the same arguments, end with the same results. -/
theorem algebraic : Cert.algebraic_KernelAtapsIdeal_ReferenceAtapsIdeal := by
  intro m g m' g' _ he
  refine ⟨fun c => Cert.KernelAtapsIdeal.Value.G4 (m ((c : Thread nD τ).loc main_arg0)) (m ((c : Thread nD τ).loc main_arg1)) (m ((c : Thread nD τ).loc main_arg2)) (m ((c : Thread nD τ).loc main_arg3)),
    fun c => Cert.KernelAtapsIdeal.Value.G5 (m ((c : Thread nD τ).loc main_arg1)) (m ((c : Thread nD τ).loc main_arg2)),
    fun c => Cert.KernelAtapsIdeal.Value.G6 (m ((c : Thread nD τ).loc main_arg1)) (m ((c : Thread nD τ).loc main_arg3)), Cert.KernelAtapsIdeal.Value.run m g, ?_⟩
  refine (θ_run Cert.ReferenceAtapsIdeal.defs _ _).mono (fun r h c => ?_) (Cert.ReferenceAtapsIdeal.Value.run (F := Ideal) m' g')
  obtain ⟨r0, r1, r2, k⟩ := h c
  obtain ⟨e0, e1, e2, e3⟩ := he c
  refine ⟨?_, ?_, ?_, k⟩
  · rw [r0, e0, e1, e2, e3]
    rfl
  · rw [r1, e1, e2]
    rfl
  · rw [r2, e1, e3]
    rfl

end KAtaps

end
-- ==== Proof.KLoss.lean ====
/- The loss after the last normalisation, its gradient by the rows, and the gradient of the last gains.

   Every grid point computes one block of 256 rows of the second, and adds its rows' share of the first and of the third, each one
   row kept between grid points; the loss stands in every lane of its row. -/
module

public import proofs.«01_k».proof.Proof.Norm
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Defs
public import Idealize.ShloMosaic.Lib.Pipeline.ValueKit.Geometry
public import Idealize.ShloMosaic.Lib.Pipeline.ValueKit.Acc

@[expose] public section

noncomputable section

namespace KLoss

open Cert.KernelLossIdeal Cert.KernelLossIdeal.Gen Idealize.ShloMosaic Idealize.ShloMosaic.TcCoe Idealize.SL.Sem Product Gate Norm

theorem e0 : ∀ t : Fin cfg0.N, win0_0.index t = ![t.val, 0] :=
  (by decide +kernel : ∀ t : Fin grid0.N, _)
theorem e1 : ∀ t : Fin cfg0.N, win0_1.index t = ![t.val, 0] :=
  (by decide +kernel : ∀ t : Fin grid0.N, _)
theorem e2 : ∀ t : Fin cfg0.N, win0_2.index t = ![0, 0] :=
  (by decide +kernel : ∀ t : Fin grid0.N, _)
theorem e3 : ∀ t : Fin cfg0.N, win0_3.index t = ![t.val, 0] :=
  (by decide +kernel : ∀ t : Fin grid0.N, _)
theorem e4 : ∀ t : Fin cfg0.N, win0_4.index t = ![0, 0] :=
  (by decide +kernel : ∀ t : Fin grid0.N, _)
theorem e5 : ∀ t : Fin cfg0.N, win0_5.index t = ![0, 0] :=
  (by decide +kernel : ∀ t : Fin grid0.N, _)

variable (m : (ℓ : Loc nD τ sig) → Buf (Elt Ideal) ℓ) (c : Dev nD) (f w g : ℕ → ℕ → EReal) (t : Fin cfg0.N)

/-- What the host hands the call: the gains as one row. -/
theorem gains : V m c main_v0 = broadcastInDim S1x1024 ![1] bcast_S1024_S1x1024_1 (m ((c : Thread nD τ).loc main_arg1)) := by
  simp only [V, hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

theorem blk0 (X : Buf (Elt Ideal) ((c : Thread nD τ).loc (Pipeline.arrRef spec0 0))) (e : X = (ar2 f : S2048x1024.Idx → EReal)) :
    (((cfg0.win 0).blk t).view.read (Elt Ideal) X : ((cfg0.win 0).xblock (cfg0.grid.coords t)).Idx → Elt Ideal (cfg0.win 0).elt)
      = (ar2 (rows f t.val 0) : S256x1024.Idx → EReal) := by
  subst e
  funext y
  unfold ar2 rows
  blk_simp [e0]
  congr 1 <;> omega
theorem blk1 (X : Buf (Elt Ideal) ((c : Thread nD τ).loc (Pipeline.arrRef spec0 1))) (e : X = (ar2 f : S2048x1024.Idx → EReal)) :
    (((cfg0.win 1).blk t).view.read (Elt Ideal) X : ((cfg0.win 1).xblock (cfg0.grid.coords t)).Idx → Elt Ideal (cfg0.win 1).elt)
      = (ar2 (rows f t.val 0) : S256x1024.Idx → EReal) := by
  subst e
  funext y
  unfold ar2 rows
  blk_simp [e1]
  congr 1 <;> omega
theorem blk2 (X : Buf (Elt Ideal) ((c : Thread nD τ).loc (Pipeline.arrRef spec0 2))) (e : X = (ar2 g : S1x1024.Idx → EReal)) :
    (((cfg0.win 2).blk t).view.read (Elt Ideal) X : ((cfg0.win 2).xblock (cfg0.grid.coords t)).Idx → Elt Ideal (cfg0.win 2).elt)
      = (ar2 g : S1x1024.Idx → EReal) := by
  subst e
  funext y
  unfold ar2
  blk_simp [e2]

/-- One over the row's length, as the kernel writes it, -/
def frac : EReal := Ideal.ofBits .f32 0x3A800000#32
/-- and half of it. -/
def frac2 : EReal := Ideal.ofBits .f32 0x3A000000#32
theorem frac_eq : frac = ((1 / 1024 : ℝ) : EReal) := by
  simp [frac, Ideal.ofBits, Ideal.ieee, -EReal.coe_mul] <;> norm_num
theorem frac2_eq : frac2 = ((1 / 2048 : ℝ) : EReal) := by
  simp [frac2, Ideal.ofBits, Ideal.ieee, -EReal.coe_mul] <;> norm_num
theorem frac_broadcast : (broadcast S256x1024 (Scalar.ofBits (F := Ideal) .f32 0x3A800000#32) : S256x1024.Idx → EReal) = ar2 fun _ _ => frac := rfl
theorem frac2_broadcast : (broadcast S256x1 (Scalar.ofBits (F := Ideal) .f32 0x3A000000#32) : S256x1.Idx → EReal) = ar2 fun _ _ => frac2 := rfl
theorem pos_eq : Ideal.ofBits .f32 0x3F000000#32 = ((1 / 2 : ℝ) : EReal) := by
  simp [Ideal.ofBits, Ideal.ieee, -EReal.coe_mul] <;> norm_num
theorem two_eq : Ideal.ofBits .f32 0x40000000#32 = ((2 : ℝ) : EReal) := by
  simp [Ideal.ofBits, Ideal.ieee, -EReal.coe_mul] <;> norm_num

/-- The reference's factor of the error is the kernel's. -/
theorem factors (x : EReal) : Ideal.div (Ideal.ofBits .f32 0x3F000000#32 * Ideal.ofBits .f32 0x3F800000#32) len * (Ideal.ofBits .f32 0x40000000#32 * x) = x * frac := by
  rw [Ideal.ofBits_one_f32, mul_one, pos_eq, two_eq, div_len, frac_eq, mul_comm x, ← mul_assoc, ← EReal.coe_mul, ← EReal.coe_mul]
  congr 2
  norm_num

/-- The error: the normalised row times the gains less the target, -/
def err : ℕ → ℕ → EReal := fun i j => f i j * inv (f i) * g 0 j - w i j
/-- its gradient, -/
def slope : ℕ → ℕ → EReal := fun i j => err f w g i j * frac
/-- a row's share of the loss, -/
def loss : ℕ → EReal := fun i => (∑ k ∈ Finset.range 1024, err f w g i k * err f w g i k) * frac2
/-- and the gradient of the row's entry. -/
def dx : ℕ → ℕ → EReal := fun i j =>
  inv (f i) * (slope f w g i j * g 0 j - f i j * inv (f i) * Ideal.div (∑ k ∈ Finset.range 1024, slope f w g i k * g 0 k * (f i k * inv (f i))) len)

theorem row : (k0_pay6 (F := Ideal) (ar2 g) : S1x1024.Idx → EReal) = ar2 g := by
  unfold k0_pay6
  dsimp only
  rw [shapeCast_self]
theorem error : (k0_pay7 (F := Ideal) (ar2 f) (ar2 w) (ar2 g) : S256x1024.Idx → EReal) = ar2 (err f w g) := by
  unfold k0_pay7
  dsimp only
  rw [row]
  simp only [mul_ar2, rowsum, len_broadcast, eps_broadcast, div_ar2, sum_ar2, rsqrt_ar2, inv_row, spread_col, spread_row, sub_ar2]
  rfl
theorem scaled : (k0_pay9 (F := Ideal) (ar2 f) (ar2 w) (ar2 g) : S256x1024.Idx → EReal) = ar2 (slope f w g) := by
  unfold k0_pay9
  dsimp only
  rw [error, frac_broadcast, mul_ar2]
  rfl
theorem factor : (k0_pay10 (F := Ideal) (ar2 f) : S256x1.Idx → EReal) = ar2 fun i _ => inv (f i) := by
  unfold k0_pay10
  dsimp only
  simp only [mul_ar2, rowsum, len_broadcast, eps_broadcast, div_ar2, sum_ar2, rsqrt_ar2, inv_row]
theorem normed : (k0_pay11 (F := Ideal) (ar2 f) : S256x1024.Idx → EReal) = ar2 fun i j => f i j * inv (f i) := by
  unfold k0_pay11
  dsimp only
  rw [factor]
  simp only [spread_col, mul_ar2]
theorem gained : (k0_pay12 (F := Ideal) (ar2 f) (ar2 w) (ar2 g) : S256x1024.Idx → EReal) = ar2 fun i j => slope f w g i j * g 0 j := by
  unfold k0_pay12
  dsimp only
  rw [scaled, row]
  simp only [spread_row, mul_ar2]
theorem along : (k0_pay13 (F := Ideal) (ar2 f) (ar2 w) (ar2 g) : S256x1024.Idx → EReal) = ar2 fun i j => slope f w g i j * g 0 j * (f i j * inv (f i)) := by
  unfold k0_pay13
  dsimp only
  rw [gained, normed, mul_ar2]

/-- What the body makes of its blocks: the rows' gradient, -/
theorem tile : (k0_pay1 (F := Ideal) (k0_pay10 (F := Ideal) (ar2 f)) (k0_pay11 (F := Ideal) (ar2 f)) (k0_pay12 (F := Ideal) (ar2 f) (ar2 w) (ar2 g))
    (k0_pay13 (F := Ideal) (ar2 f) (ar2 w) (ar2 g)) : S256x1024.Idx → EReal) = ar2 (dx f w g) := by
  rw [factor, normed, gained, along]
  unfold k0_pay1
  dsimp only
  simp only [mul_ar2, rowsum, len_broadcast, div_ar2, sub_ar2, spread_col]
  rfl
/-- and the block's share of the loss. -/
theorem share : (k0_pay8 (F := Ideal) (ar2 f) (ar2 w) (ar2 g) : S1x128.Idx → EReal) = ar2 fun _ _ => ∑ k ∈ Finset.range 256, loss f w g k := by
  unfold k0_pay8
  dsimp only
  rw [error, frac2_broadcast]
  simp only [mul_ar2, rowsum, colsum, zero_broadcast, spread_col, sum_ar2, zero_add]
  rfl

/-- A grid point's share of the loss, -/
def lpart : S1x128.Idx → EReal := ar2 fun _ _ => ∑ k ∈ Finset.range 256, loss f w g (256 * t.val + k)
/-- and of the gains' gradient. -/
def part : S1x1024.Idx → EReal := ar2 fun _ j => ∑ k ∈ Finset.range 256, slope f w g (256 * t.val + k) j * (f (256 * t.val + k) j * inv (f (256 * t.val + k)))

/-- The accumulators start at zero. -/
theorem lstart : (k0_pay2 (F := Ideal) : S1x128.Idx → EReal) = ar2 fun _ _ => 0 := by
  unfold k0_pay2
  dsimp only
  exact zero_broadcast
theorem start : (k0_pay3 (F := Ideal) : S1x1024.Idx → EReal) = ar2 fun _ _ => 0 := by
  unfold k0_pay3
  dsimp only
  exact zero_broadcast
/-- One point adds its shares. -/
theorem lstep (z : S1x128.Idx → EReal) :
    (k0_pay4 (F := Ideal) (k0_pay8 (F := Ideal) (ar2 (rows f t.val 0)) (ar2 (rows w t.val 0)) (ar2 g)) z : S1x128.Idx → EReal) = fun i => z i + lpart f w g t i := by
  obtain ⟨h, rfl⟩ := exists_ar2 z
  unfold k0_pay4
  dsimp only
  rw [shapeCast_self, share, sum_ar2]
  unfold lpart loss err rows
  simp only [Nat.zero_add]
  rfl
theorem step (z : S1x1024.Idx → EReal) :
    (k0_pay5 (F := Ideal) (k0_pay9 (F := Ideal) (ar2 (rows f t.val 0)) (ar2 (rows w t.val 0)) (ar2 g)) (k0_pay11 (F := Ideal) (ar2 (rows f t.val 0))) z : S1x1024.Idx → EReal)
      = fun i => z i + part f w g t i := by
  obtain ⟨h, rfl⟩ := exists_ar2 z
  unfold k0_pay5
  dsimp only
  rw [shapeCast_self, scaled, normed]
  simp only [mul_ar2, colsum, sum_ar2]
  unfold part slope err rows
  simp only [Nat.zero_add]
  rfl

section Arrays
variable (a0 : V m c main_arg0 = (ar2 f : S2048x1024.Idx → EReal)) (a1 : V m c main_arg2 = (ar2 w : S2048x1024.Idx → EReal))
  (a2 : V m c main_v0 = (ar2 g : S1x1024.Idx → EReal))
include a0 a1 a2

/-- The accumulator of the loss after the first point, -/
theorem acc4_first (h : t.val % 8 = 0) (i : S1x128.Idx) : (outsAt0 m c t.val t.isLt).2.1 i = 0 + lpart f w g t i := by
  rw [outsAt0_A m c t h]
  dsimp only
  frame_out
  rw [show iblk m c 0 t = _ from blk0 c f t _ a0, show iblk m c 1 t = _ from blk1 c w t _ a1, show iblk m c 2 t = _ from blk2 c g t _ a2, lstart, lstep]
  rfl
/-- and after a later point. -/
theorem acc4_later (h : ¬t.val % 8 = 0) (i : S1x128.Idx) : (outsAt0 m c t.val t.isLt).2.1 i
    = (outsAt0 m c (t.val - 1) (Nat.lt_of_le_of_lt (Nat.sub_le _ _) t.isLt)).2.1 i + lpart f w g t i := by
  rw [outsAt0_B m c t h]
  dsimp only
  frame_out
  rw [show iblk m c 0 t = _ from blk0 c f t _ a0, show iblk m c 1 t = _ from blk1 c w t _ a1, show iblk m c 2 t = _ from blk2 c g t _ a2, lstep]

/-- The loss: the sum over all the rows. -/
theorem array4 : (dats m 0 c).arrAt 4 cfg0.N = (ar2 fun _ _ => ∑ k ∈ Finset.range 2048, loss f w g k : S1x128.Idx → EReal) := by
  refine (dats m 0 c).arrAt_eq_of_covers 4 _ (by decide +kernel) fun t hf y => ?_
  have ht : t.val % 8 = 7 := (flush0_4 t).mp hf
  have hN : t.val < 8 := t.isLt
  rw [after0_4]
  rw [Pipeline.eq_sum_fin_of_reset_step_apply_of_flush (fun n h => (outsAt0 m c n h).2.1) 8 (fun _ => (0 : EReal)) (fun t => lpart f w g t)
    (fun t h i => acc4_first m c f w g t a0 a1 a2 h i) (fun t h i => acc4_later m c f w g t a0 a1 a2 h i) t ht, zero_add]
  unfold lpart ar2
  blk_simp [e4]
  rw [show (2048 : ℕ) = 8 * 256 from rfl, ← sum_runs, Finset.sum_range]
  refine sum_fin_eq fun s => sum_eq fun k hk => ?_
  have hs : 256 * (8 * (t.val / 8) + s.val) + k = 256 * s.val + k := by omega
  simp only [hs]

/-- The accumulator of the gains' gradient after the first point, -/
theorem acc5_first (h : t.val % 8 = 0) (i : S1x1024.Idx) : (outsAt0 m c t.val t.isLt).2.2 i = 0 + part f w g t i := by
  rw [outsAt0_A m c t h]
  dsimp only
  frame_out
  rw [show iblk m c 0 t = _ from blk0 c f t _ a0, show iblk m c 1 t = _ from blk1 c w t _ a1, show iblk m c 2 t = _ from blk2 c g t _ a2, start, step]
  rfl
/-- and after a later point. -/
theorem acc5_later (h : ¬t.val % 8 = 0) (i : S1x1024.Idx) : (outsAt0 m c t.val t.isLt).2.2 i
    = (outsAt0 m c (t.val - 1) (Nat.lt_of_le_of_lt (Nat.sub_le _ _) t.isLt)).2.2 i + part f w g t i := by
  rw [outsAt0_B m c t h]
  dsimp only
  frame_out
  rw [show iblk m c 0 t = _ from blk0 c f t _ a0, show iblk m c 1 t = _ from blk1 c w t _ a1, show iblk m c 2 t = _ from blk2 c g t _ a2, step]

/-- The gains' gradient: the sum over all the rows. -/
theorem array5 : (dats m 0 c).arrAt 5 cfg0.N = (ar2 fun _ j => ∑ k ∈ Finset.range 2048, slope f w g k j * (f k j * inv (f k)) : S1x1024.Idx → EReal) := by
  refine (dats m 0 c).arrAt_eq_of_covers 5 _ (by decide +kernel) fun t hf y => ?_
  have ht : t.val % 8 = 7 := (flush0_5 t).mp hf
  have hN : t.val < 8 := t.isLt
  rw [after0_5]
  rw [Pipeline.eq_sum_fin_of_reset_step_apply_of_flush (fun n h => (outsAt0 m c n h).2.2) 8 (fun _ => (0 : EReal)) (fun t => part f w g t)
    (fun t h i => acc5_first m c f w g t a0 a1 a2 h i) (fun t h i => acc5_later m c f w g t a0 a1 a2 h i) t ht, zero_add]
  unfold part ar2
  blk_simp [e5]
  rw [show (2048 : ℕ) = 8 * 256 from rfl, ← sum_runs, Finset.sum_range]
  refine sum_fin_eq fun s => sum_eq fun k hk => ?_
  have hs : 256 * (8 * (t.val / 8) + s.val) + k = 256 * s.val + k := by omega
  simp only [hs, Nat.zero_add]

/-- The block written at a point. -/
theorem written3 : ((outsAt0 m c t.val t.isLt).1 : S256x1024.Idx → EReal) = ar2 (dx (rows f t.val 0) (rows w t.val 0) g) := by
  by_cases h : t.val % 8 = 0
  · rw [outsAt0_A m c t h]
    dsimp only
    frame_out
    rw [show iblk m c 0 t = _ from blk0 c f t _ a0, show iblk m c 1 t = _ from blk1 c w t _ a1, show iblk m c 2 t = _ from blk2 c g t _ a2, tile]
  · rw [outsAt0_B m c t h]
    dsimp only
    frame_out
    rw [show iblk m c 0 t = _ from blk0 c f t _ a0, show iblk m c 1 t = _ from blk1 c w t _ a1, show iblk m c 2 t = _ from blk2 c g t _ a2, tile]
/-- The whole gradient. -/
theorem array3 : (dats m 0 c).arrAt 3 cfg0.N = (ar2 (dx f w g) : S2048x1024.Idx → EReal) := by
  refine (dats m 0 c).arrAt_eq_of_covers 3 _ (by decide +kernel) fun t hf y => ?_
  rw [after0_3, written3 m c f w g t a0 a1 a2]
  unfold ar2 dx slope err rows
  blk_simp [e3]
  simp only [Nat.zero_add]
  rw [Nat.mul_comm 256]
end Arrays

section Reference
open Cert.ReferenceLossIdeal.Read

/-- The reference's mean square and small number, by row, -/
theorem ref_arg (i : Cert.ReferenceLossIdeal.S2048x1.Idx) : val_main_v6 (F := Ideal) (ar2 f) i = arg (f (i 0).val) := by
  rw [val_main_v6_apply, val_main_v4_apply, val_main_v2_apply, val_main_v1_apply]
  show Ideal.div (Ideal.ofBits .f32 0x00000000#32 + ∑ k : Fin 1024, f (i 0).val k.val * f (i 0).val k.val) len + eps = _
  rw [Ideal.ofBits_zero_f32, zero_add, arg, Finset.sum_range]
/-- its factor, -/
theorem ref_inv (i : Cert.ReferenceLossIdeal.S2048x1.Idx) : val_main_v7 (F := Ideal) (ar2 f) i = inv (f (i 0).val) := by
  rw [val_main_v7_apply, ref_arg]
  rfl
/-- the factor's derivative, -/
theorem ref_slope (i : Cert.ReferenceLossIdeal.S2048x1.Idx) :
    val_main_v10 (F := Ideal) (ar2 f) i = half * Ideal.div (inv (f (i 0).val)) (arg (f (i 0).val)) := by
  rw [val_main_v10_apply, val_main_v8_apply, ref_inv, ref_arg]
  rfl

variable (y : S1024.Idx → EReal) (hy : broadcastInDim S1x1024 ![1] bcast_S1024_S1x1024_1 y = (ar2 g : S1x1024.Idx → EReal))
include hy

/-- its error, -/
theorem ref_error : val_main_v16 (F := Ideal) (ar2 f) y (ar2 w) = (ar2 (err f w g) : S2048x1024.Idx → EReal) := by
  funext i
  have hg : val_main_v13 (F := Ideal) y = (ar2 g : S1x1024.Idx → EReal) := hy
  rw [val_main_v16_apply, val_main_v15_apply, val_main_v12_apply, val_main_v11_apply, ref_inv, val_main_v14_apply, hg]
  rfl
/-- the error's gradient, -/
theorem ref_error_slope : val_main_v30 (F := Ideal) (ar2 f) y (ar2 w) = (ar2 (slope f w g) : S2048x1024.Idx → EReal) := by
  funext i
  rw [val_main_v30_apply, val_main_v29_apply, val_main_v28_apply, val_main_v26_apply, val_main_v25_apply, val_main_v27_apply, val_main_v19_apply, val_main_v18_apply,
    ref_error f w g y hy]
  exact factors _

/-- a row's mean squared error, -/
theorem ref_row (j : Cert.ReferenceLossIdeal.S2048.Idx) : val_main_v22 (F := Ideal) (ar2 f) y (ar2 w) j
    = (∑ k ∈ Finset.range 1024, err f w g (j 0).val k * err f w g (j 0).val k) * ((1 / 1024 : ℝ) : EReal) := by
  rw [val_main_v22_apply, val_main_v20_apply]
  show Ideal.div (Ideal.ofBits .f32 0x00000000#32 + ∑ k : Fin 1024, _) len = _
  rw [Ideal.ofBits_zero_f32, zero_add, Finset.sum_range, div_len]
  refine congrArg (· * _) (sum_fin_eq fun k => ?_)
  rw [val_main_v17_apply, ref_error f w g y hy]
  rfl
omit hy in
/-- (a sum over the rows of a vector of row values,) -/
theorem sum_rows (h : ℕ → EReal) : ∑ j : Cert.ReferenceLossIdeal.S2048.Idx, h (j 0).val = ∑ k ∈ Finset.range 2048, h k := by
  rw [Finset.sum_range]
  refine Fintype.sum_bijective (fun j => (j 0 : Fin 2048)) ⟨fun a b e => ?_, fun k => ⟨fun a => match a with | ⟨0, _⟩ => k, rfl⟩⟩ _ _ fun _ => rfl
  funext a
  match a with
  | ⟨0, _⟩ => exact e
omit hy in
/-- (half the sum of the means is the sum of the rows' shares,) -/
theorem total : ((1 / 2 : ℝ) : EReal) * ∑ k ∈ Finset.range 2048, (∑ j ∈ Finset.range 1024, err f w g k j * err f w g k j) * ((1 / 1024 : ℝ) : EReal)
    = ∑ k ∈ Finset.range 2048, loss f w g k := by
  unfold loss
  rw [frac2_eq, sum_mul_real _ _ _ (by norm_num), sum_mul_real _ _ _ (by norm_num), mul_left_comm, ← EReal.coe_mul]
  congr 2
  norm_num
/-- and its loss. -/
theorem reference4 : val_main_v51 (F := Ideal) (ar2 f) y (ar2 w) = (ar2 fun _ _ => ∑ k ∈ Finset.range 2048, loss f w g k : S1x128.Idx → EReal) := by
  funext i
  rw [val_main_v51_apply, val_main_v24_apply, val_main_v23_apply, Finset.sum_congr rfl fun j _ => ref_row f w g y hy j,
    sum_rows fun k => (∑ j ∈ Finset.range 1024, err f w g k j * err f w g k j) * ((1 / 1024 : ℝ) : EReal)]
  show Ideal.ofBits .f32 0x3F000000#32 * (Ideal.ofBits .f32 0x00000000#32 + _) = ∑ k ∈ Finset.range 2048, loss f w g k
  rw [Ideal.ofBits_zero_f32, zero_add, pos_eq, total f w g]

/-- Its gradient of the gains. -/
theorem reference5 : val_main_v52 (F := Ideal) (ar2 f) y (ar2 w)
    = (ar2 fun _ j => ∑ k ∈ Finset.range 2048, slope f w g k j * (f k j * inv (f k)) : S1x1024.Idx → EReal) := by
  funext i
  rw [val_main_v52_apply, val_main_v36_apply]
  show Ideal.ofBits .f32 0x00000000#32 + ∑ k : Fin 1, _ = _
  rw [Ideal.ofBits_zero_f32, zero_add, Fin.sum_univ_one, val_main_v33_apply, val_main_v32_apply]
  show Ideal.ofBits .f32 0x00000000#32 + ∑ k : Fin 2048, _ = ∑ k ∈ Finset.range 2048, slope f w g k (i 1).val * (f k (i 1).val * inv (f k))
  rw [Ideal.ofBits_zero_f32, zero_add, Finset.sum_range]
  refine sum_fin_eq fun k => ?_
  rw [val_main_v31_apply, val_main_v12_apply, val_main_v11_apply, ref_inv, ref_error_slope f w g y hy]
  show f k.val (0 * 1024 + (i 1).val) * inv (f k.val) * slope f w g k.val (0 * 1024 + (i 1).val) = _
  rw [Nat.zero_mul, Nat.zero_add, mul_comm]

/-- The gradient times the gains, -/
theorem ref_gained : val_main_v35 (F := Ideal) (ar2 f) y (ar2 w) = (ar2 fun i j => slope f w g i j * g 0 j : S2048x1024.Idx → EReal) := by
  funext i
  have hg : val_main_v13 (F := Ideal) y = (ar2 g : S1x1024.Idx → EReal) := hy
  rw [val_main_v35_apply, val_main_v34_apply, ref_error_slope f w g y hy, hg]
  rfl
/-- the part of the row's gradient through the factor, -/
theorem ref_through (i : Cert.ReferenceLossIdeal.S2048x1024.Idx) : val_main_v46 (F := Ideal) (ar2 f) y (ar2 w) i
    = Ideal.div ((∑ k ∈ Finset.range 1024, f (i 0).val k * (slope f w g (i 0).val k * g 0 k)) * (half * Ideal.div (inv (f (i 0).val)) (arg (f (i 0).val)))) len := by
  rw [val_main_v46_apply, val_main_v45_apply]
  show Ideal.ofBits .f32 0x00000000#32 + ∑ k : Fin 1, _ = _
  rw [Ideal.ofBits_zero_f32, zero_add, Fin.sum_univ_one, val_main_v44_apply, val_main_v42_apply, ref_slope, val_main_v39_apply, val_main_v38_apply]
  show Ideal.div ((Ideal.ofBits .f32 0x00000000#32 + ∑ k : Fin 1024, _) * _) len = _
  rw [Ideal.ofBits_zero_f32, zero_add, Finset.sum_range]
  refine congrArg (fun u => Ideal.div (u * _) len) (sum_fin_eq fun k => ?_)
  rw [val_main_v37_apply, ref_gained f w g y hy]
  show f ((i 0).val * 1 + 0) k.val * (slope f w g ((i 0).val * 1 + 0) k.val * g 0 k.val) = _
  rw [Nat.mul_one, Nat.add_zero]

/-- and the row's whole gradient, in the kernel's form. -/
theorem reference3 : val_main_v50 (F := Ideal) (ar2 f) y (ar2 w) = (ar2 (dx f w g) : S2048x1024.Idx → EReal) := by
  funext i
  show val_main_v35 (F := Ideal) (ar2 f) y (ar2 w) i * val_main_v40 (F := Ideal) (ar2 f) i
    + f (i 0).val (i 1).val * val_main_v46 (F := Ideal) (ar2 f) y (ar2 w) i + val_main_v46 (F := Ideal) (ar2 f) y (ar2 w) i * f (i 0).val (i 1).val = _
  rw [ref_gained f w g y hy, ref_through f w g y hy, val_main_v40_apply, ref_inv]
  exact (grad (f (i 0).val) (fun k => slope f w g (i 0).val k * g 0 k) (f (i 0).val (i 1).val) (slope f w g (i 0).val (i 1).val * g 0 (i 1).val)).symm
end Reference

/-- Both programs, from the same arguments, end with the same results. -/
theorem algebraic : Cert.algebraic_KernelLossIdeal_ReferenceLossIdeal := by
  intro m g m' g' _ he
  refine ⟨fun c => (dats m 0 c).arrAt 3 cfg0.N, fun c => (dats m 0 c).arrAt 4 cfg0.N, fun c => (dats m 0 c).arrAt 5 cfg0.N, Cert.KernelLossIdeal.Value.run_blocks m g, ?_⟩
  refine (θ_run Cert.ReferenceLossIdeal.defs _ _).mono (fun r h c => ?_) (Cert.ReferenceLossIdeal.Value.run (F := Ideal) m' g')
  obtain ⟨r0, r1, r2, k⟩ := h c
  obtain ⟨e0, e1, e2⟩ := he c
  obtain ⟨x, hx⟩ := exists_ar2 (a := 2048) (b := 1024) (m ((c : Thread nD τ).loc main_arg0))
  obtain ⟨y, hy⟩ := exists_ar2 (a := 1) (b := 1024) (broadcastInDim S1x1024 ![1] bcast_S1024_S1x1024_1 (m ((c : Thread nD τ).loc main_arg1)))
  obtain ⟨z, hz⟩ := exists_ar2 (a := 2048) (b := 1024) (m ((c : Thread nD τ).loc main_arg2))
  have a0 := (V_main_arg0 m c).trans hx
  have a1 := (V_main_arg2 m c).trans hz
  have a2 := (gains m c).trans hy
  refine ⟨?_, ?_, ?_, k⟩
  · rw [r0, Cert.ReferenceLossIdeal.Read.val_main_v50_eq, e0, e1, e2]
    refine Eq.trans ?_ (array3 m c x z y a0 a1 a2).symm
    rw [hx, hz]
    exact reference3 x z y _ hy
  · rw [r1, Cert.ReferenceLossIdeal.Read.val_main_v51_eq, e0, e1, e2]
    refine Eq.trans ?_ (array4 m c x z y a0 a1 a2).symm
    rw [hx, hz]
    exact reference4 x z y _ hy
  · rw [r2, Cert.ReferenceLossIdeal.Read.val_main_v52_eq, e0, e1, e2]
    refine Eq.trans ?_ (array5 m c x z y a0 a1 a2).symm
    rw [hx, hz]
    exact reference5 x z y _ hy

end KLoss

end
-- ==== Proof.lean ====
/- The claims of the attention's calls and of the products' calls, put together. -/
module

public import proofs.«01_k».proof.Defs
public import proofs.«01_k».proof.Proof.Gen.KernelF
public import proofs.«01_k».proof.Proof.Gen.KernelF.Skeleton
public import proofs.«01_k».proof.Proof.Gen.KernelF.Loops
public import proofs.«01_k».proof.Proof.Gen.KernelF.Launch
public import proofs.«01_k».proof.Proof.Gen.KernelF.Points
public import proofs.«01_k».proof.Proof.Gen.KernelF.Frame
public import proofs.«01_k».proof.Proof.Gen.KernelFIdeal
public import proofs.«01_k».proof.Proof.Gen.KernelFIdeal.Skeleton
public import proofs.«01_k».proof.Proof.Gen.KernelFIdeal.Loops
public import proofs.«01_k».proof.Proof.Gen.KernelFIdeal.Launch
public import proofs.«01_k».proof.Proof.Gen.KernelFIdeal.Points
public import proofs.«01_k».proof.Proof.Gen.KernelFIdeal.Frame
public import proofs.«01_k».proof.Proof.Gen.ReferenceFIdeal
public import proofs.«01_k».proof.Proof.Gen.KernelQ
public import proofs.«01_k».proof.Proof.Gen.KernelQ.Skeleton
public import proofs.«01_k».proof.Proof.Gen.KernelQ.Loops
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Loops
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.ReferenceQIdeal
public import proofs.«01_k».proof.Proof.Gen.KernelKV
public import proofs.«01_k».proof.Proof.Gen.KernelKV.Skeleton
public import proofs.«01_k».proof.Proof.Gen.KernelKV.Loops
public import proofs.«01_k».proof.Proof.Gen.KernelKV.Launch
public import proofs.«01_k».proof.Proof.Gen.KernelKV.Points
public import proofs.«01_k».proof.Proof.Gen.KernelKV.Frame
public import proofs.«01_k».proof.Proof.Gen.KernelKVIdeal
public import proofs.«01_k».proof.Proof.Gen.KernelKVIdeal.Skeleton
public import proofs.«01_k».proof.Proof.Gen.KernelKVIdeal.Loops
public import proofs.«01_k».proof.Proof.Gen.KernelKVIdeal.Launch
public import proofs.«01_k».proof.Proof.Gen.KernelKVIdeal.Points
public import proofs.«01_k».proof.Proof.Gen.KernelKVIdeal.Frame
public import proofs.«01_k».proof.Proof.Gen.ReferenceKVIdeal
public import proofs.«01_k».proof.Proof.Gen.Pre_finite_fwd
public import proofs.«01_k».proof.Proof.Gen.Pre_finite
public import proofs.«01_k».proof.Proof.Gen.KernelFIdeal.Value
public import proofs.«01_k».proof.Proof.Gen.ReferenceFIdeal.Run
public import proofs.«01_k».proof.Proof.Gen.ReferenceFIdeal.Read
public import proofs.«01_k».proof.Proof.Gen.KernelQIdeal.Value
public import proofs.«01_k».proof.Proof.Gen.ReferenceQIdeal.Run
public import proofs.«01_k».proof.Proof.Gen.ReferenceQIdeal.Read
public import proofs.«01_k».proof.Proof.Gen.KernelKVIdeal.Value
public import proofs.«01_k».proof.Proof.Gen.ReferenceKVIdeal.Run
public import proofs.«01_k».proof.Proof.Gen.ReferenceKVIdeal.Read
public import proofs.«01_k».proof.Proof.AlgF
public import proofs.«01_k».proof.Proof.AlgQ
public import proofs.«01_k».proof.Proof.AlgKV
public import proofs.«01_k».proof.Proof.Gen.KernelWin
public import proofs.«01_k».proof.Proof.Gen.KernelWin.Frame
public import proofs.«01_k».proof.Proof.Gen.KernelWinIdeal
public import proofs.«01_k».proof.Proof.Gen.KernelWinIdeal.Frame
public import proofs.«01_k».proof.Proof.Gen.KernelWinIdeal.Value
public import proofs.«01_k».proof.Proof.Gen.ReferenceWinIdeal
public import proofs.«01_k».proof.Proof.Gen.ReferenceWinIdeal.Run
public import proofs.«01_k».proof.Proof.Gen.ReferenceWinIdeal.Read
public import proofs.«01_k».proof.Proof.Gen.KernelWout
public import proofs.«01_k».proof.Proof.Gen.KernelWout.Frame
public import proofs.«01_k».proof.Proof.Gen.KernelWoutIdeal
public import proofs.«01_k».proof.Proof.Gen.KernelWoutIdeal.Frame
public import proofs.«01_k».proof.Proof.Gen.KernelWoutIdeal.Value
public import proofs.«01_k».proof.Proof.Gen.ReferenceWoutIdeal
public import proofs.«01_k».proof.Proof.Gen.ReferenceWoutIdeal.Run
public import proofs.«01_k».proof.Proof.Gen.ReferenceWoutIdeal.Read
public import proofs.«01_k».proof.Proof.Gen.KernelDout
public import proofs.«01_k».proof.Proof.Gen.KernelDout.Frame
public import proofs.«01_k».proof.Proof.Gen.KernelDoutIdeal
public import proofs.«01_k».proof.Proof.Gen.KernelDoutIdeal.Frame
public import proofs.«01_k».proof.Proof.Gen.KernelDoutIdeal.Value
public import proofs.«01_k».proof.Proof.Gen.ReferenceDoutIdeal
public import proofs.«01_k».proof.Proof.Gen.ReferenceDoutIdeal.Run
public import proofs.«01_k».proof.Proof.Gen.ReferenceDoutIdeal.Read
public import proofs.«01_k».proof.Proof.Gen.KernelDin
public import proofs.«01_k».proof.Proof.Gen.KernelDin.Frame
public import proofs.«01_k».proof.Proof.Gen.KernelDinIdeal
public import proofs.«01_k».proof.Proof.Gen.KernelDinIdeal.Frame
public import proofs.«01_k».proof.Proof.Gen.KernelDinIdeal.Value
public import proofs.«01_k».proof.Proof.Gen.ReferenceDinIdeal
public import proofs.«01_k».proof.Proof.Gen.ReferenceDinIdeal.Run
public import proofs.«01_k».proof.Proof.Gen.ReferenceDinIdeal.Read
public import proofs.«01_k».proof.Proof.Gen.KernelWmain
public import proofs.«01_k».proof.Proof.Gen.KernelWmain.Frame
public import proofs.«01_k».proof.Proof.Gen.KernelWmainIdeal
public import proofs.«01_k».proof.Proof.Gen.KernelWmainIdeal.Frame
public import proofs.«01_k».proof.Proof.Gen.KernelWmainIdeal.Value
public import proofs.«01_k».proof.Proof.Gen.ReferenceWmainIdeal
public import proofs.«01_k».proof.Proof.Gen.ReferenceWmainIdeal.Run
public import proofs.«01_k».proof.Proof.Gen.ReferenceWmainIdeal.Read
public import proofs.«01_k».proof.Proof.Gen.KernelWf
public import proofs.«01_k».proof.Proof.Gen.KernelWf.Frame
public import proofs.«01_k».proof.Proof.Gen.KernelWfIdeal
public import proofs.«01_k».proof.Proof.Gen.KernelWfIdeal.Frame
public import proofs.«01_k».proof.Proof.Gen.KernelWfIdeal.Value
public import proofs.«01_k».proof.Proof.Gen.ReferenceWfIdeal
public import proofs.«01_k».proof.Proof.Gen.ReferenceWfIdeal.Run
public import proofs.«01_k».proof.Proof.Gen.ReferenceWfIdeal.Read
public import proofs.«01_k».proof.Proof.Gen.KernelWsq
public import proofs.«01_k».proof.Proof.Gen.KernelWsq.Frame
public import proofs.«01_k».proof.Proof.Gen.KernelWsqIdeal
public import proofs.«01_k».proof.Proof.Gen.KernelWsqIdeal.Frame
public import proofs.«01_k».proof.Proof.Gen.KernelWsqIdeal.Value
public import proofs.«01_k».proof.Proof.Gen.ReferenceWsqIdeal
public import proofs.«01_k».proof.Proof.Gen.ReferenceWsqIdeal.Run
public import proofs.«01_k».proof.Proof.Gen.ReferenceWsqIdeal.Read
public import proofs.«01_k».proof.Proof.Gen.KernelWatt
public import proofs.«01_k».proof.Proof.Gen.KernelWatt.Frame
public import proofs.«01_k».proof.Proof.Gen.KernelWattIdeal
public import proofs.«01_k».proof.Proof.Gen.KernelWattIdeal.Frame
public import proofs.«01_k».proof.Proof.Gen.KernelWattIdeal.Value
public import proofs.«01_k».proof.Proof.Gen.ReferenceWattIdeal
public import proofs.«01_k».proof.Proof.Gen.ReferenceWattIdeal.Run
public import proofs.«01_k».proof.Proof.Gen.ReferenceWattIdeal.Read
public import proofs.«01_k».proof.Proof.Gen.KernelWple
public import proofs.«01_k».proof.Proof.Gen.KernelWple.Frame
public import proofs.«01_k».proof.Proof.Gen.KernelWpleIdeal
public import proofs.«01_k».proof.Proof.Gen.KernelWpleIdeal.Frame
public import proofs.«01_k».proof.Proof.Gen.KernelWpleIdeal.Value
public import proofs.«01_k».proof.Proof.Gen.ReferenceWpleIdeal
public import proofs.«01_k».proof.Proof.Gen.ReferenceWpleIdeal.Run
public import proofs.«01_k».proof.Proof.Gen.ReferenceWpleIdeal.Read
public import proofs.«01_k».proof.Proof.Gen.KernelDmain
public import proofs.«01_k».proof.Proof.Gen.KernelDmain.Frame
public import proofs.«01_k».proof.Proof.Gen.KernelDmainIdeal
public import proofs.«01_k».proof.Proof.Gen.KernelDmainIdeal.Frame
public import proofs.«01_k».proof.Proof.Gen.KernelDmainIdeal.Value
public import proofs.«01_k».proof.Proof.Gen.ReferenceDmainIdeal
public import proofs.«01_k».proof.Proof.Gen.ReferenceDmainIdeal.Run
public import proofs.«01_k».proof.Proof.Gen.ReferenceDmainIdeal.Read
public import proofs.«01_k».proof.Proof.Gen.KernelDf
public import proofs.«01_k».proof.Proof.Gen.KernelDf.Frame
public import proofs.«01_k».proof.Proof.Gen.KernelDfIdeal
public import proofs.«01_k».proof.Proof.Gen.KernelDfIdeal.Frame
public import proofs.«01_k».proof.Proof.Gen.KernelDfIdeal.Value
public import proofs.«01_k».proof.Proof.Gen.ReferenceDfIdeal
public import proofs.«01_k».proof.Proof.Gen.ReferenceDfIdeal.Run
public import proofs.«01_k».proof.Proof.Gen.ReferenceDfIdeal.Read
public import proofs.«01_k».proof.Proof.Gen.KernelDsq
public import proofs.«01_k».proof.Proof.Gen.KernelDsq.Frame
public import proofs.«01_k».proof.Proof.Gen.KernelDsqIdeal
public import proofs.«01_k».proof.Proof.Gen.KernelDsqIdeal.Frame
public import proofs.«01_k».proof.Proof.Gen.KernelDsqIdeal.Value
public import proofs.«01_k».proof.Proof.Gen.ReferenceDsqIdeal
public import proofs.«01_k».proof.Proof.Gen.ReferenceDsqIdeal.Run
public import proofs.«01_k».proof.Proof.Gen.ReferenceDsqIdeal.Read
public import proofs.«01_k».proof.Proof.Gen.KernelDatt
public import proofs.«01_k».proof.Proof.Gen.KernelDatt.Frame
public import proofs.«01_k».proof.Proof.Gen.KernelDattIdeal
public import proofs.«01_k».proof.Proof.Gen.KernelDattIdeal.Frame
public import proofs.«01_k».proof.Proof.Gen.KernelDattIdeal.Value
public import proofs.«01_k».proof.Proof.Gen.ReferenceDattIdeal
public import proofs.«01_k».proof.Proof.Gen.ReferenceDattIdeal.Run
public import proofs.«01_k».proof.Proof.Gen.ReferenceDattIdeal.Read
public import proofs.«01_k».proof.Proof.Gen.KernelZin
public import proofs.«01_k».proof.Proof.Gen.KernelZin.Frame
public import proofs.«01_k».proof.Proof.Gen.KernelZinIdeal
public import proofs.«01_k».proof.Proof.Gen.KernelZinIdeal.Frame
public import proofs.«01_k».proof.Proof.Gen.KernelZinIdeal.Value
public import proofs.«01_k».proof.Proof.Gen.ReferenceZinIdeal
public import proofs.«01_k».proof.Proof.Gen.ReferenceZinIdeal.Run
public import proofs.«01_k».proof.Proof.Gen.ReferenceZinIdeal.Read
public import proofs.«01_k».proof.Proof.Gen.KernelZout
public import proofs.«01_k».proof.Proof.Gen.KernelZout.Frame
public import proofs.«01_k».proof.Proof.Gen.KernelZoutIdeal
public import proofs.«01_k».proof.Proof.Gen.KernelZoutIdeal.Frame
public import proofs.«01_k».proof.Proof.Gen.KernelZoutIdeal.Value
public import proofs.«01_k».proof.Proof.Gen.ReferenceZoutIdeal
public import proofs.«01_k».proof.Proof.Gen.ReferenceZoutIdeal.Run
public import proofs.«01_k».proof.Proof.Gen.ReferenceZoutIdeal.Read
public import proofs.«01_k».proof.Proof.Gen.KernelZmain
public import proofs.«01_k».proof.Proof.Gen.KernelZmain.Frame
public import proofs.«01_k».proof.Proof.Gen.KernelZmainIdeal
public import proofs.«01_k».proof.Proof.Gen.KernelZmainIdeal.Frame
public import proofs.«01_k».proof.Proof.Gen.KernelZmainIdeal.Value
public import proofs.«01_k».proof.Proof.Gen.ReferenceZmainIdeal
public import proofs.«01_k».proof.Proof.Gen.ReferenceZmainIdeal.Run
public import proofs.«01_k».proof.Proof.Gen.ReferenceZmainIdeal.Read
public import proofs.«01_k».proof.Proof.Gen.KernelZf
public import proofs.«01_k».proof.Proof.Gen.KernelZf.Frame
public import proofs.«01_k».proof.Proof.Gen.KernelZfIdeal
public import proofs.«01_k».proof.Proof.Gen.KernelZfIdeal.Frame
public import proofs.«01_k».proof.Proof.Gen.KernelZfIdeal.Value
public import proofs.«01_k».proof.Proof.Gen.ReferenceZfIdeal
public import proofs.«01_k».proof.Proof.Gen.ReferenceZfIdeal.Run
public import proofs.«01_k».proof.Proof.Gen.ReferenceZfIdeal.Read
public import proofs.«01_k».proof.Proof.Gen.KernelZatt
public import proofs.«01_k».proof.Proof.Gen.KernelZatt.Frame
public import proofs.«01_k».proof.Proof.Gen.KernelZattIdeal
public import proofs.«01_k».proof.Proof.Gen.KernelZattIdeal.Frame
public import proofs.«01_k».proof.Proof.Gen.KernelZattIdeal.Value
public import proofs.«01_k».proof.Proof.Gen.ReferenceZattIdeal
public import proofs.«01_k».proof.Proof.Gen.ReferenceZattIdeal.Run
public import proofs.«01_k».proof.Proof.Gen.ReferenceZattIdeal.Read
public import proofs.«01_k».proof.Proof.Gen.KernelZmix
public import proofs.«01_k».proof.Proof.Gen.KernelZmix.Frame
public import proofs.«01_k».proof.Proof.Gen.KernelZmixIdeal
public import proofs.«01_k».proof.Proof.Gen.KernelZmixIdeal.Frame
public import proofs.«01_k».proof.Proof.Gen.KernelZmixIdeal.Value
public import proofs.«01_k».proof.Proof.Gen.ReferenceZmixIdeal
public import proofs.«01_k».proof.Proof.Gen.ReferenceZmixIdeal.Run
public import proofs.«01_k».proof.Proof.Gen.ReferenceZmixIdeal.Read
public import proofs.«01_k».proof.Proof.Gen.KernelZsq
public import proofs.«01_k».proof.Proof.Gen.KernelZsq.Frame
public import proofs.«01_k».proof.Proof.Gen.KernelZsqIdeal
public import proofs.«01_k».proof.Proof.Gen.KernelZsqIdeal.Frame
public import proofs.«01_k».proof.Proof.Gen.KernelZsqIdeal.Value
public import proofs.«01_k».proof.Proof.Gen.ReferenceZsqIdeal
public import proofs.«01_k».proof.Proof.Gen.ReferenceZsqIdeal.Run
public import proofs.«01_k».proof.Proof.Gen.ReferenceZsqIdeal.Read
public import proofs.«01_k».proof.Proof.Gen.KernelZple
public import proofs.«01_k».proof.Proof.Gen.KernelZple.Frame
public import proofs.«01_k».proof.Proof.Gen.KernelZpleIdeal
public import proofs.«01_k».proof.Proof.Gen.KernelZpleIdeal.Frame
public import proofs.«01_k».proof.Proof.Gen.KernelZpleIdeal.Value
public import proofs.«01_k».proof.Proof.Gen.ReferenceZpleIdeal
public import proofs.«01_k».proof.Proof.Gen.ReferenceZpleIdeal.Run
public import proofs.«01_k».proof.Proof.Gen.ReferenceZpleIdeal.Read
public import proofs.«01_k».proof.Proof.KWin
public import proofs.«01_k».proof.Proof.KWout
public import proofs.«01_k».proof.Proof.KDout
public import proofs.«01_k».proof.Proof.KDin
public import proofs.«01_k».proof.Proof.KWmain
public import proofs.«01_k».proof.Proof.KWf
public import proofs.«01_k».proof.Proof.KWsq
public import proofs.«01_k».proof.Proof.KWatt
public import proofs.«01_k».proof.Proof.KWple
public import proofs.«01_k».proof.Proof.KDmain
public import proofs.«01_k».proof.Proof.KDf
public import proofs.«01_k».proof.Proof.KDsq
public import proofs.«01_k».proof.Proof.KDatt
public import proofs.«01_k».proof.Proof.KZin
public import proofs.«01_k».proof.Proof.KZout
public import proofs.«01_k».proof.Proof.KZmain
public import proofs.«01_k».proof.Proof.KZf
public import proofs.«01_k».proof.Proof.KZatt
public import proofs.«01_k».proof.Proof.KZmix
public import proofs.«01_k».proof.Proof.KZsq
public import proofs.«01_k».proof.Proof.KZple
public import proofs.«01_k».proof.Proof.Gen.KernelAct
public import proofs.«01_k».proof.Proof.Gen.KernelAct.Frame
public import proofs.«01_k».proof.Proof.Gen.KernelActIdeal
public import proofs.«01_k».proof.Proof.Gen.KernelActIdeal.Frame
public import proofs.«01_k».proof.Proof.Gen.KernelActIdeal.Value
public import proofs.«01_k».proof.Proof.Gen.ReferenceActIdeal
public import proofs.«01_k».proof.Proof.Gen.ReferenceActIdeal.Run
public import proofs.«01_k».proof.Proof.Gen.ReferenceActIdeal.Read
public import proofs.«01_k».proof.Proof.Gen.KernelDact
public import proofs.«01_k».proof.Proof.Gen.KernelDact.Frame
public import proofs.«01_k».proof.Proof.Gen.KernelDactIdeal
public import proofs.«01_k».proof.Proof.Gen.KernelDactIdeal.Frame
public import proofs.«01_k».proof.Proof.Gen.KernelDactIdeal.Value
public import proofs.«01_k».proof.Proof.Gen.ReferenceDactIdeal
public import proofs.«01_k».proof.Proof.Gen.ReferenceDactIdeal.Run
public import proofs.«01_k».proof.Proof.Gen.ReferenceDactIdeal.Read
public import proofs.«01_k».proof.Proof.Gen.Pre_finite_act
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.ReferenceMergeIdeal.Read
public import proofs.«01_k».proof.Proof.Gen.KernelDmerge
public import proofs.«01_k».proof.Proof.Gen.KernelDmerge.Frame
public import proofs.«01_k».proof.Proof.Gen.KernelDmergeIdeal
public import proofs.«01_k».proof.Proof.Gen.KernelDmergeIdeal.Frame
public import proofs.«01_k».proof.Proof.Gen.KernelDmergeIdeal.Value
public import proofs.«01_k».proof.Proof.Gen.ReferenceDmergeIdeal
public import proofs.«01_k».proof.Proof.Gen.ReferenceDmergeIdeal.Run
public import proofs.«01_k».proof.Proof.Gen.ReferenceDmergeIdeal.Read
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelDmix
public import proofs.«01_k».proof.Proof.Gen.KernelDmix.Frame
public import proofs.«01_k».proof.Proof.Gen.KernelDmixIdeal
public import proofs.«01_k».proof.Proof.Gen.KernelDmixIdeal.Frame
public import proofs.«01_k».proof.Proof.Gen.KernelDmixIdeal.Value
public import proofs.«01_k».proof.Proof.Gen.ReferenceDmixIdeal
public import proofs.«01_k».proof.Proof.Gen.ReferenceDmixIdeal.Run
public import proofs.«01_k».proof.Proof.Gen.ReferenceDmixIdeal.Read
public import proofs.«01_k».proof.Proof.Gen.KernelRms
public import proofs.«01_k».proof.Proof.Gen.KernelRms.Frame
public import proofs.«01_k».proof.Proof.Gen.KernelRmsIdeal
public import proofs.«01_k».proof.Proof.Gen.KernelRmsIdeal.Frame
public import proofs.«01_k».proof.Proof.Gen.KernelRmsIdeal.Value
public import proofs.«01_k».proof.Proof.Gen.ReferenceRmsIdeal
public import proofs.«01_k».proof.Proof.Gen.ReferenceRmsIdeal.Run
public import proofs.«01_k».proof.Proof.Gen.ReferenceRmsIdeal.Read
public import proofs.«01_k».proof.Proof.Gen.KernelDrms
public import proofs.«01_k».proof.Proof.Gen.KernelDrms.Frame
public import proofs.«01_k».proof.Proof.Gen.KernelDrmsIdeal
public import proofs.«01_k».proof.Proof.Gen.KernelDrmsIdeal.Frame
public import proofs.«01_k».proof.Proof.Gen.KernelDrmsIdeal.Value
public import proofs.«01_k».proof.Proof.Gen.ReferenceDrmsIdeal
public import proofs.«01_k».proof.Proof.Gen.ReferenceDrmsIdeal.Run
public import proofs.«01_k».proof.Proof.Gen.ReferenceDrmsIdeal.Read
public import proofs.«01_k».proof.Proof.Gen.KernelDrmsm
public import proofs.«01_k».proof.Proof.Gen.KernelDrmsm.Frame
public import proofs.«01_k».proof.Proof.Gen.KernelDrmsmIdeal
public import proofs.«01_k».proof.Proof.Gen.KernelDrmsmIdeal.Frame
public import proofs.«01_k».proof.Proof.Gen.KernelDrmsmIdeal.Value
public import proofs.«01_k».proof.Proof.Gen.ReferenceDrmsmIdeal
public import proofs.«01_k».proof.Proof.Gen.ReferenceDrmsmIdeal.Run
public import proofs.«01_k».proof.Proof.Gen.ReferenceDrmsmIdeal.Read
public import proofs.«01_k».proof.Proof.Gen.KernelDrmsp
public import proofs.«01_k».proof.Proof.Gen.KernelDrmsp.Frame
public import proofs.«01_k».proof.Proof.Gen.KernelDrmspIdeal
public import proofs.«01_k».proof.Proof.Gen.KernelDrmspIdeal.Frame
public import proofs.«01_k».proof.Proof.Gen.KernelDrmspIdeal.Value
public import proofs.«01_k».proof.Proof.Gen.ReferenceDrmspIdeal
public import proofs.«01_k».proof.Proof.Gen.ReferenceDrmspIdeal.Run
public import proofs.«01_k».proof.Proof.Gen.ReferenceDrmspIdeal.Read
public import proofs.«01_k».proof.Proof.Gen.KernelAgain
public import proofs.«01_k».proof.Proof.Gen.KernelAgain.Frame
public import proofs.«01_k».proof.Proof.Gen.KernelAgainIdeal
public import proofs.«01_k».proof.Proof.Gen.KernelAgainIdeal.Frame
public import proofs.«01_k».proof.Proof.Gen.KernelAgainIdeal.Value
public import proofs.«01_k».proof.Proof.Gen.ReferenceAgainIdeal
public import proofs.«01_k».proof.Proof.Gen.ReferenceAgainIdeal.Run
public import proofs.«01_k».proof.Proof.Gen.ReferenceAgainIdeal.Read
public import proofs.«01_k».proof.Proof.Gen.KernelAfinal
public import proofs.«01_k».proof.Proof.Gen.KernelAfinal.Frame
public import proofs.«01_k».proof.Proof.Gen.KernelAfinalIdeal
public import proofs.«01_k».proof.Proof.Gen.KernelAfinalIdeal.Frame
public import proofs.«01_k».proof.Proof.Gen.KernelAfinalIdeal.Value
public import proofs.«01_k».proof.Proof.Gen.ReferenceAfinalIdeal
public import proofs.«01_k».proof.Proof.Gen.ReferenceAfinalIdeal.Run
public import proofs.«01_k».proof.Proof.Gen.ReferenceAfinalIdeal.Read
public import proofs.«01_k».proof.Proof.Gen.KernelAconv
public import proofs.«01_k».proof.Proof.Gen.KernelAconv.Frame
public import proofs.«01_k».proof.Proof.Gen.KernelAconvIdeal
public import proofs.«01_k».proof.Proof.Gen.KernelAconvIdeal.Frame
public import proofs.«01_k».proof.Proof.Gen.KernelAconvIdeal.Value
public import proofs.«01_k».proof.Proof.Gen.ReferenceAconvIdeal
public import proofs.«01_k».proof.Proof.Gen.ReferenceAconvIdeal.Run
public import proofs.«01_k».proof.Proof.Gen.ReferenceAconvIdeal.Read
public import proofs.«01_k».proof.Proof.Gen.KernelAbf
public import proofs.«01_k».proof.Proof.Gen.KernelAbf.Frame
public import proofs.«01_k».proof.Proof.Gen.KernelAbfIdeal
public import proofs.«01_k».proof.Proof.Gen.KernelAbfIdeal.Frame
public import proofs.«01_k».proof.Proof.Gen.KernelAbfIdeal.Value
public import proofs.«01_k».proof.Proof.Gen.ReferenceAbfIdeal
public import proofs.«01_k».proof.Proof.Gen.ReferenceAbfIdeal.Run
public import proofs.«01_k».proof.Proof.Gen.ReferenceAbfIdeal.Read
public import proofs.«01_k».proof.Proof.Gen.KernelAtaps
public import proofs.«01_k».proof.Proof.Gen.KernelAtaps.Frame
public import proofs.«01_k».proof.Proof.Gen.KernelAtapsIdeal
public import proofs.«01_k».proof.Proof.Gen.KernelAtapsIdeal.Frame
public import proofs.«01_k».proof.Proof.Gen.KernelAtapsIdeal.Value
public import proofs.«01_k».proof.Proof.Gen.ReferenceAtapsIdeal
public import proofs.«01_k».proof.Proof.Gen.ReferenceAtapsIdeal.Run
public import proofs.«01_k».proof.Proof.Gen.ReferenceAtapsIdeal.Read
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.KAct
public import proofs.«01_k».proof.Proof.KDact
public import proofs.«01_k».proof.Proof.KMerge
public import proofs.«01_k».proof.Proof.KDmerge
public import proofs.«01_k».proof.Proof.KMix
public import proofs.«01_k».proof.Proof.KDmix
public import proofs.«01_k».proof.Proof.KRms
public import proofs.«01_k».proof.Proof.KDrms
public import proofs.«01_k».proof.Proof.KDrmsm
public import proofs.«01_k».proof.Proof.KDrmsp
public import proofs.«01_k».proof.Proof.KAgain
public import proofs.«01_k».proof.Proof.KAfinal
public import proofs.«01_k».proof.Proof.KAconv
public import proofs.«01_k».proof.Proof.KAbf
public import proofs.«01_k».proof.Proof.KAtaps
public import proofs.«01_k».proof.Proof.KLoss
public import Idealize.ShloMosaic.Adequacy
public import Idealize.ShloMosaic.Init

@[expose] public section

noncomputable section

-- The claims that a program leaves its arguments alone also say that every semaphore counter ends at zero.

namespace Cert.Proof

open Idealize.ShloMosaic Idealize.SL.Sem Cert.KernelF

/-- The references are host operations only: they leave their arguments alone and declare no semaphore. -/
theorem frameRF : Cert.quiescent_ReferenceFIdeal := fun m ρ _ =>
  (θ_run Cert.ReferenceFIdeal.defs _ _).mono (fun r h => ⟨fun c => (h c).2.2.2,
      Idealize.ShloMosaic.sem_eq_zero_of_no_sems (by decide) r.2⟩) (Cert.ReferenceFIdeal.Value.run (F := Ideal) m ρ)
theorem frameRQ : Cert.quiescent_ReferenceQIdeal := fun m ρ _ =>
  (θ_run Cert.ReferenceQIdeal.defs _ _).mono (fun r h => ⟨fun c => (h c).2.2.2,
      Idealize.ShloMosaic.sem_eq_zero_of_no_sems (by decide) r.2⟩) (Cert.ReferenceQIdeal.Value.run (F := Ideal) m ρ)
theorem frameRKV : Cert.quiescent_ReferenceKVIdeal := fun m ρ _ =>
  (θ_run Cert.ReferenceKVIdeal.defs _ _).mono (fun r h => ⟨fun c => (h c).2.2.2,
      Idealize.ShloMosaic.sem_eq_zero_of_no_sems (by decide) r.2⟩) (Cert.ReferenceKVIdeal.Value.run (F := Ideal) m ρ)
theorem frameRWin : Cert.quiescent_ReferenceWinIdeal := fun m ρ _ =>
  (θ_run Cert.ReferenceWinIdeal.defs _ _).mono (fun r h => ⟨fun c => (h c).2,
      Idealize.ShloMosaic.sem_eq_zero_of_no_sems (by decide) r.2⟩) (Cert.ReferenceWinIdeal.Value.run (F := Ideal) m ρ)
theorem frameRWout : Cert.quiescent_ReferenceWoutIdeal := fun m ρ _ =>
  (θ_run Cert.ReferenceWoutIdeal.defs _ _).mono (fun r h => ⟨fun c => (h c).2,
      Idealize.ShloMosaic.sem_eq_zero_of_no_sems (by decide) r.2⟩) (Cert.ReferenceWoutIdeal.Value.run (F := Ideal) m ρ)
theorem frameRDout : Cert.quiescent_ReferenceDoutIdeal := fun m ρ _ =>
  (θ_run Cert.ReferenceDoutIdeal.defs _ _).mono (fun r h => ⟨fun c => (h c).2,
      Idealize.ShloMosaic.sem_eq_zero_of_no_sems (by decide) r.2⟩) (Cert.ReferenceDoutIdeal.Value.run (F := Ideal) m ρ)
theorem frameRDin : Cert.quiescent_ReferenceDinIdeal := fun m ρ _ =>
  (θ_run Cert.ReferenceDinIdeal.defs _ _).mono (fun r h => ⟨fun c => (h c).2,
      Idealize.ShloMosaic.sem_eq_zero_of_no_sems (by decide) r.2⟩) (Cert.ReferenceDinIdeal.Value.run (F := Ideal) m ρ)
theorem frameRWmain : Cert.quiescent_ReferenceWmainIdeal := fun m ρ _ =>
  (θ_run Cert.ReferenceWmainIdeal.defs _ _).mono (fun r h => ⟨fun c => (h c).2,
      Idealize.ShloMosaic.sem_eq_zero_of_no_sems (by decide) r.2⟩) (Cert.ReferenceWmainIdeal.Value.run (F := Ideal) m ρ)
theorem frameRWf : Cert.quiescent_ReferenceWfIdeal := fun m ρ _ =>
  (θ_run Cert.ReferenceWfIdeal.defs _ _).mono (fun r h => ⟨fun c => (h c).2,
      Idealize.ShloMosaic.sem_eq_zero_of_no_sems (by decide) r.2⟩) (Cert.ReferenceWfIdeal.Value.run (F := Ideal) m ρ)
theorem frameRWsq : Cert.quiescent_ReferenceWsqIdeal := fun m ρ _ =>
  (θ_run Cert.ReferenceWsqIdeal.defs _ _).mono (fun r h => ⟨fun c => (h c).2,
      Idealize.ShloMosaic.sem_eq_zero_of_no_sems (by decide) r.2⟩) (Cert.ReferenceWsqIdeal.Value.run (F := Ideal) m ρ)
theorem frameRWatt : Cert.quiescent_ReferenceWattIdeal := fun m ρ _ =>
  (θ_run Cert.ReferenceWattIdeal.defs _ _).mono (fun r h => ⟨fun c => (h c).2,
      Idealize.ShloMosaic.sem_eq_zero_of_no_sems (by decide) r.2⟩) (Cert.ReferenceWattIdeal.Value.run (F := Ideal) m ρ)
theorem frameRWple : Cert.quiescent_ReferenceWpleIdeal := fun m ρ _ =>
  (θ_run Cert.ReferenceWpleIdeal.defs _ _).mono (fun r h => ⟨fun c => (h c).2,
      Idealize.ShloMosaic.sem_eq_zero_of_no_sems (by decide) r.2⟩) (Cert.ReferenceWpleIdeal.Value.run (F := Ideal) m ρ)
theorem frameRDmain : Cert.quiescent_ReferenceDmainIdeal := fun m ρ _ =>
  (θ_run Cert.ReferenceDmainIdeal.defs _ _).mono (fun r h => ⟨fun c => (h c).2,
      Idealize.ShloMosaic.sem_eq_zero_of_no_sems (by decide) r.2⟩) (Cert.ReferenceDmainIdeal.Value.run (F := Ideal) m ρ)
theorem frameRDf : Cert.quiescent_ReferenceDfIdeal := fun m ρ _ =>
  (θ_run Cert.ReferenceDfIdeal.defs _ _).mono (fun r h => ⟨fun c => (h c).2,
      Idealize.ShloMosaic.sem_eq_zero_of_no_sems (by decide) r.2⟩) (Cert.ReferenceDfIdeal.Value.run (F := Ideal) m ρ)
theorem frameRDsq : Cert.quiescent_ReferenceDsqIdeal := fun m ρ _ =>
  (θ_run Cert.ReferenceDsqIdeal.defs _ _).mono (fun r h => ⟨fun c => (h c).2,
      Idealize.ShloMosaic.sem_eq_zero_of_no_sems (by decide) r.2⟩) (Cert.ReferenceDsqIdeal.Value.run (F := Ideal) m ρ)
theorem frameRDatt : Cert.quiescent_ReferenceDattIdeal := fun m ρ _ =>
  (θ_run Cert.ReferenceDattIdeal.defs _ _).mono (fun r h => ⟨fun c => (h c).2,
      Idealize.ShloMosaic.sem_eq_zero_of_no_sems (by decide) r.2⟩) (Cert.ReferenceDattIdeal.Value.run (F := Ideal) m ρ)
theorem frameRZin : Cert.quiescent_ReferenceZinIdeal := fun m ρ _ =>
  (θ_run Cert.ReferenceZinIdeal.defs _ _).mono (fun r h => ⟨fun c => (h c).2,
      Idealize.ShloMosaic.sem_eq_zero_of_no_sems (by decide) r.2⟩) (Cert.ReferenceZinIdeal.Value.run (F := Ideal) m ρ)
theorem frameRZout : Cert.quiescent_ReferenceZoutIdeal := fun m ρ _ =>
  (θ_run Cert.ReferenceZoutIdeal.defs _ _).mono (fun r h => ⟨fun c => (h c).2,
      Idealize.ShloMosaic.sem_eq_zero_of_no_sems (by decide) r.2⟩) (Cert.ReferenceZoutIdeal.Value.run (F := Ideal) m ρ)
theorem frameRZmain : Cert.quiescent_ReferenceZmainIdeal := fun m ρ _ =>
  (θ_run Cert.ReferenceZmainIdeal.defs _ _).mono (fun r h => ⟨fun c => (h c).2,
      Idealize.ShloMosaic.sem_eq_zero_of_no_sems (by decide) r.2⟩) (Cert.ReferenceZmainIdeal.Value.run (F := Ideal) m ρ)
theorem frameRZf : Cert.quiescent_ReferenceZfIdeal := fun m ρ _ =>
  (θ_run Cert.ReferenceZfIdeal.defs _ _).mono (fun r h => ⟨fun c => (h c).2,
      Idealize.ShloMosaic.sem_eq_zero_of_no_sems (by decide) r.2⟩) (Cert.ReferenceZfIdeal.Value.run (F := Ideal) m ρ)
theorem frameRZatt : Cert.quiescent_ReferenceZattIdeal := fun m ρ _ =>
  (θ_run Cert.ReferenceZattIdeal.defs _ _).mono (fun r h => ⟨fun c => (h c).2,
      Idealize.ShloMosaic.sem_eq_zero_of_no_sems (by decide) r.2⟩) (Cert.ReferenceZattIdeal.Value.run (F := Ideal) m ρ)
theorem frameRZmix : Cert.quiescent_ReferenceZmixIdeal := fun m ρ _ =>
  (θ_run Cert.ReferenceZmixIdeal.defs _ _).mono (fun r h => ⟨fun c => (h c).2,
      Idealize.ShloMosaic.sem_eq_zero_of_no_sems (by decide) r.2⟩) (Cert.ReferenceZmixIdeal.Value.run (F := Ideal) m ρ)
theorem frameRZsq : Cert.quiescent_ReferenceZsqIdeal := fun m ρ _ =>
  (θ_run Cert.ReferenceZsqIdeal.defs _ _).mono (fun r h => ⟨fun c => (h c).2,
      Idealize.ShloMosaic.sem_eq_zero_of_no_sems (by decide) r.2⟩) (Cert.ReferenceZsqIdeal.Value.run (F := Ideal) m ρ)
theorem frameRZple : Cert.quiescent_ReferenceZpleIdeal := fun m ρ _ =>
  (θ_run Cert.ReferenceZpleIdeal.defs _ _).mono (fun r h => ⟨fun c => (h c).2,
      Idealize.ShloMosaic.sem_eq_zero_of_no_sems (by decide) r.2⟩) (Cert.ReferenceZpleIdeal.Value.run (F := Ideal) m ρ)
theorem frameRAct : Cert.quiescent_ReferenceActIdeal := fun m ρ _ =>
  (θ_run Cert.ReferenceActIdeal.defs _ _).mono (fun r h => ⟨fun c => (h c).2,
      Idealize.ShloMosaic.sem_eq_zero_of_no_sems (by decide) r.2⟩) (Cert.ReferenceActIdeal.Value.run (F := Ideal) m ρ)
theorem frameRDact : Cert.quiescent_ReferenceDactIdeal := fun m ρ _ =>
  (θ_run Cert.ReferenceDactIdeal.defs _ _).mono (fun r h => ⟨fun c => (h c).2,
      Idealize.ShloMosaic.sem_eq_zero_of_no_sems (by decide) r.2⟩) (Cert.ReferenceDactIdeal.Value.run (F := Ideal) m ρ)
theorem frameRMerge : Cert.quiescent_ReferenceMergeIdeal := fun m ρ _ =>
  (θ_run Cert.ReferenceMergeIdeal.defs _ _).mono (fun r h => ⟨fun c => (h c).2,
      Idealize.ShloMosaic.sem_eq_zero_of_no_sems (by decide) r.2⟩) (Cert.ReferenceMergeIdeal.Value.run (F := Ideal) m ρ)
theorem frameRDmerge : Cert.quiescent_ReferenceDmergeIdeal := fun m ρ _ =>
  (θ_run Cert.ReferenceDmergeIdeal.defs _ _).mono (fun r h => ⟨fun c => (h c).2.2.2.2,
      Idealize.ShloMosaic.sem_eq_zero_of_no_sems (by decide) r.2⟩) (Cert.ReferenceDmergeIdeal.Value.run (F := Ideal) m ρ)
theorem frameRMix : Cert.quiescent_ReferenceMixIdeal := fun m ρ _ =>
  (θ_run Cert.ReferenceMixIdeal.defs _ _).mono (fun r h => ⟨fun c => (h c).2,
      Idealize.ShloMosaic.sem_eq_zero_of_no_sems (by decide) r.2⟩) (Cert.ReferenceMixIdeal.Value.run (F := Ideal) m ρ)
theorem frameRDmix : Cert.quiescent_ReferenceDmixIdeal := fun m ρ _ =>
  (θ_run Cert.ReferenceDmixIdeal.defs _ _).mono (fun r h => ⟨fun c => (h c).2.2,
      Idealize.ShloMosaic.sem_eq_zero_of_no_sems (by decide) r.2⟩) (Cert.ReferenceDmixIdeal.Value.run (F := Ideal) m ρ)
theorem frameRRms : Cert.quiescent_ReferenceRmsIdeal := fun m ρ _ =>
  (θ_run Cert.ReferenceRmsIdeal.defs _ _).mono (fun r h => ⟨fun c => (h c).2,
      Idealize.ShloMosaic.sem_eq_zero_of_no_sems (by decide) r.2⟩) (Cert.ReferenceRmsIdeal.Value.run (F := Ideal) m ρ)
theorem frameRDrms : Cert.quiescent_ReferenceDrmsIdeal := fun m ρ _ =>
  (θ_run Cert.ReferenceDrmsIdeal.defs _ _).mono (fun r h => ⟨fun c => (h c).2.2.2,
      Idealize.ShloMosaic.sem_eq_zero_of_no_sems (by decide) r.2⟩) (Cert.ReferenceDrmsIdeal.Value.run (F := Ideal) m ρ)
theorem frameRDrmsm : Cert.quiescent_ReferenceDrmsmIdeal := fun m ρ _ =>
  (θ_run Cert.ReferenceDrmsmIdeal.defs _ _).mono (fun r h => ⟨fun c => (h c).2.2.2,
      Idealize.ShloMosaic.sem_eq_zero_of_no_sems (by decide) r.2⟩) (Cert.ReferenceDrmsmIdeal.Value.run (F := Ideal) m ρ)
theorem frameRDrmsp : Cert.quiescent_ReferenceDrmspIdeal := fun m ρ _ =>
  (θ_run Cert.ReferenceDrmspIdeal.defs _ _).mono (fun r h => ⟨fun c => (h c).2.2.2,
      Idealize.ShloMosaic.sem_eq_zero_of_no_sems (by decide) r.2⟩) (Cert.ReferenceDrmspIdeal.Value.run (F := Ideal) m ρ)
theorem frameRAgain : Cert.quiescent_ReferenceAgainIdeal := fun m ρ _ =>
  (θ_run Cert.ReferenceAgainIdeal.defs _ _).mono (fun r h => ⟨fun c => (h c).2.2.2,
      Idealize.ShloMosaic.sem_eq_zero_of_no_sems (by decide) r.2⟩) (Cert.ReferenceAgainIdeal.Value.run (F := Ideal) m ρ)
theorem frameRAfinal : Cert.quiescent_ReferenceAfinalIdeal := fun m ρ _ =>
  (θ_run Cert.ReferenceAfinalIdeal.defs _ _).mono (fun r h => ⟨fun c => (h c).2.2.2,
      Idealize.ShloMosaic.sem_eq_zero_of_no_sems (by decide) r.2⟩) (Cert.ReferenceAfinalIdeal.Value.run (F := Ideal) m ρ)
theorem frameRAconv : Cert.quiescent_ReferenceAconvIdeal := fun m ρ _ =>
  (θ_run Cert.ReferenceAconvIdeal.defs _ _).mono (fun r h => ⟨fun c => (h c).2.2.2,
      Idealize.ShloMosaic.sem_eq_zero_of_no_sems (by decide) r.2⟩) (Cert.ReferenceAconvIdeal.Value.run (F := Ideal) m ρ)
theorem frameRAbf : Cert.quiescent_ReferenceAbfIdeal := fun m ρ _ =>
  (θ_run Cert.ReferenceAbfIdeal.defs _ _).mono (fun r h => ⟨fun c => (h c).2.2.2,
      Idealize.ShloMosaic.sem_eq_zero_of_no_sems (by decide) r.2⟩) (Cert.ReferenceAbfIdeal.Value.run (F := Ideal) m ρ)
theorem frameRAtaps : Cert.quiescent_ReferenceAtapsIdeal := fun m ρ _ =>
  (θ_run Cert.ReferenceAtapsIdeal.defs _ _).mono (fun r h => ⟨fun c => (h c).2.2.2,
      Idealize.ShloMosaic.sem_eq_zero_of_no_sems (by decide) r.2⟩) (Cert.ReferenceAtapsIdeal.Value.run (F := Ideal) m ρ)
theorem frameRLoss : Cert.quiescent_ReferenceLossIdeal := fun m ρ _ =>
  (θ_run Cert.ReferenceLossIdeal.defs _ _).mono (fun r h => ⟨fun c => (h c).2.2.2,
      Idealize.ShloMosaic.sem_eq_zero_of_no_sems (by decide) r.2⟩) (Cert.ReferenceLossIdeal.Value.run (F := Ideal) m ρ)

theorem claim : Cert.Claim := ⟨Cert.KernelF.Gen.facts, Cert.KernelFIdeal.Gen.facts, Cert.ReferenceFIdeal.Gen.facts, Cert.KernelQ.Gen.facts, Cert.KernelQIdeal.Gen.facts, Cert.ReferenceQIdeal.Gen.facts, Cert.KernelKV.Gen.facts, Cert.KernelKVIdeal.Gen.facts, Cert.ReferenceKVIdeal.Gen.facts,
  Cert.KernelWin.Gen.facts, Cert.KernelWinIdeal.Gen.facts, Cert.ReferenceWinIdeal.Gen.facts,
  Cert.KernelWout.Gen.facts, Cert.KernelWoutIdeal.Gen.facts, Cert.ReferenceWoutIdeal.Gen.facts,
  Cert.KernelDout.Gen.facts, Cert.KernelDoutIdeal.Gen.facts, Cert.ReferenceDoutIdeal.Gen.facts,
  Cert.KernelDin.Gen.facts, Cert.KernelDinIdeal.Gen.facts, Cert.ReferenceDinIdeal.Gen.facts,
  Cert.KernelWmain.Gen.facts, Cert.KernelWmainIdeal.Gen.facts, Cert.ReferenceWmainIdeal.Gen.facts,
  Cert.KernelWf.Gen.facts, Cert.KernelWfIdeal.Gen.facts, Cert.ReferenceWfIdeal.Gen.facts,
  Cert.KernelWsq.Gen.facts, Cert.KernelWsqIdeal.Gen.facts, Cert.ReferenceWsqIdeal.Gen.facts,
  Cert.KernelWatt.Gen.facts, Cert.KernelWattIdeal.Gen.facts, Cert.ReferenceWattIdeal.Gen.facts,
  Cert.KernelWple.Gen.facts, Cert.KernelWpleIdeal.Gen.facts, Cert.ReferenceWpleIdeal.Gen.facts,
  Cert.KernelDmain.Gen.facts, Cert.KernelDmainIdeal.Gen.facts, Cert.ReferenceDmainIdeal.Gen.facts,
  Cert.KernelDf.Gen.facts, Cert.KernelDfIdeal.Gen.facts, Cert.ReferenceDfIdeal.Gen.facts,
  Cert.KernelDsq.Gen.facts, Cert.KernelDsqIdeal.Gen.facts, Cert.ReferenceDsqIdeal.Gen.facts,
  Cert.KernelDatt.Gen.facts, Cert.KernelDattIdeal.Gen.facts, Cert.ReferenceDattIdeal.Gen.facts,
  Cert.KernelZin.Gen.facts, Cert.KernelZinIdeal.Gen.facts, Cert.ReferenceZinIdeal.Gen.facts,
  Cert.KernelZout.Gen.facts, Cert.KernelZoutIdeal.Gen.facts, Cert.ReferenceZoutIdeal.Gen.facts,
  Cert.KernelZmain.Gen.facts, Cert.KernelZmainIdeal.Gen.facts, Cert.ReferenceZmainIdeal.Gen.facts,
  Cert.KernelZf.Gen.facts, Cert.KernelZfIdeal.Gen.facts, Cert.ReferenceZfIdeal.Gen.facts,
  Cert.KernelZatt.Gen.facts, Cert.KernelZattIdeal.Gen.facts, Cert.ReferenceZattIdeal.Gen.facts,
  Cert.KernelZmix.Gen.facts, Cert.KernelZmixIdeal.Gen.facts, Cert.ReferenceZmixIdeal.Gen.facts,
  Cert.KernelZsq.Gen.facts, Cert.KernelZsqIdeal.Gen.facts, Cert.ReferenceZsqIdeal.Gen.facts,
  Cert.KernelZple.Gen.facts, Cert.KernelZpleIdeal.Gen.facts, Cert.ReferenceZpleIdeal.Gen.facts,
  Cert.KernelAct.Gen.facts, Cert.KernelActIdeal.Gen.facts, Cert.ReferenceActIdeal.Gen.facts,
  Cert.KernelDact.Gen.facts, Cert.KernelDactIdeal.Gen.facts, Cert.ReferenceDactIdeal.Gen.facts,
  Cert.KernelMerge.Gen.facts, Cert.KernelMergeIdeal.Gen.facts, Cert.ReferenceMergeIdeal.Gen.facts,
  Cert.KernelDmerge.Gen.facts, Cert.KernelDmergeIdeal.Gen.facts, Cert.ReferenceDmergeIdeal.Gen.facts,
  Cert.KernelMix.Gen.facts, Cert.KernelMixIdeal.Gen.facts, Cert.ReferenceMixIdeal.Gen.facts,
  Cert.KernelDmix.Gen.facts, Cert.KernelDmixIdeal.Gen.facts, Cert.ReferenceDmixIdeal.Gen.facts,
  Cert.KernelRms.Gen.facts, Cert.KernelRmsIdeal.Gen.facts, Cert.ReferenceRmsIdeal.Gen.facts,
  Cert.KernelDrms.Gen.facts, Cert.KernelDrmsIdeal.Gen.facts, Cert.ReferenceDrmsIdeal.Gen.facts,
  Cert.KernelDrmsm.Gen.facts, Cert.KernelDrmsmIdeal.Gen.facts, Cert.ReferenceDrmsmIdeal.Gen.facts,
  Cert.KernelDrmsp.Gen.facts, Cert.KernelDrmspIdeal.Gen.facts, Cert.ReferenceDrmspIdeal.Gen.facts,
  Cert.KernelAgain.Gen.facts, Cert.KernelAgainIdeal.Gen.facts, Cert.ReferenceAgainIdeal.Gen.facts,
  Cert.KernelAfinal.Gen.facts, Cert.KernelAfinalIdeal.Gen.facts, Cert.ReferenceAfinalIdeal.Gen.facts,
  Cert.KernelAconv.Gen.facts, Cert.KernelAconvIdeal.Gen.facts, Cert.ReferenceAconvIdeal.Gen.facts,
  Cert.KernelAbf.Gen.facts, Cert.KernelAbfIdeal.Gen.facts, Cert.ReferenceAbfIdeal.Gen.facts,
  Cert.KernelAtaps.Gen.facts, Cert.KernelAtapsIdeal.Gen.facts, Cert.ReferenceAtapsIdeal.Gen.facts,
  Cert.KernelLoss.Gen.facts, Cert.KernelLossIdeal.Gen.facts, Cert.ReferenceLossIdeal.Gen.facts,
  Cert.Pre_finite_fwd.Gen.facts, Cert.Pre_finite.Gen.facts, Cert.Pre_finite_act.Gen.facts,
  fun m ρ _ => Cert.KernelF.Gen.frame m ρ, fun m ρ _ => Cert.KernelFIdeal.Gen.frame m ρ, fun m ρ _ => Cert.KernelFIdeal.Gen.frame m ρ,
  frameRF, fun m ρ _ => frameRF m ρ trivial,
  fun m ρ _ => Cert.KernelQ.Gen.frame m ρ, fun m ρ _ => Cert.KernelQIdeal.Gen.frame m ρ, fun m ρ _ => Cert.KernelQIdeal.Gen.frame m ρ,
  frameRQ, fun m ρ _ => frameRQ m ρ trivial,
  fun m ρ _ => Cert.KernelKV.Gen.frame m ρ, fun m ρ _ => Cert.KernelKVIdeal.Gen.frame m ρ, fun m ρ _ => Cert.KernelKVIdeal.Gen.frame m ρ,
  frameRKV, fun m ρ _ => frameRKV m ρ trivial,
  fun m ρ _ => Cert.KernelWin.Gen.frame m ρ, fun m ρ _ => Cert.KernelWinIdeal.Gen.frame m ρ, frameRWin,
  fun m ρ _ => Cert.KernelWout.Gen.frame m ρ, fun m ρ _ => Cert.KernelWoutIdeal.Gen.frame m ρ, frameRWout,
  fun m ρ _ => Cert.KernelDout.Gen.frame m ρ, fun m ρ _ => Cert.KernelDoutIdeal.Gen.frame m ρ, frameRDout,
  fun m ρ _ => Cert.KernelDin.Gen.frame m ρ, fun m ρ _ => Cert.KernelDinIdeal.Gen.frame m ρ, frameRDin,
  fun m ρ _ => Cert.KernelWmain.Gen.frame m ρ, fun m ρ _ => Cert.KernelWmainIdeal.Gen.frame m ρ, frameRWmain,
  fun m ρ _ => Cert.KernelWf.Gen.frame m ρ, fun m ρ _ => Cert.KernelWfIdeal.Gen.frame m ρ, frameRWf,
  fun m ρ _ => Cert.KernelWsq.Gen.frame m ρ, fun m ρ _ => Cert.KernelWsqIdeal.Gen.frame m ρ, frameRWsq,
  fun m ρ _ => Cert.KernelWatt.Gen.frame m ρ, fun m ρ _ => Cert.KernelWattIdeal.Gen.frame m ρ, frameRWatt,
  fun m ρ _ => Cert.KernelWple.Gen.frame m ρ, fun m ρ _ => Cert.KernelWpleIdeal.Gen.frame m ρ, frameRWple,
  fun m ρ _ => Cert.KernelDmain.Gen.frame m ρ, fun m ρ _ => Cert.KernelDmainIdeal.Gen.frame m ρ, frameRDmain,
  fun m ρ _ => Cert.KernelDf.Gen.frame m ρ, fun m ρ _ => Cert.KernelDfIdeal.Gen.frame m ρ, frameRDf,
  fun m ρ _ => Cert.KernelDsq.Gen.frame m ρ, fun m ρ _ => Cert.KernelDsqIdeal.Gen.frame m ρ, frameRDsq,
  fun m ρ _ => Cert.KernelDatt.Gen.frame m ρ, fun m ρ _ => Cert.KernelDattIdeal.Gen.frame m ρ, frameRDatt,
  fun m ρ _ => Cert.KernelZin.Gen.frame m ρ, fun m ρ _ => Cert.KernelZinIdeal.Gen.frame m ρ, frameRZin,
  fun m ρ _ => Cert.KernelZout.Gen.frame m ρ, fun m ρ _ => Cert.KernelZoutIdeal.Gen.frame m ρ, frameRZout,
  fun m ρ _ => Cert.KernelZmain.Gen.frame m ρ, fun m ρ _ => Cert.KernelZmainIdeal.Gen.frame m ρ, frameRZmain,
  fun m ρ _ => Cert.KernelZf.Gen.frame m ρ, fun m ρ _ => Cert.KernelZfIdeal.Gen.frame m ρ, frameRZf,
  fun m ρ _ => Cert.KernelZatt.Gen.frame m ρ, fun m ρ _ => Cert.KernelZattIdeal.Gen.frame m ρ, frameRZatt,
  fun m ρ _ => Cert.KernelZmix.Gen.frame m ρ, fun m ρ _ => Cert.KernelZmixIdeal.Gen.frame m ρ, frameRZmix,
  fun m ρ _ => Cert.KernelZsq.Gen.frame m ρ, fun m ρ _ => Cert.KernelZsqIdeal.Gen.frame m ρ, frameRZsq,
  fun m ρ _ => Cert.KernelZple.Gen.frame m ρ, fun m ρ _ => Cert.KernelZpleIdeal.Gen.frame m ρ, frameRZple,
  fun m ρ _ => Cert.KernelAct.Gen.frame m ρ, fun m ρ _ => Cert.KernelActIdeal.Gen.frame m ρ, frameRAct,
  fun m ρ _ => Cert.KernelDact.Gen.frame m ρ, fun m ρ _ => Cert.KernelDactIdeal.Gen.frame m ρ, fun m ρ _ => Cert.KernelDactIdeal.Gen.frame m ρ,
  frameRDact, fun m ρ _ => frameRDact m ρ trivial,
  fun m ρ _ => Cert.KernelMerge.Gen.frame m ρ, fun m ρ _ => Cert.KernelMergeIdeal.Gen.frame m ρ, frameRMerge,
  fun m ρ _ => Cert.KernelDmerge.Gen.frame m ρ, fun m ρ _ => Cert.KernelDmergeIdeal.Gen.frame m ρ, frameRDmerge,
  fun m ρ _ => Cert.KernelMix.Gen.frame m ρ, fun m ρ _ => Cert.KernelMixIdeal.Gen.frame m ρ, frameRMix,
  fun m ρ _ => Cert.KernelDmix.Gen.frame m ρ, fun m ρ _ => Cert.KernelDmixIdeal.Gen.frame m ρ, frameRDmix,
  fun m ρ _ => Cert.KernelRms.Gen.frame m ρ, fun m ρ _ => Cert.KernelRmsIdeal.Gen.frame m ρ, frameRRms,
  fun m ρ _ => Cert.KernelDrms.Gen.frame m ρ, fun m ρ _ => Cert.KernelDrmsIdeal.Gen.frame m ρ, frameRDrms,
  fun m ρ _ => Cert.KernelDrmsm.Gen.frame m ρ, fun m ρ _ => Cert.KernelDrmsmIdeal.Gen.frame m ρ, frameRDrmsm,
  fun m ρ _ => Cert.KernelDrmsp.Gen.frame m ρ, fun m ρ _ => Cert.KernelDrmspIdeal.Gen.frame m ρ, frameRDrmsp,
  fun m ρ _ => Cert.KernelAgain.Gen.frame m ρ, fun m ρ _ => Cert.KernelAgainIdeal.Gen.frame m ρ, frameRAgain,
  fun m ρ _ => Cert.KernelAfinal.Gen.frame m ρ, fun m ρ _ => Cert.KernelAfinalIdeal.Gen.frame m ρ, frameRAfinal,
  fun m ρ _ => Cert.KernelAconv.Gen.frame m ρ, fun m ρ _ => Cert.KernelAconvIdeal.Gen.frame m ρ, frameRAconv,
  fun m ρ _ => Cert.KernelAbf.Gen.frame m ρ, fun m ρ _ => Cert.KernelAbfIdeal.Gen.frame m ρ, frameRAbf,
  fun m ρ _ => Cert.KernelAtaps.Gen.frame m ρ, fun m ρ _ => Cert.KernelAtapsIdeal.Gen.frame m ρ, frameRAtaps,
  fun m ρ _ => Cert.KernelLoss.Gen.frame m ρ, fun m ρ _ => Cert.KernelLossIdeal.Gen.frame m ρ, frameRLoss,
  trivial, KF.algebraic, trivial, KQ.algebraic, trivial, KKV.algebraic,
  trivial, KWin.algebraic,
  trivial, KWout.algebraic,
  trivial, KDout.algebraic,
  trivial, KDin.algebraic,
  trivial, KWmain.algebraic,
  trivial, KWf.algebraic,
  trivial, KWsq.algebraic,
  trivial, KWatt.algebraic,
  trivial, KWple.algebraic,
  trivial, KDmain.algebraic,
  trivial, KDf.algebraic,
  trivial, KDsq.algebraic,
  trivial, KDatt.algebraic,
  trivial, KZin.algebraic,
  trivial, KZout.algebraic,
  trivial, KZmain.algebraic,
  trivial, KZf.algebraic,
  trivial, KZatt.algebraic,
  trivial, KZmix.algebraic,
  trivial, KZsq.algebraic,
  trivial, KZple.algebraic,
  trivial, KAct.algebraic,
  trivial, KDact.algebraic,
  trivial, KMerge.algebraic,
  trivial, KDmerge.algebraic,
  trivial, KMix.algebraic,
  trivial, KDmix.algebraic,
  trivial, KRms.algebraic,
  trivial, KDrms.algebraic,
  trivial, KDrmsm.algebraic,
  trivial, KDrmsp.algebraic,
  trivial, KAgain.algebraic,
  trivial, KAfinal.algebraic,
  trivial, KAconv.algebraic,
  trivial, KAbf.algebraic,
  trivial, KAtaps.algebraic,
  trivial, KLoss.algebraic⟩

end Cert.Proof

end
